-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_in [hPre_finite_in : Cert.Pre_finite_in.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite_in.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_in [hPre_finite_in : Cert.Pre_finite_in.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite_in.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_sample [hPre_finite_sample : Cert.Pre_finite_sample.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 = (fun _ => 1#1)
    ∧ (Cert.Pre_finite_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.1 = (fun _ => 1#1)
    ∧ (Cert.Pre_finite_sample.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_sample [hPre_finite_sample : Cert.Pre_finite_sample.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).1 = (fun _ => 1#1)
    ∧ (Cert.Pre_finite_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.1 = (fun _ => 1#1)
    ∧ (Cert.Pre_finite_sample.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_in [hKernel3Ideal : Cert.Kernel3Ideal.Facts] [hPre_finite_in : Cert.Pre_finite_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_in m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_in [hReference3Ideal : Cert.Reference3Ideal.Facts] [hPre_finite_in : Cert.Pre_finite_in.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_in m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Kernel6Ideal_pre_finite_sample [hKernel6Ideal : Cert.Kernel6Ideal.Facts] [hPre_finite_sample : Cert.Pre_finite_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_sample m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Reference6Ideal_pre_finite_sample [hReference6Ideal : Cert.Reference6Ideal.Facts] [hPre_finite_sample : Cert.Pre_finite_sample.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_sample m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def preserves_Kernel_KernelIdeal : Prop :=
  IdealRules.named_const.Statement Cert.KernelIdeal.κ "exp_zero" .f32 0x42D20000#32 ⊤

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v161) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal_pre_finite_in [hKernel3Ideal : Cert.Kernel3Ideal.Facts] [hReference3Ideal : Cert.Reference3Ideal.Facts] [hPre_finite_in : Cert.Pre_finite_in.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_in m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v31)) (v3 : (c : Dev Cert.Kernel3Ideal.nD) → Buf (Elt Ideal) ((c.tc : Thread Cert.Kernel3Ideal.nD Cert.Kernel3Ideal.τ).loc Cert.Kernel3Ideal.main_v32)) (v4 : (c : Dev Cert.Kernel3Ideal.nD) → Buf (Elt Ideal) ((c.tc : Thread Cert.Kernel3Ideal.nD Cert.Kernel3Ideal.τ).loc Cert.Kernel3Ideal.main_v26_4)) (v5 : (c : Dev Cert.Kernel3Ideal.nD) → Buf (Elt Ideal) ((c.tc : Thread Cert.Kernel3Ideal.nD Cert.Kernel3Ideal.τ).loc Cert.Kernel3Ideal.main_v26_5)) (v6 : (c : Dev Cert.Kernel3Ideal.nD) → Buf (Elt Ideal) ((c.tc : Thread Cert.Kernel3Ideal.nD Cert.Kernel3Ideal.τ).loc Cert.Kernel3Ideal.main_v26_6)) (v7 : (c : Dev Cert.Kernel3Ideal.nD) → Buf (Elt Ideal) ((c.tc : Thread Cert.Kernel3Ideal.nD Cert.Kernel3Ideal.τ).loc Cert.Kernel3Ideal.main_v26_7)) (v8 : (c : Dev Cert.Kernel3Ideal.nD) → Buf (Elt Ideal) ((c.tc : Thread Cert.Kernel3Ideal.nD Cert.Kernel3Ideal.τ).loc Cert.Kernel3Ideal.main_v26_8)) (v9 : (c : Dev Cert.Kernel3Ideal.nD) → Buf (Elt Ideal) ((c.tc : Thread Cert.Kernel3Ideal.nD Cert.Kernel3Ideal.τ).loc Cert.Kernel3Ideal.main_v33)) (v10 : (c : Dev Cert.Kernel3Ideal.nD) → Buf (Elt Ideal) ((c.tc : Thread Cert.Kernel3Ideal.nD Cert.Kernel3Ideal.τ).loc Cert.Kernel3Ideal.main_v28)) (v11 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v31) = v2 c
          ∧ r.2.mem ((c.tc : Thread Cert.Kernel3Ideal.nD Cert.Kernel3Ideal.τ).loc Cert.Kernel3Ideal.main_v32) = v3 c
          ∧ r.2.mem ((c.tc : Thread Cert.Kernel3Ideal.nD Cert.Kernel3Ideal.τ).loc Cert.Kernel3Ideal.main_v26_4) = v4 c
          ∧ r.2.mem ((c.tc : Thread Cert.Kernel3Ideal.nD Cert.Kernel3Ideal.τ).loc Cert.Kernel3Ideal.main_v26_5) = v5 c
          ∧ r.2.mem ((c.tc : Thread Cert.Kernel3Ideal.nD Cert.Kernel3Ideal.τ).loc Cert.Kernel3Ideal.main_v26_6) = v6 c
          ∧ r.2.mem ((c.tc : Thread Cert.Kernel3Ideal.nD Cert.Kernel3Ideal.τ).loc Cert.Kernel3Ideal.main_v26_7) = v7 c
          ∧ r.2.mem ((c.tc : Thread Cert.Kernel3Ideal.nD Cert.Kernel3Ideal.τ).loc Cert.Kernel3Ideal.main_v26_8) = v8 c
          ∧ r.2.mem ((c.tc : Thread Cert.Kernel3Ideal.nD Cert.Kernel3Ideal.τ).loc Cert.Kernel3Ideal.main_v33) = v9 c
          ∧ r.2.mem ((c.tc : Thread Cert.Kernel3Ideal.nD Cert.Kernel3Ideal.τ).loc Cert.Kernel3Ideal.main_v28) = v10 c
          ∧ r.2.mem ((c.tc : Thread Cert.Kernel3Ideal.nD Cert.Kernel3Ideal.τ).loc Cert.Kernel3Ideal.main_v30) = v11 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v54) = v3 c
          ∧ r.2.mem ((c.tc : Thread Cert.Reference3Ideal.nD Cert.Reference3Ideal.τ).loc Cert.Reference3Ideal.main_v154) = v4 c
          ∧ r.2.mem ((c.tc : Thread Cert.Reference3Ideal.nD Cert.Reference3Ideal.τ).loc Cert.Reference3Ideal.main_v156) = v5 c
          ∧ r.2.mem ((c.tc : Thread Cert.Reference3Ideal.nD Cert.Reference3Ideal.τ).loc Cert.Reference3Ideal.main_v158) = v6 c
          ∧ r.2.mem ((c.tc : Thread Cert.Reference3Ideal.nD Cert.Reference3Ideal.τ).loc Cert.Reference3Ideal.main_v159) = v7 c
          ∧ r.2.mem ((c.tc : Thread Cert.Reference3Ideal.nD Cert.Reference3Ideal.τ).loc Cert.Reference3Ideal.main_v151) = v8 c
          ∧ r.2.mem ((c.tc : Thread Cert.Reference3Ideal.nD Cert.Reference3Ideal.τ).loc Cert.Reference3Ideal.main_v152) = v9 c
          ∧ r.2.mem ((c.tc : Thread Cert.Reference3Ideal.nD Cert.Reference3Ideal.τ).loc Cert.Reference3Ideal.main_v77) = v10 c
          ∧ r.2.mem ((c.tc : Thread Cert.Reference3Ideal.nD Cert.Reference3Ideal.τ).loc Cert.Reference3Ideal.main_v107) = v11 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v27)) (v1 : (c : Dev Cert.Kernel4Ideal.nD) → Buf (Elt Ideal) ((c.tc : Thread Cert.Kernel4Ideal.nD Cert.Kernel4Ideal.τ).loc Cert.Kernel4Ideal.main_v29)) (v2 : (c : Dev Cert.Kernel4Ideal.nD) → Buf (Elt Ideal) ((c.tc : Thread Cert.Kernel4Ideal.nD Cert.Kernel4Ideal.τ).loc Cert.Kernel4Ideal.main_v23)) (v3 : (c : Dev Cert.Kernel4Ideal.nD) → Buf (Elt Ideal) ((c.tc : Thread Cert.Kernel4Ideal.nD Cert.Kernel4Ideal.τ).loc Cert.Kernel4Ideal.main_v31)) (v4 : (c : Dev Cert.Kernel4Ideal.nD) → Buf (Elt Ideal) ((c.tc : Thread Cert.Kernel4Ideal.nD Cert.Kernel4Ideal.τ).loc Cert.Kernel4Ideal.main_v34)) (v5 : (c : Dev Cert.Kernel4Ideal.nD) → Buf (Elt Ideal) ((c.tc : Thread Cert.Kernel4Ideal.nD Cert.Kernel4Ideal.τ).loc Cert.Kernel4Ideal.main_v37)) (v6 : (c : Dev Cert.Kernel4Ideal.nD) → Buf (Elt Ideal) ((c.tc : Thread Cert.Kernel4Ideal.nD Cert.Kernel4Ideal.τ).loc Cert.Kernel4Ideal.main_v40)) (v7 : (c : Dev Cert.Kernel4Ideal.nD) → Buf (Elt Ideal) ((c.tc : Thread Cert.Kernel4Ideal.nD Cert.Kernel4Ideal.τ).loc Cert.Kernel4Ideal.main_v43)) (v8 : (c : Dev Cert.Kernel4Ideal.nD) → Buf (Elt Ideal) ((c.tc : Thread Cert.Kernel4Ideal.nD Cert.Kernel4Ideal.τ).loc Cert.Kernel4Ideal.main_v25)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27) = v0 c
          ∧ r.2.mem ((c.tc : Thread Cert.Kernel4Ideal.nD Cert.Kernel4Ideal.τ).loc Cert.Kernel4Ideal.main_v29) = v1 c
          ∧ r.2.mem ((c.tc : Thread Cert.Kernel4Ideal.nD Cert.Kernel4Ideal.τ).loc Cert.Kernel4Ideal.main_v23) = v2 c
          ∧ r.2.mem ((c.tc : Thread Cert.Kernel4Ideal.nD Cert.Kernel4Ideal.τ).loc Cert.Kernel4Ideal.main_v31) = v3 c
          ∧ r.2.mem ((c.tc : Thread Cert.Kernel4Ideal.nD Cert.Kernel4Ideal.τ).loc Cert.Kernel4Ideal.main_v34) = v4 c
          ∧ r.2.mem ((c.tc : Thread Cert.Kernel4Ideal.nD Cert.Kernel4Ideal.τ).loc Cert.Kernel4Ideal.main_v37) = v5 c
          ∧ r.2.mem ((c.tc : Thread Cert.Kernel4Ideal.nD Cert.Kernel4Ideal.τ).loc Cert.Kernel4Ideal.main_v40) = v6 c
          ∧ r.2.mem ((c.tc : Thread Cert.Kernel4Ideal.nD Cert.Kernel4Ideal.τ).loc Cert.Kernel4Ideal.main_v43) = v7 c
          ∧ r.2.mem ((c.tc : Thread Cert.Kernel4Ideal.nD Cert.Kernel4Ideal.τ).loc Cert.Kernel4Ideal.main_v25) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_v36) = v3 c
          ∧ r.2.mem ((c.tc : Thread Cert.Reference4Ideal.nD Cert.Reference4Ideal.τ).loc Cert.Reference4Ideal.main_v37) = v4 c
          ∧ r.2.mem ((c.tc : Thread Cert.Reference4Ideal.nD Cert.Reference4Ideal.τ).loc Cert.Reference4Ideal.main_v39) = v5 c
          ∧ r.2.mem ((c.tc : Thread Cert.Reference4Ideal.nD Cert.Reference4Ideal.τ).loc Cert.Reference4Ideal.main_v41) = v6 c
          ∧ r.2.mem ((c.tc : Thread Cert.Reference4Ideal.nD Cert.Reference4Ideal.τ).loc Cert.Reference4Ideal.main_v43) = v7 c
          ∧ r.2.mem ((c.tc : Thread Cert.Reference4Ideal.nD Cert.Reference4Ideal.τ).loc Cert.Reference4Ideal.main_v45) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)) →
    ∃ (v0 : (c : Dev Cert.Kernel5Ideal.nD) → Buf (Elt Ideal) ((c.tc : Thread Cert.Kernel5Ideal.nD Cert.Kernel5Ideal.τ).loc Cert.Kernel5Ideal.main_v38)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v157) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14))

def preserves_Kernel6_Kernel6Ideal : Prop :=
  True

def algebraic_Kernel6Ideal_Reference6Ideal_pre_finite_sample [hKernel6Ideal : Cert.Kernel6Ideal.Facts] [hReference6Ideal : Cert.Reference6Ideal.Facts] [hPre_finite_sample : Cert.Pre_finite_sample.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_sample m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v35)) (v1 : (c : Dev Cert.Kernel6Ideal.nD) → Buf (Elt Ideal) ((c.tc : Thread Cert.Kernel6Ideal.nD Cert.Kernel6Ideal.τ).loc Cert.Kernel6Ideal.main_v37)) (v2 : (c : Dev Cert.Kernel6Ideal.nD) → Buf (Elt Ideal) ((c.tc : Thread Cert.Kernel6Ideal.nD Cert.Kernel6Ideal.τ).loc Cert.Kernel6Ideal.main_v40)) (v3 : (c : Dev Cert.Kernel6Ideal.nD) → Buf (Elt Ideal) ((c.tc : Thread Cert.Kernel6Ideal.nD Cert.Kernel6Ideal.τ).loc Cert.Kernel6Ideal.main_v33)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v35) = v0 c
          ∧ r.2.mem ((c.tc : Thread Cert.Kernel6Ideal.nD Cert.Kernel6Ideal.τ).loc Cert.Kernel6Ideal.main_v37) = v1 c
          ∧ r.2.mem ((c.tc : Thread Cert.Kernel6Ideal.nD Cert.Kernel6Ideal.τ).loc Cert.Kernel6Ideal.main_v40) = v2 c
          ∧ r.2.mem ((c.tc : Thread Cert.Kernel6Ideal.nD Cert.Kernel6Ideal.τ).loc Cert.Kernel6Ideal.main_v33) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v36) = v0 c
          ∧ r.2.mem ((c.tc : Thread Cert.Reference6Ideal.nD Cert.Reference6Ideal.τ).loc Cert.Reference6Ideal.main_v109) = v1 c
          ∧ r.2.mem ((c.tc : Thread Cert.Reference6Ideal.nD Cert.Reference6Ideal.τ).loc Cert.Reference6Ideal.main_v110) = v2 c
          ∧ r.2.mem ((c.tc : Thread Cert.Reference6Ideal.nD Cert.Reference6Ideal.τ).loc Cert.Reference6Ideal.main_v35) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_qk : Cert.Pre_finite_qk.Facts) (hPre_finite_in : Cert.Pre_finite_in.Facts) (hPre_finite_sample : Cert.Pre_finite_sample.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_in (hKernel3Ideal := hKernel3Ideal) (hPre_finite_in := hPre_finite_in)
    ∧ quiescent_Reference3Ideal (hReference3Ideal := hReference3Ideal)
    ∧ quiescent_Reference3Ideal_pre_finite_in (hReference3Ideal := hReference3Ideal) (hPre_finite_in := hPre_finite_in)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_sample (hKernel6Ideal := hKernel6Ideal) (hPre_finite_sample := hPre_finite_sample)
    ∧ quiescent_Reference6Ideal (hReference6Ideal := hReference6Ideal)
    ∧ quiescent_Reference6Ideal_pre_finite_sample (hReference6Ideal := hReference6Ideal) (hPre_finite_sample := hPre_finite_sample)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_in (hKernel3Ideal := hKernel3Ideal) (hReference3Ideal := hReference3Ideal) (hPre_finite_in := hPre_finite_in)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_sample (hKernel6Ideal := hKernel6Ideal) (hReference6Ideal := hReference6Ideal) (hPre_finite_sample := hPre_finite_sample)
-- ==== Pre_finite_in.lean ====
abbrev S2x8192x1024 : Shape := ⟨3, ![2, 8192, 1024]⟩
abbrev S2x1x6144 : Shape := ⟨3, ![2, 1, 6144]⟩
abbrev S2x1024x2824 : Shape := ⟨3, ![2, 1024, 2824]⟩
abbrev S2x2x256 : Shape := ⟨3, ![2, 2, 256]⟩
abbrev S2x3x768 : Shape := ⟨3, ![2, 3, 768]⟩
abbrev S2x3x256 : Shape := ⟨3, ![2, 3, 256]⟩
abbrev S2x4x768 : Shape := ⟨3, ![2, 4, 768]⟩
abbrev S2x4 : Shape := ⟨2, ![2, 4]⟩
abbrev S_ : Shape := ⟨0, ![]⟩

class Facts : Prop where
  bcast_S_S2x8192x1024 : S_.BroadcastsInDim S2x8192x1024 (![] : Fin 0 → Fin S2x8192x1024.rank)
  bcast_S_S2x1x6144 : S_.BroadcastsInDim S2x1x6144 (![] : Fin 0 → Fin S2x1x6144.rank)
  bcast_S_S2x1024x2824 : S_.BroadcastsInDim S2x1024x2824 (![] : Fin 0 → Fin S2x1024x2824.rank)
  bcast_S_S2x3x768 : S_.BroadcastsInDim S2x3x768 (![] : Fin 0 → Fin S2x3x768.rank)
  bcast_S_S2x4x768 : S_.BroadcastsInDim S2x4x768 (![] : Fin 0 → Fin S2x4x768.rank)

variable [Facts]

def fn {F : FTy → Type} [FloatOps F] (main_arg0 : FVec F S2x8192x1024 .f32) (main_arg1 : FVec F S2x1x6144 .f32) (main_arg2 : FVec F S2x1024x2824 .f32) (main_arg3 : FVec F S2x2x256 .f32) (main_arg4 : FVec F S2x3x768 .f32) (main_arg5 : FVec F S2x3x256 .f32) (main_arg6 : FVec F S2x4x768 .f32) (main_arg7 : FVec F S2x4 .f32) (main_arg8 : FVec F S2x4 .f32) : IVec S2x8192x1024 1 × IVec S2x1x6144 1 × IVec S2x1024x2824 1 × IVec S2x3x768 1 × IVec S2x4x768 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S2x1x6144 .f32 := Host.absf main_arg1
  let main_cst_0 : FVec F S_ .f32 := constant S_ .f32 0x7F800000#32
  let main_v4 : FVec F S2x1x6144 .f32 := broadcastInDim S2x1x6144 ![] bcast_S_S2x1x6144 main_cst_0
  let main_v5 : IVec S2x1x6144 1 := cmpf .olt main_v3 main_v4
  let main_v6 : FVec F S2x1024x2824 .f32 := Host.absf main_arg2
  let main_cst_1 : FVec F S_ .f32 := constant S_ .f32 0x7F800000#32
  let main_v7 : FVec F S2x1024x2824 .f32 := broadcastInDim S2x1024x2824 ![] bcast_S_S2x1024x2824 main_cst_1
  let main_v8 : IVec S2x1024x2824 1 := cmpf .olt main_v6 main_v7
  let main_v9 : FVec F S2x3x768 .f32 := Host.absf main_arg4
  let main_cst_2 : FVec F S_ .f32 := constant S_ .f32 0x7F800000#32
  let main_v10 : FVec F S2x3x768 .f32 := broadcastInDim S2x3x768 ![] bcast_S_S2x3x768 main_cst_2
  let main_v11 : IVec S2x3x768 1 := cmpf .olt main_v9 main_v10
  let main_v12 : FVec F S2x4x768 .f32 := Host.absf main_arg6
  let main_cst_3 : FVec F S_ .f32 := constant S_ .f32 0x7F800000#32
  let main_v13 : FVec F S2x4x768 .f32 := broadcastInDim S2x4x768 ![] bcast_S_S2x4x768 main_cst_3
  let main_v14 : IVec S2x4x768 1 := cmpf .olt main_v12 main_v13
  (main_v2, main_v5, main_v8, main_v11, main_v14)
-- ==== Pre_finite_qk.lean ====
abbrev S2x4x8192x64 : Shape := ⟨4, ![2, 4, 8192, 64]⟩
abbrev S_ : Shape := ⟨0, ![]⟩

class Facts : Prop where
  bcast_S_S2x4x8192x64 : S_.BroadcastsInDim S2x4x8192x64 (![] : Fin 0 → Fin S2x4x8192x64.rank)

variable [Facts]

def fn {F : FTy → Type} [FloatOps F] (main_arg0 : FVec F S2x4x8192x64 .bf16) (main_arg1 : FVec F S2x4x8192x64 .bf16) (main_arg2 : FVec F S2x4x8192x64 .bf16) : IVec S2x4x8192x64 1 × IVec S2x4x8192x64 1 :=
  let main_v0 : FVec F S2x4x8192x64 .bf16 := Host.absf main_arg0
  let main_cst : FVec F S_ .bf16 := constant S_ .bf16 0x7F80#16
  let main_v1 : FVec F S2x4x8192x64 .bf16 := broadcastInDim S2x4x8192x64 ![] bcast_S_S2x4x8192x64 main_cst
  let main_v2 : IVec S2x4x8192x64 1 := cmpf .olt main_v0 main_v1
  let main_v3 : FVec F S2x4x8192x64 .bf16 := Host.absf main_arg1
  let main_cst_0 : FVec F S_ .bf16 := constant S_ .bf16 0x7F80#16
  let main_v4 : FVec F S2x4x8192x64 .bf16 := broadcastInDim S2x4x8192x64 ![] bcast_S_S2x4x8192x64 main_cst_0
  let main_v5 : IVec S2x4x8192x64 1 := cmpf .olt main_v3 main_v4
  (main_v2, main_v5)
-- ==== Pre_finite_sample.lean ====
abbrev S128x4x768 : Shape := ⟨3, ![128, 4, 768]⟩
abbrev S128x4x8 : Shape := ⟨3, ![128, 4, 8]⟩
abbrev S128x2x256 : Shape := ⟨3, ![128, 2, 256]⟩
abbrev S128x3x768 : Shape := ⟨3, ![128, 3, 768]⟩
abbrev S2x3x256 : Shape := ⟨3, ![2, 3, 256]⟩
abbrev S2x4x768 : Shape := ⟨3, ![2, 4, 768]⟩
abbrev S2x4 : Shape := ⟨2, ![2, 4]⟩
abbrev S_ : Shape := ⟨0, ![]⟩

class Facts : Prop where
  bcast_S_S128x4x768 : S_.BroadcastsInDim S128x4x768 (![] : Fin 0 → Fin S128x4x768.rank)
  bcast_S_S128x3x768 : S_.BroadcastsInDim S128x3x768 (![] : Fin 0 → Fin S128x3x768.rank)
  bcast_S_S2x4x768 : S_.BroadcastsInDim S2x4x768 (![] : Fin 0 → Fin S2x4x768.rank)

variable [Facts]

def fn {F : FTy → Type} [FloatOps F] (main_arg0 : FVec F S128x4x768 .f32) (main_arg1 : FVec F S128x4x768 .f32) (main_arg2 : FVec F S128x4x8 .f32) (main_arg3 : FVec F S128x2x256 .f32) (main_arg4 : FVec F S128x3x768 .f32) (main_arg5 : FVec F S2x3x256 .f32) (main_arg6 : FVec F S2x4x768 .f32) (main_arg7 : FVec F S2x4 .f32) (main_arg8 : FVec F S2x4 .f32) : IVec S128x4x768 1 × IVec S128x3x768 1 × IVec S2x4x768 1 :=
  let main_v0 : FVec F S128x4x768 .f32 := Host.absf main_arg1
  let main_cst : FVec F S_ .f32 := constant S_ .f32 0x7F800000#32
  let main_v1 : FVec F S128x4x768 .f32 := broadcastInDim S128x4x768 ![] bcast_S_S128x4x768 main_cst
  let main_v2 : IVec S128x4x768 1 := cmpf .olt main_v0 main_v1
  let main_v3 : FVec F S128x3x768 .f32 := Host.absf main_arg4
  let main_cst_0 : FVec F S_ .f32 := constant S_ .f32 0x7F800000#32
  let main_v4 : FVec F S128x3x768 .f32 := broadcastInDim S128x3x768 ![] bcast_S_S128x3x768 main_cst_0
  let main_v5 : IVec S128x3x768 1 := cmpf .olt main_v3 main_v4
  let main_v6 : FVec F S2x4x768 .f32 := Host.absf main_arg6
  let main_cst_1 : FVec F S_ .f32 := constant S_ .f32 0x7F800000#32
  let main_v7 : FVec F S2x4x768 .f32 := broadcastInDim S2x4x768 ![] bcast_S_S2x4x768 main_cst_1
  let main_v8 : IVec S2x4x768 1 := cmpf .olt main_v6 main_v7
  (main_v2, main_v5, main_v8)
-- ==== Kernel.lean ====
abbrev S2x4x8192x64 : Shape := ⟨4, ![2, 4, 8192, 64]⟩
abbrev S256x256 : Shape := ⟨2, ![256, 256]⟩
abbrev S_ : Shape := ⟨0, ![]⟩
abbrev S2x8192x256 : Shape := ⟨3, ![2, 8192, 256]⟩
abbrev S1x4x256x64 : Shape := ⟨4, ![1, 4, 256, 64]⟩
abbrev S1x4x8192x64 : Shape := ⟨4, ![1, 4, 8192, 64]⟩
abbrev S1x256x256 : Shape := ⟨3, ![1, 256, 256]⟩
abbrev S1x1x256x64 : Shape := ⟨4, ![1, 1, 256, 64]⟩
abbrev S256x64 : Shape := ⟨2, ![256, 64]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 13
  | .vmem => 7
  | .smem => 0
  | _ => 0

abbrev bufTy : (tb : Table) → Fin (tcTables nBuf tb) → BufTy
  | .hbm, ⟨0, _⟩ => ⟨S2x4x8192x64, .bf16⟩
  | .hbm, ⟨1, _⟩ => ⟨S2x4x8192x64, .bf16⟩
  | .hbm, ⟨2, _⟩ => ⟨S2x4x8192x64, .bf16⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S_, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .bf16⟩
  | .hbm, ⟨12, _⟩ => ⟨S2x8192x256, .bf16⟩
  | .local _ .vmem, ⟨0, _⟩ => ⟨S1x4x256x64, .bf16⟩
  | .local _ .vmem, ⟨1, _⟩ => ⟨S1x4x256x64, .bf16⟩
  | .local _ .vmem, ⟨2, _⟩ => ⟨S1x4x8192x64, .bf16⟩
  | .local _ .vmem, ⟨3, _⟩ => ⟨S1x4x8192x64, .bf16⟩
  | .local _ .vmem, ⟨4, _⟩ => ⟨S256x256, .bf16⟩
  | .local _ .vmem, ⟨5, _⟩ => ⟨S1x256x256, .bf16⟩
  | .local _ .vmem, ⟨6, _⟩ => ⟨S1x256x256, .bf16⟩
  | _, _ => ⟨S2x4x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c256_i32 : BitVec 32 := 256#32
  let v29 : BitVec 32 := Scalar.muli arg1 c256_i32
  v29
def k0_off1 (i : grid0.Coords) : Fin 4 → Nat :=
  let c0_25 : Index := 0#32
  let c0_26 : Index := 0#32
  let arg1 : BitVec 32 := BitVec.ofNat 32 (i 1).val
  let c256_i32 : BitVec 32 := 256#32
  let v29 : BitVec 32 := Scalar.muli arg1 c256_i32
  let v30 : BitVec 32 := v29
  let v31 : Index := Scalar.indexCast v30
  let c0_27 : Index := 0#32
  ![0, 0, v31.toNat, 0]
def k0_off2 (i : grid0.Coords) : Fin 4 → Nat :=
  let c0_29 : Index := 0#32
  let c1_30 : Index := 1#32
  let arg1 : BitVec 32 := BitVec.ofNat 32 (i 1).val
  let c256_i32 : BitVec 32 := 256#32
  let v29 : BitVec 32 := Scalar.muli arg1 c256_i32
  let v30 : BitVec 32 := v29
  let v35 : Index := Scalar.indexCast v30
  let c0_31 : Index := 0#32
  ![0, 1, v35.toNat, 0]
def k0_off3 (i : grid0.Coords) : Fin 4 → Nat :=
  let c0_33 : Index := 0#32
  let c2_34 : Index := 2#32
  let arg1 : BitVec 32 := BitVec.ofNat 32 (i 1).val
  let c256_i32 : BitVec 32 := 256#32
  let v29 : BitVec 32 := Scalar.muli arg1 c256_i32
  let v30 : BitVec 32 := v29
  let v39 : Index := Scalar.indexCast v30
  let c0_35 : Index := 0#32
  ![0, 2, v39.toNat, 0]
def k0_off4 (i : grid0.Coords) : Fin 4 → Nat :=
  let c0_37 : Index := 0#32
  let c3_38 : Index := 3#32
  let arg1 : BitVec 32 := BitVec.ofNat 32 (i 1).val
  let c256_i32 : BitVec 32 := 256#32
  let v29 : BitVec 32 := Scalar.muli arg1 c256_i32
  let v30 : BitVec 32 := v29
  let v43 : Index := Scalar.indexCast v30
  let c0_39 : Index := 0#32
  ![0, 3, v43.toNat, 0]
def k0_mult2 (i : grid0.Coords) (arg7 : BitVec 32) : BitVec 32 :=
  let arg1 : BitVec 32 := BitVec.ofNat 32 (i 1).val
  let c1_i32_88 : BitVec 32 := 1#32
  let v197 : BitVec 32 := Scalar.subi arg1 c1_i32_88
  let v198 : BitVec 32 := Scalar.subi v197 arg7
  let c256_i32_89 : BitVec 32 := 256#32
  let v199 : BitVec 32 := Scalar.muli v198 c256_i32_89
  v199

def k0_off5 (i : grid0.Coords) (arg7 : BitVec 32) : Fin 4 → Nat :=
  let c0_90 : Index := 0#32
  let c0_91 : Index := 0#32
  let arg1 : BitVec 32 := BitVec.ofNat 32 (i 1).val
  let c1_i32_88 : BitVec 32 := 1#32
  let v197 : BitVec 32 := Scalar.subi arg1 c1_i32_88
  let v198 : BitVec 32 := Scalar.subi v197 arg7
  let c256_i32_89 : BitVec 32 := 256#32
  let v199 : BitVec 32 := Scalar.muli v198 c256_i32_89
  let v200 : BitVec 32 := v199
  let v201 : Index := Scalar.indexCast v200
  let c0_92 : Index := 0#32
  ![0, 0, v201.toNat, 0]
def k0_off6 (i : grid0.Coords) (arg7 : BitVec 32) : Fin 4 → Nat :=
  let c0_94 : Index := 0#32
  let c1_95 : Index := 1#32
  let arg1 : BitVec 32 := BitVec.ofNat 32 (i 1).val
  let c1_i32_88 : BitVec 32 := 1#32
  let v197 : BitVec 32 := Scalar.subi arg1 c1_i32_88
  let v198 : BitVec 32 := Scalar.subi v197 arg7
  let c256_i32_89 : BitVec 32 := 256#32
  let v199 : BitVec 32 := Scalar.muli v198 c256_i32_89
  let v200 : BitVec 32 := v199
  let v205 : Index := Scalar.indexCast v200
  let c0_96 : Index := 0#32
  ![0, 1, v205.toNat, 0]
def k0_off7 (i : grid0.Coords) (arg7 : BitVec 32) : Fin 4 → Nat :=
  let c0_98 : Index := 0#32
  let c2_99 : Index := 2#32
  let arg1 : BitVec 32 := BitVec.ofNat 32 (i 1).val
  let c1_i32_88 : BitVec 32 := 1#32
  let v197 : BitVec 32 := Scalar.subi arg1 c1_i32_88
  let v198 : BitVec 32 := Scalar.subi v197 arg7
  let c256_i32_89 : BitVec 32 := 256#32
  let v199 : BitVec 32 := Scalar.muli v198 c256_i32_89
  let v200 : BitVec 32 := v199
  let v209 : Index := Scalar.indexCast v200
  let c0_100 : Index := 0#32
  ![0, 2, v209.toNat, 0]
def k0_off8 (i : grid0.Coords) (arg7 : BitVec 32) : Fin 4 → Nat :=
  let c0_102 : Index := 0#32
  let c3_103 : Index := 3#32
  let arg1 : BitVec 32 := BitVec.ofNat 32 (i 1).val
  let c1_i32_88 : BitVec 32 := 1#32
  let v197 : BitVec 32 := Scalar.subi arg1 c1_i32_88
  let v198 : BitVec 32 := Scalar.subi v197 arg7
  let c256_i32_89 : BitVec 32 := 256#32
  let v199 : BitVec 32 := Scalar.muli v198 c256_i32_89
  let v200 : BitVec 32 := v199
  let v213 : Index := Scalar.indexCast v200
  let c0_104 : Index := 0#32
  ![0, 3, v213.toNat, 0]

def k0_chk1 (i : grid0.Coords) (arg7 : BitVec 32) : Prop :=
  (256 ∣ (k0_mult2 i arg7).toNat) ∧
  (∀ a, (k0_off5 i arg7) a + S1x1x256x64.size a ≤ S1x4x8192x64.size a) ∧
  (∀ a, (k0_off6 i arg7) a + S1x1x256x64.size a ≤ S1x4x8192x64.size a) ∧
  (∀ a, (k0_off7 i arg7) a + S1x1x256x64.size a ≤ S1x4x8192x64.size a) ∧
  (∀ a, (k0_off8 i arg7) a + S1x1x256x64.size a ≤ S1x4x8192x64.size a)
theorem k0_mult2_dvd : ∀ (i : grid0.Coords) (arg7 : BitVec 32) (k0_hw1 : k0_chk1 i arg7), 256 ∣ (k0_mult2 i arg7).toNat := fun i arg7 k0_hw1 => k0_hw1.1
theorem k0_off5_inb : ∀ (i : grid0.Coords) (arg7 : BitVec 32) (k0_hw1 : k0_chk1 i arg7), ∀ a, (k0_off5 i arg7) a + S1x1x256x64.size a ≤ S1x4x8192x64.size a := fun i arg7 k0_hw1 => k0_hw1.2.1
theorem k0_off6_inb : ∀ (i : grid0.Coords) (arg7 : BitVec 32) (k0_hw1 : k0_chk1 i arg7), ∀ a, (k0_off6 i arg7) a + S1x1x256x64.size a ≤ S1x4x8192x64.size a := fun i arg7 k0_hw1 => k0_hw1.2.2.1
theorem k0_off7_inb : ∀ (i : grid0.Coords) (arg7 : BitVec 32) (k0_hw1 : k0_chk1 i arg7), ∀ a, (k0_off7 i arg7) a + S1x1x256x64.size a ≤ S1x4x8192x64.size a := fun i arg7 k0_hw1 => k0_hw1.2.2.2.1
theorem k0_off8_inb : ∀ (i : grid0.Coords) (arg7 : BitVec 32) (k0_hw1 : k0_chk1 i arg7), ∀ a, (k0_off8 i arg7) a + S1x1x256x64.size a ≤ S1x4x8192x64.size a := fun i arg7 k0_hw1 => k0_hw1.2.2.2.2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4x8192x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4x8192x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "exp_zero" => some ⊤
  | _ => none
-- ==== ReferenceIdeal.lean ====
abbrev S2x4x8192x64 : Shape := ⟨4, ![2, 4, 8192, 64]⟩
abbrev S8192 : Shape := ⟨1, ![8192]⟩
abbrev S2x4x8192x8192 : Shape := ⟨4, ![2, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x4x8192x1 : Shape := ⟨4, ![2, 4, 8192, 1]⟩
abbrev S2x4x64x8192 : Shape := ⟨4, ![2, 4, 64, 8192]⟩
abbrev S2x8192x4x64 : Shape := ⟨4, ![2, 8192, 4, 64]⟩
abbrev S2x8192x256 : Shape := ⟨3, ![2, 8192, 256]⟩

abbrev nBuf : Space → Nat
  | .hbm => 71
  | .vmem => 0
  | .smem => 0
  | _ => 0

abbrev bufTy : (tb : Table) → Fin (tcTables nBuf tb) → BufTy
  | .hbm, ⟨0, _⟩ => ⟨S2x4x8192x64, .bf16⟩
  | .hbm, ⟨1, _⟩ => ⟨S2x4x8192x64, .bf16⟩
  | .hbm, ⟨2, _⟩ => ⟨S2x4x8192x64, .bf16⟩
  | .hbm, ⟨3, _⟩ => ⟨S2x4x8192x64, .f32⟩
  | .hbm, ⟨4, _⟩ => ⟨S2x4x8192x64, .f32⟩
  | .hbm, ⟨5, _⟩ => ⟨S2x4x8192x64, .f32⟩
  | .hbm, ⟨6, _⟩ => ⟨S8192, .i32⟩
  | .hbm, ⟨7, _⟩ => ⟨S2x4x8192x8192, .f32⟩
  | .hbm, ⟨8, _⟩ => ⟨S_, .f32⟩
  | .hbm, ⟨9, _⟩ => ⟨S2x4x8192x8192, .f32⟩
  | .hbm, ⟨10, _⟩ => ⟨S2x4x8192x8192, .f32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S2x4x8192x8192, .f32⟩
  | .hbm, ⟨17, _⟩ => ⟨S2x4x8192x8192, .f32⟩
  | .hbm, ⟨18, _⟩ => ⟨S_, .f32⟩
  | .hbm, ⟨19, _⟩ => ⟨S2x4x8192x8192, .f32⟩
  | .hbm, ⟨20, _⟩ => ⟨S2x4x8192x8192, .f32⟩
  | .hbm, ⟨21, _⟩ => ⟨S2x4x8192x8192, .f32⟩
  | .hbm, ⟨22, _⟩ => ⟨S2x4x8192x8192, .f32⟩
  | .hbm, ⟨23, _⟩ => ⟨S2x4x8192x8192, .i1⟩
  | .hbm, ⟨24, _⟩ => ⟨S2x4x8192x8192, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S2x4x8192x8192, .f32⟩
  | .hbm, ⟨31, _⟩ => ⟨S2x4x8192x8192, .f32⟩
  | .hbm, ⟨32, _⟩ => ⟨S2x4x8192x8192, .f32⟩
  | .hbm, ⟨33, _⟩ => ⟨S_, .f32⟩
  | .hbm, ⟨34, _⟩ => ⟨S_, .f32⟩
  | .hbm, ⟨35, _⟩ => ⟨S2x4x8192x8192, .i1⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S_, .f32⟩
  | .hbm, ⟨40, _⟩ => ⟨S2x4x8192x8192, .f32⟩
  | .hbm, ⟨41, _⟩ => ⟨S2x4x8192x8192, .f32⟩
  | .hbm, ⟨42, _⟩ => ⟨S_, .f32⟩
  | .hbm, ⟨43, _⟩ => ⟨S2x4x8192x8192, .f32⟩
  | .hbm, ⟨44, _⟩ => ⟨S2x4x8192x8192, .f32⟩
  | .hbm, ⟨45, _⟩ => ⟨S2x4x8192x8192, .f32⟩
  | .hbm, ⟨46, _⟩ => ⟨S2x4x8192x8192, .f32⟩
  | .hbm, ⟨47, _⟩ => ⟨S2x4x8192x8192, .i1⟩
  | .hbm, ⟨48, _⟩ => ⟨S2x4x8192x8192, .f32⟩
  | .hbm, ⟨49, _⟩ => ⟨S2x4x8192x8192, .f32⟩
  | .hbm, ⟨50, _⟩ => ⟨S2x4x8192x8192, .f32⟩
  | .hbm, ⟨51, _⟩ => ⟨S2x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x8192x8192, .f32⟩
  | .hbm, ⟨55, _⟩ => ⟨S2x4x8192x8192, .f32⟩
  | .hbm, ⟨56, _⟩ => ⟨S2x4x8192x8192, .f32⟩
  | .hbm, ⟨57, _⟩ => ⟨S2x4x8192x1, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S2x4x8192x8192, .f32⟩
  | .hbm, ⟨62, _⟩ => ⟨S_, .f32⟩
  | .hbm, ⟨63, _⟩ => ⟨S_, .f32⟩
  | .hbm, ⟨64, _⟩ => ⟨S2x4x8192x8192, .i1⟩
  | .hbm, ⟨65, _⟩ => ⟨S2x4x8192x8192, .f32⟩
  | .hbm, ⟨66, _⟩ => ⟨S2x4x8192x8192, .f32⟩
  | .hbm, ⟨67, _⟩ => ⟨S2x4x64x8192, .f32⟩
  | .hbm, ⟨68, _⟩ => ⟨S2x8192x4x64, .f32⟩
  | .hbm, ⟨69, _⟩ => ⟨S2x8192x256, .f32⟩
  | .hbm, ⟨70, _⟩ => ⟨S2x8192x256, .bf16⟩
  | _, _ => ⟨S2x4x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v14 : Ref sig .tc := ⟨.hbm, 37, rfl⟩
abbrev main_call2_call0_cst : Ref sig .tc := ⟨.hbm, 38, rfl⟩
abbrev main_call2_call0_v0 : Ref sig .tc := ⟨.hbm, 39, rfl⟩
abbrev main_v15 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_1 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1x6144 : Shape := ⟨3, ![2, 1, 6144]⟩
abbrev S2x8192x256 : Shape := ⟨3, ![2, 8192, 256]⟩
abbrev S2x4x256x1024 : Shape := ⟨4, ![2, 4, 256, 1024]⟩
abbrev S2x1024x4096 : Shape := ⟨3, ![2, 1024, 4096]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S1x512x1024 : Shape := ⟨3, ![1, 512, 1024]⟩
abbrev S1x1x1024 : Shape := ⟨3, ![1, 1, 1024]⟩
abbrev S1x512x256 : Shape := ⟨3, ![1, 512, 256]⟩
abbrev S1x1024x4096 : Shape := ⟨3, ![1, 1024, 4096]⟩
abbrev S1x4x256x1024 : Shape := ⟨4, ![1, 4, 256, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S1x1x256x1024 : Shape := ⟨4, ![1, 1, 256, 1024]⟩
abbrev S256x1024 : Shape := ⟨2, ![256, 1024]⟩
abbrev S1x1024x640 : Shape := ⟨3, ![1, 1024, 640]⟩
abbrev S1024x640 : Shape := ⟨2, ![1024, 640]⟩
abbrev S512x640 : Shape := ⟨2, ![512, 640]⟩
abbrev S1x640x1024 : Shape := ⟨3, ![1, 640, 1024]⟩
abbrev S640x1024 : Shape := ⟨2, ![640, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 33
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S2x8192x256, .bf16⟩
  | .hbm, ⟨3, _⟩ => ⟨S2x8192x256, .bf16⟩
  | .hbm, ⟨4, _⟩ => ⟨S2x8192x256, .bf16⟩
  | .hbm, ⟨5, _⟩ => ⟨S2x8192x256, .bf16⟩
  | .hbm, ⟨6, _⟩ => ⟨S2x4x256x1024, .f32⟩
  | .hbm, ⟨7, _⟩ => ⟨S2x1024x4096, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024x5632, .f32⟩
  | .hbm, ⟨12, _⟩ => ⟨S2x2816x1024, .f32⟩
  | .hbm, ⟨13, _⟩ => ⟨S2x1024, .f32⟩
  | .hbm, ⟨14, _⟩ => ⟨S2x1024, .f32⟩
  | .hbm, ⟨15, _⟩ => ⟨S2x1024x4096, .bf16⟩
  | .hbm, ⟨16, _⟩ => ⟨S2x4x256x1024, .bf16⟩
  | .hbm, ⟨17, _⟩ => ⟨S2x1024x1024, .bf16⟩
  | .hbm, ⟨18, _⟩ => ⟨S2x1024x5632, .bf16⟩
  | .hbm, ⟨19, _⟩ => ⟨S2x2816x1024, .bf16⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x1024x4096, .bf16⟩
  | .local _ .vmem, ⟨23, _⟩ => ⟨S1x4x256x1024, .bf16⟩
  | .local _ .vmem, ⟨24, _⟩ => ⟨S1x1024x1024, .bf16⟩
  | .local _ .vmem, ⟨25, _⟩ => ⟨S1x1024, .f32⟩
  | .local _ .vmem, ⟨26, _⟩ => ⟨S1x1024, .f32⟩
  | .local _ .vmem, ⟨27, _⟩ => ⟨S1x1024x5632, .bf16⟩
  | .local _ .vmem, ⟨28, _⟩ => ⟨S1x2816x1024, .bf16⟩
  | .local _ .vmem, ⟨29, _⟩ => ⟨S1x1024, .f32⟩
  | .local _ .vmem, ⟨30, _⟩ => ⟨S1x1024, .f32⟩
  | .local _ .vmem, ⟨31, _⟩ => ⟨S1x512x1024, .f32⟩
  | .local _ .vmem, ⟨32, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![arg0.toNat, c0_i32.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference2Ideal.lean ====
abbrev S2x8192x1024 : Shape := ⟨3, ![2, 8192, 1024]⟩
abbrev S2x1x6144 : Shape := ⟨3, ![2, 1, 6144]⟩
abbrev S2x8192x256 : Shape := ⟨3, ![2, 8192, 256]⟩
abbrev S2x4x256x1024 : Shape := ⟨4, ![2, 4, 256, 1024]⟩
abbrev S2x1024x4096 : Shape := ⟨3, ![2, 1024, 4096]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x4x256x1024 : Shape := ⟨4, ![1, 4, 256, 1024]⟩
abbrev S4x256x1024 : Shape := ⟨3, ![4, 256, 1024]⟩
abbrev S1x1024x4096 : Shape := ⟨3, ![1, 1024, 4096]⟩
abbrev S1024x4096 : Shape := ⟨2, ![1024, 4096]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S2x8192x1x256 : Shape := ⟨4, ![2, 8192, 1, 256]⟩
abbrev S2x8192x4x256 : Shape := ⟨4, ![2, 8192, 4, 256]⟩
abbrev S4x1024x2x8192 : Shape := ⟨4, ![4, 1024, 2, 8192]⟩
abbrev S2x8192x4x1024 : Shape := ⟨4, ![2, 8192, 4, 1024]⟩
abbrev S2x8192x4096 : Shape := ⟨3, ![2, 8192, 4096]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 214
  | .vmem => 0
  | .smem => 0
  | _ => 0

abbrev hbmTy0_0 (i : Nat) : BufTy := match i % 128 with
  | 0 => ⟨S2x8192x1024, .f32⟩
  | 1 => ⟨S2x1x6144, .f32⟩
  | 2 => ⟨S2x8192x256, .bf16⟩
  | 3 => ⟨S2x8192x256, .bf16⟩
  | 4 => ⟨S2x8192x256, .bf16⟩
  | 5 => ⟨S2x8192x256, .bf16⟩
  | 6 => ⟨S2x4x256x1024, .f32⟩
  | 7 => ⟨S2x1024x4096, .f32⟩
  | 8 => ⟨S2x1024x1024, .f32⟩
  | 9 => ⟨S2x1024, .f32⟩
  | 10 => ⟨S2x1024, .f32⟩
  | 11 => ⟨S2x1024x5632, .f32⟩
  | 12 => ⟨S2x2816x1024, .f32⟩
  | 13 => ⟨S2x1024, .f32⟩
  | 14 => ⟨S2x1024, .f32⟩
  | 15 => ⟨S1x4x256x1024, .f32⟩
  | 16 => ⟨S4x256x1024, .f32⟩
  | 17 => ⟨S1x1024x4096, .f32⟩
  | 18 => ⟨S1024x4096, .f32⟩
  | 19 => ⟨S1x1024x1024, .f32⟩
  | 20 => ⟨S1024x1024, .f32⟩
  | 21 => ⟨S1x1024, .f32⟩
  | 22 => ⟨S1024, .f32⟩
  | 23 => ⟨S1x1024, .f32⟩
  | 24 => ⟨S1024, .f32⟩
  | 25 => ⟨S1x1024x5632, .f32⟩
  | 26 => ⟨S1024x5632, .f32⟩
  | 27 => ⟨S1x2816x1024, .f32⟩
  | 28 => ⟨S2816x1024, .f32⟩
  | 29 => ⟨S1x1024, .f32⟩
  | 30 => ⟨S1024, .f32⟩
  | 31 => ⟨S1x1024, .f32⟩
  | 32 => ⟨S1024, .f32⟩
  | 33 => ⟨S2x1x1024, .f32⟩
  | 34 => ⟨S2x1x1024, .f32⟩
  | 35 => ⟨S2x1x1024, .f32⟩
  | 36 => ⟨S2x1x1024, .f32⟩
  | 37 => ⟨S2x1x1024, .f32⟩
  | 38 => ⟨S2x1x1024, .f32⟩
  | 39 => ⟨S_, .f32⟩
  | 40 => ⟨S2x8192, .f32⟩
  | 41 => ⟨S2x8192x1, .f32⟩
  | 42 => ⟨S_, .f32⟩
  | 43 => ⟨S2x8192x1, .f32⟩
  | 44 => ⟨S2x8192x1, .f32⟩
  | 45 => ⟨S2x8192x1024, .f32⟩
  | 46 => ⟨S2x8192x1024, .f32⟩
  | 47 => ⟨S2x8192x1024, .f32⟩
  | 48 => ⟨S_, .f32⟩
  | 49 => ⟨S2x8192, .f32⟩
  | 50 => ⟨S2x8192x1, .f32⟩
  | 51 => ⟨S_, .f32⟩
  | 52 => ⟨S2x8192x1, .f32⟩
  | 53 => ⟨S2x8192x1, .f32⟩
  | 54 => ⟨S2x8192x1024, .f32⟩
  | 55 => ⟨S2x8192x1024, .f32⟩
  | 56 => ⟨S_, .f32⟩
  | 57 => ⟨S2x8192x1, .f32⟩
  | 58 => ⟨S2x8192x1, .f32⟩
  | 59 => ⟨S2x8192x1, .f32⟩
  | 60 => ⟨S2x8192x1024, .f32⟩
  | 61 => ⟨S2x8192x1024, .f32⟩
  | 62 => ⟨S_, .f32⟩
  | 63 => ⟨S2x1x1024, .f32⟩
  | 64 => ⟨S2x1x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S2x8192x256, .f32⟩
  | 70 => ⟨S2x8192x256, .f32⟩
  | 71 => ⟨S2x8192x256, .f32⟩
  | 72 => ⟨S2x8192x256, .f32⟩
  | 73 => ⟨S2x8192x1x256, .f32⟩
  | 74 => ⟨S2x8192x1x256, .f32⟩
  | 75 => ⟨S2x8192x1x256, .f32⟩
  | 76 => ⟨S2x8192x1x256, .f32⟩
  | 77 => ⟨S2x8192x4x256, .f32⟩
  | 78 => ⟨S4x1024x2x8192, .f32⟩
  | 79 => ⟨S2x8192x4x1024, .f32⟩
  | 80 => ⟨S2x8192x4096, .f32⟩
  | 81 => ⟨S2x8192x4096, .f32⟩
  | 82 => ⟨S2x8192x4096, .f32⟩
  | 83 => ⟨S_, .f32⟩
  | 84 => ⟨S2x8192x4096, .f32⟩
  | 85 => ⟨S2x8192x4096, .f32⟩
  | 86 => ⟨S_, .f32⟩
  | 87 => ⟨S2x8192x4096, .f32⟩
  | 88 => ⟨S2x8192x4096, .f32⟩
  | 89 => ⟨S2x8192x4x1024, .f32⟩
  | 90 => ⟨S2x8192x4x1024, .f32⟩
  | 91 => ⟨S_, .f32⟩
  | 92 => ⟨S2x8192x1024, .f32⟩
  | 93 => ⟨S2x8192x1024, .f32⟩
  | 94 => ⟨S_, .f32⟩
  | 95 => ⟨S2x8192x1024, .f32⟩
  | 96 => ⟨S2x8192x1024, .f32⟩
  | 97 => ⟨S_, .f32⟩
  | 98 => ⟨S2x1x1024, .f32⟩
  | 99 => ⟨S2x1x1024, .f32⟩
  | 100 => ⟨S2x8192x1024, .f32⟩
  | 101 => ⟨S2x8192x1024, .f32⟩
  | 102 => ⟨S2x8192x1024, .f32⟩
  | 103 => ⟨S_, .f32⟩
  | 104 => ⟨S2x8192, .f32⟩
  | 105 => ⟨S2x8192x1, .f32⟩
  | 106 => ⟨S_, .f32⟩
  | 107 => ⟨S2x8192x1, .f32⟩
  | 108 => ⟨S2x8192x1, .f32⟩
  | 109 => ⟨S2x8192x1024, .f32⟩
  | 110 => ⟨S2x8192x1024, .f32⟩
  | 111 => ⟨S2x8192x1024, .f32⟩
  | 112 => ⟨S_, .f32⟩
  | 113 => ⟨S2x8192, .f32⟩
  | 114 => ⟨S2x8192x1, .f32⟩
  | 115 => ⟨S_, .f32⟩
  | 116 => ⟨S2x8192x1, .f32⟩
  | 117 => ⟨S2x8192x1, .f32⟩
  | 118 => ⟨S2x8192x1024, .f32⟩
  | 119 => ⟨S2x8192x1024, .f32⟩
  | 120 => ⟨S_, .f32⟩
  | 121 => ⟨S2x8192x1, .f32⟩
  | 122 => ⟨S2x8192x1, .f32⟩
  | 123 => ⟨S2x8192x1, .f32⟩
  | 124 => ⟨S2x8192x1024, .f32⟩
  | 125 => ⟨S2x8192x1024, .f32⟩
  | 126 => ⟨S1x1x1024, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S1x1x1024, .f32⟩
  | 2 => ⟨S2x8192x1024, .f32⟩
  | 3 => ⟨S2x8192x1024, .f32⟩
  | 4 => ⟨S_, .f32⟩
  | 5 => ⟨S2x8192, .f32⟩
  | 6 => ⟨S2x8192x1, .f32⟩
  | 7 => ⟨S_, .f32⟩
  | 8 => ⟨S2x8192x1, .f32⟩
  | 9 => ⟨S2x8192x1, .f32⟩
  | 10 => ⟨S2x8192x1024, .f32⟩
  | 11 => ⟨S2x8192x1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S2x8192x1024, .f32⟩
  | 20 => ⟨S2x8192x1024, .f32⟩
  | 21 => ⟨S_, .f32⟩
  | 22 => ⟨S2x8192x1, .f32⟩
  | 23 => ⟨S2x8192x1, .f32⟩
  | 24 => ⟨S2x8192x1, .f32⟩
  | 25 => ⟨S2x8192x1024, .f32⟩
  | 26 => ⟨S2x8192x1024, .f32⟩
  | 27 => ⟨S_, .f32⟩
  | 28 => ⟨S2x1x1024, .f32⟩
  | 29 => ⟨S2x1x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S2x8192x5632, .f32⟩
  | 35 => ⟨S2x8192x2816, .f32⟩
  | 36 => ⟨S2x8192x2816, .f32⟩
  | 37 => ⟨S2x8192x2816, .f32⟩
  | 38 => ⟨S2x8192x2816, .f32⟩
  | 39 => ⟨S_, .f32⟩
  | 40 => ⟨S2x8192x2816, .f32⟩
  | 41 => ⟨S2x8192x2816, .f32⟩
  | 42 => ⟨S_, .f32⟩
  | 43 => ⟨S2x8192x2816, .f32⟩
  | 44 => ⟨S2x8192x2816, .f32⟩
  | 45 => ⟨S2x8192x2816, .f32⟩
  | 46 => ⟨S2x8192x2816, .f32⟩
  | 47 => ⟨S2x8192x1024, .f32⟩
  | 48 => ⟨S_, .f32⟩
  | 49 => ⟨S2x8192x1024, .f32⟩
  | 50 => ⟨S2x8192x1024, .f32⟩
  | 51 => ⟨S_, .f32⟩
  | 52 => ⟨S2x1x1024, .f32⟩
  | 53 => ⟨S2x1x1024, .f32⟩
  | 54 => ⟨S2x8192x1024, .f32⟩
  | 55 => ⟨S2x8192x1024, .f32⟩
  | 56 => ⟨S2x8192x1024, .f32⟩
  | 57 => ⟨S_, .f32⟩
  | 58 => ⟨S2x8192, .f32⟩
  | 59 => ⟨S2x8192x1, .f32⟩
  | 60 => ⟨S_, .f32⟩
  | 61 => ⟨S2x8192x1, .f32⟩
  | 62 => ⟨S2x8192x1, .f32⟩
  | 63 => ⟨S2x8192x1024, .f32⟩
  | 64 => ⟨S2x8192x1024, .f32⟩
  | 65 => ⟨S2x8192x1024, .f32⟩
  | 66 => ⟨S_, .f32⟩
  | 67 => ⟨S2x8192, .f32⟩
  | 68 => ⟨S2x8192x1, .f32⟩
  | 69 => ⟨S_, .f32⟩
  | 70 => ⟨S2x8192x1, .f32⟩
  | 71 => ⟨S2x8192x1, .f32⟩
  | 72 => ⟨S2x8192x1024, .f32⟩
  | 73 => ⟨S2x8192x1024, .f32⟩
  | 74 => ⟨S_, .f32⟩
  | 75 => ⟨S2x8192x1, .f32⟩
  | 76 => ⟨S2x8192x1, .f32⟩
  | 77 => ⟨S2x8192x1, .f32⟩
  | 78 => ⟨S2x8192x1024, .f32⟩
  | 79 => ⟨S2x8192x1024, .f32⟩
  | 80 => ⟨S1x1x1024, .f32⟩
  | 81 => ⟨S2x8192x1024, .f32⟩
  | 82 => ⟨S2x8192x1024, .f32⟩
  | 83 => ⟨S1x1x1024, .f32⟩
  | 84 => ⟨S2x8192x1024, .f32⟩
  | 85 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_5 : Ref sig .tc := ⟨.hbm, 83, rfl⟩
abbrev main_v62 : Ref sig .tc := ⟨.hbm, 84, rfl⟩
abbrev main_v63 : Ref sig .tc := ⟨.hbm, 85, rfl⟩
abbrev main_cst_6 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_7 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_10 : Ref sig .tc := ⟨.hbm, 103, rfl⟩
abbrev main_v77 : Ref sig .tc := ⟨.hbm, 104, rfl⟩
abbrev main_v78 : Ref sig .tc := ⟨.hbm, 105, rfl⟩
abbrev main_cst_11 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_12 : Ref sig .tc := ⟨.hbm, 112, rfl⟩
abbrev main_v84 : Ref sig .tc := ⟨.hbm, 113, rfl⟩
abbrev main_v85 : Ref sig .tc := ⟨.hbm, 114, rfl⟩
abbrev main_cst_13 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_14 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_15 : Ref sig .tc := ⟨.hbm, 132, rfl⟩
abbrev main_v101 : Ref sig .tc := ⟨.hbm, 133, rfl⟩
abbrev main_v102 : Ref sig .tc := ⟨.hbm, 134, rfl⟩
abbrev main_cst_16 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_17 : Ref sig .tc := ⟨.hbm, 141, rfl⟩
abbrev main_v108 : Ref sig .tc := ⟨.hbm, 142, rfl⟩
abbrev main_v109 : Ref sig .tc := ⟨.hbm, 143, rfl⟩
abbrev main_cst_18 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_19 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_20 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_call0_v0 : Ref sig .tc := ⟨.hbm, 165, rfl⟩
abbrev main_call0_v1 : Ref sig .tc := ⟨.hbm, 166, rfl⟩
abbrev main_call0_cst : Ref sig .tc := ⟨.hbm, 167, rfl⟩
abbrev main_call0_v2 : Ref sig .tc := ⟨.hbm, 168, rfl⟩
abbrev main_call0_v3 : Ref sig .tc := ⟨.hbm, 169, rfl⟩
abbrev main_call0_cst_0 : Ref sig .tc := ⟨.hbm, 170, rfl⟩
abbrev main_call0_v4 : Ref sig .tc := ⟨.hbm, 171, rfl⟩
abbrev main_call0_v5 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_21 : Ref sig .tc := ⟨.hbm, 176, rfl⟩
abbrev main_v131 : Ref sig .tc := ⟨.hbm, 177, rfl⟩
abbrev main_v132 : Ref sig .tc := ⟨.hbm, 178, rfl⟩
abbrev main_cst_22 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_cst_23 : Ref sig .tc := ⟨.hbm, 185, rfl⟩
abbrev main_v138 : Ref sig .tc := ⟨.hbm, 186, rfl⟩
abbrev main_v139 : Ref sig .tc := ⟨.hbm, 187, rfl⟩
abbrev main_cst_24 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_25 : Ref sig .tc := ⟨.hbm, 194, rfl⟩
abbrev main_v145 : Ref sig .tc := ⟨.hbm, 195, rfl⟩
abbrev main_v146 : Ref sig .tc := ⟨.hbm, 196, rfl⟩
abbrev main_cst_26 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_27 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x1x6144 : Shape := ⟨3, ![2, 1, 6144]⟩
abbrev S2x1024x2824 : Shape := ⟨3, ![2, 1024, 2824]⟩
abbrev S2x2x256 : Shape := ⟨3, ![2, 2, 256]⟩
abbrev S2x3x768 : Shape := ⟨3, ![2, 3, 768]⟩
abbrev S2x3x256 : Shape := ⟨3, ![2, 3, 256]⟩
abbrev S2x4x768 : Shape := ⟨3, ![2, 4, 768]⟩
abbrev S2x4 : Shape := ⟨2, ![2, 4]⟩
abbrev S_ : Shape := ⟨0, ![]⟩
abbrev S2x1024x120 : Shape := ⟨3, ![2, 1024, 120]⟩
abbrev S2x1024x2048 : Shape := ⟨3, ![2, 1024, 2048]⟩
abbrev S2x1024x8 : Shape := ⟨3, ![2, 1024, 8]⟩
abbrev S2x1024x768 : Shape := ⟨3, ![2, 1024, 768]⟩
abbrev S2x1024x2944 : Shape := ⟨3, ![2, 1024, 2944]⟩
abbrev S1x3x256 : Shape := ⟨3, ![1, 3, 256]⟩
abbrev S3x256 : Shape := ⟨2, ![3, 256]⟩
abbrev S1x4x768 : Shape := ⟨3, ![1, 4, 768]⟩
abbrev S4x768 : Shape := ⟨2, ![4, 768]⟩
abbrev S1x4 : Shape := ⟨2, ![1, 4]⟩
abbrev S4 : Shape := ⟨1, ![4]⟩
abbrev S1x128 : Shape := ⟨2, ![1, 128]⟩
abbrev S1 : Shape := ⟨1, ![1]⟩
abbrev S2 : Shape := ⟨1, ![2]⟩
abbrev S2x8x256 : Shape := ⟨3, ![2, 8, 256]⟩
abbrev S2x8x768 : Shape := ⟨3, ![2, 8, 768]⟩
abbrev S2x8192x256 : Shape := ⟨3, ![2, 8192, 256]⟩
abbrev S2x4x8192x64 : Shape := ⟨4, ![2, 4, 8192, 64]⟩
abbrev S2x8192x768 : Shape := ⟨3, ![2, 8192, 768]⟩
abbrev S2x8192x128 : Shape := ⟨3, ![2, 8192, 128]⟩
abbrev S1x512x1024 : Shape := ⟨3, ![1, 512, 1024]⟩
abbrev S1x1x1024 : Shape := ⟨3, ![1, 1, 1024]⟩
abbrev S1x1024x2944 : Shape := ⟨3, ![1, 1024, 2944]⟩
abbrev S1x8x256 : Shape := ⟨3, ![1, 8, 256]⟩
abbrev S1x8x768 : Shape := ⟨3, ![1, 8, 768]⟩
abbrev S1x512x256 : Shape := ⟨3, ![1, 512, 256]⟩
abbrev S1x4x512x64 : Shape := ⟨4, ![1, 4, 512, 64]⟩
abbrev S1x512x768 : Shape := ⟨3, ![1, 512, 768]⟩
abbrev S1x512x128 : Shape := ⟨3, ![1, 512, 128]⟩
abbrev S8x256 : Shape := ⟨2, ![8, 256]⟩
abbrev S8x768 : Shape := ⟨2, ![8, 768]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S1024x2944 : Shape := ⟨2, ![1024, 2944]⟩
abbrev S512x2944 : Shape := ⟨2, ![512, 2944]⟩
abbrev S512x256 : Shape := ⟨2, ![512, 256]⟩
abbrev S512x64 : Shape := ⟨2, ![512, 64]⟩
abbrev S1x1x512x64 : Shape := ⟨4, ![1, 1, 512, 64]⟩
abbrev S512x768 : Shape := ⟨2, ![512, 768]⟩
abbrev S504x256 : Shape := ⟨2, ![504, 256]⟩
abbrev S1x256 : Shape := ⟨2, ![1, 256]⟩
abbrev S504x768 : Shape := ⟨2, ![504, 768]⟩
abbrev S1x768 : Shape := ⟨2, ![1, 768]⟩
abbrev S512x128 : Shape := ⟨2, ![512, 128]⟩
abbrev S256x256 : Shape := ⟨2, ![256, 256]⟩
abbrev S2x10x256 : Shape := ⟨3, ![2, 10, 256]⟩
abbrev S2x11x768 : Shape := ⟨3, ![2, 11, 768]⟩
abbrev S2x8192x4x64 : Shape := ⟨4, ![2, 8192, 4, 64]⟩
abbrev S2x8192x8 : Shape := ⟨3, ![2, 8192, 8]⟩

abbrev nBuf : Space → Nat
  | .hbm => 65
  | .vmem => 41
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S2x1024x2824, .f32⟩
  | .hbm, ⟨3, _⟩ => ⟨S2x2x256, .f32⟩
  | .hbm, ⟨4, _⟩ => ⟨S2x3x768, .f32⟩
  | .hbm, ⟨5, _⟩ => ⟨S2x3x256, .f32⟩
  | .hbm, ⟨6, _⟩ => ⟨S2x4x768, .f32⟩
  | .hbm, ⟨7, _⟩ => ⟨S2x4, .f32⟩
  | .hbm, ⟨8, _⟩ => ⟨S2x4, .f32⟩
  | .hbm, ⟨9, _⟩ => ⟨S_, .f32⟩
  | .hbm, ⟨10, _⟩ => ⟨S2x1024x120, .f32⟩
  | .hbm, ⟨11, _⟩ => ⟨S2x1024x2048, .f32⟩
  | .hbm, ⟨12, _⟩ => ⟨S2x1024x8, .f32⟩
  | .hbm, ⟨13, _⟩ => ⟨S2x1024x768, .f32⟩
  | .hbm, ⟨14, _⟩ => ⟨S2x1024x2944, .f32⟩
  | .hbm, ⟨15, _⟩ => ⟨S2x1024x2944, .bf16⟩
  | .hbm, ⟨16, _⟩ => ⟨S1x3x256, .f32⟩
  | .hbm, ⟨17, _⟩ => ⟨S3x256, .f32⟩
  | .hbm, ⟨18, _⟩ => ⟨S1x4x768, .f32⟩
  | .hbm, ⟨19, _⟩ => ⟨S4x768, .f32⟩
  | .hbm, ⟨20, _⟩ => ⟨S1x4, .f32⟩
  | .hbm, ⟨21, _⟩ => ⟨S4, .f32⟩
  | .hbm, ⟨22, _⟩ => ⟨S_, .f32⟩
  | .hbm, ⟨23, _⟩ => ⟨S1x128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S1x4, .f32⟩
  | .hbm, ⟨31, _⟩ => ⟨S4, .f32⟩
  | .hbm, ⟨32, _⟩ => ⟨S_, .f32⟩
  | .hbm, ⟨33, _⟩ => ⟨S1x128, .f32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S1, .i32⟩
  | .hbm, ⟨38, _⟩ => ⟨S2, .i32⟩
  | .hbm, ⟨39, _⟩ => ⟨S1x128, .f32⟩
  | .hbm, ⟨40, _⟩ => ⟨S_, .i32⟩
  | .hbm, ⟨41, _⟩ => ⟨S_, .f32⟩
  | .hbm, ⟨42, _⟩ => ⟨S2x8x256, .f32⟩
  | .hbm, ⟨43, _⟩ => ⟨S_, .i32⟩
  | .hbm, ⟨44, _⟩ => ⟨S_, .f32⟩
  | .hbm, ⟨45, _⟩ => ⟨S2x8x768, .f32⟩
  | .hbm, ⟨46, _⟩ => ⟨S2x8192x256, .f32⟩
  | .hbm, ⟨47, _⟩ => ⟨S2x8192x256, .f32⟩
  | .hbm, ⟨48, _⟩ => ⟨S2x8192x256, .f32⟩
  | .hbm, ⟨49, _⟩ => ⟨S2x8192x256, .f32⟩
  | .hbm, ⟨50, _⟩ => ⟨S2x4x8192x64, .bf16⟩
  | .hbm, ⟨51, _⟩ => ⟨S2x4x8192x64, .bf16⟩
  | .hbm, ⟨52, _⟩ => ⟨S2x4x8192x64, .bf16⟩
  | .hbm, ⟨53, _⟩ => ⟨S2x8192x256, .bf16⟩
  | .hbm, ⟨54, _⟩ => ⟨S2x8192x768, .f32⟩
  | .hbm, ⟨55, _⟩ => ⟨S2x8192x128, .f32⟩
  | .hbm, ⟨56, _⟩ => ⟨S2x8x256, .f32⟩
  | .hbm, ⟨57, _⟩ => ⟨S2x8x768, .f32⟩
  | .hbm, ⟨58, _⟩ => ⟨S2x10x256, .f32⟩
  | .hbm, ⟨59, _⟩ => ⟨S2x2x256, .f32⟩
  | .hbm, ⟨60, _⟩ => ⟨S2x11x768, .f32⟩
  | .hbm, ⟨61, _⟩ => ⟨S2x3x768, .f32⟩
  | .hbm, ⟨62, _⟩ => ⟨S2x8192x4x64, .f32⟩
  | .hbm, ⟨63, _⟩ => ⟨S2x8192x4x64, .f32⟩
  | .hbm, ⟨64, _⟩ => ⟨S2x8192x8, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x2944, .bf16⟩
  | .local _ .vmem, ⟨7, _⟩ => ⟨S1x8x256, .f32⟩
  | .local _ .vmem, ⟨8, _⟩ => ⟨S1x8x256, .f32⟩
  | .local _ .vmem, ⟨9, _⟩ => ⟨S1x8x768, .f32⟩
  | .local _ .vmem, ⟨10, _⟩ => ⟨S1x8x768, .f32⟩
  | .local _ .vmem, ⟨11, _⟩ => ⟨S3x256, .f32⟩
  | .local _ .vmem, ⟨12, _⟩ => ⟨S4x768, .f32⟩
  | .local _ .vmem, ⟨13, _⟩ => ⟨S1x128, .f32⟩
  | .local _ .vmem, ⟨14, _⟩ => ⟨S1x128, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x4x512x64, .bf16⟩
  | .local _ .vmem, ⟨24, _⟩ => ⟨S1x4x512x64, .bf16⟩
  | .local _ .vmem, ⟨25, _⟩ => ⟨S1x4x512x64, .bf16⟩
  | .local _ .vmem, ⟨26, _⟩ => ⟨S1x4x512x64, .bf16⟩
  | .local _ .vmem, ⟨27, _⟩ => ⟨S1x4x512x64, .bf16⟩
  | .local _ .vmem, ⟨28, _⟩ => ⟨S1x4x512x64, .bf16⟩
  | .local _ .vmem, ⟨29, _⟩ => ⟨S1x512x256, .bf16⟩
  | .local _ .vmem, ⟨30, _⟩ => ⟨S1x512x256, .bf16⟩
  | .local _ .vmem, ⟨31, _⟩ => ⟨S1x512x768, .f32⟩
  | .local _ .vmem, ⟨32, _⟩ => ⟨S1x512x768, .f32⟩
  | .local _ .vmem, ⟨33, _⟩ => ⟨S1x512x128, .f32⟩
  | .local _ .vmem, ⟨34, _⟩ => ⟨S1x512x128, .f32⟩
  | .local _ .vmem, ⟨35, _⟩ => ⟨S1x8x256, .f32⟩
  | .local _ .vmem, ⟨36, _⟩ => ⟨S1x8x256, .f32⟩
  | .local _ .vmem, ⟨37, _⟩ => ⟨S1x8x768, .f32⟩
  | .local _ .vmem, ⟨38, _⟩ => ⟨S1x8x768, .f32⟩
  | .local _ .vmem, ⟨39, _⟩ => ⟨S8x256, .f32⟩
  | .local _ .vmem, ⟨40, _⟩ => ⟨S8x768, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_call0_v0 : Ref sig .tc := ⟨.hbm, 41, rfl⟩
abbrev main_v24 : Ref sig .tc := ⟨.hbm, 42, rfl⟩
abbrev main_c_6 : Ref sig .tc := ⟨.hbm, 43, rfl⟩
abbrev main_call1_v0 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_v26_2 : Ref sig .tc := ⟨.hbm, 48, rfl⟩
abbrev main_v26_3 : Ref sig .tc := ⟨.hbm, 49, rfl⟩
abbrev main_v26_4 : Ref sig .tc := ⟨.hbm, 50, rfl⟩
abbrev main_v26_5 : Ref sig .tc := ⟨.hbm, 51, rfl⟩
abbrev main_v26_6 : Ref sig .tc := ⟨.hbm, 52, rfl⟩
abbrev main_v26_7 : Ref sig .tc := ⟨.hbm, 53, rfl⟩
abbrev main_v26_8 : Ref sig .tc := ⟨.hbm, 54, rfl⟩
abbrev main_v26_9 : Ref sig .tc := ⟨.hbm, 55, rfl⟩
abbrev main_v26_10 : Ref sig .tc := ⟨.hbm, 56, rfl⟩
abbrev main_v26_11 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x768 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x8x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== Reference3Ideal.lean ====
abbrev S2x8192x1024 : Shape := ⟨3, ![2, 8192, 1024]⟩
abbrev S2x1x6144 : Shape := ⟨3, ![2, 1, 6144]⟩
abbrev S2x1024x2824 : Shape := ⟨3, ![2, 1024, 2824]⟩
abbrev S2x2x256 : Shape := ⟨3, ![2, 2, 256]⟩
abbrev S2x3x768 : Shape := ⟨3, ![2, 3, 768]⟩
abbrev S2x3x256 : Shape := ⟨3, ![2, 3, 256]⟩
abbrev S2x4x768 : Shape := ⟨3, ![2, 4, 768]⟩
abbrev S2x4 : Shape := ⟨2, ![2, 4]⟩
abbrev S1x1024x2824 : Shape := ⟨3, ![1, 1024, 2824]⟩
abbrev S1024x2824 : Shape := ⟨2, ![1024, 2824]⟩
abbrev S1x3x256 : Shape := ⟨3, ![1, 3, 256]⟩
abbrev S3x256 : Shape := ⟨2, ![3, 256]⟩
abbrev S1x4x768 : Shape := ⟨3, ![1, 4, 768]⟩
abbrev S4x768 : Shape := ⟨2, ![4, 768]⟩
abbrev S1x4 : Shape := ⟨2, ![1, 4]⟩
abbrev S4 : Shape := ⟨1, ![4]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S2x8192x2824 : Shape := ⟨3, ![2, 8192, 2824]⟩
abbrev S2x8192x256 : Shape := ⟨3, ![2, 8192, 256]⟩
abbrev S2x8192x768 : Shape := ⟨3, ![2, 8192, 768]⟩
abbrev S2x8192x4 : Shape := ⟨3, ![2, 8192, 4]⟩
abbrev S2x8192x4x64 : Shape := ⟨4, ![2, 8192, 4, 64]⟩
abbrev S2x8194x256 : Shape := ⟨3, ![2, 8194, 256]⟩
abbrev S1x256 : Shape := ⟨2, ![1, 256]⟩
abbrev S256 : Shape := ⟨1, ![256]⟩
abbrev S1x1x256 : Shape := ⟨3, ![1, 1, 256]⟩
abbrev S2x8195x768 : Shape := ⟨3, ![2, 8195, 768]⟩
abbrev S1x768 : Shape := ⟨2, ![1, 768]⟩
abbrev S768 : Shape := ⟨1, ![768]⟩
abbrev S1x1x768 : Shape := ⟨3, ![1, 1, 768]⟩
abbrev S2x8192x4x1 : Shape := ⟨4, ![2, 8192, 4, 1]⟩
abbrev S1x1x4 : Shape := ⟨3, ![1, 1, 4]⟩
abbrev S2x8192x8 : Shape := ⟨3, ![2, 8192, 8]⟩
abbrev S2x4x8192x64 : Shape := ⟨4, ![2, 4, 8192, 64]⟩

abbrev nBuf : Space → Nat
  | .hbm => 203
  | .vmem => 0
  | .smem => 0
  | _ => 0

abbrev hbmTy0_0 (i : Nat) : BufTy := match i % 128 with
  | 0 => ⟨S2x8192x1024, .f32⟩
  | 1 => ⟨S2x1x6144, .f32⟩
  | 2 => ⟨S2x1024x2824, .f32⟩
  | 3 => ⟨S2x2x256, .f32⟩
  | 4 => ⟨S2x3x768, .f32⟩
  | 5 => ⟨S2x3x256, .f32⟩
  | 6 => ⟨S2x4x768, .f32⟩
  | 7 => ⟨S2x4, .f32⟩
  | 8 => ⟨S2x4, .f32⟩
  | 9 => ⟨S1x1024x2824, .f32⟩
  | 10 => ⟨S1024x2824, .f32⟩
  | 11 => ⟨S1x3x256, .f32⟩
  | 12 => ⟨S3x256, .f32⟩
  | 13 => ⟨S1x4x768, .f32⟩
  | 14 => ⟨S4x768, .f32⟩
  | 15 => ⟨S1x4, .f32⟩
  | 16 => ⟨S4, .f32⟩
  | 17 => ⟨S1x4, .f32⟩
  | 18 => ⟨S4, .f32⟩
  | 19 => ⟨S2x1x1024, .f32⟩
  | 20 => ⟨S2x1x1024, .f32⟩
  | 21 => ⟨S2x1x1024, .f32⟩
  | 22 => ⟨S2x1x1024, .f32⟩
  | 23 => ⟨S2x1x1024, .f32⟩
  | 24 => ⟨S2x1x1024, .f32⟩
  | 25 => ⟨S_, .f32⟩
  | 26 => ⟨S2x8192, .f32⟩
  | 27 => ⟨S2x8192x1, .f32⟩
  | 28 => ⟨S_, .f32⟩
  | 29 => ⟨S2x8192x1, .f32⟩
  | 30 => ⟨S2x8192x1, .f32⟩
  | 31 => ⟨S2x8192x1024, .f32⟩
  | 32 => ⟨S2x8192x1024, .f32⟩
  | 33 => ⟨S2x8192x1024, .f32⟩
  | 34 => ⟨S_, .f32⟩
  | 35 => ⟨S2x8192, .f32⟩
  | 36 => ⟨S2x8192x1, .f32⟩
  | 37 => ⟨S_, .f32⟩
  | 38 => ⟨S2x8192x1, .f32⟩
  | 39 => ⟨S2x8192x1, .f32⟩
  | 40 => ⟨S2x8192x1024, .f32⟩
  | 41 => ⟨S2x8192x1024, .f32⟩
  | 42 => ⟨S_, .f32⟩
  | 43 => ⟨S2x8192x1, .f32⟩
  | 44 => ⟨S2x8192x1, .f32⟩
  | 45 => ⟨S2x8192x1, .f32⟩
  | 46 => ⟨S2x8192x1024, .f32⟩
  | 47 => ⟨S2x8192x1024, .f32⟩
  | 48 => ⟨S_, .f32⟩
  | 49 => ⟨S2x1x1024, .f32⟩
  | 50 => ⟨S2x1x1024, .f32⟩
  | 51 => ⟨S2x8192x1024, .f32⟩
  | 52 => ⟨S2x8192x1024, .f32⟩
  | 53 => ⟨S2x8192x1024, .f32⟩
  | 54 => ⟨S2x8192x1024, .f32⟩
  | 55 => ⟨S2x8192x2824, .f32⟩
  | 56 => ⟨S2x8192x256, .f32⟩
  | 57 => ⟨S2x8192x256, .f32⟩
  | 58 => ⟨S2x8192x256, .f32⟩
  | 59 => ⟨S2x8192x256, .f32⟩
  | 60 => ⟨S2x8192x768, .f32⟩
  | 61 => ⟨S2x8192x256, .f32⟩
  | 62 => ⟨S2x8192x4, .f32⟩
  | 63 => ⟨S2x8192x4, .f32⟩
  | 64 => ⟨S2x8192x256, .f32⟩
  | 65 => ⟨S2x8192x4x64, .f32⟩
  | 66 => ⟨S2x8192x256, .f32⟩
  | 67 => ⟨S2x8192x4x64, .f32⟩
  | 68 => ⟨S2x8192x256, .f32⟩
  | 69 => ⟨S2x8192x4x64, .f32⟩
  | 70 => ⟨S2x8192x256, .f32⟩
  | 71 => ⟨S2x8194x256, .f32⟩
  | 72 => ⟨S2x8192x256, .f32⟩
  | 73 => ⟨S1x256, .f32⟩
  | 74 => ⟨S256, .f32⟩
  | 75 => ⟨S1x1x256, .f32⟩
  | 76 => ⟨S2x8192x256, .f32⟩
  | 77 => ⟨S2x8192x256, .f32⟩
  | 78 => ⟨S2x8192x256, .f32⟩
  | 79 => ⟨S1x256, .f32⟩
  | 80 => ⟨S256, .f32⟩
  | 81 => ⟨S1x1x256, .f32⟩
  | 82 => ⟨S2x8192x256, .f32⟩
  | 83 => ⟨S2x8192x256, .f32⟩
  | 84 => ⟨S2x8192x256, .f32⟩
  | 85 => ⟨S2x8192x256, .f32⟩
  | 86 => ⟨S1x256, .f32⟩
  | 87 => ⟨S256, .f32⟩
  | 88 => ⟨S1x1x256, .f32⟩
  | 89 => ⟨S2x8192x256, .f32⟩
  | 90 => ⟨S2x8192x256, .f32⟩
  | 91 => ⟨S2x8192x256, .f32⟩
  | 92 => ⟨S2x2x256, .f32⟩
  | 93 => ⟨S2x8192x256, .f32⟩
  | 94 => ⟨S2x8195x768, .f32⟩
  | 95 => ⟨S2x8192x768, .f32⟩
  | 96 => ⟨S1x768, .f32⟩
  | 97 => ⟨S768, .f32⟩
  | 98 => ⟨S1x1x768, .f32⟩
  | 99 => ⟨S2x8192x768, .f32⟩
  | 100 => ⟨S2x8192x768, .f32⟩
  | 101 => ⟨S2x8192x768, .f32⟩
  | 102 => ⟨S1x768, .f32⟩
  | 103 => ⟨S768, .f32⟩
  | 104 => ⟨S1x1x768, .f32⟩
  | 105 => ⟨S2x8192x768, .f32⟩
  | 106 => ⟨S2x8192x768, .f32⟩
  | 107 => ⟨S2x8192x768, .f32⟩
  | 108 => ⟨S2x8192x768, .f32⟩
  | 109 => ⟨S1x768, .f32⟩
  | 110 => ⟨S768, .f32⟩
  | 111 => ⟨S1x1x768, .f32⟩
  | 112 => ⟨S2x8192x768, .f32⟩
  | 113 => ⟨S2x8192x768, .f32⟩
  | 114 => ⟨S2x8192x768, .f32⟩
  | 115 => ⟨S2x8192x768, .f32⟩
  | 116 => ⟨S1x768, .f32⟩
  | 117 => ⟨S768, .f32⟩
  | 118 => ⟨S1x1x768, .f32⟩
  | 119 => ⟨S2x8192x768, .f32⟩
  | 120 => ⟨S2x8192x768, .f32⟩
  | 121 => ⟨S2x8192x768, .f32⟩
  | 122 => ⟨S2x3x768, .f32⟩
  | 123 => ⟨S2x8192x768, .f32⟩
  | 124 => ⟨S2x8192x768, .f32⟩
  | 125 => ⟨S_, .f32⟩
  | 126 => ⟨S2x8192x768, .f32⟩
  | 127 => ⟨S2x8192x768, .f32⟩
  | _ => ⟨S2x8192x1024, .f32⟩

abbrev hbmTy0_1 (i : Nat) : BufTy := match i % 128 with
  | 0 => ⟨S_, .f32⟩
  | 1 => ⟨S2x8192x768, .f32⟩
  | 2 => ⟨S2x8192x768, .f32⟩
  | 3 => ⟨S2x8192x768, .f32⟩
  | 4 => ⟨S2x8192x256, .f32⟩
  | 5 => ⟨S2x8192x4x64, .f32⟩
  | 6 => ⟨S2x8192x4x64, .f32⟩
  | 7 => ⟨S_, .f32⟩
  | 8 => ⟨S2x8192x4, .f32⟩
  | 9 => ⟨S2x8192x4x1, .f32⟩
  | 10 => ⟨S_, .f32⟩
  | 11 => ⟨S2x8192x4x1, .f32⟩
  | 12 => ⟨S2x8192x4x1, .f32⟩
  | 13 => ⟨S2x8192x4x1, .f32⟩
  | 14 => ⟨S2x8192x4x64, .f32⟩
  | 15 => ⟨S2x8192x4x64, .f32⟩
  | 16 => ⟨S_, .f32⟩
  | 17 => ⟨S2x8192x4x64, .f32⟩
  | 18 => ⟨S2x8192x4x64, .f32⟩
  | 19 => ⟨S2x8192x256, .f32⟩
  | 20 => ⟨S2x8192x4x64, .f32⟩
  | 21 => ⟨S2x8192x4x64, .f32⟩
  | 22 => ⟨S_, .f32⟩
  | 23 => ⟨S2x8192x4, .f32⟩
  | 24 => ⟨S2x8192x4x1, .f32⟩
  | 25 => ⟨S_, .f32⟩
  | 26 => ⟨S2x8192x4x1, .f32⟩
  | 27 => ⟨S2x8192x4x1, .f32⟩
  | 28 => ⟨S2x8192x4x1, .f32⟩
  | 29 => ⟨S2x8192x4x64, .f32⟩
  | 30 => ⟨S2x8192x4x64, .f32⟩
  | 31 => ⟨S2x8192x256, .f32⟩
  | 32 => ⟨S2x8192x4x64, .f32⟩
  | 33 => ⟨S2x8192x4, .f32⟩
  | 34 => ⟨S2x8192x4, .f32⟩
  | 35 => ⟨S_, .f32⟩
  | 36 => ⟨S2x8192x4, .f32⟩
  | 37 => ⟨S2x8192x4, .f32⟩
  | 38 => ⟨S_, .f32⟩
  | 39 => ⟨S2x8192x4, .f32⟩
  | 40 => ⟨S2x8192x4, .f32⟩
  | 41 => ⟨S4, .f32⟩
  | 42 => ⟨S4, .f32⟩
  | 43 => ⟨S1x1x4, .f32⟩
  | 44 => ⟨S2x8192x4, .f32⟩
  | 45 => ⟨S2x8192x4, .f32⟩
  | 46 => ⟨S_, .f32⟩
  | 47 => ⟨S2x8192x4, .f32⟩
  | 48 => ⟨S2x8192x4, .f32⟩
  | 49 => ⟨S2x8192x4, .f32⟩
  | 50 => ⟨S2x8192x4, .f32⟩
  | 51 => ⟨S2x8192x4, .i1⟩
  | 52 => ⟨S2x8192x4, .f32⟩
  | 53 => ⟨S2x8192x4, .f32⟩
  | 54 => ⟨S2x8192x4, .f32⟩
  | 55 => ⟨S2x8192x4, .f32⟩
  | 56 => ⟨S2x8192x4, .f32⟩
  | 57 => ⟨S2x8192x4, .f32⟩
  | 58 => ⟨S2x8192x4, .f32⟩
  | 59 => ⟨S2x8192x4, .f32⟩
  | 60 => ⟨S1x1x4, .f32⟩
  | 61 => ⟨S2x8192x4, .f32⟩
  | 62 => ⟨S2x8192x4, .f32⟩
  | 63 => ⟨S2x8192x256, .f32⟩
  | 64 => ⟨S2x8192x256, .f32⟩
  | 65 => ⟨S2x8192x256, .f32⟩
  | 66 => ⟨S2x8192x768, .f32⟩
  | 67 => ⟨S2x8192x8, .f32⟩
  | 68 => ⟨S2x4x8192x64, .f32⟩
  | 69 => ⟨S2x4x8192x64, .bf16⟩
  | 70 => ⟨S2x4x8192x64, .f32⟩
  | 71 => ⟨S2x4x8192x64, .bf16⟩
  | 72 => ⟨S2x4x8192x64, .f32⟩
  | 73 => ⟨S2x4x8192x64, .bf16⟩
  | 74 => ⟨S2x8192x256, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_call0_v0 : Ref sig .tc := ⟨.hbm, 123, rfl⟩
abbrev main_call0_v1 : Ref sig .tc := ⟨.hbm, 124, rfl⟩
abbrev main_call0_cst : Ref sig .tc := ⟨.hbm, 125, rfl⟩
abbrev main_call0_v2 : Ref sig .tc := ⟨.hbm, 126, rfl⟩
abbrev main_call0_v3 : Ref sig .tc := ⟨.hbm, 127, rfl⟩
abbrev main_call0_cst_0 : Ref sig .tc := ⟨.hbm, 128, rfl⟩
abbrev main_call0_v4 : Ref sig .tc := ⟨.hbm, 129, rfl⟩
abbrev main_call0_v5 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_5 : Ref sig .tc := ⟨.hbm, 135, rfl⟩
abbrev main_v112 : Ref sig .tc := ⟨.hbm, 136, rfl⟩
abbrev main_v113 : Ref sig .tc := ⟨.hbm, 137, rfl⟩
abbrev main_cst_6 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_7 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_cst_8 : Ref sig .tc := ⟨.hbm, 150, rfl⟩
abbrev main_v124 : Ref sig .tc := ⟨.hbm, 151, rfl⟩
abbrev main_v125 : Ref sig .tc := ⟨.hbm, 152, rfl⟩
abbrev main_cst_9 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_10 : Ref sig .tc := ⟨.hbm, 163, rfl⟩
abbrev main_v135 : Ref sig .tc := ⟨.hbm, 164, rfl⟩
abbrev main_v136 : Ref sig .tc := ⟨.hbm, 165, rfl⟩
abbrev main_cst_11 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_call1_cst : Ref sig .tc := ⟨.hbm, 174, rfl⟩
abbrev main_call1_v0 : Ref sig .tc := ⟨.hbm, 175, rfl⟩
abbrev main_call1_v1 : Ref sig .tc := ⟨.hbm, 176, rfl⟩
abbrev main_call1_v2 : Ref sig .tc := ⟨.hbm, 177, rfl⟩
abbrev main_call1_v3 : Ref sig .tc := ⟨.hbm, 178, rfl⟩
abbrev main_call1_v4 : Ref sig .tc := ⟨.hbm, 179, rfl⟩
abbrev main_call1_v5 : Ref sig .tc := ⟨.hbm, 180, rfl⟩
abbrev main_call1_v6 : Ref sig .tc := ⟨.hbm, 181, rfl⟩
abbrev main_call1_v7 : Ref sig .tc := ⟨.hbm, 182, rfl⟩
abbrev main_call1_v8 : Ref sig .tc := ⟨.hbm, 183, rfl⟩
abbrev main_call1_v9 : Ref sig .tc := ⟨.hbm, 184, rfl⟩
abbrev main_call1_v10 : Ref sig .tc := ⟨.hbm, 185, rfl⟩
abbrev main_call1_v11 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩

abbrev nD : Nat := 1
abbrev τ : Topo := Topo.v7x

variable {F : FTy → Type} [FloatOps F]
-- ==== Kernel4.lean ====
abbrev S128x4x1024 : Shape := ⟨3, ![128, 4, 1024]⟩
abbrev S128x1x6144 : Shape := ⟨3, ![128, 1, 6144]⟩
abbrev S2x1024x2824 : Shape := ⟨3, ![2, 1024, 2824]⟩
abbrev S128x3x768 : Shape := ⟨3, ![128, 3, 768]⟩
abbrev S4x128x1024 : Shape := ⟨3, ![4, 128, 1024]⟩
abbrev S1x512x1024 : Shape := ⟨3, ![1, 512, 1024]⟩
abbrev S128x6144 : Shape := ⟨2, ![128, 6144]⟩
abbrev S1x128x1x6144 : Shape := ⟨4, ![1, 128, 1, 6144]⟩
abbrev S4x128x1x6144 : Shape := ⟨4, ![4, 128, 1, 6144]⟩
abbrev S512x6144 : Shape := ⟨2, ![512, 6144]⟩
abbrev S1x512x6144 : Shape := ⟨3, ![1, 512, 6144]⟩
abbrev S_ : Shape := ⟨0, ![]⟩
abbrev S2x1024x120 : Shape := ⟨3, ![2, 1024, 120]⟩
abbrev S2x1024x2048 : Shape := ⟨3, ![2, 1024, 2048]⟩
abbrev S2x1024x8 : Shape := ⟨3, ![2, 1024, 8]⟩
abbrev S2x1024x768 : Shape := ⟨3, ![2, 1024, 768]⟩
abbrev S2x1024x2944 : Shape := ⟨3, ![2, 1024, 2944]⟩
abbrev S1x512x256 : Shape := ⟨3, ![1, 512, 256]⟩
abbrev S1x512x768 : Shape := ⟨3, ![1, 512, 768]⟩
abbrev S1x512x128 : Shape := ⟨3, ![1, 512, 128]⟩
abbrev S1x1024x2944 : Shape := ⟨3, ![1, 1024, 2944]⟩
abbrev S512x1024 : Shape := ⟨2, ![512, 1024]⟩
abbrev S512 : Shape := ⟨1, ![512]⟩
abbrev S512x1 : Shape := ⟨2, ![512, 1]⟩
abbrev S1024x2944 : Shape := ⟨2, ![1024, 2944]⟩
abbrev S512x2944 : Shape := ⟨2, ![512, 2944]⟩
abbrev S512x256 : Shape := ⟨2, ![512, 256]⟩
abbrev S512x768 : Shape := ⟨2, ![512, 768]⟩
abbrev S512x128 : Shape := ⟨2, ![512, 128]⟩
abbrev S4x128x768 : Shape := ⟨3, ![4, 128, 768]⟩
abbrev S128x4x768 : Shape := ⟨3, ![128, 4, 768]⟩
abbrev S128x7x768 : Shape := ⟨3, ![128, 7, 768]⟩
abbrev S4x128x256 : Shape := ⟨3, ![4, 128, 256]⟩
abbrev S128x4x256 : Shape := ⟨3, ![128, 4, 256]⟩
abbrev S4x128x128 : Shape := ⟨3, ![4, 128, 128]⟩
abbrev S128x4x128 : Shape := ⟨3, ![128, 4, 128]⟩
abbrev S128x4x8 : Shape := ⟨3, ![128, 4, 8]⟩
abbrev S128x4x4x64 : Shape := ⟨4, ![128, 4, 4, 64]⟩

abbrev nBuf : Space → Nat
  | .hbm => 56
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S128x1x6144, .f32⟩
  | .hbm, ⟨2, _⟩ => ⟨S2x1024x2824, .f32⟩
  | .hbm, ⟨3, _⟩ => ⟨S128x3x768, .f32⟩
  | .hbm, ⟨4, _⟩ => ⟨S4x128x1024, .f32⟩
  | .hbm, ⟨5, _⟩ => ⟨S1x512x1024, .f32⟩
  | .hbm, ⟨6, _⟩ => ⟨S128x6144, .f32⟩
  | .hbm, ⟨7, _⟩ => ⟨S1x128x1x6144, .f32⟩
  | .hbm, ⟨8, _⟩ => ⟨S4x128x1x6144, .f32⟩
  | .hbm, ⟨9, _⟩ => ⟨S512x6144, .f32⟩
  | .hbm, ⟨10, _⟩ => ⟨S1x512x6144, .f32⟩
  | .hbm, ⟨11, _⟩ => ⟨S_, .f32⟩
  | .hbm, ⟨12, _⟩ => ⟨S2x1024x120, .f32⟩
  | .hbm, ⟨13, _⟩ => ⟨S2x1024x2048, .f32⟩
  | .hbm, ⟨14, _⟩ => ⟨S2x1024x8, .f32⟩
  | .hbm, ⟨15, _⟩ => ⟨S2x1024x768, .f32⟩
  | .hbm, ⟨16, _⟩ => ⟨S2x1024x2944, .f32⟩
  | .hbm, ⟨17, _⟩ => ⟨S2x1024x2944, .bf16⟩
  | .hbm, ⟨18, _⟩ => ⟨S1x512x256, .f32⟩
  | .hbm, ⟨19, _⟩ => ⟨S1x512x768, .f32⟩
  | .hbm, ⟨20, _⟩ => ⟨S1x512x768, .f32⟩
  | .hbm, ⟨21, _⟩ => ⟨S1x512x256, .f32⟩
  | .hbm, ⟨22, _⟩ => ⟨S1x512x128, .f32⟩
  | .hbm, ⟨23, _⟩ => ⟨S1x512x256, .f32⟩
  | .hbm, ⟨24, _⟩ => ⟨S1x512x256, .f32⟩
  | .hbm, ⟨25, _⟩ => ⟨S1x512x256, .f32⟩
  | .hbm, ⟨26, _⟩ => ⟨S512x256, .f32⟩
  | .hbm, ⟨27, _⟩ => ⟨S512x768, .f32⟩
  | .hbm, ⟨28, _⟩ => ⟨S512x768, .f32⟩
  | .hbm, ⟨29, _⟩ => ⟨S512x256, .f32⟩
  | .hbm, ⟨30, _⟩ => ⟨S512x128, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S4x128x768, .f32⟩
  | .hbm, ⟨35, _⟩ => ⟨S128x4x768, .f32⟩
  | .hbm, ⟨36, _⟩ => ⟨S128x7x768, .f32⟩
  | .hbm, ⟨37, _⟩ => ⟨S128x3x768, .f32⟩
  | .hbm, ⟨38, _⟩ => ⟨S4x128x256, .f32⟩
  | .hbm, ⟨39, _⟩ => ⟨S128x4x256, .f32⟩
  | .hbm, ⟨40, _⟩ => ⟨S4x128x768, .f32⟩
  | .hbm, ⟨41, _⟩ => ⟨S128x4x768, .f32⟩
  | .hbm, ⟨42, _⟩ => ⟨S4x128x256, .f32⟩
  | .hbm, ⟨43, _⟩ => ⟨S128x4x256, .f32⟩
  | .hbm, ⟨44, _⟩ => ⟨S4x128x128, .f32⟩
  | .hbm, ⟨45, _⟩ => ⟨S128x4x128, .f32⟩
  | .hbm, ⟨46, _⟩ => ⟨S128x4x8, .f32⟩
  | .hbm, ⟨47, _⟩ => ⟨S4x128x256, .f32⟩
  | .hbm, ⟨48, _⟩ => ⟨S128x4x256, .f32⟩
  | .hbm, ⟨49, _⟩ => ⟨S128x4x4x64, .f32⟩
  | .hbm, ⟨50, _⟩ => ⟨S4x128x256, .f32⟩
  | .hbm, ⟨51, _⟩ => ⟨S128x4x256, .f32⟩
  | .hbm, ⟨52, _⟩ => ⟨S128x4x4x64, .f32⟩
  | .hbm, ⟨53, _⟩ => ⟨S4x128x256, .f32⟩
  | .hbm, ⟨54, _⟩ => ⟨S128x4x256, .f32⟩
  | .hbm, ⟨55, _⟩ => ⟨S128x4x4x64, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x1024x2944, .bf16⟩
  | .local _ .vmem, ⟨4, _⟩ => ⟨S1x512x256, .f32⟩
  | .local _ .vmem, ⟨5, _⟩ => ⟨S1x512x768, .f32⟩
  | .local _ .vmem, ⟨6, _⟩ => ⟨S1x512x768, .f32⟩
  | .local _ .vmem, ⟨7, _⟩ => ⟨S1x512x256, .f32⟩
  | .local _ .vmem, ⟨8, _⟩ => ⟨S1x512x128, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev main_v13_4 : Ref sig .tc := ⟨.hbm, 22, rfl⟩
abbrev main_v13_5 : Ref sig .tc := ⟨.hbm, 23, rfl⟩
abbrev main_v13_6 : Ref sig .tc := ⟨.hbm, 24, rfl⟩
abbrev main_v13_7 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== Reference4Ideal.lean ====
abbrev S128x4x1024 : Shape := ⟨3, ![128, 4, 1024]⟩
abbrev S128x1x6144 : Shape := ⟨3, ![128, 1, 6144]⟩
abbrev S2x1024x2824 : Shape := ⟨3, ![2, 1024, 2824]⟩
abbrev S128x3x768 : Shape := ⟨3, ![128, 3, 768]⟩
abbrev S1x1024x2824 : Shape := ⟨3, ![1, 1024, 2824]⟩
abbrev S1024x2824 : Shape := ⟨2, ![1024, 2824]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S128x4x2824 : Shape := ⟨3, ![128, 4, 2824]⟩
abbrev S128x4x256 : Shape := ⟨3, ![128, 4, 256]⟩
abbrev S128x4x768 : Shape := ⟨3, ![128, 4, 768]⟩
abbrev S128x4x8 : Shape := ⟨3, ![128, 4, 8]⟩
abbrev S128x4x4x64 : Shape := ⟨4, ![128, 4, 4, 64]⟩
abbrev S128x7x768 : Shape := ⟨3, ![128, 7, 768]⟩

abbrev nBuf : Space → Nat
  | .hbm => 56
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x1x6144, .f32⟩
  | .hbm, ⟨2, _⟩ => ⟨S2x1024x2824, .f32⟩
  | .hbm, ⟨3, _⟩ => ⟨S128x3x768, .f32⟩
  | .hbm, ⟨4, _⟩ => ⟨S1x1024x2824, .f32⟩
  | .hbm, ⟨5, _⟩ => ⟨S1024x2824, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S_, .f32⟩
  | .hbm, ⟨13, _⟩ => ⟨S128x4, .f32⟩
  | .hbm, ⟨14, _⟩ => ⟨S128x4x1, .f32⟩
  | .hbm, ⟨15, _⟩ => ⟨S_, .f32⟩
  | .hbm, ⟨16, _⟩ => ⟨S128x4x1, .f32⟩
  | .hbm, ⟨17, _⟩ => ⟨S128x4x1, .f32⟩
  | .hbm, ⟨18, _⟩ => ⟨S128x4x1024, .f32⟩
  | .hbm, ⟨19, _⟩ => ⟨S128x4x1024, .f32⟩
  | .hbm, ⟨20, _⟩ => ⟨S128x4x1024, .f32⟩
  | .hbm, ⟨21, _⟩ => ⟨S_, .f32⟩
  | .hbm, ⟨22, _⟩ => ⟨S128x4, .f32⟩
  | .hbm, ⟨23, _⟩ => ⟨S128x4x1, .f32⟩
  | .hbm, ⟨24, _⟩ => ⟨S_, .f32⟩
  | .hbm, ⟨25, _⟩ => ⟨S128x4x1, .f32⟩
  | .hbm, ⟨26, _⟩ => ⟨S128x4x1, .f32⟩
  | .hbm, ⟨27, _⟩ => ⟨S128x4x1024, .f32⟩
  | .hbm, ⟨28, _⟩ => ⟨S128x4x1024, .f32⟩
  | .hbm, ⟨29, _⟩ => ⟨S_, .f32⟩
  | .hbm, ⟨30, _⟩ => ⟨S128x4x1, .f32⟩
  | .hbm, ⟨31, _⟩ => ⟨S128x4x1, .f32⟩
  | .hbm, ⟨32, _⟩ => ⟨S128x4x1, .f32⟩
  | .hbm, ⟨33, _⟩ => ⟨S128x4x1024, .f32⟩
  | .hbm, ⟨34, _⟩ => ⟨S128x4x1024, .f32⟩
  | .hbm, ⟨35, _⟩ => ⟨S_, .f32⟩
  | .hbm, ⟨36, _⟩ => ⟨S128x1x1024, .f32⟩
  | .hbm, ⟨37, _⟩ => ⟨S128x1x1024, .f32⟩
  | .hbm, ⟨38, _⟩ => ⟨S128x4x1024, .f32⟩
  | .hbm, ⟨39, _⟩ => ⟨S128x4x1024, .f32⟩
  | .hbm, ⟨40, _⟩ => ⟨S128x4x1024, .f32⟩
  | .hbm, ⟨41, _⟩ => ⟨S128x4x1024, .f32⟩
  | .hbm, ⟨42, _⟩ => ⟨S128x4x2824, .f32⟩
  | .hbm, ⟨43, _⟩ => ⟨S128x4x256, .f32⟩
  | .hbm, ⟨44, _⟩ => ⟨S128x4x768, .f32⟩
  | .hbm, ⟨45, _⟩ => ⟨S128x4x768, .f32⟩
  | .hbm, ⟨46, _⟩ => ⟨S128x4x256, .f32⟩
  | .hbm, ⟨47, _⟩ => ⟨S128x4x8, .f32⟩
  | .hbm, ⟨48, _⟩ => ⟨S128x4x256, .f32⟩
  | .hbm, ⟨49, _⟩ => ⟨S128x4x4x64, .f32⟩
  | .hbm, ⟨50, _⟩ => ⟨S128x4x256, .f32⟩
  | .hbm, ⟨51, _⟩ => ⟨S128x4x4x64, .f32⟩
  | .hbm, ⟨52, _⟩ => ⟨S128x4x256, .f32⟩
  | .hbm, ⟨53, _⟩ => ⟨S128x4x4x64, .f32⟩
  | .hbm, ⟨54, _⟩ => ⟨S128x7x768, .f32⟩
  | .hbm, ⟨55, _⟩ => ⟨S128x3x768, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Kernel5.lean ====
abbrev S128x4x1024 : Shape := ⟨3, ![128, 4, 1024]⟩
abbrev S128x1x6144 : Shape := ⟨3, ![128, 1, 6144]⟩
abbrev S128x4x256 : Shape := ⟨3, ![128, 4, 256]⟩
abbrev S2x4x256x1024 : Shape := ⟨4, ![2, 4, 256, 1024]⟩
abbrev S2x1024x4096 : Shape := ⟨3, ![2, 1024, 4096]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S4x128x1024 : Shape := ⟨3, ![4, 128, 1024]⟩
abbrev S1x512x1024 : Shape := ⟨3, ![1, 512, 1024]⟩
abbrev S128x6144 : Shape := ⟨2, ![128, 6144]⟩
abbrev S1x128x1x6144 : Shape := ⟨4, ![1, 128, 1, 6144]⟩
abbrev S4x128x1x6144 : Shape := ⟨4, ![4, 128, 1, 6144]⟩
abbrev S512x6144 : Shape := ⟨2, ![512, 6144]⟩
abbrev S1x512x6144 : Shape := ⟨3, ![1, 512, 6144]⟩
abbrev S1x1024 : Shape := ⟨2, ![1, 1024]⟩
abbrev S1024 : Shape := ⟨1, ![1024]⟩
abbrev S4x128x256 : Shape := ⟨3, ![4, 128, 256]⟩
abbrev S512x256 : Shape := ⟨2, ![512, 256]⟩
abbrev S1x512x256 : Shape := ⟨3, ![1, 512, 256]⟩
abbrev S1x1024x4096 : Shape := ⟨3, ![1, 1024, 4096]⟩
abbrev S1x4x256x1024 : Shape := ⟨4, ![1, 4, 256, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1x1x256x1024 : Shape := ⟨4, ![1, 1, 256, 1024]⟩
abbrev S256x1024 : Shape := ⟨2, ![256, 1024]⟩
abbrev S1x1024x640 : Shape := ⟨3, ![1, 1024, 640]⟩
abbrev S1024x640 : Shape := ⟨2, ![1024, 640]⟩
abbrev S512x640 : Shape := ⟨2, ![512, 640]⟩
abbrev S1x640x1024 : Shape := ⟨3, ![1, 640, 1024]⟩
abbrev S640x1024 : Shape := ⟨2, ![640, 1024]⟩
abbrev S1x1024x768 : Shape := ⟨3, ![1, 1024, 768]⟩
abbrev S1024x768 : Shape := ⟨2, ![1024, 768]⟩
abbrev S512x768 : Shape := ⟨2, ![512, 768]⟩
abbrev S1x768x1024 : Shape := ⟨3, ![1, 768, 1024]⟩
abbrev S768x1024 : Shape := ⟨2, ![768, 1024]⟩

abbrev nBuf : Space → Nat
  | .hbm => 54
  | .vmem => 21
  | .smem => 0
  | _ => 0

abbrev bufTy : (tb : Table) → Fin (tcTables nBuf tb) → BufTy
  | .hbm, ⟨0, _⟩ => ⟨S128x4x1024, .f32⟩
  | .hbm, ⟨1, _⟩ => ⟨S128x1x6144, .f32⟩
  | .hbm, ⟨2, _⟩ => ⟨S128x4x256, .f32⟩
  | .hbm, ⟨3, _⟩ => ⟨S128x4x256, .f32⟩
  | .hbm, ⟨4, _⟩ => ⟨S128x4x256, .f32⟩
  | .hbm, ⟨5, _⟩ => ⟨S128x4x256, .f32⟩
  | .hbm, ⟨6, _⟩ => ⟨S2x4x256x1024, .f32⟩
  | .hbm, ⟨7, _⟩ => ⟨S2x1024x4096, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024x5632, .f32⟩
  | .hbm, ⟨12, _⟩ => ⟨S2x2816x1024, .f32⟩
  | .hbm, ⟨13, _⟩ => ⟨S2x1024, .f32⟩
  | .hbm, ⟨14, _⟩ => ⟨S2x1024, .f32⟩
  | .hbm, ⟨15, _⟩ => ⟨S4x128x1024, .f32⟩
  | .hbm, ⟨16, _⟩ => ⟨S1x512x1024, .f32⟩
  | .hbm, ⟨17, _⟩ => ⟨S128x6144, .f32⟩
  | .hbm, ⟨18, _⟩ => ⟨S1x128x1x6144, .f32⟩
  | .hbm, ⟨19, _⟩ => ⟨S4x128x1x6144, .f32⟩
  | .hbm, ⟨20, _⟩ => ⟨S512x6144, .f32⟩
  | .hbm, ⟨21, _⟩ => ⟨S1x512x6144, .f32⟩
  | .hbm, ⟨22, _⟩ => ⟨S2x1024x4096, .bf16⟩
  | .hbm, ⟨23, _⟩ => ⟨S2x4x256x1024, .bf16⟩
  | .hbm, ⟨24, _⟩ => ⟨S2x1024x1024, .bf16⟩
  | .hbm, ⟨25, _⟩ => ⟨S2x1024x5632, .bf16⟩
  | .hbm, ⟨26, _⟩ => ⟨S2x2816x1024, .bf16⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S4x128x256, .f32⟩
  | .hbm, ⟨40, _⟩ => ⟨S512x256, .f32⟩
  | .hbm, ⟨41, _⟩ => ⟨S1x512x256, .f32⟩
  | .hbm, ⟨42, _⟩ => ⟨S4x128x256, .f32⟩
  | .hbm, ⟨43, _⟩ => ⟨S512x256, .f32⟩
  | .hbm, ⟨44, _⟩ => ⟨S1x512x256, .f32⟩
  | .hbm, ⟨45, _⟩ => ⟨S4x128x256, .f32⟩
  | .hbm, ⟨46, _⟩ => ⟨S512x256, .f32⟩
  | .hbm, ⟨47, _⟩ => ⟨S1x512x256, .f32⟩
  | .hbm, ⟨48, _⟩ => ⟨S4x128x256, .f32⟩
  | .hbm, ⟨49, _⟩ => ⟨S512x256, .f32⟩
  | .hbm, ⟨50, _⟩ => ⟨S1x512x256, .f32⟩
  | .hbm, ⟨51, _⟩ => ⟨S1x512x1024, .f32⟩
  | .hbm, ⟨52, _⟩ => ⟨S4x128x1024, .f32⟩
  | .hbm, ⟨53, _⟩ => ⟨S128x4x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x1024x4096, .bf16⟩
  | .local _ .vmem, ⟨12, _⟩ => ⟨S1x4x256x1024, .bf16⟩
  | .local _ .vmem, ⟨13, _⟩ => ⟨S1x1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024x5632, .bf16⟩
  | .local _ .vmem, ⟨17, _⟩ => ⟨S1x2816x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x4x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024x5632 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2816x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x512x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]
-- ==== Reference5Ideal.lean ====
abbrev S128x4x1024 : Shape := ⟨3, ![128, 4, 1024]⟩
abbrev S128x1x6144 : Shape := ⟨3, ![128, 1, 6144]⟩
abbrev S128x4x256 : Shape := ⟨3, ![128, 4, 256]⟩
abbrev S2x4x256x1024 : Shape := ⟨4, ![2, 4, 256, 1024]⟩
abbrev S2x1024x4096 : Shape := ⟨3, ![2, 1024, 4096]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x4x256x1024 : Shape := ⟨4, ![1, 4, 256, 1024]⟩
abbrev S4x256x1024 : Shape := ⟨3, ![4, 256, 1024]⟩
abbrev S1x1024x4096 : Shape := ⟨3, ![1, 1024, 4096]⟩
abbrev S1024x4096 : Shape := ⟨2, ![1024, 4096]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S128x4x1x256 : Shape := ⟨4, ![128, 4, 1, 256]⟩
abbrev S128x4x4x256 : Shape := ⟨4, ![128, 4, 4, 256]⟩
abbrev S4x1024x128x4 : Shape := ⟨4, ![4, 1024, 128, 4]⟩
abbrev S128x4x4x1024 : Shape := ⟨4, ![128, 4, 4, 1024]⟩
abbrev S128x4x4096 : Shape := ⟨3, ![128, 4, 4096]⟩
abbrev S1x1x1024 : Shape := ⟨3, ![1, 1, 1024]⟩
abbrev S128x4x5632 : Shape := ⟨3, ![128, 4, 5632]⟩
abbrev S128x4x2816 : Shape := ⟨3, ![128, 4, 2816]⟩

abbrev nBuf : Space → Nat
  | .hbm => 210
  | .vmem => 0
  | .smem => 0
  | _ => 0

abbrev hbmTy0_0 (i : Nat) : BufTy := match i % 128 with
  | 0 => ⟨S128x4x1024, .f32⟩
  | 1 => ⟨S128x1x6144, .f32⟩
  | 2 => ⟨S128x4x256, .f32⟩
  | 3 => ⟨S128x4x256, .f32⟩
  | 4 => ⟨S128x4x256, .f32⟩
  | 5 => ⟨S128x4x256, .f32⟩
  | 6 => ⟨S2x4x256x1024, .f32⟩
  | 7 => ⟨S2x1024x4096, .f32⟩
  | 8 => ⟨S2x1024x1024, .f32⟩
  | 9 => ⟨S2x1024, .f32⟩
  | 10 => ⟨S2x1024, .f32⟩
  | 11 => ⟨S2x1024x5632, .f32⟩
  | 12 => ⟨S2x2816x1024, .f32⟩
  | 13 => ⟨S2x1024, .f32⟩
  | 14 => ⟨S2x1024, .f32⟩
  | 15 => ⟨S1x4x256x1024, .f32⟩
  | 16 => ⟨S4x256x1024, .f32⟩
  | 17 => ⟨S1x1024x4096, .f32⟩
  | 18 => ⟨S1024x4096, .f32⟩
  | 19 => ⟨S1x1024x1024, .f32⟩
  | 20 => ⟨S1024x1024, .f32⟩
  | 21 => ⟨S1x1024, .f32⟩
  | 22 => ⟨S1024, .f32⟩
  | 23 => ⟨S1x1024, .f32⟩
  | 24 => ⟨S1024, .f32⟩
  | 25 => ⟨S1x1024x5632, .f32⟩
  | 26 => ⟨S1024x5632, .f32⟩
  | 27 => ⟨S1x2816x1024, .f32⟩
  | 28 => ⟨S2816x1024, .f32⟩
  | 29 => ⟨S1x1024, .f32⟩
  | 30 => ⟨S1024, .f32⟩
  | 31 => ⟨S1x1024, .f32⟩
  | 32 => ⟨S1024, .f32⟩
  | 33 => ⟨S128x1x1024, .f32⟩
  | 34 => ⟨S128x1x1024, .f32⟩
  | 35 => ⟨S128x1x1024, .f32⟩
  | 36 => ⟨S128x1x1024, .f32⟩
  | 37 => ⟨S128x1x1024, .f32⟩
  | 38 => ⟨S128x1x1024, .f32⟩
  | 39 => ⟨S_, .f32⟩
  | 40 => ⟨S128x4, .f32⟩
  | 41 => ⟨S128x4x1, .f32⟩
  | 42 => ⟨S_, .f32⟩
  | 43 => ⟨S128x4x1, .f32⟩
  | 44 => ⟨S128x4x1, .f32⟩
  | 45 => ⟨S128x4x1024, .f32⟩
  | 46 => ⟨S128x4x1024, .f32⟩
  | 47 => ⟨S128x4x1024, .f32⟩
  | 48 => ⟨S_, .f32⟩
  | 49 => ⟨S128x4, .f32⟩
  | 50 => ⟨S128x4x1, .f32⟩
  | 51 => ⟨S_, .f32⟩
  | 52 => ⟨S128x4x1, .f32⟩
  | 53 => ⟨S128x4x1, .f32⟩
  | 54 => ⟨S128x4x1024, .f32⟩
  | 55 => ⟨S128x4x1024, .f32⟩
  | 56 => ⟨S_, .f32⟩
  | 57 => ⟨S128x4x1, .f32⟩
  | 58 => ⟨S128x4x1, .f32⟩
  | 59 => ⟨S128x4x1, .f32⟩
  | 60 => ⟨S128x4x1024, .f32⟩
  | 61 => ⟨S128x4x1024, .f32⟩
  | 62 => ⟨S_, .f32⟩
  | 63 => ⟨S128x1x1024, .f32⟩
  | 64 => ⟨S128x1x1024, .f32⟩
  | 65 => ⟨S128x4x1024, .f32⟩
  | 66 => ⟨S128x4x1024, .f32⟩
  | 67 => ⟨S128x4x1024, .f32⟩
  | 68 => ⟨S128x4x1024, .f32⟩
  | 69 => ⟨S128x4x1x256, .f32⟩
  | 70 => ⟨S128x4x1x256, .f32⟩
  | 71 => ⟨S128x4x1x256, .f32⟩
  | 72 => ⟨S128x4x1x256, .f32⟩
  | 73 => ⟨S128x4x4x256, .f32⟩
  | 74 => ⟨S4x1024x128x4, .f32⟩
  | 75 => ⟨S128x4x4x1024, .f32⟩
  | 76 => ⟨S128x4x4096, .f32⟩
  | 77 => ⟨S128x4x4096, .f32⟩
  | 78 => ⟨S128x4x4096, .f32⟩
  | 79 => ⟨S_, .f32⟩
  | 80 => ⟨S128x4x4096, .f32⟩
  | 81 => ⟨S128x4x4096, .f32⟩
  | 82 => ⟨S_, .f32⟩
  | 83 => ⟨S128x4x4096, .f32⟩
  | 84 => ⟨S128x4x4096, .f32⟩
  | 85 => ⟨S128x4x4x1024, .f32⟩
  | 86 => ⟨S128x4x4x1024, .f32⟩
  | 87 => ⟨S_, .f32⟩
  | 88 => ⟨S128x4x1024, .f32⟩
  | 89 => ⟨S128x4x1024, .f32⟩
  | 90 => ⟨S_, .f32⟩
  | 91 => ⟨S128x4x1024, .f32⟩
  | 92 => ⟨S128x4x1024, .f32⟩
  | 93 => ⟨S_, .f32⟩
  | 94 => ⟨S128x1x1024, .f32⟩
  | 95 => ⟨S128x1x1024, .f32⟩
  | 96 => ⟨S128x4x1024, .f32⟩
  | 97 => ⟨S128x4x1024, .f32⟩
  | 98 => ⟨S128x4x1024, .f32⟩
  | 99 => ⟨S_, .f32⟩
  | 100 => ⟨S128x4, .f32⟩
  | 101 => ⟨S128x4x1, .f32⟩
  | 102 => ⟨S_, .f32⟩
  | 103 => ⟨S128x4x1, .f32⟩
  | 104 => ⟨S128x4x1, .f32⟩
  | 105 => ⟨S128x4x1024, .f32⟩
  | 106 => ⟨S128x4x1024, .f32⟩
  | 107 => ⟨S128x4x1024, .f32⟩
  | 108 => ⟨S_, .f32⟩
  | 109 => ⟨S128x4, .f32⟩
  | 110 => ⟨S128x4x1, .f32⟩
  | 111 => ⟨S_, .f32⟩
  | 112 => ⟨S128x4x1, .f32⟩
  | 113 => ⟨S128x4x1, .f32⟩
  | 114 => ⟨S128x4x1024, .f32⟩
  | 115 => ⟨S128x4x1024, .f32⟩
  | 116 => ⟨S_, .f32⟩
  | 117 => ⟨S128x4x1, .f32⟩
  | 118 => ⟨S128x4x1, .f32⟩
  | 119 => ⟨S128x4x1, .f32⟩
  | 120 => ⟨S128x4x1024, .f32⟩
  | 121 => ⟨S128x4x1024, .f32⟩
  | 122 => ⟨S1x1x1024, .f32⟩
  | 123 => ⟨S128x4x1024, .f32⟩
  | 124 => ⟨S128x4x1024, .f32⟩
  | 125 => ⟨S1x1x1024, .f32⟩
  | 126 => ⟨S128x4x1024, .f32⟩
  | 127 => ⟨S128x4x1024, .f32⟩
  | _ => ⟨S128x4x1024, .f32⟩

abbrev hbmTy0_1 (i : Nat) : BufTy := match i % 128 with
  | 0 => ⟨S_, .f32⟩
  | 1 => ⟨S128x4, .f32⟩
  | 2 => ⟨S128x4x1, .f32⟩
  | 3 => ⟨S_, .f32⟩
  | 4 => ⟨S128x4x1, .f32⟩
  | 5 => ⟨S128x4x1, .f32⟩
  | 6 => ⟨S128x4x1024, .f32⟩
  | 7 => ⟨S128x4x1024, .f32⟩
  | 8 => ⟨S128x4x1024, .f32⟩
  | 9 => ⟨S_, .f32⟩
  | 10 => ⟨S128x4, .f32⟩
  | 11 => ⟨S128x4x1, .f32⟩
  | 12 => ⟨S_, .f32⟩
  | 13 => ⟨S128x4x1, .f32⟩
  | 14 => ⟨S128x4x1, .f32⟩
  | 15 => ⟨S128x4x1024, .f32⟩
  | 16 => ⟨S128x4x1024, .f32⟩
  | 17 => ⟨S_, .f32⟩
  | 18 => ⟨S128x4x1, .f32⟩
  | 19 => ⟨S128x4x1, .f32⟩
  | 20 => ⟨S128x4x1, .f32⟩
  | 21 => ⟨S128x4x1024, .f32⟩
  | 22 => ⟨S128x4x1024, .f32⟩
  | 23 => ⟨S_, .f32⟩
  | 24 => ⟨S128x1x1024, .f32⟩
  | 25 => ⟨S128x1x1024, .f32⟩
  | 26 => ⟨S128x4x1024, .f32⟩
  | 27 => ⟨S128x4x1024, .f32⟩
  | 28 => ⟨S128x4x1024, .f32⟩
  | 29 => ⟨S128x4x1024, .f32⟩
  | 30 => ⟨S128x4x5632, .f32⟩
  | 31 => ⟨S128x4x2816, .f32⟩
  | 32 => ⟨S128x4x2816, .f32⟩
  | 33 => ⟨S128x4x2816, .f32⟩
  | 34 => ⟨S128x4x2816, .f32⟩
  | 35 => ⟨S_, .f32⟩
  | 36 => ⟨S128x4x2816, .f32⟩
  | 37 => ⟨S128x4x2816, .f32⟩
  | 38 => ⟨S_, .f32⟩
  | 39 => ⟨S128x4x2816, .f32⟩
  | 40 => ⟨S128x4x2816, .f32⟩
  | 41 => ⟨S128x4x2816, .f32⟩
  | 42 => ⟨S128x4x2816, .f32⟩
  | 43 => ⟨S128x4x1024, .f32⟩
  | 44 => ⟨S_, .f32⟩
  | 45 => ⟨S128x4x1024, .f32⟩
  | 46 => ⟨S128x4x1024, .f32⟩
  | 47 => ⟨S_, .f32⟩
  | 48 => ⟨S128x1x1024, .f32⟩
  | 49 => ⟨S128x1x1024, .f32⟩
  | 50 => ⟨S128x4x1024, .f32⟩
  | 51 => ⟨S128x4x1024, .f32⟩
  | 52 => ⟨S128x4x1024, .f32⟩
  | 53 => ⟨S_, .f32⟩
  | 54 => ⟨S128x4, .f32⟩
  | 55 => ⟨S128x4x1, .f32⟩
  | 56 => ⟨S_, .f32⟩
  | 57 => ⟨S128x4x1, .f32⟩
  | 58 => ⟨S128x4x1, .f32⟩
  | 59 => ⟨S128x4x1024, .f32⟩
  | 60 => ⟨S128x4x1024, .f32⟩
  | 61 => ⟨S128x4x1024, .f32⟩
  | 62 => ⟨S_, .f32⟩
  | 63 => ⟨S128x4, .f32⟩
  | 64 => ⟨S128x4x1, .f32⟩
  | 65 => ⟨S_, .f32⟩
  | 66 => ⟨S128x4x1, .f32⟩
  | 67 => ⟨S128x4x1, .f32⟩
  | 68 => ⟨S128x4x1024, .f32⟩
  | 69 => ⟨S128x4x1024, .f32⟩
  | 70 => ⟨S_, .f32⟩
  | 71 => ⟨S128x4x1, .f32⟩
  | 72 => ⟨S128x4x1, .f32⟩
  | 73 => ⟨S128x4x1, .f32⟩
  | 74 => ⟨S128x4x1024, .f32⟩
  | 75 => ⟨S128x4x1024, .f32⟩
  | 76 => ⟨S1x1x1024, .f32⟩
  | 77 => ⟨S128x4x1024, .f32⟩
  | 78 => ⟨S128x4x1024, .f32⟩
  | 79 => ⟨S1x1x1024, .f32⟩
  | 80 => ⟨S128x4x1024, .f32⟩
  | 81 => ⟨S128x4x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_7 : Ref sig .tc := ⟨.hbm, 87, rfl⟩
abbrev main_v64 : Ref sig .tc := ⟨.hbm, 88, rfl⟩
abbrev main_v65 : Ref sig .tc := ⟨.hbm, 89, rfl⟩
abbrev main_cst_8 : Ref sig .tc := ⟨.hbm, 90, rfl⟩
abbrev main_v66 : Ref sig .tc := ⟨.hbm, 91, rfl⟩
abbrev main_v67 : Ref sig .tc := ⟨.hbm, 92, rfl⟩
abbrev main_cst_9 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_10 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_12 : Ref sig .tc := ⟨.hbm, 108, rfl⟩
abbrev main_v80 : Ref sig .tc := ⟨.hbm, 109, rfl⟩
abbrev main_v81 : Ref sig .tc := ⟨.hbm, 110, rfl⟩
abbrev main_cst_13 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_14 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_15 : Ref sig .tc := ⟨.hbm, 128, rfl⟩
abbrev main_v97 : Ref sig .tc := ⟨.hbm, 129, rfl⟩
abbrev main_v98 : Ref sig .tc := ⟨.hbm, 130, rfl⟩
abbrev main_cst_16 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_17 : Ref sig .tc := ⟨.hbm, 137, rfl⟩
abbrev main_v104 : Ref sig .tc := ⟨.hbm, 138, rfl⟩
abbrev main_v105 : Ref sig .tc := ⟨.hbm, 139, rfl⟩
abbrev main_cst_18 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_19 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_20 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_call0_v0 : Ref sig .tc := ⟨.hbm, 161, rfl⟩
abbrev main_call0_v1 : Ref sig .tc := ⟨.hbm, 162, rfl⟩
abbrev main_call0_cst : Ref sig .tc := ⟨.hbm, 163, rfl⟩
abbrev main_call0_v2 : Ref sig .tc := ⟨.hbm, 164, rfl⟩
abbrev main_call0_v3 : Ref sig .tc := ⟨.hbm, 165, rfl⟩
abbrev main_call0_cst_0 : Ref sig .tc := ⟨.hbm, 166, rfl⟩
abbrev main_call0_v4 : Ref sig .tc := ⟨.hbm, 167, rfl⟩
abbrev main_call0_v5 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_21 : Ref sig .tc := ⟨.hbm, 172, rfl⟩
abbrev main_v127 : Ref sig .tc := ⟨.hbm, 173, rfl⟩
abbrev main_v128 : Ref sig .tc := ⟨.hbm, 174, rfl⟩
abbrev main_cst_22 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_23 : Ref sig .tc := ⟨.hbm, 181, rfl⟩
abbrev main_v134 : Ref sig .tc := ⟨.hbm, 182, rfl⟩
abbrev main_v135 : Ref sig .tc := ⟨.hbm, 183, rfl⟩
abbrev main_cst_24 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_25 : Ref sig .tc := ⟨.hbm, 190, rfl⟩
abbrev main_v141 : Ref sig .tc := ⟨.hbm, 191, rfl⟩
abbrev main_v142 : Ref sig .tc := ⟨.hbm, 192, rfl⟩
abbrev main_cst_26 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_cst_27 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩

abbrev nD : Nat := 1
abbrev τ : Topo := Topo.v7x

variable {F : FTy → Type} [FloatOps F]
-- ==== Kernel6.lean ====
abbrev S128x4x768 : Shape := ⟨3, ![128, 4, 768]⟩
abbrev S128x4x8 : Shape := ⟨3, ![128, 4, 8]⟩
abbrev S128x2x256 : Shape := ⟨3, ![128, 2, 256]⟩
abbrev S128x3x768 : Shape := ⟨3, ![128, 3, 768]⟩
abbrev S2x3x256 : Shape := ⟨3, ![2, 3, 256]⟩
abbrev S2x4x768 : Shape := ⟨3, ![2, 4, 768]⟩
abbrev S2x4 : Shape := ⟨2, ![2, 4]⟩
abbrev S1x3x256 : Shape := ⟨3, ![1, 3, 256]⟩
abbrev S3x256 : Shape := ⟨2, ![3, 256]⟩
abbrev S1x4x768 : Shape := ⟨3, ![1, 4, 768]⟩
abbrev S4x768 : Shape := ⟨2, ![4, 768]⟩
abbrev S1x4 : Shape := ⟨2, ![1, 4]⟩
abbrev S4 : Shape := ⟨1, ![4]⟩
abbrev S_ : Shape := ⟨0, ![]⟩
abbrev S1x128 : Shape := ⟨2, ![1, 128]⟩
abbrev S1 : Shape := ⟨1, ![1]⟩
abbrev S2 : Shape := ⟨1, ![2]⟩
abbrev S4x128x8 : Shape := ⟨3, ![4, 128, 8]⟩
abbrev S512x8 : Shape := ⟨2, ![512, 8]⟩
abbrev S512x128 : Shape := ⟨2, ![512, 128]⟩
abbrev S4x128x768 : Shape := ⟨3, ![4, 128, 768]⟩
abbrev S512x768 : Shape := ⟨2, ![512, 768]⟩
abbrev S2x128x256 : Shape := ⟨3, ![2, 128, 256]⟩
abbrev S256x256 : Shape := ⟨2, ![256, 256]⟩
abbrev S3x128x768 : Shape := ⟨3, ![3, 128, 768]⟩
abbrev S384x768 : Shape := ⟨2, ![384, 768]⟩
abbrev S512x256 : Shape := ⟨2, ![512, 256]⟩
abbrev S768x256 : Shape := ⟨2, ![768, 256]⟩
abbrev S1x256 : Shape := ⟨2, ![1, 256]⟩
abbrev S896x768 : Shape := ⟨2, ![896, 768]⟩
abbrev S1x768 : Shape := ⟨2, ![1, 768]⟩
abbrev S4x128x256 : Shape := ⟨3, ![4, 128, 256]⟩
abbrev S128x4x256 : Shape := ⟨3, ![128, 4, 256]⟩
abbrev S128x6x256 : Shape := ⟨3, ![128, 6, 256]⟩
abbrev S4x128x128 : Shape := ⟨3, ![4, 128, 128]⟩
abbrev S128x4x128 : Shape := ⟨3, ![128, 4, 128]⟩

abbrev nBuf : Space → Nat
  | .hbm => 61
  | .vmem => 13
  | .smem => 0
  | _ => 0

abbrev bufTy : (tb : Table) → Fin (tcTables nBuf tb) → BufTy
  | .hbm, ⟨0, _⟩ => ⟨S128x4x768, .f32⟩
  | .hbm, ⟨1, _⟩ => ⟨S128x4x768, .f32⟩
  | .hbm, ⟨2, _⟩ => ⟨S128x4x8, .f32⟩
  | .hbm, ⟨3, _⟩ => ⟨S128x2x256, .f32⟩
  | .hbm, ⟨4, _⟩ => ⟨S128x3x768, .f32⟩
  | .hbm, ⟨5, _⟩ => ⟨S2x3x256, .f32⟩
  | .hbm, ⟨6, _⟩ => ⟨S2x4x768, .f32⟩
  | .hbm, ⟨7, _⟩ => ⟨S2x4, .f32⟩
  | .hbm, ⟨8, _⟩ => ⟨S2x4, .f32⟩
  | .hbm, ⟨9, _⟩ => ⟨S1x3x256, .f32⟩
  | .hbm, ⟨10, _⟩ => ⟨S3x256, .f32⟩
  | .hbm, ⟨11, _⟩ => ⟨S1x4x768, .f32⟩
  | .hbm, ⟨12, _⟩ => ⟨S4x768, .f32⟩
  | .hbm, ⟨13, _⟩ => ⟨S1x4, .f32⟩
  | .hbm, ⟨14, _⟩ => ⟨S4, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S1x4, .f32⟩
  | .hbm, ⟨24, _⟩ => ⟨S4, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S4x128x8, .f32⟩
  | .hbm, ⟨34, _⟩ => ⟨S512x8, .f32⟩
  | .hbm, ⟨35, _⟩ => ⟨S_, .i32⟩
  | .hbm, ⟨36, _⟩ => ⟨S_, .f32⟩
  | .hbm, ⟨37, _⟩ => ⟨S512x128, .f32⟩
  | .hbm, ⟨38, _⟩ => ⟨S4x128x768, .f32⟩
  | .hbm, ⟨39, _⟩ => ⟨S512x768, .f32⟩
  | .hbm, ⟨40, _⟩ => ⟨S4x128x768, .f32⟩
  | .hbm, ⟨41, _⟩ => ⟨S512x768, .f32⟩
  | .hbm, ⟨42, _⟩ => ⟨S2x128x256, .f32⟩
  | .hbm, ⟨43, _⟩ => ⟨S256x256, .f32⟩
  | .hbm, ⟨44, _⟩ => ⟨S3x128x768, .f32⟩
  | .hbm, ⟨45, _⟩ => ⟨S384x768, .f32⟩
  | .hbm, ⟨46, _⟩ => ⟨S512x256, .f32⟩
  | .hbm, ⟨47, _⟩ => ⟨S512x256, .f32⟩
  | .hbm, ⟨48, _⟩ => ⟨S512x768, .f32⟩
  | .hbm, ⟨49, _⟩ => ⟨S512x128, .f32⟩
  | .hbm, ⟨50, _⟩ => ⟨S4x128x256, .f32⟩
  | .hbm, ⟨51, _⟩ => ⟨S128x4x256, .f32⟩
  | .hbm, ⟨52, _⟩ => ⟨S128x6x256, .f32⟩
  | .hbm, ⟨53, _⟩ => ⟨S128x2x256, .f32⟩
  | .hbm, ⟨54, _⟩ => ⟨S4x128x256, .f32⟩
  | .hbm, ⟨55, _⟩ => ⟨S128x4x256, .f32⟩
  | .hbm, ⟨56, _⟩ => ⟨S4x128x768, .f32⟩
  | .hbm, ⟨57, _⟩ => ⟨S128x4x768, .f32⟩
  | .hbm, ⟨58, _⟩ => ⟨S4x128x128, .f32⟩
  | .hbm, ⟨59, _⟩ => ⟨S128x4x128, .f32⟩
  | .hbm, ⟨60, _⟩ => ⟨S128x4x8, .f32⟩
  | .local _ .vmem, ⟨0, _⟩ => ⟨S512x768, .f32⟩
  | .local _ .vmem, ⟨1, _⟩ => ⟨S512x768, .f32⟩
  | .local _ .vmem, ⟨2, _⟩ => ⟨S512x128, .f32⟩
  | .local _ .vmem, ⟨3, _⟩ => ⟨S256x256, .f32⟩
  | .local _ .vmem, ⟨4, _⟩ => ⟨S384x768, .f32⟩
  | .local _ .vmem, ⟨5, _⟩ => ⟨S3x256, .f32⟩
  | .local _ .vmem, ⟨6, _⟩ => ⟨S4x768, .f32⟩
  | .local _ .vmem, ⟨7, _⟩ => ⟨S1x128, .f32⟩
  | .local _ .vmem, ⟨8, _⟩ => ⟨S1x128, .f32⟩
  | .local _ .vmem, ⟨9, _⟩ => ⟨S512x256, .f32⟩
  | .local _ .vmem, ⟨10, _⟩ => ⟨S512x256, .f32⟩
  | .local _ .vmem, ⟨11, _⟩ => ⟨S512x768, .f32⟩
  | .local _ .vmem, ⟨12, _⟩ => ⟨S512x128, .f32⟩
  | _, _ => ⟨S128x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v29_2 : Ref sig .tc := ⟨.hbm, 48, rfl⟩
abbrev main_v29_3 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference6Ideal.lean ====
abbrev S128x4x768 : Shape := ⟨3, ![128, 4, 768]⟩
abbrev S128x4x8 : Shape := ⟨3, ![128, 4, 8]⟩
abbrev S128x2x256 : Shape := ⟨3, ![128, 2, 256]⟩
abbrev S128x3x768 : Shape := ⟨3, ![128, 3, 768]⟩
abbrev S2x3x256 : Shape := ⟨3, ![2, 3, 256]⟩
abbrev S2x4x768 : Shape := ⟨3, ![2, 4, 768]⟩
abbrev S2x4 : Shape := ⟨2, ![2, 4]⟩
abbrev S1x3x256 : Shape := ⟨3, ![1, 3, 256]⟩
abbrev S3x256 : Shape := ⟨2, ![3, 256]⟩
abbrev S1x4x768 : Shape := ⟨3, ![1, 4, 768]⟩
abbrev S4x768 : Shape := ⟨2, ![4, 768]⟩
abbrev S1x4 : Shape := ⟨2, ![1, 4]⟩
abbrev S4 : Shape := ⟨1, ![4]⟩
abbrev S128x4x256 : Shape := ⟨3, ![128, 4, 256]⟩
abbrev S128x4x4 : Shape := ⟨3, ![128, 4, 4]⟩
abbrev S128x6x256 : Shape := ⟨3, ![128, 6, 256]⟩
abbrev S1x256 : Shape := ⟨2, ![1, 256]⟩
abbrev S256 : Shape := ⟨1, ![256]⟩
abbrev S1x1x256 : Shape := ⟨3, ![1, 1, 256]⟩
abbrev S128x7x768 : Shape := ⟨3, ![128, 7, 768]⟩
abbrev S1x768 : Shape := ⟨2, ![1, 768]⟩
abbrev S768 : Shape := ⟨1, ![768]⟩
abbrev S1x1x768 : Shape := ⟨3, ![1, 1, 768]⟩
abbrev S_ : Shape := ⟨0, ![]⟩
abbrev S128x4x4x64 : Shape := ⟨4, ![128, 4, 4, 64]⟩
abbrev S128x4x4x1 : Shape := ⟨4, ![128, 4, 4, 1]⟩
abbrev S1x1x4 : Shape := ⟨3, ![1, 1, 4]⟩

abbrev nBuf : Space → Nat
  | .hbm => 148
  | .vmem => 0
  | .smem => 0
  | _ => 0

abbrev hbmTy0_0 (i : Nat) : BufTy := match i % 128 with
  | 0 => ⟨S128x4x768, .f32⟩
  | 1 => ⟨S128x4x768, .f32⟩
  | 2 => ⟨S128x4x8, .f32⟩
  | 3 => ⟨S128x2x256, .f32⟩
  | 4 => ⟨S128x3x768, .f32⟩
  | 5 => ⟨S2x3x256, .f32⟩
  | 6 => ⟨S2x4x768, .f32⟩
  | 7 => ⟨S2x4, .f32⟩
  | 8 => ⟨S2x4, .f32⟩
  | 9 => ⟨S1x3x256, .f32⟩
  | 10 => ⟨S3x256, .f32⟩
  | 11 => ⟨S1x4x768, .f32⟩
  | 12 => ⟨S4x768, .f32⟩
  | 13 => ⟨S1x4, .f32⟩
  | 14 => ⟨S4, .f32⟩
  | 15 => ⟨S1x4, .f32⟩
  | 16 => ⟨S4, .f32⟩
  | 17 => ⟨S128x4x256, .f32⟩
  | 18 => ⟨S128x4x256, .f32⟩
  | 19 => ⟨S128x4x256, .f32⟩
  | 20 => ⟨S128x4x4, .f32⟩
  | 21 => ⟨S128x4x4, .f32⟩
  | 22 => ⟨S128x4x256, .f32⟩
  | 23 => ⟨S128x6x256, .f32⟩
  | 24 => ⟨S128x4x256, .f32⟩
  | 25 => ⟨S1x256, .f32⟩
  | 26 => ⟨S256, .f32⟩
  | 27 => ⟨S1x1x256, .f32⟩
  | 28 => ⟨S128x4x256, .f32⟩
  | 29 => ⟨S128x4x256, .f32⟩
  | 30 => ⟨S128x4x256, .f32⟩
  | 31 => ⟨S1x256, .f32⟩
  | 32 => ⟨S256, .f32⟩
  | 33 => ⟨S1x1x256, .f32⟩
  | 34 => ⟨S128x4x256, .f32⟩
  | 35 => ⟨S128x4x256, .f32⟩
  | 36 => ⟨S128x4x256, .f32⟩
  | 37 => ⟨S128x4x256, .f32⟩
  | 38 => ⟨S1x256, .f32⟩
  | 39 => ⟨S256, .f32⟩
  | 40 => ⟨S1x1x256, .f32⟩
  | 41 => ⟨S128x4x256, .f32⟩
  | 42 => ⟨S128x4x256, .f32⟩
  | 43 => ⟨S128x4x256, .f32⟩
  | 44 => ⟨S128x2x256, .f32⟩
  | 45 => ⟨S128x4x256, .f32⟩
  | 46 => ⟨S128x7x768, .f32⟩
  | 47 => ⟨S128x4x768, .f32⟩
  | 48 => ⟨S1x768, .f32⟩
  | 49 => ⟨S768, .f32⟩
  | 50 => ⟨S1x1x768, .f32⟩
  | 51 => ⟨S128x4x768, .f32⟩
  | 52 => ⟨S128x4x768, .f32⟩
  | 53 => ⟨S128x4x768, .f32⟩
  | 54 => ⟨S1x768, .f32⟩
  | 55 => ⟨S768, .f32⟩
  | 56 => ⟨S1x1x768, .f32⟩
  | 57 => ⟨S128x4x768, .f32⟩
  | 58 => ⟨S128x4x768, .f32⟩
  | 59 => ⟨S128x4x768, .f32⟩
  | 60 => ⟨S128x4x768, .f32⟩
  | 61 => ⟨S1x768, .f32⟩
  | 62 => ⟨S768, .f32⟩
  | 63 => ⟨S1x1x768, .f32⟩
  | 64 => ⟨S128x4x768, .f32⟩
  | 65 => ⟨S128x4x768, .f32⟩
  | 66 => ⟨S128x4x768, .f32⟩
  | 67 => ⟨S128x4x768, .f32⟩
  | 68 => ⟨S1x768, .f32⟩
  | 69 => ⟨S768, .f32⟩
  | 70 => ⟨S1x1x768, .f32⟩
  | 71 => ⟨S128x4x768, .f32⟩
  | 72 => ⟨S128x4x768, .f32⟩
  | 73 => ⟨S128x4x768, .f32⟩
  | 74 => ⟨S128x3x768, .f32⟩
  | 75 => ⟨S128x4x768, .f32⟩
  | 76 => ⟨S128x4x768, .f32⟩
  | 77 => ⟨S_, .f32⟩
  | 78 => ⟨S128x4x768, .f32⟩
  | 79 => ⟨S128x4x768, .f32⟩
  | 80 => ⟨S_, .f32⟩
  | 81 => ⟨S128x4x768, .f32⟩
  | 82 => ⟨S128x4x768, .f32⟩
  | 83 => ⟨S128x4x768, .f32⟩
  | 84 => ⟨S128x4x256, .f32⟩
  | 85 => ⟨S128x4x4x64, .f32⟩
  | 86 => ⟨S128x4x4x64, .f32⟩
  | 87 => ⟨S_, .f32⟩
  | 88 => ⟨S128x4x4, .f32⟩
  | 89 => ⟨S128x4x4x1, .f32⟩
  | 90 => ⟨S_, .f32⟩
  | 91 => ⟨S128x4x4x1, .f32⟩
  | 92 => ⟨S128x4x4x1, .f32⟩
  | 93 => ⟨S128x4x4x1, .f32⟩
  | 94 => ⟨S128x4x4x64, .f32⟩
  | 95 => ⟨S128x4x4x64, .f32⟩
  | 96 => ⟨S_, .f32⟩
  | 97 => ⟨S128x4x4x64, .f32⟩
  | 98 => ⟨S128x4x4x64, .f32⟩
  | 99 => ⟨S128x4x256, .f32⟩
  | 100 => ⟨S128x4x4x64, .f32⟩
  | 101 => ⟨S128x4x4x64, .f32⟩
  | 102 => ⟨S_, .f32⟩
  | 103 => ⟨S128x4x4, .f32⟩
  | 104 => ⟨S128x4x4x1, .f32⟩
  | 105 => ⟨S_, .f32⟩
  | 106 => ⟨S128x4x4x1, .f32⟩
  | 107 => ⟨S128x4x4x1, .f32⟩
  | 108 => ⟨S128x4x4x1, .f32⟩
  | 109 => ⟨S128x4x4x64, .f32⟩
  | 110 => ⟨S128x4x4x64, .f32⟩
  | 111 => ⟨S128x4x256, .f32⟩
  | 112 => ⟨S128x4x4x64, .f32⟩
  | 113 => ⟨S128x4x4, .f32⟩
  | 114 => ⟨S128x4x4, .f32⟩
  | 115 => ⟨S_, .f32⟩
  | 116 => ⟨S128x4x4, .f32⟩
  | 117 => ⟨S128x4x4, .f32⟩
  | 118 => ⟨S_, .f32⟩
  | 119 => ⟨S128x4x4, .f32⟩
  | 120 => ⟨S128x4x4, .f32⟩
  | 121 => ⟨S4, .f32⟩
  | 122 => ⟨S4, .f32⟩
  | 123 => ⟨S1x1x4, .f32⟩
  | 124 => ⟨S128x4x4, .f32⟩
  | 125 => ⟨S128x4x4, .f32⟩
  | 126 => ⟨S_, .f32⟩
  | 127 => ⟨S128x4x4, .f32⟩
  | _ => ⟨S128x4x768, .f32⟩

abbrev hbmTy0_1 (i : Nat) : BufTy := match i % 128 with
  | 0 => ⟨S128x4x4, .f32⟩
  | 1 => ⟨S128x4x4, .f32⟩
  | 2 => ⟨S128x4x4, .f32⟩
  | 3 => ⟨S128x4x4, .i1⟩
  | 4 => ⟨S128x4x4, .f32⟩
  | 5 => ⟨S128x4x4, .f32⟩
  | 6 => ⟨S128x4x4, .f32⟩
  | 7 => ⟨S128x4x4, .f32⟩
  | 8 => ⟨S128x4x4, .f32⟩
  | 9 => ⟨S128x4x4, .f32⟩
  | 10 => ⟨S128x4x4, .f32⟩
  | 11 => ⟨S128x4x4, .f32⟩
  | 12 => ⟨S1x1x4, .f32⟩
  | 13 => ⟨S128x4x4, .f32⟩
  | 14 => ⟨S128x4x4, .f32⟩
  | 15 => ⟨S128x4x256, .f32⟩
  | 16 => ⟨S128x4x256, .f32⟩
  | 17 => ⟨S128x4x256, .f32⟩
  | 18 => ⟨S128x4x768, .f32⟩
  | 19 => ⟨S128x4x8, .f32⟩
  | _ => ⟨S128x4x768, .f32⟩

abbrev hbmTy (i : Nat) : BufTy := match i / 128 with
  | 0 => hbmTy0_0 i
  | 1 => hbmTy0_1 i
  | _ => ⟨S128x4x768, .f32⟩

abbrev bufTy : (tb : Table) → Fin (tcTables nBuf tb) → BufTy
  | .hbm, ⟨i, _⟩ => hbmTy i
  | _, _ => ⟨S128x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst : Ref sig .tc := ⟨.hbm, 87, rfl⟩
abbrev main_v70 : Ref sig .tc := ⟨.hbm, 88, rfl⟩
abbrev main_v71 : Ref sig .tc := ⟨.hbm, 89, rfl⟩
abbrev main_cst_0 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_1 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_2 : Ref sig .tc := ⟨.hbm, 102, rfl⟩
abbrev main_v82 : Ref sig .tc := ⟨.hbm, 103, rfl⟩
abbrev main_v83 : Ref sig .tc := ⟨.hbm, 104, rfl⟩
abbrev main_cst_3 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_4 : Ref sig .tc := ⟨.hbm, 115, rfl⟩
abbrev main_v93 : Ref sig .tc := ⟨.hbm, 116, rfl⟩
abbrev main_v94 : Ref sig .tc := ⟨.hbm, 117, rfl⟩
abbrev main_cst_5 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_call1_cst : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_v7 : Ref sig .tc := ⟨.hbm, 134, rfl⟩
abbrev main_call1_v8 : Ref sig .tc := ⟨.hbm, 135, rfl⟩
abbrev main_call1_v9 : Ref sig .tc := ⟨.hbm, 136, rfl⟩
abbrev main_call1_v10 : Ref sig .tc := ⟨.hbm, 137, rfl⟩
abbrev main_call1_v11 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩

abbrev nD : Nat := 1
abbrev τ : Topo := Topo.v7x

variable {F : FTy → Type} [FloatOps F]
-- ==== Proof.SBI.Step.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.Value
public import Idealize.ShloMosaic.Lib.VecWindow

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One head's arithmetic -/

/-- One head's scores of a tile of keys. -/
def hdZ (q : FVec F S256x64 .bf16) (k : Vec F S1x1x256x64 .bf16) : FVec F S256x256 .f32 :=
  matmul dot_S256x64_S256x64_S256x256_1_1_0_0_n_n none q (shapeCast S256x64 k shapeCasts_S1x1x256x64_S256x64)
    (constant S256x256 .f32 0x00000000#32)

/-- Softplus of the scores. -/
def hdSp (z : FVec F S256x256 .f32) : FVec F S256x256 .f32 :=
  addf (maximumf z (broadcast S256x256 (Scalar.ofBits .f32 0x00000000#32)))
    (log (addf (broadcast S256x256 (Scalar.ofBits .f32 0x3F800000#32))
      (exp (subf (broadcast S256x256 (Scalar.ofBits .f32 0x00000000#32)) (absf z)))))

/-- The tile's triangular sums: the leading part and the remainder of every entry, each times the triangle `u`. -/
def hdSuf (u : FVec F S256x256 .bf16) (x : FVec F S256x256 .f32) : FVec F S256x256 .f32 :=
  addf (matmul dot_S256x256_S256x256_S256x256_1_0_0_1_n_n none (truncf .bf16 x bitsLt_bf16_f32) u
      (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) u
      (constant S256x256 .f32 0x00000000#32))

/-- The running total after the tile: the first column of the triangular sums and of the entries, onto the total before. -/
def hdTot (c : FVec F S256x1 .f32) (suf x : FVec F S256x256 .f32) : FVec F S256x1 .f32 :=
  addf c (addf (extractStridedSlice S256x1 ![0, 0] suf slices_S256x256_o0_0_S256x1)
    (extractStridedSlice S256x1 ![0, 0] x slices_S256x256_o0_0_S256x1))

/-- The weights of a tile: `exp ((z - softplus z) - (sums + total))`. -/
def hdW (z sp suf : FVec F S256x256 .f32) (c : FVec F S256x1 .f32) : FVec F S256x256 .f32 :=
  exp (subf (subf z sp) (addf suf (broadcastTo S256x256 c broadcasts_S256x1_S256x256)))

/-- The weighted values onto the partial sum. -/
def hdPV (a : FVec F S256x64 .f32) (w : FVec F S256x256 .f32) (v : Vec F S1x1x256x64 .bf16) : FVec F S256x64 .f32 :=
  addf a (matmul dot_S256x256_S256x64_S256x64_1_0_0_1_n_n none (truncf .bf16 w bitsLt_bf16_f32)
    (shapeCast S256x64 v shapeCasts_S1x1x256x64_S256x64) (constant S256x64 .f32 0x00000000#32))

/-- The running total after a tile left of the diagonal. -/
def offCar (u : FVec F S256x256 .bf16) (q : FVec F S256x64 .bf16) (k : Vec F S1x1x256x64 .bf16) (c : FVec F S256x1 .f32) :
    FVec F S256x1 .f32 := hdTot c (hdSuf u (hdSp (hdZ q k))) (hdSp (hdZ q k))

/-- The partial sum after a tile left of the diagonal. -/
def offAcc (u : FVec F S256x256 .bf16) (q : FVec F S256x64 .bf16) (k v : Vec F S1x1x256x64 .bf16) (c : FVec F S256x1 .f32)
    (a : FVec F S256x64 .f32) : FVec F S256x64 .f32 :=
  hdPV a (hdW (hdZ q k) (hdSp (hdZ q k)) (hdSuf u (hdSp (hdZ q k))) c) v

/-- The strict causal mask inside the diagonal tile. -/
def below : IVec S256x256 1 :=
  cmpi .slt (iota .tc S256x256 32 [1] iota_S256x256_d1_w32) (iota .tc S256x256 32 [0] iota_S256x256_d0_w32)

/-- The scores' softplus on the diagonal tile, zero outside the mask. -/
def dgSp (q : FVec F S256x64 .bf16) (k : Vec F S1x1x256x64 .bf16) : FVec F S256x256 .f32 :=
  select below (hdSp (hdZ q k)) (broadcast S256x256 (Scalar.ofBits .f32 0x00000000#32))

/-- The zero total the diagonal tile starts from. -/
def zeroTot : FVec F S256x1 .f32 := broadcast S256x1 (Scalar.ofBits .f32 0x00000000#32)

/-- The running total after the diagonal tile. -/
def dgCar (u : FVec F S256x256 .bf16) (q : FVec F S256x64 .bf16) (k : Vec F S1x1x256x64 .bf16) : FVec F S256x1 .f32 :=
  hdTot zeroTot (hdSuf u (dgSp q k)) (dgSp q k)

/-- The partial sum after the diagonal tile. -/
def dgAcc (u : FVec F S256x256 .bf16) (q : FVec F S256x64 .bf16) (k v : Vec F S1x1x256x64 .bf16) : FVec F S256x64 .f32 :=
  hdPV (broadcast S256x64 (Scalar.ofBits .f32 0x00000000#32))
    (select below (hdW (hdZ q k) (hdSp (hdZ q k)) (hdSuf u (dgSp q k)) zeroTot)
      (broadcast S256x256 (Scalar.ofBits .f32 0x00000000#32))) v

/-! ## The four heads together -/

/-- The variants of the loop's label: the trips still to run. -/
abbrev 𝒱₀ : Variants := Variants.nat

/-- What the loop carries: the tile count, the heads' partial sums, the heads' running totals, the test word. -/
abbrev St (F : FTy → Type) : Type :=
  BitVec 32 × FVec F S256x64 .f32 × FVec F S256x64 .f32 × FVec F S256x64 .f32 × FVec F S256x64 .f32
    × FVec F S256x1 .f32 × FVec F S256x1 .f32 × FVec F S256x1 .f32 × FVec F S256x1 .f32 × BitVec 32

/-- The test the loop makes of a state. -/
abbrev test (i : grid0.Coords) (n live : BitVec 32) : BitVec 1 :=
  Scalar.andi (Scalar.cmpi .slt n (BitVec.ofNat 32 (i 1).val)) (Scalar.cmpi .sgt live 0#32)

/-- The test word after a tile: whether some row's least total is still below the bound. -/
def liveOf (c0 c1 c2 c3 : FVec F S256x1 .f32) : BitVec 32 :=
  Scalar.extui (Scalar.cmpf .olt (k0_pay4 c0 c1 c2 c3) (Named.named κ "exp_zero" 0x42D20000#32))

/-- One trip's state, from the tile's keys and values. -/
def stepVal (v5 v9 v13 v17 : FVec F S256x64 .bf16) (v1 : FVec F S256x256 .bf16)
    (k0 k1 k2 k3 w0 w1 w2 w3 : Vec F S1x1x256x64 .bf16) (s : St F) : St F :=
  (Scalar.addi s.1 1#32,
   offAcc v1 v5 k0 w0 s.2.2.2.2.2.1 s.2.1,
   offAcc v1 v9 k1 w1 s.2.2.2.2.2.2.1 s.2.2.1,
   offAcc v1 v13 k2 w2 s.2.2.2.2.2.2.2.1 s.2.2.2.1,
   offAcc v1 v17 k3 w3 s.2.2.2.2.2.2.2.2.1 s.2.2.2.2.1,
   offCar v1 v5 k0 s.2.2.2.2.2.1,
   offCar v1 v9 k1 s.2.2.2.2.2.2.1,
   offCar v1 v13 k2 s.2.2.2.2.2.2.2.1,
   offCar v1 v17 k3 s.2.2.2.2.2.2.2.2.1,
   liveOf (offCar v1 v5 k0 s.2.2.2.2.2.1) (offCar v1 v9 k1 s.2.2.2.2.2.2.1) (offCar v1 v13 k2 s.2.2.2.2.2.2.2.1)
     (offCar v1 v17 k3 s.2.2.2.2.2.2.2.2.1))

/-- The state the loop is entered with, from the diagonal tile's keys and values. -/
def startVal (v5 v9 v13 v17 : FVec F S256x64 .bf16) (v1 : FVec F S256x256 .bf16)
    (k0 k1 k2 k3 w0 w1 w2 w3 : Vec F S1x1x256x64 .bf16) : St F :=
  (0#32, dgAcc v1 v5 k0 w0, dgAcc v1 v9 k1 w1, dgAcc v1 v13 k2 w2, dgAcc v1 v17 k3 w3,
   dgCar v1 v5 k0, dgCar v1 v9 k1, dgCar v1 v13 k2, dgCar v1 v17 k3, 1#32)

/-- The tile of keys or values at offsets `off`. -/
abbrev ldAt (x : Vec F S1x4x8192x64 .bf16) (off : Fin 4 → ℕ)
    (h : ∀ a, off a + S1x1x256x64.size a ≤ S1x4x8192x64.size a) : Vec F S1x1x256x64 .bf16 :=
  fun y => x ((Rect.unit (s := S1x4x8192x64) off S1x1x256x64.size h).toLoadRect.idx y)

/-- One head's queries at offsets `off`. -/
abbrev ldQ (x : Vec F S1x4x256x64 .bf16) (off : Fin 4 → ℕ)
    (h : ∀ a, off a + S1x1x256x64.size a ≤ S1x4x256x64.size a) : Vec F S1x1x256x64 .bf16 :=
  fun y => x ((Rect.unit (s := S1x4x256x64) off S1x1x256x64.size h).toLoadRect.idx y)

/-- One trip's state, from the whole keys and values. -/
def tripVal (i : grid0.Coords) (v5 v9 v13 v17 : FVec F S256x64 .bf16) (v1 : FVec F S256x256 .bf16)
    (x1 x2 : Vec F S1x4x8192x64 .bf16) (s : St F) (h : k0_chk1 i s.1) : St F :=
  stepVal v5 v9 v13 v17 v1
    (ldAt x1 (k0_off5 i s.1) (k0_off5_inb i s.1 h)) (ldAt x1 (k0_off6 i s.1) (k0_off6_inb i s.1 h))
    (ldAt x1 (k0_off7 i s.1) (k0_off7_inb i s.1 h)) (ldAt x1 (k0_off8 i s.1) (k0_off8_inb i s.1 h))
    (ldAt x2 (k0_off5 i s.1) (k0_off5_inb i s.1 h)) (ldAt x2 (k0_off6 i s.1) (k0_off6_inb i s.1 h))
    (ldAt x2 (k0_off7 i s.1) (k0_off7_inb i s.1 h)) (ldAt x2 (k0_off8 i s.1) (k0_off8_inb i s.1 h)) s

/-- The state after at most `k` more trips. -/
def loopVal (i : grid0.Coords) (v5 v9 v13 v17 : FVec F S256x64 .bf16) (v1 : FVec F S256x256 .bf16)
    (x1 x2 : Vec F S1x4x8192x64 .bf16) : ℕ → St F → St F
  | 0, s => s
  | k + 1, s =>
    if h : k0_chk1 i s.1 then
      if test i s.1 s.2.2.2.2.2.2.2.2.2 = 1#1 then
        loopVal i v5 v9 v13 v17 v1 x1 x2 k (tripVal i v5 v9 v13 v17 v1 x1 x2 s h)
      else s
    else s

/-- The block of results a grid point leaves, from its queries, the keys, the values and the triangle. -/
def blockVal (i : grid0.Coords) (x0 : Vec F S1x4x256x64 .bf16) (x1 x2 : Vec F S1x4x8192x64 .bf16) (x3 : Vec F S256x256 .bf16) :
    Vec F S1x256x256 .bf16 :=
  let q0 := k0_pay6 (ldQ x0 ![0, 0, 0, 0] inb_S1x4x256x64_S1x1x256x64_0_0_0_0)
  let q1 := k0_pay6 (ldQ x0 ![0, 1, 0, 0] inb_S1x4x256x64_S1x1x256x64_0_1_0_0)
  let q2 := k0_pay6 (ldQ x0 ![0, 2, 0, 0] inb_S1x4x256x64_S1x1x256x64_0_2_0_0)
  let q3 := k0_pay6 (ldQ x0 ![0, 3, 0, 0] inb_S1x4x256x64_S1x1x256x64_0_3_0_0)
  let s := loopVal i q0 q1 q2 q3 (k0_pay5 x3) x1 x2 (i 1).val
    (startVal q0 q1 q2 q3 (k0_pay5 x3)
      (ldAt x1 (k0_off1 i) (k0_off1_inb i)) (ldAt x1 (k0_off2 i) (k0_off2_inb i))
      (ldAt x1 (k0_off3 i) (k0_off3_inb i)) (ldAt x1 (k0_off4 i) (k0_off4_inb i))
      (ldAt x2 (k0_off1 i) (k0_off1_inb i)) (ldAt x2 (k0_off2 i) (k0_off2_inb i))
      (ldAt x2 (k0_off3 i) (k0_off3_inb i)) (ldAt x2 (k0_off4 i) (k0_off4_inb i)))
  k0_pay58 s.2.1 s.2.2.1 s.2.2.2.1 s.2.2.2.2.1

end Cert.KernelIdeal.SB

end
-- ==== Proof.SBI.Trip.lean ====
module

public import proofs.«01_k».proof.Proof.SBI.Step
public import Idealize.ShloMosaic.Lib.WholeRead
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Tactic
public import Idealize.ShloMosaic.Lib.Pipeline.Kit
public import Idealize.ShloMosaic.Lib.Pipeline.Value

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop's body called on a state. -/
abbrev loopOn (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole) (s : St F) :
    Prog (TpuEff nD τ sig (Elt F) (Λ₀ F) .tc) (St F) :=
  cc0_while1 i arg3 harg3 v5 v9 v13 v17 v1 arg4 harg4 s.1 s.2.1 s.2.2.1 s.2.2.2.1 s.2.2.2.2.1 s.2.2.2.2.2.1 s.2.2.2.2.2.2.1
    s.2.2.2.2.2.2.2.1 s.2.2.2.2.2.2.2.2.1 s.2.2.2.2.2.2.2.2.2

/-- The call of the loop's label on a state. -/
abbrev callOn (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole) (s : St F) :
    Prog (TpuEff nD τ sig (Elt F) (Λ₀ F) .tc) (St F) :=
  Prog.lift (.call (1 : (Λ₀ F).Label) ⟨i, arg3, harg3, v5, v9, v13, v17, v1, arg4, harg4, s.1, s.2.1, s.2.2.1, s.2.2.2.1,
    s.2.2.2.2.1, s.2.2.2.2.2.1, s.2.2.2.2.2.2.1, s.2.2.2.2.2.2.2.1, s.2.2.2.2.2.2.2.2.1, s.2.2.2.2.2.2.2.2.2⟩)

/-- The keys' and the values' staging memrefs held at their contents. -/
def held (c : Dev nD) (arg3 : Memref sig .tc .vmem S1x4x8192x64 .bf16) (harg3 : arg3.IsWhole)
    (arg4 : Memref sig .tc .vmem S1x4x8192x64 .bf16) (harg4 : arg4.IsWhole) (x1 x2 : Vec F S1x4x8192x64 .bf16) : sProp 𝕄 :=
  iprop((arg3.view.loc (c : Thread nD τ) ↦[arg3.view.set]{fullShare} harg3.unread x1)
    ∗ (arg4.view.loc (c : Thread nD τ) ↦[arg4.view.set]{fullShare} harg4.unread x2))

/-- A load from the keys' or the values' memref held at contents `x` reads the tile of `x`. -/
theorem rd_eq (arg : Memref sig .tc .vmem S1x4x8192x64 .bf16) (harg : arg.IsWhole) (x : Vec F S1x4x8192x64 .bf16)
    (off : Fin 4 → ℕ) (h : ∀ a, off a + S1x1x256x64.size a ≤ S1x4x8192x64.size a) :
    View.readAt (Elt F) arg.view (Rect.unit (s := S1x4x8192x64) off S1x1x256x64.size h).toLoadRect (harg.unread x) = ldAt x off h :=
  funext fun y => harg.readAt_unread x _ y

set_option maxHeartbeats 4000000 in
/-- One trip whose test passes, over the loads as the machine makes them: the body, holding the keys and the values,
    goes on to call the label on the next state. -/
theorem trip_raw (c : Dev nD) (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole)
    (x1 x2 : Vec F S1x4x8192x64 .bf16) (s : St F) (hchk : k0_chk1 i s.1)
    (ht : test i s.1 s.2.2.2.2.2.2.2.2.2 = 1#1) (bd : Option ℕ) (E : Set ℕ) (K : St F → sProp 𝕄) :
        iprop(held c arg3 harg3 arg4 harg4 x1 x2
            ∗ (held c arg3 harg3 arg4 harg4 x1 x2
                -∗ wp frame (wpE (defs₀ (F := F)) 𝒱₀ (c : Thread nD τ) bd) E (callOn i arg3 harg3 v5 v9 v13 v17 v1 arg4 harg4
    (stepVal v5 v9 v13 v17 v1
      (View.readAt (Elt F) arg3.view (Rect.unit (s := S1x4x8192x64) (k0_off5 i s.1) S1x1x256x64.size (k0_off5_inb i s.1 hchk)).toLoadRect (harg3.unread x1))
      (View.readAt (Elt F) arg3.view (Rect.unit (s := S1x4x8192x64) (k0_off6 i s.1) S1x1x256x64.size (k0_off6_inb i s.1 hchk)).toLoadRect (harg3.unread x1))
      (View.readAt (Elt F) arg3.view (Rect.unit (s := S1x4x8192x64) (k0_off7 i s.1) S1x1x256x64.size (k0_off7_inb i s.1 hchk)).toLoadRect (harg3.unread x1))
      (View.readAt (Elt F) arg3.view (Rect.unit (s := S1x4x8192x64) (k0_off8 i s.1) S1x1x256x64.size (k0_off8_inb i s.1 hchk)).toLoadRect (harg3.unread x1))
      (View.readAt (Elt F) arg4.view (Rect.unit (s := S1x4x8192x64) (k0_off5 i s.1) S1x1x256x64.size (k0_off5_inb i s.1 hchk)).toLoadRect (harg4.unread x2))
      (View.readAt (Elt F) arg4.view (Rect.unit (s := S1x4x8192x64) (k0_off6 i s.1) S1x1x256x64.size (k0_off6_inb i s.1 hchk)).toLoadRect (harg4.unread x2))
      (View.readAt (Elt F) arg4.view (Rect.unit (s := S1x4x8192x64) (k0_off7 i s.1) S1x1x256x64.size (k0_off7_inb i s.1 hchk)).toLoadRect (harg4.unread x2))
      (View.readAt (Elt F) arg4.view (Rect.unit (s := S1x4x8192x64) (k0_off8 i s.1) S1x1x256x64.size (k0_off8_inb i s.1 hchk)).toLoadRect (harg4.unread x2))
      s)) K))
          ⊢ wp frame (wpE (defs₀ (F := F)) 𝒱₀ (c : Thread nD τ) bd) E (loopOn i arg3 harg3 v5 v9 v13 v17 v1 arg4 harg4 s) K := by
  simp only [loopOn, cc0_while1_eq_skeleton]; unfold cc0_while1_skel
  simp only [ht, ↓reduceIte]
  unfold held
  iintro ⟨⟨H3, H4⟩, Hk⟩
  sl_exec
  iapply Hk
  isplitl [H3]
  · iexact H3
  iexact H4

/-- One trip whose test passes. -/
theorem trip_spec (c : Dev nD) (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole)
    (x1 x2 : Vec F S1x4x8192x64 .bf16) (s : St F) (hchk : k0_chk1 i s.1)
    (ht : test i s.1 s.2.2.2.2.2.2.2.2.2 = 1#1) (bd : Option ℕ) (E : Set ℕ) (K : St F → sProp 𝕄) :
        iprop(held c arg3 harg3 arg4 harg4 x1 x2
            ∗ (held c arg3 harg3 arg4 harg4 x1 x2
                -∗ wp frame (wpE (defs₀ (F := F)) 𝒱₀ (c : Thread nD τ) bd) E (callOn i arg3 harg3 v5 v9 v13 v17 v1 arg4 harg4
                    (tripVal i v5 v9 v13 v17 v1 x1 x2 s hchk)) K))
          ⊢ wp frame (wpE (defs₀ (F := F)) 𝒱₀ (c : Thread nD τ) bd) E (loopOn i arg3 harg3 v5 v9 v13 v17 v1 arg4 harg4 s) K := by
  have h := trip_raw c i arg3 harg3 v5 v9 v13 v17 v1 arg4 harg4 x1 x2 s hchk ht bd E K
  rw [rd_eq, rd_eq, rd_eq, rd_eq, rd_eq, rd_eq, rd_eq, rd_eq] at h
  exact h

section Words

/-- At the counter below the tile's number the tile visited lies inside the arrays, -/
theorem chk_of_lt : ∀ (i : grid0.Coords) (j : Fin 32), j.val < (i 1).val → k0_chk1 i (BitVec.ofNat 32 j.val) := by decide +kernel

/-- the test's first half passes exactly below it, -/
theorem slt_iff : ∀ (i j : Fin 33), Scalar.cmpi .slt (BitVec.ofNat 32 j.val) (BitVec.ofNat 32 i.val) = 1#1 ↔ j.val < i.val := by
  decide +kernel

/-- and the counter steps to the next one. -/
theorem addi_succ : ∀ j : Fin 32, Scalar.addi (BitVec.ofNat 32 j.val) 1#32 = BitVec.ofNat 32 (j.val + 1) := by decide +kernel

theorem and_one : ∀ a b : BitVec 1, Scalar.andi a b = 1#1 ↔ a = 1#1 ∧ b = 1#1 := by decide +kernel

theorem lt_of_test (i : grid0.Coords) (j : ℕ) (hj : j ≤ (i 1).val) (l : BitVec 32) (h : test i (BitVec.ofNat 32 j) l = 1#1) :
    j < (i 1).val := by
  have hi : (i 1).val < 32 := (i 1).isLt
  exact (slt_iff ⟨(i 1).val, by omega⟩ ⟨j, by omega⟩).mp ((and_one _ _).mp h).1

end Words

/-- The label's specification with at most `k` trips to run from a state. -/
def spec (c : Dev nD) (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole)
    (x1 x2 : Vec F S1x4x8192x64 .bf16) (k : ℕ) (s : St F) : sWPT 𝕄 (St F) := do
  sWPT.consume (held c arg3 harg3 arg4 harg4 x1 x2)
  sWPT.produce (held c arg3 harg3 arg4 harg4 x1 x2)
  pure (loopVal i v5 v9 v13 v17 v1 x1 x2 k s)

theorem spec_apply (c : Dev nD) (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole)
    (x1 x2 : Vec F S1x4x8192x64 .bf16) (k : ℕ) (s : St F) (K : St F → sProp 𝕄) :
    spec c i arg3 harg3 v5 v9 v13 v17 v1 arg4 harg4 x1 x2 k s K
      = iprop(held c arg3 harg3 arg4 harg4 x1 x2 ∗ (held c arg3 harg3 arg4 harg4 x1 x2
          -∗ K (loopVal i v5 v9 v13 v17 v1 x1 x2 k s))) := rfl

/-- The body whose test fails hands the state back. -/
theorem loopOn_exit (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole) (s : St F)
    (ht : ¬ test i s.1 s.2.2.2.2.2.2.2.2.2 = 1#1) :
    loopOn i arg3 harg3 v5 v9 v13 v17 v1 arg4 harg4 s = Prog.ret s := by
  simp only [loopOn, cc0_while1_eq_skeleton]; unfold cc0_while1_skel
  simp only [ht, ↓reduceIte, Prog.pure_eq_ret]

/-- The specification is met by the label's body, by induction on the trips to run. -/
theorem spec_le (c : Dev nD) (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole)
    (x1 x2 : Vec F S1x4x8192x64 .bf16) (E : Set ℕ) :
    ∀ k j, j + k = (i 1).val → ∀ (s : St F), s.1 = BitVec.ofNat 32 j → ∀ K,
      spec c i arg3 harg3 v5 v9 v13 v17 v1 arg4 harg4 x1 x2 k s K
        ⊢ wp frame (wpE (defs₀ (F := F)) 𝒱₀ (c : Thread nD τ) (some k)) E
          (loopOn i arg3 harg3 v5 v9 v13 v17 v1 arg4 harg4 s) K := by
  have hi : (i 1).val < 32 := (i 1).isLt
  intro k
  induction k with
  | zero =>
    intro j hj s hs K
    have ht : ¬ test i s.1 s.2.2.2.2.2.2.2.2.2 = 1#1 := fun h => by
      rw [hs] at h
      exact absurd (lt_of_test i j (by omega) _ h) (by omega)
    rw [spec_apply, loopOn_exit i arg3 harg3 v5 v9 v13 v17 v1 arg4 harg4 s ht, wp_ret, loopVal]
    iintro ⟨H, Hk⟩
    imodintro
    iapply Hk
    iexact H
  | succ k ih =>
    intro j hj s hs K
    have hchk : k0_chk1 i s.1 := by rw [hs]; exact chk_of_lt i ⟨j, by omega⟩ (by show j < _; omega)
    rw [spec_apply, loopVal, dif_pos hchk]
    by_cases ht : test i s.1 s.2.2.2.2.2.2.2.2.2 = 1#1
    · rw [if_pos ht]
      iintro ⟨H, Hk⟩
      iapply (trip_spec c i arg3 harg3 v5 v9 v13 v17 v1 arg4 harg4 x1 x2 s hchk ht (some (k + 1)) E K)
      isplitl [H]; · iexact H
      iintro H
      have hs' : (tripVal i v5 v9 v13 v17 v1 x1 x2 s hchk).1 = BitVec.ofNat 32 (j + 1) := by
        rw [show (tripVal i v5 v9 v13 v17 v1 x1 x2 s hchk).1 = Scalar.addi s.1 1#32 from rfl, hs]; exact addi_succ ⟨j, by omega⟩
      generalize (tripVal i v5 v9 v13 v17 v1 x1 x2 s hchk) = s' at hs' ⊢
      unfold callOn
      iapply (wp_call_spec 𝒱₀ (c : Thread nD τ) (some (k + 1)) E
        (spec c i arg3 harg3 v5 v9 v13 v17 v1 arg4 harg4 x1 x2 k s') k
        (fun u hu => by cases hu; exact Nat.lt_succ_self k) (ih (j + 1) (by omega) s' hs'))
      rw [spec_apply]
      isplitl [H]; · iexact H
      iintro H
      rw [wp_ret]; imodintro
      iapply Hk
      iexact H
    · rw [if_neg ht, loopOn_exit i arg3 harg3 v5 v9 v13 v17 v1 arg4 harg4 s ht, wp_ret]
      iintro ⟨H, Hk⟩
      imodintro
      iapply Hk
      iexact H

end Cert.KernelIdeal.SB

end
-- ==== Proof.SBI.Body.lean ====
module

public import proofs.«01_k».proof.Proof.SBI.Trip

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load of one head's queries from their memref held at contents `x`. -/
theorem rdQ_eq (arg : Memref sig .tc .vmem S1x4x256x64 .bf16) (harg : arg.IsWhole) (x : Vec F S1x4x256x64 .bf16)
    (off : Fin 4 → ℕ) (h : ∀ a, off a + S1x1x256x64.size a ≤ S1x4x256x64.size a) :
    View.readAt (Elt F) arg.view (Rect.unit (s := S1x4x256x64) off S1x1x256x64.size h).toLoadRect (harg.unread x) = ldQ x off h :=
  funext fun y => harg.readAt_unread x _ y

/-- The load of the whole triangle. -/
theorem rdU_eq (arg : Memref sig .tc .vmem S256x256 .bf16) (harg : arg.IsWhole) (x : Vec F S256x256 .bf16)
    (h : ∀ a, (![0, 0] : Fin 2 → ℕ) a + S256x256.size a ≤ S256x256.size a) :
    View.readAt (Elt F) arg.view (Rect.unit (s := S256x256) ![0, 0] S256x256.size h).toLoadRect (harg.unread x) = x := by
  funext y
  rw [harg.readAt_unread x]
  refine congrArg x (funext fun a => Fin.ext ?_)
  fin_cases a <;> simp [Rect.toLoadRect, Rect.unit, LoadRect.idx]

/-- The call of the loop's label on a state, with every trip it may still make below it. -/
theorem call_spec (c : Dev nD) (i : grid0.Coords) (arg3 : Memref sig .tc .vmem S1x4x8192x64 .bf16) (harg3 : arg3.IsWhole)
    (v5 v9 v13 v17 : FVec F S256x64 .bf16) (v1 : FVec F S256x256 .bf16)
    (arg4 : Memref sig .tc .vmem S1x4x8192x64 .bf16) (harg4 : arg4.IsWhole)
    (x1 x2 : Vec F S1x4x8192x64 .bf16) (s : St F) (hs : s.1 = BitVec.ofNat 32 0) (E : Set ℕ)
    {α : Type} (k : St F → Prog (TpuEff nD τ sig (Elt F) (Λ₀ F) .tc) α) (Q : α → sProp 𝕄) :
    iprop(held c arg3 harg3 arg4 harg4 x1 x2 ∗ (held c arg3 harg3 arg4 harg4 x1 x2
        -∗ wp frame (wpE (defs₀ (F := F)) 𝒱₀ (c : Thread nD τ) none) E (k (loopVal i v5 v9 v13 v17 v1 x1 x2 (i 1).val s)) Q))
      ⊢ wp frame (wpE (defs₀ (F := F)) 𝒱₀ (c : Thread nD τ) none) E
        (.op (.call (1 : (Λ₀ F).Label) ⟨i, arg3, harg3, v5, v9, v13, v17, v1, arg4, harg4, s.1, s.2.1, s.2.2.1, s.2.2.2.1,
          s.2.2.2.2.1, s.2.2.2.2.2.1, s.2.2.2.2.2.2.1, s.2.2.2.2.2.2.2.1, s.2.2.2.2.2.2.2.2.1, s.2.2.2.2.2.2.2.2.2⟩) k) Q := by
  iintro H
  iapply (wp_call_spec 𝒱₀ (c : Thread nD τ) none E (spec c i arg3 harg3 v5 v9 v13 v17 v1 arg4 harg4 x1 x2 (i 1).val s) (i 1).val
    (fun u hu => nomatch hu)
    (spec_le c i arg3 harg3 v5 v9 v13 v17 v1 arg4 harg4 x1 x2 E (i 1).val 0 (Nat.zero_add _) s hs))
  rw [spec_apply]
  iexact H

/-- The block's value over the loads as the machine makes them. -/
def blockRaw (i : grid0.Coords) (arg2 : Memref sig .tc .vmem S1x4x256x64 .bf16) (harg2 : arg2.IsWhole) (arg3 : Memref sig .tc .vmem S1x4x8192x64 .bf16) (harg3 : arg3.IsWhole) (arg4 : Memref sig .tc .vmem S1x4x8192x64 .bf16) (harg4 : arg4.IsWhole) (arg5 : Memref sig .tc .vmem S256x256 .bf16) (harg5 : arg5.IsWhole)
    (x0 : Vec F S1x4x256x64 .bf16) (x1 x2 : Vec F S1x4x8192x64 .bf16) (x3 : Vec F S256x256 .bf16) : St F :=
  startVal
    (k0_pay6 (View.readAt (Elt F) arg2.view (Rect.unit (s := S1x4x256x64) ![0, 0, 0, 0] S1x1x256x64.size inb_S1x4x256x64_S1x1x256x64_0_0_0_0).toLoadRect (harg2.unread x0)))
    (k0_pay6 (View.readAt (Elt F) arg2.view (Rect.unit (s := S1x4x256x64) ![0, 1, 0, 0] S1x1x256x64.size inb_S1x4x256x64_S1x1x256x64_0_1_0_0).toLoadRect (harg2.unread x0)))
    (k0_pay6 (View.readAt (Elt F) arg2.view (Rect.unit (s := S1x4x256x64) ![0, 2, 0, 0] S1x1x256x64.size inb_S1x4x256x64_S1x1x256x64_0_2_0_0).toLoadRect (harg2.unread x0)))
    (k0_pay6 (View.readAt (Elt F) arg2.view (Rect.unit (s := S1x4x256x64) ![0, 3, 0, 0] S1x1x256x64.size inb_S1x4x256x64_S1x1x256x64_0_3_0_0).toLoadRect (harg2.unread x0)))
    (k0_pay5 (View.readAt (Elt F) arg5.view (Rect.unit (s := S256x256) ![0, 0] S256x256.size inb_S256x256_S256x256_0_0).toLoadRect (harg5.unread x3)))
    (View.readAt (Elt F) arg3.view (Rect.unit (s := S1x4x8192x64) (k0_off1 i) S1x1x256x64.size (k0_off1_inb i)).toLoadRect (harg3.unread x1))
    (View.readAt (Elt F) arg3.view (Rect.unit (s := S1x4x8192x64) (k0_off2 i) S1x1x256x64.size (k0_off2_inb i)).toLoadRect (harg3.unread x1))
    (View.readAt (Elt F) arg3.view (Rect.unit (s := S1x4x8192x64) (k0_off3 i) S1x1x256x64.size (k0_off3_inb i)).toLoadRect (harg3.unread x1))
    (View.readAt (Elt F) arg3.view (Rect.unit (s := S1x4x8192x64) (k0_off4 i) S1x1x256x64.size (k0_off4_inb i)).toLoadRect (harg3.unread x1))
    (View.readAt (Elt F) arg4.view (Rect.unit (s := S1x4x8192x64) (k0_off1 i) S1x1x256x64.size (k0_off1_inb i)).toLoadRect (harg4.unread x2))
    (View.readAt (Elt F) arg4.view (Rect.unit (s := S1x4x8192x64) (k0_off2 i) S1x1x256x64.size (k0_off2_inb i)).toLoadRect (harg4.unread x2))
    (View.readAt (Elt F) arg4.view (Rect.unit (s := S1x4x8192x64) (k0_off3 i) S1x1x256x64.size (k0_off3_inb i)).toLoadRect (harg4.unread x2))
    (View.readAt (Elt F) arg4.view (Rect.unit (s := S1x4x8192x64) (k0_off4 i) S1x1x256x64.size (k0_off4_inb i)).toLoadRect (harg4.unread x2))

set_option maxHeartbeats 8000000 in
/-- The body on whole staging memrefs: the inputs' at their contents, the output's at anything; the output ends at the
    block's value. -/
theorem body_run (c : Dev nD) (i : grid0.Coords) (arg2 : Memref sig .tc .vmem S1x4x256x64 .bf16) (harg2 : arg2.IsWhole) (arg3 : Memref sig .tc .vmem S1x4x8192x64 .bf16) (harg3 : arg3.IsWhole) (arg4 : Memref sig .tc .vmem S1x4x8192x64 .bf16) (harg4 : arg4.IsWhole) (arg5 : Memref sig .tc .vmem S256x256 .bf16) (harg5 : arg5.IsWhole) (arg6 : Memref sig .tc .vmem S1x256x256 .bf16) (harg6 : arg6.IsWhole)
    (x0 : Vec F S1x4x256x64 .bf16) (x1 : Vec F S1x4x8192x64 .bf16) (x2 : Vec F S1x4x8192x64 .bf16) (x3 : Vec F S256x256 .bf16)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (blockVal i x0 x1 x2 x3)) -∗ K ⟨⟩))
          ⊢ wp frame (wpE (defs₀ (F := F)) 𝒱₀ c none) E (cc0_sb_prompt i arg2 harg2 arg3 harg3 arg4 harg4 arg5 harg5 arg6 harg6) K := by
  simp only [cc0_sb_prompt_eq_skeleton]; unfold cc0_sb_prompt_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  iapply (call_spec c i arg3 harg3
    (k0_pay6 (View.readAt (Elt F) arg2.view (Rect.unit (s := S1x4x256x64) ![0, 0, 0, 0] S1x1x256x64.size inb_S1x4x256x64_S1x1x256x64_0_0_0_0).toLoadRect (harg2.unread x0)))
    (k0_pay6 (View.readAt (Elt F) arg2.view (Rect.unit (s := S1x4x256x64) ![0, 1, 0, 0] S1x1x256x64.size inb_S1x4x256x64_S1x1x256x64_0_1_0_0).toLoadRect (harg2.unread x0)))
    (k0_pay6 (View.readAt (Elt F) arg2.view (Rect.unit (s := S1x4x256x64) ![0, 2, 0, 0] S1x1x256x64.size inb_S1x4x256x64_S1x1x256x64_0_2_0_0).toLoadRect (harg2.unread x0)))
    (k0_pay6 (View.readAt (Elt F) arg2.view (Rect.unit (s := S1x4x256x64) ![0, 3, 0, 0] S1x1x256x64.size inb_S1x4x256x64_S1x1x256x64_0_3_0_0).toLoadRect (harg2.unread x0)))
    (k0_pay5 (View.readAt (Elt F) arg5.view (Rect.unit (s := S256x256) ![0, 0] S256x256.size inb_S256x256_S256x256_0_0).toLoadRect (harg5.unread x3)))
    arg4 harg4 x1 x2 (blockRaw i arg2 harg2 arg3 harg3 arg4 harg4 arg5 harg5 x0 x1 x2 x3) rfl)
  unfold held
  isplitl [H1 H2]
  · isplitl [H1]; · iexact H1
    iexact H2
  iintro ⟨H1, H2⟩
  generalize hs : loopVal (F := F) i _ _ _ _ _ _ _ (i 1).val _ = s
  have hb : blockVal i x0 x1 x2 x3 = k0_pay58 s.2.1 s.2.2.1 s.2.2.2.1 s.2.2.2.2.1 := by
    rw [← hs]
    unfold blockRaw blockVal
    rw [rd_eq, rd_eq, rd_eq, rd_eq, rd_eq, rd_eq, rd_eq, rd_eq, rdQ_eq, rdQ_eq, rdQ_eq, rdQ_eq, rdU_eq]
  clear hs
  obtain ⟨n, a0, a1, a2, a3, c0, c1, c2, c3, l⟩ := s
  rw [hb]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro; exact View.read_writes_full _ _ _ _ _

end Cert.KernelIdeal.SB

end
-- ==== Proof.SBI.Frame.lean ====
module

public import proofs.«01_k».proof.Proof.SBI.Body
public import Idealize.ShloMosaic.Lib.Pipeline.FrameBody
public import Idealize.ShloMosaic.Lib.Claim

@[expose] public section

set_option maxRecDepth 16384

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the pipeline starts: after the host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- A run of the pipeline leaves the three arguments as they were. -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

abbrev ms0_0 (t : Fin (cfg0 (F := F)).N) : Memref sig .tc .vmem S1x4x256x64 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S1x4x8192x64 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S1x4x8192x64 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x256 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S1x256x256 .bf16 := win0_4.stage ((cfg0 (F := F)).slots t 4)
abbrev hs0_4 (t : Fin (cfg0 (F := F)).N) : (ms0_4 t).IsWhole := hstage0_4 (((cfg0 (F := F)).slots t 4).cast nbuf0_4)

/-- The output's staging buffer after the body at point `t`: the block's value. -/
def outsAt0 (c : Dev nD) (t : Fin (cfg0 (F := F)).N) : Vec F S1x256x256 .bf16 :=
  blockVal (grid0.coords t) (iblk m c 0 t) (iblk m c 1 t) (iblk m c 2 t) (iblk m c 3 t)

/-- What the pipeline's buffers hold. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = (outsAt0 m c t) := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-- What the body starts from at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it ends with. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at every point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_run c (grid0.coords t) _ (hs0_0 t) _ (hs0_1 t) _ (hs0_2 t) _ (hs0_3 t) _ (hs0_4 t)
    (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The same, as the pipeline asks for it. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost (cfgs (F := F)) (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- What point `t` writes back. -/
theorem flushed4 (c : Dev nD) (t : Fin (cfg0 (F := F)).N) :
    (dats m 0 c).flushed 4 t = ((cfg0 (F := F)).win 4).cut (grid0.coords t) (outsAt0 m c t) := by
  show ((cfg0 (F := F)).win 4).cut (grid0.coords t) ((dats m 0 c).after 4 t) = _
  rw [after0_4]

/-- Distinct points write distinct blocks, -/
theorem idx_inj4 : ∀ t t' : Fin (cfg0 (F := F)).N, win0_4.index t = win0_4.index t' → t = t' :=
  (by decide +kernel : ∀ t t' : Fin grid0.N, win0_4.index t = win0_4.index t' → t = t')

/-- so no two overlap, -/
theorem disjoint4 : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => ((cfg0 (F := F)).win 4).disjoint_blk fun h => hne (idx_inj4 t t' h)

/-- and block `t` of the final array is what point `t` wrote. -/
theorem blocks4 (c : Dev nD) (t : Fin (cfg0 (F := F)).N) (hf : ((cfg0 (F := F)).win 4).flush t = true) :
    (((cfg0 (F := F)).win 4).blk t).view.read (Elt F) ((dats m 0 c).arrAt 4 (cfg0 (F := F)).N) = (dats m 0 c).flushed 4 t :=
  (dats m 0 c).read_blk_arrAt_eq_flushed 4 disjoint4 (cfg0 (F := F)).N t t.isLt hf

theorem post4 (r : PUnit × MemSt nD τ sig (Elt F)) (h : Pipeline.FramePost (cfgs (F := F)) (dats m) 0 (V m) r) (c : Dev nD) :
    r.2.mem ((c : Thread nD τ).loc main_v5) = (dats m 0 c).arrAt 4 (cfg0 (F := F)).N :=
  (h c).1 4

theorem kept_main_arg0 (r : PUnit × MemSt nD τ sig (Elt F)) (h : Pipeline.FramePost (cfgs (F := F)) (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost (cfgs (F := F)) (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost (cfgs (F := F)) (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run, with the result array named. -/
theorem run_blocks : θ_run defs (onTc (τ := τ) (main (F := F))) ⟨m, fun _ => 0, ρ⟩ fun r => ∀ c : Dev nD,
      r.2.mem ((c : Thread nD τ).loc main_v5) = (dats m 0 c).arrAt 4 (cfg0 (F := F)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post4 m r h c,
      kept_main_arg0 m r h c,
      kept_main_arg1 m r h c,
      kept_main_arg2 m r h c⟩)
    (run_main m ρ)

end Cert.KernelIdeal.SB

end
-- ==== Proof.SBV.Row.lean ====
module

public import Idealize.ShloMosaic.Lib.Pointwise

@[expose] public section

/-! One row of stick-breaking attention over the reals: the scores `Z`, the values `V`, a query at place `t` that
    looks at the keys before it. -/

noncomputable section

namespace Cert.SBV

open Idealize.ShloMosaic

theorem toInt_small (n : ℕ) (h : n < 2 ^ 31) : (BitVec.ofNat 32 n).toInt = n := by
  have e : (BitVec.ofNat 32 n).toNat = n := by rw [BitVec.toNat_ofNat]; omega
  rw [BitVec.toInt_eq_toNat_of_lt (by rw [e]; omega), e]

/-- The signed comparison of small numbers. -/
theorem slt_small (a b : ℕ) (ha : a < 2 ^ 31) (hb : b < 2 ^ 31) :
    IntOp.cmpi .slt (BitVec.ofNat 32 a) (BitVec.ofNat 32 b) = if a < b then (1#1 : BitVec 1) else 0#1 := by
  show BitVec.ofBool (BitVec.slt _ _) = _
  rw [BitVec.slt, toInt_small a ha, toInt_small b hb]
  by_cases h : a < b
  · rw [if_pos h, decide_eq_true (by exact_mod_cast h)]; rfl
  · rw [if_neg h, decide_eq_false (by exact_mod_cast h)]; rfl

/-- Softplus, in the form that never overflows. -/
def sp (x : ℝ) : ℝ := max x 0 + Real.log (1 + Real.exp (-|x|))

/-- Softplus of the negated score is softplus of the score less the score. -/
theorem sp_neg (x : ℝ) : sp (-x) = sp x - x := by
  unfold sp
  rw [abs_neg]
  have h : max (-x) 0 = max x 0 - x := by
    rcases le_total x 0 with h | h
    · rw [max_eq_left (by linarith), max_eq_right h]; ring
    · rw [max_eq_right (by linarith), max_eq_left h]; ring
  rw [h]; ring

/-- The weight of key `s` for the query at place `t`. -/
def wt (Z : ℕ → ℝ) (t s : ℕ) : ℝ := Real.exp ((Z s - sp (Z s)) - ∑ j ∈ Finset.Ico (s + 1) t, sp (Z j))

/-- The softplus total over the keys from `lo` up to the query's place. -/
def tot (Z : ℕ → ℝ) (lo t : ℕ) : ℝ := ∑ j ∈ Finset.Ico lo t, sp (Z j)

/-- The weighted values over the keys from `lo` up to the query's place. -/
def out (Z : ℕ → ℝ) (V : ℕ → EReal) (lo t : ℕ) : EReal := ∑ s ∈ Finset.Ico lo t, (wt Z t s : EReal) * V s

/-- A sum over a tile's columns is a sum over a stretch of keys. -/
theorem sum_tile {M : Type*} [AddCommMonoid M] (n lo : ℕ) (f : ℕ → M) : ∑ j : Fin n, f (lo + j.val) = ∑ s ∈ Finset.Ico lo (lo + n), f s := by
  rw [Finset.sum_Ico_eq_sum_range, Nat.add_sub_cancel_left, Finset.sum_range]

/-- A sum over those of a tile's columns that lie in a stretch of keys. -/
theorem sum_sel {M : Type*} [AddCommMonoid M] (n lo a b : ℕ) (ha : lo ≤ a) (hb : b ≤ lo + n) (p : Fin n → Prop) [DecidablePred p]
    (hp : ∀ j : Fin n, p j ↔ a ≤ lo + j.val ∧ lo + j.val < b) (f : ℕ → M) :
    (∑ j : Fin n, if p j then f (lo + j.val) else 0) = ∑ s ∈ Finset.Ico a b, f s := by
  have h := sum_tile n lo fun s => if a ≤ s ∧ s < b then f s else 0
  have e : Finset.filter (fun s => a ≤ s ∧ s < b) (Finset.Ico lo (lo + n)) = Finset.Ico a b := by
    ext s; simp only [Finset.mem_filter, Finset.mem_Ico]; omega
  refine (Finset.sum_congr rfl fun j _ => if_congr (hp j) rfl rfl).trans (h.trans ?_)
  rw [← Finset.sum_filter, e]

/-- One tile more of the total. -/
theorem tot_tile (Z : ℕ → ℝ) (lo n t : ℕ) (h : lo + n ≤ t) :
    tot Z (lo + n) t + ∑ s ∈ Finset.Ico lo (lo + n), sp (Z s) = tot Z lo t := by
  unfold tot
  rw [add_comm, Finset.sum_Ico_consecutive _ (by omega) h]

/-- One tile more of the weighted values. -/
theorem out_tile (Z : ℕ → ℝ) (V : ℕ → EReal) (lo n t : ℕ) (h : lo + n ≤ t) :
    out Z V (lo + n) t + ∑ s ∈ Finset.Ico lo (lo + n), (wt Z t s : EReal) * V s = out Z V lo t := by
  unfold out
  rw [add_comm, Finset.sum_Ico_consecutive _ (by omega) h]

/-- A weight from the tile's own sum and the total of the tiles after it. -/
theorem wt_tile (Z : ℕ → ℝ) (lo n t s : ℕ) (h : lo + n ≤ t) (hs : s < lo + n) :
    Real.exp ((Z s - sp (Z s)) - (∑ j ∈ Finset.Ico (s + 1) (lo + n), sp (Z j) + tot Z (lo + n) t)) = wt Z t s := by
  unfold wt tot
  rw [Finset.sum_Ico_consecutive _ (by omega) h]

/-- The finite sums of reals, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's softplus of a real score. -/
theorem sp_coe (x : ℝ) : max (x : EReal) 0 + Ideal.log (1 + Ideal.exp (0 - max (x : EReal) (-(x : EReal)))) = (sp x : EReal) := by
  have h1 : max (x : EReal) (-(x : EReal)) = ((|x| : ℝ) : EReal) := by
    rw [← EReal.coe_neg]; exact (EReal.coe_strictMono.monotone.map_max (a := x) (b := -x)).symm
  have h2 : max (x : EReal) 0 = ((max x 0 : ℝ) : EReal) := (EReal.coe_strictMono.monotone.map_max (a := x) (b := 0)).symm
  have h3 : (0 : EReal) - ((|x| : ℝ) : EReal) = ((-|x| : ℝ) : EReal) := by
    rw [← EReal.coe_zero, ← EReal.coe_sub, zero_sub]
  rw [h1, h2, h3, Ideal.exp_coe, ← EReal.coe_one, ← EReal.coe_add, Ideal.log_coe,
    if_neg (by have := Real.exp_pos (-|x|); linarith), ← EReal.coe_add]
  rfl

end Cert.SBV

end
-- ==== Proof.SBV.Tile.lean ====
module

public import proofs.«01_k».proof.Proof.SBI.Step
public import proofs.«01_k».proof.Proof.SBV.Row

@[expose] public section

set_option maxRecDepth 16384

/-! One tile of keys for one head, read at an index over exact arithmetic. -/

noncomputable section

namespace Cert.SBV

open Cert.KernelIdeal Cert.KernelIdeal.Gen Cert.KernelIdeal.SB
open Idealize.ShloMosaic

/-- The scores: queries against keys. -/
theorem hdZ_at (q : FVec Ideal S256x64 .bf16) (k : Vec Ideal S1x1x256x64 .bf16) (r c : Fin 256) :
    hdZ q k (ix2 r c) = ∑ d : Fin 64, q (ix2 r d) * k (ix4 0 0 c d) := by
  pointwise [hdZ]

/-- Softplus of a real score. -/
theorem hdSp_at (z : FVec Ideal S256x256 .f32) (r c : Fin 256) (x : ℝ) (h : z (ix2 r c) = (x : EReal)) :
    hdSp z (ix2 r c) = (sp x : EReal) := by
  pointwise [hdSp]
  rw [h]
  exact sp_coe x

/-- The triangle: ones where the row is past the column. -/
def IsTri (u : FVec Ideal S256x256 .bf16) : Prop := ∀ j c : Fin 256, u (ix2 j c) = if c < j then (1 : EReal) else 0

theorem real_sub_self (x : ℝ) : (x : EReal) - (x : EReal) = 0 := by rw [← EReal.coe_sub, sub_self, EReal.coe_zero]

/-- The triangular sums of a row of reals: the sum past each column. -/
theorem hdSuf_at (u : FVec Ideal S256x256 .bf16) (hu : IsTri u) (x : FVec Ideal S256x256 .f32) (r c : Fin 256) (y : Fin 256 → ℝ)
    (h : ∀ j, x (ix2 r j) = (y j : EReal)) :
    hdSuf u x (ix2 r c) = ((∑ j : Fin 256, if c < j then y j else 0 : ℝ) : EReal) := by
  pointwise [hdSuf]
  simp only [h, hu _ _, real_sub_self, zero_mul, Finset.sum_const_zero, add_zero]
  rw [coe_sum]
  refine Finset.sum_congr rfl fun j _ => ?_
  by_cases hc : c < j
  · rw [if_pos hc, if_pos hc, mul_one]
  · rw [if_neg hc, if_neg hc, mul_zero, EReal.coe_zero]

/-- The running total. -/
theorem hdTot_at (c : FVec Ideal S256x1 .f32) (suf x : FVec Ideal S256x256 .f32) (r : Fin 256) :
    hdTot c suf x (ix2 r 0) = c (ix2 r 0) + (suf (ix2 r 0) + x (ix2 r 0)) := by
  pointwise [hdTot]

/-- A weight. -/
theorem hdW_at (z s suf : FVec Ideal S256x256 .f32) (c : FVec Ideal S256x1 .f32) (r j : Fin 256) :
    hdW z s suf c (ix2 r j) = Ideal.exp ((z (ix2 r j) - s (ix2 r j)) - (suf (ix2 r j) + c (ix2 r 0))) := by
  pointwise [hdW]

/-- The weighted values. -/
theorem hdPV_at (a : FVec Ideal S256x64 .f32) (w : FVec Ideal S256x256 .f32) (v : Vec Ideal S1x1x256x64 .bf16) (r : Fin 256) (d : Fin 64) :
    hdPV a w v (ix2 r d) = a (ix2 r d) + ∑ j : Fin 256, w (ix2 r j) * v (ix4 0 0 j d) := by
  pointwise [hdPV]

/-- The mask on the diagonal tile. -/
theorem below_at (r j : Fin 256) : below (ix2 r j) = if j.val < r.val then (1#1 : BitVec 1) else 0#1 := by
  pointwise [below]
  exact slt_small j.val r.val (by have := j.isLt; omega) (by have := r.isLt; omega)

/-- What a row's scores on the tile from key `lo` on are. -/
def Scores (q : FVec Ideal S256x64 .bf16) (k : Vec Ideal S1x1x256x64 .bf16) (Z : ℕ → ℝ) (lo : ℕ) (r : Fin 256) : Prop :=
  ∀ j : Fin 256, hdZ q k (ix2 r j) = (Z (lo + j.val) : EReal)

/-- What a column of the values on the tile from key `lo` on is. -/
def Values (v : Vec Ideal S1x1x256x64 .bf16) (V : ℕ → EReal) (lo : ℕ) (d : Fin 64) : Prop :=
  ∀ j : Fin 256, v (ix4 0 0 j d) = V (lo + j.val)

variable {u : FVec Ideal S256x256 .bf16} (hu : IsTri u) {q : FVec Ideal S256x64 .bf16} {k v : Vec Ideal S1x1x256x64 .bf16}
  {Z : ℕ → ℝ} {V : ℕ → EReal} {lo t : ℕ} {r : Fin 256} {d : Fin 64} {c : FVec Ideal S256x1 .f32} {a : FVec Ideal S256x64 .f32}

include hu in
/-- The triangular sums on a tile left of the diagonal. -/
theorem offSuf_at (hz : Scores q k Z lo r) (j : Fin 256) :
    hdSuf u (hdSp (hdZ q k)) (ix2 r j) = ((∑ s ∈ Finset.Ico (lo + j.val + 1) (lo + 256), sp (Z s) : ℝ) : EReal) := by
  rw [hdSuf_at u hu _ r j (fun j => sp (Z (lo + j.val))) fun j => hdSp_at _ r j _ (hz j)]
  exact congrArg _ (sum_sel 256 lo _ _ (by omega) (by omega) (fun i => j < i)
    (fun i => by have := i.isLt; rw [Fin.lt_def]; omega) fun s => sp (Z s))

include hu in
/-- A tile left of the diagonal extends the total. -/
theorem offCar_at (ht : lo + 256 ≤ t) (hz : Scores q k Z lo r) (hc : c (ix2 r 0) = (tot Z (lo + 256) t : EReal)) :
    offCar u q k c (ix2 r 0) = (tot Z lo t : EReal) := by
  rw [offCar, hdTot_at, offSuf_at hu hz, hdSp_at _ r 0 _ (hz 0), hc, ← EReal.coe_add, ← EReal.coe_add, ← tot_tile Z lo 256 t ht]
  congr 2
  rw [show lo + (0 : Fin 256).val = lo from rfl, add_comm, Finset.sum_eq_sum_Ico_succ_bot (by omega : lo < lo + 256)]

include hu in
/-- A tile left of the diagonal extends the weighted values. -/
theorem offAcc_at (ht : lo + 256 ≤ t) (hz : Scores q k Z lo r) (hv : Values v V lo d)
    (hc : c (ix2 r 0) = (tot Z (lo + 256) t : EReal)) (ha : a (ix2 r d) = out Z V (lo + 256) t) :
    offAcc u q k v c a (ix2 r d) = out Z V lo t := by
  rw [offAcc, hdPV_at, ha, ← out_tile Z V lo 256 t ht]
  congr 1
  rw [← sum_tile 256 lo fun s => (wt Z t s : EReal) * V s]
  refine Finset.sum_congr rfl fun j _ => ?_
  rw [hdW_at, offSuf_at hu hz, hdSp_at _ r j _ (hz j), hz j, hc, hv j, ← EReal.coe_sub, ← EReal.coe_add, ← EReal.coe_sub, Ideal.exp_coe,
    wt_tile Z lo 256 t _ ht (by have := j.isLt; omega)]

/-- What the mask lets through. -/
theorem masked_at (x : FVec Ideal S256x256 .f32) (r j : Fin 256) :
    select below x (broadcast S256x256 (Scalar.ofBits .f32 0x00000000#32)) (ix2 r j) = if j.val < r.val then x (ix2 r j) else 0 := by
  have hb := below_at r j
  generalize (below : IVec S256x256 1) = B at hb
  pointwise
  rw [hb]
  by_cases h : j.val < r.val
  · rw [if_pos h, if_pos h]; rfl
  · rw [if_neg h, if_neg h]; rfl

/-- The diagonal tile's masked softplus. -/
theorem dgSp_at (hz : Scores q k Z lo r) (j : Fin 256) :
    dgSp q k (ix2 r j) = ((if j.val < r.val then sp (Z (lo + j.val)) else 0 : ℝ) : EReal) := by
  rw [dgSp, masked_at, hdSp_at _ r j _ (hz j)]
  by_cases h : j.val < r.val
  · rw [if_pos h, if_pos h]
  · rw [if_neg h, if_neg h, EReal.coe_zero]

include hu in
/-- The triangular sums on the diagonal tile. -/
theorem dgSuf_at (hz : Scores q k Z lo r) (j : Fin 256) :
    hdSuf u (dgSp q k) (ix2 r j) = ((∑ s ∈ Finset.Ico (lo + j.val + 1) (lo + r.val), sp (Z s) : ℝ) : EReal) := by
  rw [hdSuf_at u hu _ r j (fun j => if j.val < r.val then sp (Z (lo + j.val)) else 0) fun j => dgSp_at hz j]
  simp only [← ite_and]
  exact congrArg _ (sum_sel 256 lo _ _ (by omega) (by have := r.isLt; omega) (fun i => j < i ∧ i.val < r.val)
    (fun i => by rw [Fin.lt_def]; omega) fun s => sp (Z s))

include hu in
/-- The diagonal tile's total. -/
theorem dgCar_at (hz : Scores q k Z lo r) : dgCar u q k (ix2 r 0) = (tot Z lo (lo + r.val) : EReal) := by
  have h0 : (zeroTot : FVec Ideal S256x1 .f32) (ix2 r 0) = ((0 : ℝ) : EReal) := by pointwise [zeroTot]; rfl
  rw [dgCar, hdTot_at, dgSuf_at hu hz, dgSp_at hz 0, h0, ← EReal.coe_add, ← EReal.coe_add, zero_add, tot]
  congr 1
  by_cases h : (0 : Fin 256).val < r.val
  · rw [if_pos h, add_comm, Finset.sum_eq_sum_Ico_succ_bot (by simpa using h : lo < lo + r.val)]; rfl
  · have hr : r.val = 0 := by simpa using h
    rw [if_neg h, hr, Finset.Ico_eq_empty (by simp), Finset.Ico_eq_empty (by simp)]; simp

include hu in
/-- The diagonal tile's weighted values. -/
theorem dgAcc_at (hz : Scores q k Z lo r) (hv : Values v V lo d) : dgAcc u q k v (ix2 r d) = out Z V lo (lo + r.val) := by
  have h0 : (broadcast S256x64 (Scalar.ofBits (F := Ideal) .f32 0x00000000#32) : FVec Ideal S256x64 .f32) (ix2 r d) = 0 := by pointwise
  have hs := sum_sel 256 lo lo (lo + r.val) le_rfl (by have := r.isLt; omega) (fun j => j.val < r.val) (fun i => by omega)
    fun s => (wt Z (lo + r.val) s : EReal) * V s
  rw [dgAcc, hdPV_at, h0, zero_add, out, ← hs]
  refine Finset.sum_congr rfl fun j _ => ?_
  rw [masked_at]
  by_cases h : j.val < r.val
  · have h1 : (zeroTot : FVec Ideal S256x1 .f32) (ix2 r 0) = ((0 : ℝ) : EReal) := by pointwise [zeroTot]; rfl
    rw [if_pos h, if_pos h, hdW_at, dgSuf_at hu hz, hdSp_at _ r j _ (hz j), hz j, h1, hv j, ← EReal.coe_sub, ← EReal.coe_add,
      ← EReal.coe_sub, Ideal.exp_coe, add_zero]
    rfl
  · rw [if_neg h, if_neg h, zero_mul]

end Cert.SBV

end
-- ==== Proof.SBV.Loop.lean ====
module

public import proofs.«01_k».proof.Proof.SBI.Trip
public import proofs.«01_k».proof.Proof.SBV.Tile

@[expose] public section

set_option maxRecDepth 16384

/-! The loop over the tiles of keys, over exact arithmetic: it never leaves early, and its partial sums are those of a row. -/

noncomputable section

namespace Cert.SBV

open Cert.KernelIdeal Cert.KernelIdeal.Gen Cert.KernelIdeal.SB
open Idealize.ShloMosaic

/-- One head's partial sums and totals, once the keys from `lo` on are done, for the queries from `t` on. -/
def HeadInv (Z : Fin 256 → ℕ → ℝ) (V : Fin 64 → ℕ → EReal) (lo t : ℕ) (a : FVec Ideal S256x64 .f32) (c : FVec Ideal S256x1 .f32) : Prop :=
  ∀ r : Fin 256, c (ix2 r 0) = (tot (Z r) lo (t + r.val) : EReal) ∧ ∀ d : Fin 64, a (ix2 r d) = out (Z r) (V d) lo (t + r.val)

/-- One head's scores against the whole keys. -/
def HeadScores (q : FVec Ideal S256x64 .bf16) (x1 : Vec Ideal S1x4x8192x64 .bf16) (h : Fin 4) (Z : Fin 256 → ℕ → ℝ) : Prop :=
  ∀ (r : Fin 256) (s : Fin 8192), (∑ d : Fin 64, q (ix2 r d) * x1 (ix4 0 h s d) : EReal) = (Z r s.val : EReal)

/-- One head's values. -/
def HeadValues (x2 : Vec Ideal S1x4x8192x64 .bf16) (h : Fin 4) (V : Fin 64 → ℕ → EReal) : Prop :=
  ∀ (d : Fin 64) (s : Fin 8192), x2 (ix4 0 h s d) = V d s.val

/-- A tile read out of the whole array. -/
theorem ldAt_at (x : Vec Ideal S1x4x8192x64 .bf16) (h : Fin 4) (lo : ℕ) (hlo : lo + 256 ≤ 8192)
    (off : Fin 4 → ℕ) (hoff : off = ![0, h.val, lo, 0]) (hb : ∀ a, off a + S1x1x256x64.size a ≤ S1x4x8192x64.size a)
    (j : Fin 256) (d : Fin 64) :
    ldAt x off hb (ix4 0 0 j d) = x (ix4 0 h ⟨lo + j.val, by have := j.isLt; omega⟩ d) := by
  subst hoff
  show x _ = x _
  congr 1
  funext a
  apply Fin.ext
  fin_cases a
  · rfl
  · show h.val + 1 * 0 = h.val; rfl
  · show lo + 1 * j.val = lo + j.val; omega
  · show 0 + 1 * d.val = d.val; omega

variable {u : FVec Ideal S256x256 .bf16} (hu : IsTri u) {x1 x2 : Vec Ideal S1x4x8192x64 .bf16}

theorem scores_of {q : FVec Ideal S256x64 .bf16} {h : Fin 4} {Z : Fin 256 → ℕ → ℝ} (hz : HeadScores q x1 h Z)
    (lo : ℕ) (hlo : lo + 256 ≤ 8192) (off : Fin 4 → ℕ) (hoff : off = ![0, h.val, lo, 0])
    (hb : ∀ a, off a + S1x1x256x64.size a ≤ S1x4x8192x64.size a) (r : Fin 256) : Scores q (ldAt x1 off hb) (Z r) lo r := by
  intro j
  rw [hdZ_at, ← hz r ⟨lo + j.val, by have := j.isLt; omega⟩]
  exact Finset.sum_congr rfl fun d _ => by rw [ldAt_at x1 h lo hlo off hoff hb j d]

theorem values_of {h : Fin 4} {V : Fin 64 → ℕ → EReal} (hv : HeadValues x2 h V)
    (lo : ℕ) (hlo : lo + 256 ≤ 8192) (off : Fin 4 → ℕ) (hoff : off = ![0, h.val, lo, 0])
    (hb : ∀ a, off a + S1x1x256x64.size a ≤ S1x4x8192x64.size a) (d : Fin 64) : Values (ldAt x2 off hb) (V d) lo d := by
  intro j
  rw [ldAt_at x2 h lo hlo off hoff hb j d, hv d]

section Head
variable {q : FVec Ideal S256x64 .bf16} {h : Fin 4} {Z : Fin 256 → ℕ → ℝ} {V : Fin 64 → ℕ → EReal}
  (hz : HeadScores q x1 h Z) (hv : HeadValues x2 h V)

include hu hz hv in
/-- The diagonal tile starts the invariant. -/
theorem head_start (t : ℕ) (ht : t + 256 ≤ 8192) (off : Fin 4 → ℕ) (hoff : off = ![0, h.val, t, 0])
    (hb : ∀ a, off a + S1x1x256x64.size a ≤ S1x4x8192x64.size a) :
    HeadInv Z V t t (dgAcc u q (ldAt x1 off hb) (ldAt x2 off hb)) (dgCar u q (ldAt x1 off hb)) := fun r =>
  ⟨dgCar_at hu (scores_of hz t ht off hoff hb r),
    fun d => dgAcc_at hu (scores_of hz t ht off hoff hb r) (values_of hv t ht off hoff hb d)⟩

include hu hz hv in
/-- A tile left of the diagonal keeps it. -/
theorem head_step (t lo : ℕ) (ht : t + 256 ≤ 8192) (hlo : lo + 256 ≤ t) (off : Fin 4 → ℕ) (hoff : off = ![0, h.val, lo, 0])
    (hb : ∀ a, off a + S1x1x256x64.size a ≤ S1x4x8192x64.size a) (a : FVec Ideal S256x64 .f32) (c : FVec Ideal S256x1 .f32)
    (hi : HeadInv Z V (lo + 256) t a c) :
    HeadInv Z V lo t (offAcc u q (ldAt x1 off hb) (ldAt x2 off hb) c a) (offCar u q (ldAt x1 off hb) c) := fun r =>
  ⟨offCar_at hu (by omega) (scores_of hz lo (by omega) off hoff hb r) (hi r).1,
    fun d => offAcc_at hu (by omega) (scores_of hz lo (by omega) off hoff hb r) (values_of hv lo (by omega) off hoff hb d) (hi r).1 ((hi r).2 d)⟩

end Head

/-! ## The test never fails -/

/-- A least total of reals is below infinity. -/
theorem live_one {Z : Fin 4 → Fin 256 → ℕ → ℝ} {V : Fin 4 → Fin 64 → ℕ → EReal} {lo t : ℕ} {a0 a1 a2 a3 : FVec Ideal S256x64 .f32}
    {c0 c1 c2 c3 : FVec Ideal S256x1 .f32} (h0 : HeadInv (Z 0) (V 0) lo t a0 c0) (h1 : HeadInv (Z 1) (V 1) lo t a1 c1)
    (h2 : HeadInv (Z 2) (V 2) lo t a2 c2) (h3 : HeadInv (Z 3) (V 3) lo t a3 c3) : liveOf c0 c1 c2 c3 = 1#32 := by
  have hn : (Named.named (F := Ideal) (φ := .f32) κ "exp_zero" 0x42D20000#32) = (⊤ : EReal) := IdealRules.named_const.ideal_named_scalar _ _ _ _ rfl
  have hlt : (k0_pay4 c0 c1 c2 c3 : EReal) < ⊤ := by
    unfold k0_pay4
    pointwise
    refine (Finset.fold_min_lt _).mpr (Or.inr ⟨⟨0, 0⟩, Finset.mem_univ _, ?_⟩)
    exact lt_of_le_of_lt ((min_le_left _ _).trans ((min_le_left _ _).trans (min_le_left _ _))) (by rw [(h0 0).1]; exact EReal.coe_lt_top _)
  unfold liveOf
  rw [hn]
  show Scalar.extui (Ideal.cmp .olt _ _) = _
  rw [Ideal.cmp]
  simp only [hlt, decide_true]
  rfl

/-- The tile a trip visits. -/
theorem off_eq : ∀ (i : grid0.Coords) (n : Fin 32), n.val < (i 1).val →
    k0_off5 i (BitVec.ofNat 32 n.val) = ![0, (0 : Fin 4).val, 256 * ((i 1).val - (n.val + 1)), 0]
      ∧ k0_off6 i (BitVec.ofNat 32 n.val) = ![0, (1 : Fin 4).val, 256 * ((i 1).val - (n.val + 1)), 0]
      ∧ k0_off7 i (BitVec.ofNat 32 n.val) = ![0, (2 : Fin 4).val, 256 * ((i 1).val - (n.val + 1)), 0]
      ∧ k0_off8 i (BitVec.ofNat 32 n.val) = ![0, (3 : Fin 4).val, 256 * ((i 1).val - (n.val + 1)), 0] := by
  decide +kernel

/-- The invariant after `n` trips. -/
def Inv (i : grid0.Coords) (Z : Fin 4 → Fin 256 → ℕ → ℝ) (V : Fin 4 → Fin 64 → ℕ → EReal) (n : ℕ) (s : St Ideal) : Prop :=
  s.1 = BitVec.ofNat 32 n
    ∧ HeadInv (Z 0) (V 0) (256 * ((i 1).val - n)) (256 * (i 1).val) s.2.1 s.2.2.2.2.2.1
    ∧ HeadInv (Z 1) (V 1) (256 * ((i 1).val - n)) (256 * (i 1).val) s.2.2.1 s.2.2.2.2.2.2.1
    ∧ HeadInv (Z 2) (V 2) (256 * ((i 1).val - n)) (256 * (i 1).val) s.2.2.2.1 s.2.2.2.2.2.2.2.1
    ∧ HeadInv (Z 3) (V 3) (256 * ((i 1).val - n)) (256 * (i 1).val) s.2.2.2.2.1 s.2.2.2.2.2.2.2.2.1
    ∧ s.2.2.2.2.2.2.2.2.2 = 1#32

section Run
variable {q0 q1 q2 q3 : FVec Ideal S256x64 .bf16} {Z : Fin 4 → Fin 256 → ℕ → ℝ} {V : Fin 4 → Fin 64 → ℕ → EReal}
  (z0 : HeadScores q0 x1 0 (Z 0)) (z1 : HeadScores q1 x1 1 (Z 1)) (z2 : HeadScores q2 x1 2 (Z 2)) (z3 : HeadScores q3 x1 3 (Z 3))
  (hv : ∀ h, HeadValues x2 h (V h)) (i : grid0.Coords)

include hu z0 z1 z2 z3 hv in
/-- A trip keeps the invariant. -/
theorem trip_inv (n : ℕ) (hn : n < (i 1).val) (s : St Ideal) (hs : Inv i Z V n s) (hc : k0_chk1 i s.1) :
    Inv i Z V (n + 1) (tripVal i q0 q1 q2 q3 u x1 x2 s hc) := by
  obtain ⟨w, a0, a1, a2, a3, c0, c1, c2, c3, l⟩ := s
  obtain ⟨e, h0, h1, h2, h3, hl⟩ := hs
  have hi : (i 1).val < 32 := (i 1).isLt
  dsimp only at e h0 h1 h2 h3 hl hc
  subst e
  obtain ⟨o0, o1, o2, o3⟩ := off_eq i ⟨n, by omega⟩ hn
  have hlo : 256 * ((i 1).val - (n + 1)) + 256 = 256 * ((i 1).val - n) := by omega
  rw [← hlo] at h0 h1 h2 h3
  have g0 := head_step hu z0 (hv 0) (256 * (i 1).val) _ (by omega) (by omega) _ o0 (k0_off5_inb i _ hc) _ _ h0
  have g1 := head_step hu z1 (hv 1) (256 * (i 1).val) _ (by omega) (by omega) _ o1 (k0_off6_inb i _ hc) _ _ h1
  have g2 := head_step hu z2 (hv 2) (256 * (i 1).val) _ (by omega) (by omega) _ o2 (k0_off7_inb i _ hc) _ _ h2
  have g3 := head_step hu z3 (hv 3) (256 * (i 1).val) _ (by omega) (by omega) _ o3 (k0_off8_inb i _ hc) _ _ h3
  exact ⟨addi_succ ⟨n, by omega⟩, g0, g1, g2, g3, live_one g0 g1 g2 g3⟩

include hu z0 z1 z2 z3 hv in
/-- The loop runs to the first tile. -/
theorem loop_inv (k n : ℕ) (hn : n + k = (i 1).val) (s : St Ideal) (hs : Inv i Z V n s) :
    Inv i Z V (i 1).val (loopVal i q0 q1 q2 q3 u x1 x2 k s) := by
  have hi : (i 1).val < 32 := (i 1).isLt
  induction k generalizing n s with
  | zero => rw [← hn]; exact hs
  | succ k ih =>
    have hc : k0_chk1 i s.1 := by rw [hs.1]; exact chk_of_lt i ⟨n, by omega⟩ (by show n < _; omega)
    have ht : test i s.1 s.2.2.2.2.2.2.2.2.2 = 1#1 := by
      rw [hs.1, hs.2.2.2.2.2]
      exact (and_one _ _).mpr ⟨(slt_iff ⟨(i 1).val, by omega⟩ ⟨n, by omega⟩).mpr (by show n < (i 1).val; omega), by decide⟩
    rw [loopVal, dif_pos hc, if_pos ht]
    exact ih (n + 1) (by omega) _ (trip_inv hu z0 z1 z2 z3 hv i n (by omega) s hs hc)

end Run

end Cert.SBV

end
-- ==== Proof.SBV.Block.lean ====
module

public import proofs.«01_k».proof.Proof.SBV.Loop

@[expose] public section

set_option maxRecDepth 16384

/-! A grid point's block of results, over exact arithmetic, as rows of stick-breaking attention. -/

noncomputable section

namespace Cert.SBV

open Cert.KernelIdeal Cert.KernelIdeal.Gen Cert.KernelIdeal.SB
open Idealize.ShloMosaic

theorem eighth_bf16 : Ideal.ofBits .bf16 0x3E00#16 = ((1 / 8 : ℝ) : EReal) := by
  simp [Ideal.ofBits, Ideal.ieee, -EReal.coe_mul]; norm_num

theorem eighth_f32 : Ideal.ofBits .f32 0x3E000000#32 = ((1 / 8 : ℝ) : EReal) := by
  simp [Ideal.ofBits, Ideal.ieee, -EReal.coe_mul]; norm_num

/-- One head's scaled queries. -/
theorem q_at (x0 : Vec Ideal S1x4x256x64 .bf16) (h : Fin 4) (hb : ∀ a, (![0, h.val, 0, 0] : Fin 4 → ℕ) a + S1x1x256x64.size a ≤ S1x4x256x64.size a)
    (r : Fin 256) (d : Fin 64) :
    k0_pay6 (ldQ x0 ![0, h.val, 0, 0] hb) (ix2 r d) = x0 (ix4 0 h r d) * ((1 / 8 : ℝ) : EReal) := by
  pointwise [k0_pay6]
  rw [eighth_bf16]
  congr 1
  show x0 _ = x0 _
  congr 1
  funext a
  apply Fin.ext
  fin_cases a
  · rfl
  · show h.val + 1 * 0 = h.val; rfl
  · show 0 + 1 * r.val = r.val; omega
  · show 0 + 1 * d.val = d.val; omega

/-- The triangle as the body holds it. -/
theorem tri_of (x3 : Vec Ideal S256x256 .bf16) (h : ∀ j c : Fin 256, x3 (ix2 j c) = if c < j then (1 : EReal) else 0) : IsTri (k0_pay5 x3) := by
  intro j c
  rw [← h j c]
  pointwise [k0_pay5]

theorem off_diag : ∀ i : grid0.Coords, k0_off1 i = ![0, (0 : Fin 4).val, 256 * (i 1).val, 0] ∧ k0_off2 i = ![0, (1 : Fin 4).val, 256 * (i 1).val, 0]
    ∧ k0_off3 i = ![0, (2 : Fin 4).val, 256 * (i 1).val, 0] ∧ k0_off4 i = ![0, (3 : Fin 4).val, 256 * (i 1).val, 0] := by
  decide +kernel

/-- The four heads side by side. -/
theorem cat_at (a : Fin 4 → FVec Ideal S256x64 .f32) (r c : Fin 256) :
    k0_pay58 (a 0) (a 1) (a 2) (a 3) (ix3 0 r c)
      = a ⟨c.val / 64, by have := c.isLt; omega⟩ (ix2 r ⟨c.val % 64, by omega⟩) := by
  pointwise [k0_pay58]
  have hc := c.isLt
  have go : ∀ (h : Fin 4) (e : ℕ) (he : e < 64), c.val = 64 * h.val + e →
      a h (ix2 r ⟨e, he⟩) = a ⟨c.val / 64, by omega⟩ (ix2 r ⟨c.val % 64, by omega⟩) := by
    intro h e he hce
    have e1 : (⟨c.val / 64, by omega⟩ : Fin 4) = h := Fin.ext (by show c.val / 64 = h.val; omega)
    have e2 : (⟨c.val % 64, by omega⟩ : Fin 64) = ⟨e, he⟩ := Fin.ext (by show c.val % 64 = e; omega)
    rw [e1, e2]
  split
  · exact go 0 _ _ (by show c.val = 64 * 0 + c.val; omega)
  split
  · exact go 1 _ _ (by show c.val = 64 * 1 + (c.val - 64); omega)
  split
  · exact go 2 _ _ (by show c.val = 64 * 2 + (c.val - 64 - 64); omega)
  · exact go 3 _ (by omega) (by show c.val = 64 * 3 + (c.val - 64 - 64 - 64); omega)

/-- The block from the state the loop is entered with. -/
theorem from_start {u : FVec Ideal S256x256 .bf16} (hu : IsTri u) {x1 x2 : Vec Ideal S1x4x8192x64 .bf16}
    {q0 q1 q2 q3 : FVec Ideal S256x64 .bf16} {Z : Fin 4 → Fin 256 → ℕ → ℝ} {V : Fin 4 → Fin 64 → ℕ → EReal}
    (z0 : HeadScores q0 x1 0 (Z 0)) (z1 : HeadScores q1 x1 1 (Z 1)) (z2 : HeadScores q2 x1 2 (Z 2)) (z3 : HeadScores q3 x1 3 (Z 3))
    (hv : ∀ h, HeadValues x2 h (V h)) (i : grid0.Coords) {s0 : St Ideal} (h0 : Inv i Z V 0 s0) (r c : Fin 256) :
    k0_pay58 (loopVal i q0 q1 q2 q3 u x1 x2 (i 1).val s0).2.1 (loopVal i q0 q1 q2 q3 u x1 x2 (i 1).val s0).2.2.1
        (loopVal i q0 q1 q2 q3 u x1 x2 (i 1).val s0).2.2.2.1 (loopVal i q0 q1 q2 q3 u x1 x2 (i 1).val s0).2.2.2.2.1 (ix3 0 r c)
      = out (Z ⟨c.val / 64, by have := c.isLt; omega⟩ r) (V ⟨c.val / 64, by have := c.isLt; omega⟩ ⟨c.val % 64, by omega⟩) 0 (256 * (i 1).val + r.val) := by
  have hfin := loop_inv hu z0 z1 z2 z3 hv i (i 1).val 0 (Nat.zero_add _) s0 h0
  generalize loopVal i q0 q1 q2 q3 u x1 x2 (i 1).val s0 = s at hfin ⊢
  obtain ⟨-, f0, f1, f2, f3, -⟩ := hfin
  rw [Nat.sub_self, Nat.mul_zero] at f0 f1 f2 f3
  have hall : ∀ h : Fin 4, ∀ d : Fin 64, (![s.2.1, s.2.2.1, s.2.2.2.1, s.2.2.2.2.1] h : FVec Ideal S256x64 .f32) (ix2 r d)
      = out (Z h r) (V h d) 0 (256 * (i 1).val + r.val) := by
    intro h d
    fin_cases h
    · exact (f0 r).2 d
    · exact (f1 r).2 d
    · exact (f2 r).2 d
    · exact (f3 r).2 d
  exact (cat_at ![s.2.1, s.2.2.1, s.2.2.2.1, s.2.2.2.2.1] r c).trans (hall _ _)

/-- The block: each entry is a row's output over the keys before its query. -/
theorem block_at (i : grid0.Coords) (x0 : Vec Ideal S1x4x256x64 .bf16) (x1 x2 : Vec Ideal S1x4x8192x64 .bf16) (x3 : Vec Ideal S256x256 .bf16)
    (h3 : ∀ j c : Fin 256, x3 (ix2 j c) = if c < j then (1 : EReal) else 0)
    (Z : Fin 4 → Fin 256 → ℕ → ℝ) (V : Fin 4 → Fin 64 → ℕ → EReal)
    (hz : ∀ (h : Fin 4) (r : Fin 256) (s : Fin 8192),
      (∑ d : Fin 64, x0 (ix4 0 h r d) * ((1 / 8 : ℝ) : EReal) * x1 (ix4 0 h s d) : EReal) = (Z h r s.val : EReal))
    (hv : ∀ (h : Fin 4) (d : Fin 64) (s : Fin 8192), x2 (ix4 0 h s d) = V h d s.val) (r c : Fin 256) :
    blockVal i x0 x1 x2 x3 (ix3 0 r c)
      = out (Z ⟨c.val / 64, by have := c.isLt; omega⟩ r) (V ⟨c.val / 64, by have := c.isLt; omega⟩ ⟨c.val % 64, by omega⟩) 0 (256 * (i 1).val + r.val) := by
  have hu := tri_of x3 h3
  have hi : (i 1).val < 32 := (i 1).isLt
  have zz : ∀ (h : Fin 4) (hb : ∀ a, (![0, h.val, 0, 0] : Fin 4 → ℕ) a + S1x1x256x64.size a ≤ S1x4x256x64.size a),
      HeadScores (k0_pay6 (ldQ x0 ![0, h.val, 0, 0] hb)) x1 h (Z h) := fun h hb r s =>
    (Finset.sum_congr rfl fun d _ => by rw [q_at x0 h hb r d]).trans (hz h r s)
  obtain ⟨o0, o1, o2, o3⟩ := off_diag i
  have z0 := zz 0 inb_S1x4x256x64_S1x1x256x64_0_0_0_0
  have z1 := zz 1 inb_S1x4x256x64_S1x1x256x64_0_1_0_0
  have z2 := zz 2 inb_S1x4x256x64_S1x1x256x64_0_2_0_0
  have z3 := zz 3 inb_S1x4x256x64_S1x1x256x64_0_3_0_0
  have g0 := head_start hu z0 (hv 0) (256 * (i 1).val) (by omega) _ o0 (k0_off1_inb i)
  have g1 := head_start hu z1 (hv 1) (256 * (i 1).val) (by omega) _ o1 (k0_off2_inb i)
  have g2 := head_start hu z2 (hv 2) (256 * (i 1).val) (by omega) _ o2 (k0_off3_inb i)
  have g3 := head_start hu z3 (hv 3) (256 * (i 1).val) (by omega) _ o3 (k0_off4_inb i)
  unfold blockVal
  dsimp only
  refine from_start hu z0 z1 z2 z3 hv i ?_ r c
  exact ⟨rfl, g0, g1, g2, g3, rfl⟩

end Cert.SBV

end
-- ==== Proof.SBV.Value.lean ====
module

public import proofs.«01_k».proof.Proof.SBI.Frame
public import proofs.«01_k».proof.Proof.SBV.Block
public import Idealize.ShloMosaic.Lib.Pipeline.ValueKit
public import Idealize.ShloMosaic.Lib.Claim

@[expose] public section

set_option maxRecDepth 16384

/-! The kernel's result array over exact arithmetic: every entry is a row's output over the keys before its query. -/

noncomputable section

namespace Cert.SBV

open Cert.KernelIdeal Cert.KernelIdeal.Gen Cert.KernelIdeal.SB
open Idealize.ShloMosaic Idealize.ShloMosaic.TcCoe Idealize.SL.Sem
open Idealize.ShloMosaic.Pipeline (Dat)

/-- The score of key `s` for query `t`. -/
def score (q k : FVec Ideal S2x4x8192x64 .bf16) (b : Fin 2) (h : Fin 4) (t : Fin 8192) (s : ℕ) : ℝ :=
  if hs : s < 8192 then (∑ d : Fin 64, (q (ix4 b h t d)).toReal * (k (ix4 b h ⟨s, hs⟩ d)).toReal) * (1 / 8) else 0

/-- The value of key `s` at column `d`. -/
def value (v : FVec Ideal S2x4x8192x64 .bf16) (b : Fin 2) (h : Fin 4) (d : Fin 64) (s : ℕ) : EReal :=
  if hs : s < 8192 then v (ix4 b h ⟨s, hs⟩ d) else 0

/-- The attention's result at an entry. -/
def resAt (q k v : FVec Ideal S2x4x8192x64 .bf16) (b : Fin 2) (t : Fin 8192) (c : Fin 256) : EReal :=
  out (score q k b ⟨c.val / 64, by have := c.isLt; omega⟩ t) (value v b ⟨c.val / 64, by have := c.isLt; omega⟩ ⟨c.val % 64, by omega⟩) 0 t.val

/-- The attention's result. -/
def res (q k v : FVec Ideal S2x4x8192x64 .bf16) : FVec Ideal S2x8192x256 .bf16 := fun j => resAt q k v (j 0) (j 1) (j 2)

/-- No entry is infinite. -/
def Fin' (q : FVec Ideal S2x4x8192x64 .bf16) : Prop := ∀ i, q i = ((q i).toReal : EReal)

/-- A scaled product of two rows of reals. -/
theorem dot_real (n : ℕ) (f g : Fin n → ℝ) (x : ℝ) :
    ∑ d : Fin n, (f d : EReal) * (x : EReal) * (g d : EReal) = (((∑ d : Fin n, f d * g d) * x : ℝ) : EReal) := by
  rw [Finset.sum_mul, coe_sum]
  refine Finset.sum_congr rfl fun d _ => ?_
  rw [← EReal.coe_mul, ← EReal.coe_mul]
  congr 1
  ring

variable (m : (ℓ : Loc nD τ sig) → Buf (Elt Ideal) ℓ)

theorem idx : ∀ t : Fin (cfg0 (F := Ideal)).N, win0_0.index t = ![(grid0.coords t 0).val, 0, (grid0.coords t 1).val, 0]
    ∧ win0_1.index t = ![(grid0.coords t 0).val, 0, 0, 0] ∧ win0_2.index t = ![(grid0.coords t 0).val, 0, 0, 0]
    ∧ win0_3.index t = ![0, 0] ∧ win0_4.index t = ![(grid0.coords t 0).val, (grid0.coords t 1).val, 0] :=
  (by decide +kernel : ∀ t : Fin grid0.N, _)

theorem coords_lt : ∀ t : Fin grid0.N, (grid0.coords t 0).val < 2 ∧ (grid0.coords t 1).val < 32 := by decide +kernel

/-- The triangle the host prepares. -/
theorem tri_host (c : Dev nD) (j i : Fin 256) :
    (V m c main_v4 : FVec Ideal S256x256 .bf16) (ix2 j i) = if i < j then (1 : EReal) else 0 := by
  have h : (V m c main_v4 : FVec Ideal S256x256 .bf16) = (truncf (F := Ideal) .bf16 (select (cmpi .sgt (iotaInDim S256x256 32 0) (iotaInDim S256x256 32 1))
      (broadcastInDim S256x256 ![] bcast_S_S256x256 (constant S_ .f32 0x3F800000#32))
      (broadcastInDim S256x256 ![] bcast_S_S256x256 (constant S_ .f32 0x00000000#32))) bitsLt_bf16_f32 : FVec Ideal S256x256 .bf16) := by
    unfold V
    simp only [List.flatten_cons, List.flatten_nil, List.cons_append, List.nil_append, List.append_nil]
    after_results
    try rfl
  rw [h]
  pointwise
  refine (congrArg (fun w => Scalar.select w (1 : EReal) 0) ((show _ = IntOp.cmpi .slt (BitVec.ofNat 32 i.val) (BitVec.ofNat 32 j.val) from rfl).trans
    (slt_small i.val j.val (by have := i.isLt; omega) (by have := j.isLt; omega)))).trans ?_
  by_cases hij : i < j
  · rw [if_pos (show i.val < j.val from hij), if_pos hij]; rfl
  · rw [if_neg (show ¬ i.val < j.val from hij), if_neg hij]; rfl

theorem read0 (c : Dev nD) (t : Fin (cfg0 (F := Ideal)).N) (h : Fin 4) (r : Fin 256) (d : Fin 64) :
    (iblk m c 0 t : Vec Ideal S1x4x256x64 .bf16) (ix4 0 h r d)
      = (m ((c : Thread nD τ).loc main_arg0) : FVec Ideal S2x4x8192x64 .bf16)
          (ix4 ⟨(grid0.coords t 0).val, (coords_lt t).1⟩ h ⟨256 * (grid0.coords t 1).val + r.val, by have := (coords_lt t).2; omega⟩ d) := by
  blk_ext [iblk, V_main_arg0, idx t]

theorem read1 (c : Dev nD) (t : Fin (cfg0 (F := Ideal)).N) (h : Fin 4) (s : Fin 8192) (d : Fin 64) :
    (iblk m c 1 t : Vec Ideal S1x4x8192x64 .bf16) (ix4 0 h s d)
      = (m ((c : Thread nD τ).loc main_arg1) : FVec Ideal S2x4x8192x64 .bf16) (ix4 ⟨(grid0.coords t 0).val, (coords_lt t).1⟩ h s d) := by
  blk_ext [iblk, V_main_arg1, idx t]

theorem read2 (c : Dev nD) (t : Fin (cfg0 (F := Ideal)).N) (h : Fin 4) (s : Fin 8192) (d : Fin 64) :
    (iblk m c 2 t : Vec Ideal S1x4x8192x64 .bf16) (ix4 0 h s d)
      = (m ((c : Thread nD τ).loc main_arg2) : FVec Ideal S2x4x8192x64 .bf16) (ix4 ⟨(grid0.coords t 0).val, (coords_lt t).1⟩ h s d) := by
  blk_ext [iblk, V_main_arg2, idx t]

theorem read3 (c : Dev nD) (t : Fin (cfg0 (F := Ideal)).N) (j i : Fin 256) :
    (iblk m c 3 t : Vec Ideal S256x256 .bf16) (ix2 j i) = (V m c main_v4 : FVec Ideal S256x256 .bf16) (ix2 j i) := by
  blk_ext [iblk, idx t]

/-- A grid point's block. -/
theorem point (c : Dev nD) (t : Fin (cfg0 (F := Ideal)).N)
    (hq : Fin' (m ((c : Thread nD τ).loc main_arg0))) (hk : Fin' (m ((c : Thread nD τ).loc main_arg1))) (r i : Fin 256) :
    outsAt0 m c t (ix3 0 r i)
      = resAt (m ((c : Thread nD τ).loc main_arg0)) (m ((c : Thread nD τ).loc main_arg1)) (m ((c : Thread nD τ).loc main_arg2))
          ⟨(grid0.coords t 0).val, (coords_lt t).1⟩ ⟨256 * (grid0.coords t 1).val + r.val, by have := (coords_lt t).2; omega⟩ i := by
  unfold outsAt0
  rw [block_at (grid0.coords t) _ _ _ _ (fun j i => (read3 m c t j i).trans (tri_host m c j i))
    (fun h r => score (m ((c : Thread nD τ).loc main_arg0)) (m ((c : Thread nD τ).loc main_arg1)) ⟨(grid0.coords t 0).val, (coords_lt t).1⟩ h
      ⟨256 * (grid0.coords t 1).val + r.val, by have := (coords_lt t).2; omega⟩)
    (fun h d => value (m ((c : Thread nD τ).loc main_arg2)) ⟨(grid0.coords t 0).val, (coords_lt t).1⟩ h d) ?_ ?_ r i]
  · rfl
  · intro h r s
    rw [score, dif_pos s.isLt, ← dot_real]
    refine Finset.sum_congr rfl fun d _ => ?_
    rw [read0, read1, hq, hk]
    simp only [EReal.toReal_coe]
  · intro h d s
    rw [read2, value, dif_pos s.isLt]

/-- Where a block's entry lies in the result array. -/
theorem place (t : Fin (cfg0 (F := Ideal)).N) (r i : Fin 256) :
    ((win0_4.blk t).view.emb (ix3 0 r i : S1x256x256.Idx) : S2x8192x256.Idx)
      = ix3 ⟨(grid0.coords t 0).val, (coords_lt t).1⟩ ⟨256 * (grid0.coords t 1).val + r.val, by have := (coords_lt t).2; omega⟩ i := by
  blk_ext [idx t]

/-- The result array after the run. -/
theorem final (c : Dev nD) (hq : Fin' (m ((c : Thread nD τ).loc main_arg0))) (hk : Fin' (m ((c : Thread nD τ).loc main_arg1))) :
    (dats m 0 c).arrAt 4 (cfg0 (F := Ideal)).N
      = res (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  obtain ⟨r, i, hy⟩ : ∃ (r i : Fin 256), (y : S1x256x256.Idx) = ix3 0 r i :=
    ⟨y 1, y 2, (Idealize.ShloMosaic.eq_ix3 (n0 := 1) (n1 := 256) (n2 := 256) y).trans (by rw [Subsingleton.elim (α := Fin 1) (y 0) 0])⟩
  refine (congrArg (outsAt0 m c t) hy).trans ((point m c t hq hk r i).trans ?_)
  refine Eq.trans ?_ (congrArg (res _ _ _) ((congrArg (win0_4.blk t).view.emb hy).trans (place t r i))).symm
  rfl

end Cert.SBV

end
-- ==== Proof.SBV.Ref.lean ====
module

public import proofs.«01_k».proof.Proof.SBV.Value
public import proofs.«01_k».proof.Proof.Gen.ReferenceIdeal.Run

@[expose] public section

set_option maxRecDepth 16384

/-! The reference's result over exact arithmetic: the same output of a row over the keys before its query. -/

noncomputable section

namespace Cert.SBV.Ref

open Cert.ReferenceIdeal Cert.ReferenceIdeal.Gen
open Idealize.ShloMosaic Idealize.ShloMosaic.TcCoe

/-! ## A cumulative sum along the last of four axes -/

theorem foldl_add {ι : Type} (l : List ι) (g f : ι → EReal) (hg : ∀ a ∈ l, g a = f a) (v : EReal) :
    l.foldl (fun r a => r + g a) v = v + (l.map f).sum := by
  induction l generalizing v with
  | nil => simp
  | cons a l ih =>
    rw [List.foldl_cons, ih (fun b hb => hg b (List.mem_cons_of_mem _ hb)), List.map_cons, List.sum_cons, hg a List.mem_cons_self, add_assoc]

/-- A row of `N` entries as a shape of four axes. -/
abbrev rowShape (N : ℕ) : Shape := ⟨4, ![1, 1, 1, N]⟩

theorem row_numel (N : ℕ) : (rowShape N).numel = N := by
  show ∏ a : Fin 4, (![1, 1, 1, N] : Fin 4 → ℕ) a = N
  rw [Fin.prod_univ_four]
  show 1 * 1 * 1 * N = N
  omega

theorem row_symm {N : ℕ} (n : Fin (rowShape N).numel) : (rowShape N).rowMajor.symm n = ix4 (0 : Fin 1) (0 : Fin 1) (0 : Fin 1) (n.cast (row_numel N)) :=
  ((rowShape N).rowMajor.symm_apply_eq).2 (Fin.ext (by
    rw [Shape.rowMajor_val_four]
    show n.val = ((0 * 1 + 0) * 1 + 0) * N + n.val
    omega))

/-- The last entries of a window padded low sum a prefix. -/
theorem prefix_sum (f : ℕ → EReal) (p j : ℕ) (hj : j ≤ p) :
    ((List.range (p + 1)).map fun w => if p ≤ j + w then f (j + w - p) else 0).sum = ∑ i ∈ Finset.range (j + 1), f i := by
  obtain ⟨d, rfl⟩ : ∃ d, p = j + d := ⟨p - j, by omega⟩
  have h0 : ∀ w ∈ List.range d, (if j + d ≤ j + w then f (j + w - (j + d)) else 0) = (0 : EReal) := fun w hw => by
    have := List.mem_range.1 hw
    exact if_neg (by omega)
  rw [show j + d + 1 = d + (j + 1) by omega, List.range_add, List.map_append, List.sum_append, List.map_congr_left h0, List.map_map,
    show ((List.range d).map fun _ => (0 : EReal)).sum = 0 by simp, zero_add]
  show _ = ((List.range (j + 1)).map f).sum
  congr 1
  refine List.map_congr_left fun i _ => ?_
  show (if j + d ≤ j + (d + i) then f (j + (d + i) - (j + d)) else 0) = f i
  rw [if_pos (by omega), show j + (d + i) - (j + d) = i by omega]

theorem cumsum4 {A B C N p : ℕ} (hN : p + 1 = N) (x : (⟨4, ![A, B, C, N]⟩ : Shape).Idx → EReal) (v : EReal) (hv : v = 0)
    (h : (⟨4, ![A, B, C, N]⟩ : Shape).ReduceWindows (![1, 1, 1, N] : Fin 4 → ℕ) ![1, 1, 1, 1] ![0, 0, 0, p] ![0, 0, 0, 0] ⟨4, ![A, B, C, N]⟩)
    (a : Fin A) (b : Fin B) (t : Fin C) (f : ℕ → EReal) (hx : ∀ i : Fin N, x (ix4 a b t i) = f i.val) (j : Fin N) :
    Ideal.hostReduceWindowAdd (![1, 1, 1, N] : Fin 4 → ℕ) ![1, 1, 1, 1] ![0, 0, 0, p] ![0, 0, 0, 0] h x v (ix4 a b t j)
      = ∑ i ∈ Finset.range (j.val + 1), f i := by
  subst hN
  subst hv
  have hj := j.isLt
  unfold Ideal.hostReduceWindowAdd Host.reduceWindow
  refine (foldl_add _ _ (fun n => if p ≤ j.val + n.val then f (j.val + n.val - p) else 0) (fun n _ => ?_) _).trans ?_
  · have h0 : ((rowShape (p + 1)).rowMajor.symm n 0).val = 0 := by rw [row_symm]; rfl
    have h1 : ((rowShape (p + 1)).rowMajor.symm n 1).val = 0 := by rw [row_symm]; rfl
    have h2 : ((rowShape (p + 1)).rowMajor.symm n 2).val = 0 := by rw [row_symm]; rfl
    have h3 : ((rowShape (p + 1)).rowMajor.symm n 3).val = n.val := by rw [row_symm]; rfl
    have hn : n.val < p + 1 := (n.cast (row_numel _)).isLt
    dsimp only
    split
    · next hin =>
      have h4 := hin 3
      change p ≤ j.val * 1 + ((rowShape (p + 1)).rowMajor.symm n 3).val
        ∧ j.val * 1 + ((rowShape (p + 1)).rowMajor.symm n 3).val - p < p + 1 at h4
      rw [h3] at h4
      rw [if_pos (by omega)]
      refine (congrArg x (funext fun c => Fin.ext ?_)).trans (hx ⟨j.val + n.val - p, by omega⟩)
      match c with
      | ⟨0, _⟩ =>
        show a.val * 1 + ((rowShape (p + 1)).rowMajor.symm n 0).val - 0 = a.val
        rw [h0]; omega
      | ⟨1, _⟩ =>
        show b.val * 1 + ((rowShape (p + 1)).rowMajor.symm n 1).val - 0 = b.val
        rw [h1]; omega
      | ⟨2, _⟩ =>
        show t.val * 1 + ((rowShape (p + 1)).rowMajor.symm n 2).val - 0 = t.val
        rw [h2]; omega
      | ⟨3, _⟩ =>
        show j.val * 1 + ((rowShape (p + 1)).rowMajor.symm n 3).val - p = j.val + n.val - p
        rw [h3, Nat.mul_one]
    · next hin =>
      rw [if_neg fun hle => hin fun c => by
        match c with
        | ⟨0, _⟩ =>
          show 0 ≤ a.val * 1 + ((rowShape (p + 1)).rowMajor.symm n 0).val ∧ a.val * 1 + ((rowShape (p + 1)).rowMajor.symm n 0).val - 0 < A
          rw [h0]; have := a.isLt; omega
        | ⟨1, _⟩ =>
          show 0 ≤ b.val * 1 + ((rowShape (p + 1)).rowMajor.symm n 1).val ∧ b.val * 1 + ((rowShape (p + 1)).rowMajor.symm n 1).val - 0 < B
          rw [h1]; have := b.isLt; omega
        | ⟨2, _⟩ =>
          show 0 ≤ t.val * 1 + ((rowShape (p + 1)).rowMajor.symm n 2).val ∧ t.val * 1 + ((rowShape (p + 1)).rowMajor.symm n 2).val - 0 < C
          rw [h2]; have := t.isLt; omega
        | ⟨3, _⟩ =>
          show p ≤ j.val * 1 + ((rowShape (p + 1)).rowMajor.symm n 3).val
            ∧ j.val * 1 + ((rowShape (p + 1)).rowMajor.symm n 3).val - p < p + 1
          rw [h3]; omega]
  · rw [zero_add]
    refine Eq.trans ?_ (prefix_sum f p j.val (by omega))
    have : (List.finRange (rowShape (p + 1)).numel).map (fun n => if p ≤ j.val + n.val then f (j.val + n.val - p) else 0)
        = (List.range (rowShape (p + 1)).numel).map (fun w => if p ≤ j.val + w then f (j.val + w - p) else 0) := by
      rw [← List.map_coe_finRange_eq_range, List.map_map]; rfl
    refine (congrArg List.sum this).trans ?_
    rw [row_numel]

/-- The same of the printed operation. -/
theorem cumsum4' {A B C N p : ℕ} (hN : p + 1 = N) (x : FVec Ideal (⟨4, ![A, B, C, N]⟩ : Shape) .f32) {u : Shape} (init : FVec Ideal u .f32)
    (h : (⟨4, ![A, B, C, N]⟩ : Shape).ReduceWindows (![1, 1, 1, N] : Fin 4 → ℕ) ![1, 1, 1, 1] ![0, 0, 0, p] ![0, 0, 0, 0] ⟨4, ![A, B, C, N]⟩)
    (hu : 0 < u.numel) (hv : init (Shape.Idx.first hu) = 0)
    (a : Fin A) (b : Fin B) (t : Fin C) (f : ℕ → EReal) (hx : ∀ i : Fin N, x (ix4 a b t i) = f i.val) (j : Fin N) :
    Host.reduceWindowAdd ![1, 1, 1, N] ![1, 1, 1, 1] ![0, 0, 0, p] ![0, 0, 0, 0] x init h hu (ix4 a b t j)
      = ∑ i ∈ Finset.range (j.val + 1), f i :=
  cumsum4 hN x _ hv h a b t f hx j

/-! ## The reference's term, named part by part -/

variable (q k v : FVec Ideal S2x4x8192x64 .bf16)

def zR : FVec Ideal S2x4x8192x8192 .f32 :=
  mulf (Host.dotGeneral dot_S2x4x8192x64_S2x4x8192x64_S2x4x8192x8192_3_3_2_2_01_01 none (extf .f32 q bitsLt_bf16_f32) (extf .f32 k bitsLt_bf16_f32))
    (broadcastInDim S2x4x8192x8192 ![] bcast_S_S2x4x8192x8192 (constant S_ .f32 0x3E000000#32))

def zero : FVec Ideal S2x4x8192x8192 .f32 := broadcastInDim S2x4x8192x8192 ![] bcast_S_S2x4x8192x8192 (constant S_ .f32 0x00000000#32)

def spR (y : FVec Ideal S2x4x8192x8192 .f32) : FVec Ideal S2x4x8192x8192 .f32 :=
  select (cmpf .une (subf y zero) (subf y zero)) (addf y zero)
    (addf (maximumf y zero) (Host.log1p (Host.exp (Host.negf (Host.absf (subf y zero))))))

def causal : Vec Ideal S2x4x8192x8192 .i1 :=
  broadcastInDim S2x4x8192x8192 ![2, 3] bcast_S8192x8192_S2x4x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

def csR (z : FVec Ideal S2x4x8192x8192 .f32) : FVec Ideal S2x4x8192x8192 .f32 :=
  Host.reduceWindowAdd ![1, 1, 1, 8192] ![1, 1, 1, 1] ![0, 0, 0, 8191] ![0, 0, 0, 0]
    (select causal (Host.negf (spR (Host.negf (Host.negf z)))) (broadcastInDim S2x4x8192x8192 ![] bcast_S_S2x4x8192x8192 (id (constant S_ .f32 0x00000000#32))))
    (broadcastInDim S_ ![] bcast_S_S_ (constant S_ .f32 0x00000000#32))
    reduceWindows_S2x4x8192x8192_S2x4x8192x8192_w1s1p0_0_w1s1p0_0_w1s1p0_0_w8192s1p8191_0 h_S_

def wR (z : FVec Ideal S2x4x8192x8192 .f32) (cs : FVec Ideal S2x4x8192x8192 .f32) : FVec Ideal S2x4x8192x8192 .f32 :=
  select causal (Host.exp (subf (addf (Host.negf (spR (Host.negf z)))
    (broadcastInDim S2x4x8192x8192 ![0, 1, 2, 3] bcast_S2x4x8192x1_S2x4x8192x8192_0_1_2_3 (extractStridedSlice S2x4x8192x1 ![0, 0, 0, 8191] cs slices_S2x4x8192x8192_S2x4x8192x1_0_0_0_8191))) cs))
    zero

def refR : FVec Ideal S2x8192x256 .bf16 :=
  truncf .bf16 (shapeCast _ (transpose S2x8192x4x64 [0, 3, 1, 2]
    (Host.dotGeneral dot_S2x4x8192x64_S2x4x8192x8192_S2x4x64x8192_2_3_3_2_01_01 none (extf .f32 v bitsLt_bf16_f32) (wR (zR q k) (csR (zR q k))))
    transposes_S2x4x64x8192_S2x8192x4x64_0_3_1_2) shapeCasts_S2x8192x4x64_S2x8192x256) bitsLt_bf16_f32

/-! ## Each part at an index -/

theorem spR_at (y : FVec Ideal S2x4x8192x8192 .f32) (b : Fin 2) (h : Fin 4) (t s : Fin 8192) (x : ℝ) (hy : y (ix4 b h t s) = (x : EReal)) :
    spR y (ix4 b h t s) = (sp x : EReal) := by
  pointwise [spR, zero]
  rw [hy, if_neg (fun hne => hne rfl), ← sp_coe, zero_sub]
  rfl

theorem causal_at (b : Fin 2) (h : Fin 4) (t s : Fin 8192) : causal (ix4 b h t s) = if s.val < t.val then 1#1 else 0#1 := by
  pointwise [causal]
  exact slt_small s.val t.val (by have := s.isLt; omega) (by have := t.isLt; omega)

theorem zR_at (hq : Fin' q) (hk : Fin' k) (b : Fin 2) (h : Fin 4) (t s : Fin 8192) : zR q k (ix4 b h t s) = (score q k b h t s.val : EReal) := by
  pointwise [zR]
  rw [eighth_f32, score, dif_pos s.isLt, EReal.coe_mul, coe_sum]
  congr 1
  refine Finset.sum_congr rfl fun d _ => ?_
  rw [EReal.coe_mul, ← hq, ← hk]

theorem neg_sp_at (z : FVec Ideal S2x4x8192x8192 .f32) (b : Fin 2) (h : Fin 4) (t s : Fin 8192) (x : ℝ) (hz : z (ix4 b h t s) = (x : EReal)) :
    Host.negf (spR (Host.negf (Host.negf z))) (ix4 b h t s) = ((-sp x : ℝ) : EReal) := by
  have h2 : Host.negf (Host.negf z) (ix4 b h t s) = (x : EReal) := by
    pointwise
    rw [hz, neg_neg]
  pointwise
  rw [spR_at _ b h t s x h2, EReal.coe_neg]

theorem csR_at (z : FVec Ideal S2x4x8192x8192 .f32) (b : Fin 2) (h : Fin 4) (t : Fin 8192) (Z : ℕ → ℝ)
    (hz : ∀ s : Fin 8192, z (ix4 b h t s) = (Z s.val : EReal)) (j : Fin 8192) :
    csR z (ix4 b h t j) = ((∑ s ∈ Finset.range (j.val + 1), if s < t.val then -sp (Z s) else 0 : ℝ) : EReal) := by
  have h0 : (broadcastInDim S_ ![] bcast_S_S_ (constant S_ .f32 0x00000000#32) : FVec Ideal S_ .f32) (Shape.Idx.first h_S_) = 0 := by
    pointwise
  unfold csR
  refine (cumsum4' (p := 8191) (by norm_num) _ _ _ _ h0 b h t (fun s => ((if s < t.val then -sp (Z s) else 0 : ℝ) : EReal)) (fun s => ?_) j).trans
    (coe_sum _ _).symm
  have h1 := neg_sp_at z b h t s (Z s.val) (hz s)
  show Scalar.select (causal (ix4 b h t s)) (Host.negf (spR (Host.negf (Host.negf z))) (ix4 b h t s))
    (broadcastInDim S2x4x8192x8192 ![] bcast_S_S2x4x8192x8192 (id (constant S_ .f32 0x00000000#32)) (ix4 b h t s)) = _
  rw [causal_at, h1]
  by_cases hs : s.val < t.val
  · rw [if_pos hs, if_pos hs]; rfl
  · rw [if_neg hs, if_neg hs]
    exact (show Ideal.ofBits .f32 0x00000000#32 = 0 by simp [Ideal.ofBits, Ideal.ieee])

/-- The weight's exponent, over the reals. -/
theorem exponent (Z : ℕ → ℝ) (t s : ℕ) (hst : s < t) (ht : t < 8192) :
    -sp (-Z s) + (∑ j ∈ Finset.range (8191 + 1), if j < t then -sp (Z j) else 0) - (∑ j ∈ Finset.range (s + 1), if j < t then -sp (Z j) else 0)
      = (Z s - sp (Z s)) - ∑ j ∈ Finset.Ico (s + 1) t, sp (Z j) := by
  have h1 : (∑ j ∈ Finset.range (8191 + 1), if j < t then -sp (Z j) else 0) = ∑ j ∈ Finset.range t, -sp (Z j) := by
    rw [← Finset.sum_filter]
    congr 1
    ext j
    simp only [Finset.mem_filter, Finset.mem_range]
    omega
  have h2 : (∑ j ∈ Finset.range (s + 1), if j < t then -sp (Z j) else 0) = ∑ j ∈ Finset.range (s + 1), -sp (Z j) :=
    Finset.sum_congr rfl fun j hj => if_pos (by have := Finset.mem_range.1 hj; omega)
  have h3 := Finset.sum_range_add_sum_Ico (fun j => -sp (Z j)) (show s + 1 ≤ t by omega)
  rw [h1, h2, ← h3, sp_neg, Finset.sum_neg_distrib (s := Finset.Ico (s + 1) t)]
  ring

theorem wR_at (z cs : FVec Ideal S2x4x8192x8192 .f32) (b : Fin 2) (h : Fin 4) (t : Fin 8192) (Z : ℕ → ℝ)
    (hz : ∀ s : Fin 8192, z (ix4 b h t s) = (Z s.val : EReal))
    (hcs : ∀ j : Fin 8192, cs (ix4 b h t j) = ((∑ s ∈ Finset.range (j.val + 1), if s < t.val then -sp (Z s) else 0 : ℝ) : EReal)) (s : Fin 8192) :
    wR z cs (ix4 b h t s) = if s.val < t.val then (wt Z t.val s.val : EReal) else 0 := by
  have h1 : Host.negf z (ix4 b h t s) = ((-Z s.val : ℝ) : EReal) := by
    pointwise
    rw [hz, EReal.coe_neg]
  pointwise [wR, zero]
  rw [causal_at]
  by_cases hs : s.val < t.val
  · rw [if_pos hs, if_pos hs, spR_at _ b h t s _ h1, hcs, hcs, ← EReal.coe_neg, ← EReal.coe_add, ← EReal.coe_sub, Ideal.exp_coe]
    refine congrArg (fun r : ℝ => (Real.exp r : EReal)) (exponent Z t.val s.val hs t.isLt)
  · rw [if_neg hs, if_neg hs]; rfl

theorem refR_at (hq : Fin' q) (hk : Fin' k) (b : Fin 2) (t : Fin 8192) (c : Fin 256) : refR q k v (ix3 b t c) = resAt q k v b t c := by
  pointwise [refR]
  refine (Finset.sum_congr rfl fun x _ => congrArg (_ * ·)
    (wR_at _ _ b _ t _ (zR_at q k hq hk b _ t) (csR_at _ b _ t _ (zR_at q k hq hk b _ t)) x)).trans ?_
  have ht := t.isLt
  refine (Finset.sum_congr rfl fun x _ => (?_ : _ = (fun s : ℕ => if s < t.val then
      (wt (score q k b ⟨c.val / 64, by have := c.isLt; omega⟩ t) t.val s : EReal) * value v b ⟨c.val / 64, by have := c.isLt; omega⟩ ⟨c.val % 64, by omega⟩ s
      else 0) x.val)).trans ?_
  · dsimp only
    rw [value, dif_pos x.isLt]
    by_cases hx : x.val < t.val
    · rw [if_pos hx, if_pos hx, mul_comm]
    · rw [if_neg hx, if_neg hx, mul_zero]
  · have h := sum_sel 8192 0 0 t.val le_rfl (by omega) (fun j => j.val < t.val) (fun j => by omega)
      (fun s => (wt (score q k b ⟨c.val / 64, by have := c.isLt; omega⟩ t) t.val s : EReal)
        * value v b ⟨c.val / 64, by have := c.isLt; omega⟩ ⟨c.val % 64, by omega⟩ s)
    simp only [zero_add] at h
    exact h

theorem refR_eq (hq : Fin' q) (hk : Fin' k) : refR q k v = res q k v := by
  funext j
  have e := Idealize.ShloMosaic.eq_ix3 (n0 := 2) (n1 := 8192) (n2 := 256) j
  rw [e]
  exact refR_at q k v hq hk (j 0) (j 1) (j 2)

/-- The run's term is the one above. -/
theorem res_eq (m : (ℓ : Loc nD τ sig) → Buf (Elt Ideal) ℓ) (c : Dev nD) :
    Value.res_main_v26 m c = refR (m ((c.tc : Thread nD τ).loc main_arg0)) (m ((c.tc : Thread nD τ).loc main_arg1)) (m ((c.tc : Thread nD τ).loc main_arg2)) := rfl

end Cert.SBV.Ref

end
-- ==== Proof.SBV.Claim.lean ====
module

public import proofs.«01_k».proof.Defs
public import proofs.«01_k».proof.Proof.SBV.Ref

@[expose] public section

/-! The attention's value claim: kernel and reference end with the same result array. -/

noncomputable section

namespace Cert.SBV

open Idealize.ShloMosaic Idealize.ShloMosaic.TcCoe Idealize.SL.Sem

/-- The precondition's one side condition. -/
theorem pre_facts : Cert.Pre_finite_qk.Facts := ⟨by decide⟩

/-- The largest bf16 word below the not-a-numbers reads as infinity. -/
theorem inf_bf16 : Ideal.ofBits .bf16 0x7F80#16 = (⊤ : EReal) := by
  simp [Ideal.ofBits, Ideal.ieee]

/-- A number whose magnitude is below infinity is a real. -/
theorem real_of_abs_lt (x : EReal) (h : max x (-x) < ⊤) : x = ((x.toReal : ℝ) : EReal) := by
  refine (EReal.coe_toReal ?_ ?_).symm
  · rintro rfl
    simp at h
  · rintro rfl
    simp at h

/-- The precondition's test holds of an array of reals only. -/
theorem fin_of_test (h : Cert.Pre_finite_qk.Facts) (q : FVec Ideal Cert.Pre_finite_qk.S2x4x8192x64 .bf16)
    (ht : cmpf .olt (Host.absf q) (broadcastInDim Cert.Pre_finite_qk.S2x4x8192x64 ![] h.bcast_S_S2x4x8192x64 (constant Cert.Pre_finite_qk.S_ .bf16 0x7F80#16))
      = fun _ => 1#1) : Fin' q := by
  intro i
  have h1 := congrFun ht i
  change BitVec.ofBool (decide (max (q i) (-q i) < Ideal.ofBits .bf16 0x7F80#16)) = 1#1 at h1
  rw [inf_bf16] at h1
  refine real_of_abs_lt _ ?_
  by_contra hc
  rw [decide_eq_false hc] at h1
  exact absurd h1 (by decide)

/-- Kernel and reference agree. -/
theorem algebraic : Cert.algebraic_KernelIdeal_ReferenceIdeal_pre_finite_qk (hKernelIdeal := Cert.KernelIdeal.Gen.facts)
    (hReferenceIdeal := Cert.ReferenceIdeal.Gen.facts) (hPre_finite_qk := pre_facts) := by
  intro m g m' g' hpre hargs
  have hq := fun c => fin_of_test pre_facts _ (hpre c).1
  have hk := fun c => fin_of_test pre_facts _ (hpre c).2
  refine ⟨fun c => res (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.SB.run_blocks (F := Ideal) m g)
    exact final m c (hq c) (hk c)
  · refine (θ_run Cert.ReferenceIdeal.defs _ _).mono (fun r h c => ⟨(h c).1.trans ?_, (h c).2⟩) (Cert.ReferenceIdeal.Value.run (F := Ideal) m' g')
    rw [Ref.res_eq, (hargs c).1, (hargs c).2.1, (hargs c).2.2]
    exact Ref.refR_eq _ _ _ (hq c) (hk c)

end Cert.SBV

end
-- ==== Proof.MIX.Row.lean ====
module

public import Idealize.ShloMosaic.Lib.Pointwise

@[expose] public section

/-! One token's row of the mixing sublayer over the extended reals: normalisation and modulation, four gated branches,
    output projection, residual and normalisation, then the gated feed-forward with its own residual and normalisation. -/

noncomputable section

namespace Cert.MIX

open Idealize.ShloMosaic

/-- The row's width, the normalisation's small addend and the residual's factor, as the programs' literals denote them. -/
abbrev width : EReal := Ideal.ofBits .f32 0x44800000#32
abbrev eps : EReal := Ideal.ofBits .f32 0x3727C5AC#32
abbrev alpha : EReal := Ideal.ofBits .f32 0x3FB504F3#32

def mean (f : Fin 1024 → EReal) : EReal := Ideal.div (∑ j, f j) width

/-- A row less its mean. -/
def cen (f : Fin 1024 → EReal) (i : Fin 1024) : EReal := f i - mean f

/-- A centred row over its deviation. -/
def scaled (f : Fin 1024 → EReal) (i : Fin 1024) : EReal := f i * Ideal.rsqrt (Ideal.div (∑ j, f j * f j) width + eps)

/-- The normalised row. -/
def nrm (f : Fin 1024 → EReal) : Fin 1024 → EReal := scaled (cen f)

/-- Normalised, then scaled and shifted by the modulation. -/
def modu (f sc sh : Fin 1024 → EReal) (i : Fin 1024) : EReal := nrm f i * (1 + sc i) + sh i

/-- Normalised, then scaled and shifted by the layer's own vectors. -/
def aff (f g b : Fin 1024 → EReal) (i : Fin 1024) : EReal := nrm f i * g i + b i

/-- A row times a matrix. -/
def mv {n k : ℕ} (f : Fin n → EReal) (w : Fin n → Fin k → EReal) (i : Fin k) : EReal := ∑ j, f j * w j i

/-- Column `i` of gate `k`. -/
def gcol (k : Fin 4) (i : Fin 1024) : Fin 4096 := ⟨1024 * k.val + i.val, by omega⟩

/-- The branches' outputs under their gates. -/
def mixed (h : Fin 1024 → EReal) (y : Fin 4 → Fin 256 → EReal) (wbr : Fin 4 → Fin 256 → Fin 1024 → EReal)
    (wg : Fin 1024 → Fin 4096 → EReal) (i : Fin 1024) : EReal :=
  ∑ k : Fin 4, Ideal.logistic (mv h wg (gcol k i)) * mv (y k) (wbr k) i

/-- The weighted residual under its gate. -/
def resid (x g p : Fin 1024 → EReal) (i : Fin 1024) : EReal := alpha * x i + (1 + g i) * p i

/-- The two halves of the feed-forward's columns. -/
def ucol (i : Fin 2816) : Fin 5632 := ⟨i.val, by omega⟩
def vcol (i : Fin 2816) : Fin 5632 := ⟨2816 + i.val, by omega⟩

/-- The feed-forward's gated activation. -/
def act (h : Fin 1024 → EReal) (wup : Fin 1024 → Fin 5632 → EReal) (i : Fin 2816) : EReal :=
  mv h wup (ucol i) * Ideal.logistic (mv h wup (ucol i)) * mv h wup (vcol i)

/-- The row after the first residual. -/
def mid (x sh1 sc1 g1 : Fin 1024 → EReal) (y : Fin 4 → Fin 256 → EReal) (wbr : Fin 4 → Fin 256 → Fin 1024 → EReal)
    (wg : Fin 1024 → Fin 4096 → EReal) (wo : Fin 1024 → Fin 1024 → EReal) : Fin 1024 → EReal :=
  resid x g1 (mv (mixed (modu x sc1 sh1) y wbr wg) wo)

/-- The row after the feed-forward, given the row `x` before it. -/
def last (x sh2 sc2 g2 : Fin 1024 → EReal) (wup : Fin 1024 → Fin 5632 → EReal) (wdn : Fin 2816 → Fin 1024 → EReal)
    (g b : Fin 1024 → EReal) : Fin 1024 → EReal :=
  aff (resid x g2 (mv (act (modu x sc2 sh2) wup) wdn)) g b

/-- The sum over the feed-forward's columns in the kernel's four stretches. -/
theorem sum_chunks (f : Fin 2816 → EReal) :
    (∑ j : Fin 640, f ⟨j.val, by omega⟩) + (∑ j : Fin 768, f ⟨640 + j.val, by omega⟩) + (∑ j : Fin 640, f ⟨1408 + j.val, by omega⟩)
      + (∑ j : Fin 768, f ⟨2048 + j.val, by omega⟩) = ∑ j, f j := by
  have h1 := Fin.sum_univ_add (a := 640 + 768 + 640) (b := 768) f
  have h2 := Fin.sum_univ_add (a := 640 + 768) (b := 640) (fun j => f (Fin.castAdd 768 j))
  have h3 := Fin.sum_univ_add (a := 640) (b := 768) (fun j => f (Fin.castAdd 768 (Fin.castAdd 640 j)))
  exact ((h1.trans (congrArg (· + _) (h2.trans (congrArg (· + _) h3)))).trans rfl).symm

end Cert.MIX

end
-- ==== Proof.MIX.Tile.lean ====
module

public import proofs.«01_k».proof.Proof.MIX.Row
public import proofs.«01_k».proof.Proof.Gen.Kernel2Ideal.Frame
public import Idealize.ShloMosaic.Lib.Pointwise

@[expose] public section

set_option maxRecDepth 16384

/-! What the kernel's body computes for one row of its tile, stage by stage. -/

noncomputable section

namespace Cert.MIX

open Cert.Kernel2Ideal Cert.Kernel2Ideal.Gen
open Idealize.ShloMosaic Idealize.ShloMosaic.TcCoe

theorem pay3_at (v0 : FVec Ideal S1x512x1024 .f32) (v18 v24 : FVec Ideal S1x1x1024 .f32) (r : Fin 512) (i : Fin 1024) :
    (k0_pay3 v0 v18 v24 : FVec Ideal S512x1024 .bf16) (ix2 r i) = modu (fun j => v0 (ix3 0 r j)) (fun j => v18 (ix3 0 0 j)) (fun j => v24 (ix3 0 0 j)) i := by
  pointwise [k0_pay3, k0_pay2]
  rfl

theorem pay4_at (v0 : FVec Ideal S1x512x1024 .f32) (v18 v24 : FVec Ideal S1x1x1024 .f32) (v29 : FVec Ideal S1x1024x1024 .bf16) (r : Fin 512) (i : Fin 1024) :
    (k0_pay4 v0 v18 v24 v29 : FVec Ideal S512x1024 .f32) (ix2 r i)
      = Ideal.logistic (mv (fun j => (k0_pay3 v0 v18 v24 : FVec Ideal S512x1024 .bf16) (ix2 r j)) (fun j i => v29 (ix3 0 j i)) i) := by
  pointwise [k0_pay4]
  rfl

theorem pay6_at (v28 : FVec Ideal S512x1024 .bf16) (v32 : FVec Ideal S512x1024 .f32) (v33 : FVec Ideal S1x512x256 .bf16) (v35 : FVec Ideal S1x1x256x1024 .bf16)
    (v39 : FVec Ideal S1x1024x1024 .bf16) (v43 : FVec Ideal S1x512x256 .bf16) (v45 : FVec Ideal S1x1x256x1024 .bf16) (v50 : FVec Ideal S1x1024x1024 .bf16)
    (v54 : FVec Ideal S1x512x256 .bf16) (v56 : FVec Ideal S1x1x256x1024 .bf16) (r : Fin 512) (i : Fin 1024) :
    (k0_pay6 v28 v32 (k0_pay5 v33) v35 v39 v43 v45 v50 v54 v56 : FVec Ideal S512x1024 .f32) (ix2 r i)
      = v32 (ix2 r i) * mv (fun d => v33 (ix3 0 r d)) (fun d i => v35 (ix4 0 0 d i)) i
        + Ideal.logistic (mv (fun j => v28 (ix2 r j)) (fun j i => v39 (ix3 0 j i)) i) * mv (fun d => v43 (ix3 0 r d)) (fun d i => v45 (ix4 0 0 d i)) i
        + Ideal.logistic (mv (fun j => v28 (ix2 r j)) (fun j i => v50 (ix3 0 j i)) i) * mv (fun d => v54 (ix3 0 r d)) (fun d i => v56 (ix4 0 0 d i)) i := by
  pointwise [k0_pay6, k0_pay5]
  rfl

/-- The branches' sum before the output projection. -/
def branches (v28 : FVec Ideal S512x1024 .bf16) (v60 : FVec Ideal S512x1024 .f32) (v61 : FVec Ideal S1x1024x1024 .bf16)
    (v65 : FVec Ideal S1x512x256 .bf16) (v67 : FVec Ideal S1x1x256x1024 .bf16) (r : Fin 512) (i : Fin 1024) : EReal :=
  v60 (ix2 r i) + Ideal.logistic (mv (fun j => v28 (ix2 r j)) (fun j i => v61 (ix3 0 j i)) i) * mv (fun d => v65 (ix3 0 r d)) (fun d i => v67 (ix4 0 0 d i)) i

theorem pay8_at (v0 : FVec Ideal S1x512x1024 .f32) (v28 : FVec Ideal S512x1024 .bf16) (v60 : FVec Ideal S512x1024 .f32) (v61 : FVec Ideal S1x1024x1024 .bf16)
    (v65 : FVec Ideal S1x512x256 .bf16) (v67 : FVec Ideal S1x1x256x1024 .bf16) (v73 : FVec Ideal S1x1024x1024 .bf16) (v78 : FVec Ideal S1x1x1024 .f32)
    (r : Fin 512) (i : Fin 1024) :
    (k0_pay8 (k0_pay2 v0) v28 v60 (k0_pay7 v61) (constant S512x1024 .f32 0x00000000#32) v65 v67 v73 v78 : FVec Ideal S512x1024 .f32) (ix2 r i)
      = nrm (resid (fun j => v0 (ix3 0 r j)) (fun j => v78 (ix3 0 0 j)) (mv (branches v28 v60 v61 v65 v67 r) (fun j i => v73 (ix3 0 j i)))) i := by
  pointwise [k0_pay8, k0_pay2, k0_pay7]
  rfl

theorem pay9_at (v100 : FVec Ideal S512x1024 .f32) (v101 v105 : FVec Ideal S1x1024 .f32) (r : Fin 512) (i : Fin 1024) :
    (k0_pay9 v100 v101 v105 : FVec Ideal S512x1024 .f32) (ix2 r i) = v100 (ix2 r i) * v101 (ix2 0 i) + v105 (ix2 0 i) := by
  pointwise [k0_pay9]

theorem pay10_at (v100 : FVec Ideal S512x1024 .f32) (v101 v105 : FVec Ideal S1x1024 .f32) (v125 v131 : FVec Ideal S1x1x1024 .f32) (r : Fin 512) (i : Fin 1024) :
    (k0_pay10 v100 v101 v105 v125 v131 : FVec Ideal S512x1024 .bf16) (ix2 r i)
      = modu (fun j => (k0_pay9 v100 v101 v105 : FVec Ideal S512x1024 .f32) (ix2 r j)) (fun j => v125 (ix3 0 0 j)) (fun j => v131 (ix3 0 0 j)) i := by
  pointwise [k0_pay10]
  rfl

/-- The activation from a row and two stretches of columns. -/
def act2 {n : ℕ} (h : Fin 1024 → EReal) (u v : Fin 1024 → Fin n → EReal) (i : Fin n) : EReal := mv h u i * Ideal.logistic (mv h u i) * mv h v i

theorem pay11_at (v100 : FVec Ideal S512x1024 .f32) (v101 v105 : FVec Ideal S1x1024 .f32) (v125 v131 : FVec Ideal S1x1x1024 .f32) (v136 : FVec Ideal S1x1024x640 .bf16)
    (r : Fin 512) (i : Fin 640) :
    (k0_pay11 v100 v101 v105 v125 v131 v136 : FVec Ideal S512x640 .f32) (ix2 r i)
      = mv (fun j => (k0_pay10 v100 v101 v105 v125 v131 : FVec Ideal S512x1024 .bf16) (ix2 r j)) (fun j i => v136 (ix3 0 j i)) i := by
  pointwise [k0_pay11]
  rfl

theorem pay12_at (v135 : FVec Ideal S512x1024 .bf16) (v138 : FVec Ideal S512x640 .f32) (v139 : FVec Ideal S1x1024x640 .bf16) (v146 : FVec Ideal S1x640x1024 .bf16)
    (v149 v152 : FVec Ideal S1x1024x768 .bf16) (v159 : FVec Ideal S1x768x1024 .bf16) (r : Fin 512) (i : Fin 1024) :
    (k0_pay12 v135 v138 v139 v146 v149 v152 v159 : FVec Ideal S512x1024 .f32) (ix2 r i)
      = mv (fun n => v138 (ix2 r n) * Ideal.logistic (v138 (ix2 r n)) * mv (fun j => v135 (ix2 r j)) (fun j i => v139 (ix3 0 j i)) n) (fun n i => v146 (ix3 0 n i)) i
        + mv (act2 (fun j => v135 (ix2 r j)) (fun j i => v149 (ix3 0 j i)) (fun j i => v152 (ix3 0 j i))) (fun n i => v159 (ix3 0 n i)) i := by
  pointwise [k0_pay12]
  rfl

theorem pay13_at (v135 : FVec Ideal S512x1024 .bf16) (v163 v166 : FVec Ideal S1x1024x640 .bf16) (r : Fin 512) (i : Fin 640) :
    (k0_pay13 v135 v163 v166 : FVec Ideal S512x640 .bf16) (ix2 r i)
      = act2 (fun j => v135 (ix2 r j)) (fun j i => v163 (ix3 0 j i)) (fun j i => v166 (ix3 0 j i)) i := by
  pointwise [k0_pay13]
  rfl

theorem pay14_at (v108 : FVec Ideal S512x1024 .f32) (v135 : FVec Ideal S512x1024 .bf16) (v162 : FVec Ideal S512x1024 .f32) (v172 : FVec Ideal S512x640 .bf16)
    (v173 : FVec Ideal S1x640x1024 .bf16) (v177 v180 : FVec Ideal S1x1024x768 .bf16) (v187 : FVec Ideal S1x768x1024 .bf16) (v193 : FVec Ideal S1x1x1024 .f32)
    (r : Fin 512) (i : Fin 1024) :
    (k0_pay14 v108 v135 v162 v172 v173 v177 v180 v187 v193 : FVec Ideal S512x1024 .f32) (ix2 r i)
      = cen (resid (fun j => v108 (ix2 r j)) (fun j => v193 (ix3 0 0 j)) fun i => v162 (ix2 r i)
          + mv (fun n => v172 (ix2 r n)) (fun n i => v173 (ix3 0 n i)) i
          + mv (act2 (fun j => v135 (ix2 r j)) (fun j i => v177 (ix3 0 j i)) (fun j i => v180 (ix3 0 j i))) (fun n i => v187 (ix3 0 n i)) i) i := by
  pointwise [k0_pay14]
  rfl

theorem pay15_at (v108 : FVec Ideal S512x1024 .f32) (v135 : FVec Ideal S512x1024 .bf16) (v162 : FVec Ideal S512x1024 .f32) (v172 : FVec Ideal S512x640 .bf16)
    (v173 : FVec Ideal S1x640x1024 .bf16) (v177 v180 : FVec Ideal S1x1024x768 .bf16) (v187 : FVec Ideal S1x768x1024 .bf16) (v193 : FVec Ideal S1x1x1024 .f32)
    (r : Fin 512) :
    (k0_pay15 v108 v135 v162 v172 v173 v177 v180 v187 v193 : FVec Ideal S512x1 .f32) (ix2 r 0)
      = ∑ j, (k0_pay14 v108 v135 v162 v172 v173 v177 v180 v187 v193 : FVec Ideal S512x1024 .f32) (ix2 r j)
          * (k0_pay14 v108 v135 v162 v172 v173 v177 v180 v187 v193 : FVec Ideal S512x1024 .f32) (ix2 r j) := by
  pointwise [k0_pay15]

theorem pay1_at (v205 : FVec Ideal S512x1024 .f32) (v208 : FVec Ideal S512x1 .f32) (v216 v220 : FVec Ideal S1x1024 .f32) (r : Fin 512) (i : Fin 1024)
    (h : v208 (ix2 r 0) = ∑ j, v205 (ix2 r j) * v205 (ix2 r j)) :
    (k0_pay1 v205 v208 v216 v220 : FVec Ideal S1x512x1024 .f32) (ix3 0 r i)
      = scaled (fun j => v205 (ix2 r j)) i * v216 (ix2 0 i) + v220 (ix2 0 i) := by
  pointwise [k0_pay1]
  rw [h]
  rfl

end Cert.MIX

end
-- ==== Proof.MIX.Block.lean ====
module

public import proofs.«01_k».proof.Proof.MIX.Tile
public import Idealize.ShloMosaic.Lib.Pipeline.ValueKit
public import Idealize.ShloMosaic.Lib.Claim

@[expose] public section

set_option maxRecDepth 16384

/-! One grid point's block of the result, from the blocks it is computed from. -/

noncomputable section

namespace Cert.MIX

open Cert.Kernel2Ideal Cert.Kernel2Ideal.Gen
open Idealize.ShloMosaic Idealize.ShloMosaic.TcCoe

/-- The whole row. -/
def rowOut (x sh1 sc1 g1 sh2 sc2 g2 : Fin 1024 → EReal) (y : Fin 4 → Fin 256 → EReal) (wbr : Fin 4 → Fin 256 → Fin 1024 → EReal)
    (wg : Fin 1024 → Fin 4096 → EReal) (wo : Fin 1024 → Fin 1024 → EReal) (l1g l1b : Fin 1024 → EReal)
    (wup : Fin 1024 → Fin 5632 → EReal) (wdn : Fin 2816 → Fin 1024 → EReal) (l2g l2b : Fin 1024 → EReal) : Fin 1024 → EReal :=
  last (aff (mid x sh1 sc1 g1 y wbr wg wo) l1g l1b) sh2 sc2 g2 wup wdn l2g l2b

variable (x0 : Vec Ideal S1x512x1024 .f32) (x1 x2 x3 x4 x5 x6 : Vec Ideal S1x1x1024 .f32) (x7 x8 x9 x10 : Vec Ideal S1x512x256 .bf16)
  (x11 : Vec Ideal S1x1024x4096 .bf16) (x12 : Vec Ideal S1x4x256x1024 .bf16) (x13 : Vec Ideal S1x1024x1024 .bf16) (x14 x15 : Vec Ideal S1x1024 .f32)
  (x16 : Vec Ideal S1x1024x5632 .bf16) (x17 : Vec Ideal S1x2816x1024 .bf16) (x18 x19 : Vec Ideal S1x1024 .f32) (r : Fin 512)

/-! ## The blocks' rows and matrices -/

/-- A vector that every row of the block shares. -/
def shared (x : Vec Ideal S1x1x1024 .f32) (j : Fin 1024) : EReal := x (ix3 0 0 j)
def lane (x : Vec Ideal S1x1024 .f32) (j : Fin 1024) : EReal := x (ix2 0 j)
def xrow (j : Fin 1024) : EReal := x0 (ix3 0 r j)
def yrow : Fin 4 → Fin 256 → EReal := ![fun d => x7 (ix3 0 r d), fun d => x8 (ix3 0 r d), fun d => x9 (ix3 0 r d), fun d => x10 (ix3 0 r d)]
def wgM (j : Fin 1024) (i : Fin 4096) : EReal := x11 (ix3 0 j i)
def wbrM (k : Fin 4) (d : Fin 256) (i : Fin 1024) : EReal := x12 (ix4 0 k d i)
def woM (j i : Fin 1024) : EReal := x13 (ix3 0 j i)
def wupM (j : Fin 1024) (i : Fin 5632) : EReal := x16 (ix3 0 j i)
def wdnM (n : Fin 2816) (i : Fin 1024) : EReal := x17 (ix3 0 n i)

/-! ## The rows between the stages -/

def hrow : Fin 1024 → EReal := modu (xrow x0 r) (shared x2) (shared x1)
def midrow : Fin 1024 → EReal :=
  mid (xrow x0 r) (shared x1) (shared x2) (shared x3) (yrow x7 x8 x9 x10 r) (wbrM x12) (wgM x11) (woM x13)
def x2row : Fin 1024 → EReal := aff (midrow x0 x1 x2 x3 x7 x8 x9 x10 x11 x12 x13 r) (lane x14) (lane x15)
def h2row : Fin 1024 → EReal := modu (x2row x0 x1 x2 x3 x7 x8 x9 x10 x11 x12 x13 x14 x15 r) (shared x5) (shared x4)

theorem pay16_at (i : Fin 1024) : (k0_pay16 x0 x1 x2 x3 x4 x5 x6 x7 x8 x9 x10 x11 x12 x13 x14 x15 x16 x17 x18 x19 : FVec Ideal S512x1024 .bf16) (ix2 r i) = (hrow x0 x1 x2 r) i := by
  unfold k0_pay16
  refine (pay3_at _ _ _ r i).trans ?_
  pointwise
  rfl

theorem pay16_row : (fun j => (k0_pay16 x0 x1 x2 x3 x4 x5 x6 x7 x8 x9 x10 x11 x12 x13 x14 x15 x16 x17 x18 x19 : FVec Ideal S512x1024 .bf16) (ix2 r j)) = (hrow x0 x1 x2 r) :=
  funext (pay16_at x0 x1 x2 x3 x4 x5 x6 x7 x8 x9 x10 x11 x12 x13 x14 x15 x16 x17 x18 x19 r)

theorem gcol_zero (i : Fin 1024) : (⟨i.val, by omega⟩ : Fin 4096) = gcol 0 i :=
  Fin.ext (by show i.val = 1024 * 0 + i.val; omega)

theorem pay17_at (i : Fin 1024) : (k0_pay17 x0 x1 x2 x3 x4 x5 x6 x7 x8 x9 x10 x11 x12 x13 x14 x15 x16 x17 x18 x19 : FVec Ideal S512x1024 .f32) (ix2 r i) = nrm (midrow x0 x1 x2 x3 x7 x8 x9 x10 x11 x12 x13 r) i := by
  unfold k0_pay17
  refine (pay8_at _ _ _ _ _ _ _ _ r i).trans ?_
  refine congrArg (fun f => nrm f i) ?_
  unfold midrow mid
  have e : branches (k0_pay16 x0 x1 x2 x3 x4 x5 x6 x7 x8 x9 x10 x11 x12 x13 x14 x15 x16 x17 x18 x19) (k0_pay6 (k0_pay16 x0 x1 x2 x3 x4 x5 x6 x7 x8 x9 x10 x11 x12 x13 x14 x15 x16 x17 x18 x19)
      (k0_pay4 (View.ld x0 r0_0) (View.ld x2 r0_1) (View.ld x1 r0_1) (View.ld x11 r0_2)) (k0_pay5 (View.ld x7 r0_3)) (View.ld x12 r0_4) (View.ld x11 r0_5)
      (View.ld x8 r0_3) (View.ld x12 r0_6) (View.ld x11 r0_7) (View.ld x9 r0_3) (View.ld x12 r0_8))
      (View.ld x11 r0_9) (View.ld x10 r0_3) (View.ld x12 r0_10) r
      = mixed (hrow x0 x1 x2 r) (yrow x7 x8 x9 x10 r) (wbrM x12) (wgM x11) := by
    funext i
    have e3 := pay16_row x0 x1 x2 x3 x4 x5 x6 x7 x8 x9 x10 x11 x12 x13 x14 x15 x16 x17 x18 x19 r
    unfold branches mixed
    rw [pay6_at, pay4_at, e3, Fin.sum_univ_four]
    unfold k0_pay16 at e3
    rw [e3]
    pointwise
    refine congrArg₂ (· + ·) (congrArg₂ (· + ·) (congrArg₂ (· + ·) ?_ rfl) rfl) rfl
    exact congrArg (fun c => Ideal.logistic (mv (hrow x0 x1 x2 r) (wgM x11) c) * mv (yrow x7 x8 x9 x10 r 0) (wbrM x12 0) i) (gcol_zero i)
  refine (congrArg (fun b => resid _ _ (mv b _)) e).trans ?_
  funext i
  unfold resid mv
  pointwise
  rfl

theorem pay18_at (i : Fin 1024) : (k0_pay18 x0 x1 x2 x3 x4 x5 x6 x7 x8 x9 x10 x11 x12 x13 x14 x15 x16 x17 x18 x19 : FVec Ideal S512x1024 .f32) (ix2 r i) = (x2row x0 x1 x2 x3 x7 x8 x9 x10 x11 x12 x13 x14 x15 r) i := by
  unfold k0_pay18
  rw [pay9_at, pay17_at]
  pointwise
  rfl

theorem pay19_at (i : Fin 1024) : (k0_pay19 x0 x1 x2 x3 x4 x5 x6 x7 x8 x9 x10 x11 x12 x13 x14 x15 x16 x17 x18 x19 : FVec Ideal S512x1024 .bf16) (ix2 r i) = (h2row x0 x1 x2 x3 x4 x5 x7 x8 x9 x10 x11 x12 x13 x14 x15 r) i := by
  unfold k0_pay19
  have e := funext (pay18_at x0 x1 x2 x3 x4 x5 x6 x7 x8 x9 x10 x11 x12 x13 x14 x15 x16 x17 x18 x19 r)
  unfold k0_pay18 at e
  rw [pay10_at, e]
  pointwise
  rfl

theorem pay19_row : (fun j => (k0_pay19 x0 x1 x2 x3 x4 x5 x6 x7 x8 x9 x10 x11 x12 x13 x14 x15 x16 x17 x18 x19 : FVec Ideal S512x1024 .bf16) (ix2 r j)) = (h2row x0 x1 x2 x3 x4 x5 x7 x8 x9 x10 x11 x12 x13 x14 x15 r) :=
  funext (pay19_at x0 x1 x2 x3 x4 x5 x6 x7 x8 x9 x10 x11 x12 x13 x14 x15 x16 x17 x18 x19 r)

/-- The activation over two stretches of columns is the activation at those columns. -/
theorem act2_col {n : ℕ} (h : Fin 1024 → EReal) (w : Fin 1024 → Fin 5632 → EReal) (u v : Fin 1024 → Fin n → EReal) (i : Fin n) (k : Fin 2816)
    (hu : ∀ j, u j i = w j (ucol k)) (hv : ∀ j, v j i = w j (vcol k)) : act2 h u v i = act h w k := by
  have e1 : mv h u i = mv h w (ucol k) := Finset.sum_congr rfl fun j _ => by rw [hu]
  have e2 : mv h v i = mv h w (vcol k) := Finset.sum_congr rfl fun j _ => by rw [hv]
  unfold act2 act
  rw [e1, e2]

theorem pay20_at (i : Fin 1024) : (k0_pay20 x0 x1 x2 x3 x4 x5 x6 x7 x8 x9 x10 x11 x12 x13 x14 x15 x16 x17 x18 x19 : FVec Ideal S512x1024 .f32) (ix2 r i)
    = (∑ n : Fin 640, act (h2row x0 x1 x2 x3 x4 x5 x7 x8 x9 x10 x11 x12 x13 x14 x15 r) (wupM x16) ⟨n.val, by omega⟩ * wdnM x17 ⟨n.val, by omega⟩ i)
      + ∑ n : Fin 768, act (h2row x0 x1 x2 x3 x4 x5 x7 x8 x9 x10 x11 x12 x13 x14 x15 r) (wupM x16) ⟨640 + n.val, by omega⟩ * wdnM x17 ⟨640 + n.val, by omega⟩ i := by
  unfold k0_pay20
  have e := pay19_row x0 x1 x2 x3 x4 x5 x6 x7 x8 x9 x10 x11 x12 x13 x14 x15 x16 x17 x18 x19 r
  rw [pay12_at, e]
  unfold k0_pay19 at e
  simp only [pay11_at]
  rw [e]
  refine congrArg₂ (· + ·) (Finset.sum_congr rfl fun n _ => ?_) (Finset.sum_congr rfl fun n _ => ?_)
  · refine congrArg₂ (· * ·) (act2_col (h2row x0 x1 x2 x3 x4 x5 x7 x8 x9 x10 x11 x12 x13 x14 x15 r) (wupM x16) _ _ n ⟨n.val, by omega⟩ (fun j => ?_) fun j => ?_) ?_
    · pointwise
      rfl
    · pointwise
      rfl
    · pointwise
      rfl
  · refine congrArg₂ (· * ·) (act2_col (h2row x0 x1 x2 x3 x4 x5 x7 x8 x9 x10 x11 x12 x13 x14 x15 r) (wupM x16) _ _ n ⟨640 + n.val, by omega⟩ (fun j => ?_) fun j => ?_) ?_
    · pointwise
      rfl
    · pointwise
      exact congrArg (fun c => x16 (ix3 0 j c)) (Fin.ext (by show 3456 + n.val = 2816 + (640 + n.val); omega))
    · pointwise
      rfl

theorem pay21_at (n : Fin 640) : (k0_pay21 x0 x1 x2 x3 x4 x5 x6 x7 x8 x9 x10 x11 x12 x13 x14 x15 x16 x17 x18 x19 : FVec Ideal S512x640 .bf16) (ix2 r n)
    = act (h2row x0 x1 x2 x3 x4 x5 x7 x8 x9 x10 x11 x12 x13 x14 x15 r) (wupM x16) ⟨1408 + n.val, by omega⟩ := by
  unfold k0_pay21
  rw [pay13_at, pay19_row x0 x1 x2 x3 x4 x5 x6 x7 x8 x9 x10 x11 x12 x13 x14 x15 x16 x17 x18 x19 r]
  refine act2_col (h2row x0 x1 x2 x3 x4 x5 x7 x8 x9 x10 x11 x12 x13 x14 x15 r) (wupM x16) _ _ n ⟨1408 + n.val, by omega⟩ (fun j => ?_) fun j => ?_
  · pointwise
    rfl
  · pointwise
    exact congrArg (fun c => x16 (ix3 0 j c)) (Fin.ext (by show 4224 + n.val = 2816 + (1408 + n.val); omega))

theorem block_at (i : Fin 1024) :
    out0_20 x0 x1 x2 x3 x4 x5 x6 x7 x8 x9 x10 x11 x12 x13 x14 x15 x16 x17 x18 x19 (ix3 0 r i)
      = rowOut (xrow x0 r) (shared x1) (shared x2) (shared x3) (shared x4) (shared x5) (shared x6) (yrow x7 x8 x9 x10 r) (wbrM x12) (wgM x11) (woM x13)
          (lane x14) (lane x15) (wupM x16) (wdnM x17) (lane x18) (lane x19) i := by
  frame_out
  refine (pay1_at _ _ _ _ r i (pay15_at _ _ _ _ _ _ _ _ _ r)).trans ?_
  simp only [pay14_at]
  have e : (fun i => (k0_pay20 x0 x1 x2 x3 x4 x5 x6 x7 x8 x9 x10 x11 x12 x13 x14 x15 x16 x17 x18 x19 : FVec Ideal S512x1024 .f32) (ix2 r i)
      + mv (fun n => (k0_pay21 x0 x1 x2 x3 x4 x5 x6 x7 x8 x9 x10 x11 x12 x13 x14 x15 x16 x17 x18 x19 : FVec Ideal S512x640 .bf16) (ix2 r n)) (fun n i => (View.ld x17 r0_21 : FVec Ideal S1x640x1024 .bf16) (ix3 0 n i)) i
      + mv (act2 (fun j => (k0_pay19 x0 x1 x2 x3 x4 x5 x6 x7 x8 x9 x10 x11 x12 x13 x14 x15 x16 x17 x18 x19 : FVec Ideal S512x1024 .bf16) (ix2 r j)) (fun j i => (View.ld x16 r0_22 : FVec Ideal S1x1024x768 .bf16) (ix3 0 j i))
          fun j i => (View.ld x16 r0_23 : FVec Ideal S1x1024x768 .bf16) (ix3 0 j i)) (fun n i => (View.ld x17 r0_24 : FVec Ideal S1x768x1024 .bf16) (ix3 0 n i)) i)
      = mv (act (h2row x0 x1 x2 x3 x4 x5 x7 x8 x9 x10 x11 x12 x13 x14 x15 r) (wupM x16)) (wdnM x17) := by
    funext i
    rw [pay20_at, pay19_row x0 x1 x2 x3 x4 x5 x6 x7 x8 x9 x10 x11 x12 x13 x14 x15 x16 x17 x18 x19 r]
    refine Eq.trans ?_ (sum_chunks fun n => act (h2row x0 x1 x2 x3 x4 x5 x7 x8 x9 x10 x11 x12 x13 x14 x15 r) (wupM x16) n * wdnM x17 n i)
    refine congrArg₂ (· + ·) (congrArg₂ (· + ·) rfl (Finset.sum_congr rfl fun n _ => ?_)) (Finset.sum_congr rfl fun n _ => ?_)
    · refine congrArg₂ (· * ·) (pay21_at x0 x1 x2 x3 x4 x5 x6 x7 x8 x9 x10 x11 x12 x13 x14 x15 x16 x17 x18 x19 r n) ?_
      pointwise
      rfl
    · refine congrArg₂ (· * ·) (act2_col (h2row x0 x1 x2 x3 x4 x5 x7 x8 x9 x10 x11 x12 x13 x14 x15 r) (wupM x16) _ _ n ⟨2048 + n.val, by omega⟩ (fun j => ?_) fun j => ?_) ?_
      · pointwise
        rfl
      · pointwise
        exact congrArg (fun c => x16 (ix3 0 j c)) (Fin.ext (by show 4864 + n.val = 2816 + (2048 + n.val); omega))
      · pointwise
        rfl
  have e18 := funext (pay18_at x0 x1 x2 x3 x4 x5 x6 x7 x8 x9 x10 x11 x12 x13 x14 x15 x16 x17 x18 x19 r)
  refine congrArg₂ (· + ·) (congrArg₂ (· * ·) (congrArg (fun f => scaled (fun j => cen f j) i) (congrArg₂ (fun a b => resid a _ b) e18 e)) rfl) rfl

end Cert.MIX

end
-- ==== Proof.MIX.Ref.lean ====
module

public import proofs.«01_k».proof.Proof.MIX.Block
public import proofs.«01_k».proof.Proof.Gen.Reference2Ideal.Run

@[expose] public section

set_option maxRecDepth 16384

/-! The reference's result over exact arithmetic: each token's row is the same function of the arguments' rows. -/

noncomputable section

namespace Cert.MIX.Ref

open Cert.Reference2Ideal Cert.Reference2Ideal.Gen
open Idealize.ShloMosaic Idealize.ShloMosaic.TcCoe

abbrev Tok := FVec Ideal S2x8192x1024 .f32

/-! ## The reference's term, named part by part -/

def meanR (x : Tok) : FVec Ideal S2x8192x1 .f32 :=
  Host.divf (broadcastInDim S2x8192x1 ![0, 1] bcast_S2x8192_S2x8192x1_0_1 (Host.reduceAdd x (constant S_ .f32 0x00000000#32) reducesTo_S2x8192x1024_S2x8192_d2 h_S_))
    (broadcastInDim S2x8192x1 ![] bcast_S_S2x8192x1 (constant S_ .f32 0x44800000#32))

def cenR (x : Tok) : Tok := subf x (broadcastInDim S2x8192x1024 ![0, 1, 2] bcast_S2x8192x1_S2x8192x1024_0_1_2 (meanR x))

def nrmR (x : Tok) : Tok :=
  mulf (cenR x) (broadcastInDim S2x8192x1024 ![0, 1, 2] bcast_S2x8192x1_S2x8192x1024_0_1_2
    (Host.rsqrt (addf (Host.divf (broadcastInDim S2x8192x1 ![0, 1] bcast_S2x8192_S2x8192x1_0_1
        (Host.reduceAdd (mulf (cenR x) (cenR x)) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x3727C5AC#32)))))

def onePlus (g : FVec Ideal S2x1x1024 .f32) : Tok :=
  broadcastInDim S2x8192x1024 ![0, 1, 2] bcast_S2x1x1024_S2x8192x1024_0_1_2
    (addf (broadcastInDim S2x1x1024 ![] bcast_S_S2x1x1024 (constant S_ .f32 0x3F800000#32)) g)

def moduR (x : Tok) (sc sh : FVec Ideal S2x1x1024 .f32) : Tok :=
  addf (mulf (nrmR x) (onePlus sc)) (broadcastInDim S2x8192x1024 ![0, 1, 2] bcast_S2x1x1024_S2x8192x1024_0_1_2 sh)

def residR (x : Tok) (g : FVec Ideal S2x1x1024 .f32) (p : Tok) : Tok :=
  addf (mulf (broadcastInDim S2x8192x1024 ![] bcast_S_S2x8192x1024 (constant S_ .f32 0x3FB504F3#32)) x) (mulf (onePlus g) p)

def laneR (v : FVec Ideal S2x1024 .f32) : Tok :=
  broadcastInDim S2x8192x1024 ![0, 1, 2] bcast_S1x1x1024_S2x8192x1024_0_1_2 (broadcastInDim S1x1x1024 ![2] bcast_S1024_S1x1x1024_2
    (shapeCast _ (extractStridedSlice S1x1024 ![1, 0] v slices_S2x1024_S1x1024_1_0) shapeCasts_S1x1024_S1024))

def affR (x : Tok) (g b : FVec Ideal S2x1024 .f32) : Tok := addf (mulf (nrmR x) (laneR g)) (laneR b)

def gatesR (h : Tok) (wg : FVec Ideal S2x1024x4096 .f32) : FVec Ideal S2x8192x4x1024 .f32 :=
  shapeCast _ (Host.divf (broadcastInDim S2x8192x4096 ![] bcast_S_S2x8192x4096 (constant S_ .f32 0x3F800000#32))
    (addf (broadcastInDim S2x8192x4096 ![] bcast_S_S2x8192x4096 (constant S_ .f32 0x3F800000#32))
      (Host.exp (Host.negf (Host.dotGeneral dot_S2x8192x1024_S1024x4096_S2x8192x4096_2_0_01_1_n_n none h
        (shapeCast _ (extractStridedSlice S1x1024x4096 ![1, 0, 0] wg slices_S2x1024x4096_S1x1024x4096_1_0_0) shapeCasts_S1x1024x4096_S1024x4096))))))
    shapeCasts_S2x8192x4096_S2x8192x4x1024

def ext (y : FVec Ideal S2x8192x256 .bf16) : FVec Ideal S2x8192x1x256 .f32 :=
  broadcastInDim S2x8192x1x256 ![0, 1, 3] bcast_S2x8192x256_S2x8192x1x256_0_1_3 (extf .f32 y bitsLt_bf16_f32)

def projR (ya yb yc yd : FVec Ideal S2x8192x256 .bf16) (wbr : FVec Ideal S2x4x256x1024 .f32) : FVec Ideal S2x8192x4x1024 .f32 :=
  transpose S2x8192x4x1024 [2, 3, 0, 1] (Host.dotGeneral dot_S4x256x1024_S2x8192x4x256_S4x1024x2x8192_1_3_2_01_0_2 (φ₂ := .f32) none
    (shapeCast _ (extractStridedSlice S1x4x256x1024 ![1, 0, 0, 0] wbr slices_S2x4x256x1024_S1x4x256x1024_1_0_0_0) shapeCasts_S1x4x256x1024_S4x256x1024)
    ((concatenate S2x8192x4x256 2 [⟨S2x8192x1x256, (ext ya : (⟨S2x8192x1x256, .f32⟩ : BufTy).Contents (Elt Ideal))⟩,
      ⟨S2x8192x1x256, (ext yb : (⟨S2x8192x1x256, .f32⟩ : BufTy).Contents (Elt Ideal))⟩,
      ⟨S2x8192x1x256, (ext yc : (⟨S2x8192x1x256, .f32⟩ : BufTy).Contents (Elt Ideal))⟩,
      ⟨S2x8192x1x256, (ext yd : (⟨S2x8192x1x256, .f32⟩ : BufTy).Contents (Elt Ideal))⟩]
      concatenates_S2x8192x1x256_S2x8192x1x256_S2x8192x1x256_S2x8192x1x256_S2x8192x4x256_d2 : (⟨S2x8192x4x256, .f32⟩ : BufTy).Contents (Elt Ideal))))
    transposes_S4x1024x2x8192_S2x8192x4x1024_2_3_0_1

def mixedR (g p : FVec Ideal S2x8192x4x1024 .f32) : Tok :=
  Host.reduceAdd (mulf g p) (constant S_ .f32 0x00000000#32) reducesTo_S2x8192x4x1024_S2x8192x1024_d2 h_S_

def woR (m : Tok) (wo : FVec Ideal S2x1024x1024 .f32) : Tok :=
  Host.dotGeneral dot_S2x8192x1024_S1024x1024_S2x8192x1024_2_0_01_1_n_n none m
    (shapeCast _ (extractStridedSlice S1x1024x1024 ![1, 0, 0] wo slices_S2x1024x1024_S1x1024x1024_1_0_0) shapeCasts_S1x1024x1024_S1024x1024)

def upR (h : Tok) (wup : FVec Ideal S2x1024x5632 .f32) : FVec Ideal S2x8192x5632 .f32 :=
  Host.dotGeneral dot_S2x8192x1024_S1024x5632_S2x8192x5632_2_0_01_1_n_n none h
    (shapeCast _ (extractStridedSlice S1x1024x5632 ![1, 0, 0] wup slices_S2x1024x5632_S1x1024x5632_1_0_0) shapeCasts_S1x1024x5632_S1024x5632)

def uR (a : FVec Ideal S2x8192x5632 .f32) : FVec Ideal S2x8192x2816 .f32 :=
  extractStridedSlice S2x8192x2816 ![0, 0, 0] a slices_S2x8192x5632_S2x8192x2816_0_0_0

def actR (a : FVec Ideal S2x8192x5632 .f32) : FVec Ideal S2x8192x2816 .f32 :=
  mulf (mulf (uR a) (Host.divf (broadcastInDim S2x8192x2816 ![] bcast_S_S2x8192x2816 (constant S_ .f32 0x3F800000#32))
      (addf (broadcastInDim S2x8192x2816 ![] bcast_S_S2x8192x2816 (constant S_ .f32 0x3F800000#32)) (Host.exp (Host.negf (uR a))))))
    (extractStridedSlice S2x8192x2816 ![0, 0, 2816] a slices_S2x8192x5632_S2x8192x2816_0_0_2816)

def downR (a : FVec Ideal S2x8192x2816 .f32) (wdn : FVec Ideal S2x2816x1024 .f32) : Tok :=
  Host.dotGeneral dot_S2x8192x2816_S2816x1024_S2x8192x1024_2_0_01_1_n_n none a
    (shapeCast _ (extractStridedSlice S1x2816x1024 ![1, 0, 0] wdn slices_S2x2816x1024_S1x2816x1024_1_0_0) shapeCasts_S1x2816x1024_S2816x1024)

variable (x : Tok) (md : FVec Ideal S2x1x6144 .f32) (ya yb yc yd : FVec Ideal S2x8192x256 .bf16) (wbr : FVec Ideal S2x4x256x1024 .f32)
  (wg : FVec Ideal S2x1024x4096 .f32) (wo : FVec Ideal S2x1024x1024 .f32) (l1g l1b : FVec Ideal S2x1024 .f32) (wup : FVec Ideal S2x1024x5632 .f32)
  (wdn : FVec Ideal S2x2816x1024 .f32) (l2g l2b : FVec Ideal S2x1024 .f32)

def midR : Tok :=
  residR x (extractStridedSlice S2x1x1024 ![0, 0, 2048] md slices_S2x1x6144_S2x1x1024_0_0_2048)
    (woR (mixedR (gatesR (moduR x (extractStridedSlice S2x1x1024 ![0, 0, 1024] md slices_S2x1x6144_S2x1x1024_0_0_1024)
      (extractStridedSlice S2x1x1024 ![0, 0, 0] md slices_S2x1x6144_S2x1x1024_0_0_0)) wg) (projR ya yb yc yd wbr)) wo)

def lastR (z : Tok) : Tok :=
  affR (residR z (extractStridedSlice S2x1x1024 ![0, 0, 5120] md slices_S2x1x6144_S2x1x1024_0_0_5120)
    (downR (actR (upR (moduR z (extractStridedSlice S2x1x1024 ![0, 0, 4096] md slices_S2x1x6144_S2x1x1024_0_0_4096)
      (extractStridedSlice S2x1x1024 ![0, 0, 3072] md slices_S2x1x6144_S2x1x1024_0_0_3072)) wup)) wdn)) l2g l2b

def refR : Tok := lastR md wup wdn l2g l2b (affR (midR x md ya yb yc yd wbr wg wo) l1g l1b)

/-! ## Each part at an index -/

/-- A token's row. -/
def row (x : Tok) (b : Fin 2) (t : Fin 8192) (j : Fin 1024) : EReal := x (ix3 b t j)

/-- The modulation's stretch number `k` for a batch entry. -/
def seg (md : FVec Ideal S2x1x6144 .f32) (b : Fin 2) (k : Fin 6) (j : Fin 1024) : EReal := md (ix3 b 0 ⟨1024 * k.val + j.val, by omega⟩)

/-- Layer zero's vectors and matrices. -/
def vec1 (v : FVec Ideal S2x1024 .f32) (j : Fin 1024) : EReal := v (ix2 1 j)
def mat1 {n k : ℕ} (w : FVec Ideal (⟨3, ![2, n, k]⟩ : Shape) .f32) (j : Fin n) (i : Fin k) : EReal := w (ix3 1 j i)
def wbr1 (w : FVec Ideal S2x4x256x1024 .f32) (k : Fin 4) (d : Fin 256) (i : Fin 1024) : EReal := w (ix4 1 k d i)
def ys (b : Fin 2) (t : Fin 8192) : Fin 4 → Fin 256 → EReal := ![fun d => ya (ix3 b t d), fun d => yb (ix3 b t d), fun d => yc (ix3 b t d), fun d => yd (ix3 b t d)]

variable (b : Fin 2) (t : Fin 8192)

theorem nrmR_at (i : Fin 1024) : nrmR x (ix3 b t i) = nrm (row x b t) i := by
  pointwise [nrmR, cenR, meanR]
  rfl

theorem onePlus_at (g : FVec Ideal S2x1x1024 .f32) (i : Fin 1024) : onePlus g (ix3 b t i) = 1 + g (ix3 b 0 i) := by
  pointwise [onePlus]

theorem moduR_at (sc sh : FVec Ideal S2x1x1024 .f32) (i : Fin 1024) :
    moduR x sc sh (ix3 b t i) = modu (row x b t) (fun j => sc (ix3 b 0 j)) (fun j => sh (ix3 b 0 j)) i := by
  pointwise [moduR]
  rw [nrmR_at, onePlus_at]
  rfl

theorem residR_at (g : FVec Ideal S2x1x1024 .f32) (p : Tok) (i : Fin 1024) :
    residR x g p (ix3 b t i) = resid (row x b t) (fun j => g (ix3 b 0 j)) (row p b t) i := by
  pointwise [residR]
  rw [onePlus_at]
  rfl

theorem laneR_at (v : FVec Ideal S2x1024 .f32) (i : Fin 1024) : laneR v (ix3 b t i) = vec1 v i := by
  pointwise [laneR]
  rfl

theorem affR_at (g v : FVec Ideal S2x1024 .f32) (i : Fin 1024) : affR x g v (ix3 b t i) = aff (row x b t) (vec1 g) (vec1 v) i := by
  pointwise [affR]
  rw [nrmR_at, laneR_at, laneR_at]
  rfl

theorem gatesR_at (h : Tok) (k : Fin 4) (i : Fin 1024) :
    gatesR h wg (ix4 b t k i) = Ideal.logistic (mv (row h b t) (mat1 wg) (gcol k i)) := by
  pointwise [gatesR]
  refine Eq.trans ?_ (congrArg (fun c => Ideal.logistic (mv (row h b t) (mat1 wg) c))
    (Fin.ext (by show k.val * 1024 + i.val = 1024 * k.val + i.val; omega) : (⟨k.val * 1024 + i.val, by omega⟩ : Fin 4096) = gcol k i))
  rfl

theorem projR_at (k : Fin 4) (i : Fin 1024) : projR ya yb yc yd wbr (ix4 b t k i) = mv (ys ya yb yc yd b t k) (wbr1 wbr k) i := by
  pointwise [projR, ext]
  refine Finset.sum_congr rfl fun d _ => (mul_comm _ _).trans (congrArg (· * _) ?_)
  match k with
  | 0 => rfl
  | 1 => rfl
  | 2 => rfl
  | 3 => rfl

theorem mixedR_at (g p : FVec Ideal S2x8192x4x1024 .f32) (i : Fin 1024) : mixedR g p (ix3 b t i) = ∑ k : Fin 4, g (ix4 b t k i) * p (ix4 b t k i) := by
  pointwise [mixedR]

theorem woR_at (i : Fin 1024) : woR x wo (ix3 b t i) = mv (row x b t) (mat1 wo) i := by
  pointwise [woR]
  rfl

theorem upR_at (i : Fin 5632) : upR x wup (ix3 b t i) = mv (row x b t) (mat1 wup) i := by
  pointwise [upR]
  rfl

theorem actR_at (i : Fin 2816) : actR (upR x wup) (ix3 b t i) = act (row x b t) (mat1 wup) i := by
  pointwise [actR, uR]
  rw [upR_at, upR_at]
  rfl

theorem downR_at (a : FVec Ideal S2x8192x2816 .f32) (i : Fin 1024) : downR a wdn (ix3 b t i) = mv (fun n => a (ix3 b t n)) (mat1 wdn) i := by
  pointwise [downR]
  rfl

theorem seg_at (b : Fin 2) (k : Fin 6) (o : ℕ) (ho : o = 1024 * k.val) (h : S2x1x6144.Slices ![0, 0, o] S2x1x1024) :
    (fun j : Fin 1024 => (extractStridedSlice S2x1x1024 ![0, 0, o] md h : FVec Ideal S2x1x1024 .f32) (ix3 b 0 j)) = seg md b k := by
  subst ho
  funext j
  pointwise
  rfl

theorem midR_row : row (midR x md ya yb yc yd wbr wg wo) b t
    = mid (row x b t) (seg md b 0) (seg md b 1) (seg md b 2) (ys ya yb yc yd b t) (wbr1 wbr) (mat1 wg) (mat1 wo) := by
  unfold midR mid
  funext i
  refine (residR_at _ b t _ _ i).trans ?_
  rw [seg_at md b 2 2048 rfl]
  refine congrArg (fun p => resid _ _ p i) (funext fun i => (woR_at _ _ b t i).trans ?_)
  refine congrArg (fun f => mv f _ i) (funext fun i => (mixedR_at b t _ _ i).trans ?_)
  refine Finset.sum_congr rfl fun k _ => ?_
  rw [projR_at, gatesR_at]
  refine congrArg (fun f => Ideal.logistic (mv f _ _) * _) (funext fun i => (moduR_at _ b t _ _ i).trans ?_)
  rw [seg_at md b 1 1024 rfl, seg_at md b 0 0 rfl]

theorem lastR_row (z : Tok) : row (lastR md wup wdn l2g l2b z) b t
    = last (row z b t) (seg md b 3) (seg md b 4) (seg md b 5) (mat1 wup) (mat1 wdn) (vec1 l2g) (vec1 l2b) := by
  unfold lastR last
  funext i
  refine (affR_at _ b t _ _ i).trans ?_
  refine congrArg (fun f => aff f _ _ i) (funext fun i => (residR_at _ b t _ _ i).trans ?_)
  rw [seg_at md b 5 5120 rfl]
  refine congrArg (fun p => resid _ _ p i) (funext fun i => (downR_at _ b t _ i).trans ?_)
  refine congrArg (fun f => mv f _ i) (funext fun i => (actR_at _ _ b t i).trans ?_)
  refine congrArg (fun f => act f _ i) (funext fun i => (moduR_at _ b t _ _ i).trans ?_)
  rw [seg_at md b 4 4096 rfl, seg_at md b 3 3072 rfl]

theorem refR_row : row (refR x md ya yb yc yd wbr wg wo l1g l1b wup wdn l2g l2b) b t
    = rowOut (row x b t) (seg md b 0) (seg md b 1) (seg md b 2) (seg md b 3) (seg md b 4) (seg md b 5) (ys ya yb yc yd b t) (wbr1 wbr) (mat1 wg) (mat1 wo)
        (vec1 l1g) (vec1 l1b) (mat1 wup) (mat1 wdn) (vec1 l2g) (vec1 l2b) := by
  unfold refR rowOut
  rw [lastR_row]
  refine congrArg (fun f => last f _ _ _ _ _ _ _) (funext fun i => (affR_at _ b t _ _ i).trans ?_)
  rw [midR_row]

/-- The run's terms are the ones above. -/
theorem mid_eq (V0 : Valuation τ sig (Elt Ideal)) : Value.res_main_v76 V0 = midR (V0 (Proc.devRef .tc main_arg0)) (V0 (Proc.devRef .tc main_arg1))
    (V0 (Proc.devRef .tc main_arg2)) (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) := rfl

theorem norm_eq (V0 : Valuation τ sig (Elt Ideal)) : Value.res_main_v100 V0 = affR (Value.res_main_v76 V0) (V0 (Proc.devRef .tc main_arg9)) (V0 (Proc.devRef .tc main_arg10)) := rfl

theorem up_eq (V0 : Valuation τ sig (Elt Ideal)) : Value.res_main_v125 V0
    = upR (moduR (Value.res_main_v100 V0)
        (extractStridedSlice S2x1x1024 ![0, 0, 4096] (V0 (Proc.devRef .tc main_arg1)) slices_S2x1x6144_S2x1x1024_0_0_4096)
        (extractStridedSlice S2x1x1024 ![0, 0, 3072] (V0 (Proc.devRef .tc main_arg1)) slices_S2x1x6144_S2x1x1024_0_0_3072)) (V0 (Proc.devRef .tc main_arg11)) := rfl

theorem resid_eq (V0 : Valuation τ sig (Elt Ideal)) : Value.res_main_v137 V0
    = residR (Value.res_main_v100 V0) (extractStridedSlice S2x1x1024 ![0, 0, 5120] (V0 (Proc.devRef .tc main_arg1)) slices_S2x1x6144_S2x1x1024_0_0_5120)
        (downR (actR (Value.res_main_v125 V0)) (V0 (Proc.devRef .tc main_arg12))) := rfl

theorem out_eq (V0 : Valuation τ sig (Elt Ideal)) : affR (Value.res_main_v137 V0) (V0 (Proc.devRef .tc main_arg13)) (V0 (Proc.devRef .tc main_arg14))
    = refR (V0 (Proc.devRef .tc main_arg0)) (V0 (Proc.devRef .tc main_arg1))
    (V0 (Proc.devRef .tc main_arg2)) (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) (V0 (Proc.devRef .tc main_arg13))
    (V0 (Proc.devRef .tc main_arg14)) := by
  rw [resid_eq, up_eq, norm_eq, mid_eq]
  rfl

end Cert.MIX.Ref

end
-- ==== Proof.MIX.Value.lean ====
module

public import proofs.«01_k».proof.Proof.MIX.Ref
public import Idealize.ShloMosaic.Lib.Pipeline.ValueKit
public import Idealize.ShloMosaic.Lib.Claim

@[expose] public section

set_option maxRecDepth 16384

/-! The kernel's result array over exact arithmetic: each token's row is the same function of the arguments' rows. -/

noncomputable section

namespace Cert.MIX

open Cert.Kernel2Ideal Cert.Kernel2Ideal.Gen
open Idealize.ShloMosaic Idealize.ShloMosaic.TcCoe Idealize.SL.Sem
open Idealize.ShloMosaic.Pipeline (Dat)
open Cert.MIX.Ref (seg vec1 mat1 wbr1 ys row)

/-- The mixing sublayer's result. -/
def res (x : FVec Ideal S2x8192x1024 .f32) (md : FVec Ideal S2x1x6144 .f32) (ya yb yc yd : FVec Ideal S2x8192x256 .bf16) (wbr : FVec Ideal S2x4x256x1024 .f32)
    (wg : FVec Ideal S2x1024x4096 .f32) (wo : FVec Ideal S2x1024x1024 .f32) (l1g l1b : FVec Ideal S2x1024 .f32) (wup : FVec Ideal S2x1024x5632 .f32)
    (wdn : FVec Ideal S2x2816x1024 .f32) (l2g l2b : FVec Ideal S2x1024 .f32) : FVec Ideal S2x8192x1024 .f32 := fun j =>
  rowOut (row x (j 0) (j 1)) (seg md (j 0) 0) (seg md (j 0) 1) (seg md (j 0) 2) (seg md (j 0) 3) (seg md (j 0) 4) (seg md (j 0) 5) (ys ya yb yc yd (j 0) (j 1))
    (wbr1 wbr) (mat1 wg) (mat1 wo) (vec1 l1g) (vec1 l1b) (mat1 wup) (mat1 wdn) (vec1 l2g) (vec1 l2b) (j 2)

variable (m : (ℓ : Loc nD τ sig) → Buf (Elt Ideal) ℓ)

theorem idx : ∀ t : Fin cfg0.N, win0_0.index t = ![(grid0.coords t 0).val, (grid0.coords t 1).val, 0]
    ∧ win0_1.index t = ![(grid0.coords t 0).val, 0, 0] ∧ win0_2.index t = ![(grid0.coords t 0).val, 0, 1]
    ∧ win0_3.index t = ![(grid0.coords t 0).val, 0, 2] ∧ win0_4.index t = ![(grid0.coords t 0).val, 0, 3]
    ∧ win0_5.index t = ![(grid0.coords t 0).val, 0, 4] ∧ win0_6.index t = ![(grid0.coords t 0).val, 0, 5]
    ∧ win0_7.index t = ![(grid0.coords t 0).val, (grid0.coords t 1).val, 0] ∧ win0_8.index t = ![(grid0.coords t 0).val, (grid0.coords t 1).val, 0]
    ∧ win0_9.index t = ![(grid0.coords t 0).val, (grid0.coords t 1).val, 0] ∧ win0_10.index t = ![(grid0.coords t 0).val, (grid0.coords t 1).val, 0]
    ∧ win0_11.index t = ![1, 0, 0] ∧ win0_12.index t = ![1, 0, 0, 0] ∧ win0_13.index t = ![1, 0, 0] ∧ win0_14.index t = ![0, 0]
    ∧ win0_15.index t = ![0, 0] ∧ win0_16.index t = ![1, 0, 0] ∧ win0_17.index t = ![1, 0, 0] ∧ win0_18.index t = ![0, 0] ∧ win0_19.index t = ![0, 0]
    ∧ win0_20.index t = ![(grid0.coords t 0).val, (grid0.coords t 1).val, 0] :=
  (by decide +kernel : ∀ t : Fin grid0.N, _)

theorem coords_lt : ∀ t : Fin grid0.N, (grid0.coords t 0).val < 2 ∧ (grid0.coords t 1).val < 16 := by decide +kernel

/-- A grid point's batch entry, and the place of its row `r`. -/
def bt (t : Fin cfg0.N) : Fin 2 := ⟨(grid0.coords t 0).val, (coords_lt t).1⟩
def tok (t : Fin cfg0.N) (r : Fin 512) : Fin 8192 := ⟨512 * (grid0.coords t 1).val + r.val, by have := (coords_lt t).2; omega⟩

/-! ## The operands the host prepares -/

theorem host0 (c : Dev nD) : (V m c main_v0 : FVec Ideal S2x1024x4096 .bf16)
    = (truncf (F := Ideal) .bf16 (m ((c : Thread nD τ).loc main_arg7) : FVec Ideal S2x1024x4096 .f32) bitsLt_bf16_f32 : FVec Ideal S2x1024x4096 .bf16) := by
  unfold V hostOps0
  simp only [List.flatten_cons, List.flatten_nil, List.cons_append, List.nil_append, List.append_nil]
  after_results
  try rfl

theorem host1 (c : Dev nD) : (V m c main_v1 : FVec Ideal S2x4x256x1024 .bf16)
    = (truncf (F := Ideal) .bf16 (m ((c : Thread nD τ).loc main_arg6) : FVec Ideal S2x4x256x1024 .f32) bitsLt_bf16_f32 : FVec Ideal S2x4x256x1024 .bf16) := by
  unfold V hostOps0
  simp only [List.flatten_cons, List.flatten_nil, List.cons_append, List.nil_append, List.append_nil]
  after_results
  try rfl

theorem host2 (c : Dev nD) : (V m c main_v2 : FVec Ideal S2x1024x1024 .bf16)
    = (truncf (F := Ideal) .bf16 (m ((c : Thread nD τ).loc main_arg8) : FVec Ideal S2x1024x1024 .f32) bitsLt_bf16_f32 : FVec Ideal S2x1024x1024 .bf16) := by
  unfold V hostOps0
  simp only [List.flatten_cons, List.flatten_nil, List.cons_append, List.nil_append, List.append_nil]
  after_results
  try rfl

theorem host3 (c : Dev nD) : (V m c main_v3 : FVec Ideal S2x1024x5632 .bf16)
    = (truncf (F := Ideal) .bf16 (m ((c : Thread nD τ).loc main_arg11) : FVec Ideal S2x1024x5632 .f32) bitsLt_bf16_f32 : FVec Ideal S2x1024x5632 .bf16) := by
  unfold V hostOps0
  simp only [List.flatten_cons, List.flatten_nil, List.cons_append, List.nil_append, List.append_nil]
  after_results
  try rfl

theorem host4 (c : Dev nD) : (V m c main_v4 : FVec Ideal S2x2816x1024 .bf16)
    = (truncf (F := Ideal) .bf16 (m ((c : Thread nD τ).loc main_arg12) : FVec Ideal S2x2816x1024 .f32) bitsLt_bf16_f32 : FVec Ideal S2x2816x1024 .bf16) := by
  unfold V hostOps0
  simp only [List.flatten_cons, List.flatten_nil, List.cons_append, List.nil_append, List.append_nil]
  after_results
  try rfl

theorem host7 (c : Dev nD) (j : Fin 1024) : (V m c main_v7 : FVec Ideal S1x1024 .f32) (ix2 0 j)
    = vec1 (m ((c : Thread nD τ).loc main_arg9)) j := by
  have h : (V m c main_v7 : FVec Ideal S1x1024 .f32) = (shapeCast S1x1024 (shapeCast S1024 (extractStridedSlice S1x1024 ![1, 0]
      (m ((c : Thread nD τ).loc main_arg9) : FVec Ideal S2x1024 .f32) slices_S2x1024_S1x1024_1_0) shapeCasts_S1x1024_S1024) shapeCasts_S1024_S1x1024 : FVec Ideal S1x1024 .f32) := by
    unfold V hostOps0
    simp only [List.flatten_cons, List.flatten_nil, List.cons_append, List.nil_append, List.append_nil]
    after_results
    try rfl
  rw [h]
  pointwise
  rfl

theorem host10 (c : Dev nD) (j : Fin 1024) : (V m c main_v10 : FVec Ideal S1x1024 .f32) (ix2 0 j)
    = vec1 (m ((c : Thread nD τ).loc main_arg10)) j := by
  have h : (V m c main_v10 : FVec Ideal S1x1024 .f32) = (shapeCast S1x1024 (shapeCast S1024 (extractStridedSlice S1x1024 ![1, 0]
      (m ((c : Thread nD τ).loc main_arg10) : FVec Ideal S2x1024 .f32) slices_S2x1024_S1x1024_1_0) shapeCasts_S1x1024_S1024) shapeCasts_S1024_S1x1024 : FVec Ideal S1x1024 .f32) := by
    unfold V hostOps0
    simp only [List.flatten_cons, List.flatten_nil, List.cons_append, List.nil_append, List.append_nil]
    after_results
    try rfl
  rw [h]
  pointwise
  rfl

theorem host13 (c : Dev nD) (j : Fin 1024) : (V m c main_v13 : FVec Ideal S1x1024 .f32) (ix2 0 j)
    = vec1 (m ((c : Thread nD τ).loc main_arg13)) j := by
  have h : (V m c main_v13 : FVec Ideal S1x1024 .f32) = (shapeCast S1x1024 (shapeCast S1024 (extractStridedSlice S1x1024 ![1, 0]
      (m ((c : Thread nD τ).loc main_arg13) : FVec Ideal S2x1024 .f32) slices_S2x1024_S1x1024_1_0) shapeCasts_S1x1024_S1024) shapeCasts_S1024_S1x1024 : FVec Ideal S1x1024 .f32) := by
    unfold V hostOps0
    simp only [List.flatten_cons, List.flatten_nil, List.cons_append, List.nil_append, List.append_nil]
    after_results
    try rfl
  rw [h]
  pointwise
  rfl

theorem host16 (c : Dev nD) (j : Fin 1024) : (V m c main_v16 : FVec Ideal S1x1024 .f32) (ix2 0 j)
    = vec1 (m ((c : Thread nD τ).loc main_arg14)) j := by
  have h : (V m c main_v16 : FVec Ideal S1x1024 .f32) = (shapeCast S1x1024 (shapeCast S1024 (extractStridedSlice S1x1024 ![1, 0]
      (m ((c : Thread nD τ).loc main_arg14) : FVec Ideal S2x1024 .f32) slices_S2x1024_S1x1024_1_0) shapeCasts_S1x1024_S1024) shapeCasts_S1024_S1x1024 : FVec Ideal S1x1024 .f32) := by
    unfold V hostOps0
    simp only [List.flatten_cons, List.flatten_nil, List.cons_append, List.nil_append, List.append_nil]
    after_results
    try rfl
  rw [h]
  pointwise
  rfl

/-! ## The blocks a grid point reads -/

variable (c : Dev nD) (t : Fin cfg0.N) (r : Fin 512)

theorem read0 : xrow (iblk m c 0 t) r = row (m ((c : Thread nD τ).loc main_arg0)) (bt t) (tok t r) := by
  funext j
  unfold xrow row bt tok
  blk_ext [iblk, V_main_arg0, idx t]

theorem read1 : shared (iblk m c 1 t) = seg (m ((c : Thread nD τ).loc main_arg1)) (bt t) 0 := by
  funext j
  unfold shared seg bt
  blk_ext [iblk, V_main_arg1, idx t]

theorem read2 : shared (iblk m c 2 t) = seg (m ((c : Thread nD τ).loc main_arg1)) (bt t) 1 := by
  funext j
  unfold shared seg bt
  blk_ext [iblk, V_main_arg1, idx t]

theorem read3 : shared (iblk m c 3 t) = seg (m ((c : Thread nD τ).loc main_arg1)) (bt t) 2 := by
  funext j
  unfold shared seg bt
  blk_ext [iblk, V_main_arg1, idx t]

theorem read4 : shared (iblk m c 4 t) = seg (m ((c : Thread nD τ).loc main_arg1)) (bt t) 3 := by
  funext j
  unfold shared seg bt
  blk_ext [iblk, V_main_arg1, idx t]

theorem read5 : shared (iblk m c 5 t) = seg (m ((c : Thread nD τ).loc main_arg1)) (bt t) 4 := by
  funext j
  unfold shared seg bt
  blk_ext [iblk, V_main_arg1, idx t]

theorem read6 : shared (iblk m c 6 t) = seg (m ((c : Thread nD τ).loc main_arg1)) (bt t) 5 := by
  funext j
  unfold shared seg bt
  blk_ext [iblk, V_main_arg1, idx t]

theorem read7 (d : Fin 256) : (iblk m c 7 t : Vec Ideal S1x512x256 .bf16) (ix3 0 r d)
    = (m ((c : Thread nD τ).loc main_arg2) : FVec Ideal S2x8192x256 .bf16) (ix3 (bt t) (tok t r) d) := by
  unfold bt tok
  blk_ext [iblk, V_main_arg2, idx t]

theorem read8 (d : Fin 256) : (iblk m c 8 t : Vec Ideal S1x512x256 .bf16) (ix3 0 r d)
    = (m ((c : Thread nD τ).loc main_arg3) : FVec Ideal S2x8192x256 .bf16) (ix3 (bt t) (tok t r) d) := by
  unfold bt tok
  blk_ext [iblk, V_main_arg3, idx t]

theorem read9 (d : Fin 256) : (iblk m c 9 t : Vec Ideal S1x512x256 .bf16) (ix3 0 r d)
    = (m ((c : Thread nD τ).loc main_arg4) : FVec Ideal S2x8192x256 .bf16) (ix3 (bt t) (tok t r) d) := by
  unfold bt tok
  blk_ext [iblk, V_main_arg4, idx t]

theorem read10 (d : Fin 256) : (iblk m c 10 t : Vec Ideal S1x512x256 .bf16) (ix3 0 r d)
    = (m ((c : Thread nD τ).loc main_arg5) : FVec Ideal S2x8192x256 .bf16) (ix3 (bt t) (tok t r) d) := by
  unfold bt tok
  blk_ext [iblk, V_main_arg5, idx t]

theorem readY : yrow (iblk m c 7 t) (iblk m c 8 t) (iblk m c 9 t) (iblk m c 10 t) r
    = ys (m ((c : Thread nD τ).loc main_arg2)) (m ((c : Thread nD τ).loc main_arg3)) (m ((c : Thread nD τ).loc main_arg4))
        (m ((c : Thread nD τ).loc main_arg5)) (bt t) (tok t r) := by
  unfold yrow ys
  simp only [read7, read8, read9, read10]

theorem read11 : wgM (iblk m c 11 t) = mat1 (m ((c : Thread nD τ).loc main_arg7)) := by
  funext j i
  have h : (iblk m c 11 t : Vec Ideal S1x1024x4096 .bf16) (ix3 0 j i) = (V m c main_v0 : FVec Ideal S2x1024x4096 .bf16) (ix3 1 j i) := by
    blk_ext [iblk, idx t]
  refine h.trans ?_
  rw [host0]
  rfl

theorem read13 : woM (iblk m c 13 t) = mat1 (m ((c : Thread nD τ).loc main_arg8)) := by
  funext j i
  have h : (iblk m c 13 t : Vec Ideal S1x1024x1024 .bf16) (ix3 0 j i) = (V m c main_v2 : FVec Ideal S2x1024x1024 .bf16) (ix3 1 j i) := by
    blk_ext [iblk, idx t]
  refine h.trans ?_
  rw [host2]
  rfl

theorem read16 : wupM (iblk m c 16 t) = mat1 (m ((c : Thread nD τ).loc main_arg11)) := by
  funext j i
  have h : (iblk m c 16 t : Vec Ideal S1x1024x5632 .bf16) (ix3 0 j i) = (V m c main_v3 : FVec Ideal S2x1024x5632 .bf16) (ix3 1 j i) := by
    blk_ext [iblk, idx t]
  refine h.trans ?_
  rw [host3]
  rfl

theorem read17 : wdnM (iblk m c 17 t) = mat1 (m ((c : Thread nD τ).loc main_arg12)) := by
  funext j i
  have h : (iblk m c 17 t : Vec Ideal S1x2816x1024 .bf16) (ix3 0 j i) = (V m c main_v4 : FVec Ideal S2x2816x1024 .bf16) (ix3 1 j i) := by
    blk_ext [iblk, idx t]
  refine h.trans ?_
  rw [host4]
  rfl

theorem read12 : wbrM (iblk m c 12 t) = wbr1 (m ((c : Thread nD τ).loc main_arg6)) := by
  funext k d i
  have h : (iblk m c 12 t : Vec Ideal S1x4x256x1024 .bf16) (ix4 0 k d i) = (V m c main_v1 : FVec Ideal S2x4x256x1024 .bf16) (ix4 1 k d i) := by
    blk_ext [iblk, idx t]
  refine h.trans ?_
  rw [host1]
  rfl

theorem read14 : lane (iblk m c 14 t) = vec1 (m ((c : Thread nD τ).loc main_arg9)) := by
  funext j
  have h : (iblk m c 14 t : Vec Ideal S1x1024 .f32) (ix2 0 j) = (V m c main_v7 : FVec Ideal S1x1024 .f32) (ix2 0 j) := by
    blk_ext [iblk, idx t]
  exact h.trans (host7 m c j)

theorem read15 : lane (iblk m c 15 t) = vec1 (m ((c : Thread nD τ).loc main_arg10)) := by
  funext j
  have h : (iblk m c 15 t : Vec Ideal S1x1024 .f32) (ix2 0 j) = (V m c main_v10 : FVec Ideal S1x1024 .f32) (ix2 0 j) := by
    blk_ext [iblk, idx t]
  exact h.trans (host10 m c j)

theorem read18 : lane (iblk m c 18 t) = vec1 (m ((c : Thread nD τ).loc main_arg13)) := by
  funext j
  have h : (iblk m c 18 t : Vec Ideal S1x1024 .f32) (ix2 0 j) = (V m c main_v13 : FVec Ideal S1x1024 .f32) (ix2 0 j) := by
    blk_ext [iblk, idx t]
  exact h.trans (host13 m c j)

theorem read19 : lane (iblk m c 19 t) = vec1 (m ((c : Thread nD τ).loc main_arg14)) := by
  funext j
  have h : (iblk m c 19 t : Vec Ideal S1x1024 .f32) (ix2 0 j) = (V m c main_v16 : FVec Ideal S1x1024 .f32) (ix2 0 j) := by
    blk_ext [iblk, idx t]
  exact h.trans (host16 m c j)

/-- Where a block's entry lies in the result array. -/
theorem place (i : Fin 1024) : ((win0_20.blk t).view.emb (ix3 0 r i : S1x512x1024.Idx) : S2x8192x1024.Idx) = ix3 (bt t) (tok t r) i := by
  unfold bt tok
  blk_ext [idx t]

/-- The result array after the run. -/
theorem final : (dats m 0 c).arrAt 20 cfg0.N = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 20 _ (by decide +kernel) fun t _ y => ?_
  blk_simp
  rw [after0_20]
  obtain ⟨r, i, hy⟩ : ∃ (r : Fin 512) (i : Fin 1024), (y : S1x512x1024.Idx) = ix3 0 r i :=
    ⟨y 1, y 2, (Idealize.ShloMosaic.eq_ix3 (n0 := 1) (n1 := 512) (n2 := 1024) y).trans (by rw [Subsingleton.elim (α := Fin 1) (y 0) 0])⟩
  refine (congrArg (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) hy).trans ((block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r i).trans ?_)
  refine Eq.trans ?_ (congrArg (res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) ((congrArg (win0_20.blk t).view.emb hy).trans (place t r i))).symm
  rw [read0, read1, read2, read3, read4, read5, read6, readY, read11, read12, read13, read14, read15, read16, read17, read18, read19]
  rfl

end Cert.MIX

end
-- ==== Proof.MIX.Claim.lean ====
module

public import proofs.«01_k».proof.Defs
public import proofs.«01_k».proof.Proof.MIX.Value

@[expose] public section

/-! The mixing sublayer's value claim: kernel and reference end with the same result array. -/

noncomputable section

namespace Cert.MIX

open Idealize.ShloMosaic Idealize.ShloMosaic.TcCoe Idealize.SL.Sem

/-- The reference's term is the result. -/
theorem ref_eq (x md ya yb yc yd wbr wg wo l1g l1b wup wdn l2g l2b) :
    Ref.refR x md ya yb yc yd wbr wg wo l1g l1b wup wdn l2g l2b = res x md ya yb yc yd wbr wg wo l1g l1b wup wdn l2g l2b := by
  funext j
  have e := Idealize.ShloMosaic.eq_ix3 (n0 := 2) (n1 := 8192) (n2 := 1024) j
  rw [e]
  exact congrFun (Ref.refR_row x md ya yb yc yd wbr wg wo l1g l1b wup wdn l2g l2b (j 0) (j 1)) (j 2)

/-- Equal arguments, equal results. -/
theorem res_congr {x x' : FVec Ideal Cert.Kernel2Ideal.S2x8192x1024 .f32} (h0 : x = x')
    {md md' : FVec Ideal Cert.Kernel2Ideal.S2x1x6144 .f32} (h1 : md = md')
    {ya ya' : FVec Ideal Cert.Kernel2Ideal.S2x8192x256 .bf16} (h2 : ya = ya')
    {yb yb' : FVec Ideal Cert.Kernel2Ideal.S2x8192x256 .bf16} (h3 : yb = yb')
    {yc yc' : FVec Ideal Cert.Kernel2Ideal.S2x8192x256 .bf16} (h4 : yc = yc')
    {yd yd' : FVec Ideal Cert.Kernel2Ideal.S2x8192x256 .bf16} (h5 : yd = yd')
    {wbr wbr' : FVec Ideal Cert.Kernel2Ideal.S2x4x256x1024 .f32} (h6 : wbr = wbr')
    {wg wg' : FVec Ideal Cert.Kernel2Ideal.S2x1024x4096 .f32} (h7 : wg = wg')
    {wo wo' : FVec Ideal Cert.Kernel2Ideal.S2x1024x1024 .f32} (h8 : wo = wo')
    {l1g l1g' : FVec Ideal Cert.Kernel2Ideal.S2x1024 .f32} (h9 : l1g = l1g')
    {l1b l1b' : FVec Ideal Cert.Kernel2Ideal.S2x1024 .f32} (h10 : l1b = l1b')
    {wup wup' : FVec Ideal Cert.Kernel2Ideal.S2x1024x5632 .f32} (h11 : wup = wup')
    {wdn wdn' : FVec Ideal Cert.Kernel2Ideal.S2x2816x1024 .f32} (h12 : wdn = wdn')
    {l2g l2g' : FVec Ideal Cert.Kernel2Ideal.S2x1024 .f32} (h13 : l2g = l2g')
    {l2b l2b' : FVec Ideal Cert.Kernel2Ideal.S2x1024 .f32} (h14 : l2b = l2b') :
    res x md ya yb yc yd wbr wg wo l1g l1b wup wdn l2g l2b = res x' md' ya' yb' yc' yd' wbr' wg' wo' l1g' l1b' wup' wdn' l2g' l2b' := by
  subst h0 h1 h2 h3 h4 h5 h6 h7 h8 h9 h10 h11 h12 h13 h14
  rfl

/-- After a run every argument is as it was. -/
theorem kept (m : (ℓ : Loc Cert.Kernel2Ideal.nD Cert.Kernel2Ideal.τ Cert.Kernel2Ideal.sig) → Buf (Elt Ideal) ℓ)
    (r : PUnit × MemSt Cert.Kernel2Ideal.nD Cert.Kernel2Ideal.τ Cert.Kernel2Ideal.sig (Elt Ideal))
    (h : Pipeline.FramePost Cert.Kernel2Ideal.cfgs (Cert.Kernel2Ideal.Gen.dats m) 0 (Cert.Kernel2Ideal.Gen.V m) r) (c : Dev Cert.Kernel2Ideal.nD) :
    r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14) :=
  ⟨((h c).1 0).trans (((Cert.Kernel2Ideal.Gen.dats m 0 c).arrAt_in 0 rfl _).trans (Cert.Kernel2Ideal.Gen.V_main_arg0 m c)),
    ((h c).1 6).trans (((Cert.Kernel2Ideal.Gen.dats m 0 c).arrAt_in 6 rfl _).trans (Cert.Kernel2Ideal.Gen.V_main_arg1 m c)),
    ((h c).1 7).trans (((Cert.Kernel2Ideal.Gen.dats m 0 c).arrAt_in 7 rfl _).trans (Cert.Kernel2Ideal.Gen.V_main_arg2 m c)),
    ((h c).1 8).trans (((Cert.Kernel2Ideal.Gen.dats m 0 c).arrAt_in 8 rfl _).trans (Cert.Kernel2Ideal.Gen.V_main_arg3 m c)),
    ((h c).1 9).trans (((Cert.Kernel2Ideal.Gen.dats m 0 c).arrAt_in 9 rfl _).trans (Cert.Kernel2Ideal.Gen.V_main_arg4 m c)),
    ((h c).1 10).trans (((Cert.Kernel2Ideal.Gen.dats m 0 c).arrAt_in 10 rfl _).trans (Cert.Kernel2Ideal.Gen.V_main_arg5 m c)),
    ((h c).2 Cert.Kernel2Ideal.main_arg6 (Idealize.ShloMosaic.Pipeline.mem_restRefs_of Cert.Kernel2Ideal.main_arg6 (by decide) (by decide))).trans (Cert.Kernel2Ideal.Gen.V_main_arg6 m c),
    ((h c).2 Cert.Kernel2Ideal.main_arg7 (Idealize.ShloMosaic.Pipeline.mem_restRefs_of Cert.Kernel2Ideal.main_arg7 (by decide) (by decide))).trans (Cert.Kernel2Ideal.Gen.V_main_arg7 m c),
    ((h c).2 Cert.Kernel2Ideal.main_arg8 (Idealize.ShloMosaic.Pipeline.mem_restRefs_of Cert.Kernel2Ideal.main_arg8 (by decide) (by decide))).trans (Cert.Kernel2Ideal.Gen.V_main_arg8 m c),
    ((h c).2 Cert.Kernel2Ideal.main_arg9 (Idealize.ShloMosaic.Pipeline.mem_restRefs_of Cert.Kernel2Ideal.main_arg9 (by decide) (by decide))).trans (Cert.Kernel2Ideal.Gen.V_main_arg9 m c),
    ((h c).2 Cert.Kernel2Ideal.main_arg10 (Idealize.ShloMosaic.Pipeline.mem_restRefs_of Cert.Kernel2Ideal.main_arg10 (by decide) (by decide))).trans (Cert.Kernel2Ideal.Gen.V_main_arg10 m c),
    ((h c).2 Cert.Kernel2Ideal.main_arg11 (Idealize.ShloMosaic.Pipeline.mem_restRefs_of Cert.Kernel2Ideal.main_arg11 (by decide) (by decide))).trans (Cert.Kernel2Ideal.Gen.V_main_arg11 m c),
    ((h c).2 Cert.Kernel2Ideal.main_arg12 (Idealize.ShloMosaic.Pipeline.mem_restRefs_of Cert.Kernel2Ideal.main_arg12 (by decide) (by decide))).trans (Cert.Kernel2Ideal.Gen.V_main_arg12 m c),
    ((h c).2 Cert.Kernel2Ideal.main_arg13 (Idealize.ShloMosaic.Pipeline.mem_restRefs_of Cert.Kernel2Ideal.main_arg13 (by decide) (by decide))).trans (Cert.Kernel2Ideal.Gen.V_main_arg13 m c),
    ((h c).2 Cert.Kernel2Ideal.main_arg14 (Idealize.ShloMosaic.Pipeline.mem_restRefs_of Cert.Kernel2Ideal.main_arg14 (by decide) (by decide))).trans (Cert.Kernel2Ideal.Gen.V_main_arg14 m c)⟩

/-- Kernel and reference agree. -/
theorem algebraic : Cert.algebraic_Kernel2Ideal_Reference2Ideal (hKernel2Ideal := Cert.Kernel2Ideal.Gen.facts)
    (hReference2Ideal := Cert.Reference2Ideal.Gen.facts) := by
  intro m g m' g' hpre hargs
  refine ⟨fun c => res (m ((c : Thread Cert.Kernel2Ideal.nD Cert.Kernel2Ideal.τ).loc Cert.Kernel2Ideal.main_arg0))
    (m ((c : Thread Cert.Kernel2Ideal.nD Cert.Kernel2Ideal.τ).loc Cert.Kernel2Ideal.main_arg1))
    (m ((c : Thread Cert.Kernel2Ideal.nD Cert.Kernel2Ideal.τ).loc Cert.Kernel2Ideal.main_arg2))
    (m ((c : Thread Cert.Kernel2Ideal.nD Cert.Kernel2Ideal.τ).loc Cert.Kernel2Ideal.main_arg3))
    (m ((c : Thread Cert.Kernel2Ideal.nD Cert.Kernel2Ideal.τ).loc Cert.Kernel2Ideal.main_arg4))
    (m ((c : Thread Cert.Kernel2Ideal.nD Cert.Kernel2Ideal.τ).loc Cert.Kernel2Ideal.main_arg5))
    (m ((c : Thread Cert.Kernel2Ideal.nD Cert.Kernel2Ideal.τ).loc Cert.Kernel2Ideal.main_arg6))
    (m ((c : Thread Cert.Kernel2Ideal.nD Cert.Kernel2Ideal.τ).loc Cert.Kernel2Ideal.main_arg7))
    (m ((c : Thread Cert.Kernel2Ideal.nD Cert.Kernel2Ideal.τ).loc Cert.Kernel2Ideal.main_arg8))
    (m ((c : Thread Cert.Kernel2Ideal.nD Cert.Kernel2Ideal.τ).loc Cert.Kernel2Ideal.main_arg9))
    (m ((c : Thread Cert.Kernel2Ideal.nD Cert.Kernel2Ideal.τ).loc Cert.Kernel2Ideal.main_arg10))
    (m ((c : Thread Cert.Kernel2Ideal.nD Cert.Kernel2Ideal.τ).loc Cert.Kernel2Ideal.main_arg11))
    (m ((c : Thread Cert.Kernel2Ideal.nD Cert.Kernel2Ideal.τ).loc Cert.Kernel2Ideal.main_arg12))
    (m ((c : Thread Cert.Kernel2Ideal.nD Cert.Kernel2Ideal.τ).loc Cert.Kernel2Ideal.main_arg13))
    (m ((c : Thread Cert.Kernel2Ideal.nD Cert.Kernel2Ideal.τ).loc Cert.Kernel2Ideal.main_arg14)), ?_, ?_⟩
  · refine (θ_run Cert.Kernel2Ideal.defs _ _).mono (fun r h c => ⟨((h c).1 20).trans (final m c), kept m r h c⟩) (Cert.Kernel2Ideal.Gen.run_main (F := Ideal) m g)
  · refine (θ_run Cert.Reference2Ideal.defs _ _).mono (fun r h c => ⟨(h c).1.trans ?_, (h c).2⟩) (Cert.Reference2Ideal.Value.run (F := Ideal) m' g')
    obtain ⟨a0, a1, a2, a3, a4, a5, a6, a7, a8, a9, a10, a11, a12, a13, a14⟩ := hargs c
    refine (Ref.out_eq (StableHlo.launchContents m' c)).trans ((ref_eq _ _ _ _ _ _ _ _ _ _ _ _ _ _ _).trans ?_)
    exact res_congr a0 a1 a2 a3 a4 a5 a6 a7 a8 a9 a10 a11 a12 a13 a14

end Cert.MIX

end
-- ==== Proof.INP.Tile.lean ====
module

public import proofs.«01_k».proof.Proof.MIX.Row
public import proofs.«01_k».proof.Proof.Gen.Kernel3Ideal.Skeleton
public import Idealize.ShloMosaic.Lib.Pointwise
public import Idealize.ShloMosaic.Lib.WordCmp

@[expose] public section

set_option maxRecDepth 16384

/-! What the kernel's body computes for one row of its tile, stage by stage. -/

noncomputable section

namespace Cert.INP

open Cert.Kernel3Ideal Cert.Kernel3Ideal.Gen
open Idealize.ShloMosaic Idealize.ShloMosaic.TcCoe
open Cert.MIX (modu mv)
open Idealize.ShloMosaic.WordCmp

/-- Row `r` of a tile pushed down by `s` rows, the first `s` rows taken from the eight rows before the tile. -/
def down (s : ℕ) (z : Fin 512 → EReal) (p : Fin 8 → EReal) (r : Fin 512) : EReal :=
  if h : r.val < s ∧ s < 8 then p ⟨8 + r.val - s, by omega⟩ else z ⟨r.val - s, by omega⟩

/-- The kernel's way to push a tile down: both pieces rotated, the first rows chosen by their number. -/
theorem down_eq (s : ℕ) (h0 : 0 < s) (hs : s < 8) (z : Fin 512 → EReal) (p : Fin 8 → EReal) (r : Fin 512) {P : Prop} {inst : Decidable P} (hP : P ↔ r.val < 8) :
    @dite EReal P inst (fun _ => Scalar.select (IntOp.cmpi CmpIPredicate.slt (BitVec.ofNat 32 r.val) (BitVec.ofNat 32 s)) (p ⟨(r.val + 8 - s) % 8, Nat.mod_lt _ (by decide)⟩)
        (z ⟨(r.val + 512 - s) % 512, Nat.mod_lt _ (by decide)⟩))
      (fun _ => z ⟨(8 + (r.val - 8) + 512 - s) % 512, Nat.mod_lt _ (by decide)⟩) = down s z p r := by
  have hr := r.isLt
  unfold down
  by_cases hc : r.val < s
  · rw [dif_pos (hP.mpr (show r.val < 8 by omega)), dif_pos ⟨hc, hs⟩, (cmpi_slt_ofNat_eq_one_iff (by omega) (by omega)).mpr hc]
    exact congrArg p (Fin.ext (show (r.val + 8 - s) % 8 = 8 + r.val - s by omega))
  · rw [dif_neg (fun hn : r.val < s ∧ s < 8 => hc hn.1)]
    by_cases h8 : r.val < 8
    · rw [dif_pos (hP.mpr h8), (cmpi_slt_ofNat_eq_zero_iff (by omega) (by omega)).mpr hc]
      exact congrArg z (Fin.ext (show (r.val + 512 - s) % 512 = r.val - s by omega))
    · rw [dif_neg (fun e => h8 (hP.mp e))]
      exact congrArg z (Fin.ext (show (8 + (r.val - 8) + 512 - s) % 512 = r.val - s by omega))

theorem proj_at (v3 : FVec Ideal S1x512x1024 .f32) (v21 v27 : FVec Ideal S1x1x1024 .f32) (v32 : FVec Ideal S1x1024x2944 .bf16) (r : Fin 512) (i : Fin 2944) :
    (k0_pay5 v3 v21 v27 v32 : FVec Ideal S512x2944 .f32) (ix2 r i)
      = mv (modu (fun j => v3 (ix3 0 r j)) (fun j => v21 (ix3 0 0 j)) (fun j => v27 (ix3 0 0 j))) (fun j i => v32 (ix3 0 j i)) i := by
  pointwise [k0_pay5]
  rfl

variable (v34 : FVec Ideal S512x2944 .f32) (r : Fin 512)

/-! ## The columns -/

theorem pay7_at (v3 : FVec Ideal S1x512x1024 .f32) (v21 v27 : FVec Ideal S1x1x1024 .f32) (v32 : FVec Ideal S1x1024x2944 .bf16) (d : Fin 256) :
    (k0_pay7 (k0_pay6 v3 v21 v27 v32) : FVec Ideal S1x512x256 .f32) (ix3 0 r d)
      = (k0_pay5 v3 v21 v27 v32 : FVec Ideal S512x2944 .f32) (ix2 r ⟨d.val, by omega⟩) := by
  pointwise [k0_pay7, k0_pay6]

theorem pay8_at (d : Fin 256) : (k0_pay8 v34 : FVec Ideal S1x512x256 .f32) (ix3 0 r d) = v34 (ix2 r ⟨1792 + d.val, by omega⟩) := by
  pointwise [k0_pay8]

theorem pay9_at (d : Fin 256) : (k0_pay9 v34 : FVec Ideal S1x512x256 .f32) (ix3 0 r d) = v34 (ix2 r ⟨2432 + d.val, by omega⟩) := by
  pointwise [k0_pay9]

theorem pay10_at (d : Fin 256) : (k0_pay10 v34 : FVec Ideal S1x512x256 .f32) (ix3 0 r d) = v34 (ix2 r ⟨2688 + d.val, by omega⟩) := by
  pointwise [k0_pay10]

theorem pay11_at (d : Fin 64) : (k0_pay11 v34 : FVec Ideal S1x1x512x64 .bf16) (ix4 0 0 r d) = v34 (ix2 r ⟨2176 + d.val, by omega⟩) := by
  pointwise [k0_pay11]

theorem pay12_at (d : Fin 64) : (k0_pay12 v34 : FVec Ideal S1x1x512x64 .bf16) (ix4 0 0 r d) = v34 (ix2 r ⟨2240 + d.val, by omega⟩) := by
  pointwise [k0_pay12]

theorem pay13_at (d : Fin 64) : (k0_pay13 v34 : FVec Ideal S1x1x512x64 .bf16) (ix4 0 0 r d) = v34 (ix2 r ⟨2304 + d.val, by omega⟩) := by
  pointwise [k0_pay13]

theorem pay14_at (d : Fin 64) : (k0_pay14 v34 : FVec Ideal S1x1x512x64 .bf16) (ix4 0 0 r d) = v34 (ix2 r ⟨2368 + d.val, by omega⟩) := by
  pointwise [k0_pay14]

theorem pay15_at (d : Fin 64) : (k0_pay15 v34 : FVec Ideal S1x1x512x64 .bf16) (ix4 0 0 r d) = v34 (ix2 r ⟨2432 + d.val, by omega⟩) := by
  pointwise [k0_pay15]

theorem pay16_at (d : Fin 64) : (k0_pay16 v34 : FVec Ideal S1x1x512x64 .bf16) (ix4 0 0 r d) = v34 (ix2 r ⟨2496 + d.val, by omega⟩) := by
  pointwise [k0_pay16]

theorem pay17_at (d : Fin 64) : (k0_pay17 v34 : FVec Ideal S1x1x512x64 .bf16) (ix4 0 0 r d) = v34 (ix2 r ⟨2560 + d.val, by omega⟩) := by
  pointwise [k0_pay17]

theorem pay18_at (d : Fin 64) : (k0_pay18 v34 : FVec Ideal S1x1x512x64 .bf16) (ix4 0 0 r d) = v34 (ix2 r ⟨2624 + d.val, by omega⟩) := by
  pointwise [k0_pay18]

theorem pay19_at (d : Fin 64) : (k0_pay19 v34 : FVec Ideal S1x1x512x64 .bf16) (ix4 0 0 r d) = v34 (ix2 r ⟨2688 + d.val, by omega⟩) := by
  pointwise [k0_pay19]

theorem pay20_at (d : Fin 64) : (k0_pay20 v34 : FVec Ideal S1x1x512x64 .bf16) (ix4 0 0 r d) = v34 (ix2 r ⟨2752 + d.val, by omega⟩) := by
  pointwise [k0_pay20]

theorem pay21_at (d : Fin 64) : (k0_pay21 v34 : FVec Ideal S1x1x512x64 .bf16) (ix4 0 0 r d) = v34 (ix2 r ⟨2816 + d.val, by omega⟩) := by
  pointwise [k0_pay21]

theorem pay22_at (d : Fin 64) : (k0_pay22 v34 : FVec Ideal S1x1x512x64 .bf16) (ix4 0 0 r d) = v34 (ix2 r ⟨2880 + d.val, by omega⟩) := by
  pointwise [k0_pay22]

/-! ## The short convolution of the second branch -/

/-- The second branch's gated input. -/
def zT (d : Fin 256) (r : Fin 512) : EReal := v34 (ix2 r ⟨512 + d.val, by omega⟩) * v34 (ix2 r ⟨768 + d.val, by omega⟩)

theorem pay24_at (d : Fin 256) : (k0_pay24 v34 : FVec Ideal S512x256 .f32) (ix2 r d) = zT v34 d r := by
  pointwise [k0_pay24, k0_pay23]
  unfold zT
  congr 3 <;> exact Fin.ext (by simp only []; omega)

theorem pay26_at (v115 : FVec Ideal S8x256 .f32) (v116 : FVec Ideal S3x256 .f32) (d : Fin 256) :
    (k0_pay26 v34 v115 v116 : FVec Ideal S512x256 .f32) (ix2 r d)
      = down 2 (zT v34 d) (fun m => v115 (ix2 m d)) r * v116 (ix2 0 d) := by
  pointwise [k0_pay26, k0_pay25]
  simp only [pay24_at]
  exact congrArg (· * v116 (ix2 0 d)) (down_eq 2 (by decide) (by decide) (zT v34 d) (fun m => v115 (ix2 m d)) r Iff.rfl)

theorem pay28_at (v115 : FVec Ideal S8x256 .f32) (v116 : FVec Ideal S3x256 .f32) (d : Fin 256) :
    (k0_pay28 (k0_pay23 v34) (k0_pay24 v34) v115 (k0_pay25 v116) (k0_pay26 v34 v115 v116) (k0_pay27 v34) (iota .tc S8x256 32 [0] iota_S8x256_d0_w32)
        : FVec Ideal S1x512x256 .bf16) (ix3 0 r d)
      = v34 (ix2 r ⟨256 + d.val, by omega⟩) * (down 2 (zT v34 d) (fun m => v115 (ix2 m d)) r * v116 (ix2 0 d)
          + down 1 (zT v34 d) (fun m => v115 (ix2 m d)) r * v116 (ix2 1 d) + zT v34 d r * v116 (ix2 2 d)) := by
  pointwise [k0_pay28, k0_pay23, k0_pay25, k0_pay27]
  simp only [pay24_at, pay26_at]
  exact congrArg (fun e => v34 (ix2 r ⟨256 + d.val, by omega⟩) * (down 2 (zT v34 d) (fun m => v115 (ix2 m d)) r * v116 (ix2 0 d) + e * v116 (ix2 1 d) + zT v34 d r * v116 (ix2 2 d)))
    (down_eq 1 (by decide) (by decide) (zT v34 d) (fun m => v115 (ix2 m d)) r Iff.rfl)

theorem pay29_at (m : Fin 8) (d : Fin 256) : (k0_pay29 (k0_pay24 v34) : FVec Ideal S8x256 .f32) (ix2 m d) = zT v34 d ⟨504 + m.val, by omega⟩ := by
  pointwise [k0_pay29]
  exact pay24_at v34 _ d

theorem pay30_at (m : Fin 8) (d : Fin 256) : (k0_pay30 (k0_pay24 v34) : FVec Ideal S1x8x256 .f32) (ix3 0 m d) = zT v34 d ⟨504 + m.val, by omega⟩ := by
  pointwise [k0_pay30]
  exact pay24_at v34 _ d

theorem pay3_at (v : FVec Ideal S1x8x256 .f32) (m : Fin 8) (d : Fin 256) : (k0_pay3 v : FVec Ideal S8x256 .f32) (ix2 m d) = v (ix3 0 m d) := by
  pointwise [k0_pay3]

/-! ## The short convolution of the fourth branch -/

/-- The fourth branch's queries, keys and values before their convolution. -/
def xT (d : Fin 768) (r : Fin 512) : EReal := v34 (ix2 r ⟨1024 + d.val, by omega⟩)

theorem pay4_at (v : FVec Ideal S1x8x768 .f32) (m : Fin 8) (d : Fin 768) : (k0_pay4 v : FVec Ideal S8x768 .f32) (ix2 m d) = v (ix3 0 m d) := by
  pointwise [k0_pay4]

theorem pay31_at (d : Fin 768) : (k0_pay31 v34 : FVec Ideal S512x768 .f32) (ix2 r d) = xT v34 d r := by
  pointwise [k0_pay31]
  rfl

theorem pay35_at (m : Fin 8) (d : Fin 768) : (k0_pay35 (k0_pay31 v34) : FVec Ideal S8x768 .f32) (ix2 m d) = xT v34 d ⟨504 + m.val, by omega⟩ := by
  pointwise [k0_pay35]
  exact pay31_at v34 _ d

theorem pay36_at (m : Fin 8) (d : Fin 768) : (k0_pay36 (k0_pay31 v34) : FVec Ideal S1x8x768 .f32) (ix3 0 m d) = xT v34 d ⟨504 + m.val, by omega⟩ := by
  pointwise [k0_pay36]
  exact pay31_at v34 _ d

/-- The convolution's value for one channel, from the tile's column, the rows before it and the four weights. -/
def conv4 (x : Fin 512 → EReal) (p : Fin 8 → EReal) (w : Fin 4 → EReal) (r : Fin 512) : EReal :=
  down 3 x p r * w 0 + down 2 x p r * w 1 + down 1 x p r * w 2 + x r * w 3

theorem conv4_of (x : Fin 512 → EReal) (p : Fin 8 → EReal) (w : Fin 4 → EReal) (r : Fin 512) {a b c : EReal} (ha : a = down 3 x p r) (hb : b = down 2 x p r)
    (hc : c = down 1 x p r) : (a * w 0 + b * w 1 + c * w 2 + x r * w 3) * Ideal.logistic (a * w 0 + b * w 1 + c * w 2 + x r * w 3)
      = conv4 x p w r * Ideal.logistic (conv4 x p w r) := by
  subst ha hb hc
  rfl

set_option maxHeartbeats 2000000 in
theorem pay38_at (v162 : FVec Ideal S8x768 .f32) (v163 : FVec Ideal S4x768 .f32) (d : Fin 768) :
    (k0_pay38 (k0_pay31 v34) v162 (k0_pay32 v163) (k0_pay33 v34) (k0_pay34 v34 v162) : FVec Ideal S512x768 .f32) (ix2 r d)
      = conv4 (xT v34 d) (fun m => v162 (ix2 m d)) (fun k => v163 (ix2 k d)) r
        * Ideal.logistic (conv4 (xT v34 d) (fun m => v162 (ix2 m d)) (fun k => v163 (ix2 k d)) r) := by
  pointwise [k0_pay38, k0_pay32, k0_pay33, k0_pay34]
  simp only [pay31_at]
  exact conv4_of _ _ (fun k => v163 (ix2 k d)) r (down_eq 3 (by decide) (by decide) (xT v34 d) (fun m => v162 (ix2 m d)) r Iff.rfl)
    (down_eq 2 (by decide) (by decide) (xT v34 d) (fun m => v162 (ix2 m d)) r Iff.rfl)
    (down_eq 1 (by decide) (by decide) (xT v34 d) (fun m => v162 (ix2 m d)) r Iff.rfl)

/-! ## Queries and keys normalised per head, values -/

theorem heads_at (j i : Fin 256) : (k0_pay41 : FVec Ideal S256x256 .bf16) (ix2 j i) = if j.val / 64 = i.val / 64 then 1 else 0 := by
  pointwise [k0_pay41]
  have e : ∀ n : Fin 256, IntOp.shrui ArithUnit.vector (BitVec.ofNat 32 n.val) 6#32 = BitVec.ofNat 32 (n.val / 64) := by decide +kernel
  rw [e, e]
  by_cases h : j.val / 64 = i.val / 64
  · rw [(cmpi_eq_ofNat_eq_one_iff (by omega) (by omega)).mpr h, if_pos h]
    rfl
  · rw [(cmpi_eq_ofNat_eq_zero_iff (by omega) (by omega)).mpr h, if_neg h]
    rfl

/-- A row over the root of its own head's sum of squares. The sum is taken of the squares and of what their rounding leaves. -/
def unit (f : Fin 256 → EReal) (i : Fin 256) : EReal :=
  f i * Ideal.rsqrt ((∑ j, f j * f j * (if j.val / 64 = i.val / 64 then 1 else 0)) + (∑ j, (f j * f j - f j * f j) * (if j.val / 64 = i.val / 64 then 1 else 0))
    + Ideal.ofBits .f32 0x358637BD#32)

theorem pay42_at (v218 : FVec Ideal S512x256 .f32) (i : Fin 256) :
    (k0_pay42 v218 : FVec Ideal S512x256 .f32) (ix2 r i) = unit (fun j => v218 (ix2 r j)) i * Ideal.ofBits .f32 0x3E000000#32 := by
  pointwise [k0_pay42]
  simp only [heads_at]
  rfl

theorem pay43_at (v217 : FVec Ideal S512x768 .f32) (i : Fin 256) :
    (k0_pay43 v217 : FVec Ideal S512x256 .f32) (ix2 r i) = unit (fun j => v217 (ix2 r ⟨256 + j.val, by omega⟩)) i := by
  pointwise [k0_pay43]
  simp only [heads_at]
  rfl

theorem pay39_at (v161 : FVec Ideal S512x768 .f32) (v162 : FVec Ideal S8x768 .f32) (v164 : FVec Ideal S4x768 .f32) (v165 : FVec Ideal S512x768 .f32)
    (v171 : FVec Ideal S8x768 .f32) (i : Fin 256) : (k0_pay39 v161 v162 v164 v165 v171 : FVec Ideal S512x256 .f32) (ix2 r i)
      = (k0_pay38 v161 v162 v164 v165 v171 : FVec Ideal S512x768 .f32) (ix2 r ⟨i.val, by omega⟩) := by
  pointwise [k0_pay39]

theorem pay40_at (v217 : FVec Ideal S512x768 .f32) (i : Fin 256) :
    (k0_pay40 v217 : FVec Ideal S512x256 .f32) (ix2 r i) = v217 (ix2 r ⟨512 + i.val, by omega⟩) := by
  pointwise [k0_pay40]

theorem pay1_at (v220 v245 v257 : FVec Ideal S512x256 .f32) (i : Fin 768) : (k0_pay1 v220 v245 v257 : FVec Ideal S1x512x768 .f32) (ix3 0 r i)
    = if h : i.val < 256 then v245 (ix2 r ⟨i.val, h⟩) else if h' : i.val < 512 then v257 (ix2 r ⟨i.val - 256, by omega⟩) else v220 (ix2 r ⟨i.val - 512, by omega⟩) := by
  pointwise [k0_pay1]
  by_cases h : i.val < 256
  · rw [dif_pos h, dif_pos h]
  · rw [dif_neg h, dif_neg h]
    by_cases h' : i.val < 512
    · rw [dif_pos h', dif_pos (show i.val - 256 < 256 by omega)]
    · rw [dif_neg h', dif_neg (show ¬ i.val - 256 < 256 by omega)]
      exact congrArg (fun k => v220 (ix2 r k)) (Fin.ext (show i.val - 256 - 256 = i.val - 512 by omega))

/-! ## The gates -/

/-- The larger of a number and zero, and the logarithm that makes it smooth. -/
def soft (y : EReal) : EReal := max y 0 + Ideal.log1p (Ideal.exp (0 - FloatOps.absf (F := Ideal) (φ := .f32) y))

theorem pay2_at (v259 v264 : FVec Ideal S1x128 .f32) (i : Fin 128) :
    (k0_pay2 (k0_pay37 v34) (k0_pay44 (k0_pay37 v34)) (k0_pay45 v259) v264 : FVec Ideal S1x512x128 .f32) (ix3 0 r i)
      = if i.val < 4 then Ideal.logistic (v34 (ix2 r ⟨2048 + i.val, by omega⟩))
        else (0 - Ideal.exp (v259 (ix2 0 i))) * soft (v34 (ix2 r ⟨2048 + i.val, by omega⟩) + v264 (ix2 0 i)) := by
  pointwise [k0_pay2, k0_pay37, k0_pay44, k0_pay45]
  by_cases h : i.val < 4
  · rw [(cmpi_slt_ofNat_eq_one_iff (by omega) (by omega)).mpr h, if_pos h]
    rfl
  · rw [(cmpi_slt_ofNat_eq_zero_iff (by omega) (by omega)).mpr h, if_neg h, if_neg (fun e => e rfl)]
    rfl

end Cert.INP

end
-- ==== Proof.INP.Spec.lean ====
module

public import proofs.«01_k».proof.Proof.INP.Tile

@[expose] public section

/-! The twelve results of the input projection of a layer's prompt tokens, as functions of the nine arguments. -/

noncomputable section

namespace Cert.INP

open Cert.Kernel3Ideal
open Idealize.ShloMosaic Idealize.ShloMosaic.TcCoe
open Cert.MIX (modu mv)

variable (x : FVec Ideal S2x8192x1024 .f32) (md : FVec Ideal S2x1x6144 .f32) (w : FVec Ideal S2x1024x2824 .f32) (cb : FVec Ideal S2x2x256 .f32)
  (cd : FVec Ideal S2x3x768 .f32) (wb : FVec Ideal S2x3x256 .f32) (wd : FVec Ideal S2x4x768 .f32) (al dt : FVec Ideal S2x4 .f32)

/-- A token's normalised and modulated row, and its projection. -/
def hid (b : Fin 2) (p : Fin 8192) : Fin 1024 → EReal :=
  modu (fun j => x (ix3 b p j)) (fun j => md (ix3 b 0 ⟨1024 + j.val, by omega⟩)) (fun j => md (ix3 b 0 ⟨0 + j.val, by omega⟩))

def pr (b : Fin 2) (p : Fin 8192) (i : Fin 2824) : EReal := mv (hid x md b p) (fun j i => w (ix3 1 j i)) i

/-- Column `d` of the stretch that starts at column `o`, and column `k` of head `h` of that stretch. -/
def col {n : ℕ} (o : ℕ) (h : o + n ≤ 2824) (d : Fin n) : Fin 2824 := ⟨o + d.val, by omega⟩
def hcol (o : ℕ) (ho : o + 256 ≤ 2824) (h : Fin 4) (k : Fin 64) : Fin 2824 := ⟨o + (h.val * 64 + k.val), by omega⟩

/-- A series behind the last `K` entries of the series before it. -/
def ser {K : ℕ} (buf : Fin K → EReal) (z : Fin 8192 → EReal) (q : ℕ) : EReal :=
  if h : q < K then buf ⟨q, h⟩ else z ⟨(q - K) % 8192, Nat.mod_lt _ (by decide)⟩

theorem ser_of_le {K : ℕ} (buf : Fin K → EReal) (z : Fin 8192 → EReal) (q : ℕ) (h : K ≤ q) (h' : q - K < 8192) : ser buf z q = z ⟨q - K, h'⟩ := by
  unfold ser
  rw [dif_neg (by omega)]
  exact congrArg z (Fin.ext (Nat.mod_eq_of_lt h'))

theorem ser_of_lt {K : ℕ} (buf : Fin K → EReal) (z : Fin 8192 → EReal) (q : ℕ) (h : q < K) : ser buf z q = buf ⟨q, h⟩ := dif_pos h

/-- The second branch's gated input, and the fourth branch's input, each as a series over the tokens. -/
def zS (b : Fin 2) (d : Fin 256) (p : Fin 8192) : EReal := pr x md w b p (col 512 (by decide) d) * pr x md w b p (col 768 (by decide) d)
def xS (b : Fin 2) (d : Fin 768) (p : Fin 8192) : EReal := pr x md w b p (col 1024 (by decide) d)
def zC (b : Fin 2) (d : Fin 256) : ℕ → EReal := ser (fun q => cb (ix3 b q d)) (zS x md w b d)
def xC (b : Fin 2) (d : Fin 768) : ℕ → EReal := ser (fun q => cd (ix3 b q d)) (xS x md w b d)

/-- The second branch's output. -/
def ybS (b : Fin 2) (p : Fin 8192) (d : Fin 256) : EReal :=
  pr x md w b p (col 256 (by decide) d) * (zC x md w cb b d p.val * wb (ix3 1 0 d) + zC x md w cb b d (p.val + 1) * wb (ix3 1 1 d) + zC x md w cb b d (p.val + 2) * wb (ix3 1 2 d))

/-- The fourth branch's convolution, and what its activation makes of it. -/
def cS (b : Fin 2) (p : Fin 8192) (i : Fin 768) : EReal :=
  xC x md w cd b i p.val * wd (ix3 1 0 i) + xC x md w cd b i (p.val + 1) * wd (ix3 1 1 i) + xC x md w cd b i (p.val + 2) * wd (ix3 1 2 i)
    + xC x md w cd b i (p.val + 3) * wd (ix3 1 3 i)
def aS (b : Fin 2) (p : Fin 8192) (i : Fin 768) : EReal := cS x md w cd wd b p i * Ideal.logistic (cS x md w cd wd b p i)

/-- A head over the root of its sum of squares. -/
def nrmH (f : Fin 64 → EReal) (k : Fin 64) : EReal := f k * Ideal.rsqrt ((∑ k', f k' * f k') + Ideal.ofBits .f32 0x358637BD#32)

/-- Head `h` of the stretch of the fourth branch that starts at `o`. -/
def hS (o : ℕ) (ho : o + 256 ≤ 768) (b : Fin 2) (p : Fin 8192) (h : Fin 4) (k : Fin 64) : EReal := aS x md w cd wd b p ⟨o + (h.val * 64 + k.val), by omega⟩

/-- The fourth branch's queries, keys and values. -/
def qkvS (b : Fin 2) (p : Fin 8192) (i : Fin 768) : EReal :=
  if h : i.val < 256 then nrmH (hS x md w cd wd 0 (by decide) b p ⟨i.val / 64, by omega⟩) ⟨i.val % 64, by omega⟩ * Ideal.ofBits .f32 0x3E000000#32
  else if h' : i.val < 512 then nrmH (hS x md w cd wd 256 (by decide) b p ⟨(i.val - 256) / 64, by omega⟩) ⟨(i.val - 256) % 64, by omega⟩
  else aS x md w cd wd b p i

/-- The fourth branch's gates. -/
def gbS (b : Fin 2) (p : Fin 8192) (i : Fin 8) : EReal :=
  if h : i.val < 4 then Ideal.logistic (pr x md w b p (col 2048 (by decide) i))
  else (0 - Ideal.exp (al (ix2 1 ⟨i.val - 4, by omega⟩))) * soft (pr x md w b p (col 2048 (by decide) i) + dt (ix2 1 ⟨i.val - 4, by omega⟩))

/-! ## The results -/

def resU : FVec Ideal S2x8192x256 .f32 := fun j => pr x md w (j 0) (j 1) (col 0 (by decide) (j 2))
def resZ : FVec Ideal S2x8192x256 .f32 := fun j => pr x md w (j 0) (j 1) (col 1792 (by decide) (j 2))
def resK : FVec Ideal S2x8192x4x64 .f32 := fun j => pr x md w (j 0) (j 1) (hcol 2312 (by decide) (j 2) (j 3))
def resV : FVec Ideal S2x8192x4x64 .f32 := fun j => pr x md w (j 0) (j 1) (hcol 2568 (by decide) (j 2) (j 3))
def resQh : FVec Ideal S2x4x8192x64 .bf16 := fun j => pr x md w (j 0) (j 2) (hcol 2056 (by decide) (j 1) (j 3))
def resKh : FVec Ideal S2x4x8192x64 .bf16 := fun j => pr x md w (j 0) (j 2) (hcol 2312 (by decide) (j 1) (j 3))
def resVh : FVec Ideal S2x4x8192x64 .bf16 := fun j => pr x md w (j 0) (j 2) (hcol 2568 (by decide) (j 1) (j 3))
def resYb : FVec Ideal S2x8192x256 .bf16 := fun j => ybS x md w cb wb (j 0) (j 1) (j 2)
def resQkv : FVec Ideal S2x8192x768 .f32 := fun j => qkvS x md w cd wd (j 0) (j 1) (j 2)
def resGb : FVec Ideal S2x8192x8 .f32 := fun j => gbS x md w al dt (j 0) (j 1) (j 2)
def resCb : FVec Ideal S2x2x256 .f32 := fun j => zC x md w cb (j 0) (j 2) (8192 + (j 1).val)
def resCd : FVec Ideal S2x3x768 .f32 := fun j => xC x md w cd (j 0) (j 2) (8192 + (j 1).val)

/-! ## A tile inside its series -/

/-- Where a tile pushed down by `s` rows stands in its series: the tile is number `n`, and the rows before it are the series' own. -/
theorem down_ser {K : ℕ} (hK : K < 8) (buf : Fin K → EReal) (z : Fin 8192 → EReal) (n : ℕ) (hn : n < 16) (zt : Fin 512 → EReal) (p : Fin 8 → EReal)
    (hz : ∀ r : Fin 512, zt r = z ⟨512 * n + r.val, by omega⟩) (hp : ∀ q : Fin 8, 8 ≤ q.val + K → p q = ser buf z (512 * n + (q.val + K - 8)))
    (s : ℕ) (hs : s ≤ K) (r : Fin 512) : down s zt p r = ser buf z (512 * n + r.val + (K - s)) := by
  have hr := r.isLt
  unfold down
  by_cases hc : r.val < s
  · rw [dif_pos ⟨hc, by omega⟩, hp _ (by show 8 ≤ 8 + r.val - s + K; omega)]
    exact congrArg (ser buf z) (by show 512 * n + (8 + r.val - s + K - 8) = _; omega)
  · rw [dif_neg (fun h => hc h.1), hz, ser_of_le buf z _ (by omega) (by omega)]
    exact congrArg z (Fin.ext (by show 512 * n + (r.val - s) = 512 * n + r.val + (K - s) - K; omega))

end Cert.INP

end
-- ==== Proof.INP.Host.lean ====
module

public import proofs.«01_k».proof.Proof.INP.Tile
public import proofs.«01_k».proof.Proof.Gen.Kernel3Ideal.Frame.Runs
public import Idealize.ShloMosaic.Lib.Routing.OpsOne
public import Idealize.ShloMosaic.Lib.KernelVsHost
public import Idealize.ShloMosaic.Lib.Pipeline.ValueKit
public import Idealize.ShloMosaic.Lib.Claim

@[expose] public section

set_option maxRecDepth 16384

/-! What the host hands the kernel: rearranged weights, two layer slices, two padded buffers and two rows of gate weights. -/

noncomputable section

namespace Cert.INP

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Writing four numbers into a row from lane four on: lane `4 + j` holds number `j`. -/
theorem scatter_row (x : FVec Ideal S1x128 .f32) (idx : IVec S2 32) (u : FVec Ideal S4 .f32) (h0 : (idx (ix1 (0 : Fin 2))).toInt = 0)
    (h1 : (idx (ix1 (1 : Fin 2))).toInt = 4) (j : Fin 4) :
    (Host.scatter scatter_S1x128_S2_S4_0_0_01_0 (fun _ b => b) x idx u : FVec Ideal S1x128 .f32) (ix2 0 ⟨4 + j.val, by omega⟩) = u (ix1 j) := by
  have hwin0 : ∀ i : Fin 4, (scatter_S1x128_S2_S4_0_0_01_0).window (ix1 i) 0 = 0 := fun i => by
    unfold ScatterDims.window
    rw [dif_neg fun h => (of_decide_eq_true (List.mem_filter.1 h).2) (by exact List.mem_singleton.2 rfl)]
  have hwin1 : ∀ i : Fin 4, (scatter_S1x128_S2_S4_0_0_01_0).window (ix1 i) 1 = i.val := fun i => by
    unfold ScatterDims.window
    rw [dif_pos (by decide)]
    have q : ∀ X : Fin 1, (ix1 i X).val = i.val := fun X => by
      obtain rfl : X = 0 := Subsingleton.elim _ _
      rfl
    exact q _
  have lands : ∀ i : Fin 4, (scatter_S1x128_S2_S4_0_0_01_0).resultIdx? (ix1 i) idx = some (ix2 (0 : Fin 1) (⟨4 + j.val, by omega⟩ : Fin 128)) ↔ i = j := fun i => by
    refine (Routing.resultIdx?_ix2 (R := 1) (C := 128) scatter_S1x128_S2_S4_0_0_01_0 (ix1 i) idx 0 ⟨4 + j.val, by omega⟩).trans ?_
    have e0 : (scatter_S1x128_S2_S4_0_0_01_0).start (ix1 i) idx 0 = 0 :=
      (Routing.start_pair (R := 1) (C := 128) scatter_S1x128_S2_S4_0_0_01_0 rfl rfl idx (ix1 i) 0).trans h0
    have e1 : (scatter_S1x128_S2_S4_0_0_01_0).start (ix1 i) idx 1 = 4 :=
      (Routing.start_pair (R := 1) (C := 128) scatter_S1x128_S2_S4_0_0_01_0 rfl rfl idx (ix1 i) 1).trans h1
    constructor
    · rintro ⟨_, h⟩
      have h' : (4 : ℤ) + (i.val : ℤ) = ((4 + j.val : ℕ) : ℤ) := by rw [← e1, ← hwin1 i]; exact h
      exact Fin.ext (by omega)
    · rintro rfl
      exact ⟨(congrArg₂ (fun (a : ℤ) (b : ℕ) => a + (b : ℤ)) e0 (hwin0 i)).trans rfl,
        (congrArg₂ (fun (a : ℤ) (b : ℕ) => a + (b : ℤ)) e1 (hwin1 i)).trans (show (4 : ℤ) + (i.val : ℤ) = ((4 + i.val : ℕ) : ℤ) by omega)⟩
  refine Routing.scatter_set_hit _ x idx u _ _ (fun i hi => ?_) (ix1 j) ((lands j).2 rfl)
  have e := (lands (i 0)).1 ((congrArg (fun t => (scatter_S1x128_S2_S4_0_0_01_0).resultIdx? t idx) (eq_ix1 i).symm).trans hi)
  rw [eq_ix1 i, e]

theorem host5 (j : Fin 1024) (i : Fin 2944) (h : ¬ (2056 ≤ i.val ∧ i.val < 2176)) : (V m c main_v5 : FVec Ideal S2x1024x2944 .bf16) (ix3 1 j i)
    = (m ((c : Thread nD τ).loc main_arg2) : FVec Ideal S2x1024x2824 .f32) (ix3 1 j (if h' : i.val < 2056 then ⟨i.val, by omega⟩ else ⟨i.val - 120, by omega⟩)) := by
  have e : (V m c main_v5 : FVec Ideal S2x1024x2944 .bf16) = (truncf (F := Ideal) .bf16 (concatenate S2x1024x2944 2
      [⟨S2x1024x2048, (extractStridedSlice S2x1024x2048 ![0, 0, 0] (m ((c : Thread nD τ).loc main_arg2) : FVec Ideal S2x1024x2824 .f32) slices_S2x1024x2824_S2x1024x2048_0_0_0 : (⟨S2x1024x2048, .f32⟩ : BufTy).Contents (Elt Ideal))⟩,
       ⟨S2x1024x8, (extractStridedSlice S2x1024x8 ![0, 0, 2048] (m ((c : Thread nD τ).loc main_arg2) : FVec Ideal S2x1024x2824 .f32) slices_S2x1024x2824_S2x1024x8_0_0_2048 : (⟨S2x1024x8, .f32⟩ : BufTy).Contents (Elt Ideal))⟩,
       ⟨S2x1024x120, (broadcastInDim S2x1024x120 ![] bcast_S_S2x1024x120 (constant (F := Ideal) S_ .f32 0x00000000#32) : (⟨S2x1024x120, .f32⟩ : BufTy).Contents (Elt Ideal))⟩,
       ⟨S2x1024x768, (extractStridedSlice S2x1024x768 ![0, 0, 2056] (m ((c : Thread nD τ).loc main_arg2) : FVec Ideal S2x1024x2824 .f32) slices_S2x1024x2824_S2x1024x768_0_0_2056 : (⟨S2x1024x768, .f32⟩ : BufTy).Contents (Elt Ideal))⟩]
      concatenates_S2x1024x2048_S2x1024x8_S2x1024x120_S2x1024x768_S2x1024x2944_d2 : FVec Ideal S2x1024x2944 .f32) bitsLt_bf16_f32 : FVec Ideal S2x1024x2944 .bf16) := by
    unfold V V0 hostOps0 hostOps0_1 hostOps0_2 hostOps0_3
    simp only [List.flatten_cons, List.flatten_nil, List.cons_append, List.nil_append, List.append_nil]
    after_results
    try rfl
  rw [e]
  pointwise
  by_cases h1 : i.val < 2048
  · rw [dif_pos h1]
    exact congrArg (fun k => (m ((c : Thread nD τ).loc main_arg2) : FVec Ideal S2x1024x2824 .f32) (ix3 1 j k)) (by rw [dif_pos (show i.val < 2056 by omega)])
  · rw [dif_neg h1]
    by_cases h2 : i.val < 2056
    · rw [dif_pos (show i.val - 2048 < 8 by omega)]
      exact congrArg (fun k => (m ((c : Thread nD τ).loc main_arg2) : FVec Ideal S2x1024x2824 .f32) (ix3 1 j k)) (by rw [dif_pos h2]; exact Fin.ext (by show 2048 + (i.val - 2048) = i.val; omega))
    · rw [dif_neg (show ¬ i.val - 2048 < 8 by omega), dif_neg (show ¬ i.val - 2048 - 8 < 120 by omega)]
      exact congrArg (fun k => (m ((c : Thread nD τ).loc main_arg2) : FVec Ideal S2x1024x2824 .f32) (ix3 1 j k))
        (by rw [dif_neg h2]; exact Fin.ext (by show 2056 + (i.val - 2048 - 8 - 120) = i.val - 120; omega))

theorem host7 (k : Fin 3) (d : Fin 256) : (V m c main_v7 : FVec Ideal S3x256 .f32) (ix2 k d)
    = (m ((c : Thread nD τ).loc main_arg5) : FVec Ideal S2x3x256 .f32) (ix3 1 k d) := by
  have h : (V m c main_v7 : FVec Ideal S3x256 .f32) = (shapeCast S3x256 (extractStridedSlice S1x3x256 ![1, 0, 0]
      (m ((c : Thread nD τ).loc main_arg5) : FVec Ideal S2x3x256 .f32) slices_S2x3x256_S1x3x256_1_0_0) shapeCasts_S1x3x256_S3x256 : FVec Ideal S3x256 .f32) := by
    unfold V V0 hostOps0 hostOps0_1 hostOps0_2 hostOps0_3
    simp only [List.flatten_cons, List.flatten_nil, List.cons_append, List.nil_append, List.append_nil]
    after_results
    try rfl
  rw [h]
  pointwise

theorem host9 (k : Fin 4) (d : Fin 768) : (V m c main_v9 : FVec Ideal S4x768 .f32) (ix2 k d)
    = (m ((c : Thread nD τ).loc main_arg6) : FVec Ideal S2x4x768 .f32) (ix3 1 k d) := by
  have h : (V m c main_v9 : FVec Ideal S4x768 .f32) = (shapeCast S4x768 (extractStridedSlice S1x4x768 ![1, 0, 0]
      (m ((c : Thread nD τ).loc main_arg6) : FVec Ideal S2x4x768 .f32) slices_S2x4x768_S1x4x768_1_0_0) shapeCasts_S1x4x768_S4x768 : FVec Ideal S4x768 .f32) := by
    unfold V V0 hostOps0 hostOps0_1 hostOps0_2 hostOps0_3
    simp only [List.flatten_cons, List.flatten_nil, List.cons_append, List.nil_append, List.append_nil]
    after_results
    try rfl
  rw [h]
  pointwise

theorem host16 (j : Fin 4) : (V m c main_v16 : FVec Ideal S1x128 .f32) (ix2 0 ⟨4 + j.val, by omega⟩)
    = (m ((c : Thread nD τ).loc main_arg7) : FVec Ideal S2x4 .f32) (ix2 1 j) := by
  have h : (V m c main_v16 : FVec Ideal S1x128 .f32) = (Host.scatter scatter_S1x128_S2_S4_0_0_01_0 (fun _ b => b)
      (broadcastInDim S1x128 ![] bcast_S_S1x128 (constant (F := Ideal) S_ .f32 0x00000000#32) : FVec Ideal S1x128 .f32)
      (concatenate S2 0 [⟨S1, (broadcastInDim S1 ![] bcast_S_S1 (constantI S_ 32 0#32) : IVec S1 32)⟩, ⟨S1, (broadcastInDim S1 ![] bcast_S_S1 (constantI S_ 32 4#32) : IVec S1 32)⟩] concatenates_S1_S1_S2_d0 : IVec S2 32)
      (shapeCast S4 (extractStridedSlice S1x4 ![1, 0] (m ((c : Thread nD τ).loc main_arg7) : FVec Ideal S2x4 .f32) slices_S2x4_S1x4_1_0) shapeCasts_S1x4_S4 : FVec Ideal S4 .f32)
      : FVec Ideal S1x128 .f32) := by
    unfold V V0 hostOps0 hostOps0_1 hostOps0_2 hostOps0_3
    simp only [List.flatten_cons, List.flatten_nil, List.cons_append, List.nil_append, List.append_nil]
    after_results
    try rfl
  rw [h]
  refine (scatter_row _ _ _ (by rfl) (by rfl) j).trans ?_
  pointwise

theorem host23 (j : Fin 4) : (V m c main_v23 : FVec Ideal S1x128 .f32) (ix2 0 ⟨4 + j.val, by omega⟩)
    = (m ((c : Thread nD τ).loc main_arg8) : FVec Ideal S2x4 .f32) (ix2 1 j) := by
  have h : (V m c main_v23 : FVec Ideal S1x128 .f32) = (Host.scatter scatter_S1x128_S2_S4_0_0_01_0 (fun _ b => b)
      (broadcastInDim S1x128 ![] bcast_S_S1x128 (constant (F := Ideal) S_ .f32 0x00000000#32) : FVec Ideal S1x128 .f32)
      (concatenate S2 0 [⟨S1, (broadcastInDim S1 ![] bcast_S_S1 (constantI S_ 32 0#32) : IVec S1 32)⟩, ⟨S1, (broadcastInDim S1 ![] bcast_S_S1 (constantI S_ 32 4#32) : IVec S1 32)⟩] concatenates_S1_S1_S2_d0 : IVec S2 32)
      (shapeCast S4 (extractStridedSlice S1x4 ![1, 0] (m ((c : Thread nD τ).loc main_arg8) : FVec Ideal S2x4 .f32) slices_S2x4_S1x4_1_0) shapeCasts_S1x4_S4 : FVec Ideal S4 .f32)
      : FVec Ideal S1x128 .f32) := by
    unfold V V0 hostOps0 hostOps0_1 hostOps0_2 hostOps0_3
    simp only [List.flatten_cons, List.flatten_nil, List.cons_append, List.nil_append, List.append_nil]
    after_results
    try rfl
  rw [h]
  refine (scatter_row _ _ _ (by rfl) (by rfl) j).trans ?_
  pointwise

theorem host24 (b : Fin 2) (q : Fin 2) (d : Fin 256) : (V m c main_v24 : FVec Ideal S2x8x256 .f32) (ix3 b ⟨6 + q.val, by omega⟩ d)
    = (m ((c : Thread nD τ).loc main_arg3) : FVec Ideal S2x2x256 .f32) (ix3 b q d) := by
  have h : (V m c main_v24 : FVec Ideal S2x8x256 .f32) = (pad S2x8x256 ![0, 6, 0] ![0, 0, 0] ![0, 0, 0] (m ((c : Thread nD τ).loc main_arg3) : FVec Ideal S2x2x256 .f32)
      (sitofp (F := Ideal) .f32 (constantI S_ 32 0#32)) pads_S2x2x256_S2x8x256_000_600_000 h_S_ : FVec Ideal S2x8x256 .f32) := by
    unfold V V0 hostOps0 hostOps0_1 hostOps0_2 hostOps0_3
    simp only [List.flatten_cons, List.flatten_nil, List.cons_append, List.nil_append, List.append_nil]
    after_results
    try rfl
  rw [h]
  pointwise
  refine dif_pos (fun a => ?_)
  match a with
  | ⟨0, _⟩ => exact ⟨Nat.zero_le _, Nat.mod_one _, by show (b.val - 0) / 1 < 2; omega⟩
  | ⟨1, _⟩ => exact ⟨by show 6 ≤ 6 + q.val; omega, Nat.mod_one _, by show (6 + q.val - 6) / 1 < 2; omega⟩
  | ⟨2, _⟩ => exact ⟨Nat.zero_le _, Nat.mod_one _, by show (d.val - 0) / 1 < 256; omega⟩

theorem host25 (b : Fin 2) (q : Fin 3) (d : Fin 768) : (V m c main_v25 : FVec Ideal S2x8x768 .f32) (ix3 b ⟨5 + q.val, by omega⟩ d)
    = (m ((c : Thread nD τ).loc main_arg4) : FVec Ideal S2x3x768 .f32) (ix3 b q d) := by
  have h : (V m c main_v25 : FVec Ideal S2x8x768 .f32) = (pad S2x8x768 ![0, 5, 0] ![0, 0, 0] ![0, 0, 0] (m ((c : Thread nD τ).loc main_arg4) : FVec Ideal S2x3x768 .f32)
      (sitofp (F := Ideal) .f32 (constantI S_ 32 0#32)) pads_S2x3x768_S2x8x768_000_500_000 h_S_ : FVec Ideal S2x8x768 .f32) := by
    unfold V V0 hostOps0 hostOps0_1 hostOps0_2 hostOps0_3
    simp only [List.flatten_cons, List.flatten_nil, List.cons_append, List.nil_append, List.append_nil]
    after_results
    try rfl
  rw [h]
  pointwise
  refine dif_pos (fun a => ?_)
  match a with
  | ⟨0, _⟩ => exact ⟨Nat.zero_le _, Nat.mod_one _, by show (b.val - 0) / 1 < 2; omega⟩
  | ⟨1, _⟩ => exact ⟨by show 5 ≤ 5 + q.val; omega, Nat.mod_one _, by show (5 + q.val - 5) / 1 < 3; omega⟩
  | ⟨2, _⟩ => exact ⟨Nat.zero_le _, Nat.mod_one _, by show (d.val - 0) / 1 < 768; omega⟩

end Cert.INP

end
-- ==== Proof.INP.Block.lean ====
module

public import proofs.«01_k».proof.Proof.INP.Spec
public import proofs.«01_k».proof.Proof.INP.Host
public import proofs.«01_k».proof.Proof.Gen.Kernel3Ideal.Frame
public import Idealize.ShloMosaic.Lib.Pipeline.ValueKit

@[expose] public section

set_option maxRecDepth 16384

/-! What one grid point of the input projection leaves in its blocks, row by row, as functions of the nine arguments. -/

noncomputable section

namespace Cert.INP

open Cert.Kernel3Ideal Cert.Kernel3Ideal.Gen
open Idealize.ShloMosaic Idealize.ShloMosaic.TcCoe Idealize.SL.Sem
open Idealize.ShloMosaic.Pipeline (Dat)
open Cert.MIX (modu mv)

theorem idx : ∀ t : Fin cfg0.N, win0_0.index t = ![t.val / 16, t.val % 16, 0]
    ∧ win0_1.index t = ![t.val / 16, 0, 0] ∧ win0_2.index t = ![t.val / 16, 0, 1] ∧ win0_3.index t = ![1, 0, 0]
    ∧ win0_4.index t = ![t.val / 16, 0, 0] ∧ win0_5.index t = ![t.val / 16, 0, 0] ∧ win0_6.index t = ![0, 0] ∧ win0_7.index t = ![0, 0]
    ∧ win0_8.index t = ![0, 0] ∧ win0_9.index t = ![0, 0]
    ∧ win0_10.index t = ![t.val / 16, t.val % 16, 0] ∧ win0_11.index t = ![t.val / 16, t.val % 16, 0] ∧ win0_12.index t = ![t.val / 16, t.val % 16, 0]
    ∧ win0_13.index t = ![t.val / 16, t.val % 16, 0] ∧ win0_14.index t = ![t.val / 16, 0, t.val % 16, 0] ∧ win0_15.index t = ![t.val / 16, 0, t.val % 16, 0]
    ∧ win0_16.index t = ![t.val / 16, 0, t.val % 16, 0] ∧ win0_17.index t = ![t.val / 16, t.val % 16, 0] ∧ win0_18.index t = ![t.val / 16, t.val % 16, 0]
    ∧ win0_19.index t = ![t.val / 16, t.val % 16, 0] ∧ win0_20.index t = ![t.val / 16, 0, 0] ∧ win0_21.index t = ![t.val / 16, 0, 0] :=
  (by decide +kernel : ∀ t : Fin grid0.N, _)

theorem lt32 (t : Fin cfg0.N) : t.val < 32 := t.isLt

/-- A grid point's batch entry, and the place of its row `r`. -/
def bt (t : Fin cfg0.N) : Fin 2 := ⟨t.val / 16, by have := lt32 t; omega⟩
def tok (t : Fin cfg0.N) (r : Fin 512) : Fin 8192 := ⟨512 * (t.val % 16) + r.val, by omega⟩

variable (m : (ℓ : Loc nD τ sig) → Buf (Elt Ideal) ℓ) (c : Dev nD)

/-! ## The arguments -/

abbrev A0 : FVec Ideal S2x8192x1024 .f32 := m ((c : Thread nD τ).loc main_arg0)
abbrev A1 : FVec Ideal S2x1x6144 .f32 := m ((c : Thread nD τ).loc main_arg1)
abbrev A2 : FVec Ideal S2x1024x2824 .f32 := m ((c : Thread nD τ).loc main_arg2)
abbrev A3 : FVec Ideal S2x2x256 .f32 := m ((c : Thread nD τ).loc main_arg3)
abbrev A4 : FVec Ideal S2x3x768 .f32 := m ((c : Thread nD τ).loc main_arg4)
abbrev A5 : FVec Ideal S2x3x256 .f32 := m ((c : Thread nD τ).loc main_arg5)
abbrev A6 : FVec Ideal S2x4x768 .f32 := m ((c : Thread nD τ).loc main_arg6)
abbrev A7 : FVec Ideal S2x4 .f32 := m ((c : Thread nD τ).loc main_arg7)
abbrev A8 : FVec Ideal S2x4 .f32 := m ((c : Thread nD τ).loc main_arg8)

variable (t : Fin cfg0.N) (r : Fin 512)

/-! ## The blocks a grid point reads -/

theorem read0 (j : Fin 1024) : (iblk m c 0 t : Vec Ideal S1x512x1024 .f32) (ix3 0 r j)
    = (m ((c : Thread nD τ).loc main_arg0) : FVec Ideal S2x8192x1024 .f32) (ix3 (bt t) (tok t r) j) := by
  unfold bt tok
  blk_ext [iblk, V_main_arg0, idx t]

theorem read1 (j : Fin 1024) : (iblk m c 1 t : Vec Ideal S1x1x1024 .f32) (ix3 0 0 j)
    = (m ((c : Thread nD τ).loc main_arg1) : FVec Ideal S2x1x6144 .f32) (ix3 (bt t) 0 ⟨0 + j.val, by omega⟩) := by
  unfold bt
  blk_ext [iblk, V_main_arg1, idx t]

theorem read2 (j : Fin 1024) : (iblk m c 2 t : Vec Ideal S1x1x1024 .f32) (ix3 0 0 j)
    = (m ((c : Thread nD τ).loc main_arg1) : FVec Ideal S2x1x6144 .f32) (ix3 (bt t) 0 ⟨1024 + j.val, by omega⟩) := by
  unfold bt
  blk_ext [iblk, V_main_arg1, idx t]

theorem read3 (j : Fin 1024) (i : Fin 2944) : (iblk m c 3 t : Vec Ideal S1x1024x2944 .bf16) (ix3 0 j i)
    = (V m c main_v5 : FVec Ideal S2x1024x2944 .bf16) (ix3 1 j i) := by
  blk_ext [iblk, idx t]

theorem read4 (q : Fin 8) (d : Fin 256) : (iblk m c 4 t : Vec Ideal S1x8x256 .f32) (ix3 0 q d)
    = (V m c main_v24 : FVec Ideal S2x8x256 .f32) (ix3 (bt t) q d) := by
  unfold bt
  blk_ext [iblk, idx t]

theorem read5 (q : Fin 8) (d : Fin 768) : (iblk m c 5 t : Vec Ideal S1x8x768 .f32) (ix3 0 q d)
    = (V m c main_v25 : FVec Ideal S2x8x768 .f32) (ix3 (bt t) q d) := by
  unfold bt
  blk_ext [iblk, idx t]

theorem read6 (k : Fin 3) (d : Fin 256) : (iblk m c 6 t : Vec Ideal S3x256 .f32) (ix2 k d) = A5 m c (ix3 1 k d) := by
  have h : (iblk m c 6 t : Vec Ideal S3x256 .f32) (ix2 k d) = (V m c main_v7 : FVec Ideal S3x256 .f32) (ix2 k d) := by
    blk_ext [iblk, idx t]
  exact h.trans (host7 m c k d)

theorem read7 (k : Fin 4) (d : Fin 768) : (iblk m c 7 t : Vec Ideal S4x768 .f32) (ix2 k d) = A6 m c (ix3 1 k d) := by
  have h : (iblk m c 7 t : Vec Ideal S4x768 .f32) (ix2 k d) = (V m c main_v9 : FVec Ideal S4x768 .f32) (ix2 k d) := by
    blk_ext [iblk, idx t]
  exact h.trans (host9 m c k d)

theorem read8 (j : Fin 4) : (iblk m c 8 t : Vec Ideal S1x128 .f32) (ix2 0 ⟨4 + j.val, by omega⟩) = A7 m c (ix2 1 j) := by
  have h : (iblk m c 8 t : Vec Ideal S1x128 .f32) (ix2 0 ⟨4 + j.val, by omega⟩) = (V m c main_v16 : FVec Ideal S1x128 .f32) (ix2 0 ⟨4 + j.val, by omega⟩) := by
    blk_ext [iblk, idx t]
  exact h.trans (host16 m c j)

theorem read9 (j : Fin 4) : (iblk m c 9 t : Vec Ideal S1x128 .f32) (ix2 0 ⟨4 + j.val, by omega⟩) = A8 m c (ix2 1 j) := by
  have h : (iblk m c 9 t : Vec Ideal S1x128 .f32) (ix2 0 ⟨4 + j.val, by omega⟩) = (V m c main_v23 : FVec Ideal S1x128 .f32) (ix2 0 ⟨4 + j.val, by omega⟩) := by
    blk_ext [iblk, idx t]
  exact h.trans (host23 m c j)

/-! ## The point's projection -/

def P : FVec Ideal S512x2944 .f32 := k0_pay5 (iblk m c 0 t) (iblk m c 2 t) (iblk m c 1 t) (iblk m c 3 t)

/-- A column of the point's projection is the problem's, the columns behind the gates moved by the gap. -/
theorem P_at (i : Fin 2944) (h : ¬ (2056 ≤ i.val ∧ i.val < 2176)) :
    P m c t (ix2 r i) = pr (A0 m c) (A1 m c) (A2 m c) (bt t) (tok t r) (if h' : i.val < 2056 then ⟨i.val, by omega⟩ else ⟨i.val - 120, by omega⟩) := by
  unfold P
  refine (proj_at _ _ _ _ r i).trans ?_
  unfold pr hid mv
  refine Finset.sum_congr rfl fun j _ => ?_
  refine congrArg₂ (· * ·) ?_ ((read3 m c t j i).trans (host5 m c j i h))
  refine congrFun ?_ j
  have e0 : (fun j => (iblk m c 0 t : Vec Ideal S1x512x1024 .f32) (ix3 0 r j)) = fun j => A0 m c (ix3 (bt t) (tok t r) j) := funext fun j => read0 m c t r j
  have e1 : (fun j => (iblk m c 1 t : Vec Ideal S1x1x1024 .f32) (ix3 0 0 j)) = fun j : Fin 1024 => A1 m c (ix3 (bt t) 0 ⟨0 + j.val, by omega⟩) := funext fun j => read1 m c t j
  have e2 : (fun j => (iblk m c 2 t : Vec Ideal S1x1x1024 .f32) (ix3 0 0 j)) = fun j : Fin 1024 => A1 m c (ix3 (bt t) 0 ⟨1024 + j.val, by omega⟩) := funext fun j => read2 m c t j
  exact (congrFun (congrFun (congrArg modu e0) _) _).trans ((congrFun (congrArg _ e2) _).trans (congrArg _ e1))

theorem P_lo (i : Fin 2944) (h : i.val < 2056) : P m c t (ix2 r i) = pr (A0 m c) (A1 m c) (A2 m c) (bt t) (tok t r) ⟨i.val, by omega⟩ :=
  (P_at m c t r i (by omega)).trans (by rw [dif_pos h])

theorem P_hi (i : Fin 2944) (i' : Fin 2824) (h : 2176 ≤ i.val) (h' : i'.val + 120 = i.val) : P m c t (ix2 r i) = pr (A0 m c) (A1 m c) (A2 m c) (bt t) (tok t r) i' :=
  (P_at m c t r i (by omega)).trans (by
    rw [dif_neg (by omega)]
    exact congrArg _ (Fin.ext (show i.val - 120 = i'.val by omega)))

/-! ## The rows before the point -/

def before (h : t.val % 16 ≠ 0) : Fin cfg0.N := ⟨t.val - 1, lt_of_le_of_lt (Nat.sub_le _ _) t.isLt⟩

def prevZ : FVec Ideal S8x256 .f32 := if h : t.val % 16 = 0 then k0_pay3 (iblk m c 4 t) else k0_pay29 (k0_pay24 (P m c (before t h)))
def prevX : FVec Ideal S8x768 .f32 := if h : t.val % 16 = 0 then k0_pay4 (iblk m c 5 t) else k0_pay35 (k0_pay31 (P m c (before t h)))

theorem carryZ : (outsAt0 m c t.val t.isLt).2.2.2.2.2.2.2.2.2.2.2.2.1 = k0_pay29 (k0_pay24 (P m c t)) := by
  by_cases h0 : t.val % 16 = 0
  · rw [outsAt0_A m c t h0]
    frame_out
    rfl
  · rw [outsAt0_B m c t h0]
    frame_out
    rfl

theorem carryX : (outsAt0 m c t.val t.isLt).2.2.2.2.2.2.2.2.2.2.2.2.2 = k0_pay35 (k0_pay31 (P m c t)) := by
  by_cases h0 : t.val % 16 = 0
  · rw [outsAt0_A m c t h0]
    frame_out
    rfl
  · rw [outsAt0_B m c t h0]
    frame_out
    rfl

theorem zT_at (d : Fin 256) : zT (P m c t) d r = zS (A0 m c) (A1 m c) (A2 m c) (bt t) d (tok t r) := by
  unfold zT zS
  rw [P_lo m c t r _ (by show 512 + d.val < 2056; omega), P_lo m c t r _ (by show 768 + d.val < 2056; omega)]
  rfl

theorem xT_at (d : Fin 768) : xT (P m c t) d r = xS (A0 m c) (A1 m c) (A2 m c) (bt t) d (tok t r) := by
  unfold xT xS
  rw [P_lo m c t r _ (by show 1024 + d.val < 2056; omega)]
  rfl

theorem prevZ_at (d : Fin 256) (q : Fin 8) (hq : 8 ≤ q.val + 2) :
    prevZ m c t (ix2 q d) = zC (A0 m c) (A1 m c) (A2 m c) (A3 m c) (bt t) d (512 * (t.val % 16) + (q.val + 2 - 8)) := by
  have h32 := lt32 t
  unfold prevZ zC
  by_cases h0 : t.val % 16 = 0
  · rw [dif_pos h0, pay3_at, read4, ser_of_lt _ _ _ (by omega)]
    have e := host24 m c (bt t) ⟨q.val - 6, by omega⟩ d
    refine Eq.trans (congrArg (fun k => (V m c main_v24 : FVec Ideal S2x8x256 .f32) (ix3 (bt t) k d)) (Fin.ext (show q.val = 6 + (q.val - 6) by omega))) (e.trans ?_)
    exact congrArg (fun k => A3 m c (ix3 (bt t) k d)) (Fin.ext (show q.val - 6 = 512 * (t.val % 16) + (q.val + 2 - 8) by omega))
  · rw [dif_neg h0, pay29_at, zT_at, ser_of_le _ _ _ (by omega) (by omega)]
    have eb : bt (before t h0) = bt t := Fin.ext (show (t.val - 1) / 16 = t.val / 16 by omega)
    rw [eb]
    exact congrArg _ (Fin.ext (show 512 * ((t.val - 1) % 16) + (504 + q.val) = 512 * (t.val % 16) + (q.val + 2 - 8) - 2 by omega))

theorem prevX_at (d : Fin 768) (q : Fin 8) (hq : 8 ≤ q.val + 3) :
    prevX m c t (ix2 q d) = xC (A0 m c) (A1 m c) (A2 m c) (A4 m c) (bt t) d (512 * (t.val % 16) + (q.val + 3 - 8)) := by
  have h32 := lt32 t
  unfold prevX xC
  by_cases h0 : t.val % 16 = 0
  · rw [dif_pos h0, pay4_at, read5, ser_of_lt _ _ _ (by omega)]
    have e := host25 m c (bt t) ⟨q.val - 5, by omega⟩ d
    refine Eq.trans (congrArg (fun k => (V m c main_v25 : FVec Ideal S2x8x768 .f32) (ix3 (bt t) k d)) (Fin.ext (show q.val = 5 + (q.val - 5) by omega))) (e.trans ?_)
    exact congrArg (fun k => A4 m c (ix3 (bt t) k d)) (Fin.ext (show q.val - 5 = 512 * (t.val % 16) + (q.val + 3 - 8) by omega))
  · rw [dif_neg h0, pay35_at, xT_at, ser_of_le _ _ _ (by omega) (by omega)]
    have eb : bt (before t h0) = bt t := Fin.ext (show (t.val - 1) / 16 = t.val / 16 by omega)
    rw [eb]
    exact congrArg _ (Fin.ext (show 512 * ((t.val - 1) % 16) + (504 + q.val) = 512 * (t.val % 16) + (q.val + 3 - 8) - 3 by omega))

theorem downZ (d : Fin 256) (s : ℕ) (hs : s ≤ 2) : down s (zT (P m c t) d) (fun q => prevZ m c t (ix2 q d)) r
    = zC (A0 m c) (A1 m c) (A2 m c) (A3 m c) (bt t) d ((tok t r).val + (2 - s)) :=
  down_ser (by decide) _ _ (t.val % 16) (Nat.mod_lt _ (by decide)) _ _ (fun r => zT_at m c t r d) (fun q hq => prevZ_at m c t d q hq) s hs r

theorem downX (d : Fin 768) (s : ℕ) (hs : s ≤ 3) : down s (xT (P m c t) d) (fun q => prevX m c t (ix2 q d)) r
    = xC (A0 m c) (A1 m c) (A2 m c) (A4 m c) (bt t) d ((tok t r).val + (3 - s)) :=
  down_ser (by decide) _ _ (t.val % 16) (Nat.mod_lt _ (by decide)) _ _ (fun r => xT_at m c t r d) (fun q hq => prevX_at m c t d q hq) s hs r

/-! ## The blocks the point leaves -/

theorem blk10 (d : Fin 256) : (outsAt0 m c t.val t.isLt).1 (ix3 0 r d) = pr (A0 m c) (A1 m c) (A2 m c) (bt t) (tok t r) (col 0 (by decide) d) := by
  have e : (outsAt0 m c t.val t.isLt).1 = k0_pay7 (k0_pay6 (iblk m c 0 t) (iblk m c 2 t) (iblk m c 1 t) (iblk m c 3 t)) := by
    by_cases h0 : t.val % 16 = 0
    · rw [outsAt0_A m c t h0]
      frame_out
    · rw [outsAt0_B m c t h0]
      frame_out
  rw [e]
  refine (pay7_at r _ _ _ _ d).trans ((P_lo m c t r ⟨d.val, by omega⟩ (by show d.val < 2056; omega)).trans ?_)
  exact congrArg _ (Fin.ext (show d.val = 0 + d.val by omega))

theorem blk11 (d : Fin 256) : (outsAt0 m c t.val t.isLt).2.1 (ix3 0 r d) = pr (A0 m c) (A1 m c) (A2 m c) (bt t) (tok t r) (col 1792 (by decide) d) := by
  have e : (outsAt0 m c t.val t.isLt).2.1 = k0_pay8 (P m c t) := by
    by_cases h0 : t.val % 16 = 0
    · rw [outsAt0_A m c t h0]
      frame_out
      rfl
    · rw [outsAt0_B m c t h0]
      frame_out
      rfl
  rw [e]
  exact (pay8_at (P m c t) r d).trans (P_lo m c t r ⟨1792 + d.val, by omega⟩ (by show 1792 + d.val < 2056; omega))

theorem blk12 (d : Fin 256) : (outsAt0 m c t.val t.isLt).2.2.1 (ix3 0 r d) = pr (A0 m c) (A1 m c) (A2 m c) (bt t) (tok t r) (col 2312 (by decide) d) := by
  have e : (outsAt0 m c t.val t.isLt).2.2.1 = k0_pay9 (P m c t) := by
    by_cases h0 : t.val % 16 = 0
    · rw [outsAt0_A m c t h0]
      frame_out
      rfl
    · rw [outsAt0_B m c t h0]
      frame_out
      rfl
  rw [e]
  exact (pay9_at (P m c t) r d).trans (P_hi m c t r ⟨2432 + d.val, by omega⟩ _ (by show 2176 ≤ 2432 + d.val; omega) (by show 2312 + d.val + 120 = 2432 + d.val; omega))

theorem blk13 (d : Fin 256) : (outsAt0 m c t.val t.isLt).2.2.2.1 (ix3 0 r d) = pr (A0 m c) (A1 m c) (A2 m c) (bt t) (tok t r) (col 2568 (by decide) d) := by
  have e : (outsAt0 m c t.val t.isLt).2.2.2.1 = k0_pay10 (P m c t) := by
    by_cases h0 : t.val % 16 = 0
    · rw [outsAt0_A m c t h0]
      frame_out
      rfl
    · rw [outsAt0_B m c t h0]
      frame_out
      rfl
  rw [e]
  exact (pay10_at (P m c t) r d).trans (P_hi m c t r ⟨2688 + d.val, by omega⟩ _ (by show 2176 ≤ 2688 + d.val; omega) (by show 2568 + d.val + 120 = 2688 + d.val; omega))

theorem blk14 (h : Fin 4) (k : Fin 64) : (outsAt0 m c t.val t.isLt).2.2.2.2.1 (ix4 0 h r k)
    = pr (A0 m c) (A1 m c) (A2 m c) (bt t) (tok t r) (hcol 2056 (by decide) h k) := by
  have e : (outsAt0 m c t.val t.isLt).2.2.2.2.1 (ix4 0 h r k) = P m c t (ix2 r ⟨2176 + (h.val * 64 + k.val), by omega⟩) := by
    by_cases h0 : t.val % 16 = 0
    · rw [outsAt0_A m c t h0]
      frame_out
      rw [show k0_pay5 (iblk m c 0 t) (iblk m c 2 t) (iblk m c 1 t) (iblk m c 3 t) = P m c t from rfl]
      generalize P m c t = Q
      canon_tiles x hx
      all_goals (open_payloads; pointwise; blk_ext)
      all_goals
        have a1 : h.val = _ := hx1
        have a2 : r.val = _ := hx2
        have a3 : k.val = _ := hx3
        omega
    · rw [outsAt0_B m c t h0]
      frame_out
      rw [show k0_pay5 (iblk m c 0 t) (iblk m c 2 t) (iblk m c 1 t) (iblk m c 3 t) = P m c t from rfl]
      generalize P m c t = Q
      canon_tiles x hx
      all_goals (open_payloads; pointwise; blk_ext)
      all_goals
        have a1 : h.val = _ := hx1
        have a2 : r.val = _ := hx2
        have a3 : k.val = _ := hx3
        omega
  rw [e]
  exact P_hi m c t r _ _ (by show 2176 ≤ 2176 + (h.val * 64 + k.val); omega) (by show 2056 + (h.val * 64 + k.val) + 120 = 2176 + (h.val * 64 + k.val); omega)

theorem blk15 (h : Fin 4) (k : Fin 64) : (outsAt0 m c t.val t.isLt).2.2.2.2.2.1 (ix4 0 h r k)
    = pr (A0 m c) (A1 m c) (A2 m c) (bt t) (tok t r) (hcol 2312 (by decide) h k) := by
  have e : (outsAt0 m c t.val t.isLt).2.2.2.2.2.1 (ix4 0 h r k) = P m c t (ix2 r ⟨2432 + (h.val * 64 + k.val), by omega⟩) := by
    by_cases h0 : t.val % 16 = 0
    · rw [outsAt0_A m c t h0]
      frame_out
      rw [show k0_pay5 (iblk m c 0 t) (iblk m c 2 t) (iblk m c 1 t) (iblk m c 3 t) = P m c t from rfl]
      generalize P m c t = Q
      canon_tiles x hx
      all_goals (open_payloads; pointwise; blk_ext)
      all_goals
        have a1 : h.val = _ := hx1
        have a2 : r.val = _ := hx2
        have a3 : k.val = _ := hx3
        omega
    · rw [outsAt0_B m c t h0]
      frame_out
      rw [show k0_pay5 (iblk m c 0 t) (iblk m c 2 t) (iblk m c 1 t) (iblk m c 3 t) = P m c t from rfl]
      generalize P m c t = Q
      canon_tiles x hx
      all_goals (open_payloads; pointwise; blk_ext)
      all_goals
        have a1 : h.val = _ := hx1
        have a2 : r.val = _ := hx2
        have a3 : k.val = _ := hx3
        omega
  rw [e]
  exact P_hi m c t r _ _ (by show 2176 ≤ 2432 + (h.val * 64 + k.val); omega) (by show 2312 + (h.val * 64 + k.val) + 120 = 2432 + (h.val * 64 + k.val); omega)

theorem blk16 (h : Fin 4) (k : Fin 64) : (outsAt0 m c t.val t.isLt).2.2.2.2.2.2.1 (ix4 0 h r k)
    = pr (A0 m c) (A1 m c) (A2 m c) (bt t) (tok t r) (hcol 2568 (by decide) h k) := by
  have e : (outsAt0 m c t.val t.isLt).2.2.2.2.2.2.1 (ix4 0 h r k) = P m c t (ix2 r ⟨2688 + (h.val * 64 + k.val), by omega⟩) := by
    by_cases h0 : t.val % 16 = 0
    · rw [outsAt0_A m c t h0]
      frame_out
      rw [show k0_pay5 (iblk m c 0 t) (iblk m c 2 t) (iblk m c 1 t) (iblk m c 3 t) = P m c t from rfl]
      generalize P m c t = Q
      canon_tiles x hx
      all_goals (open_payloads; pointwise; blk_ext)
      all_goals
        have a1 : h.val = _ := hx1
        have a2 : r.val = _ := hx2
        have a3 : k.val = _ := hx3
        omega
    · rw [outsAt0_B m c t h0]
      frame_out
      rw [show k0_pay5 (iblk m c 0 t) (iblk m c 2 t) (iblk m c 1 t) (iblk m c 3 t) = P m c t from rfl]
      generalize P m c t = Q
      canon_tiles x hx
      all_goals (open_payloads; pointwise; blk_ext)
      all_goals
        have a1 : h.val = _ := hx1
        have a2 : r.val = _ := hx2
        have a3 : k.val = _ := hx3
        omega
  rw [e]
  exact P_hi m c t r _ _ (by show 2176 ≤ 2688 + (h.val * 64 + k.val); omega) (by show 2568 + (h.val * 64 + k.val) + 120 = 2688 + (h.val * 64 + k.val); omega)

theorem blk17 (d : Fin 256) : (outsAt0 m c t.val t.isLt).2.2.2.2.2.2.2.1 (ix3 0 r d) = ybS (A0 m c) (A1 m c) (A2 m c) (A3 m c) (A5 m c) (bt t) (tok t r) d := by
  have e : (outsAt0 m c t.val t.isLt).2.2.2.2.2.2.2.1 = k0_pay28 (k0_pay23 (P m c t)) (k0_pay24 (P m c t)) (prevZ m c t) (k0_pay25 (iblk m c 6 t))
      (k0_pay26 (P m c t) (prevZ m c t) (iblk m c 6 t)) (k0_pay27 (P m c t)) (iota .tc S8x256 32 [0] iota_S8x256_d0_w32) := by
    by_cases h0 : t.val % 16 = 0
    · rw [show prevZ m c t = _ from dif_pos h0, outsAt0_A m c t h0]
      frame_out
      rfl
    · rw [show prevZ m c t = _ from dif_neg h0, outsAt0_B m c t h0]
      frame_out
      have hc : ∀ (hw : (scM0_0).IsWhole) (pf : t.val - 1 < cfg0.N), View.read (Elt Ideal) (View.whole cc0_scratch0) (hw.unread (outsAt0 m c (t.val - 1) pf).2.2.2.2.2.2.2.2.2.2.2.2.1)
          = k0_pay29 (k0_pay24 (P m c (before t h0))) := fun hw pf => (hw.read_unread _).trans (carryZ m c (before t h0))
      rw [hc]
      rfl
  rw [e]
  refine (pay28_at (P m c t) r _ _ d).trans ?_
  rw [downZ m c t r d 2 (by decide), downZ m c t r d 1 (by decide), show zT (P m c t) d r = zC (A0 m c) (A1 m c) (A2 m c) (A3 m c) (bt t) d ((tok t r).val + 2) from
    (zT_at m c t r d).trans (by unfold zC; rw [ser_of_le _ _ _ (by omega) (by have := (tok t r).isLt; omega)]; rfl),
    P_lo m c t r _ (by show 256 + d.val < 2056; omega), read6, read6, read6]
  rfl

/-- The fourth branch's convolution. -/
theorem conv4_at (d : Fin 768) : conv4 (xT (P m c t) d) (fun q => prevX m c t (ix2 q d)) (fun k => (iblk m c 7 t : Vec Ideal S4x768 .f32) (ix2 k d)) r
    = cS (A0 m c) (A1 m c) (A2 m c) (A4 m c) (A6 m c) (bt t) (tok t r) d := by
  unfold conv4 cS
  rw [downX m c t r d 3 (by decide), downX m c t r d 2 (by decide), downX m c t r d 1 (by decide), show xT (P m c t) d r = xC (A0 m c) (A1 m c) (A2 m c) (A4 m c) (bt t) d ((tok t r).val + 3) from
    (xT_at m c t r d).trans (by unfold xC; rw [ser_of_le _ _ _ (by omega) (by have := (tok t r).isLt; omega)]; rfl),
    ← read7 m c t, ← read7 m c t, ← read7 m c t, ← read7 m c t]
  rfl

/-- And its activation. -/
def act : FVec Ideal S512x768 .f32 := (k0_pay38 (k0_pay31 (P m c t)) (prevX m c t) (k0_pay32 (iblk m c 7 t)) (k0_pay33 (P m c t)) (k0_pay34 (P m c t) (prevX m c t)))

theorem act_at (d : Fin 768) : act m c t (ix2 r d) = aS (A0 m c) (A1 m c) (A2 m c) (A4 m c) (A6 m c) (bt t) (tok t r) d := by
  unfold act
  refine (pay38_at (P m c t) r _ _ d).trans ?_
  rw [conv4_at]
  rfl

theorem blk18 (i : Fin 768) : (outsAt0 m c t.val t.isLt).2.2.2.2.2.2.2.2.1 (ix3 0 r i)
    = if h : i.val < 256 then unit (fun j => aS (A0 m c) (A1 m c) (A2 m c) (A4 m c) (A6 m c) (bt t) (tok t r) ⟨j.val, by omega⟩) ⟨i.val, h⟩ * Ideal.ofBits .f32 0x3E000000#32
      else if h' : i.val < 512 then unit (fun j => aS (A0 m c) (A1 m c) (A2 m c) (A4 m c) (A6 m c) (bt t) (tok t r) ⟨256 + j.val, by omega⟩) ⟨i.val - 256, by omega⟩
      else aS (A0 m c) (A1 m c) (A2 m c) (A4 m c) (A6 m c) (bt t) (tok t r) i := by
  have e : (outsAt0 m c t.val t.isLt).2.2.2.2.2.2.2.2.1 = k0_pay1 (k0_pay40 (k0_pay38 (k0_pay31 (P m c t)) (prevX m c t) (k0_pay32 (iblk m c 7 t)) (k0_pay33 (P m c t)) (k0_pay34 (P m c t) (prevX m c t))))
      (k0_pay42 (k0_pay39 (k0_pay31 (P m c t)) (prevX m c t) (k0_pay32 (iblk m c 7 t)) (k0_pay33 (P m c t)) (k0_pay34 (P m c t) (prevX m c t))))
      (k0_pay43 (k0_pay38 (k0_pay31 (P m c t)) (prevX m c t) (k0_pay32 (iblk m c 7 t)) (k0_pay33 (P m c t)) (k0_pay34 (P m c t) (prevX m c t)))) := by
    by_cases h0 : t.val % 16 = 0
    · rw [show prevX m c t = _ from dif_pos h0, outsAt0_A m c t h0]
      frame_out
      rfl
    · rw [show prevX m c t = _ from dif_neg h0, outsAt0_B m c t h0]
      frame_out
      have hc : ∀ (hw : (scM0_1).IsWhole) (pf : t.val - 1 < cfg0.N), View.read (Elt Ideal) (View.whole cc0_scratch1) (hw.unread (outsAt0 m c (t.val - 1) pf).2.2.2.2.2.2.2.2.2.2.2.2.2)
          = k0_pay35 (k0_pay31 (P m c (before t h0))) := fun hw pf => (hw.read_unread _).trans (carryX m c (before t h0))
      rw [hc]
      rfl
  rw [e]
  refine (pay1_at r _ _ _ i).trans ?_
  by_cases h : i.val < 256
  · rw [dif_pos h, dif_pos h, pay42_at]
    exact congrArg (fun f => unit f ⟨i.val, h⟩ * Ideal.ofBits .f32 0x3E000000#32) (funext fun j => (pay39_at r _ _ _ _ _ j).trans (act_at m c t r ⟨j.val, by omega⟩))
  · rw [dif_neg h, dif_neg h]
    by_cases h' : i.val < 512
    · rw [dif_pos h', dif_pos h', pay43_at]
      exact congrArg (fun f => unit f ⟨i.val - 256, by omega⟩) (funext fun j => act_at m c t r ⟨256 + j.val, by omega⟩)
    · rw [dif_neg h', dif_neg h', pay40_at]
      refine (act_at m c t r ⟨512 + (i.val - 512), by omega⟩).trans ?_
      exact congrArg _ (Fin.ext (show 512 + (i.val - 512) = i.val by omega))

theorem blk19 (i : Fin 8) : (outsAt0 m c t.val t.isLt).2.2.2.2.2.2.2.2.2.1 (ix3 0 r ⟨i.val, by omega⟩) = gbS (A0 m c) (A1 m c) (A2 m c) (A7 m c) (A8 m c) (bt t) (tok t r) i := by
  have e : (outsAt0 m c t.val t.isLt).2.2.2.2.2.2.2.2.2.1 = k0_pay2 (k0_pay37 (P m c t)) (k0_pay44 (k0_pay37 (P m c t))) (k0_pay45 (iblk m c 8 t)) (iblk m c 9 t) := by
    by_cases h0 : t.val % 16 = 0
    · rw [outsAt0_A m c t h0]
      frame_out
      rfl
    · rw [outsAt0_B m c t h0]
      frame_out
      rfl
  rw [e]
  refine (pay2_at (P m c t) r _ _ ⟨i.val, by omega⟩).trans ?_
  unfold gbS
  rw [P_lo m c t r _ (by show 2048 + i.val < 2056; omega)]
  by_cases h : i.val < 4
  · rw [if_pos h, dif_pos h]
    rfl
  · rw [if_neg h, dif_neg h]
    have e : (⟨i.val, by omega⟩ : Fin 128) = ⟨4 + (⟨i.val - 4, by omega⟩ : Fin 4).val, by show 4 + (i.val - 4) < 128; omega⟩ := Fin.ext (show i.val = 4 + (i.val - 4) by omega)
    exact congrArg₂ (fun a b => (0 - Ideal.exp a) * soft (pr (A0 m c) (A1 m c) (A2 m c) (bt t) (tok t r) (col 2048 (by decide) i) + b))
      ((congrArg (fun k => (iblk m c 8 t : Vec Ideal S1x128 .f32) (ix2 0 k)) e).trans (read8 m c t ⟨i.val - 4, by omega⟩))
      ((congrArg (fun k => (iblk m c 9 t : Vec Ideal S1x128 .f32) (ix2 0 k)) e).trans (read9 m c t ⟨i.val - 4, by omega⟩))

theorem blk20 (q : Fin 8) (d : Fin 256) : (outsAt0 m c t.val t.isLt).2.2.2.2.2.2.2.2.2.2.1 (ix3 0 q d) = zS (A0 m c) (A1 m c) (A2 m c) (bt t) d (tok t ⟨504 + q.val, by omega⟩) := by
  have e : (outsAt0 m c t.val t.isLt).2.2.2.2.2.2.2.2.2.2.1 = k0_pay30 (k0_pay24 (P m c t)) := by
    by_cases h0 : t.val % 16 = 0
    · rw [outsAt0_A m c t h0]
      frame_out
      rfl
    · rw [outsAt0_B m c t h0]
      frame_out
      rfl
  rw [e]
  exact (pay30_at (P m c t) q d).trans (zT_at m c t _ d)

theorem blk21 (q : Fin 8) (d : Fin 768) : (outsAt0 m c t.val t.isLt).2.2.2.2.2.2.2.2.2.2.2.1 (ix3 0 q d) = xS (A0 m c) (A1 m c) (A2 m c) (bt t) d (tok t ⟨504 + q.val, by omega⟩) := by
  have e : (outsAt0 m c t.val t.isLt).2.2.2.2.2.2.2.2.2.2.2.1 = k0_pay36 (k0_pay31 (P m c t)) := by
    by_cases h0 : t.val % 16 = 0
    · rw [outsAt0_A m c t h0]
      frame_out
      rfl
    · rw [outsAt0_B m c t h0]
      frame_out
      rfl
  rw [e]
  exact (pay36_at (P m c t) q d).trans (xT_at m c t _ d)

end Cert.INP

end
-- ==== Proof.INP.Fin.lean ====
module

public import proofs.«01_k».proof.Proof.INP.Spec

@[expose] public section

/-! With finite arguments the fourth branch's activations are real numbers, so that what the rounding of their squares
    leaves is zero and the kernel's way to normalise a head is the plain one. -/

noncomputable section

namespace Cert.INP

open Cert.Kernel3Ideal
open Idealize.ShloMosaic Idealize.ShloMosaic.TcCoe
open Cert.MIX (modu mv)

/-- An extended real that is a real. -/
def IsR (a : EReal) : Prop := ∃ r : ℝ, a = (r : EReal)

theorem IsR.add {a b : EReal} : IsR a → IsR b → IsR (a + b) := fun ⟨x, hx⟩ ⟨y, hy⟩ => ⟨x + y, by rw [hx, hy, EReal.coe_add]⟩
theorem IsR.sub {a b : EReal} : IsR a → IsR b → IsR (a - b) := fun ⟨x, hx⟩ ⟨y, hy⟩ => ⟨x - y, by rw [hx, hy, EReal.coe_sub]⟩
theorem IsR.mul {a b : EReal} : IsR a → IsR b → IsR (a * b) := fun ⟨x, hx⟩ ⟨y, hy⟩ => ⟨x * y, by rw [hx, hy, EReal.coe_mul]⟩

theorem IsR.sum {n : ℕ} {f : Fin n → EReal} (h : ∀ j, IsR (f j)) : IsR (∑ j, f j) := by
  induction n with
  | zero => exact ⟨0, by simp⟩
  | succ n ih => rw [Fin.sum_univ_succ]; exact (h 0).add (ih fun j => h j.succ)

theorem IsR.one : IsR 1 := ⟨1, rfl⟩

theorem IsR.div {a : EReal} (ha : IsR a) {y : ℝ} (hy : y ≠ 0) : IsR (Ideal.div a (y : EReal)) := by
  obtain ⟨x, rfl⟩ := ha
  refine ⟨x * y⁻¹, ?_⟩
  unfold Ideal.div
  rw [if_neg (by exact_mod_cast hy), EReal.coe_mul, EReal.coe_inv]

theorem width_val : Cert.MIX.width = ((1024 : ℝ) : EReal) := by
  simp [Cert.MIX.width, Ideal.ofBits, Ideal.ieee, -EReal.coe_mul]; norm_num

theorem eps_val : ∃ e : ℝ, 0 < e ∧ Cert.MIX.eps = (e : EReal) := by
  refine ⟨_, ?_, by simp [Cert.MIX.eps, Ideal.ofBits, Ideal.ieee, -EReal.coe_mul]; rfl⟩
  norm_num

theorem rsqrt_real {x : ℝ} (hx : 0 < x) : IsR (Ideal.rsqrt (x : EReal)) := by
  refine ⟨(Real.sqrt x)⁻¹, ?_⟩
  show (if x < 0 then (⊥ : EReal) else if x = 0 then ⊤ else (((Real.sqrt x)⁻¹ : ℝ) : EReal)) = _
  rw [if_neg (by linarith), if_neg (ne_of_gt hx)]

theorem logistic_real {a : EReal} (h : IsR a) : IsR (Ideal.logistic a) := by
  obtain ⟨x, rfl⟩ := h
  have e : (1 : EReal) + Ideal.exp (-(x : EReal)) = ((1 + Real.exp (-x) : ℝ) : EReal) := by
    rw [← EReal.coe_neg, EReal.coe_add]
    rfl
  show IsR (Ideal.div 1 (1 + Ideal.exp (-(x : EReal))))
  rw [e]
  exact IsR.one.div (ne_of_gt (by positivity))

theorem nrm_real {f : Fin 1024 → EReal} (h : ∀ j, IsR (f j)) (i : Fin 1024) : IsR (Cert.MIX.nrm f i) := by
  have hc : ∀ j, IsR (Cert.MIX.cen f j) := fun j => by
    unfold Cert.MIX.cen Cert.MIX.mean
    rw [width_val]
    exact (h j).sub ((IsR.sum h).div (by norm_num))
  unfold Cert.MIX.nrm Cert.MIX.scaled
  refine (hc i).mul ?_
  choose g hg using hc
  obtain ⟨e, he, hE⟩ := eps_val
  have hs : (∑ j, Cert.MIX.cen f j * Cert.MIX.cen f j) = ((∑ j, g j * g j : ℝ) : EReal) := by
    rw [show ((∑ j, g j * g j : ℝ) : EReal) = ∑ j, ((g j * g j : ℝ) : EReal) from map_sum (⟨⟨Real.toEReal, rfl⟩, EReal.coe_add⟩ : ℝ →+ EReal) _ _]
    exact Finset.sum_congr rfl fun j _ => by rw [hg j, EReal.coe_mul]
  have hd : Ideal.div ((∑ j, g j * g j : ℝ) : EReal) ((1024 : ℝ) : EReal) = (((∑ j, g j * g j) * (1024 : ℝ)⁻¹ : ℝ) : EReal) := by
    unfold Ideal.div
    rw [if_neg (by exact_mod_cast (by norm_num : (1024 : ℝ) ≠ 0)), EReal.coe_mul, EReal.coe_inv]
  rw [hs, width_val, hd, hE, ← EReal.coe_add]
  refine rsqrt_real (add_pos_of_nonneg_of_pos (mul_nonneg (Finset.sum_nonneg fun j _ => mul_self_nonneg _) (by norm_num)) he)

section
variable (x : FVec Ideal S2x8192x1024 .f32) (md : FVec Ideal S2x1x6144 .f32) (w : FVec Ideal S2x1024x2824 .f32)
  (cd : FVec Ideal S2x3x768 .f32) (wd : FVec Ideal S2x4x768 .f32)
  (hx : ∀ i, IsR (x i)) (hmd : ∀ i, IsR (md i)) (hw : ∀ i, IsR (w i)) (hcd : ∀ i, IsR (cd i)) (hwd : ∀ i, IsR (wd i))

include hx hmd hw in
theorem pr_real (b : Fin 2) (p : Fin 8192) (i : Fin 2824) : IsR (pr x md w b p i) := by
  unfold pr mv hid modu
  exact IsR.sum fun j => (((nrm_real (fun j => hx _) j).mul (IsR.one.add (hmd _))).add (hmd _)).mul (hw _)

include hx hmd hw hcd in
theorem xC_real (b : Fin 2) (d : Fin 768) (q : ℕ) : IsR (xC x md w cd b d q) := by
  unfold xC ser
  split
  · exact hcd _
  · exact pr_real x md w hx hmd hw _ _ _

include hx hmd hw hcd hwd in
theorem aS_real (b : Fin 2) (p : Fin 8192) (i : Fin 768) : IsR (aS x md w cd wd b p i) := by
  have h : IsR (cS x md w cd wd b p i) := by
    have q := fun n => xC_real x md w cd hx hmd hw hcd b i n
    exact (((((q _).mul (hwd _)).add ((q _).mul (hwd _))).add ((q _).mul (hwd _))).add ((q _).mul (hwd _)))
  exact h.mul (logistic_real h)
end

/-! ## One head's sum of squares -/

theorem sum_heads (F : Fin 256 → EReal) : ∑ j, F j = ∑ a : Fin 4, ∑ k : Fin 64, F ⟨a.val * 64 + k.val, by omega⟩ := by
  rw [← Fintype.sum_prod_type' (f := fun (a : Fin 4) (k : Fin 64) => F ⟨a.val * 64 + k.val, by omega⟩)]
  exact (Fintype.sum_equiv (finProdFinEquiv (m := 4) (n := 64)) _ _ fun y => congrArg F (Fin.ext (show y.1.val * 64 + y.2.val = y.2.val + 64 * y.1.val by omega))).symm

theorem sum_head (g : Fin 256 → EReal) (h : Fin 4) : (∑ j, g j * (if j.val / 64 = h.val then 1 else 0)) = ∑ k : Fin 64, g ⟨h.val * 64 + k.val, by omega⟩ := by
  rw [sum_heads, Finset.sum_eq_single h]
  · exact Finset.sum_congr rfl fun k _ => by rw [if_pos (show (h.val * 64 + k.val) / 64 = h.val by omega), mul_one]
  · intro a _ ha
    refine Finset.sum_eq_zero fun k _ => ?_
    rw [if_neg (show ¬ (a.val * 64 + k.val) / 64 = h.val from fun e => ha (Fin.ext (by omega))), mul_zero]
  · intro e
    exact absurd (Finset.mem_univ h) e

theorem unit_eq (f : Fin 256 → EReal) (hf : ∀ j, IsR (f j)) (i : Fin 256) :
    unit f i = nrmH (fun k => f ⟨i.val / 64 * 64 + k.val, by omega⟩) ⟨i.val % 64, by omega⟩ := by
  unfold unit nrmH
  have z : (∑ j, (f j * f j - f j * f j) * (if j.val / 64 = i.val / 64 then (1 : EReal) else 0)) = 0 := by
    refine Finset.sum_eq_zero fun j _ => ?_
    obtain ⟨r, hr⟩ := (hf j).mul (hf j)
    rw [hr, ← EReal.coe_sub, sub_self, EReal.coe_zero, zero_mul]
  rw [z, add_zero, sum_head (fun j => f j * f j) ⟨i.val / 64, by omega⟩]
  refine congrArg (· * _) ?_
  exact congrArg f (Fin.ext (show i.val = i.val / 64 * 64 + i.val % 64 by omega))

end Cert.INP

end
-- ==== Proof.INP.Value.lean ====
module

public import proofs.«01_k».proof.Proof.INP.Block
public import proofs.«01_k».proof.Proof.INP.Fin
public import Idealize.ShloMosaic.Lib.Claim

@[expose] public section

set_option maxRecDepth 16384

/-! The arrays the input projection leaves, as functions of the nine arguments. -/

noncomputable section

namespace Cert.INP

open Cert.Kernel3Ideal Cert.Kernel3Ideal.Gen
open Idealize.ShloMosaic Idealize.ShloMosaic.TcCoe Idealize.SL.Sem
open Idealize.ShloMosaic.Pipeline (Dat)

/-- Keys and values before they are split into heads. -/
def flat (o : ℕ) (ho : o + 256 ≤ 2824) (x : FVec Ideal S2x8192x1024 .f32) (md : FVec Ideal S2x1x6144 .f32) (w : FVec Ideal S2x1024x2824 .f32) : FVec Ideal S2x8192x256 .f32 :=
  fun j => pr x md w (j 0) (j 1) (col o ho (j 2))

/-- The last eight rows of the second and of the fourth branch's series. -/
def lastZ (x : FVec Ideal S2x8192x1024 .f32) (md : FVec Ideal S2x1x6144 .f32) (w : FVec Ideal S2x1024x2824 .f32) : FVec Ideal S2x8x256 .f32 :=
  fun j => zS x md w (j 0) (j 2) ⟨8184 + (j 1).val, by have : (j 1).val < 8 := (j 1).isLt; omega⟩
def lastX (x : FVec Ideal S2x8192x1024 .f32) (md : FVec Ideal S2x1x6144 .f32) (w : FVec Ideal S2x1024x2824 .f32) : FVec Ideal S2x8x768 .f32 :=
  fun j => xS x md w (j 0) (j 2) ⟨8184 + (j 1).val, by have : (j 1).val < 8 := (j 1).isLt; omega⟩

variable (m : (ℓ : Loc nD τ sig) → Buf (Elt Ideal) ℓ) (c : Dev nD)

theorem place10 (t : Fin cfg0.N) (r : Fin 512) (i : Fin 256) : ((win0_10.blk t).view.emb (ix3 0 r i : S1x512x256.Idx) : S2x8192x256.Idx) = ix3 (bt t) (tok t r) i := by
  unfold bt tok
  blk_ext [idx t]

theorem final10 : (dats m 0 c).arrAt 10 cfg0.N = resU (A0 m c) (A1 m c) (A2 m c) := by
  refine (dats m 0 c).arrAt_eq_of_covers 10 _ (by decide +kernel) fun t hf y => ?_
  blk_simp
  rw [after0_10]
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine (congrArg (outsAt0 m c t.val t.isLt).1 hy).trans ((blk10 m c t r i).trans ?_)
  refine Eq.trans ?_ (congrArg (resU (A0 m c) (A1 m c) (A2 m c)) ((congrArg (win0_10.blk t).view.emb hy).trans (place10 t r i))).symm
  rfl

theorem place11 (t : Fin cfg0.N) (r : Fin 512) (i : Fin 256) : ((win0_11.blk t).view.emb (ix3 0 r i : S1x512x256.Idx) : S2x8192x256.Idx) = ix3 (bt t) (tok t r) i := by
  unfold bt tok
  blk_ext [idx t]

theorem final11 : (dats m 0 c).arrAt 11 cfg0.N = resZ (A0 m c) (A1 m c) (A2 m c) := by
  refine (dats m 0 c).arrAt_eq_of_covers 11 _ (by decide +kernel) fun t hf y => ?_
  blk_simp
  rw [after0_11]
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine (congrArg (outsAt0 m c t.val t.isLt).2.1 hy).trans ((blk11 m c t r i).trans ?_)
  refine Eq.trans ?_ (congrArg (resZ (A0 m c) (A1 m c) (A2 m c)) ((congrArg (win0_11.blk t).view.emb hy).trans (place11 t r i))).symm
  rfl

theorem place12 (t : Fin cfg0.N) (r : Fin 512) (i : Fin 256) : ((win0_12.blk t).view.emb (ix3 0 r i : S1x512x256.Idx) : S2x8192x256.Idx) = ix3 (bt t) (tok t r) i := by
  unfold bt tok
  blk_ext [idx t]

theorem final12 : (dats m 0 c).arrAt 12 cfg0.N = flat 2312 (by decide) (A0 m c) (A1 m c) (A2 m c) := by
  refine (dats m 0 c).arrAt_eq_of_covers 12 _ (by decide +kernel) fun t hf y => ?_
  blk_simp
  rw [after0_12]
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine (congrArg (outsAt0 m c t.val t.isLt).2.2.1 hy).trans ((blk12 m c t r i).trans ?_)
  refine Eq.trans ?_ (congrArg (flat 2312 (by decide) (A0 m c) (A1 m c) (A2 m c)) ((congrArg (win0_12.blk t).view.emb hy).trans (place12 t r i))).symm
  rfl

theorem place13 (t : Fin cfg0.N) (r : Fin 512) (i : Fin 256) : ((win0_13.blk t).view.emb (ix3 0 r i : S1x512x256.Idx) : S2x8192x256.Idx) = ix3 (bt t) (tok t r) i := by
  unfold bt tok
  blk_ext [idx t]

theorem final13 : (dats m 0 c).arrAt 13 cfg0.N = flat 2568 (by decide) (A0 m c) (A1 m c) (A2 m c) := by
  refine (dats m 0 c).arrAt_eq_of_covers 13 _ (by decide +kernel) fun t hf y => ?_
  blk_simp
  rw [after0_13]
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine (congrArg (outsAt0 m c t.val t.isLt).2.2.2.1 hy).trans ((blk13 m c t r i).trans ?_)
  refine Eq.trans ?_ (congrArg (flat 2568 (by decide) (A0 m c) (A1 m c) (A2 m c)) ((congrArg (win0_13.blk t).view.emb hy).trans (place13 t r i))).symm
  rfl

theorem place14 (t : Fin cfg0.N) (h : Fin 4) (r : Fin 512) (k : Fin 64) : ((win0_14.blk t).view.emb (ix4 0 h r k : S1x4x512x64.Idx) : S2x4x8192x64.Idx) = ix4 (bt t) h (tok t r) k := by
  unfold bt tok
  blk_ext [idx t]

theorem final14 : (dats m 0 c).arrAt 14 cfg0.N = resQh (A0 m c) (A1 m c) (A2 m c) := by
  refine (dats m 0 c).arrAt_eq_of_covers 14 _ (by decide +kernel) fun t hf y => ?_
  blk_simp
  rw [after0_14]
  obtain ⟨h, r, k, hy⟩ : ∃ (h : Fin 4) (r : Fin 512) (k : Fin 64), (y : S1x4x512x64.Idx) = ix4 0 h r k :=
    ⟨y 1, y 2, y 3, (Idealize.ShloMosaic.eq_ix4 (n0 := 1) (n1 := 4) (n2 := 512) (n3 := 64) y).trans (by rw [Subsingleton.elim (α := Fin 1) (y 0) 0])⟩
  refine (congrArg (outsAt0 m c t.val t.isLt).2.2.2.2.1 hy).trans ((blk14 m c t r h k).trans ?_)
  refine Eq.trans ?_ (congrArg (resQh (A0 m c) (A1 m c) (A2 m c)) ((congrArg (win0_14.blk t).view.emb hy).trans (place14 t h r k))).symm
  rfl

theorem place15 (t : Fin cfg0.N) (h : Fin 4) (r : Fin 512) (k : Fin 64) : ((win0_15.blk t).view.emb (ix4 0 h r k : S1x4x512x64.Idx) : S2x4x8192x64.Idx) = ix4 (bt t) h (tok t r) k := by
  unfold bt tok
  blk_ext [idx t]

theorem final15 : (dats m 0 c).arrAt 15 cfg0.N = resKh (A0 m c) (A1 m c) (A2 m c) := by
  refine (dats m 0 c).arrAt_eq_of_covers 15 _ (by decide +kernel) fun t hf y => ?_
  blk_simp
  rw [after0_15]
  obtain ⟨h, r, k, hy⟩ : ∃ (h : Fin 4) (r : Fin 512) (k : Fin 64), (y : S1x4x512x64.Idx) = ix4 0 h r k :=
    ⟨y 1, y 2, y 3, (Idealize.ShloMosaic.eq_ix4 (n0 := 1) (n1 := 4) (n2 := 512) (n3 := 64) y).trans (by rw [Subsingleton.elim (α := Fin 1) (y 0) 0])⟩
  refine (congrArg (outsAt0 m c t.val t.isLt).2.2.2.2.2.1 hy).trans ((blk15 m c t r h k).trans ?_)
  refine Eq.trans ?_ (congrArg (resKh (A0 m c) (A1 m c) (A2 m c)) ((congrArg (win0_15.blk t).view.emb hy).trans (place15 t h r k))).symm
  rfl

theorem place16 (t : Fin cfg0.N) (h : Fin 4) (r : Fin 512) (k : Fin 64) : ((win0_16.blk t).view.emb (ix4 0 h r k : S1x4x512x64.Idx) : S2x4x8192x64.Idx) = ix4 (bt t) h (tok t r) k := by
  unfold bt tok
  blk_ext [idx t]

theorem final16 : (dats m 0 c).arrAt 16 cfg0.N = resVh (A0 m c) (A1 m c) (A2 m c) := by
  refine (dats m 0 c).arrAt_eq_of_covers 16 _ (by decide +kernel) fun t hf y => ?_
  blk_simp
  rw [after0_16]
  obtain ⟨h, r, k, hy⟩ : ∃ (h : Fin 4) (r : Fin 512) (k : Fin 64), (y : S1x4x512x64.Idx) = ix4 0 h r k :=
    ⟨y 1, y 2, y 3, (Idealize.ShloMosaic.eq_ix4 (n0 := 1) (n1 := 4) (n2 := 512) (n3 := 64) y).trans (by rw [Subsingleton.elim (α := Fin 1) (y 0) 0])⟩
  refine (congrArg (outsAt0 m c t.val t.isLt).2.2.2.2.2.2.1 hy).trans ((blk16 m c t r h k).trans ?_)
  refine Eq.trans ?_ (congrArg (resVh (A0 m c) (A1 m c) (A2 m c)) ((congrArg (win0_16.blk t).view.emb hy).trans (place16 t h r k))).symm
  rfl

theorem place17 (t : Fin cfg0.N) (r : Fin 512) (i : Fin 256) : ((win0_17.blk t).view.emb (ix3 0 r i : S1x512x256.Idx) : S2x8192x256.Idx) = ix3 (bt t) (tok t r) i := by
  unfold bt tok
  blk_ext [idx t]

theorem final17 : (dats m 0 c).arrAt 17 cfg0.N = resYb (A0 m c) (A1 m c) (A2 m c) (A3 m c) (A5 m c) := by
  refine (dats m 0 c).arrAt_eq_of_covers 17 _ (by decide +kernel) fun t hf y => ?_
  blk_simp
  rw [after0_17]
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine (congrArg (outsAt0 m c t.val t.isLt).2.2.2.2.2.2.2.1 hy).trans ((blk17 m c t r i).trans ?_)
  refine Eq.trans ?_ (congrArg (resYb (A0 m c) (A1 m c) (A2 m c) (A3 m c) (A5 m c)) ((congrArg (win0_17.blk t).view.emb hy).trans (place17 t r i))).symm
  rfl

theorem place18 (t : Fin cfg0.N) (r : Fin 512) (i : Fin 768) : ((win0_18.blk t).view.emb (ix3 0 r i : S1x512x768.Idx) : S2x8192x768.Idx) = ix3 (bt t) (tok t r) i := by
  unfold bt tok
  blk_ext [idx t]

/-- What a grid point leaves of the fourth branch, where the arguments are reals. -/
theorem blk18' (hx : ∀ j, IsR (A0 m c j)) (hmd : ∀ j, IsR (A1 m c j)) (hw : ∀ j, IsR (A2 m c j)) (hcd : ∀ j, IsR (A4 m c j)) (hwd : ∀ j, IsR (A6 m c j))
    (t : Fin cfg0.N) (r : Fin 512) (i : Fin 768) : (outsAt0 m c t.val t.isLt).2.2.2.2.2.2.2.2.1 (ix3 0 r i)
    = qkvS (A0 m c) (A1 m c) (A2 m c) (A4 m c) (A6 m c) (bt t) (tok t r) i := by
  have ha := aS_real (A0 m c) (A1 m c) (A2 m c) (A4 m c) (A6 m c) hx hmd hw hcd hwd (bt t) (tok t r)
  rw [blk18]
  unfold qkvS
  by_cases h : i.val < 256
  · rw [dif_pos h, dif_pos h, unit_eq _ (fun j => ha _)]
    refine congrArg (fun f => nrmH f _ * _) (funext fun k => ?_)
    exact congrArg (aS (A0 m c) (A1 m c) (A2 m c) (A4 m c) (A6 m c) (bt t) (tok t r)) (Fin.ext (by show i.val / 64 * 64 + k.val = 0 + (i.val / 64 * 64 + k.val); omega))
  · rw [dif_neg h, dif_neg h]
    by_cases h' : i.val < 512
    · rw [dif_pos h', dif_pos h', unit_eq _ (fun j => ha _)]
      rfl
    · rw [dif_neg h', dif_neg h']

theorem final18 (hx : ∀ j, IsR (A0 m c j)) (hmd : ∀ j, IsR (A1 m c j)) (hw : ∀ j, IsR (A2 m c j)) (hcd : ∀ j, IsR (A4 m c j)) (hwd : ∀ j, IsR (A6 m c j)) :
    (dats m 0 c).arrAt 18 cfg0.N = resQkv (A0 m c) (A1 m c) (A2 m c) (A4 m c) (A6 m c) := by
  refine (dats m 0 c).arrAt_eq_of_covers 18 _ (by decide +kernel) fun t hf y => ?_
  blk_simp
  rw [after0_18]
  obtain ⟨r, i, hy⟩ : ∃ (r : Fin 512) (i : Fin 768), (y : S1x512x768.Idx) = ix3 0 r i :=
    ⟨y 1, y 2, (Idealize.ShloMosaic.eq_ix3 (n0 := 1) (n1 := 512) (n2 := 768) y).trans (by rw [Subsingleton.elim (α := Fin 1) (y 0) 0])⟩
  refine (congrArg (outsAt0 m c t.val t.isLt).2.2.2.2.2.2.2.2.1 hy).trans ((blk18' m c hx hmd hw hcd hwd t r i).trans ?_)
  refine Eq.trans ?_ (congrArg (resQkv (A0 m c) (A1 m c) (A2 m c) (A4 m c) (A6 m c)) ((congrArg (win0_18.blk t).view.emb hy).trans (place18 t r i))).symm
  rfl

theorem place19 (t : Fin cfg0.N) (r : Fin 512) (i : Fin 128) : ((win0_19.blk t).view.emb (ix3 0 r i : S1x512x128.Idx) : S2x8192x128.Idx) = ix3 (bt t) (tok t r) i := by
  unfold bt tok
  blk_ext [idx t]

/-- The gates stand in the first eight columns. -/
theorem final19 (b : Fin 2) (p : Fin 8192) (i : Fin 8) : ((dats m 0 c).arrAt 19 cfg0.N : FVec Ideal S2x8192x128 .f32) (ix3 b p ⟨i.val, by omega⟩)
    = gbS (A0 m c) (A1 m c) (A2 m c) (A7 m c) (A8 m c) b p i := by
  obtain ⟨t, ht⟩ : ∃ t : Fin cfg0.N, t.val = 16 * b.val + p.val / 512 := ⟨⟨16 * b.val + p.val / 512, lt_of_lt_of_eq (by omega) N_0.symm⟩, rfl⟩
  have hb : bt t = b := Fin.ext (by show t.val / 16 = b.val; omega)
  have hp : tok t ⟨p.val % 512, by omega⟩ = p := Fin.ext (by show 512 * (t.val % 16) + p.val % 512 = p.val; omega)
  have e : ((win0_19.blk t).view.emb (ix3 0 ⟨p.val % 512, by omega⟩ ⟨i.val, by omega⟩ : S1x512x128.Idx) : S2x8192x128.Idx) = ix3 b p ⟨i.val, by omega⟩ := by
    rw [place19, hb, hp]
  have hf : (cfg0.win 19).flush t = true := (by decide +kernel : ∀ t : Fin cfg0.N, (cfg0.win 19).flush t = true) t
  refine (congrArg ((dats m 0 c).arrAt 19 cfg0.N : FVec Ideal S2x8192x128 .f32) e.symm).trans ?_
  refine ((dats m 0 c).arrAt_emb_eq_flushed 19 (Pipeline.Window.hdisj_of_index_inj _ (by decide +kernel)) t hf (ix3 0 ⟨p.val % 512, by omega⟩ ⟨i.val, by omega⟩ : S1x512x128.Idx)).trans ?_
  blk_simp
  rw [after0_19]
  refine Eq.trans (blk19 m c t ⟨p.val % 512, by omega⟩ i) ?_
  rw [hb, hp]

theorem place20 (t : Fin cfg0.N) (q : Fin 8) (i : Fin 256) : ((win0_20.blk t).view.emb (ix3 0 q i : S1x8x256.Idx) : S2x8x256.Idx) = ix3 (bt t) q i := by
  unfold bt
  blk_ext [idx t]

theorem final20 : (dats m 0 c).arrAt 20 cfg0.N = lastZ (A0 m c) (A1 m c) (A2 m c) := by
  refine (dats m 0 c).arrAt_eq_of_covers 20 _ (by decide +kernel) fun t hf y => ?_
  have ht : t.val % 16 = 15 := (flush0_20 t).mp hf
  blk_simp
  rw [after0_20]
  obtain ⟨r, i, hy⟩ : ∃ (r : Fin 8) (i : Fin 256), (y : S1x8x256.Idx) = ix3 0 r i :=
    ⟨y 1, y 2, (Idealize.ShloMosaic.eq_ix3 (n0 := 1) (n1 := 8) (n2 := 256) y).trans (by rw [Subsingleton.elim (α := Fin 1) (y 0) 0])⟩
  refine (congrArg (outsAt0 m c t.val t.isLt).2.2.2.2.2.2.2.2.2.2.1 hy).trans ((blk20 m c t r i).trans ?_)
  refine Eq.trans ?_ (congrArg (lastZ (A0 m c) (A1 m c) (A2 m c)) ((congrArg (win0_20.blk t).view.emb hy).trans (place20 t r i))).symm
  exact congrArg (zS (A0 m c) (A1 m c) (A2 m c) (bt t) i) (Fin.ext (by show 512 * (t.val % 16) + (504 + r.val) = 8184 + r.val; omega))

theorem place21 (t : Fin cfg0.N) (q : Fin 8) (i : Fin 768) : ((win0_21.blk t).view.emb (ix3 0 q i : S1x8x768.Idx) : S2x8x768.Idx) = ix3 (bt t) q i := by
  unfold bt
  blk_ext [idx t]

theorem final21 : (dats m 0 c).arrAt 21 cfg0.N = lastX (A0 m c) (A1 m c) (A2 m c) := by
  refine (dats m 0 c).arrAt_eq_of_covers 21 _ (by decide +kernel) fun t hf y => ?_
  have ht : t.val % 16 = 15 := (flush0_21 t).mp hf
  blk_simp
  rw [after0_21]
  obtain ⟨r, i, hy⟩ : ∃ (r : Fin 8) (i : Fin 768), (y : S1x8x768.Idx) = ix3 0 r i :=
    ⟨y 1, y 2, (Idealize.ShloMosaic.eq_ix3 (n0 := 1) (n1 := 8) (n2 := 768) y).trans (by rw [Subsingleton.elim (α := Fin 1) (y 0) 0])⟩
  refine (congrArg (outsAt0 m c t.val t.isLt).2.2.2.2.2.2.2.2.2.2.2.1 hy).trans ((blk21 m c t r i).trans ?_)
  refine Eq.trans ?_ (congrArg (lastX (A0 m c) (A1 m c) (A2 m c)) ((congrArg (win0_21.blk t).view.emb hy).trans (place21 t r i))).symm
  exact congrArg (xS (A0 m c) (A1 m c) (A2 m c) (bt t) i) (Fin.ext (by show 512 * (t.val % 16) + (504 + r.val) = 8184 + r.val; omega))

end Cert.INP

end
-- ==== Proof.INP.Tail.lean ====
module

public import proofs.«01_k».proof.Proof.INP.Block
public import Idealize.ShloMosaic.Lib.Pipeline.FrameTail

@[expose] public section

set_option maxRecDepth 16384

/-! What the host makes of the arrays the input projection leaves. -/

noncomputable section

namespace Cert.INP

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- Every buffer after the grid's run, before the host's last operations. -/
abbrev WA : Valuation τ sig (Elt Ideal) := Pipeline.withArrays (cfgs 0).spec c (V0 m c) fun w => (dats m 0 c).arrAt w (cfgs 0).N

theorem WA_arr (w : Fin 22) : WA m c (Proc.devRef .tc (Pipeline.arrRef spec0 w)) = (dats m 0 c).arrAt w cfg0.N :=
  Pipeline.withArrays_arr_shared _ c (V0 m c) _ (Pipeline.Dat.arrAt_sharedIn (dats m 0 c) sharedIn0 (V0 m c) (A_eq m c) _) w

theorem tail31 : Pipeline.afterTail₀ cfgs (dats m) 0 (V0 m) [hostOps1] c main_v31
    = (shapeCast S2x8192x4x64 (WA m c (Proc.devRef .tc main_v26_2) : FVec Ideal S2x8192x256 .f32) shapeCasts_S2x8192x256_S2x8192x4x64 : FVec Ideal S2x8192x4x64 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail32 : Pipeline.afterTail₀ cfgs (dats m) 0 (V0 m) [hostOps1] c main_v32
    = (shapeCast S2x8192x4x64 (WA m c (Proc.devRef .tc main_v26_3) : FVec Ideal S2x8192x256 .f32) shapeCasts_S2x8192x256_S2x8192x4x64 : FVec Ideal S2x8192x4x64 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail33 : Pipeline.afterTail₀ cfgs (dats m) 0 (V0 m) [hostOps1] c main_v33
    = (extractStridedSlice S2x8192x8 ![0, 0, 0] (WA m c (Proc.devRef .tc main_v26_9) : FVec Ideal S2x8192x128 .f32) slices_S2x8192x128_S2x8192x8_0_0_0 : FVec Ideal S2x8192x8 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail28 : Pipeline.afterTail₀ cfgs (dats m) 0 (V0 m) [hostOps1] c main_v28
    = (extractStridedSlice S2x2x256 ![0, 8, 0] (concatenate S2x10x256 1 [⟨S2x2x256, (WA m c (Proc.devRef .tc main_arg3) : FVec Ideal S2x2x256 .f32)⟩, ⟨S2x8x256, (WA m c (Proc.devRef .tc main_v26_10) : FVec Ideal S2x8x256 .f32)⟩] concatenates_S2x2x256_S2x8x256_S2x10x256_d1 : FVec Ideal S2x10x256 .f32) slices_S2x10x256_S2x2x256_0_8_0 : FVec Ideal S2x2x256 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail30 : Pipeline.afterTail₀ cfgs (dats m) 0 (V0 m) [hostOps1] c main_v30
    = (extractStridedSlice S2x3x768 ![0, 8, 0] (concatenate S2x11x768 1 [⟨S2x3x768, (WA m c (Proc.devRef .tc main_arg4) : FVec Ideal S2x3x768 .f32)⟩, ⟨S2x8x768, (WA m c (Proc.devRef .tc main_v26_11) : FVec Ideal S2x8x768 .f32)⟩] concatenates_S2x3x768_S2x8x768_S2x11x768_d1 : FVec Ideal S2x11x768 .f32) slices_S2x11x768_S2x3x768_0_8_0 : FVec Ideal S2x3x768 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem split_at (X : FVec Ideal S2x8192x256 .f32) (b : Fin 2) (p : Fin 8192) (h : Fin 4) (k : Fin 64) :
    (shapeCast S2x8192x4x64 X shapeCasts_S2x8192x256_S2x8192x4x64 : FVec Ideal S2x8192x4x64 .f32) (ix4 b p h k) = X (ix3 b p ⟨h.val * 64 + k.val, by omega⟩) := by
  pointwise

theorem cut_at (X : FVec Ideal S2x8192x128 .f32) (b : Fin 2) (p : Fin 8192) (i : Fin 8) :
    (extractStridedSlice S2x8192x8 ![0, 0, 0] X slices_S2x8192x128_S2x8192x8_0_0_0 : FVec Ideal S2x8192x8 .f32) (ix3 b p i) = X (ix3 b p ⟨i.val, by omega⟩) := by
  pointwise

theorem last2_at (X : FVec Ideal S2x2x256 .f32) (Y : FVec Ideal S2x8x256 .f32) (b : Fin 2) (q : Fin 2) (d : Fin 256) :
    (extractStridedSlice S2x2x256 ![0, 8, 0] (concatenate S2x10x256 1 [⟨S2x2x256, X⟩, ⟨S2x8x256, Y⟩] concatenates_S2x2x256_S2x8x256_S2x10x256_d1 : FVec Ideal S2x10x256 .f32) slices_S2x10x256_S2x2x256_0_8_0 : FVec Ideal S2x2x256 .f32) (ix3 b q d)
    = Y (ix3 b ⟨6 + q.val, by omega⟩ d) := by
  pointwise
  rw [dif_neg (by omega)]
  exact congrArg (fun k => Y (ix3 b k d)) (Fin.ext (by show 8 + q.val - 2 = 6 + q.val; omega))

theorem last3_at (X : FVec Ideal S2x3x768 .f32) (Y : FVec Ideal S2x8x768 .f32) (b : Fin 2) (q : Fin 3) (d : Fin 768) :
    (extractStridedSlice S2x3x768 ![0, 8, 0] (concatenate S2x11x768 1 [⟨S2x3x768, X⟩, ⟨S2x8x768, Y⟩] concatenates_S2x3x768_S2x8x768_S2x11x768_d1 : FVec Ideal S2x11x768 .f32) slices_S2x11x768_S2x3x768_0_8_0 : FVec Ideal S2x3x768 .f32) (ix3 b q d)
    = Y (ix3 b ⟨5 + q.val, by omega⟩ d) := by
  pointwise
  rw [dif_neg (by omega)]
  exact congrArg (fun k => Y (ix3 b k d)) (Fin.ext (by show 8 + q.val - 3 = 5 + q.val; omega))

end Cert.INP

end
-- ==== Proof.INP.Ref.lean ====
module

public import proofs.«01_k».proof.Proof.INP.Spec
public import proofs.«01_k».proof.Proof.MIX.Ref
public import proofs.«01_k».proof.Proof.Gen.Reference3Ideal.Run

@[expose] public section

set_option maxRecDepth 16384

/-! The reference's twelve results of the input projection, over exact arithmetic. -/

noncomputable section

namespace Cert.INP.Ref

open Cert.Reference3Ideal Cert.Reference3Ideal.Gen Cert.Reference3Ideal.Value
open Idealize.ShloMosaic Idealize.ShloMosaic.TcCoe
open Cert.MIX (modu mv)

variable (V0 : Valuation τ sig (Elt Ideal))

abbrev B0 : FVec Ideal S2x8192x1024 .f32 := V0 (Proc.devRef .tc main_arg0)
abbrev B1 : FVec Ideal S2x1x6144 .f32 := V0 (Proc.devRef .tc main_arg1)
abbrev B2 : FVec Ideal S2x1024x2824 .f32 := V0 (Proc.devRef .tc main_arg2)
abbrev B3 : FVec Ideal S2x2x256 .f32 := V0 (Proc.devRef .tc main_arg3)
abbrev B4 : FVec Ideal S2x3x768 .f32 := V0 (Proc.devRef .tc main_arg4)
abbrev B5 : FVec Ideal S2x3x256 .f32 := V0 (Proc.devRef .tc main_arg5)
abbrev B6 : FVec Ideal S2x4x768 .f32 := V0 (Proc.devRef .tc main_arg6)
abbrev B7 : FVec Ideal S2x4 .f32 := V0 (Proc.devRef .tc main_arg7)
abbrev B8 : FVec Ideal S2x4 .f32 := V0 (Proc.devRef .tc main_arg8)

/-! ## The projection -/

/-- The modulated rows times the second layer's matrix. -/
def projR (h : FVec Ideal S2x8192x1024 .f32) (w : FVec Ideal S2x1024x2824 .f32) : FVec Ideal S2x8192x2824 .f32 :=
  Host.dotGeneral dot_S2x8192x1024_S1024x2824_S2x8192x2824_2_0_01_1_n_n none h
    (shapeCast _ (extractStridedSlice S1x1024x2824 ![1, 0, 0] w slices_S2x1024x2824_S1x1024x2824_1_0_0) shapeCasts_S1x1024x2824_S1024x2824)

theorem projR_at (h : FVec Ideal S2x8192x1024 .f32) (w : FVec Ideal S2x1024x2824 .f32) (b : Fin 2) (p : Fin 8192) (i : Fin 2824) :
    projR h w (ix3 b p i) = mv (fun j => h (ix3 b p j)) (fun j i => w (ix3 1 j i)) i := by
  pointwise [projR]
  rfl

theorem v40_eq : (res_main_v40 V0 : FVec Ideal S2x8192x2824 .f32) = projR (Cert.MIX.Ref.moduR (B0 V0)
    (extractStridedSlice S2x1x1024 ![0, 0, 1024] (B1 V0) slices_S2x1x6144_S2x1x1024_0_0_1024)
    (extractStridedSlice S2x1x1024 ![0, 0, 0] (B1 V0) slices_S2x1x6144_S2x1x1024_0_0_0)) (B2 V0) := rfl

theorem v40_at (b : Fin 2) (p : Fin 8192) (i : Fin 2824) : (res_main_v40 V0 : FVec Ideal S2x8192x2824 .f32) (ix3 b p i) = pr (B0 V0) (B1 V0) (B2 V0) b p i := by
  rw [v40_eq]
  refine (projR_at _ _ b p i).trans ?_
  unfold pr hid
  refine congrArg (fun f => mv f _ i) (funext fun j => (Cert.MIX.Ref.moduR_at _ b p _ _ j).trans ?_)
  refine congrFun (congrArg₂ (fun f g => modu _ f g) (funext fun j => ?_) (funext fun j => ?_)) j
  · pointwise
  · pointwise

/-! ## The two series -/

theorem v56_at (b : Fin 2) (q : Fin 8194) (d : Fin 256) : (res_main_v56 V0 : FVec Ideal S2x8194x256 .f32) (ix3 b q d) = zC (B0 V0) (B1 V0) (B2 V0) (B3 V0) b d q.val := by
  unfold res_main_v56 zC
  pointwise
  by_cases h : q.val < 2
  · rw [dif_pos h, ser_of_lt _ _ _ h]
  · rw [dif_neg h, ser_of_le _ _ _ (by omega) (by omega), v40_at, v40_at]
    rfl

theorem v79_at (b : Fin 2) (q : Fin 8195) (d : Fin 768) : (res_main_v79 V0 : FVec Ideal S2x8195x768 .f32) (ix3 b q d) = xC (B0 V0) (B1 V0) (B2 V0) (B4 V0) b d q.val := by
  unfold res_main_v79 xC
  pointwise
  by_cases h : q.val < 3
  · rw [dif_pos h, ser_of_lt _ _ _ h]
  · rw [dif_neg h, ser_of_le _ _ _ (by omega) (by omega), v40_at]
    rfl

theorem v3_at (k : Fin 3) (d : Fin 256) : (res_main_v3 V0 : FVec Ideal S3x256 .f32) (ix2 k d) = B5 V0 (ix3 1 k d) := by
  unfold res_main_v3
  pointwise

theorem v5_at (k : Fin 4) (d : Fin 768) : (res_main_v5 V0 : FVec Ideal S4x768 .f32) (ix2 k d) = B6 V0 (ix3 1 k d) := by
  unfold res_main_v5
  pointwise

theorem v106_at (b : Fin 2) (p : Fin 8192) (i : Fin 768) : (res_main_v106 V0 : FVec Ideal S2x8192x768 .f32) (ix3 b p i)
    = cS (B0 V0) (B1 V0) (B2 V0) (B4 V0) (B6 V0) b p i := by
  unfold res_main_v106 cS
  pointwise
  rw [v79_at, v79_at, v79_at, v79_at, v5_at, v5_at, v5_at, v5_at]
  simp only [Nat.add_comm 1, Nat.add_comm 2, Nat.add_comm 3]

theorem v108_at (b : Fin 2) (p : Fin 8192) (i : Fin 768) : (res_main_v108 V0 : FVec Ideal S2x8192x768 .f32) (ix3 b p i)
    = aS (B0 V0) (B1 V0) (B2 V0) (B4 V0) (B6 V0) b p i := by
  unfold res_main_v108 aS
  pointwise
  rw [v106_at]
  rfl

theorem v110_at (b : Fin 2) (p : Fin 8192) (h : Fin 4) (k : Fin 64) : (res_main_v110 V0 : FVec Ideal S2x8192x4x64 .f32) (ix4 b p h k)
    = hS (B0 V0) (B1 V0) (B2 V0) (B4 V0) (B6 V0) 0 (by decide) b p h k := by
  unfold res_main_v110 hS
  pointwise
  rw [v108_at]

theorem v122_at (b : Fin 2) (p : Fin 8192) (h : Fin 4) (k : Fin 64) : (res_main_v122 V0 : FVec Ideal S2x8192x4x64 .f32) (ix4 b p h k)
    = hS (B0 V0) (B1 V0) (B2 V0) (B4 V0) (B6 V0) 256 (by decide) b p h k := by
  unfold res_main_v122 hS
  pointwise
  rw [v108_at]

theorem v143_at (b : Fin 2) (p : Fin 8192) (i : Fin 4) : (res_main_v143 V0 : FVec Ideal S2x8192x4 .f32) (ix3 b p i)
    = pr (B0 V0) (B1 V0) (B2 V0) b p ⟨2052 + i.val, by omega⟩ + B8 V0 (ix2 1 i) := by
  unfold res_main_v143
  pointwise
  rw [v40_at]

theorem call_at (b : Fin 2) (p : Fin 8192) (i : Fin 4) : (res_main_call1_v3 V0 : FVec Ideal S2x8192x4 .f32) (ix3 b p i)
    = pr (B0 V0) (B1 V0) (B2 V0) b p ⟨2052 + i.val, by omega⟩ + B8 V0 (ix2 1 i) := by
  unfold res_main_call1_v3 res_main_call1_cst
  pointwise
  rw [v143_at]

/-! ## The results -/

theorem u_at (b : Fin 2) (p : Fin 8192) (d : Fin 256) : (extractStridedSlice S2x8192x256 ![0, 0, 0] (res_main_v40 V0) slices_S2x8192x2824_S2x8192x256_0_0_0 : FVec Ideal S2x8192x256 .f32) (ix3 b p d)
    = pr (B0 V0) (B1 V0) (B2 V0) b p (col 0 (by decide) d) := by
  pointwise
  rw [v40_at]
  exact congrArg _ (Fin.ext (show d.val = 0 + d.val by omega))

theorem z_at (b : Fin 2) (p : Fin 8192) (d : Fin 256) : (extractStridedSlice S2x8192x256 ![0, 0, 1792] (res_main_v40 V0) slices_S2x8192x2824_S2x8192x256_0_0_1792 : FVec Ideal S2x8192x256 .f32) (ix3 b p d)
    = pr (B0 V0) (B1 V0) (B2 V0) b p (col 1792 (by decide) d) := by
  pointwise
  rw [v40_at]
  rfl

theorem k_at (b : Fin 2) (p : Fin 8192) (h : Fin 4) (k : Fin 64) : (shapeCast _ (extractStridedSlice S2x8192x256 ![0, 0, 2312] (res_main_v40 V0) slices_S2x8192x2824_S2x8192x256_0_0_2312) shapeCasts_S2x8192x256_S2x8192x4x64 : FVec Ideal S2x8192x4x64 .f32) (ix4 b p h k)
    = pr (B0 V0) (B1 V0) (B2 V0) b p (hcol 2312 (by decide) h k) := by
  pointwise
  rw [v40_at]
  rfl

theorem v_at (b : Fin 2) (p : Fin 8192) (h : Fin 4) (k : Fin 64) : (shapeCast _ (extractStridedSlice S2x8192x256 ![0, 0, 2568] (res_main_v40 V0) slices_S2x8192x2824_S2x8192x256_0_0_2568) shapeCasts_S2x8192x256_S2x8192x4x64 : FVec Ideal S2x8192x4x64 .f32) (ix4 b p h k)
    = pr (B0 V0) (B1 V0) (B2 V0) b p (hcol 2568 (by decide) h k) := by
  pointwise
  rw [v40_at]
  rfl

theorem qh_at (b : Fin 2) (p : Fin 8192) (h : Fin 4) (k : Fin 64) : (truncf .bf16 (transpose S2x4x8192x64 [0, 2, 1, 3] (shapeCast _ (extractStridedSlice S2x8192x256 ![0, 0, 2056] (res_main_v40 V0) slices_S2x8192x2824_S2x8192x256_0_0_2056) shapeCasts_S2x8192x256_S2x8192x4x64) transposes_S2x8192x4x64_S2x4x8192x64_0_2_1_3) bitsLt_bf16_f32 : FVec Ideal S2x4x8192x64 .bf16) (ix4 b h p k)
    = pr (B0 V0) (B1 V0) (B2 V0) b p (hcol 2056 (by decide) h k) := by
  pointwise
  rw [v40_at]
  rfl

theorem kh_at (b : Fin 2) (p : Fin 8192) (h : Fin 4) (k : Fin 64) : (truncf .bf16 (transpose S2x4x8192x64 [0, 2, 1, 3] (shapeCast _ (extractStridedSlice S2x8192x256 ![0, 0, 2312] (res_main_v40 V0) slices_S2x8192x2824_S2x8192x256_0_0_2312) shapeCasts_S2x8192x256_S2x8192x4x64) transposes_S2x8192x4x64_S2x4x8192x64_0_2_1_3) bitsLt_bf16_f32 : FVec Ideal S2x4x8192x64 .bf16) (ix4 b h p k)
    = pr (B0 V0) (B1 V0) (B2 V0) b p (hcol 2312 (by decide) h k) := by
  pointwise
  rw [v40_at]
  rfl

theorem vh_at (b : Fin 2) (p : Fin 8192) (h : Fin 4) (k : Fin 64) : (truncf .bf16 (transpose S2x4x8192x64 [0, 2, 1, 3] (shapeCast _ (extractStridedSlice S2x8192x256 ![0, 0, 2568] (res_main_v40 V0) slices_S2x8192x2824_S2x8192x256_0_0_2568) shapeCasts_S2x8192x256_S2x8192x4x64) transposes_S2x8192x4x64_S2x4x8192x64_0_2_1_3) bitsLt_bf16_f32 : FVec Ideal S2x4x8192x64 .bf16) (ix4 b h p k)
    = pr (B0 V0) (B1 V0) (B2 V0) b p (hcol 2568 (by decide) h k) := by
  pointwise
  rw [v40_at]
  rfl

theorem yb_at (b : Fin 2) (p : Fin 8192) (d : Fin 256) : (truncf .bf16 (mulf (extractStridedSlice S2x8192x256 ![0, 0, 256] (res_main_v40 V0) slices_S2x8192x2824_S2x8192x256_0_0_256) (addf (addf (mulf (extractStridedSlice S2x8192x256 ![0, 0, 0] (res_main_v56 V0) slices_S2x8194x256_S2x8192x256_0_0_0) (broadcastInDim S2x8192x256 ![0, 1, 2] bcast_S1x1x256_S2x8192x256_0_1_2 (broadcastInDim S1x1x256 ![2] bcast_S256_S1x1x256_2 (shapeCast _ (extractStridedSlice S1x256 ![0, 0] (res_main_v3 V0) slices_S3x256_S1x256_0_0) shapeCasts_S1x256_S256)))) (mulf (extractStridedSlice S2x8192x256 ![0, 1, 0] (res_main_v56 V0) slices_S2x8194x256_S2x8192x256_0_1_0) (broadcastInDim S2x8192x256 ![0, 1, 2] bcast_S1x1x256_S2x8192x256_0_1_2 (broadcastInDim S1x1x256 ![2] bcast_S256_S1x1x256_2 (shapeCast _ (extractStridedSlice S1x256 ![1, 0] (res_main_v3 V0) slices_S3x256_S1x256_1_0) shapeCasts_S1x256_S256))))) (mulf (extractStridedSlice S2x8192x256 ![0, 2, 0] (res_main_v56 V0) slices_S2x8194x256_S2x8192x256_0_2_0) (broadcastInDim S2x8192x256 ![0, 1, 2] bcast_S1x1x256_S2x8192x256_0_1_2 (broadcastInDim S1x1x256 ![2] bcast_S256_S1x1x256_2 (shapeCast _ (extractStridedSlice S1x256 ![2, 0] (res_main_v3 V0) slices_S3x256_S1x256_2_0) shapeCasts_S1x256_S256)))))) bitsLt_bf16_f32 : FVec Ideal S2x8192x256 .bf16) (ix3 b p d)
    = ybS (B0 V0) (B1 V0) (B2 V0) (B3 V0) (B5 V0) b p d := by
  pointwise
  unfold ybS
  rw [v40_at, v56_at, v56_at, v56_at, v3_at, v3_at, v3_at]
  simp only [Nat.add_comm 1, Nat.add_comm 2]
  rfl

theorem qkv_gen (X Y : FVec Ideal S2x8192x4x64 .f32) (Z : FVec Ideal S2x8192x768 .f32) (b : Fin 2) (p : Fin 8192) (i : Fin 768) :
    ((concatenate S2x8192x768 2 [⟨S2x8192x256, ((shapeCast _ (mulf (mulf X (broadcastInDim S2x8192x4x64 ![0, 1, 2, 3] bcast_S2x8192x4x1_S2x8192x4x64_0_1_2_3 (Host.rsqrt (addf (broadcastInDim S2x8192x4x1 ![0, 1, 2] bcast_S2x8192x4_S2x8192x4x1_0_1_2 (Host.reduceAdd (mulf X X) (constant S_ .f32 0x00000000#32) reducesTo_S2x8192x4x64_S2x8192x4_d3 h_S_)) (broadcastInDim S2x8192x4x1 ![] bcast_S_S2x8192x4x1 (constant S_ .f32 0x358637BD#32)))))) (broadcastInDim S2x8192x4x64 ![] bcast_S_S2x8192x4x64 (constant S_ .f32 0x3E000000#32))) shapeCasts_S2x8192x4x64_S2x8192x256) : (⟨S2x8192x256, .f32⟩ : BufTy).Contents (Elt Ideal))⟩, ⟨S2x8192x256, ((shapeCast _ (mulf Y (broadcastInDim S2x8192x4x64 ![0, 1, 2, 3] bcast_S2x8192x4x1_S2x8192x4x64_0_1_2_3 (Host.rsqrt (addf (broadcastInDim S2x8192x4x1 ![0, 1, 2] bcast_S2x8192x4_S2x8192x4x1_0_1_2 (Host.reduceAdd (mulf Y Y) (constant S_ .f32 0x00000000#32) reducesTo_S2x8192x4x64_S2x8192x4_d3 h_S_)) (broadcastInDim S2x8192x4x1 ![] bcast_S_S2x8192x4x1 (constant S_ .f32 0x358637BD#32)))))) shapeCasts_S2x8192x4x64_S2x8192x256) : (⟨S2x8192x256, .f32⟩ : BufTy).Contents (Elt Ideal))⟩, ⟨S2x8192x256, ((shapeCast _ (shapeCast _ (extractStridedSlice S2x8192x256 ![0, 0, 512] Z slices_S2x8192x768_S2x8192x256_0_0_512) shapeCasts_S2x8192x256_S2x8192x4x64) shapeCasts_S2x8192x4x64_S2x8192x256) : (⟨S2x8192x256, .f32⟩ : BufTy).Contents (Elt Ideal))⟩] concatenates_S2x8192x256_S2x8192x256_S2x8192x256_S2x8192x768_d2 : (⟨S2x8192x768, .f32⟩ : BufTy).Contents (Elt Ideal)) : FVec Ideal S2x8192x768 .f32) (ix3 b p i)
    = if h : i.val < 256 then nrmH (fun k => X (ix4 b p ⟨i.val / 64, by omega⟩ k)) ⟨i.val % 64, by omega⟩ * Ideal.ofBits .f32 0x3E000000#32
      else if h' : i.val - 256 < 256 then nrmH (fun k => Y (ix4 b p ⟨(i.val - 256) / 64, by omega⟩ k)) ⟨(i.val - 256) % 64, by omega⟩
      else Z (ix3 b p ⟨512 + (i.val - 256 - 256), by omega⟩) := by
  pointwise
  rfl

theorem qkv_at (b : Fin 2) (p : Fin 8192) (i : Fin 768) : ((concatenate S2x8192x768 2 [⟨S2x8192x256, ((shapeCast _ (mulf (mulf (res_main_v110 V0) (broadcastInDim S2x8192x4x64 ![0, 1, 2, 3] bcast_S2x8192x4x1_S2x8192x4x64_0_1_2_3 (Host.rsqrt (addf (broadcastInDim S2x8192x4x1 ![0, 1, 2] bcast_S2x8192x4_S2x8192x4x1_0_1_2 (Host.reduceAdd (mulf (res_main_v110 V0) (res_main_v110 V0)) (constant S_ .f32 0x00000000#32) reducesTo_S2x8192x4x64_S2x8192x4_d3 h_S_)) (broadcastInDim S2x8192x4x1 ![] bcast_S_S2x8192x4x1 (constant S_ .f32 0x358637BD#32)))))) (broadcastInDim S2x8192x4x64 ![] bcast_S_S2x8192x4x64 (constant S_ .f32 0x3E000000#32))) shapeCasts_S2x8192x4x64_S2x8192x256) : (⟨S2x8192x256, .f32⟩ : BufTy).Contents (Elt Ideal))⟩, ⟨S2x8192x256, ((shapeCast _ (mulf (res_main_v122 V0) (broadcastInDim S2x8192x4x64 ![0, 1, 2, 3] bcast_S2x8192x4x1_S2x8192x4x64_0_1_2_3 (Host.rsqrt (addf (broadcastInDim S2x8192x4x1 ![0, 1, 2] bcast_S2x8192x4_S2x8192x4x1_0_1_2 (Host.reduceAdd (mulf (res_main_v122 V0) (res_main_v122 V0)) (constant S_ .f32 0x00000000#32) reducesTo_S2x8192x4x64_S2x8192x4_d3 h_S_)) (broadcastInDim S2x8192x4x1 ![] bcast_S_S2x8192x4x1 (constant S_ .f32 0x358637BD#32)))))) shapeCasts_S2x8192x4x64_S2x8192x256) : (⟨S2x8192x256, .f32⟩ : BufTy).Contents (Elt Ideal))⟩, ⟨S2x8192x256, ((shapeCast _ (shapeCast _ (extractStridedSlice S2x8192x256 ![0, 0, 512] (res_main_v108 V0) slices_S2x8192x768_S2x8192x256_0_0_512) shapeCasts_S2x8192x256_S2x8192x4x64) shapeCasts_S2x8192x4x64_S2x8192x256) : (⟨S2x8192x256, .f32⟩ : BufTy).Contents (Elt Ideal))⟩] concatenates_S2x8192x256_S2x8192x256_S2x8192x256_S2x8192x768_d2 : (⟨S2x8192x768, .f32⟩ : BufTy).Contents (Elt Ideal)) : FVec Ideal S2x8192x768 .f32) (ix3 b p i)
    = qkvS (B0 V0) (B1 V0) (B2 V0) (B4 V0) (B6 V0) b p i := by
  refine (qkv_gen (res_main_v110 V0) (res_main_v122 V0) (res_main_v108 V0) b p i).trans ?_
  unfold qkvS
  by_cases h : i.val < 256
  · rw [dif_pos h, dif_pos h]
    exact congrArg (fun f => nrmH f ⟨i.val % 64, by omega⟩ * Ideal.ofBits .f32 0x3E000000#32) (funext fun k => v110_at V0 b p _ k)
  · rw [dif_neg h, dif_neg h]
    by_cases h' : i.val < 512
    · rw [dif_pos h', dif_pos (show i.val - 256 < 256 by omega)]
      exact congrArg (fun f => nrmH f ⟨(i.val - 256) % 64, by omega⟩) (funext fun k => v122_at V0 b p _ k)
    · rw [dif_neg h', dif_neg (show ¬ i.val - 256 < 256 by omega), v108_at]
      exact congrArg _ (Fin.ext (show 512 + (i.val - 256 - 256) = i.val by omega))

theorem gate_gen (Z : FVec Ideal S2x8192x2824 .f32) (b : Fin 2) (p : Fin 8192) (i : Fin 4) : ((Host.divf (broadcastInDim S2x8192x4 ![] bcast_S_S2x8192x4 (constant S_ .f32 0x3F800000#32)) (addf (broadcastInDim S2x8192x4 ![] bcast_S_S2x8192x4 (constant S_ .f32 0x3F800000#32)) (Host.exp (Host.negf (extractStridedSlice S2x8192x4 ![0, 0, 2048] Z slices_S2x8192x2824_S2x8192x4_0_0_2048))))) : FVec Ideal S2x8192x4 .f32) (ix3 b p i)
    = Ideal.logistic (Z (ix3 b p ⟨2048 + i.val, by omega⟩)) := by
  pointwise
  rfl

theorem decay_gen (W R : FVec Ideal S2x8192x4 .f32) (C : FVec Ideal S_ .f32) (al : FVec Ideal S2x4 .f32) (b : Fin 2) (p : Fin 8192) (i : Fin 4) :
    ((mulf (broadcastInDim S2x8192x4 ![0, 1, 2] bcast_S1x1x4_S2x8192x4_0_1_2 (broadcastInDim S1x1x4 ![2] bcast_S4_S1x1x4_2 (Host.negf (Host.exp (shapeCast _ (extractStridedSlice S1x4 ![1, 0] al slices_S2x4_S1x4_1_0) shapeCasts_S1x4_S4))))) (select (cmpf .une W W) (addf R (broadcastInDim S2x8192x4 ![] bcast_S_S2x8192x4 C)) (addf (maximumf R (broadcastInDim S2x8192x4 ![] bcast_S_S2x8192x4 C)) (Host.log1p (Host.exp (Host.negf (Host.absf W))))))) : FVec Ideal S2x8192x4 .f32) (ix3 b p i)
    = -Ideal.exp (al (ix2 1 i)) * (max (R (ix3 b p i)) (C ix0) + Ideal.log1p (Ideal.exp (-FloatOps.absf (F := Ideal) (φ := .f32) (W (ix3 b p i))))) := by
  pointwise
  simp only [ne_eq, not_true_eq_false, if_false]

theorem two_gen (X Y : FVec Ideal S2x8192x4 .f32) (b : Fin 2) (p : Fin 8192) (i : Fin 8) :
    (concatenate S2x8192x8 2 [⟨S2x8192x4, X⟩, ⟨S2x8192x4, Y⟩] concatenates_S2x8192x4_S2x8192x4_S2x8192x8_d2 : FVec Ideal S2x8192x8 .f32) (ix3 b p i)
    = if h : i.val < 4 then X (ix3 b p ⟨i.val, h⟩) else Y (ix3 b p ⟨i.val - 4, by omega⟩) := by
  pointwise

theorem cst_at : (res_main_call1_cst V0 : FVec Ideal S_ .f32) ix0 = (0 : EReal) := by
  unfold res_main_call1_cst
  pointwise

theorem gb_at (b : Fin 2) (p : Fin 8192) (i : Fin 8) : (concatenate S2x8192x8 2 [⟨S2x8192x4, (Host.divf (broadcastInDim S2x8192x4 ![] bcast_S_S2x8192x4 (constant S_ .f32 0x3F800000#32)) (addf (broadcastInDim S2x8192x4 ![] bcast_S_S2x8192x4 (constant S_ .f32 0x3F800000#32)) (Host.exp (Host.negf (extractStridedSlice S2x8192x4 ![0, 0, 2048] (res_main_v40 V0) slices_S2x8192x2824_S2x8192x4_0_0_2048)))))⟩, ⟨S2x8192x4, (mulf (broadcastInDim S2x8192x4 ![0, 1, 2] bcast_S1x1x4_S2x8192x4_0_1_2 (broadcastInDim S1x1x4 ![2] bcast_S4_S1x1x4_2 (Host.negf (Host.exp (shapeCast _ (extractStridedSlice S1x4 ![1, 0] (V0 (Proc.devRef .tc main_arg7)) slices_S2x4_S1x4_1_0) shapeCasts_S1x4_S4))))) (select (cmpf .une (res_main_call1_v3 V0) (res_main_call1_v3 V0)) (addf (res_main_v143 V0) (broadcastInDim S2x8192x4 ![] bcast_S_S2x8192x4 (res_main_call1_cst V0))) (addf (maximumf (res_main_v143 V0) (broadcastInDim S2x8192x4 ![] bcast_S_S2x8192x4 (res_main_call1_cst V0))) (Host.log1p (Host.exp (Host.negf (Host.absf (res_main_call1_v3 V0))))))))⟩] concatenates_S2x8192x4_S2x8192x4_S2x8192x8_d2 : FVec Ideal S2x8192x8 .f32) (ix3 b p i)
    = gbS (B0 V0) (B1 V0) (B2 V0) (B7 V0) (B8 V0) b p i := by
  refine (two_gen _ _ b p i).trans ?_
  unfold gbS
  by_cases h : i.val < 4
  · rw [dif_pos h, dif_pos h]
    refine (gate_gen _ b p _).trans ?_
    rw [v40_at]
    rfl
  · rw [dif_neg h, dif_neg h]
    refine (decay_gen _ _ _ (B7 V0) b p _).trans ?_
    have e : (⟨2052 + (i.val - 4), by omega⟩ : Fin 2824) = col 2048 (by decide) i := Fin.ext (show 2052 + (i.val - 4) = 2048 + i.val by omega)
    rw [v143_at, call_at, cst_at, zero_sub]
    unfold soft
    rw [zero_sub]
    exact congrArg (fun k => -Ideal.exp (B7 V0 (ix2 1 ⟨i.val - 4, by omega⟩)) * (max (pr (B0 V0) (B1 V0) (B2 V0) b p k + B8 V0 (ix2 1 ⟨i.val - 4, by omega⟩)) 0
      + Ideal.log1p (Ideal.exp (-FloatOps.absf (F := Ideal) (φ := .f32) (pr (B0 V0) (B1 V0) (B2 V0) b p k + B8 V0 (ix2 1 ⟨i.val - 4, by omega⟩)))))) e

theorem cb_at (b : Fin 2) (q : Fin 2) (d : Fin 256) : (extractStridedSlice S2x2x256 ![0, 8192, 0] (res_main_v56 V0) slices_S2x8194x256_S2x2x256_0_8192_0 : FVec Ideal S2x2x256 .f32) (ix3 b q d)
    = zC (B0 V0) (B1 V0) (B2 V0) (B3 V0) b d (8192 + q.val) := by
  pointwise
  rw [v56_at]

theorem cd_at (b : Fin 2) (q : Fin 3) (d : Fin 768) : (extractStridedSlice S2x3x768 ![0, 8192, 0] (res_main_v79 V0) slices_S2x8195x768_S2x3x768_0_8192_0 : FVec Ideal S2x3x768 .f32) (ix3 b q d)
    = xC (B0 V0) (B1 V0) (B2 V0) (B4 V0) b d (8192 + q.val) := by
  pointwise
  rw [v79_at]

end Cert.INP.Ref

end
-- ==== Proof.INP.Claim.lean ====
module

public import proofs.«01_k».proof.Defs
public import proofs.«01_k».proof.Proof.INP.Value
public import proofs.«01_k».proof.Proof.INP.Tail
public import proofs.«01_k».proof.Proof.INP.Ref

@[expose] public section

set_option maxRecDepth 16384

/-! The input projection's value claim: kernel and reference end with the same twelve results. -/

noncomputable section

namespace Cert.INP

open Idealize.ShloMosaic Idealize.ShloMosaic.TcCoe Idealize.SL.Sem

section
open Cert.Kernel3Ideal Cert.Kernel3Ideal.Gen

variable (m : (ℓ : Loc nD τ sig) → Buf (Elt Ideal) ℓ) (c : Dev nD)

theorem end31 : Pipeline.afterTail₀ cfgs (dats m) 0 (V0 m) [hostOps1] c main_v31 = resK (A0 m c) (A1 m c) (A2 m c) := by
  rw [tail31]
  funext j
  obtain ⟨b, p, h, k, rfl⟩ : ∃ (b : Fin 2) (p : Fin 8192) (h : Fin 4) (k : Fin 64), (j : S2x8192x4x64.Idx) = ix4 b p h k := ⟨j 0, j 1, j 2, j 3, Idealize.ShloMosaic.eq_ix4 (n0 := 2) (n1 := 8192) (n2 := 4) (n3 := 64) j⟩
  exact (split_at _ b p h k).trans (congrFun ((WA_arr m c 12).trans (final12 m c)) (ix3 b p ⟨h.val * 64 + k.val, by omega⟩))

theorem end32 : Pipeline.afterTail₀ cfgs (dats m) 0 (V0 m) [hostOps1] c main_v32 = resV (A0 m c) (A1 m c) (A2 m c) := by
  rw [tail32]
  funext j
  obtain ⟨b, p, h, k, rfl⟩ : ∃ (b : Fin 2) (p : Fin 8192) (h : Fin 4) (k : Fin 64), (j : S2x8192x4x64.Idx) = ix4 b p h k := ⟨j 0, j 1, j 2, j 3, Idealize.ShloMosaic.eq_ix4 (n0 := 2) (n1 := 8192) (n2 := 4) (n3 := 64) j⟩
  exact (split_at _ b p h k).trans (congrFun ((WA_arr m c 13).trans (final13 m c)) (ix3 b p ⟨h.val * 64 + k.val, by omega⟩))

theorem end33 : Pipeline.afterTail₀ cfgs (dats m) 0 (V0 m) [hostOps1] c main_v33 = resGb (A0 m c) (A1 m c) (A2 m c) (A7 m c) (A8 m c) := by
  rw [tail33]
  funext j
  obtain ⟨b, p, i, rfl⟩ : ∃ (b : Fin 2) (p : Fin 8192) (i : Fin 8), (j : S2x8192x8.Idx) = ix3 b p i := ⟨j 0, j 1, j 2, Idealize.ShloMosaic.eq_ix3 (n0 := 2) (n1 := 8192) (n2 := 8) j⟩
  exact (cut_at _ b p i).trans ((congrFun (WA_arr m c 19) (ix3 b p ⟨i.val, by omega⟩ : S2x8192x128.Idx)).trans (final19 m c b p i))

theorem end28 : Pipeline.afterTail₀ cfgs (dats m) 0 (V0 m) [hostOps1] c main_v28 = resCb (A0 m c) (A1 m c) (A2 m c) (A3 m c) := by
  rw [tail28]
  funext j
  obtain ⟨b, q, d, rfl⟩ : ∃ (b : Fin 2) (q : Fin 2) (d : Fin 256), (j : S2x2x256.Idx) = ix3 b q d := ⟨j 0, j 1, j 2, Idealize.ShloMosaic.eq_ix3 (n0 := 2) (n1 := 2) (n2 := 256) j⟩
  refine (last2_at _ _ b q d).trans ((congrFun ((WA_arr m c 20).trans (final20 m c)) (ix3 b ⟨6 + q.val, by omega⟩ d)).trans ?_)
  refine Eq.trans ?_ (ser_of_le (fun q => A3 m c (ix3 b q d)) (zS (A0 m c) (A1 m c) (A2 m c) b d) (8192 + q.val) (by omega) (by omega)).symm
  exact congrArg (zS (A0 m c) (A1 m c) (A2 m c) b d) (Fin.ext (by show 8184 + (6 + q.val) = 8192 + q.val - 2; omega))

theorem end30 : Pipeline.afterTail₀ cfgs (dats m) 0 (V0 m) [hostOps1] c main_v30 = resCd (A0 m c) (A1 m c) (A2 m c) (A4 m c) := by
  rw [tail30]
  funext j
  obtain ⟨b, q, d, rfl⟩ : ∃ (b : Fin 2) (q : Fin 3) (d : Fin 768), (j : S2x3x768.Idx) = ix3 b q d := ⟨j 0, j 1, j 2, Idealize.ShloMosaic.eq_ix3 (n0 := 2) (n1 := 3) (n2 := 768) j⟩
  refine (last3_at _ _ b q d).trans ((congrFun ((WA_arr m c 21).trans (final21 m c)) (ix3 b ⟨5 + q.val, by omega⟩ d)).trans ?_)
  refine Eq.trans ?_ (ser_of_le (fun q => A4 m c (ix3 b q d)) (xS (A0 m c) (A1 m c) (A2 m c) b d) (8192 + q.val) (by omega) (by omega)).symm
  exact congrArg (xS (A0 m c) (A1 m c) (A2 m c) b d) (Fin.ext (by show 8184 + (5 + q.val) = 8192 + q.val - 3; omega))

end

/-! ## The precondition -/

theorem pre_facts : Cert.Pre_finite_in.Facts := ⟨by decide, by decide, by decide, by decide, by decide⟩

theorem inf_f32 : Ideal.ofBits .f32 0x7F800000#32 = (⊤ : EReal) := by
  simp [Ideal.ofBits, Ideal.ieee]

theorem isR_of_abs_lt (x : EReal) (h : max x (-x) < ⊤) : IsR x := by
  refine ⟨x.toReal, (EReal.coe_toReal ?_ ?_).symm⟩
  · rintro rfl
    simp at h
  · rintro rfl
    simp at h

/-- The precondition's test holds of an array of reals only. -/
theorem fin_of_test {S : Shape} (hb : Cert.Pre_finite_in.S_.BroadcastsInDim S ![]) (q : FVec Ideal S .f32)
    (ht : cmpf .olt (Host.absf q) (broadcastInDim S ![] hb (constant Cert.Pre_finite_in.S_ .f32 0x7F800000#32)) = fun _ => 1#1) (i : S.Idx) : IsR (q i) := by
  have h1 := congrFun ht i
  change BitVec.ofBool (decide (max (q i) (-q i) < Ideal.ofBits .f32 0x7F800000#32)) = 1#1 at h1
  rw [inf_f32] at h1
  refine isR_of_abs_lt _ ?_
  by_contra hc
  rw [decide_eq_false hc] at h1
  exact absurd h1 (by decide)

/-- Equal arguments, equal results. -/
theorem congr9 {α : Type} (f : FVec Ideal Cert.Kernel3Ideal.S2x8192x1024 .f32 → FVec Ideal Cert.Kernel3Ideal.S2x1x6144 .f32 → FVec Ideal Cert.Kernel3Ideal.S2x1024x2824 .f32 → FVec Ideal Cert.Kernel3Ideal.S2x2x256 .f32
      → FVec Ideal Cert.Kernel3Ideal.S2x3x768 .f32 → FVec Ideal Cert.Kernel3Ideal.S2x3x256 .f32 → FVec Ideal Cert.Kernel3Ideal.S2x4x768 .f32 → FVec Ideal Cert.Kernel3Ideal.S2x4 .f32 → FVec Ideal Cert.Kernel3Ideal.S2x4 .f32 → α)
    {x x' : FVec Ideal Cert.Kernel3Ideal.S2x8192x1024 .f32} (h0 : x = x') {md md' : FVec Ideal Cert.Kernel3Ideal.S2x1x6144 .f32} (h1 : md = md')
    {w w' : FVec Ideal Cert.Kernel3Ideal.S2x1024x2824 .f32} (h2 : w = w') {cb cb' : FVec Ideal Cert.Kernel3Ideal.S2x2x256 .f32} (h3 : cb = cb')
    {cd cd' : FVec Ideal Cert.Kernel3Ideal.S2x3x768 .f32} (h4 : cd = cd') {wb wb' : FVec Ideal Cert.Kernel3Ideal.S2x3x256 .f32} (h5 : wb = wb')
    {wd wd' : FVec Ideal Cert.Kernel3Ideal.S2x4x768 .f32} (h6 : wd = wd') {al al' : FVec Ideal Cert.Kernel3Ideal.S2x4 .f32} (h7 : al = al')
    {dt dt' : FVec Ideal Cert.Kernel3Ideal.S2x4 .f32} (h8 : dt = dt') : f x md w cb cd wb wd al dt = f x' md' w' cb' cd' wb' wd' al' dt' := by
  subst h0 h1 h2 h3 h4 h5 h6 h7 h8
  rfl

theorem ext3 {n0 n1 n2 : ℕ} {α : Type} (f g : Shape.Idx ⟨3, ![n0, n1, n2]⟩ → α) (h : ∀ (a : Fin n0) (b : Fin n1) (d : Fin n2), f (ix3 a b d) = g (ix3 a b d)) : f = g :=
  funext fun j => by rw [Idealize.ShloMosaic.eq_ix3 j]; exact h _ _ _

theorem ext4 {n0 n1 n2 n3 : ℕ} {α : Type} (f g : Shape.Idx ⟨4, ![n0, n1, n2, n3]⟩ → α) (h : ∀ (a : Fin n0) (b : Fin n1) (d : Fin n2) (e : Fin n3), f (ix4 a b d e) = g (ix4 a b d e)) : f = g :=
  funext fun j => by rw [Idealize.ShloMosaic.eq_ix4 j]; exact h _ _ _ _

set_option maxHeartbeats 4000000 in
/-- Kernel and reference agree. -/
theorem algebraic : Cert.algebraic_Kernel3Ideal_Reference3Ideal_pre_finite_in (hKernel3Ideal := Cert.Kernel3Ideal.Gen.facts)
    (hReference3Ideal := Cert.Reference3Ideal.Gen.facts) (hPre_finite_in := pre_facts) := by
  intro m g m' g' hpre hargs
  have hx := fun c => fin_of_test pre_facts.bcast_S_S2x8192x1024 (A0 m c) (hpre c).1
  have hmd := fun c => fin_of_test pre_facts.bcast_S_S2x1x6144 (A1 m c) (hpre c).2.1
  have hw := fun c => fin_of_test pre_facts.bcast_S_S2x1024x2824 (A2 m c) (hpre c).2.2.1
  have hcd := fun c => fin_of_test pre_facts.bcast_S_S2x3x768 (A4 m c) (hpre c).2.2.2.1
  have hwd := fun c => fin_of_test pre_facts.bcast_S_S2x4x768 (A6 m c) (hpre c).2.2.2.2
  refine ⟨fun c => resU (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => resZ (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => resK (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => resV (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => resQh (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => resKh (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => resVh (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)),
    fun c => resYb (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg5)),
    fun c => resQkv (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg6)),
    fun c => resGb (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg7)) (m ((c : Thread Cert.Kernel3Ideal.nD Cert.Kernel3Ideal.τ).loc Cert.Kernel3Ideal.main_arg8)),
    fun c => resCb (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)),
    fun c => resCd (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg4)), ?_, ?_⟩
  · refine (θ_run Cert.Kernel3Ideal.defs _ _).mono (fun r h c => ⟨((h.1 c).1 10).trans (final10 m c),
      ((h.1 c).1 11).trans (final11 m c),
      ((h.1 c).2 Cert.Kernel3Ideal.main_v31 (Pipeline.mem_restRefs_of Cert.Kernel3Ideal.main_v31 (by decide) (by decide))).trans (end31 m c),
      ((h.1 c).2 Cert.Kernel3Ideal.main_v32 (Pipeline.mem_restRefs_of Cert.Kernel3Ideal.main_v32 (by decide) (by decide))).trans (end32 m c),
      ((h.1 c).1 14).trans (final14 m c),
      ((h.1 c).1 15).trans (final15 m c),
      ((h.1 c).1 16).trans (final16 m c),
      ((h.1 c).1 17).trans (final17 m c),
      ((h.1 c).1 18).trans (final18 m c (hx c) (hmd c) (hw c) (hcd c) (hwd c)),
      ((h.1 c).2 Cert.Kernel3Ideal.main_v33 (Pipeline.mem_restRefs_of Cert.Kernel3Ideal.main_v33 (by decide) (by decide))).trans (end33 m c),
      ((h.1 c).2 Cert.Kernel3Ideal.main_v28 (Pipeline.mem_restRefs_of Cert.Kernel3Ideal.main_v28 (by decide) (by decide))).trans (end28 m c),
      ((h.1 c).2 Cert.Kernel3Ideal.main_v30 (Pipeline.mem_restRefs_of Cert.Kernel3Ideal.main_v30 (by decide) (by decide))).trans (end30 m c), h.2 c⟩) (θ_run_and (Cert.Kernel3Ideal.Gen.run_main (F := Ideal) m g) (Cert.Kernel3Ideal.Gen.unchanged (F := Ideal) m g))
  · refine (θ_run Cert.Reference3Ideal.defs _ _).mono (fun r h c => ?_) (Cert.Reference3Ideal.Value.run (F := Ideal) m' g')
    obtain ⟨a0, a1, a2, a3, a4, a5, a6, a7, a8⟩ := hargs c
    obtain ⟨r0, r1, r2, r3, r4, r5, r6, r7, r8, r9, r10, r11, rest⟩ := h c
    have e0 := r0.trans ((ext3 _ _ (fun b p d => Ref.u_at (StableHlo.launchContents m' c) b p d) : _ = resU (Ref.B0 (StableHlo.launchContents m' c)) (Ref.B1 (StableHlo.launchContents m' c)) (Ref.B2 (StableHlo.launchContents m' c))).trans (congr9 (fun x md w cb cd wb wd al dt => resU x md w) a0 a1 a2 a3 a4 a5 a6 a7 a8))
    have e1 := r1.trans ((ext3 _ _ (fun b p d => Ref.z_at (StableHlo.launchContents m' c) b p d) : _ = resZ (Ref.B0 (StableHlo.launchContents m' c)) (Ref.B1 (StableHlo.launchContents m' c)) (Ref.B2 (StableHlo.launchContents m' c))).trans (congr9 (fun x md w cb cd wb wd al dt => resZ x md w) a0 a1 a2 a3 a4 a5 a6 a7 a8))
    have e2 := r2.trans ((ext4 _ _ (fun b p h k => Ref.k_at (StableHlo.launchContents m' c) b p h k) : _ = resK (Ref.B0 (StableHlo.launchContents m' c)) (Ref.B1 (StableHlo.launchContents m' c)) (Ref.B2 (StableHlo.launchContents m' c))).trans (congr9 (fun x md w cb cd wb wd al dt => resK x md w) a0 a1 a2 a3 a4 a5 a6 a7 a8))
    have e3 := r3.trans ((ext4 _ _ (fun b p h k => Ref.v_at (StableHlo.launchContents m' c) b p h k) : _ = resV (Ref.B0 (StableHlo.launchContents m' c)) (Ref.B1 (StableHlo.launchContents m' c)) (Ref.B2 (StableHlo.launchContents m' c))).trans (congr9 (fun x md w cb cd wb wd al dt => resV x md w) a0 a1 a2 a3 a4 a5 a6 a7 a8))
    have e4 := r4.trans ((ext4 _ _ (fun b h p k => Ref.qh_at (StableHlo.launchContents m' c) b p h k) : _ = resQh (Ref.B0 (StableHlo.launchContents m' c)) (Ref.B1 (StableHlo.launchContents m' c)) (Ref.B2 (StableHlo.launchContents m' c))).trans (congr9 (fun x md w cb cd wb wd al dt => resQh x md w) a0 a1 a2 a3 a4 a5 a6 a7 a8))
    have e5 := r5.trans ((ext4 _ _ (fun b h p k => Ref.kh_at (StableHlo.launchContents m' c) b p h k) : _ = resKh (Ref.B0 (StableHlo.launchContents m' c)) (Ref.B1 (StableHlo.launchContents m' c)) (Ref.B2 (StableHlo.launchContents m' c))).trans (congr9 (fun x md w cb cd wb wd al dt => resKh x md w) a0 a1 a2 a3 a4 a5 a6 a7 a8))
    have e6 := r6.trans ((ext4 _ _ (fun b h p k => Ref.vh_at (StableHlo.launchContents m' c) b p h k) : _ = resVh (Ref.B0 (StableHlo.launchContents m' c)) (Ref.B1 (StableHlo.launchContents m' c)) (Ref.B2 (StableHlo.launchContents m' c))).trans (congr9 (fun x md w cb cd wb wd al dt => resVh x md w) a0 a1 a2 a3 a4 a5 a6 a7 a8))
    have e7 := r7.trans ((ext3 _ _ (fun b p d => Ref.yb_at (StableHlo.launchContents m' c) b p d) : _ = resYb (Ref.B0 (StableHlo.launchContents m' c)) (Ref.B1 (StableHlo.launchContents m' c)) (Ref.B2 (StableHlo.launchContents m' c)) (Ref.B3 (StableHlo.launchContents m' c)) (Ref.B5 (StableHlo.launchContents m' c))).trans (congr9 (fun x md w cb cd wb wd al dt => resYb x md w cb wb) a0 a1 a2 a3 a4 a5 a6 a7 a8))
    have e8 := r8.trans ((ext3 _ _ (fun b p d => Ref.qkv_at (StableHlo.launchContents m' c) b p d) : _ = resQkv (Ref.B0 (StableHlo.launchContents m' c)) (Ref.B1 (StableHlo.launchContents m' c)) (Ref.B2 (StableHlo.launchContents m' c)) (Ref.B4 (StableHlo.launchContents m' c)) (Ref.B6 (StableHlo.launchContents m' c))).trans (congr9 (fun x md w cb cd wb wd al dt => resQkv x md w cd wd) a0 a1 a2 a3 a4 a5 a6 a7 a8))
    have e9 := r9.trans ((ext3 _ _ (fun b p d => Ref.gb_at (StableHlo.launchContents m' c) b p d) : _ = resGb (Ref.B0 (StableHlo.launchContents m' c)) (Ref.B1 (StableHlo.launchContents m' c)) (Ref.B2 (StableHlo.launchContents m' c)) (Ref.B7 (StableHlo.launchContents m' c)) (Ref.B8 (StableHlo.launchContents m' c))).trans (congr9 (fun x md w cb cd wb wd al dt => resGb x md w al dt) a0 a1 a2 a3 a4 a5 a6 a7 a8))
    have e10 := r10.trans ((ext3 _ _ (fun b p d => Ref.cb_at (StableHlo.launchContents m' c) b p d) : _ = resCb (Ref.B0 (StableHlo.launchContents m' c)) (Ref.B1 (StableHlo.launchContents m' c)) (Ref.B2 (StableHlo.launchContents m' c)) (Ref.B3 (StableHlo.launchContents m' c))).trans (congr9 (fun x md w cb cd wb wd al dt => resCb x md w cb) a0 a1 a2 a3 a4 a5 a6 a7 a8))
    have e11 := r11.trans ((ext3 _ _ (fun b p d => Ref.cd_at (StableHlo.launchContents m' c) b p d) : _ = resCd (Ref.B0 (StableHlo.launchContents m' c)) (Ref.B1 (StableHlo.launchContents m' c)) (Ref.B2 (StableHlo.launchContents m' c)) (Ref.B4 (StableHlo.launchContents m' c))).trans (congr9 (fun x md w cb cd wb wd al dt => resCd x md w cd) a0 a1 a2 a3 a4 a5 a6 a7 a8))
    exact ⟨e0, e1, e2, e3, e4, e5, e6, e7, e8, e9, e10, e11, rest⟩

end Cert.INP

end
-- ==== Proof.INS.Spec.lean ====
module

public import proofs.«01_k».proof.Proof.INP.Spec
public import proofs.«01_k».proof.Proof.Gen.Kernel4Ideal.Skeleton

@[expose] public section

set_option maxRecDepth 16384

/-! The nine results of the input projection of a layer's sample tokens, as functions of the arguments. -/

noncomputable section

namespace Cert.INS

open Cert.Kernel4Ideal Cert.Kernel4Ideal.Gen
open Idealize.ShloMosaic Idealize.ShloMosaic.TcCoe
open Cert.MIX (modu mv)
open Cert.INP (col hcol)

variable (x : FVec Ideal S128x4x1024 .f32) (md : FVec Ideal S128x1x6144 .f32) (w : FVec Ideal S2x1024x2824 .f32)

/-- A token's normalised and modulated row, and its projection. -/
def hid (b : Fin 128) (s : Fin 4) : Fin 1024 → EReal :=
  modu (fun j => x (ix3 b s j)) (fun j => md (ix3 b 0 ⟨1024 + j.val, by omega⟩)) (fun j => md (ix3 b 0 ⟨0 + j.val, by omega⟩))

def pr (b : Fin 128) (s : Fin 4) (i : Fin 2824) : EReal := mv (hid x md b s) (fun j i => w (ix3 1 j i)) i

/-- A stretch of the projection's columns, and a stretch split into heads. -/
def res256 (o : ℕ) (ho : o + 256 ≤ 2824) : FVec Ideal S128x4x256 .f32 := fun j => pr x md w (j 0) (j 1) (col o ho (j 2))
def res768 (o : ℕ) (ho : o + 768 ≤ 2824) : FVec Ideal S128x4x768 .f32 := fun j => pr x md w (j 0) (j 1) (col o ho (j 2))
def resG : FVec Ideal S128x4x8 .f32 := fun j => pr x md w (j 0) (j 1) (col 2048 (by decide) (j 2))
def resH (o : ℕ) (ho : o + 256 ≤ 2824) : FVec Ideal S128x4x4x64 .f32 := fun j => pr x md w (j 0) (j 1) (hcol o ho (j 2) (j 3))

/-- The fourth branch's buffer after the tokens: its last three steps. -/
def resCd : FVec Ideal S128x3x768 .f32 := fun j => pr x md w (j 0) ⟨1 + (j 1).val, by have : (j 1).val < 3 := (j 1).isLt; omega⟩ (col 1024 (by decide) (j 2))

/-- The token that row `r` of the kernel's tile holds: the sequence, and the step. -/
def seqR (r : Fin 512) : Fin 128 := ⟨r.val % 128, Nat.mod_lt _ (by decide)⟩
def stepR (r : Fin 512) : Fin 4 := ⟨r.val / 128, by omega⟩

/-- The row that holds a token. -/
def rowR (b : Fin 128) (s : Fin 4) : Fin 512 := ⟨s.val * 128 + b.val, by omega⟩

theorem seqR_rowR (b : Fin 128) (s : Fin 4) : seqR (rowR b s) = b := Fin.ext (show (s.val * 128 + b.val) % 128 = b.val by omega)
theorem stepR_rowR (b : Fin 128) (s : Fin 4) : stepR (rowR b s) = s := Fin.ext (show (s.val * 128 + b.val) / 128 = s.val by omega)

/-! ## The body's values at a row -/

theorem proj_at (v0 v18 v23 : FVec Ideal S1x512x1024 .f32) (v27 : FVec Ideal S1x1024x2944 .bf16) (r : Fin 512) (i : Fin 2944) :
    (k0_pay8 v0 v18 v23 v27 : FVec Ideal S512x2944 .f32) (ix2 r i)
      = mv (modu (fun j => v0 (ix3 0 r j)) (fun j => v18 (ix3 0 r j)) (fun j => v23 (ix3 0 r j))) (fun j i => v27 (ix3 0 j i)) i := by
  pointwise [k0_pay8]
  rfl

variable (v : FVec Ideal S512x2944 .f32) (r : Fin 512)

theorem pay2_at (d : Fin 768) : (k0_pay2 v : FVec Ideal S1x512x768 .f32) (ix3 0 r d) = v (ix2 r ⟨1024 + d.val, by omega⟩) := by
  pointwise [k0_pay2]

theorem pay3_at (d : Fin 256) : (k0_pay3 v : FVec Ideal S1x512x256 .f32) (ix3 0 r d) = v (ix2 r ⟨1792 + d.val, by omega⟩) := by
  pointwise [k0_pay3]

theorem pay4_at (d : Fin 128) : (k0_pay4 v : FVec Ideal S1x512x128 .f32) (ix3 0 r d) = v (ix2 r ⟨2048 + d.val, by omega⟩) := by
  pointwise [k0_pay4]

theorem pay5_at (d : Fin 256) : (k0_pay5 v : FVec Ideal S1x512x256 .f32) (ix3 0 r d) = v (ix2 r ⟨2176 + d.val, by omega⟩) := by
  pointwise [k0_pay5]

theorem pay6_at (d : Fin 256) : (k0_pay6 v : FVec Ideal S1x512x256 .f32) (ix3 0 r d) = v (ix2 r ⟨2432 + d.val, by omega⟩) := by
  pointwise [k0_pay6]

theorem pay7_at (d : Fin 256) : (k0_pay7 v : FVec Ideal S1x512x256 .f32) (ix3 0 r d) = v (ix2 r ⟨2688 + d.val, by omega⟩) := by
  pointwise [k0_pay7]

theorem pay9_at (v0 v18 v23 : FVec Ideal S1x512x1024 .f32) (v27 : FVec Ideal S1x1024x2944 .bf16) (d : Fin 256) :
    (k0_pay9 v0 v18 v23 v27 : FVec Ideal S1x512x256 .f32) (ix3 0 r d) = (k0_pay8 v0 v18 v23 v27 : FVec Ideal S512x2944 .f32) (ix2 r ⟨d.val, by omega⟩) := by
  pointwise [k0_pay9]

theorem pay10_at (v0 v18 v23 : FVec Ideal S1x512x1024 .f32) (v27 : FVec Ideal S1x1024x2944 .bf16) (d : Fin 768) :
    (k0_pay1 (k0_pay10 v0 v18 v23 v27) : FVec Ideal S1x512x768 .f32) (ix3 0 r d) = (k0_pay8 v0 v18 v23 v27 : FVec Ideal S512x2944 .f32) (ix2 r ⟨256 + d.val, by omega⟩) := by
  pointwise [k0_pay1, k0_pay10]

end Cert.INS

end
-- ==== Proof.INS.Host.lean ====
module

public import proofs.«01_k».proof.Proof.INS.Spec
public import proofs.«01_k».proof.Proof.Gen.Kernel4Ideal.Frame
public import Idealize.ShloMosaic.Lib.KernelVsHost
public import Idealize.ShloMosaic.Lib.Pipeline.ValueKit
public import Idealize.ShloMosaic.Lib.Claim

@[expose] public section

set_option maxRecDepth 16384

/-! What the host hands the kernel: tokens and modulation laid out by step, and rearranged weights. -/

noncomputable section

namespace Cert.INS

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ) (c : Dev nD)

abbrev A0 : FVec Ideal S128x4x1024 .f32 := m ((c : Thread nD τ).loc main_arg0)
abbrev A1 : FVec Ideal S128x1x6144 .f32 := m ((c : Thread nD τ).loc main_arg1)
abbrev A2 : FVec Ideal S2x1024x2824 .f32 := m ((c : Thread nD τ).loc main_arg2)

theorem host1 (r : Fin 512) (j : Fin 1024) : (V m c main_v1 : FVec Ideal S1x512x1024 .f32) (ix3 0 r j) = A0 m c (ix3 (seqR r) (stepR r) j) := by
  have e : (V m c main_v1 : FVec Ideal S1x512x1024 .f32) = (shapeCast S1x512x1024 (transpose S4x128x1024 [1, 0, 2] (A0 m c) transposes_S128x4x1024_S4x128x1024_1_0_2 : FVec Ideal S4x128x1024 .f32)
      shapeCasts_S4x128x1024_S1x512x1024 : FVec Ideal S1x512x1024 .f32) := by
    unfold V V0 hostOps0
    simp only [List.flatten_cons, List.flatten_nil, List.cons_append, List.nil_append, List.append_nil]
    after_results
    try rfl
  rw [e]
  unfold seqR stepR
  pointwise

theorem host6 (r : Fin 512) (i : Fin 6144) : (V m c main_v6 : FVec Ideal S1x512x6144 .f32) (ix3 0 r i) = A1 m c (ix3 (seqR r) 0 i) := by
  have e : (V m c main_v6 : FVec Ideal S1x512x6144 .f32) = (broadcastInDim S1x512x6144 ![1, 2] bcast_S512x6144_S1x512x6144_1_2 (shapeCast S512x6144
      (broadcastInDim S4x128x1x6144 ![0, 1, 2, 3] bcast_S1x128x1x6144_S4x128x1x6144_0_1_2_3 (shapeCast S1x128x1x6144 (shapeCast S128x6144 (A1 m c) shapeCasts_S128x1x6144_S128x6144 : FVec Ideal S128x6144 .f32)
        shapeCasts_S128x6144_S1x128x1x6144 : FVec Ideal S1x128x1x6144 .f32) : FVec Ideal S4x128x1x6144 .f32) shapeCasts_S4x128x1x6144_S512x6144 : FVec Ideal S512x6144 .f32) : FVec Ideal S1x512x6144 .f32) := by
    unfold V V0 hostOps0
    simp only [List.flatten_cons, List.flatten_nil, List.cons_append, List.nil_append, List.append_nil]
    after_results
    try rfl
  rw [e]
  unfold seqR
  pointwise

theorem host12 (j : Fin 1024) (i : Fin 2944) (h : ¬ (2056 ≤ i.val ∧ i.val < 2176)) : (V m c main_v12 : FVec Ideal S2x1024x2944 .bf16) (ix3 1 j i)
    = (m ((c : Thread nD τ).loc main_arg2) : FVec Ideal S2x1024x2824 .f32) (ix3 1 j (if h' : i.val < 2056 then ⟨i.val, by omega⟩ else ⟨i.val - 120, by omega⟩)) := by
  have e : (V m c main_v12 : FVec Ideal S2x1024x2944 .bf16) = (truncf (F := Ideal) .bf16 (concatenate S2x1024x2944 2
      [⟨S2x1024x2048, (extractStridedSlice S2x1024x2048 ![0, 0, 0] (m ((c : Thread nD τ).loc main_arg2) : FVec Ideal S2x1024x2824 .f32) slices_S2x1024x2824_S2x1024x2048_0_0_0 : (⟨S2x1024x2048, .f32⟩ : BufTy).Contents (Elt Ideal))⟩,
       ⟨S2x1024x8, (extractStridedSlice S2x1024x8 ![0, 0, 2048] (m ((c : Thread nD τ).loc main_arg2) : FVec Ideal S2x1024x2824 .f32) slices_S2x1024x2824_S2x1024x8_0_0_2048 : (⟨S2x1024x8, .f32⟩ : BufTy).Contents (Elt Ideal))⟩,
       ⟨S2x1024x120, (broadcastInDim S2x1024x120 ![] bcast_S_S2x1024x120 (constant (F := Ideal) S_ .f32 0x00000000#32) : (⟨S2x1024x120, .f32⟩ : BufTy).Contents (Elt Ideal))⟩,
       ⟨S2x1024x768, (extractStridedSlice S2x1024x768 ![0, 0, 2056] (m ((c : Thread nD τ).loc main_arg2) : FVec Ideal S2x1024x2824 .f32) slices_S2x1024x2824_S2x1024x768_0_0_2056 : (⟨S2x1024x768, .f32⟩ : BufTy).Contents (Elt Ideal))⟩]
      concatenates_S2x1024x2048_S2x1024x8_S2x1024x120_S2x1024x768_S2x1024x2944_d2 : FVec Ideal S2x1024x2944 .f32) bitsLt_bf16_f32 : FVec Ideal S2x1024x2944 .bf16) := by
    unfold V V0 hostOps0
    simp only [List.flatten_cons, List.flatten_nil, List.cons_append, List.nil_append, List.append_nil]
    after_results
    try rfl
  rw [e]
  pointwise
  by_cases h1 : i.val < 2048
  · rw [dif_pos h1]
    exact congrArg (fun k => (m ((c : Thread nD τ).loc main_arg2) : FVec Ideal S2x1024x2824 .f32) (ix3 1 j k)) (by rw [dif_pos (show i.val < 2056 by omega)])
  · rw [dif_neg h1]
    by_cases h2 : i.val < 2056
    · rw [dif_pos (show i.val - 2048 < 8 by omega)]
      exact congrArg (fun k => (m ((c : Thread nD τ).loc main_arg2) : FVec Ideal S2x1024x2824 .f32) (ix3 1 j k)) (by rw [dif_pos h2]; exact Fin.ext (by show 2048 + (i.val - 2048) = i.val; omega))
    · rw [dif_neg (show ¬ i.val - 2048 < 8 by omega), dif_neg (show ¬ i.val - 2048 - 8 < 120 by omega)]
      exact congrArg (fun k => (m ((c : Thread nD τ).loc main_arg2) : FVec Ideal S2x1024x2824 .f32) (ix3 1 j k))
        (by rw [dif_neg h2]; exact Fin.ext (by show 2056 + (i.val - 2048 - 8 - 120) = i.val - 120; omega))

end Cert.INS

end
-- ==== Proof.INS.Value.lean ====
module

public import proofs.«01_k».proof.Proof.INS.Host

@[expose] public section

set_option maxRecDepth 16384

/-! The arrays the kernel leaves: row by row the projection of the token the row holds. -/

noncomputable section

namespace Cert.INS

open Cert.Kernel4Ideal Cert.Kernel4Ideal.Gen
open Idealize.ShloMosaic Idealize.ShloMosaic.TcCoe Idealize.SL.Sem
open Idealize.ShloMosaic.Pipeline (Dat)
open Cert.MIX (modu mv)
open Cert.INP (col hcol)

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0, 1] ∧ win0_3.index t = ![1, 0, 0]
    ∧ win0_4.index t = ![0, 0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] :=
  (by decide +kernel : ∀ t : Fin grid0.N, _)

variable (t : Fin cfg0.N) (r : Fin 512)

theorem read0 (j : Fin 1024) : (iblk m c 0 t : Vec Ideal S1x512x1024 .f32) (ix3 0 r j) = A0 m c (ix3 (seqR r) (stepR r) j) := by
  have h : (iblk m c 0 t : Vec Ideal S1x512x1024 .f32) (ix3 0 r j) = (V m c main_v1 : FVec Ideal S1x512x1024 .f32) (ix3 0 r j) := by
    blk_ext [iblk, idx t]
  exact h.trans (host1 m c r j)

theorem read1 (j : Fin 1024) : (iblk m c 1 t : Vec Ideal S1x512x1024 .f32) (ix3 0 r j) = A1 m c (ix3 (seqR r) 0 ⟨0 + j.val, by omega⟩) := by
  have h : (iblk m c 1 t : Vec Ideal S1x512x1024 .f32) (ix3 0 r j) = (V m c main_v6 : FVec Ideal S1x512x6144 .f32) (ix3 0 r ⟨0 + j.val, by omega⟩) := by
    blk_ext [iblk, idx t]
  exact h.trans (host6 m c r _)

theorem read2 (j : Fin 1024) : (iblk m c 2 t : Vec Ideal S1x512x1024 .f32) (ix3 0 r j) = A1 m c (ix3 (seqR r) 0 ⟨1024 + j.val, by omega⟩) := by
  have h : (iblk m c 2 t : Vec Ideal S1x512x1024 .f32) (ix3 0 r j) = (V m c main_v6 : FVec Ideal S1x512x6144 .f32) (ix3 0 r ⟨1024 + j.val, by omega⟩) := by
    blk_ext [iblk, idx t]
  exact h.trans (host6 m c r _)

theorem read3 (j : Fin 1024) (i : Fin 2944) : (iblk m c 3 t : Vec Ideal S1x1024x2944 .bf16) (ix3 0 j i)
    = (V m c main_v12 : FVec Ideal S2x1024x2944 .bf16) (ix3 1 j i) := by
  blk_ext [iblk, idx t]

def P : FVec Ideal S512x2944 .f32 := k0_pay8 (iblk m c 0 t) (iblk m c 2 t) (iblk m c 1 t) (iblk m c 3 t)

/-- A column of the tile's projection is the problem's, the columns behind the gates moved by the gap. -/
theorem P_at (i : Fin 2944) (h : ¬ (2056 ≤ i.val ∧ i.val < 2176)) :
    P m c t (ix2 r i) = pr (A0 m c) (A1 m c) (A2 m c) (seqR r) (stepR r) (if h' : i.val < 2056 then ⟨i.val, by omega⟩ else ⟨i.val - 120, by omega⟩) := by
  unfold P
  refine (proj_at _ _ _ _ r i).trans ?_
  unfold pr hid mv
  refine Finset.sum_congr rfl fun j _ => ?_
  refine congrArg₂ (· * ·) ?_ ((read3 m c t j i).trans (host12 m c j i h))
  refine congrFun ?_ j
  have e0 : (fun j => (iblk m c 0 t : Vec Ideal S1x512x1024 .f32) (ix3 0 r j)) = fun j => A0 m c (ix3 (seqR r) (stepR r) j) := funext fun j => read0 m c t r j
  have e1 : (fun j => (iblk m c 1 t : Vec Ideal S1x512x1024 .f32) (ix3 0 r j)) = fun j : Fin 1024 => A1 m c (ix3 (seqR r) 0 ⟨0 + j.val, by omega⟩) := funext fun j => read1 m c t r j
  have e2 : (fun j => (iblk m c 2 t : Vec Ideal S1x512x1024 .f32) (ix3 0 r j)) = fun j : Fin 1024 => A1 m c (ix3 (seqR r) 0 ⟨1024 + j.val, by omega⟩) := funext fun j => read2 m c t r j
  exact (congrFun (congrFun (congrArg modu e0) _) _).trans ((congrFun (congrArg _ e2) _).trans (congrArg _ e1))

theorem P_lo (i : Fin 2944) (h : i.val < 2056) : P m c t (ix2 r i) = pr (A0 m c) (A1 m c) (A2 m c) (seqR r) (stepR r) ⟨i.val, by omega⟩ :=
  (P_at m c t r i (by omega)).trans (by rw [dif_pos h])

theorem P_hi (i : Fin 2944) (i' : Fin 2824) (h : 2176 ≤ i.val) (h' : i'.val + 120 = i.val) : P m c t (ix2 r i) = pr (A0 m c) (A1 m c) (A2 m c) (seqR r) (stepR r) i' :=
  (P_at m c t r i (by omega)).trans (by
    rw [dif_neg (by omega)]
    exact congrArg _ (Fin.ext (show i.val - 120 = i'.val by omega)))

/-! ## The blocks -/

theorem blk4 (d : Fin 256) : (out0_4 (iblk m c 0 t) (iblk m c 1 t) (iblk m c 2 t) (iblk m c 3 t) : Vec Ideal S1x512x256 .f32) (ix3 0 r d)
    = pr (A0 m c) (A1 m c) (A2 m c) (seqR r) (stepR r) (col 0 (by decide) d) := by
  have e : (out0_4 (iblk m c 0 t) (iblk m c 1 t) (iblk m c 2 t) (iblk m c 3 t) : Vec Ideal S1x512x256 .f32) = k0_pay9 (iblk m c 0 t) (iblk m c 2 t) (iblk m c 1 t) (iblk m c 3 t) := by
    unfold_out out0_4
    frame_out
  rw [e]
  refine (pay9_at r _ _ _ _ d).trans ((P_lo m c t r ⟨d.val, by omega⟩ (by show d.val < 2056; omega)).trans ?_)
  exact congrArg _ (Fin.ext (show d.val = 0 + d.val by omega))

theorem blk5 (d : Fin 768) : (out0_5 (iblk m c 0 t) (iblk m c 1 t) (iblk m c 2 t) (iblk m c 3 t) : Vec Ideal S1x512x768 .f32) (ix3 0 r d)
    = pr (A0 m c) (A1 m c) (A2 m c) (seqR r) (stepR r) (col 256 (by decide) d) := by
  have e : (out0_5 (iblk m c 0 t) (iblk m c 1 t) (iblk m c 2 t) (iblk m c 3 t) : Vec Ideal S1x512x768 .f32) = k0_pay1 (k0_pay10 (iblk m c 0 t) (iblk m c 2 t) (iblk m c 1 t) (iblk m c 3 t)) := by
    unfold_out out0_5
    frame_out
  rw [e]
  exact (pay10_at r _ _ _ _ d).trans (P_lo m c t r _ (by show 256 + d.val < 2056; omega))

theorem blk6 (d : Fin 768) : (out0_6 (iblk m c 0 t) (iblk m c 1 t) (iblk m c 2 t) (iblk m c 3 t) : Vec Ideal S1x512x768 .f32) (ix3 0 r d)
    = pr (A0 m c) (A1 m c) (A2 m c) (seqR r) (stepR r) (col 1024 (by decide) d) := by
  have e : (out0_6 (iblk m c 0 t) (iblk m c 1 t) (iblk m c 2 t) (iblk m c 3 t) : Vec Ideal S1x512x768 .f32) = k0_pay2 (P m c t) := by
    unfold P
    unfold_out out0_6
    frame_out
  rw [e]
  exact (pay2_at _ r d).trans (P_lo m c t r _ (by show 1024 + d.val < 2056; omega))

theorem blk7 (d : Fin 256) : (out0_7 (iblk m c 0 t) (iblk m c 1 t) (iblk m c 2 t) (iblk m c 3 t) : Vec Ideal S1x512x256 .f32) (ix3 0 r d)
    = pr (A0 m c) (A1 m c) (A2 m c) (seqR r) (stepR r) (col 1792 (by decide) d) := by
  have e : (out0_7 (iblk m c 0 t) (iblk m c 1 t) (iblk m c 2 t) (iblk m c 3 t) : Vec Ideal S1x512x256 .f32) = k0_pay3 (P m c t) := by
    unfold P
    unfold_out out0_7
    frame_out
  rw [e]
  exact (pay3_at _ r d).trans (P_lo m c t r _ (by show 1792 + d.val < 2056; omega))

theorem blk9 (d : Fin 256) : (out0_9 (iblk m c 0 t) (iblk m c 1 t) (iblk m c 2 t) (iblk m c 3 t) : Vec Ideal S1x512x256 .f32) (ix3 0 r d)
    = pr (A0 m c) (A1 m c) (A2 m c) (seqR r) (stepR r) (col 2056 (by decide) d) := by
  have e : (out0_9 (iblk m c 0 t) (iblk m c 1 t) (iblk m c 2 t) (iblk m c 3 t) : Vec Ideal S1x512x256 .f32) = k0_pay5 (P m c t) := by
    unfold P
    unfold_out out0_9
    frame_out
  rw [e]
  exact (pay5_at _ r d).trans (P_hi m c t r _ _ (by show 2176 ≤ 2176 + d.val; omega) (by show 2056 + d.val + 120 = 2176 + d.val; omega))

theorem blk10 (d : Fin 256) : (out0_10 (iblk m c 0 t) (iblk m c 1 t) (iblk m c 2 t) (iblk m c 3 t) : Vec Ideal S1x512x256 .f32) (ix3 0 r d)
    = pr (A0 m c) (A1 m c) (A2 m c) (seqR r) (stepR r) (col 2312 (by decide) d) := by
  have e : (out0_10 (iblk m c 0 t) (iblk m c 1 t) (iblk m c 2 t) (iblk m c 3 t) : Vec Ideal S1x512x256 .f32) = k0_pay6 (P m c t) := by
    unfold P
    unfold_out out0_10
    frame_out
  rw [e]
  exact (pay6_at _ r d).trans (P_hi m c t r _ _ (by show 2176 ≤ 2432 + d.val; omega) (by show 2312 + d.val + 120 = 2432 + d.val; omega))

theorem blk11 (d : Fin 256) : (out0_11 (iblk m c 0 t) (iblk m c 1 t) (iblk m c 2 t) (iblk m c 3 t) : Vec Ideal S1x512x256 .f32) (ix3 0 r d)
    = pr (A0 m c) (A1 m c) (A2 m c) (seqR r) (stepR r) (col 2568 (by decide) d) := by
  have e : (out0_11 (iblk m c 0 t) (iblk m c 1 t) (iblk m c 2 t) (iblk m c 3 t) : Vec Ideal S1x512x256 .f32) = k0_pay7 (P m c t) := by
    unfold P
    unfold_out out0_11
    frame_out
  rw [e]
  exact (pay7_at _ r d).trans (P_hi m c t r _ _ (by show 2176 ≤ 2688 + d.val; omega) (by show 2568 + d.val + 120 = 2688 + d.val; omega))

theorem blk8 (d : Fin 8) : (out0_8 (iblk m c 0 t) (iblk m c 1 t) (iblk m c 2 t) (iblk m c 3 t) : Vec Ideal S1x512x128 .f32) (ix3 0 r ⟨d.val, by omega⟩)
    = pr (A0 m c) (A1 m c) (A2 m c) (seqR r) (stepR r) (col 2048 (by decide) d) := by
  have e : (out0_8 (iblk m c 0 t) (iblk m c 1 t) (iblk m c 2 t) (iblk m c 3 t) : Vec Ideal S1x512x128 .f32) = k0_pay4 (P m c t) := by
    unfold P
    unfold_out out0_8
    frame_out
  rw [e]
  exact (pay4_at _ r _).trans (P_lo m c t r _ (by show 2048 + d.val < 2056; omega))

/-! ## The arrays: the one grid point's blocks are the whole arrays -/

def t0 : Fin cfg0.N := ⟨0, by decide⟩

theorem final4 : (dats m 0 c).arrAt 4 cfg0.N = (out0_4 (iblk m c 0 t0) (iblk m c 1 t0) (iblk m c 2 t0) (iblk m c 3 t0) : Vec Ideal S1x512x256 .f32) := by
  refine (dats m 0 c).arrAt_eq_of_covers 4 _ (by decide +kernel) fun t hf y => ?_
  obtain rfl : t = t0 := Subsingleton.elim (α := Fin 1) t t0
  blk_simp
  rw [after0_4]
  refine congrArg (out0_4 (iblk m c 0 t0) (iblk m c 1 t0) (iblk m c 2 t0) (iblk m c 3 t0) : S1x512x256.Idx → EReal) ?_
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine hy.trans (Eq.trans ?_ (congrArg (win0_4.blk t0).view.emb hy).symm)
  have place : ((win0_4.blk t0).view.emb (ix3 0 r i : S1x512x256.Idx) : S1x512x256.Idx) = ix3 0 r i := by
    blk_ext [idx t0]
  exact place.symm

theorem final5 : (dats m 0 c).arrAt 5 cfg0.N = (out0_5 (iblk m c 0 t0) (iblk m c 1 t0) (iblk m c 2 t0) (iblk m c 3 t0) : Vec Ideal S1x512x768 .f32) := by
  refine (dats m 0 c).arrAt_eq_of_covers 5 _ (by decide +kernel) fun t hf y => ?_
  obtain rfl : t = t0 := Subsingleton.elim (α := Fin 1) t t0
  blk_simp
  rw [after0_5]
  refine congrArg (out0_5 (iblk m c 0 t0) (iblk m c 1 t0) (iblk m c 2 t0) (iblk m c 3 t0) : S1x512x768.Idx → EReal) ?_
  obtain ⟨r, i, hy⟩ : ∃ (r : Fin 512) (i : Fin 768), (y : S1x512x768.Idx) = ix3 0 r i :=
    ⟨y 1, y 2, (Idealize.ShloMosaic.eq_ix3 (n0 := 1) (n1 := 512) (n2 := 768) y).trans (by rw [Subsingleton.elim (α := Fin 1) (y 0) 0])⟩
  refine hy.trans (Eq.trans ?_ (congrArg (win0_5.blk t0).view.emb hy).symm)
  have place : ((win0_5.blk t0).view.emb (ix3 0 r i : S1x512x768.Idx) : S1x512x768.Idx) = ix3 0 r i := by
    blk_ext [idx t0]
  exact place.symm

theorem final6 : (dats m 0 c).arrAt 6 cfg0.N = (out0_6 (iblk m c 0 t0) (iblk m c 1 t0) (iblk m c 2 t0) (iblk m c 3 t0) : Vec Ideal S1x512x768 .f32) := by
  refine (dats m 0 c).arrAt_eq_of_covers 6 _ (by decide +kernel) fun t hf y => ?_
  obtain rfl : t = t0 := Subsingleton.elim (α := Fin 1) t t0
  blk_simp
  rw [after0_6]
  refine congrArg (out0_6 (iblk m c 0 t0) (iblk m c 1 t0) (iblk m c 2 t0) (iblk m c 3 t0) : S1x512x768.Idx → EReal) ?_
  obtain ⟨r, i, hy⟩ : ∃ (r : Fin 512) (i : Fin 768), (y : S1x512x768.Idx) = ix3 0 r i :=
    ⟨y 1, y 2, (Idealize.ShloMosaic.eq_ix3 (n0 := 1) (n1 := 512) (n2 := 768) y).trans (by rw [Subsingleton.elim (α := Fin 1) (y 0) 0])⟩
  refine hy.trans (Eq.trans ?_ (congrArg (win0_6.blk t0).view.emb hy).symm)
  have place : ((win0_6.blk t0).view.emb (ix3 0 r i : S1x512x768.Idx) : S1x512x768.Idx) = ix3 0 r i := by
    blk_ext [idx t0]
  exact place.symm

theorem final7 : (dats m 0 c).arrAt 7 cfg0.N = (out0_7 (iblk m c 0 t0) (iblk m c 1 t0) (iblk m c 2 t0) (iblk m c 3 t0) : Vec Ideal S1x512x256 .f32) := by
  refine (dats m 0 c).arrAt_eq_of_covers 7 _ (by decide +kernel) fun t hf y => ?_
  obtain rfl : t = t0 := Subsingleton.elim (α := Fin 1) t t0
  blk_simp
  rw [after0_7]
  refine congrArg (out0_7 (iblk m c 0 t0) (iblk m c 1 t0) (iblk m c 2 t0) (iblk m c 3 t0) : S1x512x256.Idx → EReal) ?_
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine hy.trans (Eq.trans ?_ (congrArg (win0_7.blk t0).view.emb hy).symm)
  have place : ((win0_7.blk t0).view.emb (ix3 0 r i : S1x512x256.Idx) : S1x512x256.Idx) = ix3 0 r i := by
    blk_ext [idx t0]
  exact place.symm

theorem final8 : (dats m 0 c).arrAt 8 cfg0.N = (out0_8 (iblk m c 0 t0) (iblk m c 1 t0) (iblk m c 2 t0) (iblk m c 3 t0) : Vec Ideal S1x512x128 .f32) := by
  refine (dats m 0 c).arrAt_eq_of_covers 8 _ (by decide +kernel) fun t hf y => ?_
  obtain rfl : t = t0 := Subsingleton.elim (α := Fin 1) t t0
  blk_simp
  rw [after0_8]
  refine congrArg (out0_8 (iblk m c 0 t0) (iblk m c 1 t0) (iblk m c 2 t0) (iblk m c 3 t0) : S1x512x128.Idx → EReal) ?_
  obtain ⟨r, i, hy⟩ : ∃ (r : Fin 512) (i : Fin 128), (y : S1x512x128.Idx) = ix3 0 r i :=
    ⟨y 1, y 2, (Idealize.ShloMosaic.eq_ix3 (n0 := 1) (n1 := 512) (n2 := 128) y).trans (by rw [Subsingleton.elim (α := Fin 1) (y 0) 0])⟩
  refine hy.trans (Eq.trans ?_ (congrArg (win0_8.blk t0).view.emb hy).symm)
  have place : ((win0_8.blk t0).view.emb (ix3 0 r i : S1x512x128.Idx) : S1x512x128.Idx) = ix3 0 r i := by
    blk_ext [idx t0]
  exact place.symm

theorem final9 : (dats m 0 c).arrAt 9 cfg0.N = (out0_9 (iblk m c 0 t0) (iblk m c 1 t0) (iblk m c 2 t0) (iblk m c 3 t0) : Vec Ideal S1x512x256 .f32) := by
  refine (dats m 0 c).arrAt_eq_of_covers 9 _ (by decide +kernel) fun t hf y => ?_
  obtain rfl : t = t0 := Subsingleton.elim (α := Fin 1) t t0
  blk_simp
  rw [after0_9]
  refine congrArg (out0_9 (iblk m c 0 t0) (iblk m c 1 t0) (iblk m c 2 t0) (iblk m c 3 t0) : S1x512x256.Idx → EReal) ?_
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine hy.trans (Eq.trans ?_ (congrArg (win0_9.blk t0).view.emb hy).symm)
  have place : ((win0_9.blk t0).view.emb (ix3 0 r i : S1x512x256.Idx) : S1x512x256.Idx) = ix3 0 r i := by
    blk_ext [idx t0]
  exact place.symm

theorem final10 : (dats m 0 c).arrAt 10 cfg0.N = (out0_10 (iblk m c 0 t0) (iblk m c 1 t0) (iblk m c 2 t0) (iblk m c 3 t0) : Vec Ideal S1x512x256 .f32) := by
  refine (dats m 0 c).arrAt_eq_of_covers 10 _ (by decide +kernel) fun t hf y => ?_
  obtain rfl : t = t0 := Subsingleton.elim (α := Fin 1) t t0
  blk_simp
  rw [after0_10]
  refine congrArg (out0_10 (iblk m c 0 t0) (iblk m c 1 t0) (iblk m c 2 t0) (iblk m c 3 t0) : S1x512x256.Idx → EReal) ?_
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine hy.trans (Eq.trans ?_ (congrArg (win0_10.blk t0).view.emb hy).symm)
  have place : ((win0_10.blk t0).view.emb (ix3 0 r i : S1x512x256.Idx) : S1x512x256.Idx) = ix3 0 r i := by
    blk_ext [idx t0]
  exact place.symm

theorem final11 : (dats m 0 c).arrAt 11 cfg0.N = (out0_11 (iblk m c 0 t0) (iblk m c 1 t0) (iblk m c 2 t0) (iblk m c 3 t0) : Vec Ideal S1x512x256 .f32) := by
  refine (dats m 0 c).arrAt_eq_of_covers 11 _ (by decide +kernel) fun t hf y => ?_
  obtain rfl : t = t0 := Subsingleton.elim (α := Fin 1) t t0
  blk_simp
  rw [after0_11]
  refine congrArg (out0_11 (iblk m c 0 t0) (iblk m c 1 t0) (iblk m c 2 t0) (iblk m c 3 t0) : S1x512x256.Idx → EReal) ?_
  obtain ⟨r, i, hy⟩ : ∃ (r : Fin 512) (i : Fin 256), (y : S1x512x256.Idx) = ix3 0 r i :=
    ⟨y 1, y 2, (Idealize.ShloMosaic.eq_ix3 (n0 := 1) (n1 := 512) (n2 := 256) y).trans (by rw [Subsingleton.elim (α := Fin 1) (y 0) 0])⟩
  refine hy.trans (Eq.trans ?_ (congrArg (win0_11.blk t0).view.emb hy).symm)
  have place : ((win0_11.blk t0).view.emb (ix3 0 r i : S1x512x256.Idx) : S1x512x256.Idx) = ix3 0 r i := by
    blk_ext [idx t0]
  exact place.symm

end Cert.INS

end
-- ==== Proof.INS.Tail.lean ====
module

public import proofs.«01_k».proof.Proof.INS.Value
public import Idealize.ShloMosaic.Lib.Pipeline.FrameTail

@[expose] public section

set_option maxRecDepth 16384

/-! What the host makes of the arrays the kernel leaves: the tokens by sequence again, heads split, the buffer's last steps. -/

noncomputable section

namespace Cert.INS

open Cert.Kernel4Ideal Cert.Kernel4Ideal.Gen
open Idealize.ShloMosaic Idealize.ShloMosaic.TcCoe Idealize.SL.Sem
open Idealize.ShloMosaic.Pipeline (Dat)
open Cert.MIX (modu mv)
open Cert.INP (col hcol)

variable (m : (ℓ : Loc nD τ sig) → Buf (Elt Ideal) ℓ) (c : Dev nD)

/-- Every buffer after the grid's run, before the host's last operations. -/
abbrev WA : Valuation τ sig (Elt Ideal) := Pipeline.withArrays (cfgs 0).spec c (V0 m c) fun w => (dats m 0 c).arrAt w (cfgs 0).N

theorem WA_arr (w : Fin 12) : WA m c (Proc.devRef .tc (Pipeline.arrRef spec0 w)) = (dats m 0 c).arrAt w cfg0.N :=
  Pipeline.withArrays_arr_shared _ c (V0 m c) _ (Pipeline.Dat.arrAt_sharedIn (dats m 0 c) sharedIn0 (V0 m c) (A_eq m c) _) w

/-- An array laid out by step, laid out by sequence. -/
def bySeq256 (X : FVec Ideal S1x512x256 .f32) : FVec Ideal S128x4x256 .f32 :=
  transpose S128x4x256 [1, 0, 2] (shapeCast S4x128x256 (shapeCast S512x256 X shapeCasts_S1x512x256_S512x256 : FVec Ideal S512x256 .f32) shapeCasts_S512x256_S4x128x256 : FVec Ideal S4x128x256 .f32) transposes_S4x128x256_S128x4x256_1_0_2

theorem bySeq256_at (X : FVec Ideal S1x512x256 .f32) (b : Fin 128) (s : Fin 4) (d : Fin 256) : bySeq256 X (ix3 b s d) = X (ix3 0 (rowR b s) d) := by
  unfold bySeq256 rowR
  pointwise

def bySeq768 (X : FVec Ideal S1x512x768 .f32) : FVec Ideal S128x4x768 .f32 :=
  transpose S128x4x768 [1, 0, 2] (shapeCast S4x128x768 (shapeCast S512x768 X shapeCasts_S1x512x768_S512x768 : FVec Ideal S512x768 .f32) shapeCasts_S512x768_S4x128x768 : FVec Ideal S4x128x768 .f32) transposes_S4x128x768_S128x4x768_1_0_2

theorem bySeq768_at (X : FVec Ideal S1x512x768 .f32) (b : Fin 128) (s : Fin 4) (d : Fin 768) : bySeq768 X (ix3 b s d) = X (ix3 0 (rowR b s) d) := by
  unfold bySeq768 rowR
  pointwise

def bySeq128 (X : FVec Ideal S1x512x128 .f32) : FVec Ideal S128x4x128 .f32 :=
  transpose S128x4x128 [1, 0, 2] (shapeCast S4x128x128 (shapeCast S512x128 X shapeCasts_S1x512x128_S512x128 : FVec Ideal S512x128 .f32) shapeCasts_S512x128_S4x128x128 : FVec Ideal S4x128x128 .f32) transposes_S4x128x128_S128x4x128_1_0_2

theorem bySeq128_at (X : FVec Ideal S1x512x128 .f32) (b : Fin 128) (s : Fin 4) (d : Fin 128) : bySeq128 X (ix3 b s d) = X (ix3 0 (rowR b s) d) := by
  unfold bySeq128 rowR
  pointwise

theorem split_at (X : FVec Ideal S128x4x256 .f32) (b : Fin 128) (s : Fin 4) (h : Fin 4) (k : Fin 64) :
    (shapeCast S128x4x4x64 X shapeCasts_S128x4x256_S128x4x4x64 : FVec Ideal S128x4x4x64 .f32) (ix4 b s h k) = X (ix3 b s ⟨h.val * 64 + k.val, by omega⟩) := by
  pointwise

theorem cut_at (X : FVec Ideal S128x4x128 .f32) (b : Fin 128) (s : Fin 4) (i : Fin 8) :
    (extractStridedSlice S128x4x8 ![0, 0, 0] X slices_S128x4x128_S128x4x8_0_0_0 : FVec Ideal S128x4x8 .f32) (ix3 b s i) = X (ix3 b s ⟨i.val, by omega⟩) := by
  pointwise

theorem last3_at (X : FVec Ideal S128x3x768 .f32) (Y : FVec Ideal S128x4x768 .f32) (b : Fin 128) (q : Fin 3) (d : Fin 768) :
    (extractStridedSlice S128x3x768 ![0, 4, 0] (concatenate S128x7x768 1 [⟨S128x3x768, X⟩, ⟨S128x4x768, Y⟩] concatenates_S128x3x768_S128x4x768_S128x7x768_d1 : FVec Ideal S128x7x768 .f32) slices_S128x7x768_S128x3x768_0_4_0 : FVec Ideal S128x3x768 .f32) (ix3 b q d)
    = Y (ix3 b ⟨1 + q.val, by omega⟩ d) := by
  pointwise
  rw [dif_neg (by omega)]
  exact congrArg (fun k => Y (ix3 b k d)) (Fin.ext (by show 4 + q.val - 3 = 1 + q.val; omega))

theorem tail27 : Pipeline.afterTail₀ cfgs (dats m) 0 (V0 m) [hostOps1] c main_v27 = (bySeq256 (WA m c (Proc.devRef .tc main_v13_0) : FVec Ideal S1x512x256 .f32) : FVec Ideal S128x4x256 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail29 : Pipeline.afterTail₀ cfgs (dats m) 0 (V0 m) [hostOps1] c main_v29 = (bySeq768 (WA m c (Proc.devRef .tc main_v13_1) : FVec Ideal S1x512x768 .f32) : FVec Ideal S128x4x768 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail23 : Pipeline.afterTail₀ cfgs (dats m) 0 (V0 m) [hostOps1] c main_v23 = (bySeq768 (WA m c (Proc.devRef .tc main_v13_2) : FVec Ideal S1x512x768 .f32) : FVec Ideal S128x4x768 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail31 : Pipeline.afterTail₀ cfgs (dats m) 0 (V0 m) [hostOps1] c main_v31 = (bySeq256 (WA m c (Proc.devRef .tc main_v13_3) : FVec Ideal S1x512x256 .f32) : FVec Ideal S128x4x256 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail34 : Pipeline.afterTail₀ cfgs (dats m) 0 (V0 m) [hostOps1] c main_v34 = (extractStridedSlice S128x4x8 ![0, 0, 0] (bySeq128 (WA m c (Proc.devRef .tc main_v13_4) : FVec Ideal S1x512x128 .f32)) slices_S128x4x128_S128x4x8_0_0_0 : FVec Ideal S128x4x8 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail37 : Pipeline.afterTail₀ cfgs (dats m) 0 (V0 m) [hostOps1] c main_v37 = (shapeCast S128x4x4x64 (bySeq256 (WA m c (Proc.devRef .tc main_v13_5) : FVec Ideal S1x512x256 .f32)) shapeCasts_S128x4x256_S128x4x4x64 : FVec Ideal S128x4x4x64 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail40 : Pipeline.afterTail₀ cfgs (dats m) 0 (V0 m) [hostOps1] c main_v40 = (shapeCast S128x4x4x64 (bySeq256 (WA m c (Proc.devRef .tc main_v13_6) : FVec Ideal S1x512x256 .f32)) shapeCasts_S128x4x256_S128x4x4x64 : FVec Ideal S128x4x4x64 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail43 : Pipeline.afterTail₀ cfgs (dats m) 0 (V0 m) [hostOps1] c main_v43 = (shapeCast S128x4x4x64 (bySeq256 (WA m c (Proc.devRef .tc main_v13_7) : FVec Ideal S1x512x256 .f32)) shapeCasts_S128x4x256_S128x4x4x64 : FVec Ideal S128x4x4x64 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail25 : Pipeline.afterTail₀ cfgs (dats m) 0 (V0 m) [hostOps1] c main_v25 = (extractStridedSlice S128x3x768 ![0, 4, 0] (concatenate S128x7x768 1 [⟨S128x3x768, (WA m c (Proc.devRef .tc main_arg3) : FVec Ideal S128x3x768 .f32)⟩, ⟨S128x4x768, bySeq768 (WA m c (Proc.devRef .tc main_v13_2) : FVec Ideal S1x512x768 .f32)⟩] concatenates_S128x3x768_S128x4x768_S128x7x768_d1 : FVec Ideal S128x7x768 .f32) slices_S128x7x768_S128x3x768_0_4_0 : FVec Ideal S128x3x768 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem end27 : Pipeline.afterTail₀ cfgs (dats m) 0 (V0 m) [hostOps1] c main_v27 = res256 (A0 m c) (A1 m c) (A2 m c) 0 (by decide) := by
  rw [tail27]
  funext j
  obtain ⟨b, s, d, rfl⟩ : ∃ (b : Fin 128) (s : Fin 4) (d : Fin 256), (j : S128x4x256.Idx) = ix3 b s d := ⟨j 0, j 1, j 2, Idealize.ShloMosaic.eq_ix3 (n0 := 128) (n1 := 4) (n2 := 256) j⟩
  refine (bySeq256_at _ b s d).trans ((congrFun ((WA_arr m c 4).trans (final4 m c)) (ix3 0 (rowR b s) d)).trans ((blk4 m c t0 (rowR b s) d).trans ?_))
  rw [seqR_rowR, stepR_rowR]
  rfl

theorem end29 : Pipeline.afterTail₀ cfgs (dats m) 0 (V0 m) [hostOps1] c main_v29 = res768 (A0 m c) (A1 m c) (A2 m c) 256 (by decide) := by
  rw [tail29]
  funext j
  obtain ⟨b, s, d, rfl⟩ : ∃ (b : Fin 128) (s : Fin 4) (d : Fin 768), (j : S128x4x768.Idx) = ix3 b s d := ⟨j 0, j 1, j 2, Idealize.ShloMosaic.eq_ix3 (n0 := 128) (n1 := 4) (n2 := 768) j⟩
  refine (bySeq768_at _ b s d).trans ((congrFun ((WA_arr m c 5).trans (final5 m c)) (ix3 0 (rowR b s) d)).trans ((blk5 m c t0 (rowR b s) d).trans ?_))
  rw [seqR_rowR, stepR_rowR]
  rfl

theorem end23 : Pipeline.afterTail₀ cfgs (dats m) 0 (V0 m) [hostOps1] c main_v23 = res768 (A0 m c) (A1 m c) (A2 m c) 1024 (by decide) := by
  rw [tail23]
  funext j
  obtain ⟨b, s, d, rfl⟩ : ∃ (b : Fin 128) (s : Fin 4) (d : Fin 768), (j : S128x4x768.Idx) = ix3 b s d := ⟨j 0, j 1, j 2, Idealize.ShloMosaic.eq_ix3 (n0 := 128) (n1 := 4) (n2 := 768) j⟩
  refine (bySeq768_at _ b s d).trans ((congrFun ((WA_arr m c 6).trans (final6 m c)) (ix3 0 (rowR b s) d)).trans ((blk6 m c t0 (rowR b s) d).trans ?_))
  rw [seqR_rowR, stepR_rowR]
  rfl

theorem end31 : Pipeline.afterTail₀ cfgs (dats m) 0 (V0 m) [hostOps1] c main_v31 = res256 (A0 m c) (A1 m c) (A2 m c) 1792 (by decide) := by
  rw [tail31]
  funext j
  obtain ⟨b, s, d, rfl⟩ : ∃ (b : Fin 128) (s : Fin 4) (d : Fin 256), (j : S128x4x256.Idx) = ix3 b s d := ⟨j 0, j 1, j 2, Idealize.ShloMosaic.eq_ix3 (n0 := 128) (n1 := 4) (n2 := 256) j⟩
  refine (bySeq256_at _ b s d).trans ((congrFun ((WA_arr m c 7).trans (final7 m c)) (ix3 0 (rowR b s) d)).trans ((blk7 m c t0 (rowR b s) d).trans ?_))
  rw [seqR_rowR, stepR_rowR]
  rfl

theorem end34 : Pipeline.afterTail₀ cfgs (dats m) 0 (V0 m) [hostOps1] c main_v34 = resG (A0 m c) (A1 m c) (A2 m c) := by
  rw [tail34]
  funext j
  obtain ⟨b, s, d, rfl⟩ : ∃ (b : Fin 128) (s : Fin 4) (d : Fin 8), (j : S128x4x8.Idx) = ix3 b s d := ⟨j 0, j 1, j 2, Idealize.ShloMosaic.eq_ix3 (n0 := 128) (n1 := 4) (n2 := 8) j⟩
  refine (cut_at _ b s d).trans ((bySeq128_at _ b s ⟨d.val, by omega⟩).trans ((congrFun ((WA_arr m c 8).trans (final8 m c)) (ix3 0 (rowR b s) ⟨d.val, by omega⟩)).trans ((blk8 m c t0 (rowR b s) d).trans ?_)))
  rw [seqR_rowR, stepR_rowR]
  rfl

theorem end37 : Pipeline.afterTail₀ cfgs (dats m) 0 (V0 m) [hostOps1] c main_v37 = resH (A0 m c) (A1 m c) (A2 m c) 2056 (by decide) := by
  rw [tail37]
  funext j
  obtain ⟨b, s, h, k, rfl⟩ : ∃ (b : Fin 128) (s : Fin 4) (h : Fin 4) (k : Fin 64), (j : S128x4x4x64.Idx) = ix4 b s h k := ⟨j 0, j 1, j 2, j 3, Idealize.ShloMosaic.eq_ix4 (n0 := 128) (n1 := 4) (n2 := 4) (n3 := 64) j⟩
  refine (split_at _ b s h k).trans ((bySeq256_at _ b s _).trans ((congrFun ((WA_arr m c 9).trans (final9 m c)) (ix3 0 (rowR b s) ⟨h.val * 64 + k.val, by omega⟩)).trans ((blk9 m c t0 (rowR b s) _).trans ?_)))
  rw [seqR_rowR, stepR_rowR]
  rfl

theorem end40 : Pipeline.afterTail₀ cfgs (dats m) 0 (V0 m) [hostOps1] c main_v40 = resH (A0 m c) (A1 m c) (A2 m c) 2312 (by decide) := by
  rw [tail40]
  funext j
  obtain ⟨b, s, h, k, rfl⟩ : ∃ (b : Fin 128) (s : Fin 4) (h : Fin 4) (k : Fin 64), (j : S128x4x4x64.Idx) = ix4 b s h k := ⟨j 0, j 1, j 2, j 3, Idealize.ShloMosaic.eq_ix4 (n0 := 128) (n1 := 4) (n2 := 4) (n3 := 64) j⟩
  refine (split_at _ b s h k).trans ((bySeq256_at _ b s _).trans ((congrFun ((WA_arr m c 10).trans (final10 m c)) (ix3 0 (rowR b s) ⟨h.val * 64 + k.val, by omega⟩)).trans ((blk10 m c t0 (rowR b s) _).trans ?_)))
  rw [seqR_rowR, stepR_rowR]
  rfl

theorem end43 : Pipeline.afterTail₀ cfgs (dats m) 0 (V0 m) [hostOps1] c main_v43 = resH (A0 m c) (A1 m c) (A2 m c) 2568 (by decide) := by
  rw [tail43]
  funext j
  obtain ⟨b, s, h, k, rfl⟩ : ∃ (b : Fin 128) (s : Fin 4) (h : Fin 4) (k : Fin 64), (j : S128x4x4x64.Idx) = ix4 b s h k := ⟨j 0, j 1, j 2, j 3, Idealize.ShloMosaic.eq_ix4 (n0 := 128) (n1 := 4) (n2 := 4) (n3 := 64) j⟩
  refine (split_at _ b s h k).trans ((bySeq256_at _ b s _).trans ((congrFun ((WA_arr m c 11).trans (final11 m c)) (ix3 0 (rowR b s) ⟨h.val * 64 + k.val, by omega⟩)).trans ((blk11 m c t0 (rowR b s) _).trans ?_)))
  rw [seqR_rowR, stepR_rowR]
  rfl

theorem end25 : Pipeline.afterTail₀ cfgs (dats m) 0 (V0 m) [hostOps1] c main_v25 = resCd (A0 m c) (A1 m c) (A2 m c) := by
  rw [tail25]
  funext j
  obtain ⟨b, q, d, rfl⟩ : ∃ (b : Fin 128) (q : Fin 3) (d : Fin 768), (j : S128x3x768.Idx) = ix3 b q d := ⟨j 0, j 1, j 2, Idealize.ShloMosaic.eq_ix3 (n0 := 128) (n1 := 3) (n2 := 768) j⟩
  refine (last3_at _ _ b q d).trans ((bySeq768_at _ b _ d).trans ((congrFun ((WA_arr m c 6).trans (final6 m c)) (ix3 0 (rowR b ⟨1 + q.val, by omega⟩) d)).trans ((blk6 m c t0 (rowR b ⟨1 + q.val, by omega⟩) d).trans ?_)))
  rw [seqR_rowR, stepR_rowR]
  rfl

end Cert.INS

end
-- ==== Proof.INS.Ref.lean ====
module

public import proofs.«01_k».proof.Proof.INS.Spec
public import proofs.«01_k».proof.Proof.Gen.Reference4Ideal.Run

@[expose] public section

set_option maxRecDepth 16384

/-! The reference's nine results of the sample tokens' input projection, over exact arithmetic. -/

noncomputable section

namespace Cert.INS.Ref

open Cert.Reference4Ideal Cert.Reference4Ideal.Gen
open Idealize.ShloMosaic Idealize.ShloMosaic.TcCoe
open Cert.MIX (modu mv nrm)
open Cert.INP (col hcol)

abbrev Tok := FVec Ideal S128x4x1024 .f32

def meanR (x : Tok) : FVec Ideal S128x4x1 .f32 :=
  Host.divf (broadcastInDim S128x4x1 ![0, 1] bcast_S128x4_S128x4x1_0_1 (Host.reduceAdd x (constant S_ .f32 0x00000000#32) reducesTo_S128x4x1024_S128x4_d2 h_S_))
    (broadcastInDim S128x4x1 ![] bcast_S_S128x4x1 (constant S_ .f32 0x44800000#32))

def cenR (x : Tok) : Tok := subf x (broadcastInDim S128x4x1024 ![0, 1, 2] bcast_S128x4x1_S128x4x1024_0_1_2 (meanR x))

def nrmR (x : Tok) : Tok :=
  mulf (cenR x) (broadcastInDim S128x4x1024 ![0, 1, 2] bcast_S128x4x1_S128x4x1024_0_1_2
    (Host.rsqrt (addf (Host.divf (broadcastInDim S128x4x1 ![0, 1] bcast_S128x4_S128x4x1_0_1
        (Host.reduceAdd (mulf (cenR x) (cenR x)) (constant S_ .f32 0x00000000#32) reducesTo_S128x4x1024_S128x4_d2 h_S_))
      (broadcastInDim S128x4x1 ![] bcast_S_S128x4x1 (constant S_ .f32 0x44800000#32)))
      (broadcastInDim S128x4x1 ![] bcast_S_S128x4x1 (constant S_ .f32 0x3727C5AC#32)))))

def moduR (x : Tok) (sc sh : FVec Ideal S128x1x1024 .f32) : Tok :=
  addf (mulf (nrmR x) (broadcastInDim S128x4x1024 ![0, 1, 2] bcast_S128x1x1024_S128x4x1024_0_1_2
    (addf (broadcastInDim S128x1x1024 ![] bcast_S_S128x1x1024 (constant S_ .f32 0x3F800000#32)) sc)))
    (broadcastInDim S128x4x1024 ![0, 1, 2] bcast_S128x1x1024_S128x4x1024_0_1_2 sh)

/-- The projected tokens. -/
def projR (x : Tok) (md : FVec Ideal S128x1x6144 .f32) (w : FVec Ideal S2x1024x2824 .f32) : FVec Ideal S128x4x2824 .f32 :=
  Host.dotGeneral dot_S128x4x1024_S1024x2824_S128x4x2824_2_0_01_1_n_n none
    (moduR x (extractStridedSlice S128x1x1024 ![0, 0, 1024] md slices_S128x1x6144_S128x1x1024_0_0_1024) (extractStridedSlice S128x1x1024 ![0, 0, 0] md slices_S128x1x6144_S128x1x1024_0_0_0))
    (shapeCast _ (extractStridedSlice S1x1024x2824 ![1, 0, 0] w slices_S2x1024x2824_S1x1024x2824_1_0_0) shapeCasts_S1x1024x2824_S1024x2824)

variable (x : Tok) (md : FVec Ideal S128x1x6144 .f32) (w : FVec Ideal S2x1024x2824 .f32) (b : Fin 128) (s : Fin 4)

theorem nrmR_at (i : Fin 1024) : nrmR x (ix3 b s i) = nrm (fun j => x (ix3 b s j)) i := by
  pointwise [nrmR, cenR, meanR]
  rfl

theorem moduR_at (sc sh : FVec Ideal S128x1x1024 .f32) (i : Fin 1024) :
    moduR x sc sh (ix3 b s i) = modu (fun j => x (ix3 b s j)) (fun j => sc (ix3 b 0 j)) (fun j => sh (ix3 b 0 j)) i := by
  pointwise [moduR]
  rw [nrmR_at]
  rfl

theorem dot_at (h : Tok) (i : Fin 2824) : (Host.dotGeneral dot_S128x4x1024_S1024x2824_S128x4x2824_2_0_01_1_n_n none h
    (shapeCast _ (extractStridedSlice S1x1024x2824 ![1, 0, 0] w slices_S2x1024x2824_S1x1024x2824_1_0_0) shapeCasts_S1x1024x2824_S1024x2824) : FVec Ideal S128x4x2824 .f32) (ix3 b s i)
      = mv (fun j => h (ix3 b s j)) (fun j i => w (ix3 1 j i)) i := by
  pointwise
  rfl

theorem projR_at (i : Fin 2824) : projR x md w (ix3 b s i) = pr x md w b s i := by
  unfold projR
  refine (dot_at w b s _ i).trans ?_
  unfold pr hid
  refine congrArg (fun f => mv f _ i) (funext fun j => (moduR_at _ b s _ _ j).trans ?_)
  refine congrFun (congrArg₂ (fun f g => modu _ f g) (funext fun j => ?_) (funext fun j => ?_)) j
  · pointwise
  · pointwise

theorem cut_at {n : ℕ} (o : ℕ) (ho : o + n ≤ 2824) (hs : S128x4x2824.Slices ![0, 0, o] (⟨3, ![128, 4, n]⟩ : Shape)) (d : Fin n) :
    (extractStridedSlice (⟨3, ![128, 4, n]⟩ : Shape) ![0, 0, o] (projR x md w) hs : FVec Ideal (⟨3, ![128, 4, n]⟩ : Shape) .f32) (ix3 b s d) = pr x md w b s (col o ho d) := by
  refine Eq.trans ?_ (projR_at x md w b s (col o ho d))
  unfold col
  pointwise

theorem head_at (o : ℕ) (ho : o + 256 ≤ 2824) (hs : S128x4x2824.Slices ![0, 0, o] S128x4x256) (h : Fin 4) (k : Fin 64) :
    (shapeCast S128x4x4x64 (extractStridedSlice S128x4x256 ![0, 0, o] (projR x md w) hs : FVec Ideal S128x4x256 .f32) shapeCasts_S128x4x256_S128x4x4x64 : FVec Ideal S128x4x4x64 .f32) (ix4 b s h k)
      = pr x md w b s (hcol o ho h k) := by
  refine Eq.trans ?_ (projR_at x md w b s (hcol o ho h k))
  unfold hcol
  pointwise

theorem last_at (buf : FVec Ideal S128x3x768 .f32) (q : Fin 3) (d : Fin 768) :
    (extractStridedSlice S128x3x768 ![0, 4, 0] (concatenate S128x7x768 1 [⟨S128x3x768, buf⟩, ⟨S128x4x768, (extractStridedSlice S128x4x768 ![0, 0, 1024] (projR x md w) slices_S128x4x2824_S128x4x768_0_0_1024 : FVec Ideal S128x4x768 .f32)⟩]
      concatenates_S128x3x768_S128x4x768_S128x7x768_d1 : FVec Ideal S128x7x768 .f32) slices_S128x7x768_S128x3x768_0_4_0 : FVec Ideal S128x3x768 .f32) (ix3 b q d)
      = pr x md w b ⟨1 + q.val, by omega⟩ (col 1024 (by decide) d) := by
  refine Eq.trans ?_ (projR_at x md w b ⟨1 + q.val, by omega⟩ (col 1024 (by decide) d))
  unfold col
  pointwise
  rw [dif_neg (by omega)]
  exact congrArg (fun k => projR x md w (ix3 b k ⟨1024 + d.val, by omega⟩)) (Fin.ext (by show 4 + q.val - 3 = 1 + q.val; omega))

end Cert.INS.Ref

end
-- ==== Proof.INS.Claim.lean ====
module

public import proofs.«01_k».proof.Defs
public import proofs.«01_k».proof.Proof.INS.Tail
public import proofs.«01_k».proof.Proof.INS.Ref

@[expose] public section

set_option maxRecDepth 16384

/-! The value claim of the sample tokens' input projection: kernel and reference end with the same nine results. -/

noncomputable section

namespace Cert.INS

open Idealize.ShloMosaic Idealize.ShloMosaic.TcCoe Idealize.SL.Sem

/-- Equal arguments, equal results. -/
theorem congr3 {α : Type} (f : FVec Ideal Cert.Kernel4Ideal.S128x4x1024 .f32 → FVec Ideal Cert.Kernel4Ideal.S128x1x6144 .f32 → FVec Ideal Cert.Kernel4Ideal.S2x1024x2824 .f32 → α)
    {x x' : FVec Ideal Cert.Kernel4Ideal.S128x4x1024 .f32} (h0 : x = x') {md md' : FVec Ideal Cert.Kernel4Ideal.S128x1x6144 .f32} (h1 : md = md')
    {w w' : FVec Ideal Cert.Kernel4Ideal.S2x1024x2824 .f32} (h2 : w = w') : f x md w = f x' md' w' := by
  subst h0 h1 h2
  rfl

theorem ext3 {n0 n1 n2 : ℕ} {α : Type} (f g : Shape.Idx ⟨3, ![n0, n1, n2]⟩ → α) (h : ∀ (a : Fin n0) (b : Fin n1) (d : Fin n2), f (ix3 a b d) = g (ix3 a b d)) : f = g :=
  funext fun j => by rw [Idealize.ShloMosaic.eq_ix3 j]; exact h _ _ _

theorem ext4 {n0 n1 n2 n3 : ℕ} {α : Type} (f g : Shape.Idx ⟨4, ![n0, n1, n2, n3]⟩ → α) (h : ∀ (a : Fin n0) (b : Fin n1) (d : Fin n2) (e : Fin n3), f (ix4 a b d e) = g (ix4 a b d e)) : f = g :=
  funext fun j => by rw [Idealize.ShloMosaic.eq_ix4 j]; exact h _ _ _ _

set_option maxHeartbeats 4000000 in
/-- Kernel and reference agree. -/
theorem algebraic : Cert.algebraic_Kernel4Ideal_Reference4Ideal (hKernel4Ideal := Cert.Kernel4Ideal.Gen.facts) (hReference4Ideal := Cert.Reference4Ideal.Gen.facts) := by
  intro m g m' g' _ hargs
  refine ⟨fun c => res256 (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) 0 (by decide),
    fun c => res768 (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) 256 (by decide),
    fun c => res768 (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) 1024 (by decide),
    fun c => res256 (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) 1792 (by decide),
    fun c => resG (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) ,
    fun c => resH (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) 2056 (by decide),
    fun c => resH (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) 2312 (by decide),
    fun c => resH (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) 2568 (by decide),
    fun c => resCd (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) , ?_, ?_⟩
  · refine (θ_run Cert.Kernel4Ideal.defs _ _).mono (fun r h c => ⟨((h.1 c).2 Cert.Kernel4Ideal.main_v27 (Pipeline.mem_restRefs_of Cert.Kernel4Ideal.main_v27 (by decide) (by decide))).trans (end27 m c),
      ((h.1 c).2 Cert.Kernel4Ideal.main_v29 (Pipeline.mem_restRefs_of Cert.Kernel4Ideal.main_v29 (by decide) (by decide))).trans (end29 m c),
      ((h.1 c).2 Cert.Kernel4Ideal.main_v23 (Pipeline.mem_restRefs_of Cert.Kernel4Ideal.main_v23 (by decide) (by decide))).trans (end23 m c),
      ((h.1 c).2 Cert.Kernel4Ideal.main_v31 (Pipeline.mem_restRefs_of Cert.Kernel4Ideal.main_v31 (by decide) (by decide))).trans (end31 m c),
      ((h.1 c).2 Cert.Kernel4Ideal.main_v34 (Pipeline.mem_restRefs_of Cert.Kernel4Ideal.main_v34 (by decide) (by decide))).trans (end34 m c),
      ((h.1 c).2 Cert.Kernel4Ideal.main_v37 (Pipeline.mem_restRefs_of Cert.Kernel4Ideal.main_v37 (by decide) (by decide))).trans (end37 m c),
      ((h.1 c).2 Cert.Kernel4Ideal.main_v40 (Pipeline.mem_restRefs_of Cert.Kernel4Ideal.main_v40 (by decide) (by decide))).trans (end40 m c),
      ((h.1 c).2 Cert.Kernel4Ideal.main_v43 (Pipeline.mem_restRefs_of Cert.Kernel4Ideal.main_v43 (by decide) (by decide))).trans (end43 m c),
      ((h.1 c).2 Cert.Kernel4Ideal.main_v25 (Pipeline.mem_restRefs_of Cert.Kernel4Ideal.main_v25 (by decide) (by decide))).trans (end25 m c), h.2 c⟩) (θ_run_and (Cert.Kernel4Ideal.Gen.run_main (F := Ideal) m g) (Cert.Kernel4Ideal.Gen.unchanged (F := Ideal) m g))
  · refine (θ_run Cert.Reference4Ideal.defs _ _).mono (fun r h c => ?_) (Cert.Reference4Ideal.Value.run (F := Ideal) m' g')
    obtain ⟨a0, a1, a2, a3⟩ := hargs c
    obtain ⟨r0, r1, r2, r3, r4, r5, r6, r7, r8, rest⟩ := h c
    have e0 := r0.trans ((ext3 _ _ (fun b s d => Ref.cut_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b s 0 (by decide) (by decide) d) : _ = res256 (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) 0 (by decide)).trans (congr3 (fun x md w => res256 x md w 0 (by decide)) a0 a1 a2))
    have e1 := r1.trans ((ext3 _ _ (fun b s d => Ref.cut_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b s 256 (by decide) (by decide) d) : _ = res768 (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) 256 (by decide)).trans (congr3 (fun x md w => res768 x md w 256 (by decide)) a0 a1 a2))
    have e2 := r2.trans ((ext3 _ _ (fun b s d => Ref.cut_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b s 1024 (by decide) (by decide) d) : _ = res768 (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) 1024 (by decide)).trans (congr3 (fun x md w => res768 x md w 1024 (by decide)) a0 a1 a2))
    have e3 := r3.trans ((ext3 _ _ (fun b s d => Ref.cut_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b s 1792 (by decide) (by decide) d) : _ = res256 (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) 1792 (by decide)).trans (congr3 (fun x md w => res256 x md w 1792 (by decide)) a0 a1 a2))
    have e4 := r4.trans ((ext3 _ _ (fun b s d => Ref.cut_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b s 2048 (by decide) (by decide) d) : _ = resG (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) ).trans (congr3 (fun x md w => resG x md w ) a0 a1 a2))
    have e5 := r5.trans ((ext4 _ _ (fun b s h k => Ref.head_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b s 2056 (by decide) (by decide) h k) : _ = resH (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) 2056 (by decide)).trans (congr3 (fun x md w => resH x md w 2056 (by decide)) a0 a1 a2))
    have e6 := r6.trans ((ext4 _ _ (fun b s h k => Ref.head_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b s 2312 (by decide) (by decide) h k) : _ = resH (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) 2312 (by decide)).trans (congr3 (fun x md w => resH x md w 2312 (by decide)) a0 a1 a2))
    have e7 := r7.trans ((ext4 _ _ (fun b s h k => Ref.head_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b s 2568 (by decide) (by decide) h k) : _ = resH (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) 2568 (by decide)).trans (congr3 (fun x md w => resH x md w 2568 (by decide)) a0 a1 a2))
    have e8 := r8.trans ((ext3 _ _ (fun b q d => Ref.last_at (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) b (m' ((c : Thread Cert.Reference4Ideal.nD Cert.Reference4Ideal.τ).loc Cert.Reference4Ideal.main_arg3)) q d) : _ = resCd (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) ).trans (congr3 (fun x md w => resCd x md w ) a0 a1 a2))
    exact ⟨e0, e1, e2, e3, e4, e5, e6, e7, e8, rest⟩

end Cert.INS

end
-- ==== Proof.MXS.Tile.lean ====
module

public import proofs.«01_k».proof.Proof.MIX.Block
public import proofs.«01_k».proof.Proof.Gen.Kernel5Ideal.Frame
public import Idealize.ShloMosaic.Lib.Pointwise

@[expose] public section

set_option maxRecDepth 16384

/-! What the kernel's body computes for one row of its tile, stage by stage. -/

noncomputable section

namespace Cert.MXS

open Cert.Kernel5Ideal Cert.Kernel5Ideal.Gen
open Cert.MIX
open Idealize.ShloMosaic Idealize.ShloMosaic.TcCoe

theorem pay3_at (v0 : FVec Ideal S1x512x1024 .f32) (v18 v24 : FVec Ideal S1x512x1024 .f32) (r : Fin 512) (i : Fin 1024) :
    (k0_pay3 v0 v18 v24 : FVec Ideal S512x1024 .bf16) (ix2 r i) = modu (fun j => v0 (ix3 0 r j)) (fun j => v18 (ix3 0 r j)) (fun j => v24 (ix3 0 r j)) i := by
  pointwise [k0_pay3, k0_pay2]
  rfl

theorem pay4_at (v0 : FVec Ideal S1x512x1024 .f32) (v18 v24 : FVec Ideal S1x512x1024 .f32) (v29 : FVec Ideal S1x1024x1024 .bf16) (r : Fin 512) (i : Fin 1024) :
    (k0_pay4 v0 v18 v24 v29 : FVec Ideal S512x1024 .f32) (ix2 r i)
      = Ideal.logistic (mv (fun j => (k0_pay3 v0 v18 v24 : FVec Ideal S512x1024 .bf16) (ix2 r j)) (fun j i => v29 (ix3 0 j i)) i) := by
  pointwise [k0_pay4]
  rfl

theorem pay6_at (v28 : FVec Ideal S512x1024 .bf16) (v32 : FVec Ideal S512x1024 .f32) (v33 : FVec Ideal S1x512x256 .f32) (v35 : FVec Ideal S1x1x256x1024 .bf16)
    (v39 : FVec Ideal S1x1024x1024 .bf16) (v43 : FVec Ideal S1x512x256 .f32) (v45 : FVec Ideal S1x1x256x1024 .bf16) (v50 : FVec Ideal S1x1024x1024 .bf16)
    (v54 : FVec Ideal S1x512x256 .f32) (v56 : FVec Ideal S1x1x256x1024 .bf16) (r : Fin 512) (i : Fin 1024) :
    (k0_pay6 v28 v32 (k0_pay5 v33) v35 v39 v43 v45 v50 v54 v56 : FVec Ideal S512x1024 .f32) (ix2 r i)
      = v32 (ix2 r i) * mv (fun d => v33 (ix3 0 r d)) (fun d i => v35 (ix4 0 0 d i)) i
        + Ideal.logistic (mv (fun j => v28 (ix2 r j)) (fun j i => v39 (ix3 0 j i)) i) * mv (fun d => v43 (ix3 0 r d)) (fun d i => v45 (ix4 0 0 d i)) i
        + Ideal.logistic (mv (fun j => v28 (ix2 r j)) (fun j i => v50 (ix3 0 j i)) i) * mv (fun d => v54 (ix3 0 r d)) (fun d i => v56 (ix4 0 0 d i)) i := by
  pointwise [k0_pay6, k0_pay5]
  rfl

/-- The branches' sum before the output projection. -/
def branches (v28 : FVec Ideal S512x1024 .bf16) (v60 : FVec Ideal S512x1024 .f32) (v61 : FVec Ideal S1x1024x1024 .bf16)
    (v65 : FVec Ideal S1x512x256 .f32) (v67 : FVec Ideal S1x1x256x1024 .bf16) (r : Fin 512) (i : Fin 1024) : EReal :=
  v60 (ix2 r i) + Ideal.logistic (mv (fun j => v28 (ix2 r j)) (fun j i => v61 (ix3 0 j i)) i) * mv (fun d => v65 (ix3 0 r d)) (fun d i => v67 (ix4 0 0 d i)) i

/-- The residual row the tile's mixing part ends with. -/
def residRow (v0 : FVec Ideal S1x512x1024 .f32) (v28 : FVec Ideal S512x1024 .bf16) (v60 : FVec Ideal S512x1024 .f32) (v61 : FVec Ideal S1x1024x1024 .bf16)
    (v65 : FVec Ideal S1x512x256 .f32) (v67 : FVec Ideal S1x1x256x1024 .bf16) (v73 : FVec Ideal S1x1024x1024 .bf16) (v78 : FVec Ideal S1x512x1024 .f32)
    (r : Fin 512) : Fin 1024 → EReal :=
  resid (fun j => v0 (ix3 0 r j)) (fun j => v78 (ix3 0 r j)) (mv (branches v28 v60 v61 v65 v67 r) (fun j i => v73 (ix3 0 j i)))

theorem pay8_at (v0 : FVec Ideal S1x512x1024 .f32) (v28 : FVec Ideal S512x1024 .bf16) (v60 : FVec Ideal S512x1024 .f32) (v61 : FVec Ideal S1x1024x1024 .bf16)
    (v65 : FVec Ideal S1x512x256 .f32) (v67 : FVec Ideal S1x1x256x1024 .bf16) (v73 : FVec Ideal S1x1024x1024 .bf16) (v78 : FVec Ideal S1x512x1024 .f32)
    (r : Fin 512) (i : Fin 1024) :
    (k0_pay8 (k0_pay2 v0) v28 v60 (k0_pay7 v61) v65 v67 v73 v78 : FVec Ideal S512x1024 .f32) (ix2 r i)
      = cen (residRow v0 v28 v60 v61 v65 v67 v73 v78 r) i := by
  pointwise [k0_pay8, k0_pay2, k0_pay7]
  rfl

theorem pay9_at (v1 : FVec Ideal S512x1024 .f32) (v28 : FVec Ideal S512x1024 .bf16) (v60 : FVec Ideal S512x1024 .f32) (v61 : FVec Ideal S1024x1024 .bf16)
    (v65 : FVec Ideal S1x512x256 .f32) (v67 : FVec Ideal S1x1x256x1024 .bf16) (v73 : FVec Ideal S1x1024x1024 .bf16) (v78 : FVec Ideal S1x512x1024 .f32)
    (r : Fin 512) (i : Fin 1024) :
    (k0_pay8 v1 v28 v60 v61 v65 v67 v73 v78 : FVec Ideal S512x1024 .f32) (ix2 r i) * (k0_pay9 v1 v28 v60 v61 v65 v67 v73 v78 : FVec Ideal S512x1024 .f32) (ix2 r i)
      = scaled (fun j => (k0_pay8 v1 v28 v60 v61 v65 v67 v73 v78 : FVec Ideal S512x1024 .f32) (ix2 r j)) i := by
  pointwise [k0_pay9]
  rfl

theorem pay10_at (v91 v100 : FVec Ideal S512x1024 .f32) (v101 v105 : FVec Ideal S1x1024 .f32) (r : Fin 512) (i : Fin 1024) :
    (k0_pay10 v91 v100 v101 v105 : FVec Ideal S512x1024 .f32) (ix2 r i) = v91 (ix2 r i) * v100 (ix2 r i) * v101 (ix2 0 i) + v105 (ix2 0 i) := by
  pointwise [k0_pay10]

theorem pay11_at (v91 v100 : FVec Ideal S512x1024 .f32) (v101 v105 : FVec Ideal S1x1024 .f32) (v125 v131 : FVec Ideal S1x512x1024 .f32) (r : Fin 512) (i : Fin 1024) :
    (k0_pay11 v91 v100 v101 v105 v125 v131 : FVec Ideal S512x1024 .bf16) (ix2 r i)
      = modu (fun j => (k0_pay10 v91 v100 v101 v105 : FVec Ideal S512x1024 .f32) (ix2 r j)) (fun j => v125 (ix3 0 r j)) (fun j => v131 (ix3 0 r j)) i := by
  pointwise [k0_pay11]
  rfl

theorem pay12_at (v91 v100 : FVec Ideal S512x1024 .f32) (v101 v105 : FVec Ideal S1x1024 .f32) (v125 v131 : FVec Ideal S1x512x1024 .f32) (v136 : FVec Ideal S1x1024x640 .bf16)
    (r : Fin 512) (i : Fin 640) :
    (k0_pay12 v91 v100 v101 v105 v125 v131 v136 : FVec Ideal S512x640 .f32) (ix2 r i)
      = mv (fun j => (k0_pay11 v91 v100 v101 v105 v125 v131 : FVec Ideal S512x1024 .bf16) (ix2 r j)) (fun j i => v136 (ix3 0 j i)) i := by
  pointwise [k0_pay12]
  rfl

theorem pay13_at (v135 : FVec Ideal S512x1024 .bf16) (v138 : FVec Ideal S512x640 .f32) (v139 : FVec Ideal S1x1024x640 .bf16) (v146 : FVec Ideal S1x640x1024 .bf16)
    (v149 v152 : FVec Ideal S1x1024x768 .bf16) (v159 : FVec Ideal S1x768x1024 .bf16) (r : Fin 512) (i : Fin 1024) :
    (k0_pay13 v135 v138 v139 v146 v149 v152 v159 : FVec Ideal S512x1024 .f32) (ix2 r i)
      = mv (fun n => v138 (ix2 r n) * Ideal.logistic (v138 (ix2 r n)) * mv (fun j => v135 (ix2 r j)) (fun j i => v139 (ix3 0 j i)) n) (fun n i => v146 (ix3 0 n i)) i
        + mv (act2 (fun j => v135 (ix2 r j)) (fun j i => v149 (ix3 0 j i)) (fun j i => v152 (ix3 0 j i))) (fun n i => v159 (ix3 0 n i)) i := by
  pointwise [k0_pay13]
  rfl

theorem pay14_at (v135 : FVec Ideal S512x1024 .bf16) (v163 v166 : FVec Ideal S1x1024x640 .bf16) (r : Fin 512) (i : Fin 640) :
    (k0_pay14 v135 v163 v166 : FVec Ideal S512x640 .bf16) (ix2 r i)
      = act2 (fun j => v135 (ix2 r j)) (fun j i => v163 (ix3 0 j i)) (fun j i => v166 (ix3 0 j i)) i := by
  pointwise [k0_pay14]
  rfl

theorem pay15_at (v108 : FVec Ideal S512x1024 .f32) (v135 : FVec Ideal S512x1024 .bf16) (v162 : FVec Ideal S512x1024 .f32) (v172 : FVec Ideal S512x640 .bf16)
    (v173 : FVec Ideal S1x640x1024 .bf16) (v177 v180 : FVec Ideal S1x1024x768 .bf16) (v187 : FVec Ideal S1x768x1024 .bf16) (v193 : FVec Ideal S1x512x1024 .f32)
    (r : Fin 512) (i : Fin 1024) :
    (k0_pay15 v108 v135 v162 v172 v173 v177 v180 v187 v193 : FVec Ideal S512x1024 .f32) (ix2 r i)
      = cen (resid (fun j => v108 (ix2 r j)) (fun j => v193 (ix3 0 r j)) fun i => v162 (ix2 r i)
          + mv (fun n => v172 (ix2 r n)) (fun n i => v173 (ix3 0 n i)) i
          + mv (act2 (fun j => v135 (ix2 r j)) (fun j i => v177 (ix3 0 j i)) (fun j i => v180 (ix3 0 j i))) (fun n i => v187 (ix3 0 n i)) i) i := by
  pointwise [k0_pay15]
  rfl

theorem pay16_at (v108 : FVec Ideal S512x1024 .f32) (v135 : FVec Ideal S512x1024 .bf16) (v162 : FVec Ideal S512x1024 .f32) (v172 : FVec Ideal S512x640 .bf16)
    (v173 : FVec Ideal S1x640x1024 .bf16) (v177 v180 : FVec Ideal S1x1024x768 .bf16) (v187 : FVec Ideal S1x768x1024 .bf16) (v193 : FVec Ideal S1x512x1024 .f32)
    (r : Fin 512) :
    (k0_pay16 v108 v135 v162 v172 v173 v177 v180 v187 v193 : FVec Ideal S512x1 .f32) (ix2 r 0)
      = ∑ j, (k0_pay15 v108 v135 v162 v172 v173 v177 v180 v187 v193 : FVec Ideal S512x1024 .f32) (ix2 r j)
          * (k0_pay15 v108 v135 v162 v172 v173 v177 v180 v187 v193 : FVec Ideal S512x1024 .f32) (ix2 r j) := by
  pointwise [k0_pay16]

theorem pay1_at (v205 : FVec Ideal S512x1024 .f32) (v208 : FVec Ideal S512x1 .f32) (v216 v220 : FVec Ideal S1x1024 .f32) (r : Fin 512) (i : Fin 1024)
    (h : v208 (ix2 r 0) = ∑ j, v205 (ix2 r j) * v205 (ix2 r j)) :
    (k0_pay1 v205 v208 k0_pay17 v216 v220 : FVec Ideal S1x512x1024 .f32) (ix3 0 r i)
      = scaled (fun j => v205 (ix2 r j)) i * v216 (ix2 0 i) + v220 (ix2 0 i) := by
  pointwise [k0_pay1, k0_pay17]
  rw [h]
  rfl

end Cert.MXS

end
-- ==== Proof.MXS.Block.lean ====
module

public import proofs.«01_k».proof.Proof.MXS.Tile
public import Idealize.ShloMosaic.Lib.Pipeline.ValueKit
public import Idealize.ShloMosaic.Lib.Claim

@[expose] public section

set_option maxRecDepth 16384

/-! One grid point's block of the result, from the blocks it is computed from. -/

noncomputable section

namespace Cert.MXS

open Cert.Kernel5Ideal Cert.Kernel5Ideal.Gen
open Cert.MIX (modu mv nrm cen scaled aff mid last mixed resid act gcol ucol vcol sum_chunks rowOut act2 gcol_zero act2_col)
open Idealize.ShloMosaic Idealize.ShloMosaic.TcCoe

variable (x0 x1 x2 x3 x4 x5 x6 : Vec Ideal S1x512x1024 .f32) (x7 x8 x9 x10 : Vec Ideal S1x512x256 .f32)
  (x11 : Vec Ideal S1x1024x4096 .bf16) (x12 : Vec Ideal S1x4x256x1024 .bf16) (x13 : Vec Ideal S1x1024x1024 .bf16) (x14 x15 : Vec Ideal S1x1024 .f32)
  (x16 : Vec Ideal S1x1024x5632 .bf16) (x17 : Vec Ideal S1x2816x1024 .bf16) (x18 x19 : Vec Ideal S1x1024 .f32) (r : Fin 512)

/-! ## The blocks' rows and matrices -/

def lane (x : Vec Ideal S1x1024 .f32) (j : Fin 1024) : EReal := x (ix2 0 j)
def xrow (j : Fin 1024) : EReal := x0 (ix3 0 r j)
def yrow : Fin 4 → Fin 256 → EReal := ![fun d => x7 (ix3 0 r d), fun d => x8 (ix3 0 r d), fun d => x9 (ix3 0 r d), fun d => x10 (ix3 0 r d)]
def wgM (j : Fin 1024) (i : Fin 4096) : EReal := x11 (ix3 0 j i)
def wbrM (k : Fin 4) (d : Fin 256) (i : Fin 1024) : EReal := x12 (ix4 0 k d i)
def woM (j i : Fin 1024) : EReal := x13 (ix3 0 j i)
def wupM (j : Fin 1024) (i : Fin 5632) : EReal := x16 (ix3 0 j i)
def wdnM (n : Fin 2816) (i : Fin 1024) : EReal := x17 (ix3 0 n i)

/-! ## The rows between the stages -/

def hrow : Fin 1024 → EReal := modu (xrow x0 r) (xrow x2 r) (xrow x1 r)
def midrow : Fin 1024 → EReal :=
  mid (xrow x0 r) (xrow x1 r) (xrow x2 r) (xrow x3 r) (yrow x7 x8 x9 x10 r) (wbrM x12) (wgM x11) (woM x13)
def x2row : Fin 1024 → EReal := aff (midrow x0 x1 x2 x3 x7 x8 x9 x10 x11 x12 x13 r) (lane x14) (lane x15)
def h2row : Fin 1024 → EReal := modu (x2row x0 x1 x2 x3 x7 x8 x9 x10 x11 x12 x13 x14 x15 r) (xrow x5 r) (xrow x4 r)

theorem pay19_at (i : Fin 1024) : (k0_pay19 x0 x1 x2 x3 x4 x5 x6 x7 x8 x9 x10 x11 x12 x13 x14 x15 x16 x17 x18 x19 : FVec Ideal S512x1024 .bf16) (ix2 r i) = (hrow x0 x1 x2 r) i := by
  unfold k0_pay19
  refine (pay3_at _ _ _ r i).trans ?_
  pointwise
  rfl

theorem pay19_row : (fun j => (k0_pay19 x0 x1 x2 x3 x4 x5 x6 x7 x8 x9 x10 x11 x12 x13 x14 x15 x16 x17 x18 x19 : FVec Ideal S512x1024 .bf16) (ix2 r j)) = (hrow x0 x1 x2 r) :=
  funext (pay19_at x0 x1 x2 x3 x4 x5 x6 x7 x8 x9 x10 x11 x12 x13 x14 x15 x16 x17 x18 x19 r)

theorem pay22_at (i : Fin 1024) : (k0_pay22 x0 x1 x2 x3 x4 x5 x6 x7 x8 x9 x10 x11 x12 x13 x14 x15 x16 x17 x18 x19 : FVec Ideal S512x1024 .f32) (ix2 r i) = cen (midrow x0 x1 x2 x3 x7 x8 x9 x10 x11 x12 x13 r) i := by
  unfold k0_pay22 k0_pay18 k0_pay21
  refine (pay8_at _ _ _ _ _ _ _ _ r i).trans ?_
  refine congrArg (fun f => cen f i) ?_
  unfold midrow mid residRow
  have e : branches (k0_pay19 x0 x1 x2 x3 x4 x5 x6 x7 x8 x9 x10 x11 x12 x13 x14 x15 x16 x17 x18 x19) (k0_pay20 x0 x1 x2 x3 x4 x5 x6 x7 x8 x9 x10 x11 x12 x13 x14 x15 x16 x17 x18 x19)
      (View.ld x11 r0_8) (View.ld x10 r0_2) (View.ld x12 r0_9) r
      = mixed (hrow x0 x1 x2 r) (yrow x7 x8 x9 x10 r) (wbrM x12) (wgM x11) := by
    funext i
    have e3 := pay19_row x0 x1 x2 x3 x4 x5 x6 x7 x8 x9 x10 x11 x12 x13 x14 x15 x16 x17 x18 x19 r
    unfold branches mixed k0_pay20
    rw [pay6_at, pay4_at, e3, Fin.sum_univ_four]
    unfold k0_pay19 at e3
    rw [e3]
    pointwise
    refine congrArg₂ (· + ·) (congrArg₂ (· + ·) (congrArg₂ (· + ·) ?_ rfl) rfl) rfl
    exact congrArg (fun c => Ideal.logistic (mv (hrow x0 x1 x2 r) (wgM x11) c) * mv (yrow x7 x8 x9 x10 r 0) (wbrM x12 0) i) (gcol_zero i)
  refine (congrArg (fun b => resid _ _ (mv b _)) e).trans ?_
  funext i
  unfold resid mv
  pointwise
  rfl

theorem pay23_at (i : Fin 1024) : (k0_pay22 x0 x1 x2 x3 x4 x5 x6 x7 x8 x9 x10 x11 x12 x13 x14 x15 x16 x17 x18 x19 : FVec Ideal S512x1024 .f32) (ix2 r i) * (k0_pay23 x0 x1 x2 x3 x4 x5 x6 x7 x8 x9 x10 x11 x12 x13 x14 x15 x16 x17 x18 x19 : FVec Ideal S512x1024 .f32) (ix2 r i) = nrm (midrow x0 x1 x2 x3 x7 x8 x9 x10 x11 x12 x13 r) i :=
  (pay9_at _ _ _ _ _ _ _ _ r i).trans (congrArg (fun f => scaled f i) (funext (pay22_at x0 x1 x2 x3 x4 x5 x6 x7 x8 x9 x10 x11 x12 x13 x14 x15 x16 x17 x18 x19 r)))

theorem pay24_at (i : Fin 1024) : (k0_pay24 x0 x1 x2 x3 x4 x5 x6 x7 x8 x9 x10 x11 x12 x13 x14 x15 x16 x17 x18 x19 : FVec Ideal S512x1024 .f32) (ix2 r i) = (x2row x0 x1 x2 x3 x7 x8 x9 x10 x11 x12 x13 x14 x15 r) i := by
  unfold k0_pay24
  rw [pay10_at, pay23_at]
  pointwise
  rfl

theorem pay25_at (i : Fin 1024) : (k0_pay25 x0 x1 x2 x3 x4 x5 x6 x7 x8 x9 x10 x11 x12 x13 x14 x15 x16 x17 x18 x19 : FVec Ideal S512x1024 .bf16) (ix2 r i) = (h2row x0 x1 x2 x3 x4 x5 x7 x8 x9 x10 x11 x12 x13 x14 x15 r) i := by
  unfold k0_pay25
  have e := funext (pay24_at x0 x1 x2 x3 x4 x5 x6 x7 x8 x9 x10 x11 x12 x13 x14 x15 x16 x17 x18 x19 r)
  unfold k0_pay24 at e
  rw [pay11_at, e]
  pointwise
  rfl

theorem pay25_row : (fun j => (k0_pay25 x0 x1 x2 x3 x4 x5 x6 x7 x8 x9 x10 x11 x12 x13 x14 x15 x16 x17 x18 x19 : FVec Ideal S512x1024 .bf16) (ix2 r j)) = (h2row x0 x1 x2 x3 x4 x5 x7 x8 x9 x10 x11 x12 x13 x14 x15 r) :=
  funext (pay25_at x0 x1 x2 x3 x4 x5 x6 x7 x8 x9 x10 x11 x12 x13 x14 x15 x16 x17 x18 x19 r)

theorem pay26_at (i : Fin 1024) : (k0_pay26 x0 x1 x2 x3 x4 x5 x6 x7 x8 x9 x10 x11 x12 x13 x14 x15 x16 x17 x18 x19 : FVec Ideal S512x1024 .f32) (ix2 r i)
    = (∑ n : Fin 640, act (h2row x0 x1 x2 x3 x4 x5 x7 x8 x9 x10 x11 x12 x13 x14 x15 r) (wupM x16) ⟨n.val, by omega⟩ * wdnM x17 ⟨n.val, by omega⟩ i)
      + ∑ n : Fin 768, act (h2row x0 x1 x2 x3 x4 x5 x7 x8 x9 x10 x11 x12 x13 x14 x15 r) (wupM x16) ⟨640 + n.val, by omega⟩ * wdnM x17 ⟨640 + n.val, by omega⟩ i := by
  unfold k0_pay26
  have e := pay25_row x0 x1 x2 x3 x4 x5 x6 x7 x8 x9 x10 x11 x12 x13 x14 x15 x16 x17 x18 x19 r
  rw [pay13_at, e]
  unfold k0_pay25 at e
  simp only [pay12_at]
  rw [e]
  refine congrArg₂ (· + ·) (Finset.sum_congr rfl fun n _ => ?_) (Finset.sum_congr rfl fun n _ => ?_)
  · refine congrArg₂ (· * ·) (act2_col (h2row x0 x1 x2 x3 x4 x5 x7 x8 x9 x10 x11 x12 x13 x14 x15 r) (wupM x16) _ _ n ⟨n.val, by omega⟩ (fun j => ?_) fun j => ?_) ?_
    · pointwise
      rfl
    · pointwise
      rfl
    · pointwise
      rfl
  · refine congrArg₂ (· * ·) (act2_col (h2row x0 x1 x2 x3 x4 x5 x7 x8 x9 x10 x11 x12 x13 x14 x15 r) (wupM x16) _ _ n ⟨640 + n.val, by omega⟩ (fun j => ?_) fun j => ?_) ?_
    · pointwise
      rfl
    · pointwise
      exact congrArg (fun c => x16 (ix3 0 j c)) (Fin.ext (by show 3456 + n.val = 2816 + (640 + n.val); omega))
    · pointwise
      rfl

theorem pay27_at (n : Fin 640) : (k0_pay27 x0 x1 x2 x3 x4 x5 x6 x7 x8 x9 x10 x11 x12 x13 x14 x15 x16 x17 x18 x19 : FVec Ideal S512x640 .bf16) (ix2 r n)
    = act (h2row x0 x1 x2 x3 x4 x5 x7 x8 x9 x10 x11 x12 x13 x14 x15 r) (wupM x16) ⟨1408 + n.val, by omega⟩ := by
  unfold k0_pay27
  rw [pay14_at, pay25_row x0 x1 x2 x3 x4 x5 x6 x7 x8 x9 x10 x11 x12 x13 x14 x15 x16 x17 x18 x19 r]
  refine act2_col (h2row x0 x1 x2 x3 x4 x5 x7 x8 x9 x10 x11 x12 x13 x14 x15 r) (wupM x16) _ _ n ⟨1408 + n.val, by omega⟩ (fun j => ?_) fun j => ?_
  · pointwise
    rfl
  · pointwise
    exact congrArg (fun c => x16 (ix3 0 j c)) (Fin.ext (by show 4224 + n.val = 2816 + (1408 + n.val); omega))

theorem block_at (i : Fin 1024) :
    out0_20 x0 x1 x2 x3 x4 x5 x6 x7 x8 x9 x10 x11 x12 x13 x14 x15 x16 x17 x18 x19 (ix3 0 r i)
      = rowOut (xrow x0 r) (xrow x1 r) (xrow x2 r) (xrow x3 r) (xrow x4 r) (xrow x5 r) (xrow x6 r) (yrow x7 x8 x9 x10 r) (wbrM x12) (wgM x11) (woM x13)
          (lane x14) (lane x15) (wupM x16) (wdnM x17) (lane x18) (lane x19) i := by
  frame_out
  refine (pay1_at _ _ _ _ r i (pay16_at _ _ _ _ _ _ _ _ _ r)).trans ?_
  simp only [pay15_at]
  have e : (fun i => (k0_pay26 x0 x1 x2 x3 x4 x5 x6 x7 x8 x9 x10 x11 x12 x13 x14 x15 x16 x17 x18 x19 : FVec Ideal S512x1024 .f32) (ix2 r i)
      + mv (fun n => (k0_pay27 x0 x1 x2 x3 x4 x5 x6 x7 x8 x9 x10 x11 x12 x13 x14 x15 x16 x17 x18 x19 : FVec Ideal S512x640 .bf16) (ix2 r n)) (fun n i => (View.ld x17 r0_20 : FVec Ideal S1x640x1024 .bf16) (ix3 0 n i)) i
      + mv (act2 (fun j => (k0_pay25 x0 x1 x2 x3 x4 x5 x6 x7 x8 x9 x10 x11 x12 x13 x14 x15 x16 x17 x18 x19 : FVec Ideal S512x1024 .bf16) (ix2 r j)) (fun j i => (View.ld x16 r0_21 : FVec Ideal S1x1024x768 .bf16) (ix3 0 j i))
          fun j i => (View.ld x16 r0_22 : FVec Ideal S1x1024x768 .bf16) (ix3 0 j i)) (fun n i => (View.ld x17 r0_23 : FVec Ideal S1x768x1024 .bf16) (ix3 0 n i)) i)
      = mv (act (h2row x0 x1 x2 x3 x4 x5 x7 x8 x9 x10 x11 x12 x13 x14 x15 r) (wupM x16)) (wdnM x17) := by
    funext i
    rw [pay26_at, pay25_row x0 x1 x2 x3 x4 x5 x6 x7 x8 x9 x10 x11 x12 x13 x14 x15 x16 x17 x18 x19 r]
    refine Eq.trans ?_ (sum_chunks fun n => act (h2row x0 x1 x2 x3 x4 x5 x7 x8 x9 x10 x11 x12 x13 x14 x15 r) (wupM x16) n * wdnM x17 n i)
    refine congrArg₂ (· + ·) (congrArg₂ (· + ·) rfl (Finset.sum_congr rfl fun n _ => ?_)) (Finset.sum_congr rfl fun n _ => ?_)
    · refine congrArg₂ (· * ·) (pay27_at x0 x1 x2 x3 x4 x5 x6 x7 x8 x9 x10 x11 x12 x13 x14 x15 x16 x17 x18 x19 r n) ?_
      pointwise
      rfl
    · refine congrArg₂ (· * ·) (act2_col (h2row x0 x1 x2 x3 x4 x5 x7 x8 x9 x10 x11 x12 x13 x14 x15 r) (wupM x16) _ _ n ⟨2048 + n.val, by omega⟩ (fun j => ?_) fun j => ?_) ?_
      · pointwise
        rfl
      · pointwise
        exact congrArg (fun c => x16 (ix3 0 j c)) (Fin.ext (by show 4864 + n.val = 2816 + (2048 + n.val); omega))
      · pointwise
        rfl
  have e18 := funext (pay24_at x0 x1 x2 x3 x4 x5 x6 x7 x8 x9 x10 x11 x12 x13 x14 x15 x16 x17 x18 x19 r)
  refine congrArg₂ (· + ·) (congrArg₂ (· * ·) (congrArg (fun f => scaled (fun j => cen f j) i) (congrArg₂ (fun a b => resid a _ b) e18 e)) rfl) rfl

end Cert.MXS

end
-- ==== Proof.MXS.Ref.lean ====
module

public import proofs.«01_k».proof.Proof.MXS.Block
public import proofs.«01_k».proof.Proof.Gen.Reference5Ideal.Run

@[expose] public section

set_option maxRecDepth 16384

/-! The reference's result over exact arithmetic: each token's row is the same function of the arguments' rows. -/

noncomputable section

namespace Cert.MXS.Ref

open Cert.Reference5Ideal Cert.Reference5Ideal.Gen
open Cert.MIX
open Idealize.ShloMosaic Idealize.ShloMosaic.TcCoe

abbrev Tok := FVec Ideal S128x4x1024 .f32

/-! ## The reference's term, named part by part -/

def meanR (x : Tok) : FVec Ideal S128x4x1 .f32 :=
  Host.divf (broadcastInDim S128x4x1 ![0, 1] bcast_S128x4_S128x4x1_0_1 (Host.reduceAdd x (constant S_ .f32 0x00000000#32) reducesTo_S128x4x1024_S128x4_d2 h_S_))
    (broadcastInDim S128x4x1 ![] bcast_S_S128x4x1 (constant S_ .f32 0x44800000#32))

def cenR (x : Tok) : Tok := subf x (broadcastInDim S128x4x1024 ![0, 1, 2] bcast_S128x4x1_S128x4x1024_0_1_2 (meanR x))

def nrmR (x : Tok) : Tok :=
  mulf (cenR x) (broadcastInDim S128x4x1024 ![0, 1, 2] bcast_S128x4x1_S128x4x1024_0_1_2
    (Host.rsqrt (addf (Host.divf (broadcastInDim S128x4x1 ![0, 1] bcast_S128x4_S128x4x1_0_1
        (Host.reduceAdd (mulf (cenR x) (cenR x)) (constant S_ .f32 0x00000000#32) reducesTo_S128x4x1024_S128x4_d2 h_S_))
      (broadcastInDim S128x4x1 ![] bcast_S_S128x4x1 (constant S_ .f32 0x44800000#32)))
      (broadcastInDim S128x4x1 ![] bcast_S_S128x4x1 (constant S_ .f32 0x3727C5AC#32)))))

def onePlus (g : FVec Ideal S128x1x1024 .f32) : Tok :=
  broadcastInDim S128x4x1024 ![0, 1, 2] bcast_S128x1x1024_S128x4x1024_0_1_2
    (addf (broadcastInDim S128x1x1024 ![] bcast_S_S128x1x1024 (constant S_ .f32 0x3F800000#32)) g)

def moduR (x : Tok) (sc sh : FVec Ideal S128x1x1024 .f32) : Tok :=
  addf (mulf (nrmR x) (onePlus sc)) (broadcastInDim S128x4x1024 ![0, 1, 2] bcast_S128x1x1024_S128x4x1024_0_1_2 sh)

def residR (x : Tok) (g : FVec Ideal S128x1x1024 .f32) (p : Tok) : Tok :=
  addf (mulf (broadcastInDim S128x4x1024 ![] bcast_S_S128x4x1024 (constant S_ .f32 0x3FB504F3#32)) x) (mulf (onePlus g) p)

def laneR (v : FVec Ideal S2x1024 .f32) : Tok :=
  broadcastInDim S128x4x1024 ![0, 1, 2] bcast_S1x1x1024_S128x4x1024_0_1_2 (broadcastInDim S1x1x1024 ![2] bcast_S1024_S1x1x1024_2
    (shapeCast _ (extractStridedSlice S1x1024 ![1, 0] v slices_S2x1024_S1x1024_1_0) shapeCasts_S1x1024_S1024))

def affR (x : Tok) (g b : FVec Ideal S2x1024 .f32) : Tok := addf (mulf (nrmR x) (laneR g)) (laneR b)

def gatesR (h : Tok) (wg : FVec Ideal S2x1024x4096 .f32) : FVec Ideal S128x4x4x1024 .f32 :=
  shapeCast _ (Host.divf (broadcastInDim S128x4x4096 ![] bcast_S_S128x4x4096 (constant S_ .f32 0x3F800000#32))
    (addf (broadcastInDim S128x4x4096 ![] bcast_S_S128x4x4096 (constant S_ .f32 0x3F800000#32))
      (Host.exp (Host.negf (Host.dotGeneral dot_S128x4x1024_S1024x4096_S128x4x4096_2_0_01_1_n_n none h
        (shapeCast _ (extractStridedSlice S1x1024x4096 ![1, 0, 0] wg slices_S2x1024x4096_S1x1024x4096_1_0_0) shapeCasts_S1x1024x4096_S1024x4096))))))
    shapeCasts_S128x4x4096_S128x4x4x1024

def ext (y : FVec Ideal S128x4x256 .f32) : FVec Ideal S128x4x1x256 .f32 :=
  broadcastInDim S128x4x1x256 ![0, 1, 3] bcast_S128x4x256_S128x4x1x256_0_1_3 y

def projR (ya yb yc yd : FVec Ideal S128x4x256 .f32) (wbr : FVec Ideal S2x4x256x1024 .f32) : FVec Ideal S128x4x4x1024 .f32 :=
  transpose S128x4x4x1024 [2, 3, 0, 1] (Host.dotGeneral dot_S4x256x1024_S128x4x4x256_S4x1024x128x4_1_3_2_01_0_2 (φ₂ := .f32) none
    (shapeCast _ (extractStridedSlice S1x4x256x1024 ![1, 0, 0, 0] wbr slices_S2x4x256x1024_S1x4x256x1024_1_0_0_0) shapeCasts_S1x4x256x1024_S4x256x1024)
    ((concatenate S128x4x4x256 2 [⟨S128x4x1x256, (ext ya : (⟨S128x4x1x256, .f32⟩ : BufTy).Contents (Elt Ideal))⟩,
      ⟨S128x4x1x256, (ext yb : (⟨S128x4x1x256, .f32⟩ : BufTy).Contents (Elt Ideal))⟩,
      ⟨S128x4x1x256, (ext yc : (⟨S128x4x1x256, .f32⟩ : BufTy).Contents (Elt Ideal))⟩,
      ⟨S128x4x1x256, (ext yd : (⟨S128x4x1x256, .f32⟩ : BufTy).Contents (Elt Ideal))⟩]
      concatenates_S128x4x1x256_S128x4x1x256_S128x4x1x256_S128x4x1x256_S128x4x4x256_d2 : (⟨S128x4x4x256, .f32⟩ : BufTy).Contents (Elt Ideal))))
    transposes_S4x1024x128x4_S128x4x4x1024_2_3_0_1

def mixedR (g p : FVec Ideal S128x4x4x1024 .f32) : Tok :=
  Host.reduceAdd (mulf g p) (constant S_ .f32 0x00000000#32) reducesTo_S128x4x4x1024_S128x4x1024_d2 h_S_

def woR (m : Tok) (wo : FVec Ideal S2x1024x1024 .f32) : Tok :=
  Host.dotGeneral dot_S128x4x1024_S1024x1024_S128x4x1024_2_0_01_1_n_n none m
    (shapeCast _ (extractStridedSlice S1x1024x1024 ![1, 0, 0] wo slices_S2x1024x1024_S1x1024x1024_1_0_0) shapeCasts_S1x1024x1024_S1024x1024)

def upR (h : Tok) (wup : FVec Ideal S2x1024x5632 .f32) : FVec Ideal S128x4x5632 .f32 :=
  Host.dotGeneral dot_S128x4x1024_S1024x5632_S128x4x5632_2_0_01_1_n_n none h
    (shapeCast _ (extractStridedSlice S1x1024x5632 ![1, 0, 0] wup slices_S2x1024x5632_S1x1024x5632_1_0_0) shapeCasts_S1x1024x5632_S1024x5632)

def uR (a : FVec Ideal S128x4x5632 .f32) : FVec Ideal S128x4x2816 .f32 :=
  extractStridedSlice S128x4x2816 ![0, 0, 0] a slices_S128x4x5632_S128x4x2816_0_0_0

def actR (a : FVec Ideal S128x4x5632 .f32) : FVec Ideal S128x4x2816 .f32 :=
  mulf (mulf (uR a) (Host.divf (broadcastInDim S128x4x2816 ![] bcast_S_S128x4x2816 (constant S_ .f32 0x3F800000#32))
      (addf (broadcastInDim S128x4x2816 ![] bcast_S_S128x4x2816 (constant S_ .f32 0x3F800000#32)) (Host.exp (Host.negf (uR a))))))
    (extractStridedSlice S128x4x2816 ![0, 0, 2816] a slices_S128x4x5632_S128x4x2816_0_0_2816)

def downR (a : FVec Ideal S128x4x2816 .f32) (wdn : FVec Ideal S2x2816x1024 .f32) : Tok :=
  Host.dotGeneral dot_S128x4x2816_S2816x1024_S128x4x1024_2_0_01_1_n_n none a
    (shapeCast _ (extractStridedSlice S1x2816x1024 ![1, 0, 0] wdn slices_S2x2816x1024_S1x2816x1024_1_0_0) shapeCasts_S1x2816x1024_S2816x1024)

variable (x : Tok) (md : FVec Ideal S128x1x6144 .f32) (ya yb yc yd : FVec Ideal S128x4x256 .f32) (wbr : FVec Ideal S2x4x256x1024 .f32)
  (wg : FVec Ideal S2x1024x4096 .f32) (wo : FVec Ideal S2x1024x1024 .f32) (l1g l1b : FVec Ideal S2x1024 .f32) (wup : FVec Ideal S2x1024x5632 .f32)
  (wdn : FVec Ideal S2x2816x1024 .f32) (l2g l2b : FVec Ideal S2x1024 .f32)

def midR : Tok :=
  residR x (extractStridedSlice S128x1x1024 ![0, 0, 2048] md slices_S128x1x6144_S128x1x1024_0_0_2048)
    (woR (mixedR (gatesR (moduR x (extractStridedSlice S128x1x1024 ![0, 0, 1024] md slices_S128x1x6144_S128x1x1024_0_0_1024)
      (extractStridedSlice S128x1x1024 ![0, 0, 0] md slices_S128x1x6144_S128x1x1024_0_0_0)) wg) (projR ya yb yc yd wbr)) wo)

def lastR (z : Tok) : Tok :=
  affR (residR z (extractStridedSlice S128x1x1024 ![0, 0, 5120] md slices_S128x1x6144_S128x1x1024_0_0_5120)
    (downR (actR (upR (moduR z (extractStridedSlice S128x1x1024 ![0, 0, 4096] md slices_S128x1x6144_S128x1x1024_0_0_4096)
      (extractStridedSlice S128x1x1024 ![0, 0, 3072] md slices_S128x1x6144_S128x1x1024_0_0_3072)) wup)) wdn)) l2g l2b

def refR : Tok := lastR md wup wdn l2g l2b (affR (midR x md ya yb yc yd wbr wg wo) l1g l1b)

/-! ## Each part at an index -/

/-- A token's row. -/
def row (x : Tok) (b : Fin 128) (t : Fin 4) (j : Fin 1024) : EReal := x (ix3 b t j)

/-- The modulation's stretch number `k` for a batch entry. -/
def seg (md : FVec Ideal S128x1x6144 .f32) (b : Fin 128) (k : Fin 6) (j : Fin 1024) : EReal := md (ix3 b 0 ⟨1024 * k.val + j.val, by omega⟩)

/-- Layer zero's vectors and matrices. -/
def vec1 (v : FVec Ideal S2x1024 .f32) (j : Fin 1024) : EReal := v (ix2 1 j)
def mat1 {n k : ℕ} (w : FVec Ideal (⟨3, ![2, n, k]⟩ : Shape) .f32) (j : Fin n) (i : Fin k) : EReal := w (ix3 1 j i)
def wbr1 (w : FVec Ideal S2x4x256x1024 .f32) (k : Fin 4) (d : Fin 256) (i : Fin 1024) : EReal := w (ix4 1 k d i)
def ys (b : Fin 128) (t : Fin 4) : Fin 4 → Fin 256 → EReal := ![fun d => ya (ix3 b t d), fun d => yb (ix3 b t d), fun d => yc (ix3 b t d), fun d => yd (ix3 b t d)]

variable (b : Fin 128) (t : Fin 4)

theorem nrmR_at (i : Fin 1024) : nrmR x (ix3 b t i) = nrm (row x b t) i := by
  pointwise [nrmR, cenR, meanR]
  rfl

theorem onePlus_at (g : FVec Ideal S128x1x1024 .f32) (i : Fin 1024) : onePlus g (ix3 b t i) = 1 + g (ix3 b 0 i) := by
  pointwise [onePlus]

theorem moduR_at (sc sh : FVec Ideal S128x1x1024 .f32) (i : Fin 1024) :
    moduR x sc sh (ix3 b t i) = modu (row x b t) (fun j => sc (ix3 b 0 j)) (fun j => sh (ix3 b 0 j)) i := by
  pointwise [moduR]
  rw [nrmR_at, onePlus_at]
  rfl

theorem residR_at (g : FVec Ideal S128x1x1024 .f32) (p : Tok) (i : Fin 1024) :
    residR x g p (ix3 b t i) = resid (row x b t) (fun j => g (ix3 b 0 j)) (row p b t) i := by
  pointwise [residR]
  rw [onePlus_at]
  rfl

theorem laneR_at (v : FVec Ideal S2x1024 .f32) (i : Fin 1024) : laneR v (ix3 b t i) = vec1 v i := by
  pointwise [laneR]
  rfl

theorem affR_at (g v : FVec Ideal S2x1024 .f32) (i : Fin 1024) : affR x g v (ix3 b t i) = aff (row x b t) (vec1 g) (vec1 v) i := by
  pointwise [affR]
  rw [nrmR_at, laneR_at, laneR_at]
  rfl

theorem gatesR_at (h : Tok) (k : Fin 4) (i : Fin 1024) :
    gatesR h wg (ix4 b t k i) = Ideal.logistic (mv (row h b t) (mat1 wg) (gcol k i)) := by
  pointwise [gatesR]
  refine Eq.trans ?_ (congrArg (fun c => Ideal.logistic (mv (row h b t) (mat1 wg) c))
    (Fin.ext (by show k.val * 1024 + i.val = 1024 * k.val + i.val; omega) : (⟨k.val * 1024 + i.val, by omega⟩ : Fin 4096) = gcol k i))
  rfl

theorem projR_at (k : Fin 4) (i : Fin 1024) : projR ya yb yc yd wbr (ix4 b t k i) = mv (ys ya yb yc yd b t k) (wbr1 wbr k) i := by
  pointwise [projR, ext]
  refine Finset.sum_congr rfl fun d _ => (mul_comm _ _).trans (congrArg (· * _) ?_)
  match k with
  | 0 => rfl
  | 1 => rfl
  | 2 => rfl
  | 3 => rfl

theorem mixedR_at (g p : FVec Ideal S128x4x4x1024 .f32) (i : Fin 1024) : mixedR g p (ix3 b t i) = ∑ k : Fin 4, g (ix4 b t k i) * p (ix4 b t k i) := by
  pointwise [mixedR]

theorem woR_at (i : Fin 1024) : woR x wo (ix3 b t i) = mv (row x b t) (mat1 wo) i := by
  pointwise [woR]
  rfl

theorem upR_at (i : Fin 5632) : upR x wup (ix3 b t i) = mv (row x b t) (mat1 wup) i := by
  pointwise [upR]
  rfl

theorem actR_at (i : Fin 2816) : actR (upR x wup) (ix3 b t i) = act (row x b t) (mat1 wup) i := by
  pointwise [actR, uR]
  rw [upR_at, upR_at]
  rfl

theorem downR_at (a : FVec Ideal S128x4x2816 .f32) (i : Fin 1024) : downR a wdn (ix3 b t i) = mv (fun n => a (ix3 b t n)) (mat1 wdn) i := by
  pointwise [downR]
  rfl

theorem seg_at (b : Fin 128) (k : Fin 6) (o : ℕ) (ho : o = 1024 * k.val) (h : S128x1x6144.Slices ![0, 0, o] S128x1x1024) :
    (fun j : Fin 1024 => (extractStridedSlice S128x1x1024 ![0, 0, o] md h : FVec Ideal S128x1x1024 .f32) (ix3 b 0 j)) = seg md b k := by
  subst ho
  funext j
  pointwise
  rfl

theorem midR_row : row (midR x md ya yb yc yd wbr wg wo) b t
    = mid (row x b t) (seg md b 0) (seg md b 1) (seg md b 2) (ys ya yb yc yd b t) (wbr1 wbr) (mat1 wg) (mat1 wo) := by
  unfold midR mid
  funext i
  refine (residR_at _ b t _ _ i).trans ?_
  rw [seg_at md b 2 2048 rfl]
  refine congrArg (fun p => resid _ _ p i) (funext fun i => (woR_at _ _ b t i).trans ?_)
  refine congrArg (fun f => mv f _ i) (funext fun i => (mixedR_at b t _ _ i).trans ?_)
  refine Finset.sum_congr rfl fun k _ => ?_
  rw [projR_at, gatesR_at]
  refine congrArg (fun f => Ideal.logistic (mv f _ _) * _) (funext fun i => (moduR_at _ b t _ _ i).trans ?_)
  rw [seg_at md b 1 1024 rfl, seg_at md b 0 0 rfl]

theorem lastR_row (z : Tok) : row (lastR md wup wdn l2g l2b z) b t
    = last (row z b t) (seg md b 3) (seg md b 4) (seg md b 5) (mat1 wup) (mat1 wdn) (vec1 l2g) (vec1 l2b) := by
  unfold lastR last
  funext i
  refine (affR_at _ b t _ _ i).trans ?_
  refine congrArg (fun f => aff f _ _ i) (funext fun i => (residR_at _ b t _ _ i).trans ?_)
  rw [seg_at md b 5 5120 rfl]
  refine congrArg (fun p => resid _ _ p i) (funext fun i => (downR_at _ b t _ i).trans ?_)
  refine congrArg (fun f => mv f _ i) (funext fun i => (actR_at _ _ b t i).trans ?_)
  refine congrArg (fun f => act f _ i) (funext fun i => (moduR_at _ b t _ _ i).trans ?_)
  rw [seg_at md b 4 4096 rfl, seg_at md b 3 3072 rfl]

theorem refR_row : row (refR x md ya yb yc yd wbr wg wo l1g l1b wup wdn l2g l2b) b t
    = rowOut (row x b t) (seg md b 0) (seg md b 1) (seg md b 2) (seg md b 3) (seg md b 4) (seg md b 5) (ys ya yb yc yd b t) (wbr1 wbr) (mat1 wg) (mat1 wo)
        (vec1 l1g) (vec1 l1b) (mat1 wup) (mat1 wdn) (vec1 l2g) (vec1 l2b) := by
  unfold refR rowOut
  rw [lastR_row]
  refine congrArg (fun f => last f _ _ _ _ _ _ _) (funext fun i => (affR_at _ b t _ _ i).trans ?_)
  rw [midR_row]

/-- The run's terms are the ones above. -/
theorem mid_eq (V0 : Valuation τ sig (Elt Ideal)) : Value.res_main_v72 V0 = midR (V0 (Proc.devRef .tc main_arg0)) (V0 (Proc.devRef .tc main_arg1))
    (V0 (Proc.devRef .tc main_arg2)) (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) := rfl

theorem norm_eq (V0 : Valuation τ sig (Elt Ideal)) : Value.res_main_v96 V0 = affR (Value.res_main_v72 V0) (V0 (Proc.devRef .tc main_arg9)) (V0 (Proc.devRef .tc main_arg10)) := rfl

theorem up_eq (V0 : Valuation τ sig (Elt Ideal)) : Value.res_main_v121 V0
    = upR (moduR (Value.res_main_v96 V0)
        (extractStridedSlice S128x1x1024 ![0, 0, 4096] (V0 (Proc.devRef .tc main_arg1)) slices_S128x1x6144_S128x1x1024_0_0_4096)
        (extractStridedSlice S128x1x1024 ![0, 0, 3072] (V0 (Proc.devRef .tc main_arg1)) slices_S128x1x6144_S128x1x1024_0_0_3072)) (V0 (Proc.devRef .tc main_arg11)) := rfl

theorem resid_eq (V0 : Valuation τ sig (Elt Ideal)) : Value.res_main_v133 V0
    = residR (Value.res_main_v96 V0) (extractStridedSlice S128x1x1024 ![0, 0, 5120] (V0 (Proc.devRef .tc main_arg1)) slices_S128x1x6144_S128x1x1024_0_0_5120)
        (downR (actR (Value.res_main_v121 V0)) (V0 (Proc.devRef .tc main_arg12))) := rfl

theorem out_eq (V0 : Valuation τ sig (Elt Ideal)) : affR (Value.res_main_v133 V0) (V0 (Proc.devRef .tc main_arg13)) (V0 (Proc.devRef .tc main_arg14))
    = refR (V0 (Proc.devRef .tc main_arg0)) (V0 (Proc.devRef .tc main_arg1))
    (V0 (Proc.devRef .tc main_arg2)) (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) (V0 (Proc.devRef .tc main_arg13))
    (V0 (Proc.devRef .tc main_arg14)) := by
  rw [resid_eq, up_eq, norm_eq, mid_eq]
  rfl

end Cert.MXS.Ref

end
-- ==== Proof.MXS.Value.lean ====
module

public import proofs.«01_k».proof.Proof.MXS.Ref
public import proofs.«01_k».proof.Proof.INS.Spec
public import Idealize.ShloMosaic.Lib.Pipeline.ValueKit
public import Idealize.ShloMosaic.Lib.Claim

@[expose] public section

set_option maxRecDepth 16384

/-! The kernel's array over exact arithmetic, laid out by step: each token's row is the same function of the arguments' rows. -/

noncomputable section

namespace Cert.MXS

open Cert.Kernel5Ideal Cert.Kernel5Ideal.Gen
open Cert.MIX (rowOut)
open Cert.INS (seqR stepR)
open Idealize.ShloMosaic Idealize.ShloMosaic.TcCoe Idealize.SL.Sem
open Idealize.ShloMosaic.Pipeline (Dat)
open Cert.MXS.Ref (seg vec1 mat1 wbr1 ys row)

/-- The mixing sublayer's result. -/
def res (x : FVec Ideal S128x4x1024 .f32) (md : FVec Ideal S128x1x6144 .f32) (ya yb yc yd : FVec Ideal S128x4x256 .f32) (wbr : FVec Ideal S2x4x256x1024 .f32)
    (wg : FVec Ideal S2x1024x4096 .f32) (wo : FVec Ideal S2x1024x1024 .f32) (l1g l1b : FVec Ideal S2x1024 .f32) (wup : FVec Ideal S2x1024x5632 .f32)
    (wdn : FVec Ideal S2x2816x1024 .f32) (l2g l2b : FVec Ideal S2x1024 .f32) : FVec Ideal S128x4x1024 .f32 := fun j =>
  rowOut (row x (j 0) (j 1)) (seg md (j 0) 0) (seg md (j 0) 1) (seg md (j 0) 2) (seg md (j 0) 3) (seg md (j 0) 4) (seg md (j 0) 5) (ys ya yb yc yd (j 0) (j 1))
    (wbr1 wbr) (mat1 wg) (mat1 wo) (vec1 l1g) (vec1 l1b) (mat1 wup) (mat1 wdn) (vec1 l2g) (vec1 l2b) (j 2)

variable (m : (ℓ : Loc nD τ sig) → Buf (Elt Ideal) ℓ) (c : Dev nD)

theorem idx : ∀ t : Fin cfg0.N, win0_0.index t = ![0, 0, 0] ∧ win0_1.index t = ![0, 0, 0] ∧ win0_2.index t = ![0, 0, 1] ∧ win0_3.index t = ![0, 0, 2]
    ∧ win0_4.index t = ![0, 0, 3] ∧ win0_5.index t = ![0, 0, 4] ∧ win0_6.index t = ![0, 0, 5] ∧ win0_7.index t = ![0, 0, 0]
    ∧ win0_8.index t = ![0, 0, 0] ∧ win0_9.index t = ![0, 0, 0] ∧ win0_10.index t = ![0, 0, 0] ∧ win0_11.index t = ![1, 0, 0]
    ∧ win0_12.index t = ![1, 0, 0, 0] ∧ win0_13.index t = ![1, 0, 0] ∧ win0_14.index t = ![0, 0] ∧ win0_15.index t = ![0, 0]
    ∧ win0_16.index t = ![1, 0, 0] ∧ win0_17.index t = ![1, 0, 0] ∧ win0_18.index t = ![0, 0] ∧ win0_19.index t = ![0, 0]
    ∧ win0_20.index t = ![0, 0, 0] :=
  (by decide +kernel : ∀ t : Fin grid0.N, _)

/-- The grid's one point. -/
def t0 : Fin cfg0.N := ⟨0, by decide⟩

/-! ## The operands the host prepares -/

abbrev A0 : FVec Ideal S128x4x1024 .f32 := m ((c : Thread nD τ).loc main_arg0)
abbrev A1 : FVec Ideal S128x1x6144 .f32 := m ((c : Thread nD τ).loc main_arg1)

theorem host1 (r : Fin 512) (j : Fin 1024) : (V m c main_v1 : FVec Ideal S1x512x1024 .f32) (ix3 0 r j) = A0 m c (ix3 (seqR r) (stepR r) j) := by
  have e : (V m c main_v1 : FVec Ideal S1x512x1024 .f32) = (shapeCast S1x512x1024 (transpose S4x128x1024 [1, 0, 2] (A0 m c) transposes_S128x4x1024_S4x128x1024_1_0_2 : FVec Ideal S4x128x1024 .f32)
      shapeCasts_S4x128x1024_S1x512x1024 : FVec Ideal S1x512x1024 .f32) := by
    unfold V V0 hostOps0
    simp only [List.flatten_cons, List.flatten_nil, List.cons_append, List.nil_append, List.append_nil]
    after_results
    try rfl
  rw [e]
  unfold seqR stepR
  pointwise

theorem host6 (r : Fin 512) (i : Fin 6144) : (V m c main_v6 : FVec Ideal S1x512x6144 .f32) (ix3 0 r i) = A1 m c (ix3 (seqR r) 0 i) := by
  have e : (V m c main_v6 : FVec Ideal S1x512x6144 .f32) = (broadcastInDim S1x512x6144 ![1, 2] bcast_S512x6144_S1x512x6144_1_2 (shapeCast S512x6144
      (broadcastInDim S4x128x1x6144 ![0, 1, 2, 3] bcast_S1x128x1x6144_S4x128x1x6144_0_1_2_3 (shapeCast S1x128x1x6144 (shapeCast S128x6144 (A1 m c) shapeCasts_S128x1x6144_S128x6144 : FVec Ideal S128x6144 .f32)
        shapeCasts_S128x6144_S1x128x1x6144 : FVec Ideal S1x128x1x6144 .f32) : FVec Ideal S4x128x1x6144 .f32) shapeCasts_S4x128x1x6144_S512x6144 : FVec Ideal S512x6144 .f32) : FVec Ideal S1x512x6144 .f32) := by
    unfold V V0 hostOps0
    simp only [List.flatten_cons, List.flatten_nil, List.cons_append, List.nil_append, List.append_nil]
    after_results
    try rfl
  rw [e]
  unfold seqR
  pointwise

theorem host26 (r : Fin 512) (d : Fin 256) : (V m c main_v26 : FVec Ideal S1x512x256 .f32) (ix3 0 r d)
    = (m ((c : Thread nD τ).loc main_arg2) : FVec Ideal S128x4x256 .f32) (ix3 (seqR r) (stepR r) d) := by
  have e : (V m c main_v26 : FVec Ideal S1x512x256 .f32) = (broadcastInDim S1x512x256 ![1, 2] bcast_S512x256_S1x512x256_1_2 (shapeCast S512x256
      (transpose S4x128x256 [1, 0, 2] (m ((c : Thread nD τ).loc main_arg2) : FVec Ideal S128x4x256 .f32) transposes_S128x4x256_S4x128x256_1_0_2 : FVec Ideal S4x128x256 .f32)
      shapeCasts_S4x128x256_S512x256 : FVec Ideal S512x256 .f32) : FVec Ideal S1x512x256 .f32) := by
    unfold V V0 hostOps0
    simp only [List.flatten_cons, List.flatten_nil, List.cons_append, List.nil_append, List.append_nil]
    after_results
    try rfl
  rw [e]
  unfold seqR stepR
  pointwise

theorem host29 (r : Fin 512) (d : Fin 256) : (V m c main_v29 : FVec Ideal S1x512x256 .f32) (ix3 0 r d)
    = (m ((c : Thread nD τ).loc main_arg3) : FVec Ideal S128x4x256 .f32) (ix3 (seqR r) (stepR r) d) := by
  have e : (V m c main_v29 : FVec Ideal S1x512x256 .f32) = (broadcastInDim S1x512x256 ![1, 2] bcast_S512x256_S1x512x256_1_2 (shapeCast S512x256
      (transpose S4x128x256 [1, 0, 2] (m ((c : Thread nD τ).loc main_arg3) : FVec Ideal S128x4x256 .f32) transposes_S128x4x256_S4x128x256_1_0_2 : FVec Ideal S4x128x256 .f32)
      shapeCasts_S4x128x256_S512x256 : FVec Ideal S512x256 .f32) : FVec Ideal S1x512x256 .f32) := by
    unfold V V0 hostOps0
    simp only [List.flatten_cons, List.flatten_nil, List.cons_append, List.nil_append, List.append_nil]
    after_results
    try rfl
  rw [e]
  unfold seqR stepR
  pointwise

theorem host32 (r : Fin 512) (d : Fin 256) : (V m c main_v32 : FVec Ideal S1x512x256 .f32) (ix3 0 r d)
    = (m ((c : Thread nD τ).loc main_arg4) : FVec Ideal S128x4x256 .f32) (ix3 (seqR r) (stepR r) d) := by
  have e : (V m c main_v32 : FVec Ideal S1x512x256 .f32) = (broadcastInDim S1x512x256 ![1, 2] bcast_S512x256_S1x512x256_1_2 (shapeCast S512x256
      (transpose S4x128x256 [1, 0, 2] (m ((c : Thread nD τ).loc main_arg4) : FVec Ideal S128x4x256 .f32) transposes_S128x4x256_S4x128x256_1_0_2 : FVec Ideal S4x128x256 .f32)
      shapeCasts_S4x128x256_S512x256 : FVec Ideal S512x256 .f32) : FVec Ideal S1x512x256 .f32) := by
    unfold V V0 hostOps0
    simp only [List.flatten_cons, List.flatten_nil, List.cons_append, List.nil_append, List.append_nil]
    after_results
    try rfl
  rw [e]
  unfold seqR stepR
  pointwise

theorem host35 (r : Fin 512) (d : Fin 256) : (V m c main_v35 : FVec Ideal S1x512x256 .f32) (ix3 0 r d)
    = (m ((c : Thread nD τ).loc main_arg5) : FVec Ideal S128x4x256 .f32) (ix3 (seqR r) (stepR r) d) := by
  have e : (V m c main_v35 : FVec Ideal S1x512x256 .f32) = (broadcastInDim S1x512x256 ![1, 2] bcast_S512x256_S1x512x256_1_2 (shapeCast S512x256
      (transpose S4x128x256 [1, 0, 2] (m ((c : Thread nD τ).loc main_arg5) : FVec Ideal S128x4x256 .f32) transposes_S128x4x256_S4x128x256_1_0_2 : FVec Ideal S4x128x256 .f32)
      shapeCasts_S4x128x256_S512x256 : FVec Ideal S512x256 .f32) : FVec Ideal S1x512x256 .f32) := by
    unfold V V0 hostOps0
    simp only [List.flatten_cons, List.flatten_nil, List.cons_append, List.nil_append, List.append_nil]
    after_results
    try rfl
  rw [e]
  unfold seqR stepR
  pointwise

theorem host7 : (V m c main_v7 : FVec Ideal S2x1024x4096 .bf16)
    = (truncf (F := Ideal) .bf16 (m ((c : Thread nD τ).loc main_arg7) : FVec Ideal S2x1024x4096 .f32) bitsLt_bf16_f32 : FVec Ideal S2x1024x4096 .bf16) := by
  unfold V V0 hostOps0
  simp only [List.flatten_cons, List.flatten_nil, List.cons_append, List.nil_append, List.append_nil]
  after_results
  try rfl

theorem host8 : (V m c main_v8 : FVec Ideal S2x4x256x1024 .bf16)
    = (truncf (F := Ideal) .bf16 (m ((c : Thread nD τ).loc main_arg6) : FVec Ideal S2x4x256x1024 .f32) bitsLt_bf16_f32 : FVec Ideal S2x4x256x1024 .bf16) := by
  unfold V V0 hostOps0
  simp only [List.flatten_cons, List.flatten_nil, List.cons_append, List.nil_append, List.append_nil]
  after_results
  try rfl

theorem host9 : (V m c main_v9 : FVec Ideal S2x1024x1024 .bf16)
    = (truncf (F := Ideal) .bf16 (m ((c : Thread nD τ).loc main_arg8) : FVec Ideal S2x1024x1024 .f32) bitsLt_bf16_f32 : FVec Ideal S2x1024x1024 .bf16) := by
  unfold V V0 hostOps0
  simp only [List.flatten_cons, List.flatten_nil, List.cons_append, List.nil_append, List.append_nil]
  after_results
  try rfl

theorem host10 : (V m c main_v10 : FVec Ideal S2x1024x5632 .bf16)
    = (truncf (F := Ideal) .bf16 (m ((c : Thread nD τ).loc main_arg11) : FVec Ideal S2x1024x5632 .f32) bitsLt_bf16_f32 : FVec Ideal S2x1024x5632 .bf16) := by
  unfold V V0 hostOps0
  simp only [List.flatten_cons, List.flatten_nil, List.cons_append, List.nil_append, List.append_nil]
  after_results
  try rfl

theorem host11 : (V m c main_v11 : FVec Ideal S2x2816x1024 .bf16)
    = (truncf (F := Ideal) .bf16 (m ((c : Thread nD τ).loc main_arg12) : FVec Ideal S2x2816x1024 .f32) bitsLt_bf16_f32 : FVec Ideal S2x2816x1024 .bf16) := by
  unfold V V0 hostOps0
  simp only [List.flatten_cons, List.flatten_nil, List.cons_append, List.nil_append, List.append_nil]
  after_results
  try rfl

theorem host14 (j : Fin 1024) : (V m c main_v14 : FVec Ideal S1x1024 .f32) (ix2 0 j) = vec1 (m ((c : Thread nD τ).loc main_arg9)) j := by
  have h : (V m c main_v14 : FVec Ideal S1x1024 .f32) = (shapeCast S1x1024 (shapeCast S1024 (extractStridedSlice S1x1024 ![1, 0]
      (m ((c : Thread nD τ).loc main_arg9) : FVec Ideal S2x1024 .f32) slices_S2x1024_S1x1024_1_0) shapeCasts_S1x1024_S1024) shapeCasts_S1024_S1x1024 : FVec Ideal S1x1024 .f32) := by
    unfold V V0 hostOps0
    simp only [List.flatten_cons, List.flatten_nil, List.cons_append, List.nil_append, List.append_nil]
    after_results
    try rfl
  rw [h]
  pointwise
  rfl

theorem host17 (j : Fin 1024) : (V m c main_v17 : FVec Ideal S1x1024 .f32) (ix2 0 j) = vec1 (m ((c : Thread nD τ).loc main_arg10)) j := by
  have h : (V m c main_v17 : FVec Ideal S1x1024 .f32) = (shapeCast S1x1024 (shapeCast S1024 (extractStridedSlice S1x1024 ![1, 0]
      (m ((c : Thread nD τ).loc main_arg10) : FVec Ideal S2x1024 .f32) slices_S2x1024_S1x1024_1_0) shapeCasts_S1x1024_S1024) shapeCasts_S1024_S1x1024 : FVec Ideal S1x1024 .f32) := by
    unfold V V0 hostOps0
    simp only [List.flatten_cons, List.flatten_nil, List.cons_append, List.nil_append, List.append_nil]
    after_results
    try rfl
  rw [h]
  pointwise
  rfl

theorem host20 (j : Fin 1024) : (V m c main_v20 : FVec Ideal S1x1024 .f32) (ix2 0 j) = vec1 (m ((c : Thread nD τ).loc main_arg13)) j := by
  have h : (V m c main_v20 : FVec Ideal S1x1024 .f32) = (shapeCast S1x1024 (shapeCast S1024 (extractStridedSlice S1x1024 ![1, 0]
      (m ((c : Thread nD τ).loc main_arg13) : FVec Ideal S2x1024 .f32) slices_S2x1024_S1x1024_1_0) shapeCasts_S1x1024_S1024) shapeCasts_S1024_S1x1024 : FVec Ideal S1x1024 .f32) := by
    unfold V V0 hostOps0
    simp only [List.flatten_cons, List.flatten_nil, List.cons_append, List.nil_append, List.append_nil]
    after_results
    try rfl
  rw [h]
  pointwise
  rfl

theorem host23 (j : Fin 1024) : (V m c main_v23 : FVec Ideal S1x1024 .f32) (ix2 0 j) = vec1 (m ((c : Thread nD τ).loc main_arg14)) j := by
  have h : (V m c main_v23 : FVec Ideal S1x1024 .f32) = (shapeCast S1x1024 (shapeCast S1024 (extractStridedSlice S1x1024 ![1, 0]
      (m ((c : Thread nD τ).loc main_arg14) : FVec Ideal S2x1024 .f32) slices_S2x1024_S1x1024_1_0) shapeCasts_S1x1024_S1024) shapeCasts_S1024_S1x1024 : FVec Ideal S1x1024 .f32) := by
    unfold V V0 hostOps0
    simp only [List.flatten_cons, List.flatten_nil, List.cons_append, List.nil_append, List.append_nil]
    after_results
    try rfl
  rw [h]
  pointwise
  rfl

/-! ## The blocks the grid point reads -/

variable (t : Fin cfg0.N) (r : Fin 512)

theorem read0 : xrow (iblk m c 0 t) r = row (A0 m c) (seqR r) (stepR r) := by
  funext j
  have h : (iblk m c 0 t : Vec Ideal S1x512x1024 .f32) (ix3 0 r j) = (V m c main_v1 : FVec Ideal S1x512x1024 .f32) (ix3 0 r j) := by
    blk_ext [iblk, idx t]
  exact h.trans (host1 m c r j)

theorem read1 : xrow (iblk m c 1 t) r = seg (A1 m c) (seqR r) 0 := by
  funext j
  have h : (iblk m c 1 t : Vec Ideal S1x512x1024 .f32) (ix3 0 r j) = (V m c main_v6 : FVec Ideal S1x512x6144 .f32) (ix3 0 r ⟨1024 * 0 + j.val, by omega⟩) := by
    blk_ext [iblk, idx t]
  exact h.trans (host6 m c r _)

theorem read2 : xrow (iblk m c 2 t) r = seg (A1 m c) (seqR r) 1 := by
  funext j
  have h : (iblk m c 2 t : Vec Ideal S1x512x1024 .f32) (ix3 0 r j) = (V m c main_v6 : FVec Ideal S1x512x6144 .f32) (ix3 0 r ⟨1024 * 1 + j.val, by omega⟩) := by
    blk_ext [iblk, idx t]
  exact h.trans (host6 m c r _)

theorem read3 : xrow (iblk m c 3 t) r = seg (A1 m c) (seqR r) 2 := by
  funext j
  have h : (iblk m c 3 t : Vec Ideal S1x512x1024 .f32) (ix3 0 r j) = (V m c main_v6 : FVec Ideal S1x512x6144 .f32) (ix3 0 r ⟨1024 * 2 + j.val, by omega⟩) := by
    blk_ext [iblk, idx t]
  exact h.trans (host6 m c r _)

theorem read4 : xrow (iblk m c 4 t) r = seg (A1 m c) (seqR r) 3 := by
  funext j
  have h : (iblk m c 4 t : Vec Ideal S1x512x1024 .f32) (ix3 0 r j) = (V m c main_v6 : FVec Ideal S1x512x6144 .f32) (ix3 0 r ⟨1024 * 3 + j.val, by omega⟩) := by
    blk_ext [iblk, idx t]
  exact h.trans (host6 m c r _)

theorem read5 : xrow (iblk m c 5 t) r = seg (A1 m c) (seqR r) 4 := by
  funext j
  have h : (iblk m c 5 t : Vec Ideal S1x512x1024 .f32) (ix3 0 r j) = (V m c main_v6 : FVec Ideal S1x512x6144 .f32) (ix3 0 r ⟨1024 * 4 + j.val, by omega⟩) := by
    blk_ext [iblk, idx t]
  exact h.trans (host6 m c r _)

theorem read6 : xrow (iblk m c 6 t) r = seg (A1 m c) (seqR r) 5 := by
  funext j
  have h : (iblk m c 6 t : Vec Ideal S1x512x1024 .f32) (ix3 0 r j) = (V m c main_v6 : FVec Ideal S1x512x6144 .f32) (ix3 0 r ⟨1024 * 5 + j.val, by omega⟩) := by
    blk_ext [iblk, idx t]
  exact h.trans (host6 m c r _)

theorem read7 (d : Fin 256) : (iblk m c 7 t : Vec Ideal S1x512x256 .f32) (ix3 0 r d)
    = (m ((c : Thread nD τ).loc main_arg2) : FVec Ideal S128x4x256 .f32) (ix3 (seqR r) (stepR r) d) := by
  have h : (iblk m c 7 t : Vec Ideal S1x512x256 .f32) (ix3 0 r d) = (V m c main_v26 : FVec Ideal S1x512x256 .f32) (ix3 0 r d) := by
    blk_ext [iblk, idx t]
  exact h.trans (host26 m c r d)

theorem read8 (d : Fin 256) : (iblk m c 8 t : Vec Ideal S1x512x256 .f32) (ix3 0 r d)
    = (m ((c : Thread nD τ).loc main_arg3) : FVec Ideal S128x4x256 .f32) (ix3 (seqR r) (stepR r) d) := by
  have h : (iblk m c 8 t : Vec Ideal S1x512x256 .f32) (ix3 0 r d) = (V m c main_v29 : FVec Ideal S1x512x256 .f32) (ix3 0 r d) := by
    blk_ext [iblk, idx t]
  exact h.trans (host29 m c r d)

theorem read9 (d : Fin 256) : (iblk m c 9 t : Vec Ideal S1x512x256 .f32) (ix3 0 r d)
    = (m ((c : Thread nD τ).loc main_arg4) : FVec Ideal S128x4x256 .f32) (ix3 (seqR r) (stepR r) d) := by
  have h : (iblk m c 9 t : Vec Ideal S1x512x256 .f32) (ix3 0 r d) = (V m c main_v32 : FVec Ideal S1x512x256 .f32) (ix3 0 r d) := by
    blk_ext [iblk, idx t]
  exact h.trans (host32 m c r d)

theorem read10 (d : Fin 256) : (iblk m c 10 t : Vec Ideal S1x512x256 .f32) (ix3 0 r d)
    = (m ((c : Thread nD τ).loc main_arg5) : FVec Ideal S128x4x256 .f32) (ix3 (seqR r) (stepR r) d) := by
  have h : (iblk m c 10 t : Vec Ideal S1x512x256 .f32) (ix3 0 r d) = (V m c main_v35 : FVec Ideal S1x512x256 .f32) (ix3 0 r d) := by
    blk_ext [iblk, idx t]
  exact h.trans (host35 m c r d)

theorem readY : yrow (iblk m c 7 t) (iblk m c 8 t) (iblk m c 9 t) (iblk m c 10 t) r
    = ys (m ((c : Thread nD τ).loc main_arg2)) (m ((c : Thread nD τ).loc main_arg3)) (m ((c : Thread nD τ).loc main_arg4))
        (m ((c : Thread nD τ).loc main_arg5)) (seqR r) (stepR r) := by
  unfold yrow ys
  simp only [read7, read8, read9, read10]

theorem read11 : wgM (iblk m c 11 t) = mat1 (m ((c : Thread nD τ).loc main_arg7)) := by
  funext j i
  have h : (iblk m c 11 t : Vec Ideal S1x1024x4096 .bf16) (ix3 0 j i) = (V m c main_v7 : FVec Ideal S2x1024x4096 .bf16) (ix3 1 j i) := by
    blk_ext [iblk, idx t]
  refine h.trans ?_
  rw [host7]
  rfl

theorem read13 : woM (iblk m c 13 t) = mat1 (m ((c : Thread nD τ).loc main_arg8)) := by
  funext j i
  have h : (iblk m c 13 t : Vec Ideal S1x1024x1024 .bf16) (ix3 0 j i) = (V m c main_v9 : FVec Ideal S2x1024x1024 .bf16) (ix3 1 j i) := by
    blk_ext [iblk, idx t]
  refine h.trans ?_
  rw [host9]
  rfl

theorem read16 : wupM (iblk m c 16 t) = mat1 (m ((c : Thread nD τ).loc main_arg11)) := by
  funext j i
  have h : (iblk m c 16 t : Vec Ideal S1x1024x5632 .bf16) (ix3 0 j i) = (V m c main_v10 : FVec Ideal S2x1024x5632 .bf16) (ix3 1 j i) := by
    blk_ext [iblk, idx t]
  refine h.trans ?_
  rw [host10]
  rfl

theorem read17 : wdnM (iblk m c 17 t) = mat1 (m ((c : Thread nD τ).loc main_arg12)) := by
  funext j i
  have h : (iblk m c 17 t : Vec Ideal S1x2816x1024 .bf16) (ix3 0 j i) = (V m c main_v11 : FVec Ideal S2x2816x1024 .bf16) (ix3 1 j i) := by
    blk_ext [iblk, idx t]
  refine h.trans ?_
  rw [host11]
  rfl

theorem read12 : wbrM (iblk m c 12 t) = wbr1 (m ((c : Thread nD τ).loc main_arg6)) := by
  funext k d i
  have h : (iblk m c 12 t : Vec Ideal S1x4x256x1024 .bf16) (ix4 0 k d i) = (V m c main_v8 : FVec Ideal S2x4x256x1024 .bf16) (ix4 1 k d i) := by
    blk_ext [iblk, idx t]
  refine h.trans ?_
  rw [host8]
  rfl

theorem read14 : lane (iblk m c 14 t) = vec1 (m ((c : Thread nD τ).loc main_arg9)) := by
  funext j
  have h : (iblk m c 14 t : Vec Ideal S1x1024 .f32) (ix2 0 j) = (V m c main_v14 : FVec Ideal S1x1024 .f32) (ix2 0 j) := by
    blk_ext [iblk, idx t]
  exact h.trans (host14 m c j)

theorem read15 : lane (iblk m c 15 t) = vec1 (m ((c : Thread nD τ).loc main_arg10)) := by
  funext j
  have h : (iblk m c 15 t : Vec Ideal S1x1024 .f32) (ix2 0 j) = (V m c main_v17 : FVec Ideal S1x1024 .f32) (ix2 0 j) := by
    blk_ext [iblk, idx t]
  exact h.trans (host17 m c j)

theorem read18 : lane (iblk m c 18 t) = vec1 (m ((c : Thread nD τ).loc main_arg13)) := by
  funext j
  have h : (iblk m c 18 t : Vec Ideal S1x1024 .f32) (ix2 0 j) = (V m c main_v20 : FVec Ideal S1x1024 .f32) (ix2 0 j) := by
    blk_ext [iblk, idx t]
  exact h.trans (host20 m c j)

theorem read19 : lane (iblk m c 19 t) = vec1 (m ((c : Thread nD τ).loc main_arg14)) := by
  funext j
  have h : (iblk m c 19 t : Vec Ideal S1x1024 .f32) (ix2 0 j) = (V m c main_v23 : FVec Ideal S1x1024 .f32) (ix2 0 j) := by
    blk_ext [iblk, idx t]
  exact h.trans (host23 m c j)

/-- A row of the block the grid point computes. -/
theorem blk20 (i : Fin 1024) : out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r i)
    = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix3 (seqR r) (stepR r) i) := by
  refine (block_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r i).trans ?_
  rw [read0, read1, read2, read3, read4, read5, read6, readY, read11, read12, read13, read14, read15, read16, read17, read18, read19]
  rfl

/-- The kernel's array after the grid's run. -/
theorem final20 : (dats m 0 c).arrAt 20 cfg0.N = (out0_20 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (iblk m c 18 t0) (iblk m c 19 t0) : Vec Ideal S1x512x1024 .f32) := by
  refine (dats m 0 c).arrAt_eq_of_covers 20 _ (by decide +kernel) fun t hf y => ?_
  obtain rfl : t = t0 := Subsingleton.elim (α := Fin 1) t t0
  blk_simp
  rw [after0_20]
  refine congrArg (out0_20 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (iblk m c 18 t0) (iblk m c 19 t0) : S1x512x1024.Idx → EReal) ?_
  obtain ⟨r, i, hy⟩ : ∃ (r : Fin 512) (i : Fin 1024), (y : S1x512x1024.Idx) = ix3 0 r i :=
    ⟨y 1, y 2, (Idealize.ShloMosaic.eq_ix3 (n0 := 1) (n1 := 512) (n2 := 1024) y).trans (by rw [Subsingleton.elim (α := Fin 1) (y 0) 0])⟩
  refine hy.trans (Eq.trans ?_ (congrArg (win0_20.blk t0).view.emb hy).symm)
  have place : ((win0_20.blk t0).view.emb (ix3 0 r i : S1x512x1024.Idx) : S1x512x1024.Idx) = ix3 0 r i := by
    blk_ext [idx t0]
  exact place.symm

end Cert.MXS

end
-- ==== Proof.MXS.Tail.lean ====
module

public import proofs.«01_k».proof.Proof.MXS.Value
public import Idealize.ShloMosaic.Lib.Pipeline.FrameTail

@[expose] public section

set_option maxRecDepth 16384

/-! What the host makes of the array the kernel leaves: the tokens by sequence again. -/

noncomputable section

namespace Cert.MXS

open Cert.Kernel5Ideal Cert.Kernel5Ideal.Gen
open Idealize.ShloMosaic Idealize.ShloMosaic.TcCoe Idealize.SL.Sem
open Idealize.ShloMosaic.Pipeline (Dat)
open Cert.INS (seqR stepR rowR seqR_rowR stepR_rowR)

variable (m : (ℓ : Loc nD τ sig) → Buf (Elt Ideal) ℓ) (c : Dev nD)

/-- Every buffer after the grid's run, before the host's last operations. -/
abbrev WA : Valuation τ sig (Elt Ideal) := Pipeline.withArrays (cfgs 0).spec c (V0 m c) fun w => (dats m 0 c).arrAt w (cfgs 0).N

theorem WA_arr (w : Fin 21) : WA m c (Proc.devRef .tc (Pipeline.arrRef spec0 w)) = (dats m 0 c).arrAt w cfg0.N :=
  Pipeline.withArrays_arr_shared _ c (V0 m c) _ (Pipeline.Dat.arrAt_sharedIn (dats m 0 c) sharedIn0 (V0 m c) (A_eq m c) _) w

/-- An array laid out by step, laid out by sequence. -/
def bySeq (X : FVec Ideal S1x512x1024 .f32) : FVec Ideal S128x4x1024 .f32 :=
  transpose S128x4x1024 [1, 0, 2] (shapeCast S4x128x1024 X shapeCasts_S1x512x1024_S4x128x1024 : FVec Ideal S4x128x1024 .f32) transposes_S4x128x1024_S128x4x1024_1_0_2

theorem bySeq_at (X : FVec Ideal S1x512x1024 .f32) (b : Fin 128) (s : Fin 4) (d : Fin 1024) : bySeq X (ix3 b s d) = X (ix3 0 (rowR b s) d) := by
  unfold bySeq rowR
  pointwise

theorem tail38 : Pipeline.afterTail₀ cfgs (dats m) 0 (V0 m) [hostOps1] c main_v38 = (bySeq (WA m c (Proc.devRef .tc main_v36) : FVec Ideal S1x512x1024 .f32) : FVec Ideal S128x4x1024 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

/-- The kernel's result. -/
theorem end38 : Pipeline.afterTail₀ cfgs (dats m) 0 (V0 m) [hostOps1] c main_v38 = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [tail38]
  funext j
  obtain ⟨b, s, d, rfl⟩ : ∃ (b : Fin 128) (s : Fin 4) (d : Fin 1024), (j : S128x4x1024.Idx) = ix3 b s d := ⟨j 0, j 1, j 2, Idealize.ShloMosaic.eq_ix3 (n0 := 128) (n1 := 4) (n2 := 1024) j⟩
  refine (bySeq_at _ b s d).trans ((congrFun ((WA_arr m c 20).trans (final20 m c)) (ix3 0 (rowR b s) d)).trans ((blk20 m c t0 (rowR b s) d).trans ?_))
  rw [seqR_rowR, stepR_rowR]

end Cert.MXS

end
-- ==== Proof.MXS.Claim.lean ====
module

public import proofs.«01_k».proof.Defs
public import proofs.«01_k».proof.Proof.MXS.Tail

@[expose] public section

/-! The value claim of the sample tokens' mixing sublayer: kernel and reference end with the same result array. -/

noncomputable section

namespace Cert.MXS

open Idealize.ShloMosaic Idealize.ShloMosaic.TcCoe Idealize.SL.Sem

/-- The reference's term is the result. -/
theorem ref_eq (x md ya yb yc yd wbr wg wo l1g l1b wup wdn l2g l2b) :
    Ref.refR x md ya yb yc yd wbr wg wo l1g l1b wup wdn l2g l2b = res x md ya yb yc yd wbr wg wo l1g l1b wup wdn l2g l2b := by
  funext j
  have e := Idealize.ShloMosaic.eq_ix3 (n0 := 128) (n1 := 4) (n2 := 1024) j
  rw [e]
  exact congrFun (Ref.refR_row x md ya yb yc yd wbr wg wo l1g l1b wup wdn l2g l2b (j 0) (j 1)) (j 2)

/-- Equal arguments, equal results. -/
theorem res_congr {x x' : FVec Ideal Cert.Kernel5Ideal.S128x4x1024 .f32} (h0 : x = x')
    {md md' : FVec Ideal Cert.Kernel5Ideal.S128x1x6144 .f32} (h1 : md = md')
    {ya ya' : FVec Ideal Cert.Kernel5Ideal.S128x4x256 .f32} (h2 : ya = ya')
    {yb yb' : FVec Ideal Cert.Kernel5Ideal.S128x4x256 .f32} (h3 : yb = yb')
    {yc yc' : FVec Ideal Cert.Kernel5Ideal.S128x4x256 .f32} (h4 : yc = yc')
    {yd yd' : FVec Ideal Cert.Kernel5Ideal.S128x4x256 .f32} (h5 : yd = yd')
    {wbr wbr' : FVec Ideal Cert.Kernel5Ideal.S2x4x256x1024 .f32} (h6 : wbr = wbr')
    {wg wg' : FVec Ideal Cert.Kernel5Ideal.S2x1024x4096 .f32} (h7 : wg = wg')
    {wo wo' : FVec Ideal Cert.Kernel5Ideal.S2x1024x1024 .f32} (h8 : wo = wo')
    {l1g l1g' : FVec Ideal Cert.Kernel5Ideal.S2x1024 .f32} (h9 : l1g = l1g')
    {l1b l1b' : FVec Ideal Cert.Kernel5Ideal.S2x1024 .f32} (h10 : l1b = l1b')
    {wup wup' : FVec Ideal Cert.Kernel5Ideal.S2x1024x5632 .f32} (h11 : wup = wup')
    {wdn wdn' : FVec Ideal Cert.Kernel5Ideal.S2x2816x1024 .f32} (h12 : wdn = wdn')
    {l2g l2g' : FVec Ideal Cert.Kernel5Ideal.S2x1024 .f32} (h13 : l2g = l2g')
    {l2b l2b' : FVec Ideal Cert.Kernel5Ideal.S2x1024 .f32} (h14 : l2b = l2b') :
    res x md ya yb yc yd wbr wg wo l1g l1b wup wdn l2g l2b = res x' md' ya' yb' yc' yd' wbr' wg' wo' l1g' l1b' wup' wdn' l2g' l2b' := by
  subst h0 h1 h2 h3 h4 h5 h6 h7 h8 h9 h10 h11 h12 h13 h14
  rfl

set_option maxHeartbeats 4000000 in
/-- Kernel and reference agree. -/
theorem algebraic : Cert.algebraic_Kernel5Ideal_Reference5Ideal (hKernel5Ideal := Cert.Kernel5Ideal.Gen.facts)
    (hReference5Ideal := Cert.Reference5Ideal.Gen.facts) := by
  intro m g m' g' hpre hargs
  refine ⟨fun c => res (m ((c : Thread Cert.Kernel5Ideal.nD Cert.Kernel5Ideal.τ).loc Cert.Kernel5Ideal.main_arg0))
    (m ((c : Thread Cert.Kernel5Ideal.nD Cert.Kernel5Ideal.τ).loc Cert.Kernel5Ideal.main_arg1))
    (m ((c : Thread Cert.Kernel5Ideal.nD Cert.Kernel5Ideal.τ).loc Cert.Kernel5Ideal.main_arg2))
    (m ((c : Thread Cert.Kernel5Ideal.nD Cert.Kernel5Ideal.τ).loc Cert.Kernel5Ideal.main_arg3))
    (m ((c : Thread Cert.Kernel5Ideal.nD Cert.Kernel5Ideal.τ).loc Cert.Kernel5Ideal.main_arg4))
    (m ((c : Thread Cert.Kernel5Ideal.nD Cert.Kernel5Ideal.τ).loc Cert.Kernel5Ideal.main_arg5))
    (m ((c : Thread Cert.Kernel5Ideal.nD Cert.Kernel5Ideal.τ).loc Cert.Kernel5Ideal.main_arg6))
    (m ((c : Thread Cert.Kernel5Ideal.nD Cert.Kernel5Ideal.τ).loc Cert.Kernel5Ideal.main_arg7))
    (m ((c : Thread Cert.Kernel5Ideal.nD Cert.Kernel5Ideal.τ).loc Cert.Kernel5Ideal.main_arg8))
    (m ((c : Thread Cert.Kernel5Ideal.nD Cert.Kernel5Ideal.τ).loc Cert.Kernel5Ideal.main_arg9))
    (m ((c : Thread Cert.Kernel5Ideal.nD Cert.Kernel5Ideal.τ).loc Cert.Kernel5Ideal.main_arg10))
    (m ((c : Thread Cert.Kernel5Ideal.nD Cert.Kernel5Ideal.τ).loc Cert.Kernel5Ideal.main_arg11))
    (m ((c : Thread Cert.Kernel5Ideal.nD Cert.Kernel5Ideal.τ).loc Cert.Kernel5Ideal.main_arg12))
    (m ((c : Thread Cert.Kernel5Ideal.nD Cert.Kernel5Ideal.τ).loc Cert.Kernel5Ideal.main_arg13))
    (m ((c : Thread Cert.Kernel5Ideal.nD Cert.Kernel5Ideal.τ).loc Cert.Kernel5Ideal.main_arg14)), ?_, ?_⟩
  · refine (θ_run Cert.Kernel5Ideal.defs _ _).mono (fun r h c => ⟨((h.1 c).2 Cert.Kernel5Ideal.main_v38 (Pipeline.mem_restRefs_of Cert.Kernel5Ideal.main_v38 (by decide) (by decide))).trans (end38 m c), h.2 c⟩)
      (θ_run_and (Cert.Kernel5Ideal.Gen.run_main (F := Ideal) m g) (Cert.Kernel5Ideal.Gen.unchanged (F := Ideal) m g))
  · refine (θ_run Cert.Reference5Ideal.defs _ _).mono (fun r h c => ⟨(h c).1.trans ?_, (h c).2⟩) (Cert.Reference5Ideal.Value.run (F := Ideal) m' g')
    obtain ⟨a0, a1, a2, a3, a4, a5, a6, a7, a8, a9, a10, a11, a12, a13, a14⟩ := hargs c
    refine (Ref.out_eq (StableHlo.launchContents m' c)).trans ((ref_eq _ _ _ _ _ _ _ _ _ _ _ _ _ _ _).trans ?_)
    exact res_congr a0 a1 a2 a3 a4 a5 a6 a7 a8 a9 a10 a11 a12 a13 a14

end Cert.MXS

end
-- ==== Proof.PRS.Spec.lean ====
module

public import proofs.«01_k».proof.Proof.INP.Fin
public import proofs.«01_k».proof.Proof.INS.Spec
public import proofs.«01_k».proof.Proof.Gen.Kernel6Ideal.Skeleton

@[expose] public section

/-! The four results of the sample tokens' short convolutions, head normalisation and gates, as functions of the nine arguments. -/

noncomputable section

namespace Cert.PRS

open Cert.Kernel6Ideal
open Idealize.ShloMosaic Idealize.ShloMosaic.TcCoe
open Cert.INP (nrmH soft IsR logistic_real unit unit_eq)
open Cert.INS (seqR stepR rowR seqR_rowR stepR_rowR)

variable (cv qk : FVec Ideal S128x4x768 .f32) (ga : FVec Ideal S128x4x8 .f32) (cb : FVec Ideal S128x2x256 .f32) (cd : FVec Ideal S128x3x768 .f32)
  (wb : FVec Ideal S2x3x256 .f32) (wd : FVec Ideal S2x4x768 .f32) (al dt : FVec Ideal S2x4 .f32)

/-- A sequence's four steps behind the last `K` entries of its buffer. -/
def ser4 {K : ℕ} (buf : Fin K → EReal) (z : Fin 4 → EReal) (q : ℕ) : EReal :=
  if h : q < K then buf ⟨q, h⟩ else z ⟨(q - K) % 4, Nat.mod_lt _ (by decide)⟩

theorem ser4_of_le {K : ℕ} (buf : Fin K → EReal) (z : Fin 4 → EReal) (q : ℕ) (h : K ≤ q) (h' : q - K < 4) : ser4 buf z q = z ⟨q - K, h'⟩ := by
  unfold ser4
  rw [dif_neg (by omega)]
  exact congrArg z (Fin.ext (Nat.mod_eq_of_lt h'))

theorem ser4_of_lt {K : ℕ} (buf : Fin K → EReal) (z : Fin 4 → EReal) (q : ℕ) (h : q < K) : ser4 buf z q = buf ⟨q, h⟩ := dif_pos h

/-- The second branch's gated input, and the two series. -/
def zS (b : Fin 128) (d : Fin 256) (s : Fin 4) : EReal := cv (ix3 b s ⟨256 + d.val, by omega⟩) * cv (ix3 b s ⟨512 + d.val, by omega⟩)
def zC (b : Fin 128) (d : Fin 256) : ℕ → EReal := ser4 (fun q => cb (ix3 b q d)) (zS cv b d)
def xC (b : Fin 128) (d : Fin 768) : ℕ → EReal := ser4 (fun q => cd (ix3 b q d)) (fun s => qk (ix3 b s d))

/-- The second branch's output. -/
def ybS (b : Fin 128) (s : Fin 4) (d : Fin 256) : EReal :=
  cv (ix3 b s ⟨d.val, by omega⟩) * (zC cv cb b d s.val * wb (ix3 1 0 d) + zC cv cb b d (s.val + 1) * wb (ix3 1 1 d) + zC cv cb b d (s.val + 2) * wb (ix3 1 2 d))

/-- The fourth branch's convolution, and what its activation makes of it. -/
def cS (b : Fin 128) (s : Fin 4) (i : Fin 768) : EReal :=
  xC qk cd b i s.val * wd (ix3 1 0 i) + xC qk cd b i (s.val + 1) * wd (ix3 1 1 i) + xC qk cd b i (s.val + 2) * wd (ix3 1 2 i)
    + xC qk cd b i (s.val + 3) * wd (ix3 1 3 i)
def aS (b : Fin 128) (s : Fin 4) (i : Fin 768) : EReal := cS qk cd wd b s i * Ideal.logistic (cS qk cd wd b s i)

/-- Head `h` of the stretch of the fourth branch that starts at `o`. -/
def hS (o : ℕ) (ho : o + 256 ≤ 768) (b : Fin 128) (s : Fin 4) (h : Fin 4) (k : Fin 64) : EReal := aS qk cd wd b s ⟨o + (h.val * 64 + k.val), by omega⟩

/-- The fourth branch's queries, keys and values. -/
def qkvS (b : Fin 128) (s : Fin 4) (i : Fin 768) : EReal :=
  if h : i.val < 256 then nrmH (hS qk cd wd 0 (by decide) b s ⟨i.val / 64, by omega⟩) ⟨i.val % 64, by omega⟩ * Ideal.ofBits .f32 0x3E000000#32
  else if h' : i.val < 512 then nrmH (hS qk cd wd 256 (by decide) b s ⟨(i.val - 256) / 64, by omega⟩) ⟨(i.val - 256) % 64, by omega⟩
  else aS qk cd wd b s i

/-- The fourth branch's gates. -/
def gbS (b : Fin 128) (s : Fin 4) (i : Fin 8) : EReal :=
  if h : i.val < 4 then Ideal.logistic (ga (ix3 b s i))
  else (0 - Ideal.exp (al (ix2 1 ⟨i.val - 4, by omega⟩))) * soft (ga (ix3 b s i) + dt (ix2 1 ⟨i.val - 4, by omega⟩))

/-! ## The results -/

def resYb : FVec Ideal S128x4x256 .f32 := fun j => ybS cv cb wb (j 0) (j 1) (j 2)
def resQkv : FVec Ideal S128x4x768 .f32 := fun j => qkvS qk cd wd (j 0) (j 1) (j 2)
def resGb : FVec Ideal S128x4x8 .f32 := fun j => gbS ga al dt (j 0) (j 1) (j 2)
def resCb : FVec Ideal S128x2x256 .f32 := fun j => zC cv cb (j 0) (j 2) (4 + (j 1).val)

/-! ## Rows laid out by step -/

/-- Row `n + r` of a tile put behind the `M` rows of a buffer. -/
def tap (M : ℕ) (F : Fin M → EReal) (G : Fin 512 → EReal) (n : ℕ) (hn : n ≤ M) (r : Fin 512) : EReal :=
  if h : n + r.val < M then F ⟨n + r.val, h⟩ else G ⟨n + r.val - M, by omega⟩

theorem tap_zero (M : ℕ) (F : Fin M → EReal) (G : Fin 512 → EReal) (r : Fin 512) :
    (if h : r.val < M then F ⟨r.val, h⟩ else G ⟨r.val - M, by omega⟩) = tap M F G 0 (Nat.zero_le M) r := by
  unfold tap
  simp only [Nat.zero_add]

theorem tap_full (M : ℕ) (F : Fin M → EReal) (G : Fin 512 → EReal) (r : Fin 512) : G r = tap M F G M (le_refl M) r := by
  unfold tap
  rw [dif_neg (by omega)]
  exact congrArg G (Fin.ext (show r.val = M + r.val - M by omega))

/-- The rows of a step are 128 apart, so that the row `128 * k` further down is the entry `k` steps later. -/
theorem tap_ser {K M : ℕ} (hM : M = K * 128) (F : Fin M → EReal) (G : Fin 512 → EReal) (buf : Fin 128 → Fin K → EReal) (z : Fin 128 → Fin 4 → EReal)
    (hF : ∀ (q : Fin K) (b : Fin 128), F ⟨q.val * 128 + b.val, by omega⟩ = buf b q) (hG : ∀ r : Fin 512, G r = z (seqR r) (stepR r))
    (n k : ℕ) (hk : n = 128 * k) (hn : n ≤ M) (r : Fin 512) : tap M F G n hn r = ser4 (buf (seqR r)) (z (seqR r)) ((stepR r).val + k) := by
  have hr := r.isLt
  have hs : (stepR r).val = r.val / 128 := rfl
  have hb : (seqR r).val = r.val % 128 := rfl
  unfold tap
  by_cases h : n + r.val < M
  · rw [dif_pos h, ser4_of_lt _ _ _ (show (stepR r).val + k < K by omega), ← hF]
    exact congrArg F (Fin.ext (show n + r.val = ((stepR r).val + k) * 128 + (seqR r).val by omega))
  · rw [dif_neg h, ser4_of_le _ _ _ (show K ≤ (stepR r).val + k by omega) (by omega), hG]
    refine congrArg₂ z (Fin.ext ?_) (Fin.ext ?_)
    · show (n + r.val - M) % 128 = r.val % 128
      omega
    · show (n + r.val - M) / 128 = (stepR r).val + k - K
      omega

/-! ## Finite arguments -/

section
variable (hqk : ∀ i, IsR (qk i)) (hcd : ∀ i, IsR (cd i)) (hwd : ∀ i, IsR (wd i))

include hqk hcd hwd in
theorem aS_real (b : Fin 128) (s : Fin 4) (i : Fin 768) : IsR (aS qk cd wd b s i) := by
  have q : ∀ n, IsR (xC qk cd b i n) := fun n => by
    unfold xC ser4
    split
    · exact hcd _
    · exact hqk _
  have h : IsR (cS qk cd wd b s i) :=
    (((((q _).mul (hwd _)).add ((q _).mul (hwd _))).add ((q _).mul (hwd _))).add ((q _).mul (hwd _)))
  exact h.mul (logistic_real h)
end

end Cert.PRS

end
-- ==== Proof.PRS.Ref.lean ====
module

public import proofs.«01_k».proof.Proof.PRS.Spec
public import proofs.«01_k».proof.Proof.Gen.Reference6Ideal

@[expose] public section

set_option maxRecDepth 16384

/-! The reference's four results, over exact arithmetic. -/

noncomputable section

namespace Cert.PRS.Ref

open Cert.Reference6Ideal Cert.Reference6Ideal.Gen
open Idealize.ShloMosaic Idealize.ShloMosaic.TcCoe
open Cert.INP (nrmH soft)

variable (cv qk : FVec Ideal S128x4x768 .f32) (ga : FVec Ideal S128x4x8 .f32) (cb : FVec Ideal S128x2x256 .f32) (cd : FVec Ideal S128x3x768 .f32)
  (wb : FVec Ideal S2x3x256 .f32) (wd : FVec Ideal S2x4x768 .f32) (al dt : FVec Ideal S2x4 .f32)

/-! ## The reference's terms, named part by part -/

def zcR : FVec Ideal S128x6x256 .f32 := (concatenate S128x6x256 1 [⟨S128x2x256, cb⟩, ⟨S128x4x256, (mulf (extractStridedSlice S128x4x256 ![0, 0, 256] cv slices_S128x4x768_S128x4x256_0_0_256) (extractStridedSlice S128x4x256 ![0, 0, 512] cv slices_S128x4x768_S128x4x256_0_0_512))⟩] concatenates_S128x2x256_S128x4x256_S128x6x256_d1)

def xcR : FVec Ideal S128x7x768 .f32 := (concatenate S128x7x768 1 [⟨S128x3x768, cd⟩, ⟨S128x4x768, qk⟩] concatenates_S128x3x768_S128x4x768_S128x7x768_d1)

def ybR : FVec Ideal S128x4x256 .f32 := mulf (extractStridedSlice S128x4x256 ![0, 0, 0] cv slices_S128x4x768_S128x4x256_0_0_0) (addf (addf (mulf (extractStridedSlice S128x4x256 ![0, 0, 0] (zcR cv cb) slices_S128x6x256_S128x4x256_0_0_0) (broadcastInDim S128x4x256 ![0, 1, 2] bcast_S1x1x256_S128x4x256_0_1_2 (broadcastInDim S1x1x256 ![2] bcast_S256_S1x1x256_2 (shapeCast _ (extractStridedSlice S1x256 ![0, 0] (shapeCast _ (extractStridedSlice S1x3x256 ![1, 0, 0] wb slices_S2x3x256_S1x3x256_1_0_0) shapeCasts_S1x3x256_S3x256) slices_S3x256_S1x256_0_0) shapeCasts_S1x256_S256)))) (mulf (extractStridedSlice S128x4x256 ![0, 1, 0] (zcR cv cb) slices_S128x6x256_S128x4x256_0_1_0) (broadcastInDim S128x4x256 ![0, 1, 2] bcast_S1x1x256_S128x4x256_0_1_2 (broadcastInDim S1x1x256 ![2] bcast_S256_S1x1x256_2 (shapeCast _ (extractStridedSlice S1x256 ![1, 0] (shapeCast _ (extractStridedSlice S1x3x256 ![1, 0, 0] wb slices_S2x3x256_S1x3x256_1_0_0) shapeCasts_S1x3x256_S3x256) slices_S3x256_S1x256_1_0) shapeCasts_S1x256_S256))))) (mulf (extractStridedSlice S128x4x256 ![0, 2, 0] (zcR cv cb) slices_S128x6x256_S128x4x256_0_2_0) (broadcastInDim S128x4x256 ![0, 1, 2] bcast_S1x1x256_S128x4x256_0_1_2 (broadcastInDim S1x1x256 ![2] bcast_S256_S1x1x256_2 (shapeCast _ (extractStridedSlice S1x256 ![2, 0] (shapeCast _ (extractStridedSlice S1x3x256 ![1, 0, 0] wb slices_S2x3x256_S1x3x256_1_0_0) shapeCasts_S1x3x256_S3x256) slices_S3x256_S1x256_2_0) shapeCasts_S1x256_S256)))))

def cbR : FVec Ideal S128x2x256 .f32 := extractStridedSlice S128x2x256 ![0, 4, 0] (zcR cv cb) slices_S128x6x256_S128x2x256_0_4_0

def cR : FVec Ideal S128x4x768 .f32 := (addf (addf (addf (mulf (extractStridedSlice S128x4x768 ![0, 0, 0] (xcR qk cd) slices_S128x7x768_S128x4x768_0_0_0) (broadcastInDim S128x4x768 ![0, 1, 2] bcast_S1x1x768_S128x4x768_0_1_2 (broadcastInDim S1x1x768 ![2] bcast_S768_S1x1x768_2 (shapeCast _ (extractStridedSlice S1x768 ![0, 0] (shapeCast _ (extractStridedSlice S1x4x768 ![1, 0, 0] wd slices_S2x4x768_S1x4x768_1_0_0) shapeCasts_S1x4x768_S4x768) slices_S4x768_S1x768_0_0) shapeCasts_S1x768_S768)))) (mulf (extractStridedSlice S128x4x768 ![0, 1, 0] (xcR qk cd) slices_S128x7x768_S128x4x768_0_1_0) (broadcastInDim S128x4x768 ![0, 1, 2] bcast_S1x1x768_S128x4x768_0_1_2 (broadcastInDim S1x1x768 ![2] bcast_S768_S1x1x768_2 (shapeCast _ (extractStridedSlice S1x768 ![1, 0] (shapeCast _ (extractStridedSlice S1x4x768 ![1, 0, 0] wd slices_S2x4x768_S1x4x768_1_0_0) shapeCasts_S1x4x768_S4x768) slices_S4x768_S1x768_1_0) shapeCasts_S1x768_S768))))) (mulf (extractStridedSlice S128x4x768 ![0, 2, 0] (xcR qk cd) slices_S128x7x768_S128x4x768_0_2_0) (broadcastInDim S128x4x768 ![0, 1, 2] bcast_S1x1x768_S128x4x768_0_1_2 (broadcastInDim S1x1x768 ![2] bcast_S768_S1x1x768_2 (shapeCast _ (extractStridedSlice S1x768 ![2, 0] (shapeCast _ (extractStridedSlice S1x4x768 ![1, 0, 0] wd slices_S2x4x768_S1x4x768_1_0_0) shapeCasts_S1x4x768_S4x768) slices_S4x768_S1x768_2_0) shapeCasts_S1x768_S768))))) (mulf (extractStridedSlice S128x4x768 ![0, 3, 0] (xcR qk cd) slices_S128x7x768_S128x4x768_0_3_0) (broadcastInDim S128x4x768 ![0, 1, 2] bcast_S1x1x768_S128x4x768_0_1_2 (broadcastInDim S1x1x768 ![2] bcast_S768_S1x1x768_2 (shapeCast _ (extractStridedSlice S1x768 ![3, 0] (shapeCast _ (extractStridedSlice S1x4x768 ![1, 0, 0] wd slices_S2x4x768_S1x4x768_1_0_0) shapeCasts_S1x4x768_S4x768) slices_S4x768_S1x768_3_0) shapeCasts_S1x768_S768)))))

def siluR (C : FVec Ideal S128x4x768 .f32) : FVec Ideal S128x4x768 .f32 := (mulf C (Host.divf (broadcastInDim S128x4x768 ![] bcast_S_S128x4x768 (constant S_ .f32 0x3F800000#32)) (addf (broadcastInDim S128x4x768 ![] bcast_S_S128x4x768 (constant S_ .f32 0x3F800000#32)) (Host.exp (Host.negf C)))))

def headR (o : ℕ) (h : S128x4x768.Slices ![0, 0, o] S128x4x256) (Z : FVec Ideal S128x4x768 .f32) : FVec Ideal S128x4x4x64 .f32 :=
  shapeCast S128x4x4x64 (extractStridedSlice S128x4x256 ![0, 0, o] Z h : FVec Ideal S128x4x256 .f32) shapeCasts_S128x4x256_S128x4x4x64

def joinR (X Y : FVec Ideal S128x4x4x64 .f32) (Z : FVec Ideal S128x4x768 .f32) : FVec Ideal S128x4x768 .f32 :=
  (concatenate S128x4x768 2 [⟨S128x4x256, ((shapeCast _ (mulf (mulf X (broadcastInDim S128x4x4x64 ![0, 1, 2, 3] bcast_S128x4x4x1_S128x4x4x64_0_1_2_3 (Host.rsqrt (addf (broadcastInDim S128x4x4x1 ![0, 1, 2] bcast_S128x4x4_S128x4x4x1_0_1_2 (Host.reduceAdd (mulf X X) (constant S_ .f32 0x00000000#32) reducesTo_S128x4x4x64_S128x4x4_d3 h_S_)) (broadcastInDim S128x4x4x1 ![] bcast_S_S128x4x4x1 (constant S_ .f32 0x358637BD#32)))))) (broadcastInDim S128x4x4x64 ![] bcast_S_S128x4x4x64 (constant S_ .f32 0x3E000000#32))) shapeCasts_S128x4x4x64_S128x4x256) : (⟨S128x4x256, .f32⟩ : BufTy).Contents (Elt Ideal))⟩, ⟨S128x4x256, ((shapeCast _ (mulf Y (broadcastInDim S128x4x4x64 ![0, 1, 2, 3] bcast_S128x4x4x1_S128x4x4x64_0_1_2_3 (Host.rsqrt (addf (broadcastInDim S128x4x4x1 ![0, 1, 2] bcast_S128x4x4_S128x4x4x1_0_1_2 (Host.reduceAdd (mulf Y Y) (constant S_ .f32 0x00000000#32) reducesTo_S128x4x4x64_S128x4x4_d3 h_S_)) (broadcastInDim S128x4x4x1 ![] bcast_S_S128x4x4x1 (constant S_ .f32 0x358637BD#32)))))) shapeCasts_S128x4x4x64_S128x4x256) : (⟨S128x4x256, .f32⟩ : BufTy).Contents (Elt Ideal))⟩, ⟨S128x4x256, ((shapeCast _ (shapeCast _ (extractStridedSlice S128x4x256 ![0, 0, 512] Z slices_S128x4x768_S128x4x256_0_0_512) shapeCasts_S128x4x256_S128x4x4x64) shapeCasts_S128x4x4x64_S128x4x256) : (⟨S128x4x256, .f32⟩ : BufTy).Contents (Elt Ideal))⟩] concatenates_S128x4x256_S128x4x256_S128x4x256_S128x4x768_d2 : (⟨S128x4x768, .f32⟩ : BufTy).Contents (Elt Ideal))

def qkvR : FVec Ideal S128x4x768 .f32 :=
  joinR (headR 0 slices_S128x4x768_S128x4x256_0_0_0 (siluR (cR qk cd wd))) (headR 256 slices_S128x4x768_S128x4x256_0_0_256 (siluR (cR qk cd wd))) (siluR (cR qk cd wd))

def shiftR : FVec Ideal S128x4x4 .f32 := (addf (extractStridedSlice S128x4x4 ![0, 0, 4] ga slices_S128x4x8_S128x4x4_0_0_4) (broadcastInDim S128x4x4 ![0, 1, 2] bcast_S1x1x4_S128x4x4_0_1_2 (broadcastInDim S1x1x4 ![2] bcast_S4_S1x1x4_2 (shapeCast _ (extractStridedSlice S1x4 ![1, 0] dt slices_S2x4_S1x4_1_0) shapeCasts_S1x4_S4))))

def gateR : FVec Ideal S128x4x4 .f32 := (Host.divf (broadcastInDim S128x4x4 ![] bcast_S_S128x4x4 (constant S_ .f32 0x3F800000#32)) (addf (broadcastInDim S128x4x4 ![] bcast_S_S128x4x4 (constant S_ .f32 0x3F800000#32)) (Host.exp (Host.negf (extractStridedSlice S128x4x4 ![0, 0, 0] ga slices_S128x4x8_S128x4x4_0_0_0)))))

def decayR (W R : FVec Ideal S128x4x4 .f32) : FVec Ideal S128x4x4 .f32 := (mulf (broadcastInDim S128x4x4 ![0, 1, 2] bcast_S1x1x4_S128x4x4_0_1_2 (broadcastInDim S1x1x4 ![2] bcast_S4_S1x1x4_2 (Host.negf (Host.exp (shapeCast _ (extractStridedSlice S1x4 ![1, 0] al slices_S2x4_S1x4_1_0) shapeCasts_S1x4_S4))))) (select (cmpf .une W W) (addf R (broadcastInDim S128x4x4 ![] bcast_S_S128x4x4 (constant S_ .f32 0x00000000#32))) (addf (maximumf R (broadcastInDim S128x4x4 ![] bcast_S_S128x4x4 (constant S_ .f32 0x00000000#32))) (Host.log1p (Host.exp (Host.negf (Host.absf W)))))))

def gbR : FVec Ideal S128x4x8 .f32 :=
  concatenate S128x4x8 2 [⟨S128x4x4, (gateR ga : (⟨S128x4x4, .f32⟩ : BufTy).Contents (Elt Ideal))⟩, ⟨S128x4x4, (decayR al (subf (shiftR ga dt) (broadcastInDim S128x4x4 ![] bcast_S_S128x4x4 (constant S_ .f32 0x00000000#32))) (shiftR ga dt) : (⟨S128x4x4, .f32⟩ : BufTy).Contents (Elt Ideal))⟩] concatenates_S128x4x4_S128x4x4_S128x4x8_d2

/-! ## Each part at an index -/

variable (b : Fin 128) (s : Fin 4)

theorem zcR_at (q : Fin 6) (d : Fin 256) : zcR cv cb (ix3 b q d) = zC cv cb b d q.val := by
  unfold zC
  pointwise [zcR]
  by_cases h : q.val < 2
  · rw [dif_pos h, ser4_of_lt _ _ _ h]
  · rw [dif_neg h, ser4_of_le _ _ _ (by omega) (by omega)]
    rfl

theorem xcR_at (q : Fin 7) (d : Fin 768) : xcR qk cd (ix3 b q d) = xC qk cd b d q.val := by
  unfold xC
  pointwise [xcR]
  by_cases h : q.val < 3
  · rw [dif_pos h, ser4_of_lt _ _ _ h]
  · rw [dif_neg h, ser4_of_le _ _ _ (by omega) (by omega)]

theorem ybR_at (d : Fin 256) : ybR cv cb wb (ix3 b s d) = ybS cv cb wb b s d := by
  pointwise [ybR]
  unfold ybS
  rw [zcR_at, zcR_at, zcR_at]
  simp only [Nat.add_comm 1, Nat.add_comm 2]

theorem cbR_at (q : Fin 2) (d : Fin 256) : cbR cv cb (ix3 b q d) = zC cv cb b d (4 + q.val) := by
  pointwise [cbR]
  rw [zcR_at]

theorem cR_at (i : Fin 768) : cR qk cd wd (ix3 b s i) = cS qk cd wd b s i := by
  pointwise [cR]
  unfold cS
  rw [xcR_at, xcR_at, xcR_at, xcR_at]
  simp only [Nat.add_comm 1, Nat.add_comm 2, Nat.add_comm 3]

theorem siluR_at (C : FVec Ideal S128x4x768 .f32) (i : Fin 768) : siluR C (ix3 b s i) = C (ix3 b s i) * Ideal.logistic (C (ix3 b s i)) := by
  pointwise [siluR]
  rfl

theorem aR_at (i : Fin 768) : siluR (cR qk cd wd) (ix3 b s i) = aS qk cd wd b s i := by
  rw [siluR_at, cR_at]
  rfl

theorem headR_at (o : ℕ) (ho : o + 256 ≤ 768) (hs : S128x4x768.Slices ![0, 0, o] S128x4x256) (h : Fin 4) (k : Fin 64) :
    headR o hs (siluR (cR qk cd wd)) (ix4 b s h k) = hS qk cd wd o ho b s h k := by
  refine Eq.trans ?_ (aR_at qk cd wd b s ⟨o + (h.val * 64 + k.val), by omega⟩)
  pointwise [headR]

theorem joinR_at (X Y : FVec Ideal S128x4x4x64 .f32) (Z : FVec Ideal S128x4x768 .f32) (i : Fin 768) : joinR X Y Z (ix3 b s i)
    = if h : i.val < 256 then nrmH (fun k => X (ix4 b s ⟨i.val / 64, by omega⟩ k)) ⟨i.val % 64, by omega⟩ * Ideal.ofBits .f32 0x3E000000#32
      else if h' : i.val - 256 < 256 then nrmH (fun k => Y (ix4 b s ⟨(i.val - 256) / 64, by omega⟩ k)) ⟨(i.val - 256) % 64, by omega⟩
      else Z (ix3 b s ⟨512 + (i.val - 256 - 256), by omega⟩) := by
  pointwise [joinR]
  rfl

theorem qkvR_at (i : Fin 768) : qkvR qk cd wd (ix3 b s i) = qkvS qk cd wd b s i := by
  refine (joinR_at b s _ _ _ i).trans ?_
  unfold qkvS
  by_cases h : i.val < 256
  · rw [dif_pos h, dif_pos h]
    exact congrArg (fun f => nrmH f ⟨i.val % 64, by omega⟩ * Ideal.ofBits .f32 0x3E000000#32) (funext fun k => headR_at qk cd wd b s 0 (by decide) _ _ k)
  · rw [dif_neg h, dif_neg h]
    by_cases h' : i.val < 512
    · rw [dif_pos h', dif_pos (show i.val - 256 < 256 by omega)]
      exact congrArg (fun f => nrmH f ⟨(i.val - 256) % 64, by omega⟩) (funext fun k => headR_at qk cd wd b s 256 (by decide) _ _ k)
    · rw [dif_neg h', dif_neg (show ¬ i.val - 256 < 256 by omega), aR_at]
      exact congrArg _ (Fin.ext (show 512 + (i.val - 256 - 256) = i.val by omega))

theorem shiftR_at (i : Fin 4) : shiftR ga dt (ix3 b s i) = ga (ix3 b s ⟨4 + i.val, by omega⟩) + dt (ix2 1 i) := by
  pointwise [shiftR]

theorem gateR_at (i : Fin 4) : gateR ga (ix3 b s i) = Ideal.logistic (ga (ix3 b s ⟨i.val, by omega⟩)) := by
  pointwise [gateR]
  rfl

theorem decayR_at (W R : FVec Ideal S128x4x4 .f32) (i : Fin 4) : decayR al W R (ix3 b s i)
    = -Ideal.exp (al (ix2 1 i)) * (max (R (ix3 b s i)) 0 + Ideal.log1p (Ideal.exp (-FloatOps.absf (F := Ideal) (φ := .f32) (W (ix3 b s i))))) := by
  pointwise [decayR]
  simp only [ne_eq, not_true_eq_false, if_false]

theorem subR_at (R : FVec Ideal S128x4x4 .f32) (i : Fin 4) : (subf R (broadcastInDim S128x4x4 ![] bcast_S_S128x4x4 (constant S_ .f32 0x00000000#32)) : FVec Ideal S128x4x4 .f32) (ix3 b s i) = R (ix3 b s i) := by
  pointwise

theorem two_gen (X Y : FVec Ideal S128x4x4 .f32) (i : Fin 8) :
    (concatenate S128x4x8 2 [⟨S128x4x4, X⟩, ⟨S128x4x4, Y⟩] concatenates_S128x4x4_S128x4x4_S128x4x8_d2 : FVec Ideal S128x4x8 .f32) (ix3 b s i)
    = if h : i.val < 4 then X (ix3 b s ⟨i.val, h⟩) else Y (ix3 b s ⟨i.val - 4, by omega⟩) := by
  pointwise

theorem gbR_at (i : Fin 8) : gbR ga al dt (ix3 b s i) = gbS ga al dt b s i := by
  refine (two_gen b s _ _ i).trans ?_
  unfold gbS
  by_cases h : i.val < 4
  · rw [dif_pos h, dif_pos h]
    exact gateR_at ga b s _
  · rw [dif_neg h, dif_neg h]
    refine (decayR_at al b s _ _ _).trans ?_
    have e : (⟨4 + (i.val - 4), by omega⟩ : Fin 8) = i := Fin.ext (show 4 + (i.val - 4) = i.val by omega)
    rw [subR_at, shiftR_at, zero_sub]
    unfold soft
    rw [zero_sub]
    exact congrArg (fun k => -Ideal.exp (al (ix2 1 ⟨i.val - 4, by omega⟩)) * (max (ga (ix3 b s k) + dt (ix2 1 ⟨i.val - 4, by omega⟩)) 0
      + Ideal.log1p (Ideal.exp (-FloatOps.absf (F := Ideal) (φ := .f32) (ga (ix3 b s k) + dt (ix2 1 ⟨i.val - 4, by omega⟩)))))) e

end Cert.PRS.Ref

end
-- ==== Proof.PRS.Run.lean ====
module

public import proofs.«01_k».proof.Proof.PRS.Ref
public import Idealize.ShloMosaic.Lib.StableHlo.Run

@[expose] public section

set_option maxRecDepth 16384

/-! The reference's run, read in five stretches of its operations: the second branch, the convolution, the activation, the heads, the gates. -/

noncomputable section

namespace Cert.PRS.Run

open Cert.Reference6Ideal Cert.Reference6Ideal.Gen Idealize.ShloMosaic Idealize.ShloMosaic.TcCoe Idealize.SL.Sem Idealize.ShloMosaic.StableHlo
open Cert.PRS.Ref

section
variable {F : FTy → Type} [FloatOps F]

def fn_main_v14 : (⟨S128x2x256, .f32⟩ : BufTy).Contents (Elt F) → (⟨S128x4x256, .f32⟩ : BufTy).Contents (Elt F) → (⟨S128x6x256, .f32⟩ : BufTy).Contents (Elt F) :=
  (fun a b => concatenate S128x6x256 1 [⟨S128x2x256, a⟩, ⟨S128x4x256, b⟩] concatenates_S128x2x256_S128x4x256_S128x6x256_d1)

def fn_main_v37 : (⟨S128x3x768, .f32⟩ : BufTy).Contents (Elt F) → (⟨S128x4x768, .f32⟩ : BufTy).Contents (Elt F) → (⟨S128x7x768, .f32⟩ : BufTy).Contents (Elt F) :=
  (fun a b => concatenate S128x7x768 1 [⟨S128x3x768, a⟩, ⟨S128x4x768, b⟩] concatenates_S128x3x768_S128x4x768_S128x7x768_d1)

def fn_main_v109 : (main_v106 : Ref sig .tc).ty.Contents (Elt F) → (main_v107 : Ref sig .tc).ty.Contents (Elt F) → (main_v108 : Ref sig .tc).ty.Contents (Elt F) → (main_v109 : Ref sig .tc).ty.Contents (Elt F) :=
  (fun u0 u1 u2 => (concatenate S128x4x768 2 [⟨S128x4x256, (u0 : (⟨S128x4x256, .f32⟩ : BufTy).Contents (Elt F))⟩, ⟨S128x4x256, (u1 : (⟨S128x4x256, .f32⟩ : BufTy).Contents (Elt F))⟩, ⟨S128x4x256, (u2 : (⟨S128x4x256, .f32⟩ : BufTy).Contents (Elt F))⟩] concatenates_S128x4x256_S128x4x256_S128x4x256_S128x4x768_d2 : (⟨S128x4x768, .f32⟩ : BufTy).Contents (Elt F)))

def fn_main_v110 : (⟨S128x4x4, .f32⟩ : BufTy).Contents (Elt F) → (⟨S128x4x4, .f32⟩ : BufTy).Contents (Elt F) → (⟨S128x4x8, .f32⟩ : BufTy).Contents (Elt F) :=
  (fun a b => concatenate S128x4x8 2 [⟨S128x4x4, a⟩, ⟨S128x4x4, b⟩] concatenates_S128x4x4_S128x4x4_S128x4x8_d2)

/-- The second branch, and the slices of the gates' operands. -/
def opsA : List (HloOp τ sig (Elt F)) :=
  [ unary main_arg5 main_v0 ((extractStridedSlice S1x3x256 ![1, 0, 0] · slices_S2x3x256_S1x3x256_1_0_0) : (⟨S2x3x256, .f32⟩ : BufTy).Contents (Elt F) → (⟨S1x3x256, .f32⟩ : BufTy).Contents (Elt F)),
    reshape main_v0 main_v1 (rfl : (.f32 : EltTy) = .f32) shapeCasts_S1x3x256_S3x256,
    unary main_arg6 main_v2 ((extractStridedSlice S1x4x768 ![1, 0, 0] · slices_S2x4x768_S1x4x768_1_0_0) : (⟨S2x4x768, .f32⟩ : BufTy).Contents (Elt F) → (⟨S1x4x768, .f32⟩ : BufTy).Contents (Elt F)),
    reshape main_v2 main_v3 (rfl : (.f32 : EltTy) = .f32) shapeCasts_S1x4x768_S4x768,
    unary main_arg7 main_v4 ((extractStridedSlice S1x4 ![1, 0] · slices_S2x4_S1x4_1_0) : (⟨S2x4, .f32⟩ : BufTy).Contents (Elt F) → (⟨S1x4, .f32⟩ : BufTy).Contents (Elt F)),
    reshape main_v4 main_v5 (rfl : (.f32 : EltTy) = .f32) shapeCasts_S1x4_S4,
    unary main_arg8 main_v6 ((extractStridedSlice S1x4 ![1, 0] · slices_S2x4_S1x4_1_0) : (⟨S2x4, .f32⟩ : BufTy).Contents (Elt F) → (⟨S1x4, .f32⟩ : BufTy).Contents (Elt F)),
    reshape main_v6 main_v7 (rfl : (.f32 : EltTy) = .f32) shapeCasts_S1x4_S4,
    unary main_arg0 main_v8 ((extractStridedSlice S128x4x256 ![0, 0, 0] · slices_S128x4x768_S128x4x256_0_0_0) : (⟨S128x4x768, .f32⟩ : BufTy).Contents (Elt F) → (⟨S128x4x256, .f32⟩ : BufTy).Contents (Elt F)),
    unary main_arg0 main_v9 ((extractStridedSlice S128x4x256 ![0, 0, 256] · slices_S128x4x768_S128x4x256_0_0_256) : (⟨S128x4x768, .f32⟩ : BufTy).Contents (Elt F) → (⟨S128x4x256, .f32⟩ : BufTy).Contents (Elt F)),
    unary main_arg0 main_v10 ((extractStridedSlice S128x4x256 ![0, 0, 512] · slices_S128x4x768_S128x4x256_0_0_512) : (⟨S128x4x768, .f32⟩ : BufTy).Contents (Elt F) → (⟨S128x4x256, .f32⟩ : BufTy).Contents (Elt F)),
    unary main_arg2 main_v11 ((extractStridedSlice S128x4x4 ![0, 0, 0] · slices_S128x4x8_S128x4x4_0_0_0) : (⟨S128x4x8, .f32⟩ : BufTy).Contents (Elt F) → (⟨S128x4x4, .f32⟩ : BufTy).Contents (Elt F)),
    unary main_arg2 main_v12 ((extractStridedSlice S128x4x4 ![0, 0, 4] · slices_S128x4x8_S128x4x4_0_0_4) : (⟨S128x4x8, .f32⟩ : BufTy).Contents (Elt F) → (⟨S128x4x4, .f32⟩ : BufTy).Contents (Elt F)),
    binary main_v9 main_v10 main_v13 (mulf : (⟨S128x4x256, .f32⟩ : BufTy).Contents (Elt F) → (⟨S128x4x256, .f32⟩ : BufTy).Contents (Elt F) → (⟨S128x4x256, .f32⟩ : BufTy).Contents (Elt F)),
    binary main_arg3 main_v13 main_v14 (fn_main_v14 (F := F)),
    unary main_v14 main_v15 ((extractStridedSlice S128x4x256 ![0, 0, 0] · slices_S128x6x256_S128x4x256_0_0_0) : (⟨S128x6x256, .f32⟩ : BufTy).Contents (Elt F) → (⟨S128x4x256, .f32⟩ : BufTy).Contents (Elt F)),
    unary main_v1 main_v16 ((extractStridedSlice S1x256 ![0, 0] · slices_S3x256_S1x256_0_0) : (⟨S3x256, .f32⟩ : BufTy).Contents (Elt F) → (⟨S1x256, .f32⟩ : BufTy).Contents (Elt F)),
    reshape main_v16 main_v17 (rfl : (.f32 : EltTy) = .f32) shapeCasts_S1x256_S256,
    unary main_v17 main_v18 (broadcastInDim S1x1x256 ![2] bcast_S256_S1x1x256_2 : (⟨S256, .f32⟩ : BufTy).Contents (Elt F) → (⟨S1x1x256, .f32⟩ : BufTy).Contents (Elt F)),
    unary main_v18 main_v19 (broadcastInDim S128x4x256 ![0, 1, 2] bcast_S1x1x256_S128x4x256_0_1_2 : (⟨S1x1x256, .f32⟩ : BufTy).Contents (Elt F) → (⟨S128x4x256, .f32⟩ : BufTy).Contents (Elt F)),
    binary main_v15 main_v19 main_v20 (mulf : (⟨S128x4x256, .f32⟩ : BufTy).Contents (Elt F) → (⟨S128x4x256, .f32⟩ : BufTy).Contents (Elt F) → (⟨S128x4x256, .f32⟩ : BufTy).Contents (Elt F)),
    unary main_v14 main_v21 ((extractStridedSlice S128x4x256 ![0, 1, 0] · slices_S128x6x256_S128x4x256_0_1_0) : (⟨S128x6x256, .f32⟩ : BufTy).Contents (Elt F) → (⟨S128x4x256, .f32⟩ : BufTy).Contents (Elt F)),
    unary main_v1 main_v22 ((extractStridedSlice S1x256 ![1, 0] · slices_S3x256_S1x256_1_0) : (⟨S3x256, .f32⟩ : BufTy).Contents (Elt F) → (⟨S1x256, .f32⟩ : BufTy).Contents (Elt F)),
    reshape main_v22 main_v23 (rfl : (.f32 : EltTy) = .f32) shapeCasts_S1x256_S256,
    unary main_v23 main_v24 (broadcastInDim S1x1x256 ![2] bcast_S256_S1x1x256_2 : (⟨S256, .f32⟩ : BufTy).Contents (Elt F) → (⟨S1x1x256, .f32⟩ : BufTy).Contents (Elt F)),
    unary main_v24 main_v25 (broadcastInDim S128x4x256 ![0, 1, 2] bcast_S1x1x256_S128x4x256_0_1_2 : (⟨S1x1x256, .f32⟩ : BufTy).Contents (Elt F) → (⟨S128x4x256, .f32⟩ : BufTy).Contents (Elt F)),
    binary main_v21 main_v25 main_v26 (mulf : (⟨S128x4x256, .f32⟩ : BufTy).Contents (Elt F) → (⟨S128x4x256, .f32⟩ : BufTy).Contents (Elt F) → (⟨S128x4x256, .f32⟩ : BufTy).Contents (Elt F)),
    binary main_v20 main_v26 main_v27 (addf : (⟨S128x4x256, .f32⟩ : BufTy).Contents (Elt F) → (⟨S128x4x256, .f32⟩ : BufTy).Contents (Elt F) → (⟨S128x4x256, .f32⟩ : BufTy).Contents (Elt F)),
    unary main_v14 main_v28 ((extractStridedSlice S128x4x256 ![0, 2, 0] · slices_S128x6x256_S128x4x256_0_2_0) : (⟨S128x6x256, .f32⟩ : BufTy).Contents (Elt F) → (⟨S128x4x256, .f32⟩ : BufTy).Contents (Elt F)),
    unary main_v1 main_v29 ((extractStridedSlice S1x256 ![2, 0] · slices_S3x256_S1x256_2_0) : (⟨S3x256, .f32⟩ : BufTy).Contents (Elt F) → (⟨S1x256, .f32⟩ : BufTy).Contents (Elt F)),
    reshape main_v29 main_v30 (rfl : (.f32 : EltTy) = .f32) shapeCasts_S1x256_S256,
    unary main_v30 main_v31 (broadcastInDim S1x1x256 ![2] bcast_S256_S1x1x256_2 : (⟨S256, .f32⟩ : BufTy).Contents (Elt F) → (⟨S1x1x256, .f32⟩ : BufTy).Contents (Elt F)),
    unary main_v31 main_v32 (broadcastInDim S128x4x256 ![0, 1, 2] bcast_S1x1x256_S128x4x256_0_1_2 : (⟨S1x1x256, .f32⟩ : BufTy).Contents (Elt F) → (⟨S128x4x256, .f32⟩ : BufTy).Contents (Elt F)),
    binary main_v28 main_v32 main_v33 (mulf : (⟨S128x4x256, .f32⟩ : BufTy).Contents (Elt F) → (⟨S128x4x256, .f32⟩ : BufTy).Contents (Elt F) → (⟨S128x4x256, .f32⟩ : BufTy).Contents (Elt F)),
    binary main_v27 main_v33 main_v34 (addf : (⟨S128x4x256, .f32⟩ : BufTy).Contents (Elt F) → (⟨S128x4x256, .f32⟩ : BufTy).Contents (Elt F) → (⟨S128x4x256, .f32⟩ : BufTy).Contents (Elt F)),
    unary main_v14 main_v35 ((extractStridedSlice S128x2x256 ![0, 4, 0] · slices_S128x6x256_S128x2x256_0_4_0) : (⟨S128x6x256, .f32⟩ : BufTy).Contents (Elt F) → (⟨S128x2x256, .f32⟩ : BufTy).Contents (Elt F)),
    binary main_v8 main_v34 main_v36 (mulf : (⟨S128x4x256, .f32⟩ : BufTy).Contents (Elt F) → (⟨S128x4x256, .f32⟩ : BufTy).Contents (Elt F) → (⟨S128x4x256, .f32⟩ : BufTy).Contents (Elt F)) ]

/-- The convolution of the fourth branch. -/
def opsB : List (HloOp τ sig (Elt F)) :=
  [ binary main_arg4 main_arg1 main_v37 (fn_main_v37 (F := F)),
    unary main_v37 main_v38 ((extractStridedSlice S128x4x768 ![0, 0, 0] · slices_S128x7x768_S128x4x768_0_0_0) : (⟨S128x7x768, .f32⟩ : BufTy).Contents (Elt F) → (⟨S128x4x768, .f32⟩ : BufTy).Contents (Elt F)),
    unary main_v3 main_v39 ((extractStridedSlice S1x768 ![0, 0] · slices_S4x768_S1x768_0_0) : (⟨S4x768, .f32⟩ : BufTy).Contents (Elt F) → (⟨S1x768, .f32⟩ : BufTy).Contents (Elt F)),
    reshape main_v39 main_v40 (rfl : (.f32 : EltTy) = .f32) shapeCasts_S1x768_S768,
    unary main_v40 main_v41 (broadcastInDim S1x1x768 ![2] bcast_S768_S1x1x768_2 : (⟨S768, .f32⟩ : BufTy).Contents (Elt F) → (⟨S1x1x768, .f32⟩ : BufTy).Contents (Elt F)),
    unary main_v41 main_v42 (broadcastInDim S128x4x768 ![0, 1, 2] bcast_S1x1x768_S128x4x768_0_1_2 : (⟨S1x1x768, .f32⟩ : BufTy).Contents (Elt F) → (⟨S128x4x768, .f32⟩ : BufTy).Contents (Elt F)),
    binary main_v38 main_v42 main_v43 (mulf : (⟨S128x4x768, .f32⟩ : BufTy).Contents (Elt F) → (⟨S128x4x768, .f32⟩ : BufTy).Contents (Elt F) → (⟨S128x4x768, .f32⟩ : BufTy).Contents (Elt F)),
    unary main_v37 main_v44 ((extractStridedSlice S128x4x768 ![0, 1, 0] · slices_S128x7x768_S128x4x768_0_1_0) : (⟨S128x7x768, .f32⟩ : BufTy).Contents (Elt F) → (⟨S128x4x768, .f32⟩ : BufTy).Contents (Elt F)),
    unary main_v3 main_v45 ((extractStridedSlice S1x768 ![1, 0] · slices_S4x768_S1x768_1_0) : (⟨S4x768, .f32⟩ : BufTy).Contents (Elt F) → (⟨S1x768, .f32⟩ : BufTy).Contents (Elt F)),
    reshape main_v45 main_v46 (rfl : (.f32 : EltTy) = .f32) shapeCasts_S1x768_S768,
    unary main_v46 main_v47 (broadcastInDim S1x1x768 ![2] bcast_S768_S1x1x768_2 : (⟨S768, .f32⟩ : BufTy).Contents (Elt F) → (⟨S1x1x768, .f32⟩ : BufTy).Contents (Elt F)),
    unary main_v47 main_v48 (broadcastInDim S128x4x768 ![0, 1, 2] bcast_S1x1x768_S128x4x768_0_1_2 : (⟨S1x1x768, .f32⟩ : BufTy).Contents (Elt F) → (⟨S128x4x768, .f32⟩ : BufTy).Contents (Elt F)),
    binary main_v44 main_v48 main_v49 (mulf : (⟨S128x4x768, .f32⟩ : BufTy).Contents (Elt F) → (⟨S128x4x768, .f32⟩ : BufTy).Contents (Elt F) → (⟨S128x4x768, .f32⟩ : BufTy).Contents (Elt F)),
    binary main_v43 main_v49 main_v50 (addf : (⟨S128x4x768, .f32⟩ : BufTy).Contents (Elt F) → (⟨S128x4x768, .f32⟩ : BufTy).Contents (Elt F) → (⟨S128x4x768, .f32⟩ : BufTy).Contents (Elt F)),
    unary main_v37 main_v51 ((extractStridedSlice S128x4x768 ![0, 2, 0] · slices_S128x7x768_S128x4x768_0_2_0) : (⟨S128x7x768, .f32⟩ : BufTy).Contents (Elt F) → (⟨S128x4x768, .f32⟩ : BufTy).Contents (Elt F)),
    unary main_v3 main_v52 ((extractStridedSlice S1x768 ![2, 0] · slices_S4x768_S1x768_2_0) : (⟨S4x768, .f32⟩ : BufTy).Contents (Elt F) → (⟨S1x768, .f32⟩ : BufTy).Contents (Elt F)),
    reshape main_v52 main_v53 (rfl : (.f32 : EltTy) = .f32) shapeCasts_S1x768_S768,
    unary main_v53 main_v54 (broadcastInDim S1x1x768 ![2] bcast_S768_S1x1x768_2 : (⟨S768, .f32⟩ : BufTy).Contents (Elt F) → (⟨S1x1x768, .f32⟩ : BufTy).Contents (Elt F)),
    unary main_v54 main_v55 (broadcastInDim S128x4x768 ![0, 1, 2] bcast_S1x1x768_S128x4x768_0_1_2 : (⟨S1x1x768, .f32⟩ : BufTy).Contents (Elt F) → (⟨S128x4x768, .f32⟩ : BufTy).Contents (Elt F)),
    binary main_v51 main_v55 main_v56 (mulf : (⟨S128x4x768, .f32⟩ : BufTy).Contents (Elt F) → (⟨S128x4x768, .f32⟩ : BufTy).Contents (Elt F) → (⟨S128x4x768, .f32⟩ : BufTy).Contents (Elt F)),
    binary main_v50 main_v56 main_v57 (addf : (⟨S128x4x768, .f32⟩ : BufTy).Contents (Elt F) → (⟨S128x4x768, .f32⟩ : BufTy).Contents (Elt F) → (⟨S128x4x768, .f32⟩ : BufTy).Contents (Elt F)),
    unary main_v37 main_v58 ((extractStridedSlice S128x4x768 ![0, 3, 0] · slices_S128x7x768_S128x4x768_0_3_0) : (⟨S128x7x768, .f32⟩ : BufTy).Contents (Elt F) → (⟨S128x4x768, .f32⟩ : BufTy).Contents (Elt F)),
    unary main_v3 main_v59 ((extractStridedSlice S1x768 ![3, 0] · slices_S4x768_S1x768_3_0) : (⟨S4x768, .f32⟩ : BufTy).Contents (Elt F) → (⟨S1x768, .f32⟩ : BufTy).Contents (Elt F)),
    reshape main_v59 main_v60 (rfl : (.f32 : EltTy) = .f32) shapeCasts_S1x768_S768,
    unary main_v60 main_v61 (broadcastInDim S1x1x768 ![2] bcast_S768_S1x1x768_2 : (⟨S768, .f32⟩ : BufTy).Contents (Elt F) → (⟨S1x1x768, .f32⟩ : BufTy).Contents (Elt F)),
    unary main_v61 main_v62 (broadcastInDim S128x4x768 ![0, 1, 2] bcast_S1x1x768_S128x4x768_0_1_2 : (⟨S1x1x768, .f32⟩ : BufTy).Contents (Elt F) → (⟨S128x4x768, .f32⟩ : BufTy).Contents (Elt F)),
    binary main_v58 main_v62 main_v63 (mulf : (⟨S128x4x768, .f32⟩ : BufTy).Contents (Elt F) → (⟨S128x4x768, .f32⟩ : BufTy).Contents (Elt F) → (⟨S128x4x768, .f32⟩ : BufTy).Contents (Elt F)),
    binary main_v57 main_v63 main_v64 (addf : (⟨S128x4x768, .f32⟩ : BufTy).Contents (Elt F) → (⟨S128x4x768, .f32⟩ : BufTy).Contents (Elt F) → (⟨S128x4x768, .f32⟩ : BufTy).Contents (Elt F)),
    unary main_v37 main_v65 ((extractStridedSlice S128x3x768 ![0, 4, 0] · slices_S128x7x768_S128x3x768_0_4_0) : (⟨S128x7x768, .f32⟩ : BufTy).Contents (Elt F) → (⟨S128x3x768, .f32⟩ : BufTy).Contents (Elt F)) ]

/-- Its activation. -/
def opsC : List (HloOp τ sig (Elt F)) :=
  [ TRef.unary (TRef.of (T := ⟨S128x4x768, .f32⟩) main_v64) (TRef.of (T := ⟨S128x4x768, .f32⟩) main_call0_v0) Host.negf,
    TRef.unary (TRef.of (T := ⟨S128x4x768, .f32⟩) main_call0_v0) (TRef.of (T := ⟨S128x4x768, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S128x4x768, .f32⟩) main_call0_v2) (broadcastInDim S128x4x768 ![] bcast_S_S128x4x768),
    TRef.binary (TRef.of (T := ⟨S128x4x768, .f32⟩) main_call0_v2) (TRef.of (T := ⟨S128x4x768, .f32⟩) main_call0_v1) (TRef.of (T := ⟨S128x4x768, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S128x4x768, .f32⟩) main_call0_v4) (broadcastInDim S128x4x768 ![] bcast_S_S128x4x768),
    TRef.binary (TRef.of (T := ⟨S128x4x768, .f32⟩) main_call0_v4) (TRef.of (T := ⟨S128x4x768, .f32⟩) main_call0_v3) (TRef.of (T := ⟨S128x4x768, .f32⟩) main_call0_v5) Host.divf,
    TRef.binary (TRef.of (T := ⟨S128x4x768, .f32⟩) main_v64) (TRef.of (T := ⟨S128x4x768, .f32⟩) main_call0_v5) (TRef.of (T := ⟨S128x4x768, .f32⟩) main_v66) mulf ]

/-- The heads, normalised. -/
def opsD : List (HloOp τ sig (Elt F)) :=
  [ unary main_v66 main_v67 ((extractStridedSlice S128x4x256 ![0, 0, 0] · slices_S128x4x768_S128x4x256_0_0_0) : (⟨S128x4x768, .f32⟩ : BufTy).Contents (Elt F) → (⟨S128x4x256, .f32⟩ : BufTy).Contents (Elt F)),
    reshape main_v67 main_v68 (rfl : (.f32 : EltTy) = .f32) shapeCasts_S128x4x256_S128x4x4x64,
    binary main_v68 main_v68 main_v69 (mulf : (⟨S128x4x4x64, .f32⟩ : BufTy).Contents (Elt F) → (⟨S128x4x4x64, .f32⟩ : BufTy).Contents (Elt F) → (⟨S128x4x4x64, .f32⟩ : BufTy).Contents (Elt F)),
    nullary main_cst (constant S_ .f32 0x00000000#32),
    binary main_v69 main_cst main_v70 ((fun x v => Host.reduceAdd x v reducesTo_S128x4x4x64_S128x4x4_d3 h_S_) : (⟨S128x4x4x64, .f32⟩ : BufTy).Contents (Elt F) → (⟨S_, .f32⟩ : BufTy).Contents (Elt F) → (⟨S128x4x4, .f32⟩ : BufTy).Contents (Elt F)),
    unary main_v70 main_v71 (broadcastInDim S128x4x4x1 ![0, 1, 2] bcast_S128x4x4_S128x4x4x1_0_1_2 : (⟨S128x4x4, .f32⟩ : BufTy).Contents (Elt F) → (⟨S128x4x4x1, .f32⟩ : BufTy).Contents (Elt F)),
    nullary main_cst_0 (constant S_ .f32 0x358637BD#32),
    unary main_cst_0 main_v72 (broadcastInDim S128x4x4x1 ![] bcast_S_S128x4x4x1 : (⟨S_, .f32⟩ : BufTy).Contents (Elt F) → (⟨S128x4x4x1, .f32⟩ : BufTy).Contents (Elt F)),
    binary main_v71 main_v72 main_v73 (addf : (⟨S128x4x4x1, .f32⟩ : BufTy).Contents (Elt F) → (⟨S128x4x4x1, .f32⟩ : BufTy).Contents (Elt F) → (⟨S128x4x4x1, .f32⟩ : BufTy).Contents (Elt F)),
    unary main_v73 main_v74 (Host.rsqrt : (⟨S128x4x4x1, .f32⟩ : BufTy).Contents (Elt F) → (⟨S128x4x4x1, .f32⟩ : BufTy).Contents (Elt F)),
    unary main_v74 main_v75 (broadcastInDim S128x4x4x64 ![0, 1, 2, 3] bcast_S128x4x4x1_S128x4x4x64_0_1_2_3 : (⟨S128x4x4x1, .f32⟩ : BufTy).Contents (Elt F) → (⟨S128x4x4x64, .f32⟩ : BufTy).Contents (Elt F)),
    binary main_v68 main_v75 main_v76 (mulf : (⟨S128x4x4x64, .f32⟩ : BufTy).Contents (Elt F) → (⟨S128x4x4x64, .f32⟩ : BufTy).Contents (Elt F) → (⟨S128x4x4x64, .f32⟩ : BufTy).Contents (Elt F)),
    nullary main_cst_1 (constant S_ .f32 0x3E000000#32),
    unary main_cst_1 main_v77 (broadcastInDim S128x4x4x64 ![] bcast_S_S128x4x4x64 : (⟨S_, .f32⟩ : BufTy).Contents (Elt F) → (⟨S128x4x4x64, .f32⟩ : BufTy).Contents (Elt F)),
    binary main_v76 main_v77 main_v78 (mulf : (⟨S128x4x4x64, .f32⟩ : BufTy).Contents (Elt F) → (⟨S128x4x4x64, .f32⟩ : BufTy).Contents (Elt F) → (⟨S128x4x4x64, .f32⟩ : BufTy).Contents (Elt F)),
    unary main_v66 main_v79 ((extractStridedSlice S128x4x256 ![0, 0, 256] · slices_S128x4x768_S128x4x256_0_0_256) : (⟨S128x4x768, .f32⟩ : BufTy).Contents (Elt F) → (⟨S128x4x256, .f32⟩ : BufTy).Contents (Elt F)),
    reshape main_v79 main_v80 (rfl : (.f32 : EltTy) = .f32) shapeCasts_S128x4x256_S128x4x4x64,
    binary main_v80 main_v80 main_v81 (mulf : (⟨S128x4x4x64, .f32⟩ : BufTy).Contents (Elt F) → (⟨S128x4x4x64, .f32⟩ : BufTy).Contents (Elt F) → (⟨S128x4x4x64, .f32⟩ : BufTy).Contents (Elt F)),
    nullary main_cst_2 (constant S_ .f32 0x00000000#32),
    binary main_v81 main_cst_2 main_v82 ((fun x v => Host.reduceAdd x v reducesTo_S128x4x4x64_S128x4x4_d3 h_S_) : (⟨S128x4x4x64, .f32⟩ : BufTy).Contents (Elt F) → (⟨S_, .f32⟩ : BufTy).Contents (Elt F) → (⟨S128x4x4, .f32⟩ : BufTy).Contents (Elt F)),
    unary main_v82 main_v83 (broadcastInDim S128x4x4x1 ![0, 1, 2] bcast_S128x4x4_S128x4x4x1_0_1_2 : (⟨S128x4x4, .f32⟩ : BufTy).Contents (Elt F) → (⟨S128x4x4x1, .f32⟩ : BufTy).Contents (Elt F)),
    nullary main_cst_3 (constant S_ .f32 0x358637BD#32),
    unary main_cst_3 main_v84 (broadcastInDim S128x4x4x1 ![] bcast_S_S128x4x4x1 : (⟨S_, .f32⟩ : BufTy).Contents (Elt F) → (⟨S128x4x4x1, .f32⟩ : BufTy).Contents (Elt F)),
    binary main_v83 main_v84 main_v85 (addf : (⟨S128x4x4x1, .f32⟩ : BufTy).Contents (Elt F) → (⟨S128x4x4x1, .f32⟩ : BufTy).Contents (Elt F) → (⟨S128x4x4x1, .f32⟩ : BufTy).Contents (Elt F)),
    unary main_v85 main_v86 (Host.rsqrt : (⟨S128x4x4x1, .f32⟩ : BufTy).Contents (Elt F) → (⟨S128x4x4x1, .f32⟩ : BufTy).Contents (Elt F)),
    unary main_v86 main_v87 (broadcastInDim S128x4x4x64 ![0, 1, 2, 3] bcast_S128x4x4x1_S128x4x4x64_0_1_2_3 : (⟨S128x4x4x1, .f32⟩ : BufTy).Contents (Elt F) → (⟨S128x4x4x64, .f32⟩ : BufTy).Contents (Elt F)),
    binary main_v80 main_v87 main_v88 (mulf : (⟨S128x4x4x64, .f32⟩ : BufTy).Contents (Elt F) → (⟨S128x4x4x64, .f32⟩ : BufTy).Contents (Elt F) → (⟨S128x4x4x64, .f32⟩ : BufTy).Contents (Elt F)),
    unary main_v66 main_v89 ((extractStridedSlice S128x4x256 ![0, 0, 512] · slices_S128x4x768_S128x4x256_0_0_512) : (⟨S128x4x768, .f32⟩ : BufTy).Contents (Elt F) → (⟨S128x4x256, .f32⟩ : BufTy).Contents (Elt F)),
    reshape main_v89 main_v90 (rfl : (.f32 : EltTy) = .f32) shapeCasts_S128x4x256_S128x4x4x64 ]

/-- The gates, and the results put together. -/
def opsE : List (HloOp τ sig (Elt F)) :=
  [ unary main_v11 main_v91 (Host.negf : (⟨S128x4x4, .f32⟩ : BufTy).Contents (Elt F) → (⟨S128x4x4, .f32⟩ : BufTy).Contents (Elt F)),
    unary main_v91 main_v92 (Host.exp : (⟨S128x4x4, .f32⟩ : BufTy).Contents (Elt F) → (⟨S128x4x4, .f32⟩ : BufTy).Contents (Elt F)),
    nullary main_cst_4 (constant S_ .f32 0x3F800000#32),
    unary main_cst_4 main_v93 (broadcastInDim S128x4x4 ![] bcast_S_S128x4x4 : (⟨S_, .f32⟩ : BufTy).Contents (Elt F) → (⟨S128x4x4, .f32⟩ : BufTy).Contents (Elt F)),
    binary main_v93 main_v92 main_v94 (addf : (⟨S128x4x4, .f32⟩ : BufTy).Contents (Elt F) → (⟨S128x4x4, .f32⟩ : BufTy).Contents (Elt F) → (⟨S128x4x4, .f32⟩ : BufTy).Contents (Elt F)),
    nullary main_cst_5 (constant S_ .f32 0x3F800000#32),
    unary main_cst_5 main_v95 (broadcastInDim S128x4x4 ![] bcast_S_S128x4x4 : (⟨S_, .f32⟩ : BufTy).Contents (Elt F) → (⟨S128x4x4, .f32⟩ : BufTy).Contents (Elt F)),
    binary main_v95 main_v94 main_v96 (Host.divf : (⟨S128x4x4, .f32⟩ : BufTy).Contents (Elt F) → (⟨S128x4x4, .f32⟩ : BufTy).Contents (Elt F) → (⟨S128x4x4, .f32⟩ : BufTy).Contents (Elt F)),
    unary main_v5 main_v97 (Host.exp : (⟨S4, .f32⟩ : BufTy).Contents (Elt F) → (⟨S4, .f32⟩ : BufTy).Contents (Elt F)),
    unary main_v97 main_v98 (Host.negf : (⟨S4, .f32⟩ : BufTy).Contents (Elt F) → (⟨S4, .f32⟩ : BufTy).Contents (Elt F)),
    unary main_v7 main_v99 (broadcastInDim S1x1x4 ![2] bcast_S4_S1x1x4_2 : (⟨S4, .f32⟩ : BufTy).Contents (Elt F) → (⟨S1x1x4, .f32⟩ : BufTy).Contents (Elt F)),
    unary main_v99 main_v100 (broadcastInDim S128x4x4 ![0, 1, 2] bcast_S1x1x4_S128x4x4_0_1_2 : (⟨S1x1x4, .f32⟩ : BufTy).Contents (Elt F) → (⟨S128x4x4, .f32⟩ : BufTy).Contents (Elt F)),
    binary main_v12 main_v100 main_v101 (addf : (⟨S128x4x4, .f32⟩ : BufTy).Contents (Elt F) → (⟨S128x4x4, .f32⟩ : BufTy).Contents (Elt F) → (⟨S128x4x4, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S128x4x4, .f32⟩) main_call1_v0) (broadcastInDim S128x4x4 ![] bcast_S_S128x4x4),
    TRef.binary (TRef.of (T := ⟨S128x4x4, .f32⟩) main_v101) (TRef.of (T := ⟨S128x4x4, .f32⟩) main_call1_v0) (TRef.of (T := ⟨S128x4x4, .f32⟩) main_call1_v1) maximumf,
    TRef.unary (TRef.of (T := ⟨S_, .f32⟩) main_call1_cst) (TRef.of (T := ⟨S128x4x4, .f32⟩) main_call1_v2) (broadcastInDim S128x4x4 ![] bcast_S_S128x4x4),
    TRef.binary (TRef.of (T := ⟨S128x4x4, .f32⟩) main_v101) (TRef.of (T := ⟨S128x4x4, .f32⟩) main_call1_v2) (TRef.of (T := ⟨S128x4x4, .f32⟩) main_call1_v3) subf,
    TRef.binary (TRef.of (T := ⟨S128x4x4, .f32⟩) main_call1_v3) (TRef.of (T := ⟨S128x4x4, .f32⟩) main_call1_v3) (TRef.of (T := ⟨S128x4x4, .i1⟩) main_call1_v4) (cmpf .une),
    TRef.unary (TRef.of (T := ⟨S_, .f32⟩) main_call1_cst) (TRef.of (T := ⟨S128x4x4, .f32⟩) main_call1_v5) (broadcastInDim S128x4x4 ![] bcast_S_S128x4x4),
    TRef.binary (TRef.of (T := ⟨S128x4x4, .f32⟩) main_v101) (TRef.of (T := ⟨S128x4x4, .f32⟩) main_call1_v5) (TRef.of (T := ⟨S128x4x4, .f32⟩) main_call1_v6) addf,
    TRef.unary (TRef.of (T := ⟨S128x4x4, .f32⟩) main_call1_v3) (TRef.of (T := ⟨S128x4x4, .f32⟩) main_call1_v7) Host.absf,
    TRef.unary (TRef.of (T := ⟨S128x4x4, .f32⟩) main_call1_v7) (TRef.of (T := ⟨S128x4x4, .f32⟩) main_call1_v8) Host.negf,
    TRef.unary (TRef.of (T := ⟨S128x4x4, .f32⟩) main_call1_v8) (TRef.of (T := ⟨S128x4x4, .f32⟩) main_call1_v9) Host.exp,
    TRef.unary (TRef.of (T := ⟨S128x4x4, .f32⟩) main_call1_v9) (TRef.of (T := ⟨S128x4x4, .f32⟩) main_call1_v10) Host.log1p,
    TRef.binary (TRef.of (T := ⟨S128x4x4, .f32⟩) main_call1_v1) (TRef.of (T := ⟨S128x4x4, .f32⟩) main_call1_v10) (TRef.of (T := ⟨S128x4x4, .f32⟩) main_call1_v11) addf,
    TRef.ternary (TRef.of (T := ⟨S128x4x4, .i1⟩) main_call1_v4) (TRef.of (T := ⟨S128x4x4, .f32⟩) main_call1_v6) (TRef.of (T := ⟨S128x4x4, .f32⟩) main_call1_v11) (TRef.of (T := ⟨S128x4x4, .f32⟩) main_v102) select,
    unary main_v98 main_v103 (broadcastInDim S1x1x4 ![2] bcast_S4_S1x1x4_2 : (⟨S4, .f32⟩ : BufTy).Contents (Elt F) → (⟨S1x1x4, .f32⟩ : BufTy).Contents (Elt F)),
    unary main_v103 main_v104 (broadcastInDim S128x4x4 ![0, 1, 2] bcast_S1x1x4_S128x4x4_0_1_2 : (⟨S1x1x4, .f32⟩ : BufTy).Contents (Elt F) → (⟨S128x4x4, .f32⟩ : BufTy).Contents (Elt F)),
    binary main_v104 main_v102 main_v105 (mulf : (⟨S128x4x4, .f32⟩ : BufTy).Contents (Elt F) → (⟨S128x4x4, .f32⟩ : BufTy).Contents (Elt F) → (⟨S128x4x4, .f32⟩ : BufTy).Contents (Elt F)),
    reshape main_v78 main_v106 (rfl : (.f32 : EltTy) = .f32) shapeCasts_S128x4x4x64_S128x4x256,
    reshape main_v88 main_v107 (rfl : (.f32 : EltTy) = .f32) shapeCasts_S128x4x4x64_S128x4x256,
    reshape main_v90 main_v108 (rfl : (.f32 : EltTy) = .f32) shapeCasts_S128x4x4x64_S128x4x256,
    nary ![main_v106, main_v107, main_v108] main_v109 (fun u => fn_main_v109 (F := F) (u 0) (u 1) (u 2)),
    binary main_v96 main_v105 main_v110 (fn_main_v110 (F := F)) ]

/-- All operations in order. -/
def ops : List (HloOp τ sig (Elt F)) := opsA ++ (opsB ++ (opsC ++ (opsD ++ opsE)))

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., unary_bufs_sub .., unary_bufs_sub .., unary_bufs_sub .., unary_bufs_sub .., binary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., binary_bufs_sub .., binary_bufs_sub .., unary_bufs_sub .., unary_bufs_sub .., reshape_bufs_sub .., unary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub .., reshape_bufs_sub .., reshape_bufs_sub .., reshape_bufs_sub .., nary_bufs_sub .., binary_bufs_sub ..⟩
end

/-! ## Each stretch, from any contents before it -/

variable (W : Valuation τ sig (Elt Ideal))

/-! Names for the stretches' terms. -/

def convW (qk : FVec Ideal S128x4x768 .f32) (cd : FVec Ideal S128x3x768 .f32) (w : FVec Ideal S4x768 .f32) : FVec Ideal S128x4x768 .f32 := (addf (addf (addf (mulf (extractStridedSlice S128x4x768 ![0, 0, 0] (xcR qk cd) slices_S128x7x768_S128x4x768_0_0_0) (broadcastInDim S128x4x768 ![0, 1, 2] bcast_S1x1x768_S128x4x768_0_1_2 (broadcastInDim S1x1x768 ![2] bcast_S768_S1x1x768_2 (shapeCast _ (extractStridedSlice S1x768 ![0, 0] w slices_S4x768_S1x768_0_0) shapeCasts_S1x768_S768)))) (mulf (extractStridedSlice S128x4x768 ![0, 1, 0] (xcR qk cd) slices_S128x7x768_S128x4x768_0_1_0) (broadcastInDim S128x4x768 ![0, 1, 2] bcast_S1x1x768_S128x4x768_0_1_2 (broadcastInDim S1x1x768 ![2] bcast_S768_S1x1x768_2 (shapeCast _ (extractStridedSlice S1x768 ![1, 0] w slices_S4x768_S1x768_1_0) shapeCasts_S1x768_S768))))) (mulf (extractStridedSlice S128x4x768 ![0, 2, 0] (xcR qk cd) slices_S128x7x768_S128x4x768_0_2_0) (broadcastInDim S128x4x768 ![0, 1, 2] bcast_S1x1x768_S128x4x768_0_1_2 (broadcastInDim S1x1x768 ![2] bcast_S768_S1x1x768_2 (shapeCast _ (extractStridedSlice S1x768 ![2, 0] w slices_S4x768_S1x768_2_0) shapeCasts_S1x768_S768))))) (mulf (extractStridedSlice S128x4x768 ![0, 3, 0] (xcR qk cd) slices_S128x7x768_S128x4x768_0_3_0) (broadcastInDim S128x4x768 ![0, 1, 2] bcast_S1x1x768_S128x4x768_0_1_2 (broadcastInDim S1x1x768 ![2] bcast_S768_S1x1x768_2 (shapeCast _ (extractStridedSlice S1x768 ![3, 0] w slices_S4x768_S1x768_3_0) shapeCasts_S1x768_S768)))))

def quW (X : FVec Ideal S128x4x4x64 .f32) : FVec Ideal S128x4x4x64 .f32 := (mulf (mulf X (broadcastInDim S128x4x4x64 ![0, 1, 2, 3] bcast_S128x4x4x1_S128x4x4x64_0_1_2_3 (Host.rsqrt (addf (broadcastInDim S128x4x4x1 ![0, 1, 2] bcast_S128x4x4_S128x4x4x1_0_1_2 (Host.reduceAdd (mulf X X) (constant S_ .f32 0x00000000#32) reducesTo_S128x4x4x64_S128x4x4_d3 h_S_)) (broadcastInDim S128x4x4x1 ![] bcast_S_S128x4x4x1 (constant S_ .f32 0x358637BD#32)))))) (broadcastInDim S128x4x4x64 ![] bcast_S_S128x4x4x64 (constant S_ .f32 0x3E000000#32)))

def keW (Y : FVec Ideal S128x4x4x64 .f32) : FVec Ideal S128x4x4x64 .f32 := (mulf Y (broadcastInDim S128x4x4x64 ![0, 1, 2, 3] bcast_S128x4x4x1_S128x4x4x64_0_1_2_3 (Host.rsqrt (addf (broadcastInDim S128x4x4x1 ![0, 1, 2] bcast_S128x4x4_S128x4x4x1_0_1_2 (Host.reduceAdd (mulf Y Y) (constant S_ .f32 0x00000000#32) reducesTo_S128x4x4x64_S128x4x4_d3 h_S_)) (broadcastInDim S128x4x4x1 ![] bcast_S_S128x4x4x1 (constant S_ .f32 0x358637BD#32))))))

def catW (P Q R : FVec Ideal S128x4x4x64 .f32) : FVec Ideal S128x4x768 .f32 :=
  concatenate S128x4x768 2 [⟨S128x4x256, ((shapeCast S128x4x256 P shapeCasts_S128x4x4x64_S128x4x256) : (⟨S128x4x256, .f32⟩ : BufTy).Contents (Elt Ideal))⟩, ⟨S128x4x256, ((shapeCast S128x4x256 Q shapeCasts_S128x4x4x64_S128x4x256) : (⟨S128x4x256, .f32⟩ : BufTy).Contents (Elt Ideal))⟩, ⟨S128x4x256, ((shapeCast S128x4x256 R shapeCasts_S128x4x4x64_S128x4x256) : (⟨S128x4x256, .f32⟩ : BufTy).Contents (Elt Ideal))⟩] concatenates_S128x4x256_S128x4x256_S128x4x256_S128x4x768_d2

def shiftW (y : FVec Ideal S128x4x4 .f32) (d : FVec Ideal S4 .f32) : FVec Ideal S128x4x4 .f32 := (addf y (broadcastInDim S128x4x4 ![0, 1, 2] bcast_S1x1x4_S128x4x4_0_1_2 (broadcastInDim S1x1x4 ![2] bcast_S4_S1x1x4_2 d)))

def gateW (x : FVec Ideal S128x4x4 .f32) : FVec Ideal S128x4x4 .f32 := (Host.divf (broadcastInDim S128x4x4 ![] bcast_S_S128x4x4 (constant S_ .f32 0x3F800000#32)) (addf (broadcastInDim S128x4x4 ![] bcast_S_S128x4x4 (constant S_ .f32 0x3F800000#32)) (Host.exp (Host.negf x))))

def decayW (a : FVec Ideal S4 .f32) (W R : FVec Ideal S128x4x4 .f32) : FVec Ideal S128x4x4 .f32 := (mulf (broadcastInDim S128x4x4 ![0, 1, 2] bcast_S1x1x4_S128x4x4_0_1_2 (broadcastInDim S1x1x4 ![2] bcast_S4_S1x1x4_2 (Host.negf (Host.exp a)))) (select (cmpf .une W W) (addf R (broadcastInDim S128x4x4 ![] bcast_S_S128x4x4 (constant S_ .f32 0x00000000#32))) (addf (maximumf R (broadcastInDim S128x4x4 ![] bcast_S_S128x4x4 (constant S_ .f32 0x00000000#32))) (Host.log1p (Host.exp (Host.negf (Host.absf W)))))))

def gbW (x y : FVec Ideal S128x4x4 .f32) (a d : FVec Ideal S4 .f32) : FVec Ideal S128x4x8 .f32 :=
  concatenate S128x4x8 2 [⟨S128x4x4, (gateW x : (⟨S128x4x4, .f32⟩ : BufTy).Contents (Elt Ideal))⟩, ⟨S128x4x4, (decayW a (subf (shiftW y d) (broadcastInDim S128x4x4 ![] bcast_S_S128x4x4 (constant S_ .f32 0x00000000#32))) (shiftW y d) : (⟨S128x4x4, .f32⟩ : BufTy).Contents (Elt Ideal))⟩] concatenates_S128x4x4_S128x4x4_S128x4x8_d2

theorem A_v36 : after (opsA (F := Ideal)) W (Proc.devRef .tc main_v36) = (ybR (W (Proc.devRef .tc main_arg0)) (W (Proc.devRef .tc main_arg3)) (W (Proc.devRef .tc main_arg5)) : FVec Ideal S128x4x256 .f32) := by
  unfold opsA
  simp only [TRef.binary, TRef.nullary, TRef.ternary, TRef.unary, TRef.toBuf, TRef.ofBuf, cast_eq]
  after_results
  try rfl

theorem A_v35 : after (opsA (F := Ideal)) W (Proc.devRef .tc main_v35) = (cbR (W (Proc.devRef .tc main_arg0)) (W (Proc.devRef .tc main_arg3)) : FVec Ideal S128x2x256 .f32) := by
  unfold opsA
  simp only [TRef.binary, TRef.nullary, TRef.ternary, TRef.unary, TRef.toBuf, TRef.ofBuf, cast_eq]
  after_results
  try rfl

theorem A_v3 : after (opsA (F := Ideal)) W (Proc.devRef .tc main_v3) = (shapeCast S4x768 (extractStridedSlice S1x4x768 ![1, 0, 0] ((W (Proc.devRef .tc main_arg6)) : FVec Ideal S2x4x768 .f32) slices_S2x4x768_S1x4x768_1_0_0) shapeCasts_S1x4x768_S4x768 : FVec Ideal S4x768 .f32) := by
  unfold opsA
  simp only [TRef.binary, TRef.nullary, TRef.ternary, TRef.unary, TRef.toBuf, TRef.ofBuf, cast_eq]
  after_results
  try rfl

theorem A_v5 : after (opsA (F := Ideal)) W (Proc.devRef .tc main_v5) = (shapeCast S4 (extractStridedSlice S1x4 ![1, 0] ((W (Proc.devRef .tc main_arg7)) : FVec Ideal S2x4 .f32) slices_S2x4_S1x4_1_0) shapeCasts_S1x4_S4 : FVec Ideal S4 .f32) := by
  unfold opsA
  simp only [TRef.binary, TRef.nullary, TRef.ternary, TRef.unary, TRef.toBuf, TRef.ofBuf, cast_eq]
  after_results
  try rfl

theorem A_v7 : after (opsA (F := Ideal)) W (Proc.devRef .tc main_v7) = (shapeCast S4 (extractStridedSlice S1x4 ![1, 0] ((W (Proc.devRef .tc main_arg8)) : FVec Ideal S2x4 .f32) slices_S2x4_S1x4_1_0) shapeCasts_S1x4_S4 : FVec Ideal S4 .f32) := by
  unfold opsA
  simp only [TRef.binary, TRef.nullary, TRef.ternary, TRef.unary, TRef.toBuf, TRef.ofBuf, cast_eq]
  after_results
  try rfl

theorem A_v11 : after (opsA (F := Ideal)) W (Proc.devRef .tc main_v11) = (extractStridedSlice S128x4x4 ![0, 0, 0] ((W (Proc.devRef .tc main_arg2)) : FVec Ideal S128x4x8 .f32) slices_S128x4x8_S128x4x4_0_0_0 : FVec Ideal S128x4x4 .f32) := by
  unfold opsA
  simp only [TRef.binary, TRef.nullary, TRef.ternary, TRef.unary, TRef.toBuf, TRef.ofBuf, cast_eq]
  after_results
  try rfl

theorem A_v12 : after (opsA (F := Ideal)) W (Proc.devRef .tc main_v12) = (extractStridedSlice S128x4x4 ![0, 0, 4] ((W (Proc.devRef .tc main_arg2)) : FVec Ideal S128x4x8 .f32) slices_S128x4x8_S128x4x4_0_0_4 : FVec Ideal S128x4x4 .f32) := by
  unfold opsA
  simp only [TRef.binary, TRef.nullary, TRef.ternary, TRef.unary, TRef.toBuf, TRef.ofBuf, cast_eq]
  after_results
  try rfl

theorem B_v64 : after (opsB (F := Ideal)) W (Proc.devRef .tc main_v64) = (convW (W (Proc.devRef .tc main_arg1)) (W (Proc.devRef .tc main_arg4)) (W (Proc.devRef .tc main_v3)) : FVec Ideal S128x4x768 .f32) := by
  unfold opsB
  simp only [TRef.binary, TRef.nullary, TRef.ternary, TRef.unary, TRef.toBuf, TRef.ofBuf, cast_eq]
  after_results
  try rfl

theorem C_v66 : after (opsC (F := Ideal)) W (Proc.devRef .tc main_v66) = (siluR (W (Proc.devRef .tc main_v64)) : FVec Ideal S128x4x768 .f32) := by
  unfold opsC
  simp only [TRef.binary, TRef.nullary, TRef.ternary, TRef.unary, TRef.toBuf, TRef.ofBuf, cast_eq]
  after_results
  try rfl

theorem D_v78 : after (opsD (F := Ideal)) W (Proc.devRef .tc main_v78) = (quW (headR 0 slices_S128x4x768_S128x4x256_0_0_0 (W (Proc.devRef .tc main_v66))) : FVec Ideal S128x4x4x64 .f32) := by
  unfold opsD
  simp only [TRef.binary, TRef.nullary, TRef.ternary, TRef.unary, TRef.toBuf, TRef.ofBuf, cast_eq]
  after_results
  try rfl

theorem D_v88 : after (opsD (F := Ideal)) W (Proc.devRef .tc main_v88) = (keW (headR 256 slices_S128x4x768_S128x4x256_0_0_256 (W (Proc.devRef .tc main_v66))) : FVec Ideal S128x4x4x64 .f32) := by
  unfold opsD
  simp only [TRef.binary, TRef.nullary, TRef.ternary, TRef.unary, TRef.toBuf, TRef.ofBuf, cast_eq]
  after_results
  try rfl

theorem D_v90 : after (opsD (F := Ideal)) W (Proc.devRef .tc main_v90) = (shapeCast S128x4x4x64 (extractStridedSlice S128x4x256 ![0, 0, 512] ((W (Proc.devRef .tc main_v66)) : FVec Ideal S128x4x768 .f32) slices_S128x4x768_S128x4x256_0_0_512 : FVec Ideal S128x4x256 .f32) shapeCasts_S128x4x256_S128x4x4x64 : FVec Ideal S128x4x4x64 .f32) := by
  unfold opsD
  simp only [TRef.binary, TRef.nullary, TRef.ternary, TRef.unary, TRef.toBuf, TRef.ofBuf, cast_eq]
  after_results
  try rfl

theorem E_v109 : after (opsE (F := Ideal)) W (Proc.devRef .tc main_v109) = (catW (W (Proc.devRef .tc main_v78)) (W (Proc.devRef .tc main_v88)) (W (Proc.devRef .tc main_v90)) : FVec Ideal S128x4x768 .f32) := by
  unfold opsE
  simp only [TRef.binary, TRef.nullary, TRef.ternary, TRef.unary, TRef.toBuf, TRef.ofBuf, cast_eq]
  after_results
  try rfl

theorem E_v110 : after (opsE (F := Ideal)) W (Proc.devRef .tc main_v110) = (gbW (W (Proc.devRef .tc main_v11)) (W (Proc.devRef .tc main_v12)) (W (Proc.devRef .tc main_v5)) (W (Proc.devRef .tc main_v7)) : FVec Ideal S128x4x8 .f32) := by
  unfold opsE
  simp only [TRef.binary, TRef.nullary, TRef.ternary, TRef.unary, TRef.toBuf, TRef.ofBuf, cast_eq]
  after_results
  try rfl

theorem keepB_v36 : after (opsB ) W (Proc.devRef .tc main_v36) = W (Proc.devRef .tc main_v36) := by
  unfold opsB
  after_results

theorem keepC_v36 : after (opsC ) W (Proc.devRef .tc main_v36) = W (Proc.devRef .tc main_v36) := by
  unfold opsC
  after_results

theorem keepD_v36 : after (opsD ) W (Proc.devRef .tc main_v36) = W (Proc.devRef .tc main_v36) := by
  unfold opsD
  after_results

theorem keepE_v36 : after (opsE ) W (Proc.devRef .tc main_v36) = W (Proc.devRef .tc main_v36) := by
  unfold opsE
  after_results

theorem keepB_v35 : after (opsB ) W (Proc.devRef .tc main_v35) = W (Proc.devRef .tc main_v35) := by
  unfold opsB
  after_results

theorem keepC_v35 : after (opsC ) W (Proc.devRef .tc main_v35) = W (Proc.devRef .tc main_v35) := by
  unfold opsC
  after_results

theorem keepD_v35 : after (opsD ) W (Proc.devRef .tc main_v35) = W (Proc.devRef .tc main_v35) := by
  unfold opsD
  after_results

theorem keepE_v35 : after (opsE ) W (Proc.devRef .tc main_v35) = W (Proc.devRef .tc main_v35) := by
  unfold opsE
  after_results

theorem keepB_v11 : after (opsB ) W (Proc.devRef .tc main_v11) = W (Proc.devRef .tc main_v11) := by
  unfold opsB
  after_results

theorem keepC_v11 : after (opsC ) W (Proc.devRef .tc main_v11) = W (Proc.devRef .tc main_v11) := by
  unfold opsC
  after_results

theorem keepD_v11 : after (opsD ) W (Proc.devRef .tc main_v11) = W (Proc.devRef .tc main_v11) := by
  unfold opsD
  after_results

theorem keepB_v12 : after (opsB ) W (Proc.devRef .tc main_v12) = W (Proc.devRef .tc main_v12) := by
  unfold opsB
  after_results

theorem keepC_v12 : after (opsC ) W (Proc.devRef .tc main_v12) = W (Proc.devRef .tc main_v12) := by
  unfold opsC
  after_results

theorem keepD_v12 : after (opsD ) W (Proc.devRef .tc main_v12) = W (Proc.devRef .tc main_v12) := by
  unfold opsD
  after_results

theorem keepB_v5 : after (opsB ) W (Proc.devRef .tc main_v5) = W (Proc.devRef .tc main_v5) := by
  unfold opsB
  after_results

theorem keepC_v5 : after (opsC ) W (Proc.devRef .tc main_v5) = W (Proc.devRef .tc main_v5) := by
  unfold opsC
  after_results

theorem keepD_v5 : after (opsD ) W (Proc.devRef .tc main_v5) = W (Proc.devRef .tc main_v5) := by
  unfold opsD
  after_results

theorem keepB_v7 : after (opsB ) W (Proc.devRef .tc main_v7) = W (Proc.devRef .tc main_v7) := by
  unfold opsB
  after_results

theorem keepC_v7 : after (opsC ) W (Proc.devRef .tc main_v7) = W (Proc.devRef .tc main_v7) := by
  unfold opsC
  after_results

theorem keepD_v7 : after (opsD ) W (Proc.devRef .tc main_v7) = W (Proc.devRef .tc main_v7) := by
  unfold opsD
  after_results

theorem keepA_arg1 : after (opsA ) W (Proc.devRef .tc main_arg1) = W (Proc.devRef .tc main_arg1) := by
  unfold opsA
  after_results

theorem keepA_arg4 : after (opsA ) W (Proc.devRef .tc main_arg4) = W (Proc.devRef .tc main_arg4) := by
  unfold opsA
  after_results

theorem keepA_arg0 : after (opsA ) W (Proc.devRef .tc main_arg0) = W (Proc.devRef .tc main_arg0) := by
  unfold opsA
  after_results

theorem keepB_arg0 : after (opsB ) W (Proc.devRef .tc main_arg0) = W (Proc.devRef .tc main_arg0) := by
  unfold opsB
  after_results

theorem keepC_arg0 : after (opsC ) W (Proc.devRef .tc main_arg0) = W (Proc.devRef .tc main_arg0) := by
  unfold opsC
  after_results

theorem keepD_arg0 : after (opsD ) W (Proc.devRef .tc main_arg0) = W (Proc.devRef .tc main_arg0) := by
  unfold opsD
  after_results

theorem keepE_arg0 : after (opsE ) W (Proc.devRef .tc main_arg0) = W (Proc.devRef .tc main_arg0) := by
  unfold opsE
  after_results

theorem keepB_arg1 : after (opsB ) W (Proc.devRef .tc main_arg1) = W (Proc.devRef .tc main_arg1) := by
  unfold opsB
  after_results

theorem keepC_arg1 : after (opsC ) W (Proc.devRef .tc main_arg1) = W (Proc.devRef .tc main_arg1) := by
  unfold opsC
  after_results

theorem keepD_arg1 : after (opsD ) W (Proc.devRef .tc main_arg1) = W (Proc.devRef .tc main_arg1) := by
  unfold opsD
  after_results

theorem keepE_arg1 : after (opsE ) W (Proc.devRef .tc main_arg1) = W (Proc.devRef .tc main_arg1) := by
  unfold opsE
  after_results

theorem keepA_arg2 : after (opsA ) W (Proc.devRef .tc main_arg2) = W (Proc.devRef .tc main_arg2) := by
  unfold opsA
  after_results

theorem keepB_arg2 : after (opsB ) W (Proc.devRef .tc main_arg2) = W (Proc.devRef .tc main_arg2) := by
  unfold opsB
  after_results

theorem keepC_arg2 : after (opsC ) W (Proc.devRef .tc main_arg2) = W (Proc.devRef .tc main_arg2) := by
  unfold opsC
  after_results

theorem keepD_arg2 : after (opsD ) W (Proc.devRef .tc main_arg2) = W (Proc.devRef .tc main_arg2) := by
  unfold opsD
  after_results

theorem keepE_arg2 : after (opsE ) W (Proc.devRef .tc main_arg2) = W (Proc.devRef .tc main_arg2) := by
  unfold opsE
  after_results

theorem keepA_arg3 : after (opsA ) W (Proc.devRef .tc main_arg3) = W (Proc.devRef .tc main_arg3) := by
  unfold opsA
  after_results

theorem keepB_arg3 : after (opsB ) W (Proc.devRef .tc main_arg3) = W (Proc.devRef .tc main_arg3) := by
  unfold opsB
  after_results

theorem keepC_arg3 : after (opsC ) W (Proc.devRef .tc main_arg3) = W (Proc.devRef .tc main_arg3) := by
  unfold opsC
  after_results

theorem keepD_arg3 : after (opsD ) W (Proc.devRef .tc main_arg3) = W (Proc.devRef .tc main_arg3) := by
  unfold opsD
  after_results

theorem keepE_arg3 : after (opsE ) W (Proc.devRef .tc main_arg3) = W (Proc.devRef .tc main_arg3) := by
  unfold opsE
  after_results

theorem keepB_arg4 : after (opsB ) W (Proc.devRef .tc main_arg4) = W (Proc.devRef .tc main_arg4) := by
  unfold opsB
  after_results

theorem keepC_arg4 : after (opsC ) W (Proc.devRef .tc main_arg4) = W (Proc.devRef .tc main_arg4) := by
  unfold opsC
  after_results

theorem keepD_arg4 : after (opsD ) W (Proc.devRef .tc main_arg4) = W (Proc.devRef .tc main_arg4) := by
  unfold opsD
  after_results

theorem keepE_arg4 : after (opsE ) W (Proc.devRef .tc main_arg4) = W (Proc.devRef .tc main_arg4) := by
  unfold opsE
  after_results

theorem keepA_arg5 : after (opsA ) W (Proc.devRef .tc main_arg5) = W (Proc.devRef .tc main_arg5) := by
  unfold opsA
  after_results

theorem keepB_arg5 : after (opsB ) W (Proc.devRef .tc main_arg5) = W (Proc.devRef .tc main_arg5) := by
  unfold opsB
  after_results

theorem keepC_arg5 : after (opsC ) W (Proc.devRef .tc main_arg5) = W (Proc.devRef .tc main_arg5) := by
  unfold opsC
  after_results

theorem keepD_arg5 : after (opsD ) W (Proc.devRef .tc main_arg5) = W (Proc.devRef .tc main_arg5) := by
  unfold opsD
  after_results

theorem keepE_arg5 : after (opsE ) W (Proc.devRef .tc main_arg5) = W (Proc.devRef .tc main_arg5) := by
  unfold opsE
  after_results

theorem keepA_arg6 : after (opsA ) W (Proc.devRef .tc main_arg6) = W (Proc.devRef .tc main_arg6) := by
  unfold opsA
  after_results

theorem keepB_arg6 : after (opsB ) W (Proc.devRef .tc main_arg6) = W (Proc.devRef .tc main_arg6) := by
  unfold opsB
  after_results

theorem keepC_arg6 : after (opsC ) W (Proc.devRef .tc main_arg6) = W (Proc.devRef .tc main_arg6) := by
  unfold opsC
  after_results

theorem keepD_arg6 : after (opsD ) W (Proc.devRef .tc main_arg6) = W (Proc.devRef .tc main_arg6) := by
  unfold opsD
  after_results

theorem keepE_arg6 : after (opsE ) W (Proc.devRef .tc main_arg6) = W (Proc.devRef .tc main_arg6) := by
  unfold opsE
  after_results

theorem keepA_arg7 : after (opsA ) W (Proc.devRef .tc main_arg7) = W (Proc.devRef .tc main_arg7) := by
  unfold opsA
  after_results

theorem keepB_arg7 : after (opsB ) W (Proc.devRef .tc main_arg7) = W (Proc.devRef .tc main_arg7) := by
  unfold opsB
  after_results

theorem keepC_arg7 : after (opsC ) W (Proc.devRef .tc main_arg7) = W (Proc.devRef .tc main_arg7) := by
  unfold opsC
  after_results

theorem keepD_arg7 : after (opsD ) W (Proc.devRef .tc main_arg7) = W (Proc.devRef .tc main_arg7) := by
  unfold opsD
  after_results

theorem keepE_arg7 : after (opsE ) W (Proc.devRef .tc main_arg7) = W (Proc.devRef .tc main_arg7) := by
  unfold opsE
  after_results

theorem keepA_arg8 : after (opsA ) W (Proc.devRef .tc main_arg8) = W (Proc.devRef .tc main_arg8) := by
  unfold opsA
  after_results

theorem keepB_arg8 : after (opsB ) W (Proc.devRef .tc main_arg8) = W (Proc.devRef .tc main_arg8) := by
  unfold opsB
  after_results

theorem keepC_arg8 : after (opsC ) W (Proc.devRef .tc main_arg8) = W (Proc.devRef .tc main_arg8) := by
  unfold opsC
  after_results

theorem keepD_arg8 : after (opsD ) W (Proc.devRef .tc main_arg8) = W (Proc.devRef .tc main_arg8) := by
  unfold opsD
  after_results

theorem keepE_arg8 : after (opsE ) W (Proc.devRef .tc main_arg8) = W (Proc.devRef .tc main_arg8) := by
  unfold opsE
  after_results

theorem after_ops : after (ops (F := Ideal)) W = after opsE (after opsD (after opsC (after opsB (after opsA W)))) := by
  simp only [ops, after_append]

/-! ## All of them -/

theorem val36 : after (ops (F := Ideal)) W (Proc.devRef .tc main_v36) = (ybR (W (Proc.devRef .tc main_arg0)) (W (Proc.devRef .tc main_arg3)) (W (Proc.devRef .tc main_arg5)) : FVec Ideal S128x4x256 .f32) := by
  rw [after_ops, keepE_v36, keepD_v36, keepC_v36, keepB_v36, A_v36]

theorem val35 : after (ops (F := Ideal)) W (Proc.devRef .tc main_v35) = (cbR (W (Proc.devRef .tc main_arg0)) (W (Proc.devRef .tc main_arg3)) : FVec Ideal S128x2x256 .f32) := by
  rw [after_ops, keepE_v35, keepD_v35, keepC_v35, keepB_v35, A_v35]

theorem val110 : after (ops (F := Ideal)) W (Proc.devRef .tc main_v110) = (gbR (W (Proc.devRef .tc main_arg2)) (W (Proc.devRef .tc main_arg7)) (W (Proc.devRef .tc main_arg8)) : FVec Ideal S128x4x8 .f32) := by
  rw [after_ops, E_v110, keepD_v11, keepC_v11, keepB_v11, A_v11, keepD_v12, keepC_v12, keepB_v12, A_v12,
    keepD_v5, keepC_v5, keepB_v5, A_v5, keepD_v7, keepC_v7, keepB_v7, A_v7]
  rfl

theorem val109 : after (ops (F := Ideal)) W (Proc.devRef .tc main_v109) = (qkvR (W (Proc.devRef .tc main_arg1)) (W (Proc.devRef .tc main_arg4)) (W (Proc.devRef .tc main_arg6)) : FVec Ideal S128x4x768 .f32) := by
  rw [after_ops, E_v109, D_v78, D_v88, D_v90, C_v66, B_v64, A_v3, keepA_arg1, keepA_arg4]
  rfl

theorem kept0 : after (ops (F := Ideal)) W (Proc.devRef .tc main_arg0) = W (Proc.devRef .tc main_arg0) := by
  rw [after_ops, keepE_arg0, keepD_arg0, keepC_arg0, keepB_arg0, keepA_arg0]

theorem kept1 : after (ops (F := Ideal)) W (Proc.devRef .tc main_arg1) = W (Proc.devRef .tc main_arg1) := by
  rw [after_ops, keepE_arg1, keepD_arg1, keepC_arg1, keepB_arg1, keepA_arg1]

theorem kept2 : after (ops (F := Ideal)) W (Proc.devRef .tc main_arg2) = W (Proc.devRef .tc main_arg2) := by
  rw [after_ops, keepE_arg2, keepD_arg2, keepC_arg2, keepB_arg2, keepA_arg2]

theorem kept3 : after (ops (F := Ideal)) W (Proc.devRef .tc main_arg3) = W (Proc.devRef .tc main_arg3) := by
  rw [after_ops, keepE_arg3, keepD_arg3, keepC_arg3, keepB_arg3, keepA_arg3]

theorem kept4 : after (ops (F := Ideal)) W (Proc.devRef .tc main_arg4) = W (Proc.devRef .tc main_arg4) := by
  rw [after_ops, keepE_arg4, keepD_arg4, keepC_arg4, keepB_arg4, keepA_arg4]

theorem kept5 : after (ops (F := Ideal)) W (Proc.devRef .tc main_arg5) = W (Proc.devRef .tc main_arg5) := by
  rw [after_ops, keepE_arg5, keepD_arg5, keepC_arg5, keepB_arg5, keepA_arg5]

theorem kept6 : after (ops (F := Ideal)) W (Proc.devRef .tc main_arg6) = W (Proc.devRef .tc main_arg6) := by
  rw [after_ops, keepE_arg6, keepD_arg6, keepC_arg6, keepB_arg6, keepA_arg6]

theorem kept7 : after (ops (F := Ideal)) W (Proc.devRef .tc main_arg7) = W (Proc.devRef .tc main_arg7) := by
  rw [after_ops, keepE_arg7, keepD_arg7, keepC_arg7, keepB_arg7, keepA_arg7]

theorem kept8 : after (ops (F := Ideal)) W (Proc.devRef .tc main_arg8) = W (Proc.devRef .tc main_arg8) := by
  rw [after_ops, keepE_arg8, keepD_arg8, keepC_arg8, keepB_arg8, keepA_arg8]

/-- Every execution ends with the results at these terms of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36) = (ybR (m ((c.tc : Thread nD τ).loc main_arg0)) (m ((c.tc : Thread nD τ).loc main_arg3)) (m ((c.tc : Thread nD τ).loc main_arg5)) : FVec Ideal S128x4x256 .f32)
      ∧ r.2.mem ((c.tc : Thread nD τ).loc main_v109) = (qkvR (m ((c.tc : Thread nD τ).loc main_arg1)) (m ((c.tc : Thread nD τ).loc main_arg4)) (m ((c.tc : Thread nD τ).loc main_arg6)) : FVec Ideal S128x4x768 .f32)
      ∧ r.2.mem ((c.tc : Thread nD τ).loc main_v110) = (gbR (m ((c.tc : Thread nD τ).loc main_arg2)) (m ((c.tc : Thread nD τ).loc main_arg7)) (m ((c.tc : Thread nD τ).loc main_arg8)) : FVec Ideal S128x4x8 .f32)
      ∧ r.2.mem ((c.tc : Thread nD τ).loc main_v35) = (cbR (m ((c.tc : Thread nD τ).loc main_arg0)) (m ((c.tc : Thread nD τ).loc main_arg3)) : FVec Ideal S128x2x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v36).trans (val36 (launchContents m c)),
      (h c main_v109).trans (val109 (launchContents m c)),
      (h c main_v110).trans (val110 (launchContents m c)),
      (h c main_v35).trans (val35 (launchContents m c)),
      (h c main_arg0).trans (kept0 (launchContents m c)),
      (h c main_arg1).trans (kept1 (launchContents m c)),
      (h c main_arg2).trans (kept2 (launchContents m c)),
      (h c main_arg3).trans (kept3 (launchContents m c)),
      (h c main_arg4).trans (kept4 (launchContents m c)),
      (h c main_arg5).trans (kept5 (launchContents m c)),
      (h c main_arg6).trans (kept6 (launchContents m c)),
      (h c main_arg7).trans (kept7 (launchContents m c)),
      (h c main_arg8).trans (kept8 (launchContents m c))⟩)
    (run_seq scopedRefs_eq scopedSems_eq defs main (fun _ => ops) main_eq (fun _ => ops_sub) m ρ)

end Cert.PRS.Run

end
-- ==== Proof.PRS.Tile.lean ====
module

public import proofs.«01_k».proof.Proof.PRS.Spec

@[expose] public section

set_option maxRecDepth 16384

/-! What the kernel's body computes for one row of its tile, stage by stage. -/

noncomputable section

namespace Cert.PRS

open Cert.Kernel6Ideal Cert.Kernel6Ideal.Gen
open Idealize.ShloMosaic Idealize.ShloMosaic.TcCoe
open Idealize.ShloMosaic.WordCmp
open Cert.INP (soft unit)

variable (r : Fin 512)

/-! ## The second branch -/

def zT (v0 : FVec Ideal S512x768 .f32) (d : Fin 256) (r : Fin 512) : EReal := v0 (ix2 r ⟨256 + d.val, by omega⟩) * v0 (ix2 r ⟨512 + d.val, by omega⟩)

theorem pay4_at (v0 : FVec Ideal S512x768 .f32) (d : Fin 256) : (k0_pay4 v0 : FVec Ideal S512x256 .f32) (ix2 r d) = zT v0 d r := by
  pointwise [k0_pay4, k0_pay3]
  rfl

theorem pay5_at (v0 : FVec Ideal S512x768 .f32) (v6 : FVec Ideal S256x256 .f32) (v9 : FVec Ideal S3x256 .f32) (d : Fin 256) :
    (k0_pay5 v0 v6 v9 : FVec Ideal S512x256 .f32) (ix2 r d) = v0 (ix2 r ⟨d.val, by omega⟩) *
      (tap 256 (fun q => v6 (ix2 q d)) (zT v0 d) 0 (by decide) r * v9 (ix2 0 d) + tap 256 (fun q => v6 (ix2 q d)) (zT v0 d) 128 (by decide) r * v9 (ix2 1 d)
        + tap 256 (fun q => v6 (ix2 q d)) (zT v0 d) 256 (by decide) r * v9 (ix2 2 d)) := by
  rw [← tap_zero, ← tap_full]
  pointwise [k0_pay5, k0_pay3]
  simp only [pay4_at]
  rfl

/-! ## The fourth branch's convolution -/

/-- The convolution's value at a row, from the buffer's rows, the tile's rows and the four weights. -/
def convT (v28 : FVec Ideal S384x768 .f32) (v30 : FVec Ideal S512x768 .f32) (v33 : FVec Ideal S4x768 .f32) (r : Fin 512) (i : Fin 768) : EReal :=
  tap 384 (fun q => v28 (ix2 q i)) (fun q => v30 (ix2 q i)) 0 (by decide) r * v33 (ix2 0 i)
    + tap 384 (fun q => v28 (ix2 q i)) (fun q => v30 (ix2 q i)) 128 (by decide) r * v33 (ix2 1 i)
    + tap 384 (fun q => v28 (ix2 q i)) (fun q => v30 (ix2 q i)) 256 (by decide) r * v33 (ix2 2 i)
    + tap 384 (fun q => v28 (ix2 q i)) (fun q => v30 (ix2 q i)) 384 (by decide) r * v33 (ix2 3 i)

theorem pay12_at (v28 : FVec Ideal S384x768 .f32) (v30 : FVec Ideal S512x768 .f32) (v33 : FVec Ideal S4x768 .f32) (i : Fin 768) :
    (k0_pay12 (k0_pay6 v28 v30) (k0_pay7 v33) (k0_pay8 v28 v30 v33) (k0_pay9 v28 v30) (k0_pay10 v33) : FVec Ideal S512x768 .f32) (ix2 r i)
      = convT v28 v30 v33 r i * Ideal.logistic (convT v28 v30 v33 r i) := by
  unfold convT
  rw [← tap_zero, ← tap_full]
  pointwise [k0_pay12, k0_pay6, k0_pay7, k0_pay8, k0_pay9, k0_pay10]
  rfl

/-! ## Queries and keys normalised per head, values -/

theorem heads_at (j i : Fin 256) : (k0_pay15 : FVec Ideal S256x256 .bf16) (ix2 j i) = if j.val / 64 = i.val / 64 then 1 else 0 := by
  pointwise [k0_pay15]
  have e : ∀ n : Fin 256, IntOp.shrui ArithUnit.vector (BitVec.ofNat 32 n.val) 6#32 = BitVec.ofNat 32 (n.val / 64) := by decide +kernel
  rw [e, e]
  by_cases h : j.val / 64 = i.val / 64
  · rw [(cmpi_eq_ofNat_eq_one_iff (by omega) (by omega)).mpr h, if_pos h]
    rfl
  · rw [(cmpi_eq_ofNat_eq_zero_iff (by omega) (by omega)).mpr h, if_neg h]
    rfl

section
variable (a : FVec Ideal S896x768 .f32) (b : FVec Ideal S4x768 .f32) (c d e : FVec Ideal S512x768 .f32)

theorem pay13_at (i : Fin 256) : (k0_pay13 a b c d e : FVec Ideal S512x256 .f32) (ix2 r i) = (k0_pay12 a b c d e : FVec Ideal S512x768 .f32) (ix2 r ⟨256 + i.val, by omega⟩) := by
  pointwise [k0_pay13]

theorem pay14_at (i : Fin 256) : (k0_pay14 a b c d e : FVec Ideal S512x256 .f32) (ix2 r i) = (k0_pay12 a b c d e : FVec Ideal S512x768 .f32) (ix2 r ⟨512 + i.val, by omega⟩) := by
  pointwise [k0_pay14]

theorem pay16_at (i : Fin 256) : (k0_pay16 a b c d e : FVec Ideal S512x256 .f32) (ix2 r i)
    = unit (fun j => (k0_pay12 a b c d e : FVec Ideal S512x768 .f32) (ix2 r ⟨j.val, by omega⟩)) i * Ideal.ofBits .f32 0x3E000000#32 := by
  pointwise [k0_pay16]
  simp only [heads_at]
  rfl

theorem keys_at (i : Fin 256) : (k0_pay13 a b c d e : FVec Ideal S512x256 .f32) (ix2 r i) * Ideal.rsqrt
      ((matmul dot_S512x256_S256x256_S512x256_1_0_0_1_n_n none (k0_pay18 a b c d e) (k0_pay15 (F := Ideal)) (constant S512x256 .f32 0x00000000#32) : FVec Ideal S512x256 .f32) (ix2 r i)
      + (matmul dot_S512x256_S256x256_S512x256_1_0_0_1_n_n none (k0_pay19 a b c d e) (k0_pay15 (F := Ideal)) (constant S512x256 .f32 0x00000000#32) : FVec Ideal S512x256 .f32) (ix2 r i)
      + Ideal.ofBits .f32 0x358637BD#32)
    = unit (fun j => (k0_pay12 a b c d e : FVec Ideal S512x768 .f32) (ix2 r ⟨256 + j.val, by omega⟩)) i := by
  pointwise [k0_pay18, k0_pay19, k0_pay17]
  simp only [heads_at, pay13_at]
  rfl
end

theorem pay2_at (v59 v60 : FVec Ideal S512x256 .f32) (v71 : FVec Ideal S256x256 .bf16) (v85 : FVec Ideal S512x256 .f32) (v87 v90 : FVec Ideal S512x256 .bf16)
    (cst : FVec Ideal S512x256 .f32) (i : Fin 768) : (k0_pay2 v59 v60 v71 v85 v87 v90 cst : FVec Ideal S512x768 .f32) (ix2 r i)
    = if h : i.val < 256 then v85 (ix2 r ⟨i.val, h⟩)
      else if h' : i.val - 256 < 256 then v59 (ix2 r ⟨i.val - 256, h'⟩) * Ideal.rsqrt
        ((matmul dot_S512x256_S256x256_S512x256_1_0_0_1_n_n none v87 v71 cst : FVec Ideal S512x256 .f32) (ix2 r ⟨i.val - 256, h'⟩)
        + (matmul dot_S512x256_S256x256_S512x256_1_0_0_1_n_n none v90 v71 (constant S512x256 .f32 0x00000000#32) : FVec Ideal S512x256 .f32) (ix2 r ⟨i.val - 256, h'⟩) + Ideal.ofBits .f32 0x358637BD#32)
      else v60 (ix2 r ⟨i.val - 256 - 256, by omega⟩) := by
  pointwise [k0_pay2]

/-! ## The gates -/

theorem pay1_at (v54 : FVec Ideal S512x128 .f32) (v99 v104 : FVec Ideal S1x128 .f32) (i : Fin 128) :
    (k0_pay1 (k0_pay11 v54) v99 v104 : FVec Ideal S512x128 .f32) (ix2 r i)
      = if i.val < 4 then Ideal.logistic (v54 (ix2 r i)) else (0 - Ideal.exp (v99 (ix2 0 i))) * soft (v54 (ix2 r i) + v104 (ix2 0 i)) := by
  pointwise [k0_pay1, k0_pay11]
  by_cases h : i.val < 4
  · rw [(cmpi_slt_ofNat_eq_one_iff (by omega) (by omega)).mpr h, if_pos h]
    rfl
  · rw [(cmpi_slt_ofNat_eq_zero_iff (by omega) (by omega)).mpr h, if_neg h, if_neg (fun e => e rfl)]
    rfl

end Cert.PRS

end
-- ==== Proof.PRS.Block.lean ====
module

public import proofs.«01_k».proof.Proof.PRS.Tile
public import proofs.«01_k».proof.Proof.INP.Host
public import proofs.«01_k».proof.Proof.Gen.Kernel6Ideal.Frame
public import Idealize.ShloMosaic.Lib.KernelVsHost
public import Idealize.ShloMosaic.Lib.Pipeline.ValueKit
public import Idealize.ShloMosaic.Lib.Claim

@[expose] public section

set_option maxRecDepth 16384

/-! What the host hands the kernel, laid out by step, and what the kernel leaves in its four arrays. -/

noncomputable section

namespace Cert.PRS

open Cert.Kernel6Ideal Cert.Kernel6Ideal.Gen
open Idealize.ShloMosaic Idealize.ShloMosaic.TcCoe Idealize.SL.Sem
open Idealize.ShloMosaic.Pipeline (Dat)
open Cert.INP (nrmH soft unit unit_eq IsR)
open Cert.INS (seqR stepR rowR seqR_rowR stepR_rowR)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

/-- The grid's one point. -/
def t0 : Fin cfg0.N := ⟨0, by decide⟩

variable (m : (ℓ : Loc nD τ sig) → Buf (Elt Ideal) ℓ) (c : Dev nD)

abbrev A0 : FVec Ideal S128x4x768 .f32 := m ((c : Thread nD τ).loc main_arg0)
abbrev A1 : FVec Ideal S128x4x768 .f32 := m ((c : Thread nD τ).loc main_arg1)
abbrev A2 : FVec Ideal S128x4x8 .f32 := m ((c : Thread nD τ).loc main_arg2)
abbrev A3 : FVec Ideal S128x2x256 .f32 := m ((c : Thread nD τ).loc main_arg3)
abbrev A4 : FVec Ideal S128x3x768 .f32 := m ((c : Thread nD τ).loc main_arg4)
abbrev A5 : FVec Ideal S2x3x256 .f32 := m ((c : Thread nD τ).loc main_arg5)
abbrev A6 : FVec Ideal S2x4x768 .f32 := m ((c : Thread nD τ).loc main_arg6)
abbrev A7 : FVec Ideal S2x4 .f32 := m ((c : Thread nD τ).loc main_arg7)
abbrev A8 : FVec Ideal S2x4 .f32 := m ((c : Thread nD τ).loc main_arg8)

/-! ## The operands the host prepares -/

theorem host22 (r : Fin 512) (d : Fin 768) : (V m c main_v22 : FVec Ideal S512x768 .f32) (ix2 r d) = A0 m c (ix3 (seqR r) (stepR r) d) := by
  have e : (V m c main_v22 : FVec Ideal S512x768 .f32) = (shapeCast S512x768 (transpose S4x128x768 [1, 0, 2] (A0 m c) transposes_S128x4x768_S4x128x768_1_0_2 : FVec Ideal S4x128x768 .f32)
      shapeCasts_S4x128x768_S512x768 : FVec Ideal S512x768 .f32) := by
    unfold V V0 hostOps0 hostOps0_1 hostOps0_2
    simp only [List.flatten_cons, List.flatten_nil, List.cons_append, List.nil_append, List.append_nil]
    after_results
    try rfl
  rw [e]
  unfold seqR stepR
  pointwise

theorem host24 (r : Fin 512) (d : Fin 768) : (V m c main_v24 : FVec Ideal S512x768 .f32) (ix2 r d) = A1 m c (ix3 (seqR r) (stepR r) d) := by
  have e : (V m c main_v24 : FVec Ideal S512x768 .f32) = (shapeCast S512x768 (transpose S4x128x768 [1, 0, 2] (A1 m c) transposes_S128x4x768_S4x128x768_1_0_2 : FVec Ideal S4x128x768 .f32)
      shapeCasts_S4x128x768_S512x768 : FVec Ideal S512x768 .f32) := by
    unfold V V0 hostOps0 hostOps0_1 hostOps0_2
    simp only [List.flatten_cons, List.flatten_nil, List.cons_append, List.nil_append, List.append_nil]
    after_results
    try rfl
  rw [e]
  unfold seqR stepR
  pointwise

theorem host20 (r : Fin 512) (i : Fin 8) : (V m c main_v20 : FVec Ideal S512x128 .f32) (ix2 r ⟨i.val, by omega⟩) = A2 m c (ix3 (seqR r) (stepR r) i) := by
  have e : (V m c main_v20 : FVec Ideal S512x128 .f32) = (pad S512x128 ![0, 0] ![0, 120] ![0, 0]
      (shapeCast S512x8 (transpose S4x128x8 [1, 0, 2] (A2 m c) transposes_S128x4x8_S4x128x8_1_0_2 : FVec Ideal S4x128x8 .f32) shapeCasts_S4x128x8_S512x8 : FVec Ideal S512x8 .f32)
      (sitofp (F := Ideal) .f32 (constantI S_ 32 0#32)) pads_S512x8_S512x128_000_01200 h_S_ : FVec Ideal S512x128 .f32) := by
    unfold V V0 hostOps0 hostOps0_1 hostOps0_2
    simp only [List.flatten_cons, List.flatten_nil, List.cons_append, List.nil_append, List.append_nil]
    after_results
    try rfl
  have e2 : (shapeCast S512x8 (transpose S4x128x8 [1, 0, 2] (A2 m c) transposes_S128x4x8_S4x128x8_1_0_2 : FVec Ideal S4x128x8 .f32) shapeCasts_S4x128x8_S512x8 : FVec Ideal S512x8 .f32) (ix2 r i)
      = A2 m c (ix3 (seqR r) (stepR r) i) := by
    unfold seqR stepR
    pointwise
  rw [e, ← e2]
  generalize (shapeCast S512x8 (transpose S4x128x8 [1, 0, 2] (A2 m c) transposes_S128x4x8_S4x128x8_1_0_2 : FVec Ideal S4x128x8 .f32) shapeCasts_S4x128x8_S512x8 : FVec Ideal S512x8 .f32) = X
  pointwise

theorem host26 (q : Fin 2) (b : Fin 128) (d : Fin 256) : (V m c main_v26 : FVec Ideal S256x256 .f32) (ix2 ⟨q.val * 128 + b.val, by omega⟩ d) = A3 m c (ix3 b q d) := by
  have e : (V m c main_v26 : FVec Ideal S256x256 .f32) = (shapeCast S256x256 (transpose S2x128x256 [1, 0, 2] (A3 m c) transposes_S128x2x256_S2x128x256_1_0_2 : FVec Ideal S2x128x256 .f32)
      shapeCasts_S2x128x256_S256x256 : FVec Ideal S256x256 .f32) := by
    unfold V V0 hostOps0 hostOps0_1 hostOps0_2
    simp only [List.flatten_cons, List.flatten_nil, List.cons_append, List.nil_append, List.append_nil]
    after_results
    try rfl
  rw [e]
  pointwise

theorem host28 (q : Fin 3) (b : Fin 128) (d : Fin 768) : (V m c main_v28 : FVec Ideal S384x768 .f32) (ix2 ⟨q.val * 128 + b.val, by omega⟩ d) = A4 m c (ix3 b q d) := by
  have e : (V m c main_v28 : FVec Ideal S384x768 .f32) = (shapeCast S384x768 (transpose S3x128x768 [1, 0, 2] (A4 m c) transposes_S128x3x768_S3x128x768_1_0_2 : FVec Ideal S3x128x768 .f32)
      shapeCasts_S3x128x768_S384x768 : FVec Ideal S384x768 .f32) := by
    unfold V V0 hostOps0 hostOps0_1 hostOps0_2
    simp only [List.flatten_cons, List.flatten_nil, List.cons_append, List.nil_append, List.append_nil]
    after_results
    try rfl
  rw [e]
  pointwise

theorem host1 (k : Fin 3) (d : Fin 256) : (V m c main_v1 : FVec Ideal S3x256 .f32) (ix2 k d) = A5 m c (ix3 1 k d) := by
  have e : (V m c main_v1 : FVec Ideal S3x256 .f32) = (shapeCast S3x256 (extractStridedSlice S1x3x256 ![1, 0, 0]
      (A5 m c) slices_S2x3x256_S1x3x256_1_0_0) shapeCasts_S1x3x256_S3x256 : FVec Ideal S3x256 .f32) := by
    unfold V V0 hostOps0 hostOps0_1 hostOps0_2
    simp only [List.flatten_cons, List.flatten_nil, List.cons_append, List.nil_append, List.append_nil]
    after_results
    try rfl
  rw [e]
  pointwise

theorem host3 (k : Fin 4) (d : Fin 768) : (V m c main_v3 : FVec Ideal S4x768 .f32) (ix2 k d) = A6 m c (ix3 1 k d) := by
  have e : (V m c main_v3 : FVec Ideal S4x768 .f32) = (shapeCast S4x768 (extractStridedSlice S1x4x768 ![1, 0, 0]
      (A6 m c) slices_S2x4x768_S1x4x768_1_0_0) shapeCasts_S1x4x768_S4x768 : FVec Ideal S4x768 .f32) := by
    unfold V V0 hostOps0 hostOps0_1 hostOps0_2
    simp only [List.flatten_cons, List.flatten_nil, List.cons_append, List.nil_append, List.append_nil]
    after_results
    try rfl
  rw [e]
  pointwise

theorem host10 (j : Fin 4) : (V m c main_v10 : FVec Ideal S1x128 .f32) (ix2 0 ⟨4 + j.val, by omega⟩) = A7 m c (ix2 1 j) := by
  have h : (V m c main_v10 : FVec Ideal S1x128 .f32) = (Host.scatter scatter_S1x128_S2_S4_0_0_01_0 (fun _ b => b)
      (broadcastInDim S1x128 ![] bcast_S_S1x128 (constant (F := Ideal) S_ .f32 0x00000000#32) : FVec Ideal S1x128 .f32)
      (concatenate S2 0 [⟨S1, (broadcastInDim S1 ![] bcast_S_S1 (constantI S_ 32 0#32) : IVec S1 32)⟩, ⟨S1, (broadcastInDim S1 ![] bcast_S_S1 (constantI S_ 32 4#32) : IVec S1 32)⟩] concatenates_S1_S1_S2_d0 : IVec S2 32)
      (shapeCast S4 (extractStridedSlice S1x4 ![1, 0] (A7 m c) slices_S2x4_S1x4_1_0) shapeCasts_S1x4_S4 : FVec Ideal S4 .f32)
      : FVec Ideal S1x128 .f32) := by
    unfold V V0 hostOps0 hostOps0_1 hostOps0_2
    simp only [List.flatten_cons, List.flatten_nil, List.cons_append, List.nil_append, List.append_nil]
    after_results
    try rfl
  rw [h]
  refine (Cert.INP.scatter_row _ _ _ (by rfl) (by rfl) j).trans ?_
  pointwise

theorem host17 (j : Fin 4) : (V m c main_v17 : FVec Ideal S1x128 .f32) (ix2 0 ⟨4 + j.val, by omega⟩) = A8 m c (ix2 1 j) := by
  have h : (V m c main_v17 : FVec Ideal S1x128 .f32) = (Host.scatter scatter_S1x128_S2_S4_0_0_01_0 (fun _ b => b)
      (broadcastInDim S1x128 ![] bcast_S_S1x128 (constant (F := Ideal) S_ .f32 0x00000000#32) : FVec Ideal S1x128 .f32)
      (concatenate S2 0 [⟨S1, (broadcastInDim S1 ![] bcast_S_S1 (constantI S_ 32 0#32) : IVec S1 32)⟩, ⟨S1, (broadcastInDim S1 ![] bcast_S_S1 (constantI S_ 32 4#32) : IVec S1 32)⟩] concatenates_S1_S1_S2_d0 : IVec S2 32)
      (shapeCast S4 (extractStridedSlice S1x4 ![1, 0] (A8 m c) slices_S2x4_S1x4_1_0) shapeCasts_S1x4_S4 : FVec Ideal S4 .f32)
      : FVec Ideal S1x128 .f32) := by
    unfold V V0 hostOps0 hostOps0_1 hostOps0_2
    simp only [List.flatten_cons, List.flatten_nil, List.cons_append, List.nil_append, List.append_nil]
    after_results
    try rfl
  rw [h]
  refine (Cert.INP.scatter_row _ _ _ (by rfl) (by rfl) j).trans ?_
  pointwise

/-! ## The blocks the grid point reads -/

variable (t : Fin cfg0.N) (r : Fin 512)

theorem read0 (d : Fin 768) : (iblk m c 0 t : Vec Ideal S512x768 .f32) (ix2 r d) = A0 m c (ix3 (seqR r) (stepR r) d) := by
  have h : (iblk m c 0 t : Vec Ideal S512x768 .f32) (ix2 r d) = (V m c main_v22 : FVec Ideal S512x768 .f32) (ix2 r d) := by
    blk_ext [iblk, idx t]
  exact h.trans (host22 m c r d)

theorem read1 (d : Fin 768) : (iblk m c 1 t : Vec Ideal S512x768 .f32) (ix2 r d) = A1 m c (ix3 (seqR r) (stepR r) d) := by
  have h : (iblk m c 1 t : Vec Ideal S512x768 .f32) (ix2 r d) = (V m c main_v24 : FVec Ideal S512x768 .f32) (ix2 r d) := by
    blk_ext [iblk, idx t]
  exact h.trans (host24 m c r d)

theorem read2 (i : Fin 8) : (iblk m c 2 t : Vec Ideal S512x128 .f32) (ix2 r ⟨i.val, by omega⟩) = A2 m c (ix3 (seqR r) (stepR r) i) := by
  have h : (iblk m c 2 t : Vec Ideal S512x128 .f32) (ix2 r ⟨i.val, by omega⟩) = (V m c main_v20 : FVec Ideal S512x128 .f32) (ix2 r ⟨i.val, by omega⟩) := by
    blk_ext [iblk, idx t]
  exact h.trans (host20 m c r i)

theorem read3 (q : Fin 2) (b : Fin 128) (d : Fin 256) : (iblk m c 3 t : Vec Ideal S256x256 .f32) (ix2 ⟨q.val * 128 + b.val, by omega⟩ d) = A3 m c (ix3 b q d) := by
  have h : (iblk m c 3 t : Vec Ideal S256x256 .f32) (ix2 ⟨q.val * 128 + b.val, by omega⟩ d) = (V m c main_v26 : FVec Ideal S256x256 .f32) (ix2 ⟨q.val * 128 + b.val, by omega⟩ d) := by
    blk_ext [iblk, idx t]
  exact h.trans (host26 m c q b d)

theorem read4 (q : Fin 3) (b : Fin 128) (d : Fin 768) : (iblk m c 4 t : Vec Ideal S384x768 .f32) (ix2 ⟨q.val * 128 + b.val, by omega⟩ d) = A4 m c (ix3 b q d) := by
  have h : (iblk m c 4 t : Vec Ideal S384x768 .f32) (ix2 ⟨q.val * 128 + b.val, by omega⟩ d) = (V m c main_v28 : FVec Ideal S384x768 .f32) (ix2 ⟨q.val * 128 + b.val, by omega⟩ d) := by
    blk_ext [iblk, idx t]
  exact h.trans (host28 m c q b d)

theorem read5 (k : Fin 3) (d : Fin 256) : (iblk m c 5 t : Vec Ideal S3x256 .f32) (ix2 k d) = A5 m c (ix3 1 k d) := by
  have h : (iblk m c 5 t : Vec Ideal S3x256 .f32) (ix2 k d) = (V m c main_v1 : FVec Ideal S3x256 .f32) (ix2 k d) := by
    blk_ext [iblk, idx t]
  exact h.trans (host1 m c k d)

theorem read6 (k : Fin 4) (d : Fin 768) : (iblk m c 6 t : Vec Ideal S4x768 .f32) (ix2 k d) = A6 m c (ix3 1 k d) := by
  have h : (iblk m c 6 t : Vec Ideal S4x768 .f32) (ix2 k d) = (V m c main_v3 : FVec Ideal S4x768 .f32) (ix2 k d) := by
    blk_ext [iblk, idx t]
  exact h.trans (host3 m c k d)

theorem read7 (j : Fin 4) : (iblk m c 7 t : Vec Ideal S1x128 .f32) (ix2 0 ⟨4 + j.val, by omega⟩) = A7 m c (ix2 1 j) := by
  have h : (iblk m c 7 t : Vec Ideal S1x128 .f32) (ix2 0 ⟨4 + j.val, by omega⟩) = (V m c main_v10 : FVec Ideal S1x128 .f32) (ix2 0 ⟨4 + j.val, by omega⟩) := by
    blk_ext [iblk, idx t]
  exact h.trans (host10 m c j)

theorem read8 (j : Fin 4) : (iblk m c 8 t : Vec Ideal S1x128 .f32) (ix2 0 ⟨4 + j.val, by omega⟩) = A8 m c (ix2 1 j) := by
  have h : (iblk m c 8 t : Vec Ideal S1x128 .f32) (ix2 0 ⟨4 + j.val, by omega⟩) = (V m c main_v17 : FVec Ideal S1x128 .f32) (ix2 0 ⟨4 + j.val, by omega⟩) := by
    blk_ext [iblk, idx t]
  exact h.trans (host17 m c j)

/-! ## The taps of the two convolutions -/

theorem tapZ (d : Fin 256) (n k : ℕ) (hk : n = 128 * k) (hn : n ≤ 256) :
    tap 256 (fun q => (iblk m c 3 t : Vec Ideal S256x256 .f32) (ix2 q d)) (zT (iblk m c 0 t : Vec Ideal S512x768 .f32) d) n hn r
      = zC (A0 m c) (A3 m c) (seqR r) d ((stepR r).val + k) := by
  refine tap_ser (K := 2) (M := 256) (by decide) _ _ (fun b q => A3 m c (ix3 b q d)) (fun b => zS (A0 m c) b d) (fun q b => read3 m c t q b d) (fun r => ?_) n k hk hn r
  unfold zT zS
  rw [read0, read0]

theorem tapX (i : Fin 768) (n k : ℕ) (hk : n = 128 * k) (hn : n ≤ 384) :
    tap 384 (fun q => (iblk m c 4 t : Vec Ideal S384x768 .f32) (ix2 q i)) (fun q => (iblk m c 1 t : Vec Ideal S512x768 .f32) (ix2 q i)) n hn r
      = xC (A1 m c) (A4 m c) (seqR r) i ((stepR r).val + k) :=
  tap_ser (K := 3) (M := 384) (by decide) _ _ (fun b q => A4 m c (ix3 b q i)) (fun b s => A1 m c (ix3 b s i)) (fun q b => read4 m c t q b i) (fun r => read1 m c t r i) n k hk hn r

/-! ## The blocks the grid point leaves -/

abbrev o9 : Vec Ideal S512x256 .f32 := out0_9 (iblk m c 0 t) (iblk m c 1 t) (iblk m c 2 t) (iblk m c 3 t) (iblk m c 4 t) (iblk m c 5 t) (iblk m c 6 t) (iblk m c 7 t) (iblk m c 8 t)
abbrev o10 : Vec Ideal S512x256 .f32 := out0_10 (iblk m c 0 t) (iblk m c 1 t) (iblk m c 2 t) (iblk m c 3 t) (iblk m c 4 t) (iblk m c 5 t) (iblk m c 6 t) (iblk m c 7 t) (iblk m c 8 t)
abbrev o11 : Vec Ideal S512x768 .f32 := out0_11 (iblk m c 0 t) (iblk m c 1 t) (iblk m c 2 t) (iblk m c 3 t) (iblk m c 4 t) (iblk m c 5 t) (iblk m c 6 t) (iblk m c 7 t) (iblk m c 8 t)
abbrev o12 : Vec Ideal S512x128 .f32 := out0_12 (iblk m c 0 t) (iblk m c 1 t) (iblk m c 2 t) (iblk m c 3 t) (iblk m c 4 t) (iblk m c 5 t) (iblk m c 6 t) (iblk m c 7 t) (iblk m c 8 t)

section
variable (x0 x1 : Vec Ideal S512x768 .f32) (x2 : Vec Ideal S512x128 .f32) (x3 : Vec Ideal S256x256 .f32) (x4 : Vec Ideal S384x768 .f32)
  (x5 : Vec Ideal S3x256 .f32) (x6 : Vec Ideal S4x768 .f32) (x7 x8 : Vec Ideal S1x128 .f32)

theorem whole9 : out0_9 x0 x1 x2 x3 x4 x5 x6 x7 x8 = (k0_pay5 x0 x3 x5 : FVec Ideal S512x256 .f32) := by
  unfold_out out0_9
  frame_out

theorem whole10 : out0_10 x0 x1 x2 x3 x4 x5 x6 x7 x8 = (k0_pay4 x0 : FVec Ideal S512x256 .f32) := by
  unfold_out out0_10
  frame_out

theorem whole12 : out0_12 x0 x1 x2 x3 x4 x5 x6 x7 x8 = (k0_pay1 (k0_pay11 x2) x7 x8 : FVec Ideal S512x128 .f32) := by
  unfold_out out0_12
  frame_out
end

end Cert.PRS

end
-- ==== Proof.PRS.Value.lean ====
module

public import proofs.«01_k».proof.Proof.PRS.Block

@[expose] public section

set_option maxRecDepth 16384

/-! The rows the grid point leaves, and the four arrays after the run. -/

noncomputable section

namespace Cert.PRS

open Cert.Kernel6Ideal Cert.Kernel6Ideal.Gen
open Idealize.ShloMosaic Idealize.ShloMosaic.TcCoe Idealize.SL.Sem
open Idealize.ShloMosaic.Pipeline (Dat)
open Cert.INP (nrmH soft unit unit_eq IsR)
open Cert.INS (seqR stepR rowR seqR_rowR stepR_rowR)

variable (m : (ℓ : Loc nD τ sig) → Buf (Elt Ideal) ℓ) (c : Dev nD)

section
variable (x0 x1 : Vec Ideal S512x768 .f32) (x2 : Vec Ideal S512x128 .f32) (x3 : Vec Ideal S256x256 .f32) (x4 : Vec Ideal S384x768 .f32)
  (x5 : Vec Ideal S3x256 .f32) (x6 : Vec Ideal S4x768 .f32) (x7 x8 : Vec Ideal S1x128 .f32)

theorem whole11 : out0_11 x0 x1 x2 x3 x4 x5 x6 x7 x8 = (k0_pay2
    (k0_pay13 (k0_pay6 x4 x1) (k0_pay7 x6) (k0_pay8 x4 x1 x6) (k0_pay9 x4 x1) (k0_pay10 x6)) (k0_pay14 (k0_pay6 x4 x1) (k0_pay7 x6) (k0_pay8 x4 x1 x6) (k0_pay9 x4 x1) (k0_pay10 x6)) (k0_pay15 (F := Ideal))
    (k0_pay16 (k0_pay6 x4 x1) (k0_pay7 x6) (k0_pay8 x4 x1 x6) (k0_pay9 x4 x1) (k0_pay10 x6)) (k0_pay18 (k0_pay6 x4 x1) (k0_pay7 x6) (k0_pay8 x4 x1 x6) (k0_pay9 x4 x1) (k0_pay10 x6))
    (k0_pay19 (k0_pay6 x4 x1) (k0_pay7 x6) (k0_pay8 x4 x1 x6) (k0_pay9 x4 x1) (k0_pay10 x6)) (constant S512x256 .f32 0x00000000#32) : FVec Ideal S512x768 .f32) := by
  unfold_out out0_11
  frame_out
end

variable (t : Fin cfg0.N) (r : Fin 512)

theorem blk9 (d : Fin 256) : o9 m c t (ix2 r d) = ybS (A0 m c) (A3 m c) (A5 m c) (seqR r) (stepR r) d := by
  refine (congrFun (whole9 (iblk m c 0 t) (iblk m c 1 t) (iblk m c 2 t) (iblk m c 3 t) (iblk m c 4 t) (iblk m c 5 t) (iblk m c 6 t) (iblk m c 7 t) (iblk m c 8 t)) (ix2 r d)).trans ?_
  refine (pay5_at r _ _ _ d).trans ?_
  rw [tapZ m c t r d 0 0 (by rfl) (by decide), tapZ m c t r d 128 1 (by rfl) (by decide), tapZ m c t r d 256 2 (by rfl) (by decide), read0, read5, read5, read5]
  rfl

theorem blk10 (d : Fin 256) : o10 m c t (ix2 r d) = zS (A0 m c) (seqR r) d (stepR r) := by
  refine (congrFun (whole10 (iblk m c 0 t) (iblk m c 1 t) (iblk m c 2 t) (iblk m c 3 t) (iblk m c 4 t) (iblk m c 5 t) (iblk m c 6 t) (iblk m c 7 t) (iblk m c 8 t)) (ix2 r d)).trans ?_
  refine (pay4_at r _ d).trans ?_
  unfold zT zS
  rw [read0, read0]

/-- The activated convolution, as the kernel leaves it. -/
abbrev act : FVec Ideal S512x768 .f32 := k0_pay12 (k0_pay6 (iblk m c 4 t : Vec Ideal S384x768 .f32) (iblk m c 1 t : Vec Ideal S512x768 .f32)) (k0_pay7 (iblk m c 6 t : Vec Ideal S4x768 .f32))
  (k0_pay8 (iblk m c 4 t : Vec Ideal S384x768 .f32) (iblk m c 1 t : Vec Ideal S512x768 .f32) (iblk m c 6 t : Vec Ideal S4x768 .f32)) (k0_pay9 (iblk m c 4 t : Vec Ideal S384x768 .f32) (iblk m c 1 t : Vec Ideal S512x768 .f32)) (k0_pay10 (iblk m c 6 t : Vec Ideal S4x768 .f32))

theorem act_at (i : Fin 768) : act m c t (ix2 r i) = aS (A1 m c) (A4 m c) (A6 m c) (seqR r) (stepR r) i := by
  refine (pay12_at r (iblk m c 4 t : Vec Ideal S384x768 .f32) (iblk m c 1 t : Vec Ideal S512x768 .f32) (iblk m c 6 t : Vec Ideal S4x768 .f32) i).trans ?_
  have e : convT (iblk m c 4 t : Vec Ideal S384x768 .f32) (iblk m c 1 t : Vec Ideal S512x768 .f32) (iblk m c 6 t : Vec Ideal S4x768 .f32) r i = cS (A1 m c) (A4 m c) (A6 m c) (seqR r) (stepR r) i := by
    unfold convT
    rw [tapX m c t r i 0 0 (by rfl) (by decide), tapX m c t r i 128 1 (by rfl) (by decide), tapX m c t r i 256 2 (by rfl) (by decide), tapX m c t r i 384 3 (by rfl) (by decide), read6, read6, read6, read6]
    rfl
  rw [e]
  rfl

/-- Columns `o` to `o + 255` normalised per head. -/
theorem head_unit (hqk : ∀ j, IsR (A1 m c j)) (hcd : ∀ j, IsR (A4 m c j)) (hwd : ∀ j, IsR (A6 m c j)) (f : Fin 256 → EReal) (o : ℕ) (ho : o + 256 ≤ 768)
    (hf : ∀ j : Fin 256, f j = aS (A1 m c) (A4 m c) (A6 m c) (seqR r) (stepR r) ⟨o + j.val, by omega⟩) (i : Fin 256) :
    unit f i = nrmH (hS (A1 m c) (A4 m c) (A6 m c) o ho (seqR r) (stepR r) ⟨i.val / 64, by omega⟩) ⟨i.val % 64, by omega⟩ := by
  rw [unit_eq f (fun j => by rw [hf j]; exact aS_real _ _ _ hqk hcd hwd _ _ _)]
  exact congrArg (fun g => nrmH g ⟨i.val % 64, by omega⟩) (funext fun k => hf _)

theorem blk11 (hqk : ∀ j, IsR (A1 m c j)) (hcd : ∀ j, IsR (A4 m c j)) (hwd : ∀ j, IsR (A6 m c j)) (i : Fin 768) :
    o11 m c t (ix2 r i) = qkvS (A1 m c) (A4 m c) (A6 m c) (seqR r) (stepR r) i := by
  refine (congrFun (whole11 (iblk m c 0 t) (iblk m c 1 t) (iblk m c 2 t) (iblk m c 3 t) (iblk m c 4 t) (iblk m c 5 t) (iblk m c 6 t) (iblk m c 7 t) (iblk m c 8 t)) (ix2 r i)).trans ?_
  refine (pay2_at r _ _ _ _ _ _ _ i).trans ?_
  unfold qkvS
  by_cases h : i.val < 256
  · rw [dif_pos h, dif_pos h]
    refine (pay16_at r _ _ _ _ _ ⟨i.val, h⟩).trans (congrArg (· * Ideal.ofBits .f32 0x3E000000#32) ?_)
    exact head_unit m c r hqk hcd hwd _ 0 (by decide) (fun j => (act_at m c t r _).trans (congrArg _ (Fin.ext (Nat.zero_add _).symm))) ⟨i.val, h⟩
  · rw [dif_neg h, dif_neg h]
    by_cases h' : i.val < 512
    · rw [dif_pos h', dif_pos (show i.val - 256 < 256 by omega)]
      refine (keys_at r _ _ _ _ _ ⟨i.val - 256, by omega⟩).trans ?_
      exact head_unit m c r hqk hcd hwd _ 256 (by decide) (fun j => act_at m c t r _) ⟨i.val - 256, by omega⟩
    · rw [dif_neg h', dif_neg (show ¬ i.val - 256 < 256 by omega)]
      refine (pay14_at r _ _ _ _ _ ⟨i.val - 256 - 256, by omega⟩).trans ((act_at m c t r _).trans ?_)
      exact congrArg _ (Fin.ext (show 512 + (i.val - 256 - 256) = i.val by omega))

theorem blk12 (i : Fin 8) : o12 m c t (ix2 r ⟨i.val, by omega⟩) = gbS (A2 m c) (A7 m c) (A8 m c) (seqR r) (stepR r) i := by
  refine (congrFun (whole12 (iblk m c 0 t) (iblk m c 1 t) (iblk m c 2 t) (iblk m c 3 t) (iblk m c 4 t) (iblk m c 5 t) (iblk m c 6 t) (iblk m c 7 t) (iblk m c 8 t)) (ix2 r ⟨i.val, by omega⟩)).trans ?_
  refine (pay1_at r _ _ _ ⟨i.val, by omega⟩).trans ?_
  unfold gbS
  rw [read2]
  by_cases h : i.val < 4
  · rw [dif_pos h, if_pos h]
  · rw [dif_neg h, if_neg h]
    have e : (⟨i.val, by omega⟩ : Fin 128) = ⟨4 + (i.val - 4), by omega⟩ := Fin.ext (show i.val = 4 + (i.val - 4) by omega)
    exact congrArg₂ (fun u v => (0 - Ideal.exp u) * soft (A2 m c (ix3 (seqR r) (stepR r) i) + v))
      ((congrArg (fun k => (iblk m c 7 t : Vec Ideal S1x128 .f32) (ix2 0 k)) e).trans (read7 m c t ⟨i.val - 4, by omega⟩))
      ((congrArg (fun k => (iblk m c 8 t : Vec Ideal S1x128 .f32) (ix2 0 k)) e).trans (read8 m c t ⟨i.val - 4, by omega⟩))

theorem final9 : (dats m 0 c).arrAt 9 cfg0.N = (o9 m c t0 : Vec Ideal S512x256 .f32) := by
  refine (dats m 0 c).arrAt_eq_of_covers 9 _ (by decide +kernel) fun t hf y => ?_
  obtain rfl : t = t0 := Subsingleton.elim (α := Fin 1) t t0
  blk_simp
  rw [after0_9]
  refine congrArg (o9 m c t0 : S512x256.Idx → EReal) ?_
  obtain ⟨r, i, hy⟩ : ∃ (r : Fin 512) (i : Fin 256), (y : S512x256.Idx) = ix2 r i :=
    ⟨y 0, y 1, Idealize.ShloMosaic.eq_ix2 (n0 := 512) (n1 := 256) y⟩
  refine hy.trans (Eq.trans ?_ (congrArg (win0_9.blk t0).view.emb hy).symm)
  have place : ((win0_9.blk t0).view.emb (ix2 r i : S512x256.Idx) : S512x256.Idx) = ix2 r i := by
    blk_ext [idx t0]
  exact place.symm

theorem final10 : (dats m 0 c).arrAt 10 cfg0.N = (o10 m c t0 : Vec Ideal S512x256 .f32) := by
  refine (dats m 0 c).arrAt_eq_of_covers 10 _ (by decide +kernel) fun t hf y => ?_
  obtain rfl : t = t0 := Subsingleton.elim (α := Fin 1) t t0
  blk_simp
  rw [after0_10]
  refine congrArg (o10 m c t0 : S512x256.Idx → EReal) ?_
  obtain ⟨r, i, hy⟩ : ∃ (r : Fin 512) (i : Fin 256), (y : S512x256.Idx) = ix2 r i :=
    ⟨y 0, y 1, Idealize.ShloMosaic.eq_ix2 (n0 := 512) (n1 := 256) y⟩
  refine hy.trans (Eq.trans ?_ (congrArg (win0_10.blk t0).view.emb hy).symm)
  have place : ((win0_10.blk t0).view.emb (ix2 r i : S512x256.Idx) : S512x256.Idx) = ix2 r i := by
    blk_ext [idx t0]
  exact place.symm

theorem final11 : (dats m 0 c).arrAt 11 cfg0.N = (o11 m c t0 : Vec Ideal S512x768 .f32) := by
  refine (dats m 0 c).arrAt_eq_of_covers 11 _ (by decide +kernel) fun t hf y => ?_
  obtain rfl : t = t0 := Subsingleton.elim (α := Fin 1) t t0
  blk_simp
  rw [after0_11]
  refine congrArg (o11 m c t0 : S512x768.Idx → EReal) ?_
  obtain ⟨r, i, hy⟩ : ∃ (r : Fin 512) (i : Fin 768), (y : S512x768.Idx) = ix2 r i :=
    ⟨y 0, y 1, Idealize.ShloMosaic.eq_ix2 (n0 := 512) (n1 := 768) y⟩
  refine hy.trans (Eq.trans ?_ (congrArg (win0_11.blk t0).view.emb hy).symm)
  have place : ((win0_11.blk t0).view.emb (ix2 r i : S512x768.Idx) : S512x768.Idx) = ix2 r i := by
    blk_ext [idx t0]
  exact place.symm

theorem final12 : (dats m 0 c).arrAt 12 cfg0.N = (o12 m c t0 : Vec Ideal S512x128 .f32) := by
  refine (dats m 0 c).arrAt_eq_of_covers 12 _ (by decide +kernel) fun t hf y => ?_
  obtain rfl : t = t0 := Subsingleton.elim (α := Fin 1) t t0
  blk_simp
  rw [after0_12]
  refine congrArg (o12 m c t0 : S512x128.Idx → EReal) ?_
  obtain ⟨r, i, hy⟩ : ∃ (r : Fin 512) (i : Fin 128), (y : S512x128.Idx) = ix2 r i :=
    ⟨y 0, y 1, Idealize.ShloMosaic.eq_ix2 (n0 := 512) (n1 := 128) y⟩
  refine hy.trans (Eq.trans ?_ (congrArg (win0_12.blk t0).view.emb hy).symm)
  have place : ((win0_12.blk t0).view.emb (ix2 r i : S512x128.Idx) : S512x128.Idx) = ix2 r i := by
    blk_ext [idx t0]
  exact place.symm

end Cert.PRS

end
-- ==== Proof.PRS.Tail.lean ====
module

public import proofs.«01_k».proof.Proof.PRS.Value
public import Idealize.ShloMosaic.Lib.Pipeline.FrameTail

@[expose] public section

set_option maxRecDepth 16384

/-! What the host makes of the arrays the kernel leaves: the tokens by sequence again, and the buffer's last steps. -/

noncomputable section

namespace Cert.PRS

open Cert.Kernel6Ideal Cert.Kernel6Ideal.Gen
open Idealize.ShloMosaic Idealize.ShloMosaic.TcCoe Idealize.SL.Sem
open Idealize.ShloMosaic.Pipeline (Dat)
open Cert.INP (nrmH soft unit unit_eq IsR)
open Cert.INS (seqR stepR rowR seqR_rowR stepR_rowR)

variable (m : (ℓ : Loc nD τ sig) → Buf (Elt Ideal) ℓ) (c : Dev nD)

/-- Every buffer after the grid's run, before the host's last operations. -/
abbrev WA : Valuation τ sig (Elt Ideal) := Pipeline.withArrays (cfgs 0).spec c (V0 m c) fun w => (dats m 0 c).arrAt w (cfgs 0).N

theorem WA_arr (w : Fin 13) : WA m c (Proc.devRef .tc (Pipeline.arrRef spec0 w)) = (dats m 0 c).arrAt w cfg0.N :=
  Pipeline.withArrays_arr spec0 (by decide) c (V0 m c) _ w

/-- An array laid out by step, laid out by sequence. -/
def bySeq256 (X : FVec Ideal S512x256 .f32) : FVec Ideal S128x4x256 .f32 :=
  transpose S128x4x256 [1, 0, 2] (shapeCast S4x128x256 X shapeCasts_S512x256_S4x128x256 : FVec Ideal S4x128x256 .f32) transposes_S4x128x256_S128x4x256_1_0_2

theorem bySeq256_at (X : FVec Ideal S512x256 .f32) (b : Fin 128) (s : Fin 4) (d : Fin 256) : bySeq256 X (ix3 b s d) = X (ix2 (rowR b s) d) := by
  unfold bySeq256 rowR
  pointwise

def bySeq768 (X : FVec Ideal S512x768 .f32) : FVec Ideal S128x4x768 .f32 :=
  transpose S128x4x768 [1, 0, 2] (shapeCast S4x128x768 X shapeCasts_S512x768_S4x128x768 : FVec Ideal S4x128x768 .f32) transposes_S4x128x768_S128x4x768_1_0_2

theorem bySeq768_at (X : FVec Ideal S512x768 .f32) (b : Fin 128) (s : Fin 4) (d : Fin 768) : bySeq768 X (ix3 b s d) = X (ix2 (rowR b s) d) := by
  unfold bySeq768 rowR
  pointwise

def bySeq128 (X : FVec Ideal S512x128 .f32) : FVec Ideal S128x4x128 .f32 :=
  transpose S128x4x128 [1, 0, 2] (shapeCast S4x128x128 X shapeCasts_S512x128_S4x128x128 : FVec Ideal S4x128x128 .f32) transposes_S4x128x128_S128x4x128_1_0_2

theorem bySeq128_at (X : FVec Ideal S512x128 .f32) (b : Fin 128) (s : Fin 4) (d : Fin 128) : bySeq128 X (ix3 b s d) = X (ix2 (rowR b s) d) := by
  unfold bySeq128 rowR
  pointwise

theorem cut_at (X : FVec Ideal S128x4x128 .f32) (b : Fin 128) (s : Fin 4) (i : Fin 8) :
    (extractStridedSlice S128x4x8 ![0, 0, 0] X slices_S128x4x128_S128x4x8_0_0_0 : FVec Ideal S128x4x8 .f32) (ix3 b s i) = X (ix3 b s ⟨i.val, by omega⟩) := by
  pointwise

theorem last2_at (X : FVec Ideal S128x2x256 .f32) (Y : FVec Ideal S128x4x256 .f32) (b : Fin 128) (q : Fin 2) (d : Fin 256) :
    (extractStridedSlice S128x2x256 ![0, 4, 0] (concatenate S128x6x256 1 [⟨S128x2x256, X⟩, ⟨S128x4x256, Y⟩] concatenates_S128x2x256_S128x4x256_S128x6x256_d1 : FVec Ideal S128x6x256 .f32) slices_S128x6x256_S128x2x256_0_4_0 : FVec Ideal S128x2x256 .f32) (ix3 b q d)
    = Y (ix3 b ⟨2 + q.val, by omega⟩ d) := by
  pointwise
  rw [dif_neg (by omega)]
  exact congrArg (fun k => Y (ix3 b k d)) (Fin.ext (by show 4 + q.val - 2 = 2 + q.val; omega))

theorem tail35 : Pipeline.afterTail₀ cfgs (dats m) 0 (V0 m) [hostOps1] c main_v35 = (bySeq256 (WA m c (Proc.devRef .tc main_v29_0) : FVec Ideal S512x256 .f32) : FVec Ideal S128x4x256 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail37 : Pipeline.afterTail₀ cfgs (dats m) 0 (V0 m) [hostOps1] c main_v37 = (bySeq768 (WA m c (Proc.devRef .tc main_v29_2) : FVec Ideal S512x768 .f32) : FVec Ideal S128x4x768 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail40 : Pipeline.afterTail₀ cfgs (dats m) 0 (V0 m) [hostOps1] c main_v40 = (extractStridedSlice S128x4x8 ![0, 0, 0] (bySeq128 (WA m c (Proc.devRef .tc main_v29_3) : FVec Ideal S512x128 .f32)) slices_S128x4x128_S128x4x8_0_0_0 : FVec Ideal S128x4x8 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem tail33 : Pipeline.afterTail₀ cfgs (dats m) 0 (V0 m) [hostOps1] c main_v33 = (extractStridedSlice S128x2x256 ![0, 4, 0] (concatenate S128x6x256 1 [⟨S128x2x256, (WA m c (Proc.devRef .tc main_arg3) : FVec Ideal S128x2x256 .f32)⟩, ⟨S128x4x256, bySeq256 (WA m c (Proc.devRef .tc main_v29_1) : FVec Ideal S512x256 .f32)⟩] concatenates_S128x2x256_S128x4x256_S128x6x256_d1 : FVec Ideal S128x6x256 .f32) slices_S128x6x256_S128x2x256_0_4_0 : FVec Ideal S128x2x256 .f32) := by
  unfold Pipeline.afterTail₀ hostOps1
  simp only [List.flatten_cons, List.flatten_nil, List.cons_append, List.nil_append, List.append_nil]
  generalize hW : Pipeline.withArrays (cfgs 0).spec c (V0 m c) (fun w => (dats m 0 c).arrAt w (cfgs 0).N) = W
  after_results
  subst hW
  rfl

theorem end35 : Pipeline.afterTail₀ cfgs (dats m) 0 (V0 m) [hostOps1] c main_v35 = resYb (A0 m c) (A3 m c) (A5 m c) := by
  rw [tail35]
  funext j
  obtain ⟨b, s, d, rfl⟩ : ∃ (b : Fin 128) (s : Fin 4) (d : Fin 256), (j : S128x4x256.Idx) = ix3 b s d := ⟨j 0, j 1, j 2, Idealize.ShloMosaic.eq_ix3 (n0 := 128) (n1 := 4) (n2 := 256) j⟩
  refine (bySeq256_at _ b s d).trans ((congrFun ((WA_arr m c 9).trans (final9 m c)) (ix2 (rowR b s) d)).trans ((blk9 m c t0 (rowR b s) d).trans ?_))
  rw [seqR_rowR, stepR_rowR]
  rfl

theorem end37 (hqk : ∀ j, IsR (A1 m c j)) (hcd : ∀ j, IsR (A4 m c j)) (hwd : ∀ j, IsR (A6 m c j)) : Pipeline.afterTail₀ cfgs (dats m) 0 (V0 m) [hostOps1] c main_v37 = resQkv (A1 m c) (A4 m c) (A6 m c) := by
  rw [tail37]
  funext j
  obtain ⟨b, s, d, rfl⟩ : ∃ (b : Fin 128) (s : Fin 4) (d : Fin 768), (j : S128x4x768.Idx) = ix3 b s d := ⟨j 0, j 1, j 2, Idealize.ShloMosaic.eq_ix3 (n0 := 128) (n1 := 4) (n2 := 768) j⟩
  refine (bySeq768_at _ b s d).trans ((congrFun ((WA_arr m c 11).trans (final11 m c)) (ix2 (rowR b s) d)).trans ((blk11 m c t0 (rowR b s) hqk hcd hwd d).trans ?_))
  rw [seqR_rowR, stepR_rowR]
  rfl

theorem end40 : Pipeline.afterTail₀ cfgs (dats m) 0 (V0 m) [hostOps1] c main_v40 = resGb (A2 m c) (A7 m c) (A8 m c) := by
  rw [tail40]
  funext j
  obtain ⟨b, s, d, rfl⟩ : ∃ (b : Fin 128) (s : Fin 4) (d : Fin 8), (j : S128x4x8.Idx) = ix3 b s d := ⟨j 0, j 1, j 2, Idealize.ShloMosaic.eq_ix3 (n0 := 128) (n1 := 4) (n2 := 8) j⟩
  refine (cut_at _ b s d).trans ((bySeq128_at _ b s _).trans ((congrFun ((WA_arr m c 12).trans (final12 m c)) (ix2 (rowR b s) ⟨d.val, by omega⟩)).trans ((blk12 m c t0 (rowR b s) d).trans ?_)))
  rw [seqR_rowR, stepR_rowR]
  rfl

theorem end33 : Pipeline.afterTail₀ cfgs (dats m) 0 (V0 m) [hostOps1] c main_v33 = resCb (A0 m c) (A3 m c) := by
  rw [tail33]
  funext j
  obtain ⟨b, s, d, rfl⟩ : ∃ (b : Fin 128) (s : Fin 2) (d : Fin 256), (j : S128x2x256.Idx) = ix3 b s d := ⟨j 0, j 1, j 2, Idealize.ShloMosaic.eq_ix3 (n0 := 128) (n1 := 2) (n2 := 256) j⟩
  refine (last2_at _ _ b s d).trans ((bySeq256_at _ b _ d).trans ((congrFun ((WA_arr m c 10).trans (final10 m c)) (ix2 (rowR b ⟨2 + s.val, by omega⟩) d)).trans ((blk10 m c t0 (rowR b ⟨2 + s.val, by omega⟩) d).trans ?_)))
  rw [seqR_rowR, stepR_rowR]
  refine Eq.trans ?_ (ser4_of_le (fun q => A3 m c (ix3 b q d)) (zS (A0 m c) b d) (4 + s.val) (by omega) (by omega)).symm
  exact congrArg (zS (A0 m c) b d) (Fin.ext (by show 2 + s.val = 4 + s.val - 2; omega))

end Cert.PRS

end
-- ==== Proof.PRS.Claim.lean ====
module

public import proofs.«01_k».proof.Proof.PRS.Run
public import proofs.«01_k».proof.Defs
public import proofs.«01_k».proof.Proof.PRS.Tail
public import proofs.«01_k».proof.Proof.PRS.Ref
public import proofs.«01_k».proof.Proof.INP.Claim

@[expose] public section

set_option maxRecDepth 16384

/-! The kernel that convolves and gates the sample tokens computes the reference's results over exact arithmetic. -/

noncomputable section

namespace Cert.PRS

open Idealize.ShloMosaic Idealize.ShloMosaic.TcCoe Idealize.SL.Sem
open Cert.INP (fin_of_test ext3)

theorem pre_facts : Cert.Pre_finite_sample.Facts := ⟨by decide, by decide, by decide⟩

/-- Equal arguments, equal results. -/
theorem congr2 {α β γ : Type} (f : α → β → γ) {a a' : α} (h0 : a = a') {b b' : β} (h1 : b = b') : f a b = f a' b' := by
  subst h0 h1
  rfl

theorem congr3 {α β γ δ : Type} (f : α → β → γ → δ) {a a' : α} (h0 : a = a') {b b' : β} (h1 : b = b') {c c' : γ} (h2 : c = c') : f a b c = f a' b' c' := by
  subst h0 h1 h2
  rfl

set_option maxHeartbeats 4000000 in
/-- Kernel and reference agree. -/
theorem algebraic : Cert.algebraic_Kernel6Ideal_Reference6Ideal_pre_finite_sample (hKernel6Ideal := Cert.Kernel6Ideal.Gen.facts)
    (hReference6Ideal := Cert.Reference6Ideal.Gen.facts) (hPre_finite_sample := pre_facts) := by
  intro m g m' g' hpre hargs
  have hqk := fun c => fin_of_test pre_facts.bcast_S_S128x4x768 (A1 m c) (hpre c).1
  have hcd := fun c => fin_of_test pre_facts.bcast_S_S128x3x768 (A4 m c) (hpre c).2.1
  have hwd := fun c => fin_of_test pre_facts.bcast_S_S2x4x768 (A6 m c) (hpre c).2.2
  refine ⟨fun c => resYb (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg3)) (m ((c : Thread Cert.Kernel6Ideal.nD Cert.Kernel6Ideal.τ).loc Cert.Kernel6Ideal.main_arg5)),
    fun c => resQkv (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg6)),
    fun c => resGb (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg7)) (m ((c : Thread Cert.Kernel6Ideal.nD Cert.Kernel6Ideal.τ).loc Cert.Kernel6Ideal.main_arg8)),
    fun c => resCb (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg3)), ?_, ?_⟩
  · refine (θ_run Cert.Kernel6Ideal.defs _ _).mono (fun r h c => ⟨((h.1 c).2 Cert.Kernel6Ideal.main_v35 (Pipeline.mem_restRefs_of Cert.Kernel6Ideal.main_v35 (by decide) (by decide))).trans (end35 m c),
      ((h.1 c).2 Cert.Kernel6Ideal.main_v37 (Pipeline.mem_restRefs_of Cert.Kernel6Ideal.main_v37 (by decide) (by decide))).trans (end37 m c (hqk c) (hcd c) (hwd c)),
      ((h.1 c).2 Cert.Kernel6Ideal.main_v40 (Pipeline.mem_restRefs_of Cert.Kernel6Ideal.main_v40 (by decide) (by decide))).trans (end40 m c),
      ((h.1 c).2 Cert.Kernel6Ideal.main_v33 (Pipeline.mem_restRefs_of Cert.Kernel6Ideal.main_v33 (by decide) (by decide))).trans (end33 m c), h.2 c⟩) (θ_run_and (Cert.Kernel6Ideal.Gen.run_main (F := Ideal) m g) (Cert.Kernel6Ideal.Gen.unchanged (F := Ideal) m g))
  · refine (θ_run Cert.Reference6Ideal.defs _ _).mono (fun r h c => ?_) (Cert.PRS.Run.run m' g')
    obtain ⟨a0, a1, a2, a3, a4, a5, a6, a7, a8⟩ := hargs c
    obtain ⟨r0, r1, r2, r3, rest⟩ := h c
    have e0 := r0.trans (((ext3 (Ref.ybR (m' ((c : Thread Cert.Reference6Ideal.nD Cert.Reference6Ideal.τ).loc Cert.Reference6Ideal.main_arg0)) (m' ((c : Thread Cert.Reference6Ideal.nD Cert.Reference6Ideal.τ).loc Cert.Reference6Ideal.main_arg3)) (m' ((c : Thread Cert.Reference6Ideal.nD Cert.Reference6Ideal.τ).loc Cert.Reference6Ideal.main_arg5))) (resYb (m' ((c : Thread Cert.Reference6Ideal.nD Cert.Reference6Ideal.τ).loc Cert.Reference6Ideal.main_arg0)) (m' ((c : Thread Cert.Reference6Ideal.nD Cert.Reference6Ideal.τ).loc Cert.Reference6Ideal.main_arg3)) (m' ((c : Thread Cert.Reference6Ideal.nD Cert.Reference6Ideal.τ).loc Cert.Reference6Ideal.main_arg5))) (fun b s d => Ref.ybR_at (m' ((c : Thread Cert.Reference6Ideal.nD Cert.Reference6Ideal.τ).loc Cert.Reference6Ideal.main_arg0)) (m' ((c : Thread Cert.Reference6Ideal.nD Cert.Reference6Ideal.τ).loc Cert.Reference6Ideal.main_arg3)) (m' ((c : Thread Cert.Reference6Ideal.nD Cert.Reference6Ideal.τ).loc Cert.Reference6Ideal.main_arg5)) b s d)).trans (congr3 resYb a0 a3 a5)))
    have e1 := r1.trans (((ext3 (Ref.qkvR (m' ((c : Thread Cert.Reference6Ideal.nD Cert.Reference6Ideal.τ).loc Cert.Reference6Ideal.main_arg1)) (m' ((c : Thread Cert.Reference6Ideal.nD Cert.Reference6Ideal.τ).loc Cert.Reference6Ideal.main_arg4)) (m' ((c : Thread Cert.Reference6Ideal.nD Cert.Reference6Ideal.τ).loc Cert.Reference6Ideal.main_arg6))) (resQkv (m' ((c : Thread Cert.Reference6Ideal.nD Cert.Reference6Ideal.τ).loc Cert.Reference6Ideal.main_arg1)) (m' ((c : Thread Cert.Reference6Ideal.nD Cert.Reference6Ideal.τ).loc Cert.Reference6Ideal.main_arg4)) (m' ((c : Thread Cert.Reference6Ideal.nD Cert.Reference6Ideal.τ).loc Cert.Reference6Ideal.main_arg6))) (fun b s d => Ref.qkvR_at (m' ((c : Thread Cert.Reference6Ideal.nD Cert.Reference6Ideal.τ).loc Cert.Reference6Ideal.main_arg1)) (m' ((c : Thread Cert.Reference6Ideal.nD Cert.Reference6Ideal.τ).loc Cert.Reference6Ideal.main_arg4)) (m' ((c : Thread Cert.Reference6Ideal.nD Cert.Reference6Ideal.τ).loc Cert.Reference6Ideal.main_arg6)) b s d)).trans (congr3 resQkv a1 a4 a6)))
    have e2 := r2.trans (((ext3 (Ref.gbR (m' ((c : Thread Cert.Reference6Ideal.nD Cert.Reference6Ideal.τ).loc Cert.Reference6Ideal.main_arg2)) (m' ((c : Thread Cert.Reference6Ideal.nD Cert.Reference6Ideal.τ).loc Cert.Reference6Ideal.main_arg7)) (m' ((c : Thread Cert.Reference6Ideal.nD Cert.Reference6Ideal.τ).loc Cert.Reference6Ideal.main_arg8))) (resGb (m' ((c : Thread Cert.Reference6Ideal.nD Cert.Reference6Ideal.τ).loc Cert.Reference6Ideal.main_arg2)) (m' ((c : Thread Cert.Reference6Ideal.nD Cert.Reference6Ideal.τ).loc Cert.Reference6Ideal.main_arg7)) (m' ((c : Thread Cert.Reference6Ideal.nD Cert.Reference6Ideal.τ).loc Cert.Reference6Ideal.main_arg8))) (fun b s d => Ref.gbR_at (m' ((c : Thread Cert.Reference6Ideal.nD Cert.Reference6Ideal.τ).loc Cert.Reference6Ideal.main_arg2)) (m' ((c : Thread Cert.Reference6Ideal.nD Cert.Reference6Ideal.τ).loc Cert.Reference6Ideal.main_arg7)) (m' ((c : Thread Cert.Reference6Ideal.nD Cert.Reference6Ideal.τ).loc Cert.Reference6Ideal.main_arg8)) b s d)).trans (congr3 resGb a2 a7 a8)))
    have e3 := r3.trans (((ext3 (Ref.cbR (m' ((c : Thread Cert.Reference6Ideal.nD Cert.Reference6Ideal.τ).loc Cert.Reference6Ideal.main_arg0)) (m' ((c : Thread Cert.Reference6Ideal.nD Cert.Reference6Ideal.τ).loc Cert.Reference6Ideal.main_arg3))) (resCb (m' ((c : Thread Cert.Reference6Ideal.nD Cert.Reference6Ideal.τ).loc Cert.Reference6Ideal.main_arg0)) (m' ((c : Thread Cert.Reference6Ideal.nD Cert.Reference6Ideal.τ).loc Cert.Reference6Ideal.main_arg3))) (fun b s d => Ref.cbR_at (m' ((c : Thread Cert.Reference6Ideal.nD Cert.Reference6Ideal.τ).loc Cert.Reference6Ideal.main_arg0)) (m' ((c : Thread Cert.Reference6Ideal.nD Cert.Reference6Ideal.τ).loc Cert.Reference6Ideal.main_arg3)) b s d)).trans (congr2 resCb a0 a3)))
    exact ⟨e0, e1, e2, e3, rest⟩

end Cert.PRS

end
-- ==== Proof.lean ====
module

public import proofs.«01_k».proof.Defs
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal
public import proofs.«01_k».proof.Proof.SBI.Frame
public import proofs.«01_k».proof.Proof.SBK.Frame
public import proofs.«01_k».proof.Proof.SBV.Claim
public import proofs.«01_k».proof.Proof.MIX.Claim
public import proofs.«01_k».proof.Proof.INP.Claim
public import proofs.«01_k».proof.Proof.INS.Claim
public import proofs.«01_k».proof.Proof.MXS.Claim
public import proofs.«01_k».proof.Proof.PRS.Claim
public import Idealize.ShloMosaic.Adequacy
public import Idealize.ShloMosaic.Init

@[expose] public section

noncomputable section

namespace Cert.Proof

open Idealize.ShloMosaic Idealize.SL.Sem

/-- The kernel's frame. -/
theorem frame_k : Cert.quiescent_Kernel := fun m g _ => Cert.Kernel.SB.frame m g

/-- The idealized kernel's frame. -/
theorem frame_ki : Cert.quiescent_KernelIdeal := fun m g _ => Cert.KernelIdeal.SB.frame m g

/-- The reference's frame: its run, and it declares no semaphore. -/
theorem frame_r : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same under the precondition, which it does not need. -/
theorem frame_r' : Cert.quiescent_ReferenceIdeal_pre_finite_qk (hPre_finite_qk := Cert.SBV.pre_facts) := fun m g _ =>
  frame_r m g trivial

/-- The named constant's statement. -/
theorem preserved : Cert.preserves_Kernel_KernelIdeal :=
  IdealRules.named_const.statement Cert.KernelIdeal.κ "exp_zero" .f32 0x42D20000#32 ⊤ rfl

/-- The mixing sublayer's frames. -/
theorem frame_k2 : Cert.quiescent_Kernel2 := fun m g _ => Cert.Kernel2.Gen.frame m g

theorem frame_ki2 : Cert.quiescent_Kernel2Ideal := fun m g _ => Cert.Kernel2Ideal.Gen.frame m g

theorem frame_r2 : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

/-- The input projection's frames. -/
theorem frame_k3 : Cert.quiescent_Kernel3 := fun m g _ => Cert.Kernel3.Gen.frame m g

theorem frame_ki3 : Cert.quiescent_Kernel3Ideal := fun m g _ => Cert.Kernel3Ideal.Gen.frame m g

theorem frame_ki3' : Cert.quiescent_Kernel3Ideal_pre_finite_in (hPre_finite_in := Cert.INP.pre_facts) := fun m g _ => Cert.Kernel3Ideal.Gen.frame m g

theorem frame_r3 : Cert.quiescent_Reference3Ideal := fun m g _ =>
  (θ_run Cert.Reference3Ideal.defs _ _).mono
    (fun r h => ⟨fun c => (h c).2.2.2.2.2.2.2.2.2.2.2.2, Idealize.ShloMosaic.sem_eq_zero_of_no_sems (by decide) r.2⟩)
    (Cert.Reference3Ideal.Value.run (F := Ideal) m g)

theorem frame_r3' : Cert.quiescent_Reference3Ideal_pre_finite_in (hPre_finite_in := Cert.INP.pre_facts) := fun m g _ =>
  frame_r3 m g trivial

/-- The frames of the sample tokens' input projection. -/
theorem frame_k4 : Cert.quiescent_Kernel4 := fun m g _ => Cert.Kernel4.Gen.frame m g

theorem frame_ki4 : Cert.quiescent_Kernel4Ideal := fun m g _ => Cert.Kernel4Ideal.Gen.frame m g

theorem frame_r4 : Cert.quiescent_Reference4Ideal := fun m g _ =>
  (θ_run Cert.Reference4Ideal.defs _ _).mono
    (fun r h => ⟨fun c => (h c).2.2.2.2.2.2.2.2.2, Idealize.ShloMosaic.sem_eq_zero_of_no_sems (by decide) r.2⟩)
    (Cert.Reference4Ideal.Value.run (F := Ideal) m g)

/-- The frames of the sample tokens' mixing sublayer. -/
theorem frame_k5 : Cert.quiescent_Kernel5 := fun m g _ => Cert.Kernel5.Gen.frame m g

theorem frame_ki5 : Cert.quiescent_Kernel5Ideal := fun m g _ => Cert.Kernel5Ideal.Gen.frame m g

theorem frame_r5 : Cert.quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)

/-- The frames of the sample tokens' convolutions and gates. -/
theorem frame_k6 : Cert.quiescent_Kernel6 := fun m g _ => Cert.Kernel6.Gen.frame m g

theorem frame_ki6 : Cert.quiescent_Kernel6Ideal := fun m g _ => Cert.Kernel6Ideal.Gen.frame m g

theorem frame_ki6' : Cert.quiescent_Kernel6Ideal_pre_finite_sample (hPre_finite_sample := Cert.PRS.pre_facts) := fun m g _ => Cert.Kernel6Ideal.Gen.frame m g

theorem frame_r6 : Cert.quiescent_Reference6Ideal := fun m g _ =>
  (θ_run Cert.Reference6Ideal.defs _ _).mono
    (fun r h => ⟨fun c => (h c).2.2.2.2, Idealize.ShloMosaic.sem_eq_zero_of_no_sems (by decide) r.2⟩)
    (Cert.PRS.Run.run m g)

theorem frame_r6' : Cert.quiescent_Reference6Ideal_pre_finite_sample (hPre_finite_sample := Cert.PRS.pre_facts) := fun m g _ =>
  frame_r6 m g trivial

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.SBV.pre_facts, Cert.INP.pre_facts, Cert.PRS.pre_facts,
    frame_k, frame_ki, fun m g _ => Cert.KernelIdeal.SB.frame m g, frame_r, frame_r', frame_k2, frame_ki2, frame_r2,
    frame_k3, frame_ki3, frame_ki3', frame_r3, frame_r3', frame_k4, frame_ki4, frame_r4,
    frame_k5, frame_ki5, frame_r5,
    frame_k6, frame_ki6, frame_ki6', frame_r6, frame_r6', preserved, Cert.SBV.algebraic,
    trivial, Cert.MIX.algebraic, trivial, Cert.INP.algebraic, trivial, Cert.INS.algebraic,
    trivial, Cert.MXS.algebraic, trivial, Cert.PRS.algebraic⟩

end Cert.Proof

end
